-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_PleSample (m : (ℓ : Loc Cert.PleSample.nD Cert.PleSample.τ Cert.PleSample.sig) → Buf (Elt Bits) ℓ) : Prop :=
  True

def Pre_PleSampleIdeal (m : (ℓ : Loc Cert.PleSampleIdeal.nD Cert.PleSampleIdeal.τ Cert.PleSampleIdeal.sig) → Buf (Elt Ideal) ℓ) : Prop :=
  True

def Pre_PleSampleReferenceIdeal (m : (ℓ : Loc Cert.PleSampleReferenceIdeal.nD Cert.PleSampleReferenceIdeal.τ Cert.PleSampleReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Plain (m : (ℓ : Loc Cert.Plain.nD Cert.Plain.τ Cert.Plain.sig) → Buf (Elt Bits) ℓ) : Prop :=
  True

def Pre_PlainIdeal (m : (ℓ : Loc Cert.PlainIdeal.nD Cert.PlainIdeal.τ Cert.PlainIdeal.sig) → Buf (Elt Ideal) ℓ) : Prop :=
  True

def Pre_PlainReferenceIdeal (m : (ℓ : Loc Cert.PlainReferenceIdeal.nD Cert.PlainReferenceIdeal.τ Cert.PlainReferenceIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_KvSample (m : (ℓ : Loc Cert.KvSample.nD Cert.KvSample.τ Cert.KvSample.sig) → Buf (Elt Bits) ℓ) : Prop :=
  True

def Pre_KvSampleIdeal (m : (ℓ : Loc Cert.KvSampleIdeal.nD Cert.KvSampleIdeal.τ Cert.KvSampleIdeal.sig) → Buf (Elt Ideal) ℓ) : Prop :=
  True

def Pre_KvSampleReferenceIdeal (m : (ℓ : Loc Cert.KvSampleReferenceIdeal.nD Cert.KvSampleReferenceIdeal.τ Cert.KvSampleReferenceIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinReferenceIdeal (m : (ℓ : Loc Cert.WinReferenceIdeal.nD Cert.WinReferenceIdeal.τ Cert.WinReferenceIdeal.sig) → Buf (Elt Ideal) ℓ) : Prop :=
  True

def Pre_WinSample (m : (ℓ : Loc Cert.WinSample.nD Cert.WinSample.τ Cert.WinSample.sig) → Buf (Elt Bits) ℓ) : Prop :=
  True

def Pre_WinSampleIdeal (m : (ℓ : Loc Cert.WinSampleIdeal.nD Cert.WinSampleIdeal.τ Cert.WinSampleIdeal.sig) → Buf (Elt Ideal) ℓ) : Prop :=
  True

def Pre_WinSampleReferenceIdeal (m : (ℓ : Loc Cert.WinSampleReferenceIdeal.nD Cert.WinSampleReferenceIdeal.τ Cert.WinSampleReferenceIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def Pre_RetSample (m : (ℓ : Loc Cert.RetSample.nD Cert.RetSample.τ Cert.RetSample.sig) → Buf (Elt Bits) ℓ) : Prop :=
  True

def Pre_RetSampleIdeal (m : (ℓ : Loc Cert.RetSampleIdeal.nD Cert.RetSampleIdeal.τ Cert.RetSampleIdeal.sig) → Buf (Elt Ideal) ℓ) : Prop :=
  True

def Pre_RetSampleReferenceIdeal (m : (ℓ : Loc Cert.RetSampleReferenceIdeal.nD Cert.RetSampleReferenceIdeal.τ Cert.RetSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4))
      ∧ r.2.sem = fun _ => 0)

def quiescent_PleSample [hPleSample : Cert.PleSample.Facts] : Prop :=
  ∀ (m : (ℓ : Loc Cert.PleSample.nD Cert.PleSample.τ Cert.PleSample.sig) → Buf (Elt Bits) ℓ) (g : Dev Cert.PleSample.nD → PrngReg), Pre_PleSample m →
    θ_run (Cert.PleSample.defs (F := Bits)) (onTc (τ := Cert.PleSample.τ) (Cert.PleSample.main (F := Bits))) ⟨m, fun _ => 0, g⟩ (fun r => (∀ c : Dev Cert.PleSample.nD,
      r.2.mem ((c.tc : Thread Cert.PleSample.nD Cert.PleSample.τ).loc Cert.PleSample.main_arg0) = m ((c.tc : Thread Cert.PleSample.nD Cert.PleSample.τ).loc Cert.PleSample.main_arg0)
      ∧ r.2.mem ((c.tc : Thread Cert.PleSample.nD Cert.PleSample.τ).loc Cert.PleSample.main_arg1) = m ((c.tc : Thread Cert.PleSample.nD Cert.PleSample.τ).loc Cert.PleSample.main_arg1)
      ∧ r.2.mem ((c.tc : Thread Cert.PleSample.nD Cert.PleSample.τ).loc Cert.PleSample.main_arg2) = m ((c.tc : Thread Cert.PleSample.nD Cert.PleSample.τ).loc Cert.PleSample.main_arg2)
      ∧ r.2.mem ((c.tc : Thread Cert.PleSample.nD Cert.PleSample.τ).loc Cert.PleSample.main_arg3) = m ((c.tc : Thread Cert.PleSample.nD Cert.PleSample.τ).loc Cert.PleSample.main_arg3)
      ∧ r.2.mem ((c.tc : Thread Cert.PleSample.nD Cert.PleSample.τ).loc Cert.PleSample.main_arg4) = m ((c.tc : Thread Cert.PleSample.nD Cert.PleSample.τ).loc Cert.PleSample.main_arg4))
      ∧ r.2.sem = fun _ => 0)

def quiescent_PleSampleIdeal [hPleSampleIdeal : Cert.PleSampleIdeal.Facts] : Prop :=
  ∀ (m : (ℓ : Loc Cert.PleSampleIdeal.nD Cert.PleSampleIdeal.τ Cert.PleSampleIdeal.sig) → Buf (Elt Ideal) ℓ) (g : Dev Cert.PleSampleIdeal.nD → PrngReg), Pre_PleSampleIdeal m →
    θ_run (Cert.PleSampleIdeal.defs (F := Ideal)) (onTc (τ := Cert.PleSampleIdeal.τ) (Cert.PleSampleIdeal.main (F := Ideal))) ⟨m, fun _ => 0, g⟩ (fun r => (∀ c : Dev Cert.PleSampleIdeal.nD,
      r.2.mem ((c.tc : Thread Cert.PleSampleIdeal.nD Cert.PleSampleIdeal.τ).loc Cert.PleSampleIdeal.main_arg0) = m ((c.tc : Thread Cert.PleSampleIdeal.nD Cert.PleSampleIdeal.τ).loc Cert.PleSampleIdeal.main_arg0)
      ∧ r.2.mem ((c.tc : Thread Cert.PleSampleIdeal.nD Cert.PleSampleIdeal.τ).loc Cert.PleSampleIdeal.main_arg1) = m ((c.tc : Thread Cert.PleSampleIdeal.nD Cert.PleSampleIdeal.τ).loc Cert.PleSampleIdeal.main_arg1)
      ∧ r.2.mem ((c.tc : Thread Cert.PleSampleIdeal.nD Cert.PleSampleIdeal.τ).loc Cert.PleSampleIdeal.main_arg2) = m ((c.tc : Thread Cert.PleSampleIdeal.nD Cert.PleSampleIdeal.τ).loc Cert.PleSampleIdeal.main_arg2)
      ∧ r.2.mem ((c.tc : Thread Cert.PleSampleIdeal.nD Cert.PleSampleIdeal.τ).loc Cert.PleSampleIdeal.main_arg3) = m ((c.tc : Thread Cert.PleSampleIdeal.nD Cert.PleSampleIdeal.τ).loc Cert.PleSampleIdeal.main_arg3)
      ∧ r.2.mem ((c.tc : Thread Cert.PleSampleIdeal.nD Cert.PleSampleIdeal.τ).loc Cert.PleSampleIdeal.main_arg4) = m ((c.tc : Thread Cert.PleSampleIdeal.nD Cert.PleSampleIdeal.τ).loc Cert.PleSampleIdeal.main_arg4))
      ∧ r.2.sem = fun _ => 0)

def quiescent_PleSampleReferenceIdeal [hPleSampleReferenceIdeal : Cert.PleSampleReferenceIdeal.Facts] : Prop :=
  ∀ (m : (ℓ : Loc Cert.PleSampleReferenceIdeal.nD Cert.PleSampleReferenceIdeal.τ Cert.PleSampleReferenceIdeal.sig) → Buf (Elt Ideal) ℓ) (g : Dev Cert.PleSampleReferenceIdeal.nD → PrngReg), Pre_PleSampleReferenceIdeal m →
    θ_run (Cert.PleSampleReferenceIdeal.defs (F := Ideal)) (onTc (τ := Cert.PleSampleReferenceIdeal.τ) (Cert.PleSampleReferenceIdeal.main (F := Ideal))) ⟨m, fun _ => 0, g⟩ (fun r => (∀ c : Dev Cert.PleSampleReferenceIdeal.nD,
      r.2.mem ((c.tc : Thread Cert.PleSampleReferenceIdeal.nD Cert.PleSampleReferenceIdeal.τ).loc Cert.PleSampleReferenceIdeal.main_arg0) = m ((c.tc : Thread Cert.PleSampleReferenceIdeal.nD Cert.PleSampleReferenceIdeal.τ).loc Cert.PleSampleReferenceIdeal.main_arg0)
      ∧ r.2.mem ((c.tc : Thread Cert.PleSampleReferenceIdeal.nD Cert.PleSampleReferenceIdeal.τ).loc Cert.PleSampleReferenceIdeal.main_arg1) = m ((c.tc : Thread Cert.PleSampleReferenceIdeal.nD Cert.PleSampleReferenceIdeal.τ).loc Cert.PleSampleReferenceIdeal.main_arg1)
      ∧ r.2.mem ((c.tc : Thread Cert.PleSampleReferenceIdeal.nD Cert.PleSampleReferenceIdeal.τ).loc Cert.PleSampleReferenceIdeal.main_arg2) = m ((c.tc : Thread Cert.PleSampleReferenceIdeal.nD Cert.PleSampleReferenceIdeal.τ).loc Cert.PleSampleReferenceIdeal.main_arg2)
      ∧ r.2.mem ((c.tc : Thread Cert.PleSampleReferenceIdeal.nD Cert.PleSampleReferenceIdeal.τ).loc Cert.PleSampleReferenceIdeal.main_arg3) = m ((c.tc : Thread Cert.PleSampleReferenceIdeal.nD Cert.PleSampleReferenceIdeal.τ).loc Cert.PleSampleReferenceIdeal.main_arg3)
      ∧ r.2.mem ((c.tc : Thread Cert.PleSampleReferenceIdeal.nD Cert.PleSampleReferenceIdeal.τ).loc Cert.PleSampleReferenceIdeal.main_arg4) = m ((c.tc : Thread Cert.PleSampleReferenceIdeal.nD Cert.PleSampleReferenceIdeal.τ).loc Cert.PleSampleReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_Plain [hPlain : Cert.Plain.Facts] : Prop :=
  ∀ (m : (ℓ : Loc Cert.Plain.nD Cert.Plain.τ Cert.Plain.sig) → Buf (Elt Bits) ℓ) (g : Dev Cert.Plain.nD → PrngReg), Pre_Plain m →
    θ_run (Cert.Plain.defs (F := Bits)) (onTc (τ := Cert.Plain.τ) (Cert.Plain.main (F := Bits))) ⟨m, fun _ => 0, g⟩ (fun r => (∀ c : Dev Cert.Plain.nD,
      r.2.mem ((c.tc : Thread Cert.Plain.nD Cert.Plain.τ).loc Cert.Plain.main_arg0) = m ((c.tc : Thread Cert.Plain.nD Cert.Plain.τ).loc Cert.Plain.main_arg0)
      ∧ r.2.mem ((c.tc : Thread Cert.Plain.nD Cert.Plain.τ).loc Cert.Plain.main_arg1) = m ((c.tc : Thread Cert.Plain.nD Cert.Plain.τ).loc Cert.Plain.main_arg1))
      ∧ r.2.sem = fun _ => 0)

def quiescent_PlainIdeal [hPlainIdeal : Cert.PlainIdeal.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1))
      ∧ r.2.sem = fun _ => 0)

def quiescent_PlainReferenceIdeal [hPlainReferenceIdeal : Cert.PlainReferenceIdeal.Facts] : Prop :=
  ∀ (m : (ℓ : Loc Cert.PlainReferenceIdeal.nD Cert.PlainReferenceIdeal.τ Cert.PlainReferenceIdeal.sig) → Buf (Elt Ideal) ℓ) (g : Dev Cert.PlainReferenceIdeal.nD → PrngReg), Pre_PlainReferenceIdeal m →
    θ_run (Cert.PlainReferenceIdeal.defs (F := Ideal)) (onTc (τ := Cert.PlainReferenceIdeal.τ) (Cert.PlainReferenceIdeal.main (F := Ideal))) ⟨m, fun _ => 0, g⟩ (fun r => (∀ c : Dev Cert.PlainReferenceIdeal.nD,
      r.2.mem ((c.tc : Thread Cert.PlainReferenceIdeal.nD Cert.PlainReferenceIdeal.τ).loc Cert.PlainReferenceIdeal.main_arg0) = m ((c.tc : Thread Cert.PlainReferenceIdeal.nD Cert.PlainReferenceIdeal.τ).loc Cert.PlainReferenceIdeal.main_arg0)
      ∧ r.2.mem ((c.tc : Thread Cert.PlainReferenceIdeal.nD Cert.PlainReferenceIdeal.τ).loc Cert.PlainReferenceIdeal.main_arg1) = m ((c.tc : Thread Cert.PlainReferenceIdeal.nD Cert.PlainReferenceIdeal.τ).loc Cert.PlainReferenceIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2))
      ∧ r.2.sem = fun _ => 0)

def quiescent_KvSample [hKvSample : Cert.KvSample.Facts] : Prop :=
  ∀ (m : (ℓ : Loc Cert.KvSample.nD Cert.KvSample.τ Cert.KvSample.sig) → Buf (Elt Bits) ℓ) (g : Dev Cert.KvSample.nD → PrngReg), Pre_KvSample m →
    θ_run (Cert.KvSample.defs (F := Bits)) (onTc (τ := Cert.KvSample.τ) (Cert.KvSample.main (F := Bits))) ⟨m, fun _ => 0, g⟩ (fun r => (∀ c : Dev Cert.KvSample.nD,
      r.2.mem ((c.tc : Thread Cert.KvSample.nD Cert.KvSample.τ).loc Cert.KvSample.main_arg0) = m ((c.tc : Thread Cert.KvSample.nD Cert.KvSample.τ).loc Cert.KvSample.main_arg0)
      ∧ r.2.mem ((c.tc : Thread Cert.KvSample.nD Cert.KvSample.τ).loc Cert.KvSample.main_arg1) = m ((c.tc : Thread Cert.KvSample.nD Cert.KvSample.τ).loc Cert.KvSample.main_arg1)
      ∧ r.2.mem ((c.tc : Thread Cert.KvSample.nD Cert.KvSample.τ).loc Cert.KvSample.main_arg2) = m ((c.tc : Thread Cert.KvSample.nD Cert.KvSample.τ).loc Cert.KvSample.main_arg2))
      ∧ r.2.sem = fun _ => 0)

def quiescent_KvSampleIdeal [hKvSampleIdeal : Cert.KvSampleIdeal.Facts] : Prop :=
  ∀ (m : (ℓ : Loc Cert.KvSampleIdeal.nD Cert.KvSampleIdeal.τ Cert.KvSampleIdeal.sig) → Buf (Elt Ideal) ℓ) (g : Dev Cert.KvSampleIdeal.nD → PrngReg), Pre_KvSampleIdeal m →
    θ_run (Cert.KvSampleIdeal.defs (F := Ideal)) (onTc (τ := Cert.KvSampleIdeal.τ) (Cert.KvSampleIdeal.main (F := Ideal))) ⟨m, fun _ => 0, g⟩ (fun r => (∀ c : Dev Cert.KvSampleIdeal.nD,
      r.2.mem ((c.tc : Thread Cert.KvSampleIdeal.nD Cert.KvSampleIdeal.τ).loc Cert.KvSampleIdeal.main_arg0) = m ((c.tc : Thread Cert.KvSampleIdeal.nD Cert.KvSampleIdeal.τ).loc Cert.KvSampleIdeal.main_arg0)
      ∧ r.2.mem ((c.tc : Thread Cert.KvSampleIdeal.nD Cert.KvSampleIdeal.τ).loc Cert.KvSampleIdeal.main_arg1) = m ((c.tc : Thread Cert.KvSampleIdeal.nD Cert.KvSampleIdeal.τ).loc Cert.KvSampleIdeal.main_arg1)
      ∧ r.2.mem ((c.tc : Thread Cert.KvSampleIdeal.nD Cert.KvSampleIdeal.τ).loc Cert.KvSampleIdeal.main_arg2) = m ((c.tc : Thread Cert.KvSampleIdeal.nD Cert.KvSampleIdeal.τ).loc Cert.KvSampleIdeal.main_arg2))
      ∧ r.2.sem = fun _ => 0)

def quiescent_KvSampleReferenceIdeal [hKvSampleReferenceIdeal : Cert.KvSampleReferenceIdeal.Facts] : Prop :=
  ∀ (m : (ℓ : Loc Cert.KvSampleReferenceIdeal.nD Cert.KvSampleReferenceIdeal.τ Cert.KvSampleReferenceIdeal.sig) → Buf (Elt Ideal) ℓ) (g : Dev Cert.KvSampleReferenceIdeal.nD → PrngReg), Pre_KvSampleReferenceIdeal m →
    θ_run (Cert.KvSampleReferenceIdeal.defs (F := Ideal)) (onTc (τ := Cert.KvSampleReferenceIdeal.τ) (Cert.KvSampleReferenceIdeal.main (F := Ideal))) ⟨m, fun _ => 0, g⟩ (fun r => (∀ c : Dev Cert.KvSampleReferenceIdeal.nD,
      r.2.mem ((c.tc : Thread Cert.KvSampleReferenceIdeal.nD Cert.KvSampleReferenceIdeal.τ).loc Cert.KvSampleReferenceIdeal.main_arg0) = m ((c.tc : Thread Cert.KvSampleReferenceIdeal.nD Cert.KvSampleReferenceIdeal.τ).loc Cert.KvSampleReferenceIdeal.main_arg0)
      ∧ r.2.mem ((c.tc : Thread Cert.KvSampleReferenceIdeal.nD Cert.KvSampleReferenceIdeal.τ).loc Cert.KvSampleReferenceIdeal.main_arg1) = m ((c.tc : Thread Cert.KvSampleReferenceIdeal.nD Cert.KvSampleReferenceIdeal.τ).loc Cert.KvSampleReferenceIdeal.main_arg1)
      ∧ r.2.mem ((c.tc : Thread Cert.KvSampleReferenceIdeal.nD Cert.KvSampleReferenceIdeal.τ).loc Cert.KvSampleReferenceIdeal.main_arg2) = m ((c.tc : Thread Cert.KvSampleReferenceIdeal.nD Cert.KvSampleReferenceIdeal.τ).loc Cert.KvSampleReferenceIdeal.main_arg2))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ r.2.sem = fun _ => 0)

def quiescent_WinReferenceIdeal [hWinReferenceIdeal : Cert.WinReferenceIdeal.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1)
      ∧ r.2.mem ((c.tc : Thread Cert.WinReferenceIdeal.nD Cert.WinReferenceIdeal.τ).loc Cert.WinReferenceIdeal.main_arg2) = m ((c.tc : Thread Cert.WinReferenceIdeal.nD Cert.WinReferenceIdeal.τ).loc Cert.WinReferenceIdeal.main_arg2))
      ∧ r.2.sem = fun _ => 0)

def quiescent_WinSample [hWinSample : Cert.WinSample.Facts] : Prop :=
  ∀ (m : (ℓ : Loc Cert.WinSample.nD Cert.WinSample.τ Cert.WinSample.sig) → Buf (Elt Bits) ℓ) (g : Dev Cert.WinSample.nD → PrngReg), Pre_WinSample m →
    θ_run (Cert.WinSample.defs (F := Bits)) (onTc (τ := Cert.WinSample.τ) (Cert.WinSample.main (F := Bits))) ⟨m, fun _ => 0, g⟩ (fun r => (∀ c : Dev Cert.WinSample.nD,
      r.2.mem ((c.tc : Thread Cert.WinSample.nD Cert.WinSample.τ).loc Cert.WinSample.main_arg0) = m ((c.tc : Thread Cert.WinSample.nD Cert.WinSample.τ).loc Cert.WinSample.main_arg0)
      ∧ r.2.mem ((c.tc : Thread Cert.WinSample.nD Cert.WinSample.τ).loc Cert.WinSample.main_arg1) = m ((c.tc : Thread Cert.WinSample.nD Cert.WinSample.τ).loc Cert.WinSample.main_arg1)
      ∧ r.2.mem ((c.tc : Thread Cert.WinSample.nD Cert.WinSample.τ).loc Cert.WinSample.main_arg2) = m ((c.tc : Thread Cert.WinSample.nD Cert.WinSample.τ).loc Cert.WinSample.main_arg2)
      ∧ r.2.mem ((c.tc : Thread Cert.WinSample.nD Cert.WinSample.τ).loc Cert.WinSample.main_arg3) = m ((c.tc : Thread Cert.WinSample.nD Cert.WinSample.τ).loc Cert.WinSample.main_arg3))
      ∧ r.2.sem = fun _ => 0)

def quiescent_WinSampleIdeal [hWinSampleIdeal : Cert.WinSampleIdeal.Facts] : Prop :=
  ∀ (m : (ℓ : Loc Cert.WinSampleIdeal.nD Cert.WinSampleIdeal.τ Cert.WinSampleIdeal.sig) → Buf (Elt Ideal) ℓ) (g : Dev Cert.WinSampleIdeal.nD → PrngReg), Pre_WinSampleIdeal m →
    θ_run (Cert.WinSampleIdeal.defs (F := Ideal)) (onTc (τ := Cert.WinSampleIdeal.τ) (Cert.WinSampleIdeal.main (F := Ideal))) ⟨m, fun _ => 0, g⟩ (fun r => (∀ c : Dev Cert.WinSampleIdeal.nD,
      r.2.mem ((c.tc : Thread Cert.WinSampleIdeal.nD Cert.WinSampleIdeal.τ).loc Cert.WinSampleIdeal.main_arg0) = m ((c.tc : Thread Cert.WinSampleIdeal.nD Cert.WinSampleIdeal.τ).loc Cert.WinSampleIdeal.main_arg0)
      ∧ r.2.mem ((c.tc : Thread Cert.WinSampleIdeal.nD Cert.WinSampleIdeal.τ).loc Cert.WinSampleIdeal.main_arg1) = m ((c.tc : Thread Cert.WinSampleIdeal.nD Cert.WinSampleIdeal.τ).loc Cert.WinSampleIdeal.main_arg1)
      ∧ r.2.mem ((c.tc : Thread Cert.WinSampleIdeal.nD Cert.WinSampleIdeal.τ).loc Cert.WinSampleIdeal.main_arg2) = m ((c.tc : Thread Cert.WinSampleIdeal.nD Cert.WinSampleIdeal.τ).loc Cert.WinSampleIdeal.main_arg2)
      ∧ r.2.mem ((c.tc : Thread Cert.WinSampleIdeal.nD Cert.WinSampleIdeal.τ).loc Cert.WinSampleIdeal.main_arg3) = m ((c.tc : Thread Cert.WinSampleIdeal.nD Cert.WinSampleIdeal.τ).loc Cert.WinSampleIdeal.main_arg3))
      ∧ r.2.sem = fun _ => 0)

def quiescent_WinSampleReferenceIdeal [hWinSampleReferenceIdeal : Cert.WinSampleReferenceIdeal.Facts] : Prop :=
  ∀ (m : (ℓ : Loc Cert.WinSampleReferenceIdeal.nD Cert.WinSampleReferenceIdeal.τ Cert.WinSampleReferenceIdeal.sig) → Buf (Elt Ideal) ℓ) (g : Dev Cert.WinSampleReferenceIdeal.nD → PrngReg), Pre_WinSampleReferenceIdeal m →
    θ_run (Cert.WinSampleReferenceIdeal.defs (F := Ideal)) (onTc (τ := Cert.WinSampleReferenceIdeal.τ) (Cert.WinSampleReferenceIdeal.main (F := Ideal))) ⟨m, fun _ => 0, g⟩ (fun r => (∀ c : Dev Cert.WinSampleReferenceIdeal.nD,
      r.2.mem ((c.tc : Thread Cert.WinSampleReferenceIdeal.nD Cert.WinSampleReferenceIdeal.τ).loc Cert.WinSampleReferenceIdeal.main_arg0) = m ((c.tc : Thread Cert.WinSampleReferenceIdeal.nD Cert.WinSampleReferenceIdeal.τ).loc Cert.WinSampleReferenceIdeal.main_arg0)
      ∧ r.2.mem ((c.tc : Thread Cert.WinSampleReferenceIdeal.nD Cert.WinSampleReferenceIdeal.τ).loc Cert.WinSampleReferenceIdeal.main_arg1) = m ((c.tc : Thread Cert.WinSampleReferenceIdeal.nD Cert.WinSampleReferenceIdeal.τ).loc Cert.WinSampleReferenceIdeal.main_arg1)
      ∧ r.2.mem ((c.tc : Thread Cert.WinSampleReferenceIdeal.nD Cert.WinSampleReferenceIdeal.τ).loc Cert.WinSampleReferenceIdeal.main_arg2) = m ((c.tc : Thread Cert.WinSampleReferenceIdeal.nD Cert.WinSampleReferenceIdeal.τ).loc Cert.WinSampleReferenceIdeal.main_arg2)
      ∧ r.2.mem ((c.tc : Thread Cert.WinSampleReferenceIdeal.nD Cert.WinSampleReferenceIdeal.τ).loc Cert.WinSampleReferenceIdeal.main_arg3) = m ((c.tc : Thread Cert.WinSampleReferenceIdeal.nD Cert.WinSampleReferenceIdeal.τ).loc Cert.WinSampleReferenceIdeal.main_arg3))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1)
      ∧ r.2.mem ((c.tc : Thread Cert.QueryReferenceIdeal.nD Cert.QueryReferenceIdeal.τ).loc Cert.QueryReferenceIdeal.main_arg2) = m ((c.tc : Thread Cert.QueryReferenceIdeal.nD Cert.QueryReferenceIdeal.τ).loc Cert.QueryReferenceIdeal.main_arg2))
      ∧ r.2.sem = fun _ => 0)

def quiescent_RetSample [hRetSample : Cert.RetSample.Facts] : Prop :=
  ∀ (m : (ℓ : Loc Cert.RetSample.nD Cert.RetSample.τ Cert.RetSample.sig) → Buf (Elt Bits) ℓ) (g : Dev Cert.RetSample.nD → PrngReg), Pre_RetSample m →
    θ_run (Cert.RetSample.defs (F := Bits)) (onTc (τ := Cert.RetSample.τ) (Cert.RetSample.main (F := Bits))) ⟨m, fun _ => 0, g⟩ (fun r => (∀ c : Dev Cert.RetSample.nD,
      r.2.mem ((c.tc : Thread Cert.RetSample.nD Cert.RetSample.τ).loc Cert.RetSample.main_arg0) = m ((c.tc : Thread Cert.RetSample.nD Cert.RetSample.τ).loc Cert.RetSample.main_arg0)
      ∧ r.2.mem ((c.tc : Thread Cert.RetSample.nD Cert.RetSample.τ).loc Cert.RetSample.main_arg1) = m ((c.tc : Thread Cert.RetSample.nD Cert.RetSample.τ).loc Cert.RetSample.main_arg1)
      ∧ r.2.mem ((c.tc : Thread Cert.RetSample.nD Cert.RetSample.τ).loc Cert.RetSample.main_arg2) = m ((c.tc : Thread Cert.RetSample.nD Cert.RetSample.τ).loc Cert.RetSample.main_arg2))
      ∧ r.2.sem = fun _ => 0)

def quiescent_RetSampleIdeal [hRetSampleIdeal : Cert.RetSampleIdeal.Facts] : Prop :=
  ∀ (m : (ℓ : Loc Cert.RetSampleIdeal.nD Cert.RetSampleIdeal.τ Cert.RetSampleIdeal.sig) → Buf (Elt Ideal) ℓ) (g : Dev Cert.RetSampleIdeal.nD → PrngReg), Pre_RetSampleIdeal m →
    θ_run (Cert.RetSampleIdeal.defs (F := Ideal)) (onTc (τ := Cert.RetSampleIdeal.τ) (Cert.RetSampleIdeal.main (F := Ideal))) ⟨m, fun _ => 0, g⟩ (fun r => (∀ c : Dev Cert.RetSampleIdeal.nD,
      r.2.mem ((c.tc : Thread Cert.RetSampleIdeal.nD Cert.RetSampleIdeal.τ).loc Cert.RetSampleIdeal.main_arg0) = m ((c.tc : Thread Cert.RetSampleIdeal.nD Cert.RetSampleIdeal.τ).loc Cert.RetSampleIdeal.main_arg0)
      ∧ r.2.mem ((c.tc : Thread Cert.RetSampleIdeal.nD Cert.RetSampleIdeal.τ).loc Cert.RetSampleIdeal.main_arg1) = m ((c.tc : Thread Cert.RetSampleIdeal.nD Cert.RetSampleIdeal.τ).loc Cert.RetSampleIdeal.main_arg1)
      ∧ r.2.mem ((c.tc : Thread Cert.RetSampleIdeal.nD Cert.RetSampleIdeal.τ).loc Cert.RetSampleIdeal.main_arg2) = m ((c.tc : Thread Cert.RetSampleIdeal.nD Cert.RetSampleIdeal.τ).loc Cert.RetSampleIdeal.main_arg2))
      ∧ r.2.sem = fun _ => 0)

def quiescent_RetSampleReferenceIdeal [hRetSampleReferenceIdeal : Cert.RetSampleReferenceIdeal.Facts] : Prop :=
  ∀ (m : (ℓ : Loc Cert.RetSampleReferenceIdeal.nD Cert.RetSampleReferenceIdeal.τ Cert.RetSampleReferenceIdeal.sig) → Buf (Elt Ideal) ℓ) (g : Dev Cert.RetSampleReferenceIdeal.nD → PrngReg), Pre_RetSampleReferenceIdeal m →
    θ_run (Cert.RetSampleReferenceIdeal.defs (F := Ideal)) (onTc (τ := Cert.RetSampleReferenceIdeal.τ) (Cert.RetSampleReferenceIdeal.main (F := Ideal))) ⟨m, fun _ => 0, g⟩ (fun r => (∀ c : Dev Cert.RetSampleReferenceIdeal.nD,
      r.2.mem ((c.tc : Thread Cert.RetSampleReferenceIdeal.nD Cert.RetSampleReferenceIdeal.τ).loc Cert.RetSampleReferenceIdeal.main_arg0) = m ((c.tc : Thread Cert.RetSampleReferenceIdeal.nD Cert.RetSampleReferenceIdeal.τ).loc Cert.RetSampleReferenceIdeal.main_arg0)
      ∧ r.2.mem ((c.tc : Thread Cert.RetSampleReferenceIdeal.nD Cert.RetSampleReferenceIdeal.τ).loc Cert.RetSampleReferenceIdeal.main_arg1) = m ((c.tc : Thread Cert.RetSampleReferenceIdeal.nD Cert.RetSampleReferenceIdeal.τ).loc Cert.RetSampleReferenceIdeal.main_arg1)
      ∧ r.2.mem ((c.tc : Thread Cert.RetSampleReferenceIdeal.nD Cert.RetSampleReferenceIdeal.τ).loc Cert.RetSampleReferenceIdeal.main_arg2) = m ((c.tc : Thread Cert.RetSampleReferenceIdeal.nD Cert.RetSampleReferenceIdeal.τ).loc Cert.RetSampleReferenceIdeal.main_arg2))
      ∧ r.2.sem = fun _ => 0)

def preserves_Kernel_KernelIdeal : Prop :=
  True

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v59_0)) (v1 : (c : Dev Cert.KernelIdeal.nD) → Buf (Elt Ideal) ((c.tc : Thread Cert.KernelIdeal.nD Cert.KernelIdeal.τ).loc Cert.KernelIdeal.main_v59_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59_0) = v0 c
          ∧ r.2.mem ((c.tc : Thread Cert.KernelIdeal.nD Cert.KernelIdeal.τ).loc Cert.KernelIdeal.main_v59_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v65_8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v22) = v0 c
          ∧ r.2.mem ((c.tc : Thread Cert.FfnReferenceIdeal.nD Cert.FfnReferenceIdeal.τ).loc Cert.FfnReferenceIdeal.main_v35) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)
      ∧ m' ((c.tc : Thread Cert.PleReferenceIdeal.nD Cert.PleReferenceIdeal.τ).loc Cert.PleReferenceIdeal.main_arg2) = m ((c.tc : Thread Cert.PleIdeal.nD Cert.PleIdeal.τ).loc Cert.PleIdeal.main_arg2)
      ∧ m' ((c.tc : Thread Cert.PleReferenceIdeal.nD Cert.PleReferenceIdeal.τ).loc Cert.PleReferenceIdeal.main_arg3) = m ((c.tc : Thread Cert.PleIdeal.nD Cert.PleIdeal.τ).loc Cert.PleIdeal.main_arg3)
      ∧ m' ((c.tc : Thread Cert.PleReferenceIdeal.nD Cert.PleReferenceIdeal.τ).loc Cert.PleReferenceIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v1)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v1) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v19) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4))

def preserves_PleSample_PleSampleIdeal : Prop :=
  True

def algebraic_PleSampleIdeal_PleSampleReferenceIdeal [hPleSampleIdeal : Cert.PleSampleIdeal.Facts] [hPleSampleReferenceIdeal : Cert.PleSampleReferenceIdeal.Facts] : Prop :=
  ∀ (m : (ℓ : Loc Cert.PleSampleIdeal.nD Cert.PleSampleIdeal.τ Cert.PleSampleIdeal.sig) → Buf (Elt Ideal) ℓ) (g : Dev Cert.PleSampleIdeal.nD → PrngReg)
    (m' : (ℓ : Loc Cert.PleSampleReferenceIdeal.nD Cert.PleSampleReferenceIdeal.τ Cert.PleSampleReferenceIdeal.sig) → Buf (Elt Ideal) ℓ) (g' : Dev Cert.PleSampleReferenceIdeal.nD → PrngReg), Pre_PleSampleIdeal m →
    (∀ c : Dev Cert.PleSampleIdeal.nD,
      m' ((c.tc : Thread Cert.PleSampleReferenceIdeal.nD Cert.PleSampleReferenceIdeal.τ).loc Cert.PleSampleReferenceIdeal.main_arg0) = m ((c.tc : Thread Cert.PleSampleIdeal.nD Cert.PleSampleIdeal.τ).loc Cert.PleSampleIdeal.main_arg0)
      ∧ m' ((c.tc : Thread Cert.PleSampleReferenceIdeal.nD Cert.PleSampleReferenceIdeal.τ).loc Cert.PleSampleReferenceIdeal.main_arg1) = m ((c.tc : Thread Cert.PleSampleIdeal.nD Cert.PleSampleIdeal.τ).loc Cert.PleSampleIdeal.main_arg1)
      ∧ m' ((c.tc : Thread Cert.PleSampleReferenceIdeal.nD Cert.PleSampleReferenceIdeal.τ).loc Cert.PleSampleReferenceIdeal.main_arg2) = m ((c.tc : Thread Cert.PleSampleIdeal.nD Cert.PleSampleIdeal.τ).loc Cert.PleSampleIdeal.main_arg2)
      ∧ m' ((c.tc : Thread Cert.PleSampleReferenceIdeal.nD Cert.PleSampleReferenceIdeal.τ).loc Cert.PleSampleReferenceIdeal.main_arg3) = m ((c.tc : Thread Cert.PleSampleIdeal.nD Cert.PleSampleIdeal.τ).loc Cert.PleSampleIdeal.main_arg3)
      ∧ m' ((c.tc : Thread Cert.PleSampleReferenceIdeal.nD Cert.PleSampleReferenceIdeal.τ).loc Cert.PleSampleReferenceIdeal.main_arg4) = m ((c.tc : Thread Cert.PleSampleIdeal.nD Cert.PleSampleIdeal.τ).loc Cert.PleSampleIdeal.main_arg4)) →
    ∃ (v0 : (c : Dev Cert.PleSampleIdeal.nD) → Buf (Elt Ideal) ((c.tc : Thread Cert.PleSampleIdeal.nD Cert.PleSampleIdeal.τ).loc Cert.PleSampleIdeal.main_v1)),
      θ_run (Cert.PleSampleIdeal.defs (F := Ideal)) (onTc (τ := Cert.PleSampleIdeal.τ) (Cert.PleSampleIdeal.main (F := Ideal))) ⟨m, fun _ => 0, g⟩ (fun r => ∀ c : Dev Cert.PleSampleIdeal.nD,
          r.2.mem ((c.tc : Thread Cert.PleSampleIdeal.nD Cert.PleSampleIdeal.τ).loc Cert.PleSampleIdeal.main_v1) = v0 c
          ∧ r.2.mem ((c.tc : Thread Cert.PleSampleIdeal.nD Cert.PleSampleIdeal.τ).loc Cert.PleSampleIdeal.main_arg0) = m ((c.tc : Thread Cert.PleSampleIdeal.nD Cert.PleSampleIdeal.τ).loc Cert.PleSampleIdeal.main_arg0)
          ∧ r.2.mem ((c.tc : Thread Cert.PleSampleIdeal.nD Cert.PleSampleIdeal.τ).loc Cert.PleSampleIdeal.main_arg1) = m ((c.tc : Thread Cert.PleSampleIdeal.nD Cert.PleSampleIdeal.τ).loc Cert.PleSampleIdeal.main_arg1)
          ∧ r.2.mem ((c.tc : Thread Cert.PleSampleIdeal.nD Cert.PleSampleIdeal.τ).loc Cert.PleSampleIdeal.main_arg2) = m ((c.tc : Thread Cert.PleSampleIdeal.nD Cert.PleSampleIdeal.τ).loc Cert.PleSampleIdeal.main_arg2)
          ∧ r.2.mem ((c.tc : Thread Cert.PleSampleIdeal.nD Cert.PleSampleIdeal.τ).loc Cert.PleSampleIdeal.main_arg3) = m ((c.tc : Thread Cert.PleSampleIdeal.nD Cert.PleSampleIdeal.τ).loc Cert.PleSampleIdeal.main_arg3)
          ∧ r.2.mem ((c.tc : Thread Cert.PleSampleIdeal.nD Cert.PleSampleIdeal.τ).loc Cert.PleSampleIdeal.main_arg4) = m ((c.tc : Thread Cert.PleSampleIdeal.nD Cert.PleSampleIdeal.τ).loc Cert.PleSampleIdeal.main_arg4))
      ∧ θ_run (Cert.PleSampleReferenceIdeal.defs (F := Ideal)) (onTc (τ := Cert.PleSampleReferenceIdeal.τ) (Cert.PleSampleReferenceIdeal.main (F := Ideal))) ⟨m', fun _ => 0, g'⟩ (fun r => ∀ c : Dev Cert.PleSampleReferenceIdeal.nD,
          r.2.mem ((c.tc : Thread Cert.PleSampleReferenceIdeal.nD Cert.PleSampleReferenceIdeal.τ).loc Cert.PleSampleReferenceIdeal.main_v19) = v0 c
          ∧ r.2.mem ((c.tc : Thread Cert.PleSampleReferenceIdeal.nD Cert.PleSampleReferenceIdeal.τ).loc Cert.PleSampleReferenceIdeal.main_arg0) = m' ((c.tc : Thread Cert.PleSampleReferenceIdeal.nD Cert.PleSampleReferenceIdeal.τ).loc Cert.PleSampleReferenceIdeal.main_arg0)
          ∧ r.2.mem ((c.tc : Thread Cert.PleSampleReferenceIdeal.nD Cert.PleSampleReferenceIdeal.τ).loc Cert.PleSampleReferenceIdeal.main_arg1) = m' ((c.tc : Thread Cert.PleSampleReferenceIdeal.nD Cert.PleSampleReferenceIdeal.τ).loc Cert.PleSampleReferenceIdeal.main_arg1)
          ∧ r.2.mem ((c.tc : Thread Cert.PleSampleReferenceIdeal.nD Cert.PleSampleReferenceIdeal.τ).loc Cert.PleSampleReferenceIdeal.main_arg2) = m' ((c.tc : Thread Cert.PleSampleReferenceIdeal.nD Cert.PleSampleReferenceIdeal.τ).loc Cert.PleSampleReferenceIdeal.main_arg2)
          ∧ r.2.mem ((c.tc : Thread Cert.PleSampleReferenceIdeal.nD Cert.PleSampleReferenceIdeal.τ).loc Cert.PleSampleReferenceIdeal.main_arg3) = m' ((c.tc : Thread Cert.PleSampleReferenceIdeal.nD Cert.PleSampleReferenceIdeal.τ).loc Cert.PleSampleReferenceIdeal.main_arg3)
          ∧ r.2.mem ((c.tc : Thread Cert.PleSampleReferenceIdeal.nD Cert.PleSampleReferenceIdeal.τ).loc Cert.PleSampleReferenceIdeal.main_arg4) = m' ((c.tc : Thread Cert.PleSampleReferenceIdeal.nD Cert.PleSampleReferenceIdeal.τ).loc Cert.PleSampleReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v35) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_Plain_PlainIdeal : Prop :=
  True

def algebraic_PlainIdeal_PlainReferenceIdeal [hPlainIdeal : Cert.PlainIdeal.Facts] [hPlainReferenceIdeal : Cert.PlainReferenceIdeal.Facts] : Prop :=
  ∀ (m : (ℓ : Loc Cert.PlainIdeal.nD Cert.PlainIdeal.τ Cert.PlainIdeal.sig) → Buf (Elt Ideal) ℓ) (g : Dev Cert.PlainIdeal.nD → PrngReg)
    (m' : (ℓ : Loc Cert.PlainReferenceIdeal.nD Cert.PlainReferenceIdeal.τ Cert.PlainReferenceIdeal.sig) → Buf (Elt Ideal) ℓ) (g' : Dev Cert.PlainReferenceIdeal.nD → PrngReg), Pre_PlainIdeal m →
    (∀ c : Dev Cert.PlainIdeal.nD,
      m' ((c.tc : Thread Cert.PlainReferenceIdeal.nD Cert.PlainReferenceIdeal.τ).loc Cert.PlainReferenceIdeal.main_arg0) = m ((c.tc : Thread Cert.PlainIdeal.nD Cert.PlainIdeal.τ).loc Cert.PlainIdeal.main_arg0)
      ∧ m' ((c.tc : Thread Cert.PlainReferenceIdeal.nD Cert.PlainReferenceIdeal.τ).loc Cert.PlainReferenceIdeal.main_arg1) = m ((c.tc : Thread Cert.PlainIdeal.nD Cert.PlainIdeal.τ).loc Cert.PlainIdeal.main_arg1)) →
    ∃ (v0 : (c : Dev Cert.PlainIdeal.nD) → Buf (Elt Ideal) ((c.tc : Thread Cert.PlainIdeal.nD Cert.PlainIdeal.τ).loc Cert.PlainIdeal.main_v0)),
      θ_run (Cert.PlainIdeal.defs (F := Ideal)) (onTc (τ := Cert.PlainIdeal.τ) (Cert.PlainIdeal.main (F := Ideal))) ⟨m, fun _ => 0, g⟩ (fun r => ∀ c : Dev Cert.PlainIdeal.nD,
          r.2.mem ((c.tc : Thread Cert.PlainIdeal.nD Cert.PlainIdeal.τ).loc Cert.PlainIdeal.main_v0) = v0 c
          ∧ r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
          ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1))
      ∧ θ_run (Cert.PlainReferenceIdeal.defs (F := Ideal)) (onTc (τ := Cert.PlainReferenceIdeal.τ) (Cert.PlainReferenceIdeal.main (F := Ideal))) ⟨m', fun _ => 0, g'⟩ (fun r => ∀ c : Dev Cert.PlainReferenceIdeal.nD,
          r.2.mem ((c.tc : Thread Cert.PlainReferenceIdeal.nD Cert.PlainReferenceIdeal.τ).loc Cert.PlainReferenceIdeal.main_v5) = v0 c
          ∧ r.2.mem ((c.tc : Thread Cert.PlainReferenceIdeal.nD Cert.PlainReferenceIdeal.τ).loc Cert.PlainReferenceIdeal.main_arg0) = m' ((c.tc : Thread Cert.PlainReferenceIdeal.nD Cert.PlainReferenceIdeal.τ).loc Cert.PlainReferenceIdeal.main_arg0)
          ∧ r.2.mem ((c.tc : Thread Cert.PlainReferenceIdeal.nD Cert.PlainReferenceIdeal.τ).loc Cert.PlainReferenceIdeal.main_arg1) = m' ((c.tc : Thread Cert.PlainReferenceIdeal.nD Cert.PlainReferenceIdeal.τ).loc Cert.PlainReferenceIdeal.main_arg1))

def preserves_Kv_KvIdeal : Prop :=
  True

def algebraic_KvIdeal_KvReferenceIdeal [hKvIdeal : Cert.KvIdeal.Facts] [hKvReferenceIdeal : Cert.KvReferenceIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvIdeal m →
    (∀ c : Dev Cert.KvIdeal.nD,
      m' ((c.tc : Thread Cert.KvReferenceIdeal.nD Cert.KvReferenceIdeal.τ).loc Cert.KvReferenceIdeal.main_arg0) = m ((c.tc : Thread Cert.KvIdeal.nD Cert.KvIdeal.τ).loc Cert.KvIdeal.main_arg0)
      ∧ m' ((c.tc : Thread Cert.KvReferenceIdeal.nD Cert.KvReferenceIdeal.τ).loc Cert.KvReferenceIdeal.main_arg1) = m ((c.tc : Thread Cert.KvIdeal.nD Cert.KvIdeal.τ).loc Cert.KvIdeal.main_arg1)
      ∧ m' ((c.tc : Thread Cert.KvReferenceIdeal.nD Cert.KvReferenceIdeal.τ).loc Cert.KvReferenceIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v14_0)) (v1 : (c : Dev Cert.KvIdeal.nD) → Buf (Elt Ideal) ((c.tc : Thread Cert.KvIdeal.nD Cert.KvIdeal.τ).loc Cert.KvIdeal.main_v16)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v14_0) = v0 c
          ∧ r.2.mem ((c.tc : Thread Cert.KvIdeal.nD Cert.KvIdeal.τ).loc Cert.KvIdeal.main_v16) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v35) = v0 c
          ∧ r.2.mem ((c.tc : Thread Cert.KvReferenceIdeal.nD Cert.KvReferenceIdeal.τ).loc Cert.KvReferenceIdeal.main_v36) = v1 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1)
          ∧ r.2.mem ((c.tc : Thread Cert.KvReferenceIdeal.nD Cert.KvReferenceIdeal.τ).loc Cert.KvReferenceIdeal.main_arg2) = m' ((c.tc : Thread Cert.KvReferenceIdeal.nD Cert.KvReferenceIdeal.τ).loc Cert.KvReferenceIdeal.main_arg2))

def preserves_KvSample_KvSampleIdeal : Prop :=
  True

def algebraic_KvSampleIdeal_KvSampleReferenceIdeal [hKvSampleIdeal : Cert.KvSampleIdeal.Facts] [hKvSampleReferenceIdeal : Cert.KvSampleReferenceIdeal.Facts] : Prop :=
  ∀ (m : (ℓ : Loc Cert.KvSampleIdeal.nD Cert.KvSampleIdeal.τ Cert.KvSampleIdeal.sig) → Buf (Elt Ideal) ℓ) (g : Dev Cert.KvSampleIdeal.nD → PrngReg)
    (m' : (ℓ : Loc Cert.KvSampleReferenceIdeal.nD Cert.KvSampleReferenceIdeal.τ Cert.KvSampleReferenceIdeal.sig) → Buf (Elt Ideal) ℓ) (g' : Dev Cert.KvSampleReferenceIdeal.nD → PrngReg), Pre_KvSampleIdeal m →
    (∀ c : Dev Cert.KvSampleIdeal.nD,
      m' ((c.tc : Thread Cert.KvSampleReferenceIdeal.nD Cert.KvSampleReferenceIdeal.τ).loc Cert.KvSampleReferenceIdeal.main_arg0) = m ((c.tc : Thread Cert.KvSampleIdeal.nD Cert.KvSampleIdeal.τ).loc Cert.KvSampleIdeal.main_arg0)
      ∧ m' ((c.tc : Thread Cert.KvSampleReferenceIdeal.nD Cert.KvSampleReferenceIdeal.τ).loc Cert.KvSampleReferenceIdeal.main_arg1) = m ((c.tc : Thread Cert.KvSampleIdeal.nD Cert.KvSampleIdeal.τ).loc Cert.KvSampleIdeal.main_arg1)
      ∧ m' ((c.tc : Thread Cert.KvSampleReferenceIdeal.nD Cert.KvSampleReferenceIdeal.τ).loc Cert.KvSampleReferenceIdeal.main_arg2) = m ((c.tc : Thread Cert.KvSampleIdeal.nD Cert.KvSampleIdeal.τ).loc Cert.KvSampleIdeal.main_arg2)) →
    ∃ (v0 : (c : Dev Cert.KvSampleIdeal.nD) → Buf (Elt Ideal) ((c.tc : Thread Cert.KvSampleIdeal.nD Cert.KvSampleIdeal.τ).loc Cert.KvSampleIdeal.main_v14_0)) (v1 : (c : Dev Cert.KvSampleIdeal.nD) → Buf (Elt Ideal) ((c.tc : Thread Cert.KvSampleIdeal.nD Cert.KvSampleIdeal.τ).loc Cert.KvSampleIdeal.main_v16)),
      θ_run (Cert.KvSampleIdeal.defs (F := Ideal)) (onTc (τ := Cert.KvSampleIdeal.τ) (Cert.KvSampleIdeal.main (F := Ideal))) ⟨m, fun _ => 0, g⟩ (fun r => ∀ c : Dev Cert.KvSampleIdeal.nD,
          r.2.mem ((c.tc : Thread Cert.KvSampleIdeal.nD Cert.KvSampleIdeal.τ).loc Cert.KvSampleIdeal.main_v14_0) = v0 c
          ∧ r.2.mem ((c.tc : Thread Cert.KvSampleIdeal.nD Cert.KvSampleIdeal.τ).loc Cert.KvSampleIdeal.main_v16) = v1 c
          ∧ r.2.mem ((c.tc : Thread Cert.KvSampleIdeal.nD Cert.KvSampleIdeal.τ).loc Cert.KvSampleIdeal.main_arg0) = m ((c.tc : Thread Cert.KvSampleIdeal.nD Cert.KvSampleIdeal.τ).loc Cert.KvSampleIdeal.main_arg0)
          ∧ r.2.mem ((c.tc : Thread Cert.KvSampleIdeal.nD Cert.KvSampleIdeal.τ).loc Cert.KvSampleIdeal.main_arg1) = m ((c.tc : Thread Cert.KvSampleIdeal.nD Cert.KvSampleIdeal.τ).loc Cert.KvSampleIdeal.main_arg1)
          ∧ r.2.mem ((c.tc : Thread Cert.KvSampleIdeal.nD Cert.KvSampleIdeal.τ).loc Cert.KvSampleIdeal.main_arg2) = m ((c.tc : Thread Cert.KvSampleIdeal.nD Cert.KvSampleIdeal.τ).loc Cert.KvSampleIdeal.main_arg2))
      ∧ θ_run (Cert.KvSampleReferenceIdeal.defs (F := Ideal)) (onTc (τ := Cert.KvSampleReferenceIdeal.τ) (Cert.KvSampleReferenceIdeal.main (F := Ideal))) ⟨m', fun _ => 0, g'⟩ (fun r => ∀ c : Dev Cert.KvSampleReferenceIdeal.nD,
          r.2.mem ((c.tc : Thread Cert.KvSampleReferenceIdeal.nD Cert.KvSampleReferenceIdeal.τ).loc Cert.KvSampleReferenceIdeal.main_v35) = v0 c
          ∧ r.2.mem ((c.tc : Thread Cert.KvSampleReferenceIdeal.nD Cert.KvSampleReferenceIdeal.τ).loc Cert.KvSampleReferenceIdeal.main_v36) = v1 c
          ∧ r.2.mem ((c.tc : Thread Cert.KvSampleReferenceIdeal.nD Cert.KvSampleReferenceIdeal.τ).loc Cert.KvSampleReferenceIdeal.main_arg0) = m' ((c.tc : Thread Cert.KvSampleReferenceIdeal.nD Cert.KvSampleReferenceIdeal.τ).loc Cert.KvSampleReferenceIdeal.main_arg0)
          ∧ r.2.mem ((c.tc : Thread Cert.KvSampleReferenceIdeal.nD Cert.KvSampleReferenceIdeal.τ).loc Cert.KvSampleReferenceIdeal.main_arg1) = m' ((c.tc : Thread Cert.KvSampleReferenceIdeal.nD Cert.KvSampleReferenceIdeal.τ).loc Cert.KvSampleReferenceIdeal.main_arg1)
          ∧ r.2.mem ((c.tc : Thread Cert.KvSampleReferenceIdeal.nD Cert.KvSampleReferenceIdeal.τ).loc Cert.KvSampleReferenceIdeal.main_arg2) = m' ((c.tc : Thread Cert.KvSampleReferenceIdeal.nD Cert.KvSampleReferenceIdeal.τ).loc Cert.KvSampleReferenceIdeal.main_arg2))

def preserves_Win_WinIdeal : Prop :=
  True

def algebraic_WinIdeal_WinReferenceIdeal [hWinIdeal : Cert.WinIdeal.Facts] [hWinReferenceIdeal : Cert.WinReferenceIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinReferenceIdeal.nD Cert.WinReferenceIdeal.τ Cert.WinReferenceIdeal.sig) → Buf (Elt Ideal) ℓ) (g' : Dev Cert.WinReferenceIdeal.nD → PrngReg), Pre_WinIdeal m →
    (∀ c : Dev Cert.WinIdeal.nD,
      m' ((c.tc : Thread Cert.WinReferenceIdeal.nD Cert.WinReferenceIdeal.τ).loc Cert.WinReferenceIdeal.main_arg0) = m ((c.tc : Thread Cert.WinIdeal.nD Cert.WinIdeal.τ).loc Cert.WinIdeal.main_arg0)
      ∧ m' ((c.tc : Thread Cert.WinReferenceIdeal.nD Cert.WinReferenceIdeal.τ).loc Cert.WinReferenceIdeal.main_arg1) = m ((c.tc : Thread Cert.WinIdeal.nD Cert.WinIdeal.τ).loc Cert.WinIdeal.main_arg1)
      ∧ m' ((c.tc : Thread Cert.WinReferenceIdeal.nD Cert.WinReferenceIdeal.τ).loc Cert.WinReferenceIdeal.main_arg2) = m ((c.tc : Thread Cert.WinIdeal.nD Cert.WinIdeal.τ).loc Cert.WinIdeal.main_arg2)) →
    ∃ (v0 : (c : Dev Cert.WinIdeal.nD) → Buf (Elt Ideal) ((c.tc : Thread Cert.WinIdeal.nD Cert.WinIdeal.τ).loc Cert.WinIdeal.main_v12_0)) (v1 : (c : Dev Cert.WinIdeal.nD) → Buf (Elt Ideal) ((c.tc : Thread Cert.WinIdeal.nD Cert.WinIdeal.τ).loc Cert.WinIdeal.main_v14)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v12_0) = v0 c
          ∧ r.2.mem ((c.tc : Thread Cert.WinIdeal.nD Cert.WinIdeal.τ).loc Cert.WinIdeal.main_v14) = v1 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ θ_run (Cert.WinReferenceIdeal.defs (F := Ideal)) (onTc (τ := Cert.WinReferenceIdeal.τ) (Cert.WinReferenceIdeal.main (F := Ideal))) ⟨m', fun _ => 0, g'⟩ (fun r => ∀ c : Dev Cert.WinReferenceIdeal.nD,
          r.2.mem ((c.tc : Thread Cert.WinReferenceIdeal.nD Cert.WinReferenceIdeal.τ).loc Cert.WinReferenceIdeal.main_v29) = v0 c
          ∧ r.2.mem ((c.tc : Thread Cert.WinReferenceIdeal.nD Cert.WinReferenceIdeal.τ).loc Cert.WinReferenceIdeal.main_v30) = v1 c
          ∧ r.2.mem ((c.tc : Thread Cert.WinReferenceIdeal.nD Cert.WinReferenceIdeal.τ).loc Cert.WinReferenceIdeal.main_arg0) = m' ((c.tc : Thread Cert.WinReferenceIdeal.nD Cert.WinReferenceIdeal.τ).loc Cert.WinReferenceIdeal.main_arg0)
          ∧ r.2.mem ((c.tc : Thread Cert.WinReferenceIdeal.nD Cert.WinReferenceIdeal.τ).loc Cert.WinReferenceIdeal.main_arg1) = m' ((c.tc : Thread Cert.WinReferenceIdeal.nD Cert.WinReferenceIdeal.τ).loc Cert.WinReferenceIdeal.main_arg1)
          ∧ r.2.mem ((c.tc : Thread Cert.WinReferenceIdeal.nD Cert.WinReferenceIdeal.τ).loc Cert.WinReferenceIdeal.main_arg2) = m' ((c.tc : Thread Cert.WinReferenceIdeal.nD Cert.WinReferenceIdeal.τ).loc Cert.WinReferenceIdeal.main_arg2))

def preserves_WinSample_WinSampleIdeal : Prop :=
  True

def algebraic_WinSampleIdeal_WinSampleReferenceIdeal [hWinSampleIdeal : Cert.WinSampleIdeal.Facts] [hWinSampleReferenceIdeal : Cert.WinSampleReferenceIdeal.Facts] : Prop :=
  ∀ (m : (ℓ : Loc Cert.WinSampleIdeal.nD Cert.WinSampleIdeal.τ Cert.WinSampleIdeal.sig) → Buf (Elt Ideal) ℓ) (g : Dev Cert.WinSampleIdeal.nD → PrngReg)
    (m' : (ℓ : Loc Cert.WinSampleReferenceIdeal.nD Cert.WinSampleReferenceIdeal.τ Cert.WinSampleReferenceIdeal.sig) → Buf (Elt Ideal) ℓ) (g' : Dev Cert.WinSampleReferenceIdeal.nD → PrngReg), Pre_WinSampleIdeal m →
    (∀ c : Dev Cert.WinSampleIdeal.nD,
      m' ((c.tc : Thread Cert.WinSampleReferenceIdeal.nD Cert.WinSampleReferenceIdeal.τ).loc Cert.WinSampleReferenceIdeal.main_arg0) = m ((c.tc : Thread Cert.WinSampleIdeal.nD Cert.WinSampleIdeal.τ).loc Cert.WinSampleIdeal.main_arg0)
      ∧ m' ((c.tc : Thread Cert.WinSampleReferenceIdeal.nD Cert.WinSampleReferenceIdeal.τ).loc Cert.WinSampleReferenceIdeal.main_arg1) = m ((c.tc : Thread Cert.WinSampleIdeal.nD Cert.WinSampleIdeal.τ).loc Cert.WinSampleIdeal.main_arg1)
      ∧ m' ((c.tc : Thread Cert.WinSampleReferenceIdeal.nD Cert.WinSampleReferenceIdeal.τ).loc Cert.WinSampleReferenceIdeal.main_arg2) = m ((c.tc : Thread Cert.WinSampleIdeal.nD Cert.WinSampleIdeal.τ).loc Cert.WinSampleIdeal.main_arg2)
      ∧ m' ((c.tc : Thread Cert.WinSampleReferenceIdeal.nD Cert.WinSampleReferenceIdeal.τ).loc Cert.WinSampleReferenceIdeal.main_arg3) = m ((c.tc : Thread Cert.WinSampleIdeal.nD Cert.WinSampleIdeal.τ).loc Cert.WinSampleIdeal.main_arg3)) →
    ∃ (v0 : (c : Dev Cert.WinSampleIdeal.nD) → Buf (Elt Ideal) ((c.tc : Thread Cert.WinSampleIdeal.nD Cert.WinSampleIdeal.τ).loc Cert.WinSampleIdeal.main_v12_0)) (v1 : (c : Dev Cert.WinSampleIdeal.nD) → Buf (Elt Ideal) ((c.tc : Thread Cert.WinSampleIdeal.nD Cert.WinSampleIdeal.τ).loc Cert.WinSampleIdeal.main_v19)),
      θ_run (Cert.WinSampleIdeal.defs (F := Ideal)) (onTc (τ := Cert.WinSampleIdeal.τ) (Cert.WinSampleIdeal.main (F := Ideal))) ⟨m, fun _ => 0, g⟩ (fun r => ∀ c : Dev Cert.WinSampleIdeal.nD,
          r.2.mem ((c.tc : Thread Cert.WinSampleIdeal.nD Cert.WinSampleIdeal.τ).loc Cert.WinSampleIdeal.main_v12_0) = v0 c
          ∧ r.2.mem ((c.tc : Thread Cert.WinSampleIdeal.nD Cert.WinSampleIdeal.τ).loc Cert.WinSampleIdeal.main_v19) = v1 c
          ∧ r.2.mem ((c.tc : Thread Cert.WinSampleIdeal.nD Cert.WinSampleIdeal.τ).loc Cert.WinSampleIdeal.main_arg0) = m ((c.tc : Thread Cert.WinSampleIdeal.nD Cert.WinSampleIdeal.τ).loc Cert.WinSampleIdeal.main_arg0)
          ∧ r.2.mem ((c.tc : Thread Cert.WinSampleIdeal.nD Cert.WinSampleIdeal.τ).loc Cert.WinSampleIdeal.main_arg1) = m ((c.tc : Thread Cert.WinSampleIdeal.nD Cert.WinSampleIdeal.τ).loc Cert.WinSampleIdeal.main_arg1)
          ∧ r.2.mem ((c.tc : Thread Cert.WinSampleIdeal.nD Cert.WinSampleIdeal.τ).loc Cert.WinSampleIdeal.main_arg2) = m ((c.tc : Thread Cert.WinSampleIdeal.nD Cert.WinSampleIdeal.τ).loc Cert.WinSampleIdeal.main_arg2)
          ∧ r.2.mem ((c.tc : Thread Cert.WinSampleIdeal.nD Cert.WinSampleIdeal.τ).loc Cert.WinSampleIdeal.main_arg3) = m ((c.tc : Thread Cert.WinSampleIdeal.nD Cert.WinSampleIdeal.τ).loc Cert.WinSampleIdeal.main_arg3))
      ∧ θ_run (Cert.WinSampleReferenceIdeal.defs (F := Ideal)) (onTc (τ := Cert.WinSampleReferenceIdeal.τ) (Cert.WinSampleReferenceIdeal.main (F := Ideal))) ⟨m', fun _ => 0, g'⟩ (fun r => ∀ c : Dev Cert.WinSampleReferenceIdeal.nD,
          r.2.mem ((c.tc : Thread Cert.WinSampleReferenceIdeal.nD Cert.WinSampleReferenceIdeal.τ).loc Cert.WinSampleReferenceIdeal.main_v29) = v0 c
          ∧ r.2.mem ((c.tc : Thread Cert.WinSampleReferenceIdeal.nD Cert.WinSampleReferenceIdeal.τ).loc Cert.WinSampleReferenceIdeal.main_v35) = v1 c
          ∧ r.2.mem ((c.tc : Thread Cert.WinSampleReferenceIdeal.nD Cert.WinSampleReferenceIdeal.τ).loc Cert.WinSampleReferenceIdeal.main_arg0) = m' ((c.tc : Thread Cert.WinSampleReferenceIdeal.nD Cert.WinSampleReferenceIdeal.τ).loc Cert.WinSampleReferenceIdeal.main_arg0)
          ∧ r.2.mem ((c.tc : Thread Cert.WinSampleReferenceIdeal.nD Cert.WinSampleReferenceIdeal.τ).loc Cert.WinSampleReferenceIdeal.main_arg1) = m' ((c.tc : Thread Cert.WinSampleReferenceIdeal.nD Cert.WinSampleReferenceIdeal.τ).loc Cert.WinSampleReferenceIdeal.main_arg1)
          ∧ r.2.mem ((c.tc : Thread Cert.WinSampleReferenceIdeal.nD Cert.WinSampleReferenceIdeal.τ).loc Cert.WinSampleReferenceIdeal.main_arg2) = m' ((c.tc : Thread Cert.WinSampleReferenceIdeal.nD Cert.WinSampleReferenceIdeal.τ).loc Cert.WinSampleReferenceIdeal.main_arg2)
          ∧ r.2.mem ((c.tc : Thread Cert.WinSampleReferenceIdeal.nD Cert.WinSampleReferenceIdeal.τ).loc Cert.WinSampleReferenceIdeal.main_arg3) = m' ((c.tc : Thread Cert.WinSampleReferenceIdeal.nD Cert.WinSampleReferenceIdeal.τ).loc Cert.WinSampleReferenceIdeal.main_arg3))

def preserves_Query_QueryIdeal : Prop :=
  True

def algebraic_QueryIdeal_QueryReferenceIdeal [hQueryIdeal : Cert.QueryIdeal.Facts] [hQueryReferenceIdeal : Cert.QueryReferenceIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryIdeal m →
    (∀ c : Dev Cert.QueryIdeal.nD,
      m' ((c.tc : Thread Cert.QueryReferenceIdeal.nD Cert.QueryReferenceIdeal.τ).loc Cert.QueryReferenceIdeal.main_arg0) = m ((c.tc : Thread Cert.QueryIdeal.nD Cert.QueryIdeal.τ).loc Cert.QueryIdeal.main_arg0)
      ∧ m' ((c.tc : Thread Cert.QueryReferenceIdeal.nD Cert.QueryReferenceIdeal.τ).loc Cert.QueryReferenceIdeal.main_arg1) = m ((c.tc : Thread Cert.QueryIdeal.nD Cert.QueryIdeal.τ).loc Cert.QueryIdeal.main_arg1)
      ∧ m' ((c.tc : Thread Cert.QueryReferenceIdeal.nD Cert.QueryReferenceIdeal.τ).loc Cert.QueryReferenceIdeal.main_arg2) = m ((c.tc : Thread Cert.QueryIdeal.nD Cert.QueryIdeal.τ).loc Cert.QueryIdeal.main_arg2)) →
    ∃ (v0 : (c : Dev Cert.QueryIdeal.nD) → Buf (Elt Ideal) ((c.tc : Thread Cert.QueryIdeal.nD Cert.QueryIdeal.τ).loc Cert.QueryIdeal.main_v7)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v7) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v23) = v0 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1)
          ∧ r.2.mem ((c.tc : Thread Cert.QueryReferenceIdeal.nD Cert.QueryReferenceIdeal.τ).loc Cert.QueryReferenceIdeal.main_arg2) = m' ((c.tc : Thread Cert.QueryReferenceIdeal.nD Cert.QueryReferenceIdeal.τ).loc Cert.QueryReferenceIdeal.main_arg2))

def preserves_RetSample_RetSampleIdeal : Prop :=
  True

def algebraic_RetSampleIdeal_RetSampleReferenceIdeal [hRetSampleIdeal : Cert.RetSampleIdeal.Facts] [hRetSampleReferenceIdeal : Cert.RetSampleReferenceIdeal.Facts] : Prop :=
  ∀ (m : (ℓ : Loc Cert.RetSampleIdeal.nD Cert.RetSampleIdeal.τ Cert.RetSampleIdeal.sig) → Buf (Elt Ideal) ℓ) (g : Dev Cert.RetSampleIdeal.nD → PrngReg)
    (m' : (ℓ : Loc Cert.RetSampleReferenceIdeal.nD Cert.RetSampleReferenceIdeal.τ Cert.RetSampleReferenceIdeal.sig) → Buf (Elt Ideal) ℓ) (g' : Dev Cert.RetSampleReferenceIdeal.nD → PrngReg), Pre_RetSampleIdeal m →
    (∀ c : Dev Cert.RetSampleIdeal.nD,
      m' ((c.tc : Thread Cert.RetSampleReferenceIdeal.nD Cert.RetSampleReferenceIdeal.τ).loc Cert.RetSampleReferenceIdeal.main_arg0) = m ((c.tc : Thread Cert.RetSampleIdeal.nD Cert.RetSampleIdeal.τ).loc Cert.RetSampleIdeal.main_arg0)
      ∧ m' ((c.tc : Thread Cert.RetSampleReferenceIdeal.nD Cert.RetSampleReferenceIdeal.τ).loc Cert.RetSampleReferenceIdeal.main_arg1) = m ((c.tc : Thread Cert.RetSampleIdeal.nD Cert.RetSampleIdeal.τ).loc Cert.RetSampleIdeal.main_arg1)
      ∧ m' ((c.tc : Thread Cert.RetSampleReferenceIdeal.nD Cert.RetSampleReferenceIdeal.τ).loc Cert.RetSampleReferenceIdeal.main_arg2) = m ((c.tc : Thread Cert.RetSampleIdeal.nD Cert.RetSampleIdeal.τ).loc Cert.RetSampleIdeal.main_arg2)) →
    ∃ (v0 : (c : Dev Cert.RetSampleIdeal.nD) → Buf (Elt Ideal) ((c.tc : Thread Cert.RetSampleIdeal.nD Cert.RetSampleIdeal.τ).loc Cert.RetSampleIdeal.main_v59_0)) (v1 : (c : Dev Cert.RetSampleIdeal.nD) → Buf (Elt Ideal) ((c.tc : Thread Cert.RetSampleIdeal.nD Cert.RetSampleIdeal.τ).loc Cert.RetSampleIdeal.main_v59_1)),
      θ_run (Cert.RetSampleIdeal.defs (F := Ideal)) (onTc (τ := Cert.RetSampleIdeal.τ) (Cert.RetSampleIdeal.main (F := Ideal))) ⟨m, fun _ => 0, g⟩ (fun r => ∀ c : Dev Cert.RetSampleIdeal.nD,
          r.2.mem ((c.tc : Thread Cert.RetSampleIdeal.nD Cert.RetSampleIdeal.τ).loc Cert.RetSampleIdeal.main_v59_0) = v0 c
          ∧ r.2.mem ((c.tc : Thread Cert.RetSampleIdeal.nD Cert.RetSampleIdeal.τ).loc Cert.RetSampleIdeal.main_v59_1) = v1 c
          ∧ r.2.mem ((c.tc : Thread Cert.RetSampleIdeal.nD Cert.RetSampleIdeal.τ).loc Cert.RetSampleIdeal.main_arg0) = m ((c.tc : Thread Cert.RetSampleIdeal.nD Cert.RetSampleIdeal.τ).loc Cert.RetSampleIdeal.main_arg0)
          ∧ r.2.mem ((c.tc : Thread Cert.RetSampleIdeal.nD Cert.RetSampleIdeal.τ).loc Cert.RetSampleIdeal.main_arg1) = m ((c.tc : Thread Cert.RetSampleIdeal.nD Cert.RetSampleIdeal.τ).loc Cert.RetSampleIdeal.main_arg1)
          ∧ r.2.mem ((c.tc : Thread Cert.RetSampleIdeal.nD Cert.RetSampleIdeal.τ).loc Cert.RetSampleIdeal.main_arg2) = m ((c.tc : Thread Cert.RetSampleIdeal.nD Cert.RetSampleIdeal.τ).loc Cert.RetSampleIdeal.main_arg2))
      ∧ θ_run (Cert.RetSampleReferenceIdeal.defs (F := Ideal)) (onTc (τ := Cert.RetSampleReferenceIdeal.τ) (Cert.RetSampleReferenceIdeal.main (F := Ideal))) ⟨m', fun _ => 0, g'⟩ (fun r => ∀ c : Dev Cert.RetSampleReferenceIdeal.nD,
          r.2.mem ((c.tc : Thread Cert.RetSampleReferenceIdeal.nD Cert.RetSampleReferenceIdeal.τ).loc Cert.RetSampleReferenceIdeal.main_v100) = v0 c
          ∧ r.2.mem ((c.tc : Thread Cert.RetSampleReferenceIdeal.nD Cert.RetSampleReferenceIdeal.τ).loc Cert.RetSampleReferenceIdeal.main_v79) = v1 c
          ∧ r.2.mem ((c.tc : Thread Cert.RetSampleReferenceIdeal.nD Cert.RetSampleReferenceIdeal.τ).loc Cert.RetSampleReferenceIdeal.main_arg0) = m' ((c.tc : Thread Cert.RetSampleReferenceIdeal.nD Cert.RetSampleReferenceIdeal.τ).loc Cert.RetSampleReferenceIdeal.main_arg0)
          ∧ r.2.mem ((c.tc : Thread Cert.RetSampleReferenceIdeal.nD Cert.RetSampleReferenceIdeal.τ).loc Cert.RetSampleReferenceIdeal.main_arg1) = m' ((c.tc : Thread Cert.RetSampleReferenceIdeal.nD Cert.RetSampleReferenceIdeal.τ).loc Cert.RetSampleReferenceIdeal.main_arg1)
          ∧ r.2.mem ((c.tc : Thread Cert.RetSampleReferenceIdeal.nD Cert.RetSampleReferenceIdeal.τ).loc Cert.RetSampleReferenceIdeal.main_arg2) = m' ((c.tc : Thread Cert.RetSampleReferenceIdeal.nD Cert.RetSampleReferenceIdeal.τ).loc Cert.RetSampleReferenceIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hPle : Cert.Ple.Facts) (hPleIdeal : Cert.PleIdeal.Facts) (hPleReferenceIdeal : Cert.PleReferenceIdeal.Facts) (hPleSample : Cert.PleSample.Facts) (hPleSampleIdeal : Cert.PleSampleIdeal.Facts) (hPleSampleReferenceIdeal : Cert.PleSampleReferenceIdeal.Facts) (hMerge : Cert.Merge.Facts) (hMergeIdeal : Cert.MergeIdeal.Facts) (hMergeReferenceIdeal : Cert.MergeReferenceIdeal.Facts) (hPlain : Cert.Plain.Facts) (hPlainIdeal : Cert.PlainIdeal.Facts) (hPlainReferenceIdeal : Cert.PlainReferenceIdeal.Facts) (hKv : Cert.Kv.Facts) (hKvIdeal : Cert.KvIdeal.Facts) (hKvReferenceIdeal : Cert.KvReferenceIdeal.Facts) (hKvSample : Cert.KvSample.Facts) (hKvSampleIdeal : Cert.KvSampleIdeal.Facts) (hKvSampleReferenceIdeal : Cert.KvSampleReferenceIdeal.Facts) (hWin : Cert.Win.Facts) (hWinIdeal : Cert.WinIdeal.Facts) (hWinReferenceIdeal : Cert.WinReferenceIdeal.Facts) (hWinSample : Cert.WinSample.Facts) (hWinSampleIdeal : Cert.WinSampleIdeal.Facts) (hWinSampleReferenceIdeal : Cert.WinSampleReferenceIdeal.Facts) (hQuery : Cert.Query.Facts) (hQueryIdeal : Cert.QueryIdeal.Facts) (hQueryReferenceIdeal : Cert.QueryReferenceIdeal.Facts) (hRetSample : Cert.RetSample.Facts) (hRetSampleIdeal : Cert.RetSampleIdeal.Facts) (hRetSampleReferenceIdeal : Cert.RetSampleReferenceIdeal.Facts) (hPre_finite_qkv : Cert.Pre_finite_qkv.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Ple (hPle := hPle)
    ∧ quiescent_PleIdeal (hPleIdeal := hPleIdeal)
    ∧ quiescent_PleReferenceIdeal (hPleReferenceIdeal := hPleReferenceIdeal)
    ∧ quiescent_PleSample (hPleSample := hPleSample)
    ∧ quiescent_PleSampleIdeal (hPleSampleIdeal := hPleSampleIdeal)
    ∧ quiescent_PleSampleReferenceIdeal (hPleSampleReferenceIdeal := hPleSampleReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Plain (hPlain := hPlain)
    ∧ quiescent_PlainIdeal (hPlainIdeal := hPlainIdeal)
    ∧ quiescent_PlainReferenceIdeal (hPlainReferenceIdeal := hPlainReferenceIdeal)
    ∧ quiescent_Kv (hKv := hKv)
    ∧ quiescent_KvIdeal (hKvIdeal := hKvIdeal)
    ∧ quiescent_KvReferenceIdeal (hKvReferenceIdeal := hKvReferenceIdeal)
    ∧ quiescent_KvSample (hKvSample := hKvSample)
    ∧ quiescent_KvSampleIdeal (hKvSampleIdeal := hKvSampleIdeal)
    ∧ quiescent_KvSampleReferenceIdeal (hKvSampleReferenceIdeal := hKvSampleReferenceIdeal)
    ∧ quiescent_Win (hWin := hWin)
    ∧ quiescent_WinIdeal (hWinIdeal := hWinIdeal)
    ∧ quiescent_WinReferenceIdeal (hWinReferenceIdeal := hWinReferenceIdeal)
    ∧ quiescent_WinSample (hWinSample := hWinSample)
    ∧ quiescent_WinSampleIdeal (hWinSampleIdeal := hWinSampleIdeal)
    ∧ quiescent_WinSampleReferenceIdeal (hWinSampleReferenceIdeal := hWinSampleReferenceIdeal)
    ∧ quiescent_Query (hQuery := hQuery)
    ∧ quiescent_QueryIdeal (hQueryIdeal := hQueryIdeal)
    ∧ quiescent_QueryReferenceIdeal (hQueryReferenceIdeal := hQueryReferenceIdeal)
    ∧ quiescent_RetSample (hRetSample := hRetSample)
    ∧ quiescent_RetSampleIdeal (hRetSampleIdeal := hRetSampleIdeal)
    ∧ quiescent_RetSampleReferenceIdeal (hRetSampleReferenceIdeal := hRetSampleReferenceIdeal)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_Ffn_FfnIdeal
    ∧ algebraic_FfnIdeal_FfnReferenceIdeal (hFfnIdeal := hFfnIdeal) (hFfnReferenceIdeal := hFfnReferenceIdeal)
    ∧ preserves_Ple_PleIdeal
    ∧ algebraic_PleIdeal_PleReferenceIdeal (hPleIdeal := hPleIdeal) (hPleReferenceIdeal := hPleReferenceIdeal)
    ∧ preserves_PleSample_PleSampleIdeal
    ∧ algebraic_PleSampleIdeal_PleSampleReferenceIdeal (hPleSampleIdeal := hPleSampleIdeal) (hPleSampleReferenceIdeal := hPleSampleReferenceIdeal)
    ∧ preserves_Merge_MergeIdeal
    ∧ algebraic_MergeIdeal_MergeReferenceIdeal (hMergeIdeal := hMergeIdeal) (hMergeReferenceIdeal := hMergeReferenceIdeal)
    ∧ preserves_Plain_PlainIdeal
    ∧ algebraic_PlainIdeal_PlainReferenceIdeal (hPlainIdeal := hPlainIdeal) (hPlainReferenceIdeal := hPlainReferenceIdeal)
    ∧ preserves_Kv_KvIdeal
    ∧ algebraic_KvIdeal_KvReferenceIdeal (hKvIdeal := hKvIdeal) (hKvReferenceIdeal := hKvReferenceIdeal)
    ∧ preserves_KvSample_KvSampleIdeal
    ∧ algebraic_KvSampleIdeal_KvSampleReferenceIdeal (hKvSampleIdeal := hKvSampleIdeal) (hKvSampleReferenceIdeal := hKvSampleReferenceIdeal)
    ∧ preserves_Win_WinIdeal
    ∧ algebraic_WinIdeal_WinReferenceIdeal (hWinIdeal := hWinIdeal) (hWinReferenceIdeal := hWinReferenceIdeal)
    ∧ preserves_WinSample_WinSampleIdeal
    ∧ algebraic_WinSampleIdeal_WinSampleReferenceIdeal (hWinSampleIdeal := hWinSampleIdeal) (hWinSampleReferenceIdeal := hWinSampleReferenceIdeal)
    ∧ preserves_Query_QueryIdeal
    ∧ algebraic_QueryIdeal_QueryReferenceIdeal (hQueryIdeal := hQueryIdeal) (hQueryReferenceIdeal := hQueryReferenceIdeal)
    ∧ preserves_RetSample_RetSampleIdeal
    ∧ algebraic_RetSampleIdeal_RetSampleReferenceIdeal (hRetSampleIdeal := hRetSampleIdeal) (hRetSampleReferenceIdeal := hRetSampleReferenceIdeal)
-- ==== Pre_finite_qkv.lean ====
abbrev S8192x10368 : Shape := ⟨2, ![8192, 10368]⟩
abbrev S1x512 : Shape := ⟨2, ![1, 512]⟩
abbrev S8192x1536 : Shape := ⟨2, ![8192, 1536]⟩
abbrev S_ : Shape := ⟨0, ![]⟩

class Facts : Prop where
  slices_S8192x10368_S8192x1536_0_0 : S8192x10368.Slices ![0, 0] S8192x1536
  bcast_S_S8192x1536 : S_.BroadcastsInDim S8192x1536 (![] : Fin 0 → Fin S8192x1536.rank)
  reducesTo_S8192x1536_S_d0_1 : S8192x1536.ReducesTo [0, 1] S_
  h_S_ : 0 < S_.numel

variable [Facts]

def fn {F : FTy → Type} [FloatOps F] (main_arg0 : FVec F S8192x10368 .f32) (main_arg1 : FVec F S1x512 .f32) : IVec S_ 1 :=
  let main_v0 : FVec F S8192x1536 .f32 := (extractStridedSlice S8192x1536 ![0, 0] · slices_S8192x10368_S8192x1536_0_0) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  let main_c : IVec S_ 1 := constantI S_ 1 1#1
  let main_v4 : IVec S_ 1 := (fun x v => Host.reduce IntOp.andi x v reducesTo_S8192x1536_S_d0_1 h_S_) main_v3 main_c
  main_v4
-- ==== Kernel.lean ====
abbrev S8192x10368 : Shape := ⟨2, ![8192, 10368]⟩
abbrev S1x512 : Shape := ⟨2, ![1, 512]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S1x1x128 : Shape := ⟨3, ![1, 1, 128]⟩
abbrev S1x8x128 : Shape := ⟨3, ![1, 8, 128]⟩
abbrev S4x8x128 : Shape := ⟨3, ![4, 8, 128]⟩
abbrev S8192x512 : Shape := ⟨2, ![8192, 512]⟩
abbrev S4x4x128x128 : Shape := ⟨4, ![4, 4, 128, 128]⟩
abbrev S2048x512 : Shape := ⟨2, ![2048, 512]⟩
abbrev S1x4x128x128 : Shape := ⟨4, ![1, 4, 128, 128]⟩
abbrev S1x1x128x128 : Shape := ⟨4, ![1, 1, 128, 128]⟩

abbrev nBuf : Space → Nat
  | .hbm => 77
  | .vmem => 17
  | .smem => 0
  | _ => 0

abbrev bufTy : (tb : Table) → Fin (tcTables nBuf tb) → BufTy
  | .hbm, ⟨0, _⟩ => ⟨S8192x10368, .f32⟩
  | .hbm, ⟨1, _⟩ => ⟨S1x512, .f32⟩
  | .hbm, ⟨2, _⟩ => ⟨S4, .f32⟩
  | .hbm, ⟨3, _⟩ => ⟨S_, .f32⟩
  | .hbm, ⟨4, _⟩ => ⟨S4, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S128, .f32⟩
  | .hbm, ⟨13, _⟩ => ⟨S128x1, .f32⟩
  | .hbm, ⟨14, _⟩ => ⟨S1x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S_, .f32⟩
  | .hbm, ⟨19, _⟩ => ⟨S128x128, .f32⟩
  | .hbm, ⟨20, _⟩ => ⟨S128x128, .i1⟩
  | .hbm, ⟨21, _⟩ => ⟨S4x1x1, .f32⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S1x128x128, .f32⟩
  | .hbm, ⟨26, _⟩ => ⟨S4x128x128, .f32⟩
  | .hbm, ⟨27, _⟩ => ⟨S4x128x128, .f32⟩
  | .hbm, ⟨28, _⟩ => ⟨S4x128x128, .f32⟩
  | .hbm, ⟨29, _⟩ => ⟨S4x128x128, .f32⟩
  | .hbm, ⟨30, _⟩ => ⟨S_, .f32⟩
  | .hbm, ⟨31, _⟩ => ⟨S_, .f32⟩
  | .hbm, ⟨32, _⟩ => ⟨S4x128x128, .i1⟩
  | .hbm, ⟨33, _⟩ => ⟨S4x128x128, .f32⟩
  | .hbm, ⟨34, _⟩ => ⟨S4x128x128, .f32⟩
  | .hbm, ⟨35, _⟩ => ⟨S4x1, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S1x128, .f32⟩
  | .hbm, ⟨40, _⟩ => ⟨S4x128, .f32⟩
  | .hbm, ⟨41, _⟩ => ⟨S4x128, .f32⟩
  | .hbm, ⟨42, _⟩ => ⟨S4x128, .f32⟩
  | .hbm, ⟨43, _⟩ => ⟨S4x128, .f32⟩
  | .hbm, ⟨44, _⟩ => ⟨S4x128x1, .f32⟩
  | .hbm, ⟨45, _⟩ => ⟨S_, .f32⟩
  | .hbm, ⟨46, _⟩ => ⟨S1x1x128, .f32⟩
  | .hbm, ⟨47, _⟩ => ⟨S4x128x128, .f32⟩
  | .hbm, ⟨48, _⟩ => ⟨S4x128x128, .f32⟩
  | .hbm, ⟨49, _⟩ => ⟨S4x128x128, .f32⟩
  | .hbm, ⟨50, _⟩ => ⟨S4x1, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S1x128, .f32⟩
  | .hbm, ⟨55, _⟩ => ⟨S4x128, .f32⟩
  | .hbm, ⟨56, _⟩ => ⟨S4x128, .f32⟩
  | .hbm, ⟨57, _⟩ => ⟨S4x128, .f32⟩
  | .hbm, ⟨58, _⟩ => ⟨S4x128, .f32⟩
  | .hbm, ⟨59, _⟩ => ⟨S4x128x1, .f32⟩
  | .hbm, ⟨60, _⟩ => ⟨S_, .f32⟩
  | .hbm, ⟨61, _⟩ => ⟨S1x1x128, .f32⟩
  | .hbm, ⟨62, _⟩ => ⟨S4x128x128, .f32⟩
  | .hbm, ⟨63, _⟩ => ⟨S4x128x128, .f32⟩
  | .hbm, ⟨64, _⟩ => ⟨S4x128x128, .f32⟩
  | .hbm, ⟨65, _⟩ => ⟨S_, .f32⟩
  | .hbm, ⟨66, _⟩ => ⟨S4, .f32⟩
  | .hbm, ⟨67, _⟩ => ⟨S4, .f32⟩
  | .hbm, ⟨68, _⟩ => ⟨S4, .f32⟩
  | .hbm, ⟨69, _⟩ => ⟨S4x1x1, .f32⟩
  | .hbm, ⟨70, _⟩ => ⟨S_, .f32⟩
  | .hbm, ⟨71, _⟩ => ⟨S1x8x128, .f32⟩
  | .hbm, ⟨72, _⟩ => ⟨S4x8x128, .f32⟩
  | .hbm, ⟨73, _⟩ => ⟨S4x8x128, .f32⟩
  | .hbm, ⟨74, _⟩ => ⟨S4x8x128, .f32⟩
  | .hbm, ⟨75, _⟩ => ⟨S8192x512, .bf16⟩
  | .hbm, ⟨76, _⟩ => ⟨S4x4x128x128, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S4x128x128, .f32⟩
  | .local _ .vmem, ⟨9, _⟩ => ⟨S4x128x128, .f32⟩
  | .local _ .vmem, ⟨10, _⟩ => ⟨S4x128x128, .f32⟩
  | .local _ .vmem, ⟨11, _⟩ => ⟨S4x8x128, .f32⟩
  | .local _ .vmem, ⟨12, _⟩ => ⟨S1x512, .f32⟩
  | .local _ .vmem, ⟨13, _⟩ => ⟨S2048x512, .bf16⟩
  | .local _ .vmem, ⟨14, _⟩ => ⟨S2048x512, .bf16⟩
  | .local _ .vmem, ⟨15, _⟩ => ⟨S1x4x128x128, .f32⟩
  | .local _ .vmem, ⟨16, _⟩ => ⟨S1x4x128x128, .f32⟩
  | _, _ => ⟨S8192x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59_0 : Ref sig .tc := ⟨.hbm, 75, rfl⟩
abbrev main_v59_1 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32 : BitVec 32 := 128#32
  let v18 : BitVec 32 := Scalar.muli arg12 c128_i32
  v18
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v18 : BitVec 32 := Scalar.muli arg12 c128_i32
  let v19 : BitVec 32 := v18
  let v20 : Index := Scalar.indexCast v19
  let c0_16 : Index := 0#32
  ![v20.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v18 : BitVec 32 := Scalar.muli arg12 c128_i32
  let v19 : BitVec 32 := v18
  let v83 : Index := Scalar.indexCast v19
  let c128 : Index := 128#32
  ![v83.toNat, 128]
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v18 : BitVec 32 := Scalar.muli arg12 c128_i32
  let v19 : BitVec 32 := v18
  let v146 : Index := Scalar.indexCast v19
  let c256 : Index := 256#32
  ![v146.toNat, 256]
def k0_off4 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v18 : BitVec 32 := Scalar.muli arg12 c128_i32
  let v19 : BitVec 32 := v18
  let v209 : Index := Scalar.indexCast v19
  let c384 : Index := 384#32
  ![v209.toNat, 384]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8192x10368 : Shape := ⟨2, ![8192, 10368]⟩
abbrev S1x512 : Shape := ⟨2, ![1, 512]⟩
abbrev S8192x2048 : Shape := ⟨2, ![8192, 2048]⟩
abbrev S4x2048x4x4x128 : Shape := ⟨5, ![4, 2048, 4, 4, 128]⟩
abbrev S_ : Shape := ⟨0, ![]⟩
abbrev S4x4x128x128 : Shape := ⟨4, ![4, 4, 128, 128]⟩
abbrev S4x2048x1x4x128 : Shape := ⟨5, ![4, 2048, 1, 4, 128]⟩
abbrev S4x2048x4x128 : Shape := ⟨4, ![4, 2048, 4, 128]⟩
abbrev S4 : Shape := ⟨1, ![4]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x1x1 : Shape := ⟨3, ![4, 1, 1]⟩
abbrev S1x64x64 : Shape := ⟨3, ![1, 64, 64]⟩
abbrev S4x64x64 : Shape := ⟨3, ![4, 64, 64]⟩
abbrev S4x1 : Shape := ⟨2, ![4, 1]⟩
abbrev S4x64 : Shape := ⟨2, ![4, 64]⟩
abbrev S4x64x1 : Shape := ⟨3, ![4, 64, 1]⟩
abbrev S4x32x64x4x128 : Shape := ⟨5, ![4, 32, 64, 4, 128]⟩
abbrev S32x4x4x64x128 : Shape := ⟨5, ![32, 4, 4, 64, 128]⟩
abbrev S1x4x4x64x128 : Shape := ⟨5, ![1, 4, 4, 64, 128]⟩
abbrev S4x4x64x128 : Shape := ⟨4, ![4, 4, 64, 128]⟩
abbrev S4x4x64x64 : Shape := ⟨4, ![4, 4, 64, 64]⟩
abbrev S1x4x64x64 : Shape := ⟨4, ![1, 4, 64, 64]⟩
abbrev S1x4x64x1 : Shape := ⟨4, ![1, 4, 64, 1]⟩
abbrev S1x4x1x1 : Shape := ⟨4, ![1, 4, 1, 1]⟩
abbrev S4x128 : Shape := ⟨2, ![4, 128]⟩
abbrev S4x2048x4 : Shape := ⟨3, ![4, 2048, 4]⟩
abbrev S4x2048x4x1 : Shape := ⟨4, ![4, 2048, 4, 1]⟩
abbrev S1x1x4x128 : Shape := ⟨4, ![1, 1, 4, 128]⟩
abbrev S8192x512 : Shape := ⟨2, ![8192, 512]⟩

abbrev nBuf : Space → Nat
  | .hbm => 171
  | .vmem => 0
  | .smem => 0
  | _ => 0

abbrev hbmTy0_0 (i : Nat) : BufTy := match i % 128 with
  | 0 => ⟨S8192x10368, .f32⟩
  | 1 => ⟨S1x512, .f32⟩
  | 2 => ⟨S8192x2048, .f32⟩
  | 3 => ⟨S4x2048x4x4x128, .f32⟩
  | 4 => ⟨S_, .f32⟩
  | 5 => ⟨S4x4x128x128, .f32⟩
  | 6 => ⟨S4x2048x1x4x128, .f32⟩
  | 7 => ⟨S4x2048x4x128, .f32⟩
  | 8 => ⟨S4x2048x1x4x128, .f32⟩
  | 9 => ⟨S4x2048x4x128, .f32⟩
  | 10 => ⟨S_, .f32⟩
  | 11 => ⟨S4x2048x4x128, .f32⟩
  | 12 => ⟨S4x2048x4x128, .f32⟩
  | 13 => ⟨S4x2048x1x4x128, .f32⟩
  | 14 => ⟨S4x2048x4x128, .f32⟩
  | 15 => ⟨S4, .f32⟩
  | 16 => ⟨S_, .f32⟩
  | 17 => ⟨S4, .f32⟩
  | 18 => ⟨S4, .f32⟩
  | 19 => ⟨S_, .f32⟩
  | 20 => ⟨S4, .f32⟩
  | 21 => ⟨S4, .f32⟩
  | 22 => ⟨S4, .f32⟩
  | 23 => ⟨S4, .f32⟩
  | 24 => ⟨S4, .f32⟩
  | 25 => ⟨S64, .f32⟩
  | 26 => ⟨S64x1, .f32⟩
  | 27 => ⟨S1x64, .f32⟩
  | 28 => ⟨S64x64, .f32⟩
  | 29 => ⟨S64x64, .f32⟩
  | 30 => ⟨S64x64, .f32⟩
  | 31 => ⟨S_, .f32⟩
  | 32 => ⟨S64x64, .f32⟩
  | 33 => ⟨S64x64, .i1⟩
  | 34 => ⟨S4x1x1, .f32⟩
  | 35 => ⟨S_, .f32⟩
  | 36 => ⟨S64x64, .f32⟩
  | 37 => ⟨S64x64, .f32⟩
  | 38 => ⟨S1x64x64, .f32⟩
  | 39 => ⟨S4x64x64, .f32⟩
  | 40 => ⟨S4x64x64, .f32⟩
  | 41 => ⟨S4x64x64, .f32⟩
  | 42 => ⟨S4x64x64, .f32⟩
  | 43 => ⟨S_, .f32⟩
  | 44 => ⟨S_, .f32⟩
  | 45 => ⟨S4x64x64, .i1⟩
  | 46 => ⟨S4x64x64, .f32⟩
  | 47 => ⟨S4x64x64, .f32⟩
  | 48 => ⟨S4x1, .f32⟩
  | 49 => ⟨S_, .f32⟩
  | 50 => ⟨S64, .f32⟩
  | 51 => ⟨S64, .f32⟩
  | 52 => ⟨S1x64, .f32⟩
  | 53 => ⟨S4x64, .f32⟩
  | 54 => ⟨S4x64, .f32⟩
  | 55 => ⟨S4x64, .f32⟩
  | 56 => ⟨S4x64, .f32⟩
  | 57 => ⟨S4x64x1, .f32⟩
  | 58 => ⟨S4x1, .f32⟩
  | 59 => ⟨S_, .f32⟩
  | 60 => ⟨S64, .f32⟩
  | 61 => ⟨S64, .f32⟩
  | 62 => ⟨S1x64, .f32⟩
  | 63 => ⟨S4x64, .f32⟩
  | 64 => ⟨S4x64, .f32⟩
  | 65 => ⟨S4x64, .f32⟩
  | 66 => ⟨S4x64, .f32⟩
  | 67 => ⟨S4x64x1, .f32⟩
  | 68 => ⟨S_, .f32⟩
  | 69 => ⟨S4, .f32⟩
  | 70 => ⟨S4, .f32⟩
  | 71 => ⟨S4, .f32⟩
  | 72 => ⟨S4x1x1, .f32⟩
  | 73 => ⟨S4x32x64x4x128, .f32⟩
  | 74 => ⟨S32x4x4x64x128, .f32⟩
  | 75 => ⟨S4x32x64x4x128, .f32⟩
  | 76 => ⟨S32x4x4x64x128, .f32⟩
  | 77 => ⟨S4x32x64x4x128, .f32⟩
  | 78 => ⟨S32x4x4x64x128, .f32⟩
  | 79 => ⟨S_, .f32⟩
  | 80 => ⟨S32x4x4x64x128, .f32⟩
  | 81 => ⟨S_, .i32⟩
  | 82 => ⟨S32x4x4x64x128, .f32⟩
  | 83 => ⟨S32x4x4x64x128, .f32⟩
  | 84 => ⟨S32x4x4x64x128, .f32⟩
  | 85 => ⟨S4x64x64, .f32⟩
  | 86 => ⟨S4x64x1, .f32⟩
  | 87 => ⟨S4x1x1, .f32⟩
  | 88 => ⟨S4x64x1, .f32⟩
  | 89 => ⟨S_, .i32⟩
  | 90 => ⟨S4x4x128x128, .f32⟩
  | 91 => ⟨S32x4x4x64x128, .f32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S1x4x4x64x128, .f32⟩
  | 99 => ⟨S4x4x64x128, .f32⟩
  | 100 => ⟨S_, .i32⟩
  | 101 => ⟨S_, .i32⟩
  | 102 => ⟨S_, .i32⟩
  | 103 => ⟨S_, .i32⟩
  | 104 => ⟨S1x4x4x64x128, .f32⟩
  | 105 => ⟨S4x4x64x128, .f32⟩
  | 106 => ⟨S_, .i32⟩
  | 107 => ⟨S_, .i32⟩
  | 108 => ⟨S_, .i32⟩
  | 109 => ⟨S_, .i32⟩
  | 110 => ⟨S1x4x4x64x128, .f32⟩
  | 111 => ⟨S4x4x64x128, .f32⟩
  | 112 => ⟨S4x4x64x64, .f32⟩
  | 113 => ⟨S1x4x64x64, .f32⟩
  | 114 => ⟨S4x4x64x64, .f32⟩
  | 115 => ⟨S4x4x64x64, .f32⟩
  | 116 => ⟨S4x4x64x128, .f32⟩
  | 117 => ⟨S1x4x64x1, .f32⟩
  | 118 => ⟨S4x4x64x128, .f32⟩
  | 119 => ⟨S4x4x64x128, .f32⟩
  | 120 => ⟨S4x4x64x128, .f32⟩
  | 121 => ⟨S4x4x64x128, .f32⟩
  | 122 => ⟨S1x4x1x1, .f32⟩
  | 123 => ⟨S4x4x128x128, .f32⟩
  | 124 => ⟨S4x4x128x128, .f32⟩
  | 125 => ⟨S1x4x64x1, .f32⟩
  | 126 => ⟨S4x4x64x128, .f32⟩
  | 127 => ⟨S4x4x64x128, .f32⟩
  | _ => ⟨S8192x10368, .f32⟩

abbrev hbmTy0_1 (i : Nat) : BufTy := match i % 128 with
  | 0 => ⟨S4x4x128x128, .f32⟩
  | 1 => ⟨S4x4x128x128, .f32⟩
  | 2 => ⟨S1x4x4x64x128, .f32⟩
  | 3 => ⟨S_, .i32⟩
  | 4 => ⟨S_, .i32⟩
  | 5 => ⟨S_, .i32⟩
  | 6 => ⟨S_, .i32⟩
  | 7 => ⟨S32x4x4x64x128, .f32⟩
  | 8 => ⟨S_, .i32⟩
  | 9 => ⟨S_, .i32⟩
  | 10 => ⟨S4x32x64x4x128, .f32⟩
  | 11 => ⟨S4x2048x4x128, .f32⟩
  | 12 => ⟨S4x128, .f32⟩
  | 13 => ⟨S4x2048x4x128, .f32⟩
  | 14 => ⟨S_, .f32⟩
  | 15 => ⟨S4x2048x4, .f32⟩
  | 16 => ⟨S4x2048x4x1, .f32⟩
  | 17 => ⟨S_, .f32⟩
  | 18 => ⟨S4x2048x4x1, .f32⟩
  | 19 => ⟨S4x2048x4x1, .f32⟩
  | 20 => ⟨S_, .f32⟩
  | 21 => ⟨S4x2048x4x1, .f32⟩
  | 22 => ⟨S4x2048x4x1, .f32⟩
  | 23 => ⟨S4x2048x4x1, .f32⟩
  | 24 => ⟨S4x2048x4x128, .f32⟩
  | 25 => ⟨S4x2048x4x128, .f32⟩
  | 26 => ⟨S1x1x4x128, .f32⟩
  | 27 => ⟨S4x2048x4x128, .f32⟩
  | 28 => ⟨S4x2048x4x128, .f32⟩
  | 29 => ⟨S4x2048x1x4x128, .f32⟩
  | 30 => ⟨S4x2048x4x128, .f32⟩
  | 31 => ⟨S4x2048x4x128, .f32⟩
  | 32 => ⟨S4x2048x4x128, .f32⟩
  | 33 => ⟨S_, .f32⟩
  | 34 => ⟨S4x2048x4x128, .f32⟩
  | 35 => ⟨S4x2048x4x128, .f32⟩
  | 36 => ⟨S_, .f32⟩
  | 37 => ⟨S4x2048x4x128, .f32⟩
  | 38 => ⟨S4x2048x4x128, .f32⟩
  | 39 => ⟨S4x2048x4x128, .f32⟩
  | 40 => ⟨S4x2048x4x128, .f32⟩
  | 41 => ⟨S8192x512, .f32⟩
  | 42 => ⟨S8192x512, .bf16⟩
  | _ => ⟨S8192x10368, .f32⟩

abbrev hbmTy (i : Nat) : BufTy := match i / 128 with
  | 0 => hbmTy0_0 i
  | 1 => hbmTy0_1 i
  | _ => ⟨S8192x10368, .f32⟩

abbrev bufTy : (tb : Table) → Fin (tcTables nBuf tb) → BufTy
  | .hbm, ⟨i, _⟩ => hbmTy i
  | _, _ => ⟨S8192x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_4 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_5 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_9 : Ref sig .tc := ⟨.hbm, 79, rfl⟩
abbrev main_v64 : Ref sig .tc := ⟨.hbm, 80, rfl⟩
abbrev main_c : Ref sig .tc := ⟨.hbm, 81, rfl⟩
abbrev main_v65_0 : Ref sig .tc := ⟨.hbm, 82, rfl⟩
abbrev main_v65_1 : Ref sig .tc := ⟨.hbm, 83, rfl⟩
abbrev main_v65_2 : Ref sig .tc := ⟨.hbm, 84, rfl⟩
abbrev main_v65_3 : Ref sig .tc := ⟨.hbm, 85, rfl⟩
abbrev main_v65_4 : Ref sig .tc := ⟨.hbm, 86, rfl⟩
abbrev main_v65_5 : Ref sig .tc := ⟨.hbm, 87, rfl⟩
abbrev main_v65_6 : Ref sig .tc := ⟨.hbm, 88, rfl⟩
abbrev main_v65_7 : Ref sig .tc := ⟨.hbm, 89, rfl⟩
abbrev main_v65_8 : Ref sig .tc := ⟨.hbm, 90, rfl⟩
abbrev main_v65_9 : Ref sig .tc := ⟨.hbm, 91, rfl⟩
abbrev main_while0c_c_22 : Ref sig .tc := ⟨.hbm, 92, rfl⟩
abbrev main_while0c_v88 : Ref sig .tc := ⟨.hbm, 93, rfl⟩
abbrev main_while0b_call1_c : Ref sig .tc := ⟨.hbm, 94, rfl⟩
abbrev main_while0b_call1_c_0 : Ref sig .tc := ⟨.hbm, 95, rfl⟩
abbrev main_while0b_call1_c_1 : Ref sig .tc := ⟨.hbm, 96, rfl⟩
abbrev main_while0b_call1_c_2 : Ref sig .tc := ⟨.hbm, 97, rfl⟩
abbrev main_while0b_call1_v0 : Ref sig .tc := ⟨.hbm, 98, rfl⟩
abbrev main_while0b_v88 : Ref sig .tc := ⟨.hbm, 99, rfl⟩
abbrev main_while0b_call2_c : Ref sig .tc := ⟨.hbm, 100, rfl⟩
abbrev main_while0b_call2_c_0 : Ref sig .tc := ⟨.hbm, 101, rfl⟩
abbrev main_while0b_call2_c_1 : Ref sig .tc := ⟨.hbm, 102, rfl⟩
abbrev main_while0b_call2_c_2 : Ref sig .tc := ⟨.hbm, 103, rfl⟩
abbrev main_while0b_call2_v0 : Ref sig .tc := ⟨.hbm, 104, rfl⟩
abbrev main_while0b_v89 : Ref sig .tc := ⟨.hbm, 105, rfl⟩
abbrev main_while0b_call3_c : Ref sig .tc := ⟨.hbm, 106, rfl⟩
abbrev main_while0b_call3_c_0 : Ref sig .tc := ⟨.hbm, 107, rfl⟩
abbrev main_while0b_call3_c_1 : Ref sig .tc := ⟨.hbm, 108, rfl⟩
abbrev main_while0b_call3_c_2 : Ref sig .tc := ⟨.hbm, 109, rfl⟩
abbrev main_while0b_call3_v0 : Ref sig .tc := ⟨.hbm, 110, rfl⟩
abbrev main_while0b_v90 : Ref sig .tc := ⟨.hbm, 111, rfl⟩
abbrev main_while0b_v91 : Ref sig .tc := ⟨.hbm, 112, rfl⟩
abbrev main_while0b_v92 : Ref sig .tc := ⟨.hbm, 113, rfl⟩
abbrev main_while0b_v93 : Ref sig .tc := ⟨.hbm, 114, rfl⟩
abbrev main_while0b_v94 : Ref sig .tc := ⟨.hbm, 115, rfl⟩
abbrev main_while0b_v95 : Ref sig .tc := ⟨.hbm, 116, rfl⟩
abbrev main_while0b_v96 : Ref sig .tc := ⟨.hbm, 117, rfl⟩
abbrev main_while0b_v97 : Ref sig .tc := ⟨.hbm, 118, rfl⟩
abbrev main_while0b_v98 : Ref sig .tc := ⟨.hbm, 119, rfl⟩
abbrev main_while0b_v99 : Ref sig .tc := ⟨.hbm, 120, rfl⟩
abbrev main_while0b_v100 : Ref sig .tc := ⟨.hbm, 121, rfl⟩
abbrev main_while0b_v101 : Ref sig .tc := ⟨.hbm, 122, rfl⟩
abbrev main_while0b_v102 : Ref sig .tc := ⟨.hbm, 123, rfl⟩
abbrev main_while0b_v103 : Ref sig .tc := ⟨.hbm, 124, rfl⟩
abbrev main_while0b_v104 : Ref sig .tc := ⟨.hbm, 125, rfl⟩
abbrev main_while0b_v105 : Ref sig .tc := ⟨.hbm, 126, rfl⟩
abbrev main_while0b_v106 : Ref sig .tc := ⟨.hbm, 127, rfl⟩
abbrev main_while0b_v107 : Ref sig .tc := ⟨.hbm, 128, rfl⟩
abbrev main_while0b_v108 : Ref sig .tc := ⟨.hbm, 129, rfl⟩
abbrev main_while0b_call4_v0 : Ref sig .tc := ⟨.hbm, 130, rfl⟩
abbrev main_while0b_call4_c : Ref sig .tc := ⟨.hbm, 131, rfl⟩
abbrev main_while0b_call4_c_0 : Ref sig .tc := ⟨.hbm, 132, rfl⟩
abbrev main_while0b_call4_c_1 : Ref sig .tc := ⟨.hbm, 133, rfl⟩
abbrev main_while0b_call4_c_2 : Ref sig .tc := ⟨.hbm, 134, rfl⟩
abbrev main_while0b_v109 : Ref sig .tc := ⟨.hbm, 135, rfl⟩
abbrev main_while0b_c_22 : Ref sig .tc := ⟨.hbm, 136, rfl⟩
abbrev main_while0b_v110 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_cst_10 : Ref sig .tc := ⟨.hbm, 142, rfl⟩
abbrev main_v70 : Ref sig .tc := ⟨.hbm, 143, rfl⟩
abbrev main_v71 : Ref sig .tc := ⟨.hbm, 144, rfl⟩
abbrev main_cst_11 : Ref sig .tc := ⟨.hbm, 145, rfl⟩
abbrev main_v72 : Ref sig .tc := ⟨.hbm, 146, rfl⟩
abbrev main_v73 : Ref sig .tc := ⟨.hbm, 147, rfl⟩
abbrev main_cst_12 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_call5_v0 : Ref sig .tc := ⟨.hbm, 159, rfl⟩
abbrev main_call5_v1 : Ref sig .tc := ⟨.hbm, 160, rfl⟩
abbrev main_call5_cst : Ref sig .tc := ⟨.hbm, 161, rfl⟩
abbrev main_call5_v2 : Ref sig .tc := ⟨.hbm, 162, rfl⟩
abbrev main_call5_v3 : Ref sig .tc := ⟨.hbm, 163, rfl⟩
abbrev main_call5_cst_0 : Ref sig .tc := ⟨.hbm, 164, rfl⟩
abbrev main_call5_v4 : Ref sig .tc := ⟨.hbm, 165, rfl⟩
abbrev main_call5_v5 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩

abbrev nD : Nat := 1
abbrev τ : Topo := Topo.v7x

variable {F : FTy → Type} [FloatOps F]

abbrev main_while0_count : Scf.Loop 32 := ⟨0#32, 32#32, 1#32⟩
-- ==== Ffn.lean ====
abbrev S8192x2048 : Shape := ⟨2, ![8192, 2048]⟩
abbrev S1x2048 : Shape := ⟨2, ![1, 2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 8
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S8192x2048, .f32⟩
  | .hbm, ⟨7, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v25 : BitVec 1 := Scalar.cmpi .eq arg1 c10_i32
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnReferenceIdeal.lean ====
abbrev S8192x2048 : Shape := ⟨2, ![8192, 2048]⟩
abbrev S1x2048 : Shape := ⟨2, ![1, 2048]⟩
abbrev S2048x5632 : Shape := ⟨2, ![2048, 5632]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S_, .f32⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Ple.lean ====
abbrev S8192x2048 : Shape := ⟨2, ![8192, 2048]⟩
abbrev S4x2048x256 : Shape := ⟨3, ![4, 2048, 256]⟩
abbrev S4x2048x2048 : Shape := ⟨3, ![4, 2048, 2048]⟩
abbrev S4x256x2048 : Shape := ⟨3, ![4, 256, 2048]⟩
abbrev S8192x256 : Shape := ⟨2, ![8192, 256]⟩
abbrev S512x2048 : Shape := ⟨2, ![512, 2048]⟩
abbrev S512x256 : Shape := ⟨2, ![512, 256]⟩
abbrev S1x2048x2048 : Shape := ⟨3, ![1, 2048, 2048]⟩
abbrev S1x256x2048 : Shape := ⟨3, ![1, 256, 2048]⟩
abbrev S2048x2048 : Shape := ⟨2, ![2048, 2048]⟩
abbrev S256x2048 : Shape := ⟨2, ![256, 2048]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S4x2048x256, .f32⟩
  | .hbm, ⟨3, _⟩ => ⟨S4x2048x2048, .bf16⟩
  | .hbm, ⟨4, _⟩ => ⟨S4x256x2048, .bf16⟩
  | .hbm, ⟨5, _⟩ => ⟨S8192x256, .f32⟩
  | .hbm, ⟨6, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S1x2048x2048, .bf16⟩
  | .local _ .vmem, ⟨7, _⟩ => ⟨S1x256x2048, .bf16⟩
  | .local _ .vmem, ⟨8, _⟩ => ⟨S512x2048, .f32⟩
  | .local _ .vmem, ⟨9, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PleReferenceIdeal.lean ====
abbrev S8192x2048 : Shape := ⟨2, ![8192, 2048]⟩
abbrev S4x2048x256 : Shape := ⟨3, ![4, 2048, 256]⟩
abbrev S4x2048x2048 : Shape := ⟨3, ![4, 2048, 2048]⟩
abbrev S4x256x2048 : Shape := ⟨3, ![4, 256, 2048]⟩
abbrev S1x2048x2048 : Shape := ⟨3, ![1, 2048, 2048]⟩
abbrev S2048x2048 : Shape := ⟨2, ![2048, 2048]⟩
abbrev S_ : Shape := ⟨0, ![]⟩
abbrev S1x256x2048 : Shape := ⟨3, ![1, 256, 2048]⟩
abbrev S256x2048 : Shape := ⟨2, ![256, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S4x2048x256, .f32⟩
  | .hbm, ⟨3, _⟩ => ⟨S4x2048x2048, .bf16⟩
  | .hbm, ⟨4, _⟩ => ⟨S4x256x2048, .bf16⟩
  | .hbm, ⟨5, _⟩ => ⟨S4x2048x2048, .f32⟩
  | .hbm, ⟨6, _⟩ => ⟨S8192x2048, .f32⟩
  | .hbm, ⟨7, _⟩ => ⟨S4x2048x2048, .f32⟩
  | .hbm, ⟨8, _⟩ => ⟨S1x2048x2048, .bf16⟩
  | .hbm, ⟨9, _⟩ => ⟨S2048x2048, .bf16⟩
  | .hbm, ⟨10, _⟩ => ⟨S2048x2048, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2048x2048, .f32⟩
  | .hbm, ⟨16, _⟩ => ⟨S4x2048x2048, .f32⟩
  | .hbm, ⟨17, _⟩ => ⟨S_, .f32⟩
  | .hbm, ⟨18, _⟩ => ⟨S4x2048x2048, .f32⟩
  | .hbm, ⟨19, _⟩ => ⟨S4x2048x2048, .f32⟩
  | .hbm, ⟨20, _⟩ => ⟨S1x256x2048, .bf16⟩
  | .hbm, ⟨21, _⟩ => ⟨S256x2048, .bf16⟩
  | .hbm, ⟨22, _⟩ => ⟨S256x2048, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== PleSample.lean ====
abbrev S64x2048 : Shape := ⟨2, ![64, 2048]⟩
abbrev S8x8x256 : Shape := ⟨3, ![8, 8, 256]⟩
abbrev S4x2048x2048 : Shape := ⟨3, ![4, 2048, 2048]⟩
abbrev S4x256x2048 : Shape := ⟨3, ![4, 256, 2048]⟩
abbrev S64x256 : Shape := ⟨2, ![64, 256]⟩
abbrev S1x2048x2048 : Shape := ⟨3, ![1, 2048, 2048]⟩
abbrev S1x256x2048 : Shape := ⟨3, ![1, 256, 2048]⟩
abbrev S2048x2048 : Shape := ⟨2, ![2048, 2048]⟩
abbrev S256x2048 : Shape := ⟨2, ![256, 2048]⟩

abbrev nBuf : Space → Nat
  | .hbm => 7
  | .vmem => 6
  | .smem => 0
  | _ => 0

abbrev bufTy : (tb : Table) → Fin (tcTables nBuf tb) → BufTy
  | .hbm, ⟨0, _⟩ => ⟨S64x2048, .f32⟩
  | .hbm, ⟨1, _⟩ => ⟨S64x2048, .bf16⟩
  | .hbm, ⟨2, _⟩ => ⟨S8x8x256, .f32⟩
  | .hbm, ⟨3, _⟩ => ⟨S4x2048x2048, .bf16⟩
  | .hbm, ⟨4, _⟩ => ⟨S4x256x2048, .bf16⟩
  | .hbm, ⟨5, _⟩ => ⟨S64x256, .f32⟩
  | .hbm, ⟨6, _⟩ => ⟨S64x2048, .f32⟩
  | .local _ .vmem, ⟨0, _⟩ => ⟨S64x2048, .f32⟩
  | .local _ .vmem, ⟨1, _⟩ => ⟨S64x2048, .bf16⟩
  | .local _ .vmem, ⟨2, _⟩ => ⟨S64x256, .f32⟩
  | .local _ .vmem, ⟨3, _⟩ => ⟨S1x2048x2048, .bf16⟩
  | .local _ .vmem, ⟨4, _⟩ => ⟨S1x256x2048, .bf16⟩
  | .local _ .vmem, ⟨5, _⟩ => ⟨S64x2048, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== PleSampleReferenceIdeal.lean ====
abbrev S64x2048 : Shape := ⟨2, ![64, 2048]⟩
abbrev S8x8x256 : Shape := ⟨3, ![8, 8, 256]⟩
abbrev S4x2048x2048 : Shape := ⟨3, ![4, 2048, 2048]⟩
abbrev S4x256x2048 : Shape := ⟨3, ![4, 256, 2048]⟩
abbrev S8x8x2048 : Shape := ⟨3, ![8, 8, 2048]⟩
abbrev S1x2048x2048 : Shape := ⟨3, ![1, 2048, 2048]⟩
abbrev S2048x2048 : Shape := ⟨2, ![2048, 2048]⟩
abbrev S_ : Shape := ⟨0, ![]⟩
abbrev S1x256x2048 : Shape := ⟨3, ![1, 256, 2048]⟩
abbrev S256x2048 : Shape := ⟨2, ![256, 2048]⟩

abbrev nBuf : Space → Nat
  | .hbm => 27
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S64x2048, .bf16⟩
  | .hbm, ⟨2, _⟩ => ⟨S8x8x256, .f32⟩
  | .hbm, ⟨3, _⟩ => ⟨S4x2048x2048, .bf16⟩
  | .hbm, ⟨4, _⟩ => ⟨S4x256x2048, .bf16⟩
  | .hbm, ⟨5, _⟩ => ⟨S8x8x2048, .f32⟩
  | .hbm, ⟨6, _⟩ => ⟨S64x2048, .f32⟩
  | .hbm, ⟨7, _⟩ => ⟨S8x8x2048, .f32⟩
  | .hbm, ⟨8, _⟩ => ⟨S1x2048x2048, .bf16⟩
  | .hbm, ⟨9, _⟩ => ⟨S2048x2048, .bf16⟩
  | .hbm, ⟨10, _⟩ => ⟨S2048x2048, .f32⟩
  | .hbm, ⟨11, _⟩ => ⟨S8x8x2048, .f32⟩
  | .hbm, ⟨12, _⟩ => ⟨S8x8x2048, .f32⟩
  | .hbm, ⟨13, _⟩ => ⟨S8x8x2048, .f32⟩
  | .hbm, ⟨14, _⟩ => ⟨S_, .f32⟩
  | .hbm, ⟨15, _⟩ => ⟨S8x8x2048, .f32⟩
  | .hbm, ⟨16, _⟩ => ⟨S8x8x2048, .f32⟩
  | .hbm, ⟨17, _⟩ => ⟨S_, .f32⟩
  | .hbm, ⟨18, _⟩ => ⟨S8x8x2048, .f32⟩
  | .hbm, ⟨19, _⟩ => ⟨S8x8x2048, .f32⟩
  | .hbm, ⟨20, _⟩ => ⟨S1x256x2048, .bf16⟩
  | .hbm, ⟨21, _⟩ => ⟨S256x2048, .bf16⟩
  | .hbm, ⟨22, _⟩ => ⟨S256x2048, .f32⟩
  | .hbm, ⟨23, _⟩ => ⟨S8x8x2048, .f32⟩
  | .hbm, ⟨24, _⟩ => ⟨S8x8x2048, .f32⟩
  | .hbm, ⟨25, _⟩ => ⟨S8x8x2048, .f32⟩
  | .hbm, ⟨26, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Merge.lean ====
abbrev S8192x1024 : Shape := ⟨2, ![8192, 1024]⟩
abbrev S8192x512 : Shape := ⟨2, ![8192, 512]⟩
abbrev S8192x10368 : Shape := ⟨2, ![8192, 10368]⟩
abbrev S8192x2048 : Shape := ⟨2, ![8192, 2048]⟩
abbrev S4x2048x2048 : Shape := ⟨3, ![4, 2048, 2048]⟩
abbrev S256x1024 : Shape := ⟨2, ![256, 1024]⟩
abbrev S256x512 : Shape := ⟨2, ![256, 512]⟩
abbrev S256x2048 : Shape := ⟨2, ![256, 2048]⟩
abbrev S1x2048x2048 : Shape := ⟨3, ![1, 2048, 2048]⟩
abbrev S1x1024x2048 : Shape := ⟨3, ![1, 1024, 2048]⟩
abbrev S1024x2048 : Shape := ⟨2, ![1024, 2048]⟩
abbrev S1x512x2048 : Shape := ⟨3, ![1, 512, 2048]⟩
abbrev S512x2048 : Shape := ⟨2, ![512, 2048]⟩
abbrev S2048x2048 : Shape := ⟨2, ![2048, 2048]⟩

abbrev nBuf : Space → Nat
  | .hbm => 8
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x10368, .f32⟩
  | .hbm, ⟨4, _⟩ => ⟨S8192x2048, .f32⟩
  | .hbm, ⟨5, _⟩ => ⟨S4x2048x2048, .bf16⟩
  | .hbm, ⟨6, _⟩ => ⟨S4x2048x2048, .bf16⟩
  | .hbm, ⟨7, _⟩ => ⟨S8192x2048, .f32⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S1x2048x2048, .bf16⟩
  | .local _ .vmem, ⟨15, _⟩ => ⟨S1x2048x2048, .bf16⟩
  | .local _ .vmem, ⟨16, _⟩ => ⟨S256x2048, .f32⟩
  | .local _ .vmem, ⟨17, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeReferenceIdeal.lean ====
abbrev S8192x1024 : Shape := ⟨2, ![8192, 1024]⟩
abbrev S8192x512 : Shape := ⟨2, ![8192, 512]⟩
abbrev S8192x10368 : Shape := ⟨2, ![8192, 10368]⟩
abbrev S8192x2048 : Shape := ⟨2, ![8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S8192x6144 : Shape := ⟨2, ![8192, 6144]⟩
abbrev S8192x3x2048 : Shape := ⟨3, ![8192, 3, 2048]⟩
abbrev S_ : Shape := ⟨0, ![]⟩
abbrev S1024x2048 : Shape := ⟨2, ![1024, 2048]⟩
abbrev S512x2048 : Shape := ⟨2, ![512, 2048]⟩
abbrev S8192x1x2048 : Shape := ⟨3, ![8192, 1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x10368, .f32⟩
  | .hbm, ⟨4, _⟩ => ⟨S8192x2048, .f32⟩
  | .hbm, ⟨5, _⟩ => ⟨S4x2048x2048, .bf16⟩
  | .hbm, ⟨6, _⟩ => ⟨S4x2048x2048, .bf16⟩
  | .hbm, ⟨7, _⟩ => ⟨S1x2048x2048, .bf16⟩
  | .hbm, ⟨8, _⟩ => ⟨S2048x2048, .bf16⟩
  | .hbm, ⟨9, _⟩ => ⟨S2048x2048, .f32⟩
  | .hbm, ⟨10, _⟩ => ⟨S8192x6144, .f32⟩
  | .hbm, ⟨11, _⟩ => ⟨S8192x3x2048, .f32⟩
  | .hbm, ⟨12, _⟩ => ⟨S8192x3x2048, .f32⟩
  | .hbm, ⟨13, _⟩ => ⟨S8192x3x2048, .f32⟩
  | .hbm, ⟨14, _⟩ => ⟨S_, .f32⟩
  | .hbm, ⟨15, _⟩ => ⟨S8192x3x2048, .f32⟩
  | .hbm, ⟨16, _⟩ => ⟨S8192x3x2048, .f32⟩
  | .hbm, ⟨17, _⟩ => ⟨S_, .f32⟩
  | .hbm, ⟨18, _⟩ => ⟨S8192x3x2048, .f32⟩
  | .hbm, ⟨19, _⟩ => ⟨S8192x3x2048, .f32⟩
  | .hbm, ⟨20, _⟩ => ⟨S8192x1024, .f32⟩
  | .hbm, ⟨21, _⟩ => ⟨S1024x2048, .f32⟩
  | .hbm, ⟨22, _⟩ => ⟨S8192x2048, .f32⟩
  | .hbm, ⟨23, _⟩ => ⟨S8192x512, .f32⟩
  | .hbm, ⟨24, _⟩ => ⟨S512x2048, .f32⟩
  | .hbm, ⟨25, _⟩ => ⟨S8192x2048, .f32⟩
  | .hbm, ⟨26, _⟩ => ⟨S8192x512, .f32⟩
  | .hbm, ⟨27, _⟩ => ⟨S512x2048, .f32⟩
  | .hbm, ⟨28, _⟩ => ⟨S8192x2048, .f32⟩
  | .hbm, ⟨29, _⟩ => ⟨S8192x1x2048, .f32⟩
  | .hbm, ⟨30, _⟩ => ⟨S8192x2048, .f32⟩
  | .hbm, ⟨31, _⟩ => ⟨S8192x2048, .f32⟩
  | .hbm, ⟨32, _⟩ => ⟨S8192x1x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x1x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S1x2048x2048, .bf16⟩
  | .hbm, ⟨41, _⟩ => ⟨S2048x2048, .bf16⟩
  | .hbm, ⟨42, _⟩ => ⟨S2048x2048, .f32⟩
  | .hbm, ⟨43, _⟩ => ⟨S8192x2048, .f32⟩
  | .hbm, ⟨44, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Plain.lean ====
abbrev S64x2048 : Shape := ⟨2, ![64, 2048]⟩
abbrev S4x10368x2048 : Shape := ⟨3, ![4, 10368, 2048]⟩
abbrev S64x10368 : Shape := ⟨2, ![64, 10368]⟩
abbrev S1x1152x2048 : Shape := ⟨3, ![1, 1152, 2048]⟩
abbrev S64x1152 : Shape := ⟨2, ![64, 1152]⟩
abbrev S1152x2048 : Shape := ⟨2, ![1152, 2048]⟩

abbrev nBuf : Space → Nat
  | .hbm => 3
  | .vmem => 5
  | .smem => 0
  | _ => 0

abbrev bufTy : (tb : Table) → Fin (tcTables nBuf tb) → BufTy
  | .hbm, ⟨0, _⟩ => ⟨S64x2048, .bf16⟩
  | .hbm, ⟨1, _⟩ => ⟨S4x10368x2048, .bf16⟩
  | .hbm, ⟨2, _⟩ => ⟨S64x10368, .f32⟩
  | .local _ .vmem, ⟨0, _⟩ => ⟨S64x2048, .bf16⟩
  | .local _ .vmem, ⟨1, _⟩ => ⟨S1x1152x2048, .bf16⟩
  | .local _ .vmem, ⟨2, _⟩ => ⟨S1x1152x2048, .bf16⟩
  | .local _ .vmem, ⟨3, _⟩ => ⟨S64x1152, .f32⟩
  | .local _ .vmem, ⟨4, _⟩ => ⟨S64x1152, .f32⟩
  | _, _ => ⟨S64x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1152x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PlainReferenceIdeal.lean ====
abbrev S64x2048 : Shape := ⟨2, ![64, 2048]⟩
abbrev S4x10368x2048 : Shape := ⟨3, ![4, 10368, 2048]⟩
abbrev S1x10368x2048 : Shape := ⟨3, ![1, 10368, 2048]⟩
abbrev S10368x2048 : Shape := ⟨2, ![10368, 2048]⟩
abbrev S2048x10368 : Shape := ⟨2, ![2048, 10368]⟩
abbrev S64x10368 : Shape := ⟨2, ![64, 10368]⟩

abbrev nBuf : Space → Nat
  | .hbm => 8
  | .vmem => 0
  | .smem => 0
  | _ => 0

abbrev bufTy : (tb : Table) → Fin (tcTables nBuf tb) → BufTy
  | .hbm, ⟨0, _⟩ => ⟨S64x2048, .bf16⟩
  | .hbm, ⟨1, _⟩ => ⟨S4x10368x2048, .bf16⟩
  | .hbm, ⟨2, _⟩ => ⟨S64x2048, .f32⟩
  | .hbm, ⟨3, _⟩ => ⟨S1x10368x2048, .bf16⟩
  | .hbm, ⟨4, _⟩ => ⟨S10368x2048, .bf16⟩
  | .hbm, ⟨5, _⟩ => ⟨S10368x2048, .f32⟩
  | .hbm, ⟨6, _⟩ => ⟨S2048x10368, .f32⟩
  | .hbm, ⟨7, _⟩ => ⟨S64x10368, .f32⟩
  | _, _ => ⟨S64x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kv.lean ====
abbrev S8192x2048 : Shape := ⟨2, ![8192, 2048]⟩
abbrev S4x12824x2048 : Shape := ⟨3, ![4, 12824, 2048]⟩
abbrev S4x4x128 : Shape := ⟨3, ![4, 4, 128]⟩
abbrev S_ : Shape := ⟨0, ![]⟩
abbrev S256 : Shape := ⟨1, ![256]⟩
abbrev S1x1x128 : Shape := ⟨3, ![1, 1, 128]⟩
abbrev S128 : Shape := ⟨1, ![128]⟩
abbrev S1x128 : Shape := ⟨2, ![1, 128]⟩
abbrev S2x128 : Shape := ⟨2, ![2, 128]⟩
abbrev S1024 : Shape := ⟨1, ![1024]⟩
abbrev S1x1024 : Shape := ⟨2, ![1, 1024]⟩
abbrev S8192x1024 : Shape := ⟨2, ![8192, 1024]⟩
abbrev S4x65536x128 : Shape := ⟨3, ![4, 65536, 128]⟩
abbrev S1024x2048 : Shape := ⟨2, ![1024, 2048]⟩
abbrev S1x1024x2048 : Shape := ⟨3, ![1, 1024, 2048]⟩
abbrev S1024x1024 : Shape := ⟨2, ![1024, 1024]⟩
abbrev S1x8192x128 : Shape := ⟨3, ![1, 8192, 128]⟩
abbrev S1024x128 : Shape := ⟨2, ![1024, 128]⟩
abbrev S1024x1 : Shape := ⟨2, ![1024, 1]⟩
abbrev S1x1024x128 : Shape := ⟨3, ![1, 1024, 128]⟩
abbrev S1x65536x128 : Shape := ⟨3, ![1, 65536, 128]⟩
abbrev S65536x128 : Shape := ⟨2, ![65536, 128]⟩

abbrev nBuf : Space → Nat
  | .hbm => 26
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S4x12824x2048, .bf16⟩
  | .hbm, ⟨2, _⟩ => ⟨S4x4x128, .f32⟩
  | .hbm, ⟨3, _⟩ => ⟨S_, .f32⟩
  | .hbm, ⟨4, _⟩ => ⟨S256, .f32⟩
  | .hbm, ⟨5, _⟩ => ⟨S1x1x128, .f32⟩
  | .hbm, ⟨6, _⟩ => ⟨S128, .f32⟩
  | .hbm, ⟨7, _⟩ => ⟨S1x128, .f32⟩
  | .hbm, ⟨8, _⟩ => ⟨S2x128, .f32⟩
  | .hbm, ⟨9, _⟩ => ⟨S256, .f32⟩
  | .hbm, ⟨10, _⟩ => ⟨S1024, .f32⟩
  | .hbm, ⟨11, _⟩ => ⟨S1x1024, .f32⟩
  | .hbm, ⟨12, _⟩ => ⟨S_, .f32⟩
  | .hbm, ⟨13, _⟩ => ⟨S256, .f32⟩
  | .hbm, ⟨14, _⟩ => ⟨S_, .f32⟩
  | .hbm, ⟨15, _⟩ => ⟨S256, .f32⟩
  | .hbm, ⟨16, _⟩ => ⟨S_, .f32⟩
  | .hbm, ⟨17, _⟩ => ⟨S256, .f32⟩
  | .hbm, ⟨18, _⟩ => ⟨S_, .f32⟩
  | .hbm, ⟨19, _⟩ => ⟨S256, .f32⟩
  | .hbm, ⟨20, _⟩ => ⟨S1024, .f32⟩
  | .hbm, ⟨21, _⟩ => ⟨S1x1024, .f32⟩
  | .hbm, ⟨22, _⟩ => ⟨S8192x1024, .f32⟩
  | .hbm, ⟨23, _⟩ => ⟨S4x65536x128, .f32⟩
  | .hbm, ⟨24, _⟩ => ⟨S1x65536x128, .f32⟩
  | .hbm, ⟨25, _⟩ => ⟨S65536x128, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1x8192x128, .f32⟩
  | .local _ .vmem, ⟨8, _⟩ => ⟨S1x8192x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KvReferenceIdeal.lean ====
abbrev S8192x2048 : Shape := ⟨2, ![8192, 2048]⟩
abbrev S4x12824x2048 : Shape := ⟨3, ![4, 12824, 2048]⟩
abbrev S4x4x128 : Shape := ⟨3, ![4, 4, 128]⟩
abbrev S1x1024x2048 : Shape := ⟨3, ![1, 1024, 2048]⟩
abbrev S1024x2048 : Shape := ⟨2, ![1024, 2048]⟩
abbrev S2048x1024 : Shape := ⟨2, ![2048, 1024]⟩
abbrev S8192x1024 : Shape := ⟨2, ![8192, 1024]⟩
abbrev S8192x4x2x128 : Shape := ⟨4, ![8192, 4, 2, 128]⟩
abbrev S8192x1x2x128 : Shape := ⟨4, ![8192, 1, 2, 128]⟩
abbrev S8192x2x128 : Shape := ⟨3, ![8192, 2, 128]⟩
abbrev S1x1x128 : Shape := ⟨3, ![1, 1, 128]⟩
abbrev S128 : Shape := ⟨1, ![128]⟩
abbrev S_ : Shape := ⟨0, ![]⟩
abbrev S8192x2 : Shape := ⟨2, ![8192, 2]⟩
abbrev S8192x2x1 : Shape := ⟨3, ![8192, 2, 1]⟩
abbrev S65536x128 : Shape := ⟨2, ![65536, 128]⟩

abbrev nBuf : Space → Nat
  | .hbm => 43
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x12824x2048, .bf16⟩
  | .hbm, ⟨2, _⟩ => ⟨S4x4x128, .f32⟩
  | .hbm, ⟨3, _⟩ => ⟨S8192x2048, .f32⟩
  | .hbm, ⟨4, _⟩ => ⟨S1x1024x2048, .bf16⟩
  | .hbm, ⟨5, _⟩ => ⟨S1024x2048, .bf16⟩
  | .hbm, ⟨6, _⟩ => ⟨S1024x2048, .f32⟩
  | .hbm, ⟨7, _⟩ => ⟨S2048x1024, .f32⟩
  | .hbm, ⟨8, _⟩ => ⟨S8192x1024, .f32⟩
  | .hbm, ⟨9, _⟩ => ⟨S8192x4x2x128, .f32⟩
  | .hbm, ⟨10, _⟩ => ⟨S8192x1x2x128, .f32⟩
  | .hbm, ⟨11, _⟩ => ⟨S8192x2x128, .f32⟩
  | .hbm, ⟨12, _⟩ => ⟨S1x1x128, .f32⟩
  | .hbm, ⟨13, _⟩ => ⟨S128, .f32⟩
  | .hbm, ⟨14, _⟩ => ⟨S8192x2x128, .f32⟩
  | .hbm, ⟨15, _⟩ => ⟨S_, .f32⟩
  | .hbm, ⟨16, _⟩ => ⟨S8192x2, .f32⟩
  | .hbm, ⟨17, _⟩ => ⟨S8192x2x1, .f32⟩
  | .hbm, ⟨18, _⟩ => ⟨S_, .f32⟩
  | .hbm, ⟨19, _⟩ => ⟨S8192x2x1, .f32⟩
  | .hbm, ⟨20, _⟩ => ⟨S8192x2x1, .f32⟩
  | .hbm, ⟨21, _⟩ => ⟨S_, .f32⟩
  | .hbm, ⟨22, _⟩ => ⟨S8192x2x1, .f32⟩
  | .hbm, ⟨23, _⟩ => ⟨S8192x2x1, .f32⟩
  | .hbm, ⟨24, _⟩ => ⟨S8192x2x1, .f32⟩
  | .hbm, ⟨25, _⟩ => ⟨S8192x2x128, .f32⟩
  | .hbm, ⟨26, _⟩ => ⟨S8192x2x128, .f32⟩
  | .hbm, ⟨27, _⟩ => ⟨S1x1x128, .f32⟩
  | .hbm, ⟨28, _⟩ => ⟨S8192x2x128, .f32⟩
  | .hbm, ⟨29, _⟩ => ⟨S8192x2x128, .f32⟩
  | .hbm, ⟨30, _⟩ => ⟨S8192x1x2x128, .f32⟩
  | .hbm, ⟨31, _⟩ => ⟨S8192x2x128, .f32⟩
  | .hbm, ⟨32, _⟩ => ⟨S8192x1x2x128, .f32⟩
  | .hbm, ⟨33, _⟩ => ⟨S8192x2x128, .f32⟩
  | .hbm, ⟨34, _⟩ => ⟨S8192x1x2x128, .f32⟩
  | .hbm, ⟨35, _⟩ => ⟨S8192x2x128, .f32⟩
  | .hbm, ⟨36, _⟩ => ⟨S8192x1x2x128, .f32⟩
  | .hbm, ⟨37, _⟩ => ⟨S8192x1x2x128, .f32⟩
  | .hbm, ⟨38, _⟩ => ⟨S8192x1x2x128, .f32⟩
  | .hbm, ⟨39, _⟩ => ⟨S8192x1x2x128, .f32⟩
  | .hbm, ⟨40, _⟩ => ⟨S8192x4x2x128, .f32⟩
  | .hbm, ⟨41, _⟩ => ⟨S8192x1024, .f32⟩
  | .hbm, ⟨42, _⟩ => ⟨S65536x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩

abbrev nD : Nat := 1
abbrev τ : Topo := Topo.v7x

variable {F : FTy → Type} [FloatOps F]
-- ==== KvSample.lean ====
abbrev S64x2048 : Shape := ⟨2, ![64, 2048]⟩
abbrev S4x12824x2048 : Shape := ⟨3, ![4, 12824, 2048]⟩
abbrev S4x4x128 : Shape := ⟨3, ![4, 4, 128]⟩
abbrev S_ : Shape := ⟨0, ![]⟩
abbrev S256 : Shape := ⟨1, ![256]⟩
abbrev S1x1x128 : Shape := ⟨3, ![1, 1, 128]⟩
abbrev S128 : Shape := ⟨1, ![128]⟩
abbrev S1x128 : Shape := ⟨2, ![1, 128]⟩
abbrev S2x128 : Shape := ⟨2, ![2, 128]⟩
abbrev S1024 : Shape := ⟨1, ![1024]⟩
abbrev S1x1024 : Shape := ⟨2, ![1, 1024]⟩
abbrev S64x1024 : Shape := ⟨2, ![64, 1024]⟩
abbrev S4x512x128 : Shape := ⟨3, ![4, 512, 128]⟩
abbrev S1x1024x2048 : Shape := ⟨3, ![1, 1024, 2048]⟩
abbrev S1x512x128 : Shape := ⟨3, ![1, 512, 128]⟩
abbrev S1024x2048 : Shape := ⟨2, ![1024, 2048]⟩
abbrev S64x128 : Shape := ⟨2, ![64, 128]⟩
abbrev S64 : Shape := ⟨1, ![64]⟩
abbrev S64x1 : Shape := ⟨2, ![64, 1]⟩
abbrev S1x64x128 : Shape := ⟨3, ![1, 64, 128]⟩
abbrev S512x128 : Shape := ⟨2, ![512, 128]⟩

abbrev nBuf : Space → Nat
  | .hbm => 26
  | .vmem => 6
  | .smem => 0
  | _ => 0

abbrev bufTy : (tb : Table) → Fin (tcTables nBuf tb) → BufTy
  | .hbm, ⟨0, _⟩ => ⟨S64x2048, .bf16⟩
  | .hbm, ⟨1, _⟩ => ⟨S4x12824x2048, .bf16⟩
  | .hbm, ⟨2, _⟩ => ⟨S4x4x128, .f32⟩
  | .hbm, ⟨3, _⟩ => ⟨S_, .f32⟩
  | .hbm, ⟨4, _⟩ => ⟨S256, .f32⟩
  | .hbm, ⟨5, _⟩ => ⟨S1x1x128, .f32⟩
  | .hbm, ⟨6, _⟩ => ⟨S128, .f32⟩
  | .hbm, ⟨7, _⟩ => ⟨S1x128, .f32⟩
  | .hbm, ⟨8, _⟩ => ⟨S2x128, .f32⟩
  | .hbm, ⟨9, _⟩ => ⟨S256, .f32⟩
  | .hbm, ⟨10, _⟩ => ⟨S1024, .f32⟩
  | .hbm, ⟨11, _⟩ => ⟨S1x1024, .f32⟩
  | .hbm, ⟨12, _⟩ => ⟨S_, .f32⟩
  | .hbm, ⟨13, _⟩ => ⟨S256, .f32⟩
  | .hbm, ⟨14, _⟩ => ⟨S_, .f32⟩
  | .hbm, ⟨15, _⟩ => ⟨S256, .f32⟩
  | .hbm, ⟨16, _⟩ => ⟨S_, .f32⟩
  | .hbm, ⟨17, _⟩ => ⟨S256, .f32⟩
  | .hbm, ⟨18, _⟩ => ⟨S_, .f32⟩
  | .hbm, ⟨19, _⟩ => ⟨S256, .f32⟩
  | .hbm, ⟨20, _⟩ => ⟨S1024, .f32⟩
  | .hbm, ⟨21, _⟩ => ⟨S1x1024, .f32⟩
  | .hbm, ⟨22, _⟩ => ⟨S64x1024, .f32⟩
  | .hbm, ⟨23, _⟩ => ⟨S4x512x128, .f32⟩
  | .hbm, ⟨24, _⟩ => ⟨S1x512x128, .f32⟩
  | .hbm, ⟨25, _⟩ => ⟨S512x128, .f32⟩
  | .local _ .vmem, ⟨0, _⟩ => ⟨S64x2048, .bf16⟩
  | .local _ .vmem, ⟨1, _⟩ => ⟨S1x1024x2048, .bf16⟩
  | .local _ .vmem, ⟨2, _⟩ => ⟨S1x1024, .f32⟩
  | .local _ .vmem, ⟨3, _⟩ => ⟨S1x1024, .f32⟩
  | .local _ .vmem, ⟨4, _⟩ => ⟨S64x1024, .f32⟩
  | .local _ .vmem, ⟨5, _⟩ => ⟨S1x512x128, .f32⟩
  | _, _ => ⟨S64x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== KvSampleReferenceIdeal.lean ====
abbrev S64x2048 : Shape := ⟨2, ![64, 2048]⟩
abbrev S4x12824x2048 : Shape := ⟨3, ![4, 12824, 2048]⟩
abbrev S4x4x128 : Shape := ⟨3, ![4, 4, 128]⟩
abbrev S1x1024x2048 : Shape := ⟨3, ![1, 1024, 2048]⟩
abbrev S1024x2048 : Shape := ⟨2, ![1024, 2048]⟩
abbrev S2048x1024 : Shape := ⟨2, ![2048, 1024]⟩
abbrev S64x1024 : Shape := ⟨2, ![64, 1024]⟩
abbrev S64x4x2x128 : Shape := ⟨4, ![64, 4, 2, 128]⟩
abbrev S64x1x2x128 : Shape := ⟨4, ![64, 1, 2, 128]⟩
abbrev S64x2x128 : Shape := ⟨3, ![64, 2, 128]⟩
abbrev S1x1x128 : Shape := ⟨3, ![1, 1, 128]⟩
abbrev S128 : Shape := ⟨1, ![128]⟩
abbrev S_ : Shape := ⟨0, ![]⟩
abbrev S64x2 : Shape := ⟨2, ![64, 2]⟩
abbrev S64x2x1 : Shape := ⟨3, ![64, 2, 1]⟩
abbrev S512x128 : Shape := ⟨2, ![512, 128]⟩

abbrev nBuf : Space → Nat
  | .hbm => 43
  | .vmem => 0
  | .smem => 0
  | _ => 0

abbrev bufTy : (tb : Table) → Fin (tcTables nBuf tb) → BufTy
  | .hbm, ⟨0, _⟩ => ⟨S64x2048, .bf16⟩
  | .hbm, ⟨1, _⟩ => ⟨S4x12824x2048, .bf16⟩
  | .hbm, ⟨2, _⟩ => ⟨S4x4x128, .f32⟩
  | .hbm, ⟨3, _⟩ => ⟨S64x2048, .f32⟩
  | .hbm, ⟨4, _⟩ => ⟨S1x1024x2048, .bf16⟩
  | .hbm, ⟨5, _⟩ => ⟨S1024x2048, .bf16⟩
  | .hbm, ⟨6, _⟩ => ⟨S1024x2048, .f32⟩
  | .hbm, ⟨7, _⟩ => ⟨S2048x1024, .f32⟩
  | .hbm, ⟨8, _⟩ => ⟨S64x1024, .f32⟩
  | .hbm, ⟨9, _⟩ => ⟨S64x4x2x128, .f32⟩
  | .hbm, ⟨10, _⟩ => ⟨S64x1x2x128, .f32⟩
  | .hbm, ⟨11, _⟩ => ⟨S64x2x128, .f32⟩
  | .hbm, ⟨12, _⟩ => ⟨S1x1x128, .f32⟩
  | .hbm, ⟨13, _⟩ => ⟨S128, .f32⟩
  | .hbm, ⟨14, _⟩ => ⟨S64x2x128, .f32⟩
  | .hbm, ⟨15, _⟩ => ⟨S_, .f32⟩
  | .hbm, ⟨16, _⟩ => ⟨S64x2, .f32⟩
  | .hbm, ⟨17, _⟩ => ⟨S64x2x1, .f32⟩
  | .hbm, ⟨18, _⟩ => ⟨S_, .f32⟩
  | .hbm, ⟨19, _⟩ => ⟨S64x2x1, .f32⟩
  | .hbm, ⟨20, _⟩ => ⟨S64x2x1, .f32⟩
  | .hbm, ⟨21, _⟩ => ⟨S_, .f32⟩
  | .hbm, ⟨22, _⟩ => ⟨S64x2x1, .f32⟩
  | .hbm, ⟨23, _⟩ => ⟨S64x2x1, .f32⟩
  | .hbm, ⟨24, _⟩ => ⟨S64x2x1, .f32⟩
  | .hbm, ⟨25, _⟩ => ⟨S64x2x128, .f32⟩
  | .hbm, ⟨26, _⟩ => ⟨S64x2x128, .f32⟩
  | .hbm, ⟨27, _⟩ => ⟨S1x1x128, .f32⟩
  | .hbm, ⟨28, _⟩ => ⟨S64x2x128, .f32⟩
  | .hbm, ⟨29, _⟩ => ⟨S64x2x128, .f32⟩
  | .hbm, ⟨30, _⟩ => ⟨S64x1x2x128, .f32⟩
  | .hbm, ⟨31, _⟩ => ⟨S64x2x128, .f32⟩
  | .hbm, ⟨32, _⟩ => ⟨S64x1x2x128, .f32⟩
  | .hbm, ⟨33, _⟩ => ⟨S64x2x128, .f32⟩
  | .hbm, ⟨34, _⟩ => ⟨S64x1x2x128, .f32⟩
  | .hbm, ⟨35, _⟩ => ⟨S64x2x128, .f32⟩
  | .hbm, ⟨36, _⟩ => ⟨S64x1x2x128, .f32⟩
  | .hbm, ⟨37, _⟩ => ⟨S64x1x2x128, .f32⟩
  | .hbm, ⟨38, _⟩ => ⟨S64x1x2x128, .f32⟩
  | .hbm, ⟨39, _⟩ => ⟨S64x1x2x128, .f32⟩
  | .hbm, ⟨40, _⟩ => ⟨S64x4x2x128, .f32⟩
  | .hbm, ⟨41, _⟩ => ⟨S64x1024, .f32⟩
  | .hbm, ⟨42, _⟩ => ⟨S512x128, .f32⟩
  | _, _ => ⟨S64x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩

abbrev nD : Nat := 1
abbrev τ : Topo := Topo.v7x

variable {F : FTy → Type} [FloatOps F]
-- ==== Win.lean ====
abbrev S8192x2048 : Shape := ⟨2, ![8192, 2048]⟩
abbrev S4x12824x2048 : Shape := ⟨3, ![4, 12824, 2048]⟩
abbrev S4x4x128 : Shape := ⟨3, ![4, 4, 128]⟩
abbrev S1x1x128 : Shape := ⟨3, ![1, 1, 128]⟩
abbrev S128 : Shape := ⟨1, ![128]⟩
abbrev S1x128 : Shape := ⟨2, ![1, 128]⟩
abbrev S2x128 : Shape := ⟨2, ![2, 128]⟩
abbrev S256 : Shape := ⟨1, ![256]⟩
abbrev S_ : Shape := ⟨0, ![]⟩
abbrev S512 : Shape := ⟨1, ![512]⟩
abbrev S1x512 : Shape := ⟨2, ![1, 512]⟩
abbrev S8192x512 : Shape := ⟨2, ![8192, 512]⟩
abbrev S4x32768x128 : Shape := ⟨3, ![4, 32768, 128]⟩
abbrev S1024x2048 : Shape := ⟨2, ![1024, 2048]⟩
abbrev S1x512x2048 : Shape := ⟨3, ![1, 512, 2048]⟩
abbrev S1024x512 : Shape := ⟨2, ![1024, 512]⟩
abbrev S1x4096x128 : Shape := ⟨3, ![1, 4096, 128]⟩
abbrev S512x2048 : Shape := ⟨2, ![512, 2048]⟩
abbrev S1024x128 : Shape := ⟨2, ![1024, 128]⟩
abbrev S1024 : Shape := ⟨1, ![1024]⟩
abbrev S1024x1 : Shape := ⟨2, ![1024, 1]⟩
abbrev S1x1024x128 : Shape := ⟨3, ![1, 1024, 128]⟩
abbrev S1x32768x128 : Shape := ⟨3, ![1, 32768, 128]⟩
abbrev S32768x128 : Shape := ⟨2, ![32768, 128]⟩

abbrev nBuf : Space → Nat
  | .hbm => 22
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S4x12824x2048, .bf16⟩
  | .hbm, ⟨2, _⟩ => ⟨S4x4x128, .f32⟩
  | .hbm, ⟨3, _⟩ => ⟨S1x1x128, .f32⟩
  | .hbm, ⟨4, _⟩ => ⟨S128, .f32⟩
  | .hbm, ⟨5, _⟩ => ⟨S1x128, .f32⟩
  | .hbm, ⟨6, _⟩ => ⟨S2x128, .f32⟩
  | .hbm, ⟨7, _⟩ => ⟨S256, .f32⟩
  | .hbm, ⟨8, _⟩ => ⟨S_, .f32⟩
  | .hbm, ⟨9, _⟩ => ⟨S256, .f32⟩
  | .hbm, ⟨10, _⟩ => ⟨S512, .f32⟩
  | .hbm, ⟨11, _⟩ => ⟨S1x512, .f32⟩
  | .hbm, ⟨12, _⟩ => ⟨S_, .f32⟩
  | .hbm, ⟨13, _⟩ => ⟨S256, .f32⟩
  | .hbm, ⟨14, _⟩ => ⟨S_, .f32⟩
  | .hbm, ⟨15, _⟩ => ⟨S256, .f32⟩
  | .hbm, ⟨16, _⟩ => ⟨S512, .f32⟩
  | .hbm, ⟨17, _⟩ => ⟨S1x512, .f32⟩
  | .hbm, ⟨18, _⟩ => ⟨S8192x512, .f32⟩
  | .hbm, ⟨19, _⟩ => ⟨S4x32768x128, .f32⟩
  | .hbm, ⟨20, _⟩ => ⟨S1x32768x128, .f32⟩
  | .hbm, ⟨21, _⟩ => ⟨S32768x128, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512, .f32⟩
  | .local _ .vmem, ⟨4, _⟩ => ⟨S1x512, .f32⟩
  | .local _ .vmem, ⟨5, _⟩ => ⟨S1024x512, .f32⟩
  | .local _ .vmem, ⟨6, _⟩ => ⟨S1024x512, .f32⟩
  | .local _ .vmem, ⟨7, _⟩ => ⟨S1x4096x128, .f32⟩
  | .local _ .vmem, ⟨8, _⟩ => ⟨S1x4096x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== WinReferenceIdeal.lean ====
abbrev S8192x2048 : Shape := ⟨2, ![8192, 2048]⟩
abbrev S4x12824x2048 : Shape := ⟨3, ![4, 12824, 2048]⟩
abbrev S4x4x128 : Shape := ⟨3, ![4, 4, 128]⟩
abbrev S1x512x2048 : Shape := ⟨3, ![1, 512, 2048]⟩
abbrev S512x2048 : Shape := ⟨2, ![512, 2048]⟩
abbrev S2048x512 : Shape := ⟨2, ![2048, 512]⟩
abbrev S8192x512 : Shape := ⟨2, ![8192, 512]⟩
abbrev S8192x2x2x128 : Shape := ⟨4, ![8192, 2, 2, 128]⟩
abbrev S8192x1x2x128 : Shape := ⟨4, ![8192, 1, 2, 128]⟩
abbrev S8192x2x128 : Shape := ⟨3, ![8192, 2, 128]⟩
abbrev S1x1x128 : Shape := ⟨3, ![1, 1, 128]⟩
abbrev S128 : Shape := ⟨1, ![128]⟩
abbrev S_ : Shape := ⟨0, ![]⟩
abbrev S8192x2 : Shape := ⟨2, ![8192, 2]⟩
abbrev S8192x2x1 : Shape := ⟨3, ![8192, 2, 1]⟩
abbrev S32768x128 : Shape := ⟨2, ![32768, 128]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x12824x2048, .bf16⟩
  | .hbm, ⟨2, _⟩ => ⟨S4x4x128, .f32⟩
  | .hbm, ⟨3, _⟩ => ⟨S8192x2048, .f32⟩
  | .hbm, ⟨4, _⟩ => ⟨S1x512x2048, .bf16⟩
  | .hbm, ⟨5, _⟩ => ⟨S512x2048, .bf16⟩
  | .hbm, ⟨6, _⟩ => ⟨S512x2048, .f32⟩
  | .hbm, ⟨7, _⟩ => ⟨S2048x512, .f32⟩
  | .hbm, ⟨8, _⟩ => ⟨S8192x512, .f32⟩
  | .hbm, ⟨9, _⟩ => ⟨S8192x2x2x128, .f32⟩
  | .hbm, ⟨10, _⟩ => ⟨S8192x1x2x128, .f32⟩
  | .hbm, ⟨11, _⟩ => ⟨S8192x2x128, .f32⟩
  | .hbm, ⟨12, _⟩ => ⟨S1x1x128, .f32⟩
  | .hbm, ⟨13, _⟩ => ⟨S128, .f32⟩
  | .hbm, ⟨14, _⟩ => ⟨S8192x2x128, .f32⟩
  | .hbm, ⟨15, _⟩ => ⟨S_, .f32⟩
  | .hbm, ⟨16, _⟩ => ⟨S8192x2, .f32⟩
  | .hbm, ⟨17, _⟩ => ⟨S8192x2x1, .f32⟩
  | .hbm, ⟨18, _⟩ => ⟨S_, .f32⟩
  | .hbm, ⟨19, _⟩ => ⟨S8192x2x1, .f32⟩
  | .hbm, ⟨20, _⟩ => ⟨S8192x2x1, .f32⟩
  | .hbm, ⟨21, _⟩ => ⟨S_, .f32⟩
  | .hbm, ⟨22, _⟩ => ⟨S8192x2x1, .f32⟩
  | .hbm, ⟨23, _⟩ => ⟨S8192x2x1, .f32⟩
  | .hbm, ⟨24, _⟩ => ⟨S8192x2x1, .f32⟩
  | .hbm, ⟨25, _⟩ => ⟨S8192x2x128, .f32⟩
  | .hbm, ⟨26, _⟩ => ⟨S8192x2x128, .f32⟩
  | .hbm, ⟨27, _⟩ => ⟨S1x1x128, .f32⟩
  | .hbm, ⟨28, _⟩ => ⟨S8192x2x128, .f32⟩
  | .hbm, ⟨29, _⟩ => ⟨S8192x2x128, .f32⟩
  | .hbm, ⟨30, _⟩ => ⟨S8192x1x2x128, .f32⟩
  | .hbm, ⟨31, _⟩ => ⟨S8192x2x128, .f32⟩
  | .hbm, ⟨32, _⟩ => ⟨S8192x1x2x128, .f32⟩
  | .hbm, ⟨33, _⟩ => ⟨S8192x1x2x128, .f32⟩
  | .hbm, ⟨34, _⟩ => ⟨S8192x2x2x128, .f32⟩
  | .hbm, ⟨35, _⟩ => ⟨S8192x512, .f32⟩
  | .hbm, ⟨36, _⟩ => ⟨S32768x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== WinSample.lean ====
abbrev S64x2048 : Shape := ⟨2, ![64, 2048]⟩
abbrev S4x12824x2048 : Shape := ⟨3, ![4, 12824, 2048]⟩
abbrev S4x4x128 : Shape := ⟨3, ![4, 4, 128]⟩
abbrev S4x8x512x2x2x128 : Shape := ⟨6, ![4, 8, 512, 2, 2, 128]⟩
abbrev S1x1x128 : Shape := ⟨3, ![1, 1, 128]⟩
abbrev S128 : Shape := ⟨1, ![128]⟩
abbrev S1x128 : Shape := ⟨2, ![1, 128]⟩
abbrev S2x128 : Shape := ⟨2, ![2, 128]⟩
abbrev S256 : Shape := ⟨1, ![256]⟩
abbrev S_ : Shape := ⟨0, ![]⟩
abbrev S512 : Shape := ⟨1, ![512]⟩
abbrev S1x512 : Shape := ⟨2, ![1, 512]⟩
abbrev S64x512 : Shape := ⟨2, ![64, 512]⟩
abbrev S4x256x128 : Shape := ⟨3, ![4, 256, 128]⟩
abbrev S1x512x2048 : Shape := ⟨3, ![1, 512, 2048]⟩
abbrev S1x256x128 : Shape := ⟨3, ![1, 256, 128]⟩
abbrev S512x2048 : Shape := ⟨2, ![512, 2048]⟩
abbrev S64x128 : Shape := ⟨2, ![64, 128]⟩
abbrev S64 : Shape := ⟨1, ![64]⟩
abbrev S64x1 : Shape := ⟨2, ![64, 1]⟩
abbrev S1x64x128 : Shape := ⟨3, ![1, 64, 128]⟩
abbrev S256x128 : Shape := ⟨2, ![256, 128]⟩
abbrev S1x8x512x2x2x128 : Shape := ⟨6, ![1, 8, 512, 2, 2, 128]⟩
abbrev S8x512x2x2x128 : Shape := ⟨5, ![8, 512, 2, 2, 128]⟩
abbrev S8x8x2x2x128 : Shape := ⟨5, ![8, 8, 2, 2, 128]⟩
abbrev S8x520x2x2x128 : Shape := ⟨5, ![8, 520, 2, 2, 128]⟩

abbrev nBuf : Space → Nat
  | .hbm => 28
  | .vmem => 6
  | .smem => 0
  | _ => 0

abbrev bufTy : (tb : Table) → Fin (tcTables nBuf tb) → BufTy
  | .hbm, ⟨0, _⟩ => ⟨S64x2048, .bf16⟩
  | .hbm, ⟨1, _⟩ => ⟨S4x12824x2048, .bf16⟩
  | .hbm, ⟨2, _⟩ => ⟨S4x4x128, .f32⟩
  | .hbm, ⟨3, _⟩ => ⟨S4x8x512x2x2x128, .f32⟩
  | .hbm, ⟨4, _⟩ => ⟨S1x1x128, .f32⟩
  | .hbm, ⟨5, _⟩ => ⟨S128, .f32⟩
  | .hbm, ⟨6, _⟩ => ⟨S1x128, .f32⟩
  | .hbm, ⟨7, _⟩ => ⟨S2x128, .f32⟩
  | .hbm, ⟨8, _⟩ => ⟨S256, .f32⟩
  | .hbm, ⟨9, _⟩ => ⟨S_, .f32⟩
  | .hbm, ⟨10, _⟩ => ⟨S256, .f32⟩
  | .hbm, ⟨11, _⟩ => ⟨S512, .f32⟩
  | .hbm, ⟨12, _⟩ => ⟨S1x512, .f32⟩
  | .hbm, ⟨13, _⟩ => ⟨S_, .f32⟩
  | .hbm, ⟨14, _⟩ => ⟨S256, .f32⟩
  | .hbm, ⟨15, _⟩ => ⟨S_, .f32⟩
  | .hbm, ⟨16, _⟩ => ⟨S256, .f32⟩
  | .hbm, ⟨17, _⟩ => ⟨S512, .f32⟩
  | .hbm, ⟨18, _⟩ => ⟨S1x512, .f32⟩
  | .hbm, ⟨19, _⟩ => ⟨S64x512, .f32⟩
  | .hbm, ⟨20, _⟩ => ⟨S4x256x128, .f32⟩
  | .hbm, ⟨21, _⟩ => ⟨S1x256x128, .f32⟩
  | .hbm, ⟨22, _⟩ => ⟨S256x128, .f32⟩
  | .hbm, ⟨23, _⟩ => ⟨S1x8x512x2x2x128, .f32⟩
  | .hbm, ⟨24, _⟩ => ⟨S8x512x2x2x128, .f32⟩
  | .hbm, ⟨25, _⟩ => ⟨S8x8x2x2x128, .f32⟩
  | .hbm, ⟨26, _⟩ => ⟨S8x520x2x2x128, .f32⟩
  | .hbm, ⟨27, _⟩ => ⟨S8x512x2x2x128, .f32⟩
  | .local _ .vmem, ⟨0, _⟩ => ⟨S64x2048, .bf16⟩
  | .local _ .vmem, ⟨1, _⟩ => ⟨S1x512x2048, .bf16⟩
  | .local _ .vmem, ⟨2, _⟩ => ⟨S1x512, .f32⟩
  | .local _ .vmem, ⟨3, _⟩ => ⟨S1x512, .f32⟩
  | .local _ .vmem, ⟨4, _⟩ => ⟨S64x512, .f32⟩
  | .local _ .vmem, ⟨5, _⟩ => ⟨S1x256x128, .f32⟩
  | _, _ => ⟨S64x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== WinSampleReferenceIdeal.lean ====
abbrev S64x2048 : Shape := ⟨2, ![64, 2048]⟩
abbrev S4x12824x2048 : Shape := ⟨3, ![4, 12824, 2048]⟩
abbrev S4x4x128 : Shape := ⟨3, ![4, 4, 128]⟩
abbrev S4x8x512x2x2x128 : Shape := ⟨6, ![4, 8, 512, 2, 2, 128]⟩
abbrev S1x512x2048 : Shape := ⟨3, ![1, 512, 2048]⟩
abbrev S512x2048 : Shape := ⟨2, ![512, 2048]⟩
abbrev S2048x512 : Shape := ⟨2, ![2048, 512]⟩
abbrev S64x512 : Shape := ⟨2, ![64, 512]⟩
abbrev S64x2x2x128 : Shape := ⟨4, ![64, 2, 2, 128]⟩
abbrev S64x1x2x128 : Shape := ⟨4, ![64, 1, 2, 128]⟩
abbrev S64x2x128 : Shape := ⟨3, ![64, 2, 128]⟩
abbrev S1x1x128 : Shape := ⟨3, ![1, 1, 128]⟩
abbrev S128 : Shape := ⟨1, ![128]⟩
abbrev S_ : Shape := ⟨0, ![]⟩
abbrev S64x2 : Shape := ⟨2, ![64, 2]⟩
abbrev S64x2x1 : Shape := ⟨3, ![64, 2, 1]⟩
abbrev S256x128 : Shape := ⟨2, ![256, 128]⟩
abbrev S1x8x512x2x2x128 : Shape := ⟨6, ![1, 8, 512, 2, 2, 128]⟩
abbrev S8x512x2x2x128 : Shape := ⟨5, ![8, 512, 2, 2, 128]⟩
abbrev S8x8x2x2x128 : Shape := ⟨5, ![8, 8, 2, 2, 128]⟩
abbrev S8x520x2x2x128 : Shape := ⟨5, ![8, 520, 2, 2, 128]⟩

abbrev nBuf : Space → Nat
  | .hbm => 43
  | .vmem => 0
  | .smem => 0
  | _ => 0

abbrev bufTy : (tb : Table) → Fin (tcTables nBuf tb) → BufTy
  | .hbm, ⟨0, _⟩ => ⟨S64x2048, .bf16⟩
  | .hbm, ⟨1, _⟩ => ⟨S4x12824x2048, .bf16⟩
  | .hbm, ⟨2, _⟩ => ⟨S4x4x128, .f32⟩
  | .hbm, ⟨3, _⟩ => ⟨S4x8x512x2x2x128, .f32⟩
  | .hbm, ⟨4, _⟩ => ⟨S64x2048, .f32⟩
  | .hbm, ⟨5, _⟩ => ⟨S1x512x2048, .bf16⟩
  | .hbm, ⟨6, _⟩ => ⟨S512x2048, .bf16⟩
  | .hbm, ⟨7, _⟩ => ⟨S512x2048, .f32⟩
  | .hbm, ⟨8, _⟩ => ⟨S2048x512, .f32⟩
  | .hbm, ⟨9, _⟩ => ⟨S64x512, .f32⟩
  | .hbm, ⟨10, _⟩ => ⟨S64x2x2x128, .f32⟩
  | .hbm, ⟨11, _⟩ => ⟨S64x1x2x128, .f32⟩
  | .hbm, ⟨12, _⟩ => ⟨S64x2x128, .f32⟩
  | .hbm, ⟨13, _⟩ => ⟨S1x1x128, .f32⟩
  | .hbm, ⟨14, _⟩ => ⟨S128, .f32⟩
  | .hbm, ⟨15, _⟩ => ⟨S64x2x128, .f32⟩
  | .hbm, ⟨16, _⟩ => ⟨S_, .f32⟩
  | .hbm, ⟨17, _⟩ => ⟨S64x2, .f32⟩
  | .hbm, ⟨18, _⟩ => ⟨S64x2x1, .f32⟩
  | .hbm, ⟨19, _⟩ => ⟨S_, .f32⟩
  | .hbm, ⟨20, _⟩ => ⟨S64x2x1, .f32⟩
  | .hbm, ⟨21, _⟩ => ⟨S64x2x1, .f32⟩
  | .hbm, ⟨22, _⟩ => ⟨S_, .f32⟩
  | .hbm, ⟨23, _⟩ => ⟨S64x2x1, .f32⟩
  | .hbm, ⟨24, _⟩ => ⟨S64x2x1, .f32⟩
  | .hbm, ⟨25, _⟩ => ⟨S64x2x1, .f32⟩
  | .hbm, ⟨26, _⟩ => ⟨S64x2x128, .f32⟩
  | .hbm, ⟨27, _⟩ => ⟨S64x2x128, .f32⟩
  | .hbm, ⟨28, _⟩ => ⟨S1x1x128, .f32⟩
  | .hbm, ⟨29, _⟩ => ⟨S64x2x128, .f32⟩
  | .hbm, ⟨30, _⟩ => ⟨S64x2x128, .f32⟩
  | .hbm, ⟨31, _⟩ => ⟨S64x1x2x128, .f32⟩
  | .hbm, ⟨32, _⟩ => ⟨S64x2x128, .f32⟩
  | .hbm, ⟨33, _⟩ => ⟨S64x1x2x128, .f32⟩
  | .hbm, ⟨34, _⟩ => ⟨S64x1x2x128, .f32⟩
  | .hbm, ⟨35, _⟩ => ⟨S64x2x2x128, .f32⟩
  | .hbm, ⟨36, _⟩ => ⟨S64x512, .f32⟩
  | .hbm, ⟨37, _⟩ => ⟨S256x128, .f32⟩
  | .hbm, ⟨38, _⟩ => ⟨S1x8x512x2x2x128, .f32⟩
  | .hbm, ⟨39, _⟩ => ⟨S8x512x2x2x128, .f32⟩
  | .hbm, ⟨40, _⟩ => ⟨S8x8x2x2x128, .f32⟩
  | .hbm, ⟨41, _⟩ => ⟨S8x520x2x2x128, .f32⟩
  | .hbm, ⟨42, _⟩ => ⟨S8x512x2x2x128, .f32⟩
  | _, _ => ⟨S64x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== Query.lean ====
abbrev S8192x2048 : Shape := ⟨2, ![8192, 2048]⟩
abbrev S4x12824x2048 : Shape := ⟨3, ![4, 12824, 2048]⟩
abbrev S4x4x128 : Shape := ⟨3, ![4, 4, 128]⟩
abbrev S1x1x128 : Shape := ⟨3, ![1, 1, 128]⟩
abbrev S128 : Shape := ⟨1, ![128]⟩
abbrev S1x128 : Shape := ⟨2, ![1, 128]⟩
abbrev S8x128 : Shape := ⟨2, ![8, 128]⟩
abbrev S1024 : Shape := ⟨1, ![1024]⟩
abbrev S1x1024 : Shape := ⟨2, ![1, 1024]⟩
abbrev S_ : Shape := ⟨0, ![]⟩
abbrev S8192x1024 : Shape := ⟨2, ![8192, 1024]⟩
abbrev S1024x2048 : Shape := ⟨2, ![1024, 2048]⟩
abbrev S1x512x2048 : Shape := ⟨3, ![1, 512, 2048]⟩
abbrev S1x512 : Shape := ⟨2, ![1, 512]⟩
abbrev S1024x512 : Shape := ⟨2, ![1024, 512]⟩
abbrev S512x2048 : Shape := ⟨2, ![512, 2048]⟩
abbrev S1024x128 : Shape := ⟨2, ![1024, 128]⟩
abbrev S1024x1 : Shape := ⟨2, ![1024, 1]⟩

abbrev nBuf : Space → Nat
  | .hbm => 12
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S4x12824x2048, .bf16⟩
  | .hbm, ⟨2, _⟩ => ⟨S4x4x128, .f32⟩
  | .hbm, ⟨3, _⟩ => ⟨S1x1x128, .f32⟩
  | .hbm, ⟨4, _⟩ => ⟨S128, .f32⟩
  | .hbm, ⟨5, _⟩ => ⟨S1x128, .f32⟩
  | .hbm, ⟨6, _⟩ => ⟨S8x128, .f32⟩
  | .hbm, ⟨7, _⟩ => ⟨S1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QueryReferenceIdeal.lean ====
abbrev S8192x2048 : Shape := ⟨2, ![8192, 2048]⟩
abbrev S4x12824x2048 : Shape := ⟨3, ![4, 12824, 2048]⟩
abbrev S4x4x128 : Shape := ⟨3, ![4, 4, 128]⟩
abbrev S1x1024x2048 : Shape := ⟨3, ![1, 1024, 2048]⟩
abbrev S1024x2048 : Shape := ⟨2, ![1024, 2048]⟩
abbrev S2048x1024 : Shape := ⟨2, ![2048, 1024]⟩
abbrev S8192x1024 : Shape := ⟨2, ![8192, 1024]⟩
abbrev S8192x8x128 : Shape := ⟨3, ![8192, 8, 128]⟩
abbrev S1x1x128 : Shape := ⟨3, ![1, 1, 128]⟩
abbrev S128 : Shape := ⟨1, ![128]⟩
abbrev S_ : Shape := ⟨0, ![]⟩
abbrev S8192x8 : Shape := ⟨2, ![8192, 8]⟩
abbrev S8192x8x1 : Shape := ⟨3, ![8192, 8, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x12824x2048, .bf16⟩
  | .hbm, ⟨2, _⟩ => ⟨S4x4x128, .f32⟩
  | .hbm, ⟨3, _⟩ => ⟨S8192x2048, .f32⟩
  | .hbm, ⟨4, _⟩ => ⟨S1x1024x2048, .bf16⟩
  | .hbm, ⟨5, _⟩ => ⟨S1024x2048, .bf16⟩
  | .hbm, ⟨6, _⟩ => ⟨S1024x2048, .f32⟩
  | .hbm, ⟨7, _⟩ => ⟨S2048x1024, .f32⟩
  | .hbm, ⟨8, _⟩ => ⟨S8192x1024, .f32⟩
  | .hbm, ⟨9, _⟩ => ⟨S8192x8x128, .f32⟩
  | .hbm, ⟨10, _⟩ => ⟨S1x1x128, .f32⟩
  | .hbm, ⟨11, _⟩ => ⟨S128, .f32⟩
  | .hbm, ⟨12, _⟩ => ⟨S8192x8x128, .f32⟩
  | .hbm, ⟨13, _⟩ => ⟨S_, .f32⟩
  | .hbm, ⟨14, _⟩ => ⟨S8192x8, .f32⟩
  | .hbm, ⟨15, _⟩ => ⟨S8192x8x1, .f32⟩
  | .hbm, ⟨16, _⟩ => ⟨S_, .f32⟩
  | .hbm, ⟨17, _⟩ => ⟨S8192x8x1, .f32⟩
  | .hbm, ⟨18, _⟩ => ⟨S8192x8x1, .f32⟩
  | .hbm, ⟨19, _⟩ => ⟨S_, .f32⟩
  | .hbm, ⟨20, _⟩ => ⟨S8192x8x1, .f32⟩
  | .hbm, ⟨21, _⟩ => ⟨S8192x8x1, .f32⟩
  | .hbm, ⟨22, _⟩ => ⟨S8192x8x1, .f32⟩
  | .hbm, ⟨23, _⟩ => ⟨S8192x8x128, .f32⟩
  | .hbm, ⟨24, _⟩ => ⟨S8192x8x128, .f32⟩
  | .hbm, ⟨25, _⟩ => ⟨S1x1x128, .f32⟩
  | .hbm, ⟨26, _⟩ => ⟨S8192x8x128, .f32⟩
  | .hbm, ⟨27, _⟩ => ⟨S8192x8x128, .f32⟩
  | .hbm, ⟨28, _⟩ => ⟨S8192x1024, .f32⟩
  | .hbm, ⟨29, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== RetSample.lean ====
abbrev S64x10368 : Shape := ⟨2, ![64, 10368]⟩
abbrev S1x512 : Shape := ⟨2, ![1, 512]⟩
abbrev S4x8x4x128x128 : Shape := ⟨5, ![4, 8, 4, 128, 128]⟩
abbrev S4 : Shape := ⟨1, ![4]⟩
abbrev S_ : Shape := ⟨0, ![]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S4x1x1 : Shape := ⟨3, ![4, 1, 1]⟩
abbrev S1x8x8 : Shape := ⟨3, ![1, 8, 8]⟩
abbrev S4x8x8 : Shape := ⟨3, ![4, 8, 8]⟩
abbrev S4x1 : Shape := ⟨2, ![4, 1]⟩
abbrev S4x8 : Shape := ⟨2, ![4, 8]⟩
abbrev S4x8x1 : Shape := ⟨3, ![4, 8, 1]⟩
abbrev S1x1x128 : Shape := ⟨3, ![1, 1, 128]⟩
abbrev S4x8x128 : Shape := ⟨3, ![4, 8, 128]⟩
abbrev S1x8x128 : Shape := ⟨3, ![1, 8, 128]⟩
abbrev S64x512 : Shape := ⟨2, ![64, 512]⟩
abbrev S8x4x128x128 : Shape := ⟨4, ![8, 4, 128, 128]⟩
abbrev S8x512 : Shape := ⟨2, ![8, 512]⟩
abbrev S1x1x4x128x128 : Shape := ⟨5, ![1, 1, 4, 128, 128]⟩
abbrev S1x4x128x128 : Shape := ⟨4, ![1, 4, 128, 128]⟩
abbrev S1x1x1x128x128 : Shape := ⟨5, ![1, 1, 1, 128, 128]⟩
abbrev S128x128 : Shape := ⟨2, ![128, 128]⟩
abbrev S8x128 : Shape := ⟨2, ![8, 128]⟩
abbrev S1x128 : Shape := ⟨2, ![1, 128]⟩
abbrev S120x128 : Shape := ⟨2, ![120, 128]⟩
abbrev S1x1x128x128 : Shape := ⟨4, ![1, 1, 128, 128]⟩

abbrev nBuf : Space → Nat
  | .hbm => 78
  | .vmem => 19
  | .smem => 0
  | _ => 0

abbrev bufTy : (tb : Table) → Fin (tcTables nBuf tb) → BufTy
  | .hbm, ⟨0, _⟩ => ⟨S64x10368, .f32⟩
  | .hbm, ⟨1, _⟩ => ⟨S1x512, .f32⟩
  | .hbm, ⟨2, _⟩ => ⟨S4x8x4x128x128, .f32⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S8, .f32⟩
  | .hbm, ⟨14, _⟩ => ⟨S8x1, .f32⟩
  | .hbm, ⟨15, _⟩ => ⟨S1x8, .f32⟩
  | .hbm, ⟨16, _⟩ => ⟨S8x8, .f32⟩
  | .hbm, ⟨17, _⟩ => ⟨S8x8, .f32⟩
  | .hbm, ⟨18, _⟩ => ⟨S8x8, .f32⟩
  | .hbm, ⟨19, _⟩ => ⟨S_, .f32⟩
  | .hbm, ⟨20, _⟩ => ⟨S8x8, .f32⟩
  | .hbm, ⟨21, _⟩ => ⟨S8x8, .i1⟩
  | .hbm, ⟨22, _⟩ => ⟨S4x1x1, .f32⟩
  | .hbm, ⟨23, _⟩ => ⟨S_, .f32⟩
  | .hbm, ⟨24, _⟩ => ⟨S8x8, .f32⟩
  | .hbm, ⟨25, _⟩ => ⟨S8x8, .f32⟩
  | .hbm, ⟨26, _⟩ => ⟨S1x8x8, .f32⟩
  | .hbm, ⟨27, _⟩ => ⟨S4x8x8, .f32⟩
  | .hbm, ⟨28, _⟩ => ⟨S4x8x8, .f32⟩
  | .hbm, ⟨29, _⟩ => ⟨S4x8x8, .f32⟩
  | .hbm, ⟨30, _⟩ => ⟨S4x8x8, .f32⟩
  | .hbm, ⟨31, _⟩ => ⟨S_, .f32⟩
  | .hbm, ⟨32, _⟩ => ⟨S_, .f32⟩
  | .hbm, ⟨33, _⟩ => ⟨S4x8x8, .i1⟩
  | .hbm, ⟨34, _⟩ => ⟨S4x8x8, .f32⟩
  | .hbm, ⟨35, _⟩ => ⟨S4x8x8, .f32⟩
  | .hbm, ⟨36, _⟩ => ⟨S4x1, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S1x8, .f32⟩
  | .hbm, ⟨41, _⟩ => ⟨S4x8, .f32⟩
  | .hbm, ⟨42, _⟩ => ⟨S4x8, .f32⟩
  | .hbm, ⟨43, _⟩ => ⟨S4x8, .f32⟩
  | .hbm, ⟨44, _⟩ => ⟨S4x8, .f32⟩
  | .hbm, ⟨45, _⟩ => ⟨S4x8x1, .f32⟩
  | .hbm, ⟨46, _⟩ => ⟨S_, .f32⟩
  | .hbm, ⟨47, _⟩ => ⟨S1x1x128, .f32⟩
  | .hbm, ⟨48, _⟩ => ⟨S4x8x128, .f32⟩
  | .hbm, ⟨49, _⟩ => ⟨S4x8x128, .f32⟩
  | .hbm, ⟨50, _⟩ => ⟨S4x8x128, .f32⟩
  | .hbm, ⟨51, _⟩ => ⟨S4x1, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S1x8, .f32⟩
  | .hbm, ⟨56, _⟩ => ⟨S4x8, .f32⟩
  | .hbm, ⟨57, _⟩ => ⟨S4x8, .f32⟩
  | .hbm, ⟨58, _⟩ => ⟨S4x8, .f32⟩
  | .hbm, ⟨59, _⟩ => ⟨S4x8, .f32⟩
  | .hbm, ⟨60, _⟩ => ⟨S4x8x1, .f32⟩
  | .hbm, ⟨61, _⟩ => ⟨S_, .f32⟩
  | .hbm, ⟨62, _⟩ => ⟨S1x1x128, .f32⟩
  | .hbm, ⟨63, _⟩ => ⟨S4x8x128, .f32⟩
  | .hbm, ⟨64, _⟩ => ⟨S4x8x128, .f32⟩
  | .hbm, ⟨65, _⟩ => ⟨S4x8x128, .f32⟩
  | .hbm, ⟨66, _⟩ => ⟨S_, .f32⟩
  | .hbm, ⟨67, _⟩ => ⟨S4, .f32⟩
  | .hbm, ⟨68, _⟩ => ⟨S4, .f32⟩
  | .hbm, ⟨69, _⟩ => ⟨S4, .f32⟩
  | .hbm, ⟨70, _⟩ => ⟨S4x1x1, .f32⟩
  | .hbm, ⟨71, _⟩ => ⟨S_, .f32⟩
  | .hbm, ⟨72, _⟩ => ⟨S1x8x128, .f32⟩
  | .hbm, ⟨73, _⟩ => ⟨S4x8x128, .f32⟩
  | .hbm, ⟨74, _⟩ => ⟨S4x8x128, .f32⟩
  | .hbm, ⟨75, _⟩ => ⟨S4x8x128, .f32⟩
  | .hbm, ⟨76, _⟩ => ⟨S64x512, .bf16⟩
  | .hbm, ⟨77, _⟩ => ⟨S8x4x128x128, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S4x8x8, .f32⟩
  | .local _ .vmem, ⟨9, _⟩ => ⟨S4x8x128, .f32⟩
  | .local _ .vmem, ⟨10, _⟩ => ⟨S4x8x128, .f32⟩
  | .local _ .vmem, ⟨11, _⟩ => ⟨S4x8x128, .f32⟩
  | .local _ .vmem, ⟨12, _⟩ => ⟨S1x512, .f32⟩
  | .local _ .vmem, ⟨13, _⟩ => ⟨S1x1x4x128x128, .f32⟩
  | .local _ .vmem, ⟨14, _⟩ => ⟨S1x1x4x128x128, .f32⟩
  | .local _ .vmem, ⟨15, _⟩ => ⟨S8x512, .bf16⟩
  | .local _ .vmem, ⟨16, _⟩ => ⟨S8x512, .bf16⟩
  | .local _ .vmem, ⟨17, _⟩ => ⟨S1x4x128x128, .f32⟩
  | .local _ .vmem, ⟨18, _⟩ => ⟨S1x4x128x128, .f32⟩
  | _, _ => ⟨S64x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_9 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59_0 : Ref sig .tc := ⟨.hbm, 76, rfl⟩
abbrev main_v59_1 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c8_i32 : BitVec 32 := 8#32
  let v8 : BitVec 32 := Scalar.muli c0_i32 c8_i32
  v8
def k0_off1 : Fin 2 → Nat :=
  let c0_i32 : BitVec 32 := 0#32
  let c8_i32 : BitVec 32 := 8#32
  let v8 : BitVec 32 := Scalar.muli c0_i32 c8_i32
  let v9 : BitVec 32 := v8
  let v10 : Index := Scalar.indexCast v9
  let c0_16 : Index := 0#32
  ![v10.toNat, 0]
def k0_off2 : Fin 2 → Nat :=
  let c0_i32 : BitVec 32 := 0#32
  let c8_i32 : BitVec 32 := 8#32
  let v8 : BitVec 32 := Scalar.muli c0_i32 c8_i32
  let v9 : BitVec 32 := v8
  let v77 : Index := Scalar.indexCast v9
  let c128 : Index := 128#32
  ![v77.toNat, 128]
def k0_off3 : Fin 2 → Nat :=
  let c0_i32 : BitVec 32 := 0#32
  let c8_i32 : BitVec 32 := 8#32
  let v8 : BitVec 32 := Scalar.muli c0_i32 c8_i32
  let v9 : BitVec 32 := v8
  let v144 : Index := Scalar.indexCast v9
  let c256 : Index := 256#32
  ![v144.toNat, 256]
def k0_off4 : Fin 2 → Nat :=
  let c0_i32 : BitVec 32 := 0#32
  let c8_i32 : BitVec 32 := 8#32
  let v8 : BitVec 32 := Scalar.muli c0_i32 c8_i32
  let v9 : BitVec 32 := v8
  let v211 : Index := Scalar.indexCast v9
  let c384 : Index := 384#32
  ![v211.toNat, 384]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 5 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, arg0.toNat, c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x8x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RetSampleReferenceIdeal.lean ====
abbrev S64x10368 : Shape := ⟨2, ![64, 10368]⟩
abbrev S1x512 : Shape := ⟨2, ![1, 512]⟩
abbrev S4x8x4x128x128 : Shape := ⟨5, ![4, 8, 4, 128, 128]⟩
abbrev S64x2048 : Shape := ⟨2, ![64, 2048]⟩
abbrev S8x8x4x4x128 : Shape := ⟨5, ![8, 8, 4, 4, 128]⟩
abbrev S8x8x1x4x128 : Shape := ⟨5, ![8, 8, 1, 4, 128]⟩
abbrev S8x8x4x128 : Shape := ⟨4, ![8, 8, 4, 128]⟩
abbrev S_ : Shape := ⟨0, ![]⟩
abbrev S1x8x4x128x128 : Shape := ⟨5, ![1, 8, 4, 128, 128]⟩
abbrev S8x4x128x128 : Shape := ⟨4, ![8, 4, 128, 128]⟩
abbrev S4 : Shape := ⟨1, ![4]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S4x1x1 : Shape := ⟨3, ![4, 1, 1]⟩
abbrev S1x8x8 : Shape := ⟨3, ![1, 8, 8]⟩
abbrev S4x8x8 : Shape := ⟨3, ![4, 8, 8]⟩
abbrev S4x1 : Shape := ⟨2, ![4, 1]⟩
abbrev S4x8 : Shape := ⟨2, ![4, 8]⟩
abbrev S4x8x1 : Shape := ⟨3, ![4, 8, 1]⟩
abbrev S8x4x8x128 : Shape := ⟨4, ![8, 4, 8, 128]⟩
abbrev S8x4x8x8 : Shape := ⟨4, ![8, 4, 8, 8]⟩
abbrev S1x4x8x8 : Shape := ⟨4, ![1, 4, 8, 8]⟩
abbrev S1x4x8x1 : Shape := ⟨4, ![1, 4, 8, 1]⟩
abbrev S1x4x1x1 : Shape := ⟨4, ![1, 4, 1, 1]⟩
abbrev S4x128 : Shape := ⟨2, ![4, 128]⟩
abbrev S8x8x4 : Shape := ⟨3, ![8, 8, 4]⟩
abbrev S8x8x4x1 : Shape := ⟨4, ![8, 8, 4, 1]⟩
abbrev S1x1x4x128 : Shape := ⟨4, ![1, 1, 4, 128]⟩
abbrev S64x512 : Shape := ⟨2, ![64, 512]⟩

abbrev nBuf : Space → Nat
  | .hbm => 127
  | .vmem => 0
  | .smem => 0
  | _ => 0

abbrev bufTy : (tb : Table) → Fin (tcTables nBuf tb) → BufTy
  | .hbm, ⟨0, _⟩ => ⟨S64x10368, .f32⟩
  | .hbm, ⟨1, _⟩ => ⟨S1x512, .f32⟩
  | .hbm, ⟨2, _⟩ => ⟨S4x8x4x128x128, .f32⟩
  | .hbm, ⟨3, _⟩ => ⟨S64x2048, .f32⟩
  | .hbm, ⟨4, _⟩ => ⟨S8x8x4x4x128, .f32⟩
  | .hbm, ⟨5, _⟩ => ⟨S8x8x1x4x128, .f32⟩
  | .hbm, ⟨6, _⟩ => ⟨S8x8x4x128, .f32⟩
  | .hbm, ⟨7, _⟩ => ⟨S8x8x1x4x128, .f32⟩
  | .hbm, ⟨8, _⟩ => ⟨S8x8x4x128, .f32⟩
  | .hbm, ⟨9, _⟩ => ⟨S_, .f32⟩
  | .hbm, ⟨10, _⟩ => ⟨S8x8x4x128, .f32⟩
  | .hbm, ⟨11, _⟩ => ⟨S8x8x4x128, .f32⟩
  | .hbm, ⟨12, _⟩ => ⟨S8x8x1x4x128, .f32⟩
  | .hbm, ⟨13, _⟩ => ⟨S8x8x4x128, .f32⟩
  | .hbm, ⟨14, _⟩ => ⟨S1x8x4x128x128, .f32⟩
  | .hbm, ⟨15, _⟩ => ⟨S8x4x128x128, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S_, .f32⟩
  | .hbm, ⟨21, _⟩ => ⟨S4, .f32⟩
  | .hbm, ⟨22, _⟩ => ⟨S4, .f32⟩
  | .hbm, ⟨23, _⟩ => ⟨S4, .f32⟩
  | .hbm, ⟨24, _⟩ => ⟨S4, .f32⟩
  | .hbm, ⟨25, _⟩ => ⟨S4, .f32⟩
  | .hbm, ⟨26, _⟩ => ⟨S8, .f32⟩
  | .hbm, ⟨27, _⟩ => ⟨S8x1, .f32⟩
  | .hbm, ⟨28, _⟩ => ⟨S1x8, .f32⟩
  | .hbm, ⟨29, _⟩ => ⟨S8x8, .f32⟩
  | .hbm, ⟨30, _⟩ => ⟨S8x8, .f32⟩
  | .hbm, ⟨31, _⟩ => ⟨S8x8, .f32⟩
  | .hbm, ⟨32, _⟩ => ⟨S_, .f32⟩
  | .hbm, ⟨33, _⟩ => ⟨S8x8, .f32⟩
  | .hbm, ⟨34, _⟩ => ⟨S8x8, .i1⟩
  | .hbm, ⟨35, _⟩ => ⟨S4x1x1, .f32⟩
  | .hbm, ⟨36, _⟩ => ⟨S_, .f32⟩
  | .hbm, ⟨37, _⟩ => ⟨S8x8, .f32⟩
  | .hbm, ⟨38, _⟩ => ⟨S8x8, .f32⟩
  | .hbm, ⟨39, _⟩ => ⟨S1x8x8, .f32⟩
  | .hbm, ⟨40, _⟩ => ⟨S4x8x8, .f32⟩
  | .hbm, ⟨41, _⟩ => ⟨S4x8x8, .f32⟩
  | .hbm, ⟨42, _⟩ => ⟨S4x8x8, .f32⟩
  | .hbm, ⟨43, _⟩ => ⟨S4x8x8, .f32⟩
  | .hbm, ⟨44, _⟩ => ⟨S_, .f32⟩
  | .hbm, ⟨45, _⟩ => ⟨S_, .f32⟩
  | .hbm, ⟨46, _⟩ => ⟨S4x8x8, .i1⟩
  | .hbm, ⟨47, _⟩ => ⟨S4x8x8, .f32⟩
  | .hbm, ⟨48, _⟩ => ⟨S4x8x8, .f32⟩
  | .hbm, ⟨49, _⟩ => ⟨S4x1, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S1x8, .f32⟩
  | .hbm, ⟨54, _⟩ => ⟨S4x8, .f32⟩
  | .hbm, ⟨55, _⟩ => ⟨S4x8, .f32⟩
  | .hbm, ⟨56, _⟩ => ⟨S4x8, .f32⟩
  | .hbm, ⟨57, _⟩ => ⟨S4x8, .f32⟩
  | .hbm, ⟨58, _⟩ => ⟨S4x8x1, .f32⟩
  | .hbm, ⟨59, _⟩ => ⟨S4x1, .f32⟩
  | .hbm, ⟨60, _⟩ => ⟨S_, .f32⟩
  | .hbm, ⟨61, _⟩ => ⟨S8, .f32⟩
  | .hbm, ⟨62, _⟩ => ⟨S8, .f32⟩
  | .hbm, ⟨63, _⟩ => ⟨S1x8, .f32⟩
  | .hbm, ⟨64, _⟩ => ⟨S4x8, .f32⟩
  | .hbm, ⟨65, _⟩ => ⟨S4x8, .f32⟩
  | .hbm, ⟨66, _⟩ => ⟨S4x8, .f32⟩
  | .hbm, ⟨67, _⟩ => ⟨S4x8, .f32⟩
  | .hbm, ⟨68, _⟩ => ⟨S4x8x1, .f32⟩
  | .hbm, ⟨69, _⟩ => ⟨S_, .f32⟩
  | .hbm, ⟨70, _⟩ => ⟨S4, .f32⟩
  | .hbm, ⟨71, _⟩ => ⟨S4, .f32⟩
  | .hbm, ⟨72, _⟩ => ⟨S4, .f32⟩
  | .hbm, ⟨73, _⟩ => ⟨S4x1x1, .f32⟩
  | .hbm, ⟨74, _⟩ => ⟨S8x4x8x128, .f32⟩
  | .hbm, ⟨75, _⟩ => ⟨S8x4x8x128, .f32⟩
  | .hbm, ⟨76, _⟩ => ⟨S8x4x8x128, .f32⟩
  | .hbm, ⟨77, _⟩ => ⟨S8x4x8x8, .f32⟩
  | .hbm, ⟨78, _⟩ => ⟨S1x4x8x8, .f32⟩
  | .hbm, ⟨79, _⟩ => ⟨S8x4x8x8, .f32⟩
  | .hbm, ⟨80, _⟩ => ⟨S8x4x8x8, .f32⟩
  | .hbm, ⟨81, _⟩ => ⟨S8x4x8x128, .f32⟩
  | .hbm, ⟨82, _⟩ => ⟨S1x4x8x1, .f32⟩
  | .hbm, ⟨83, _⟩ => ⟨S8x4x8x128, .f32⟩
  | .hbm, ⟨84, _⟩ => ⟨S8x4x8x128, .f32⟩
  | .hbm, ⟨85, _⟩ => ⟨S8x4x8x128, .f32⟩
  | .hbm, ⟨86, _⟩ => ⟨S8x4x8x128, .f32⟩
  | .hbm, ⟨87, _⟩ => ⟨S1x4x1x1, .f32⟩
  | .hbm, ⟨88, _⟩ => ⟨S8x4x128x128, .f32⟩
  | .hbm, ⟨89, _⟩ => ⟨S8x4x128x128, .f32⟩
  | .hbm, ⟨90, _⟩ => ⟨S1x4x8x1, .f32⟩
  | .hbm, ⟨91, _⟩ => ⟨S8x4x8x128, .f32⟩
  | .hbm, ⟨92, _⟩ => ⟨S8x4x8x128, .f32⟩
  | .hbm, ⟨93, _⟩ => ⟨S8x4x128x128, .f32⟩
  | .hbm, ⟨94, _⟩ => ⟨S8x4x128x128, .f32⟩
  | .hbm, ⟨95, _⟩ => ⟨S8x8x4x128, .f32⟩
  | .hbm, ⟨96, _⟩ => ⟨S4x128, .f32⟩
  | .hbm, ⟨97, _⟩ => ⟨S8x8x4x128, .f32⟩
  | .hbm, ⟨98, _⟩ => ⟨S_, .f32⟩
  | .hbm, ⟨99, _⟩ => ⟨S8x8x4, .f32⟩
  | .hbm, ⟨100, _⟩ => ⟨S8x8x4x1, .f32⟩
  | .hbm, ⟨101, _⟩ => ⟨S_, .f32⟩
  | .hbm, ⟨102, _⟩ => ⟨S8x8x4x1, .f32⟩
  | .hbm, ⟨103, _⟩ => ⟨S8x8x4x1, .f32⟩
  | .hbm, ⟨104, _⟩ => ⟨S_, .f32⟩
  | .hbm, ⟨105, _⟩ => ⟨S8x8x4x1, .f32⟩
  | .hbm, ⟨106, _⟩ => ⟨S8x8x4x1, .f32⟩
  | .hbm, ⟨107, _⟩ => ⟨S8x8x4x1, .f32⟩
  | .hbm, ⟨108, _⟩ => ⟨S8x8x4x128, .f32⟩
  | .hbm, ⟨109, _⟩ => ⟨S8x8x4x128, .f32⟩
  | .hbm, ⟨110, _⟩ => ⟨S1x1x4x128, .f32⟩
  | .hbm, ⟨111, _⟩ => ⟨S8x8x4x128, .f32⟩
  | .hbm, ⟨112, _⟩ => ⟨S8x8x4x128, .f32⟩
  | .hbm, ⟨113, _⟩ => ⟨S8x8x1x4x128, .f32⟩
  | .hbm, ⟨114, _⟩ => ⟨S8x8x4x128, .f32⟩
  | .hbm, ⟨115, _⟩ => ⟨S8x8x4x128, .f32⟩
  | .hbm, ⟨116, _⟩ => ⟨S8x8x4x128, .f32⟩
  | .hbm, ⟨117, _⟩ => ⟨S_, .f32⟩
  | .hbm, ⟨118, _⟩ => ⟨S8x8x4x128, .f32⟩
  | .hbm, ⟨119, _⟩ => ⟨S8x8x4x128, .f32⟩
  | .hbm, ⟨120, _⟩ => ⟨S_, .f32⟩
  | .hbm, ⟨121, _⟩ => ⟨S8x8x4x128, .f32⟩
  | .hbm, ⟨122, _⟩ => ⟨S8x8x4x128, .f32⟩
  | .hbm, ⟨123, _⟩ => ⟨S8x8x4x128, .f32⟩
  | .hbm, ⟨124, _⟩ => ⟨S8x8x4x128, .f32⟩
  | .hbm, ⟨125, _⟩ => ⟨S64x512, .f32⟩
  | .hbm, ⟨126, _⟩ => ⟨S64x512, .bf16⟩
  | _, _ => ⟨S64x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_cst_8 : Ref sig .tc := ⟨.hbm, 98, rfl⟩
abbrev main_v83 : Ref sig .tc := ⟨.hbm, 99, rfl⟩
abbrev main_v84 : Ref sig .tc := ⟨.hbm, 100, rfl⟩
abbrev main_cst_9 : Ref sig .tc := ⟨.hbm, 101, rfl⟩
abbrev main_v85 : Ref sig .tc := ⟨.hbm, 102, rfl⟩
abbrev main_v86 : Ref sig .tc := ⟨.hbm, 103, rfl⟩
abbrev main_cst_10 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_call1_v0 : Ref sig .tc := ⟨.hbm, 115, rfl⟩
abbrev main_call1_v1 : Ref sig .tc := ⟨.hbm, 116, rfl⟩
abbrev main_call1_cst : Ref sig .tc := ⟨.hbm, 117, rfl⟩
abbrev main_call1_v2 : Ref sig .tc := ⟨.hbm, 118, rfl⟩
abbrev main_call1_v3 : Ref sig .tc := ⟨.hbm, 119, rfl⟩
abbrev main_call1_cst_0 : Ref sig .tc := ⟨.hbm, 120, rfl⟩
abbrev main_call1_v4 : Ref sig .tc := ⟨.hbm, 121, rfl⟩
abbrev main_call1_v5 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩

abbrev nD : Nat := 1
abbrev τ : Topo := Topo.v7x

variable {F : FTy → Type} [FloatOps F]
-- ==== Proof.FfnSpec.lean ====
module

public import Idealize.ShloMosaic.Lib.Pointwise

@[expose] public section

noncomputable section

open Idealize.ShloMosaic

namespace Cert.Layer

/-- Arrays of two axes over the extended reals. -/
abbrev Arr (a b : ℕ) : Type := (⟨2, ![a, b]⟩ : Shape).Idx → EReal

/-- The mean square of a row of 2048 entries, with the small constant added, under the reciprocal square root. -/
def scale2048 (x : Fin 2048 → EReal) : EReal :=
  Ideal.rsqrt (Ideal.div (∑ k, x k * x k) (Ideal.ofBits .f32 1157627904#32) + Ideal.ofBits .f32 897988541#32)

/-- The sigmoid of the first number times that number, times the second. -/
def gated (a b : EReal) : EReal := a * Ideal.div 1 (1 + Ideal.exp (-a)) * b

/-- One half, as the program holds it. -/
def half : EReal := Ideal.ofBits .f32 1056964608#32

end Cert.Layer

namespace Cert.Layer.Ffn

/-- Row `r` of the input, normalised by its mean square and multiplied by the gain. -/
def xnAt (X : Arr 8192 2048) (G : Arr 1 2048) (r : Fin 8192) (k : Fin 2048) : EReal :=
  X (ix2 r k) * scale2048 (fun j => X (ix2 r j)) * G (ix2 0 k)

/-- Hidden unit `f` of row `r`: the gated product of the two projections of the normalised row. -/
def hidAt (X : Arr 8192 2048) (G : Arr 1 2048) (Wg Wv : Arr 2048 5632) (r : Fin 8192) (f : Fin 5632) : EReal :=
  gated (∑ k, xnAt X G r k * Wg (ix2 k f)) (∑ k, xnAt X G r k * Wv (ix2 k f))

/-- The down projection of the hidden row. -/
def downAt (X : Arr 8192 2048) (G : Arr 1 2048) (Wg Wv : Arr 2048 5632) (Wd : Arr 5632 2048) (r : Fin 8192) (e : Fin 2048) :
    EReal :=
  ∑ f, hidAt X G Wg Wv r f * Wd (ix2 f e)

/-- The first result: the input plus half of the down projection. -/
def hAt (X : Arr 8192 2048) (G : Arr 1 2048) (Wg Wv : Arr 2048 5632) (Wd : Arr 5632 2048) (r : Fin 8192) (e : Fin 2048) :
    EReal :=
  X (ix2 r e) + half * downAt X G Wg Wv Wd r e

/-- The second result: the first, normalised by its mean square and multiplied by the second gain. -/
def uAt (X : Arr 8192 2048) (G : Arr 1 2048) (Wg Wv : Arr 2048 5632) (Wd : Arr 5632 2048) (G2 : Arr 1 2048)
    (r : Fin 8192) (e : Fin 2048) : EReal :=
  hAt X G Wg Wv Wd r e * scale2048 (fun j => hAt X G Wg Wv Wd r j) * G2 (ix2 0 e)

end Cert.Layer.Ffn
-- ==== Proof.FfnPieces.lean ====
module

public import proofs.«01_k».proof.Proof.Gen.FfnIdeal.Value
public import Idealize.ShloMosaic.Lib.Pipeline.ValueKit
public import Idealize.ShloMosaic.Lib.Pipeline.ReadBack
public import Idealize.ShloMosaic.Lib.Tactic

@[expose] public section

noncomputable section

open Idealize.ShloMosaic Idealize.ShloMosaic.TcCoe Idealize.SL.Sem

namespace Cert.FfnIdeal.Feed

open Cert.FfnIdeal Cert.FfnIdeal.Gen

variable (m : (ℓ : Loc nD τ sig) → Buf (Elt Ideal) ℓ)

/-- A row tile's first point leaves the normalised rows in the first scratch. -/
theorem first_xn (c : Dev nD) (t : Fin cfg0.N) (h0 : t.val % 11 = 0) :
    (outsAt0 m c t.val t.isLt).2.2.1 = k0_pay1 (iblk m c 0 t) (iblk m c 1 t) := by
  rw [outsAt0_A m c t h0 (by omega)]
  frame_out

/-- A row tile's first point starts the accumulator at zero and adds its tile's part. -/
theorem first_acc (c : Dev nD) (t : Fin cfg0.N) (h0 : t.val % 11 = 0) :
    (outsAt0 m c t.val t.isLt).2.2.2 =
      k0_pay3 (iblk m c 2 t) (iblk m c 3 t) (iblk m c 4 t) (k0_pay1 (iblk m c 0 t) (iblk m c 1 t)) (k0_pay2 (F := Ideal)) := by
  rw [outsAt0_A m c t h0 (by omega)]
  frame_out

/-- Every other point leaves the first scratch as it found it. -/
theorem next_xn (c : Dev nD) (t : Fin cfg0.N) (h0 : ¬t.val % 11 = 0) :
    (outsAt0 m c t.val t.isLt).2.2.1 = (outsAt0 m c (t.val - 1) (by omega)).2.2.1 := by
  by_cases h1 : t.val % 11 = 10
  · rw [outsAt0_C m c t h0 h1]; rfl
  · rw [outsAt0_B m c t h0 h1]; rfl

/-- Every other point adds its tile's part to the accumulator, from the normalised rows it found. -/
theorem next_acc (c : Dev nD) (t : Fin cfg0.N) (h0 : ¬t.val % 11 = 0) :
    (outsAt0 m c t.val t.isLt).2.2.2 =
      k0_pay3 (iblk m c 2 t) (iblk m c 3 t) (iblk m c 4 t) (outsAt0 m c (t.val - 1) (by omega)).2.2.1
        (outsAt0 m c (t.val - 1) (by omega)).2.2.2 := by
  by_cases h1 : t.val % 11 = 10
  · rw [outsAt0_C m c t h0 h1]; frame_out; simp only [read_unread_whole]
  · rw [outsAt0_B m c t h0 h1]; frame_out; simp only [read_unread_whole]

/-- A row tile's last point writes the first result from the finished accumulator. -/
theorem last_h (c : Dev nD) (t : Fin cfg0.N) (h1 : t.val % 11 = 10) :
    (outsAt0 m c t.val t.isLt).1 = k0_pay4 (iblk m c 0 t) (outsAt0 m c t.val t.isLt).2.2.2 := by
  rw [next_acc m c t (by omega), outsAt0_C m c t (by omega) h1]
  frame_out
  simp only [read_unread_whole]

/-- A row tile's last point writes the second result from the finished accumulator. -/
theorem last_u (c : Dev nD) (t : Fin cfg0.N) (h1 : t.val % 11 = 10) :
    (outsAt0 m c t.val t.isLt).2.1 = k0_pay5 (iblk m c 0 t) (outsAt0 m c t.val t.isLt).2.2.2 (iblk m c 5 t) := by
  rw [next_acc m c t (by omega), outsAt0_C m c t (by omega) h1]
  frame_out
  simp only [read_unread_whole]

end Cert.FfnIdeal.Feed
-- ==== Proof.FfnPayloads.lean ====
module

public import proofs.«01_k».proof.Proof.FfnSpec
public import proofs.«01_k».proof.Proof.FfnPieces

@[expose] public section

set_option maxRecDepth 16384

noncomputable section

open Idealize.ShloMosaic Idealize.ShloMosaic.TcCoe Idealize.SL.Sem

namespace Cert.FfnIdeal.Feed

open Cert.FfnIdeal Cert.FfnIdeal.Gen Cert.Layer

/-- The normalised row block at an element. -/
theorem pay_xn (x : Vec Ideal S512x2048 .f32) (g : Vec Ideal S1x2048 .f32) (r : Fin 512) (k : Fin 2048) :
    k0_pay1 (F := Ideal) x g (ix2 r k) = x (ix2 r k) * scale2048 (fun j => x (ix2 r j)) * g (ix2 0 k) := by
  unfold scale2048
  pointwise [k0_pay1]

/-- The accumulator starts at zero. -/
theorem pay_zero (i : S512x2048.Idx) : k0_pay2 (F := Ideal) i = 0 := by
  pointwise [k0_pay2]

/-- What a tile of 512 hidden units adds to the accumulator. -/
theorem pay_acc (a b : Vec Ideal S2048x512 .bf16) (d x : Vec Ideal S512x2048 .bf16) (acc : Vec Ideal S512x2048 .f32)
    (r : Fin 512) (e : Fin 2048) :
    k0_pay3 (F := Ideal) a b d x acc (ix2 r e) =
      acc (ix2 r e) + ∑ f : Fin 512, gated (∑ k, x (ix2 r k) * a (ix2 k f)) (∑ k, x (ix2 r k) * b (ix2 k f)) * d (ix2 f e) := by
  unfold gated
  pointwise [k0_pay3]
  simp only [sub_eq_add_neg, zero_add]

/-- The first result at an element. -/
theorem pay_h (x acc : Vec Ideal S512x2048 .f32) (r : Fin 512) (k : Fin 2048) :
    k0_pay4 (F := Ideal) x acc (ix2 r k) = x (ix2 r k) + half * acc (ix2 r k) := by
  unfold half
  pointwise [k0_pay4]

/-- The second result at an element. -/
theorem pay_u (x acc : Vec Ideal S512x2048 .f32) (g : Vec Ideal S1x2048 .f32) (r : Fin 512) (k : Fin 2048) :
    k0_pay5 (F := Ideal) x acc g (ix2 r k) =
      k0_pay4 (F := Ideal) x acc (ix2 r k) * scale2048 (fun j => k0_pay4 (F := Ideal) x acc (ix2 r j)) * g (ix2 0 k) := by
  unfold scale2048
  pointwise [k0_pay5]

end Cert.FfnIdeal.Feed
-- ==== Proof.FfnBlocks.lean ====
module

public import proofs.«01_k».proof.Proof.FfnPayloads
public import Idealize.ShloMosaic.Lib.Pipeline.ValueKit.Point

@[expose] public section

set_option maxRecDepth 16384

noncomputable section

open Idealize.ShloMosaic Idealize.ShloMosaic.TcCoe Idealize.SL.Sem

namespace Cert.FfnIdeal.Feed

open Cert.FfnIdeal Cert.FfnIdeal.Gen Cert.Layer Cert.Layer.Ffn

variable (m : (ℓ : Loc nD τ sig) → Buf (Elt Ideal) ℓ)

/-- Which block of each operand a grid point works on: the row tile is `t / 11`, the hidden tile `t % 11`. -/
theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![0, 0] :=
  (by decide +kernel : ∀ t : Fin grid0.N, _)

/-- The array row that row `r` of point `t`'s row tile is. -/
def rowOf (t : Fin cfg0.N) (r : Fin 512) : Fin 8192 :=
  ⟨512 * (t.val / 11) + r.val, by have h : cfg0.N = 176 := N_0; have := t.isLt; omega⟩

/-- The hidden unit that unit `f` of point `t`'s hidden tile is. -/
def unitOf (t : Fin cfg0.N) (f : Fin 512) : Fin 5632 :=
  ⟨512 * (t.val % 11) + f.val, by omega⟩

/-- The input block of a point, read from the input. -/
theorem blk0 (c : Dev nD) (t : Fin cfg0.N) (r : Fin 512) (k : Fin 2048) :
    iblk m c 0 t (ix2 r k) = m ((c : Thread nD τ).loc main_arg0) (ix2 (rowOf t r) k) := by
  unfold rowOf
  blk_ext [iblk, V, idx t]

/-- The gain block of a point is the gain. -/
theorem blk1 (c : Dev nD) (t : Fin cfg0.N) (r : Fin 1) (k : Fin 2048) :
    iblk m c 1 t (ix2 r k) = m ((c : Thread nD τ).loc main_arg1) (ix2 r k) := by
  blk_ext [iblk, V, idx t]

/-- The gate weights' block of a point, read from the gate weights. -/
theorem blk2 (c : Dev nD) (t : Fin cfg0.N) (k : Fin 2048) (f : Fin 512) :
    iblk m c 2 t (ix2 k f) = m ((c : Thread nD τ).loc main_arg2) (ix2 k (unitOf t f)) := by
  unfold unitOf
  blk_ext [iblk, V, idx t]

/-- The value weights' block of a point, read from the value weights. -/
theorem blk3 (c : Dev nD) (t : Fin cfg0.N) (k : Fin 2048) (f : Fin 512) :
    iblk m c 3 t (ix2 k f) = m ((c : Thread nD τ).loc main_arg3) (ix2 k (unitOf t f)) := by
  unfold unitOf
  blk_ext [iblk, V, idx t]

/-- The down weights' block of a point, read from the down weights. -/
theorem blk4 (c : Dev nD) (t : Fin cfg0.N) (f : Fin 512) (e : Fin 2048) :
    iblk m c 4 t (ix2 f e) = m ((c : Thread nD τ).loc main_arg4) (ix2 (unitOf t f) e) := by
  unfold unitOf
  blk_ext [iblk, V, idx t]

/-- The second gain's block of a point is the second gain. -/
theorem blk5 (c : Dev nD) (t : Fin cfg0.N) (r : Fin 1) (k : Fin 2048) :
    iblk m c 5 t (ix2 r k) = m ((c : Thread nD τ).loc main_arg5) (ix2 r k) := by
  blk_ext [iblk, V, idx t]

/-- The input, as an array over the extended reals. -/
abbrev X (c : Dev nD) : Arr 8192 2048 := m ((c : Thread nD τ).loc main_arg0)
/-- The first gain. -/
abbrev G (c : Dev nD) : Arr 1 2048 := m ((c : Thread nD τ).loc main_arg1)
/-- The gate weights. -/
abbrev Wg (c : Dev nD) : Arr 2048 5632 := m ((c : Thread nD τ).loc main_arg2)
/-- The value weights. -/
abbrev Wv (c : Dev nD) : Arr 2048 5632 := m ((c : Thread nD τ).loc main_arg3)
/-- The down weights. -/
abbrev Wd (c : Dev nD) : Arr 5632 2048 := m ((c : Thread nD τ).loc main_arg4)
/-- The second gain. -/
abbrev G2 (c : Dev nD) : Arr 1 2048 := m ((c : Thread nD τ).loc main_arg5)

end Cert.FfnIdeal.Feed
-- ==== Proof.FfnValue.lean ====
module

public import proofs.«01_k».proof.Proof.FfnBlocks
public import proofs.«01_k».proof.Proof.Gen.FfnIdeal.Value

@[expose] public section

set_option maxRecDepth 16384

noncomputable section

open Idealize.ShloMosaic Idealize.ShloMosaic.TcCoe Idealize.SL.Sem

namespace Cert.FfnIdeal.Feed

open Cert.FfnIdeal Cert.FfnIdeal.Gen Cert.FfnIdeal.Value Cert.Layer Cert.Layer.Ffn

variable (m : (ℓ : Loc nD τ sig) → Buf (Elt Ideal) ℓ)

/-- After every point the first scratch holds the normalised rows of that point's row tile. -/
theorem xn_at (c : Dev nD) : ∀ (n : ℕ) (h : n < cfg0.N) (r : Fin 512) (k : Fin 2048),
    (outsAt0 m c n h).2.2.1 (ix2 r k) = xnAt (X m c) (G m c) (rowOf ⟨n, h⟩ r) k := by
  intro n
  induction n with
  | zero =>
    intro h r k
    rw [first_xn m c ⟨0, h⟩ rfl, pay_xn]
    simp only [blk0, blk1]
    rfl
  | succ n ih =>
    intro h r k
    by_cases h0 : (n + 1) % 11 = 0
    · rw [first_xn m c ⟨n + 1, h⟩ h0, pay_xn]
      simp only [blk0, blk1]
      rfl
    · rw [next_xn m c ⟨n + 1, h⟩ h0]
      refine (ih (Nat.lt_of_succ_lt h) r k).trans ?_
      have e : rowOf ⟨n, Nat.lt_of_succ_lt h⟩ r = rowOf ⟨n + 1, h⟩ r := by
        apply Fin.ext
        show 512 * (n / 11) + r.val = 512 * ((n + 1) / 11) + r.val
        omega
      rw [e]

/-- What point `t` adds to the accumulator at an element: the part of the down projection over its 512 hidden units. -/
def part (c : Dev nD) (t : Fin cfg0.N) (i : S512x2048.Idx) : EReal :=
  ∑ f : Fin 512, hidAt (X m c) (G m c) (Wg m c) (Wv m c) (rowOf t (i 0)) (unitOf t f) * Wd m c (ix2 (unitOf t f) (i 1))

/-- A row tile's first point starts the accumulator at zero and adds its part. -/
theorem acc_first (c : Dev nD) (t : Fin cfg0.N) (h0 : t.val % 11 = 0) (i : S512x2048.Idx) :
    (outsAt0 m c t.val t.isLt).2.2.2 i = 0 + part m c t i := by
  obtain ⟨r, e, rfl⟩ : ∃ (r : Fin 512) (e : Fin 2048), i = ix2 r e := ⟨i 0, i 1, eq_ix2 i⟩
  rw [first_acc m c t h0, pay_acc, pay_zero]
  simp only [pay_xn, blk0, blk1, blk2, blk3, blk4]
  rfl

/-- Every other point adds its part to what the point before left. -/
theorem acc_next (c : Dev nD) (t : Fin cfg0.N) (h0 : ¬t.val % 11 = 0) (i : S512x2048.Idx) :
    (outsAt0 m c t.val t.isLt).2.2.2 i =
      (outsAt0 m c (t.val - 1) (Nat.lt_of_le_of_lt (Nat.sub_le _ _) t.isLt)).2.2.2 i + part m c t i := by
  obtain ⟨r, e, rfl⟩ : ∃ (r : Fin 512) (e : Fin 2048), i = ix2 r e := ⟨i 0, i 1, eq_ix2 i⟩
  rw [next_acc m c t h0, pay_acc, ← next_xn m c t h0]
  simp only [xn_at, blk2, blk3, blk4]
  rfl

/-- At a row tile's last point the accumulator holds the whole down projection. -/
theorem acc_last (c : Dev nD) (t : Fin cfg0.N) (h1 : t.val % 11 = 10) (r : Fin 512) (e : Fin 2048) :
    (outsAt0 m c t.val t.isLt).2.2.2 (ix2 r e) =
      downAt (X m c) (G m c) (Wg m c) (Wv m c) (Wd m c) (rowOf t r) e := by
  rw [Pipeline.eq_sum_fin_of_reset_step_apply_of_flush (fun n h => (outsAt0 m c n h).2.2.2) 11 (fun _ => (0 : EReal))
    (part m c) (acc_first m c) (acc_next m c) t h1 (ix2 r e), zero_add]
  unfold downAt
  refine Fin.sum_mul_add_congr fun s f hl => ?_
  have hs : s.val < 11 := s.isLt
  have er : rowOf ⟨11 * (t.val / 11) + s.val, Pipeline.run_point_lt_of_flush t h1 s⟩ r = rowOf t r := by
    apply Fin.ext
    show 512 * ((11 * (t.val / 11) + s.val) / 11) + r.val = 512 * (t.val / 11) + r.val
    omega
  have eu : unitOf ⟨11 * (t.val / 11) + s.val, Pipeline.run_point_lt_of_flush t h1 s⟩ f = ⟨s.val * 512 + f.val, hl⟩ := by
    apply Fin.ext
    show 512 * ((11 * (t.val / 11) + s.val) % 11) + f.val = s.val * 512 + f.val
    omega
  show hidAt _ _ _ _ (rowOf _ r) (unitOf _ f) * Wd m c (ix2 (unitOf _ f) e) = _
  rw [er, eu]

/-- At a row tile's last point the first output block holds the first result's rows. -/
theorem h_last (c : Dev nD) (t : Fin cfg0.N) (h1 : t.val % 11 = 10) (r : Fin 512) (e : Fin 2048) :
    (outsAt0 m c t.val t.isLt).1 (ix2 r e) = hAt (X m c) (G m c) (Wg m c) (Wv m c) (Wd m c) (rowOf t r) e := by
  rw [last_h m c t h1, pay_h, acc_last m c t h1, blk0]
  rfl

/-- At a row tile's last point the second output block holds the second result's rows. -/
theorem u_last (c : Dev nD) (t : Fin cfg0.N) (h1 : t.val % 11 = 10) (r : Fin 512) (e : Fin 2048) :
    (outsAt0 m c t.val t.isLt).2.1 (ix2 r e) =
      uAt (X m c) (G m c) (Wg m c) (Wv m c) (Wd m c) (G2 m c) (rowOf t r) e := by
  rw [last_u m c t h1, pay_u]
  simp only [pay_h, acc_last m c t h1, blk0, blk5]
  rfl

/-- The row of an array that the generated description of the run places at row `i % 512` of the tile written last at point `11 * (i / 512) + 10`. -/
theorem row_back (i : S8192x2048.Idx) (h : pt6Of i < cfg0.N) : rowOf ⟨pt6Of i, h⟩ (loc6Of i 0) = i 0 := by
  have h0 : (i 0).val < 8192 := (i 0).isLt
  have h1 : (i 1).val < 2048 := (i 1).isLt
  apply Fin.ext
  show 512 * ((11 * (1 * ((i 0).val / 512 - 0) + 1 * ((i 1).val / 2048 - 0)) + 10) / 11) + (i 0).val % 512 = (i 0).val
  omega

/-- Every element of a result array is written back at some point of the grid. -/
theorem point_lt (i : S8192x2048.Idx) : pt6Of i < cfg0.N := by
  have h0 : (i 0).val < 8192 := (i 0).isLt
  have h1 : (i 1).val < 2048 := (i 1).isLt
  have hN : cfg0.N = 176 := N_0
  rw [hN]
  show 11 * (1 * ((i 0).val / 512 - 0) + 1 * ((i 1).val / 2048 - 0)) + 10 < 176
  omega

/-- That point is the last one of its row tile. -/
theorem point_last (i : S8192x2048.Idx) : pt6Of i % 11 = 10 := by
  show (11 * (1 * ((i 0).val / 512 - 0) + 1 * ((i 1).val / 2048 - 0)) + 10) % 11 = 10
  omega

/-- The column of an element in its tile is its column in the array. -/
theorem col_back (i : S8192x2048.Idx) : loc6Of i 1 = i 1 := by
  have h1 : (i 1).val < 2048 := (i 1).isLt
  apply Fin.ext
  show (i 1).val % 2048 = (i 1).val
  omega

/-- The first result array after the run, element by element. -/
theorem final_h (c : Dev nD) (i : S8192x2048.Idx) :
    G6 m c i = hAt (X m c) (G m c) (Wg m c) (Wv m c) (Wd m c) (i 0) (i 1) := by
  have hp := point_lt i
  unfold G6
  rw [dif_pos hp, ← outsAt0_sweep m c (pt6Of i) hp]
  refine (congrArg (outsAt0 m c (pt6Of i) hp).1 (eq_ix2 (loc6Of i))).trans ?_
  refine (h_last m c ⟨pt6Of i, hp⟩ (point_last i) (loc6Of i 0) (loc6Of i 1)).trans ?_
  rw [row_back i hp, col_back i]

/-- The second result array after the run, element by element. -/
theorem final_u (c : Dev nD) (i : S8192x2048.Idx) :
    G7 m c i = uAt (X m c) (G m c) (Wg m c) (Wv m c) (Wd m c) (G2 m c) (i 0) (i 1) := by
  have hp := point_lt i
  unfold G7
  rw [dif_pos (show pt7Of i < cfg0.N from hp), ← outsAt0_sweep m c (pt7Of i) hp]
  refine (congrArg (outsAt0 m c (pt7Of i) hp).2.1 (eq_ix2 (loc7Of i))).trans ?_
  refine (u_last m c ⟨pt6Of i, hp⟩ (point_last i) (loc6Of i 0) (loc6Of i 1)).trans ?_
  rw [row_back i hp, col_back i]

end Cert.FfnIdeal.Feed
-- ==== Proof.FfnRef.lean ====
module

public import proofs.«01_k».proof.Proof.FfnSpec
public import proofs.«01_k».proof.Proof.Gen.FfnReferenceIdeal.Read

@[expose] public section

set_option maxRecDepth 16384

noncomputable section

open Idealize.ShloMosaic Idealize.ShloMosaic.TcCoe Idealize.SL.Sem

namespace Cert.FfnReferenceIdeal.Feed

open Cert.FfnReferenceIdeal Cert.FfnReferenceIdeal.Gen Cert.FfnReferenceIdeal.Read Cert.Layer Cert.Layer.Ffn

variable (x0 : Vec Ideal S8192x2048 .f32) (x1 : Vec Ideal S1x2048 .f32) (x2 x3 : Vec Ideal S2048x5632 .bf16)
  (x4 : Vec Ideal S5632x2048 .bf16) (x5 : Vec Ideal S1x2048 .f32)

/-- The reference's normalised row. -/
theorem xn_eq (r : Fin 8192) (k : Fin 2048) : val_main_v14 (F := Ideal) x0 x1 (ix2 r k) = xnAt x0 x1 r k := by
  unfold xnAt scale2048
  pointwise [val_main_v14, val_main_v13, val_main_v12, val_main_v11, val_main_v10, val_main_v9, val_main_v8, val_main_v7,
    val_main_v6, val_main_v5, val_main_v4, val_main_v3, val_main_cst, val_main_cst_0, val_main_cst_1]

/-- The reference's hidden unit. -/
theorem hid_eq (r : Fin 8192) (f : Fin 5632) :
    val_main_v18 (F := Ideal) x0 x1 x2 x3 (ix2 r f) = hidAt x0 x1 x2 x3 r f := by
  unfold hidAt gated
  pointwise [val_main_v18, val_main_v17, val_main_v16, val_main_v15, val_main_call0_v5, val_main_call0_v4,
    val_main_call0_v3, val_main_call0_v2, val_main_call0_v1, val_main_call0_v0, val_main_call0_cst, val_main_call0_cst_0,
    val_main_v0, val_main_v1]
  simp only [xn_eq]

/-- The reference's first result. -/
theorem h_eq (r : Fin 8192) (e : Fin 2048) :
    val_main_v22 (F := Ideal) x0 x1 x2 x3 x4 (ix2 r e) = hAt x0 x1 x2 x3 x4 r e := by
  unfold hAt downAt half
  pointwise [val_main_v22, val_main_v21, val_main_v20, val_main_v19, val_main_v2, val_main_cst_2]
  simp only [hid_eq]

/-- The reference's second result. -/
theorem u_eq (r : Fin 8192) (e : Fin 2048) :
    val_main_v35 (F := Ideal) x0 x1 x2 x3 x4 x5 (ix2 r e) = uAt x0 x1 x2 x3 x4 x5 r e := by
  unfold uAt scale2048
  pointwise [val_main_v35, val_main_v34, val_main_v33, val_main_v32, val_main_v31, val_main_v30, val_main_v29, val_main_v28,
    val_main_v27, val_main_v26, val_main_v25, val_main_v24, val_main_v23, val_main_cst_3, val_main_cst_4, val_main_cst_5]
  simp only [h_eq]

/-- The reference's first result, as an array. -/
theorem h_arr : val_main_v22 (F := Ideal) x0 x1 x2 x3 x4 =
    fun i : (⟨2, ![8192, 2048]⟩ : Shape).Idx => hAt x0 x1 x2 x3 x4 (i 0) (i 1) :=
  funext fun i => (congrArg _ (eq_ix2 i)).trans (h_eq x0 x1 x2 x3 x4 (i 0) (i 1))

/-- The reference's second result, as an array. -/
theorem u_arr : val_main_v35 (F := Ideal) x0 x1 x2 x3 x4 x5 =
    fun i : (⟨2, ![8192, 2048]⟩ : Shape).Idx => uAt x0 x1 x2 x3 x4 x5 (i 0) (i 1) :=
  funext fun i => (congrArg _ (eq_ix2 i)).trans (u_eq x0 x1 x2 x3 x4 x5 (i 0) (i 1))

end Cert.FfnReferenceIdeal.Feed
-- ==== Proof.FfnClaim.lean ====
module

public import proofs.«01_k».proof.Defs
public import Idealize.ShloMosaic.Adequacy
public import Idealize.ShloMosaic.Lib.Claim
public import proofs.«01_k».proof.Proof.FfnValue
public import proofs.«01_k».proof.Proof.FfnRef
public import proofs.«01_k».proof.Proof.Gen.FfnReferenceIdeal.Run

@[expose] public section

noncomputable section

open Idealize.ShloMosaic Idealize.SL.Sem

namespace Cert.Layer.Ffn

open Cert.FfnIdeal.Feed

/-- The feed-forward call and its reference leave the same two arrays. -/
theorem algebraic : @Cert.algebraic_FfnIdeal_FfnReferenceIdeal Cert.FfnIdeal.Gen.facts Cert.FfnReferenceIdeal.Gen.facts := by
  intro m g m' g' _ hagree
  refine ⟨fun c => Cert.FfnIdeal.Value.G6 m c, fun c => Cert.FfnIdeal.Value.G7 m c, Cert.FfnIdeal.Value.run m g, ?_⟩
  refine (θ_run _ _ _).mono (fun r h c => ?_) (Cert.FfnReferenceIdeal.Value.run m' g')
  obtain ⟨h1, h2, k⟩ := h c
  obtain ⟨a0, a1, a2, a3, a4, a5⟩ := hagree c
  refine ⟨h1.trans ?_, h2.trans ?_, k⟩
  · refine (Cert.FfnReferenceIdeal.Read.val_main_v22_eq _ _ _ _ _).trans ?_
    rw [a0, a1, a2, a3, a4]
    exact (Cert.FfnReferenceIdeal.Feed.h_arr _ _ _ _ _).trans (funext fun i => (final_h m c i).symm)
  · refine (Cert.FfnReferenceIdeal.Read.val_main_v35_eq m' c).trans ?_
    rw [a0, a1, a2, a3, a4, a5]
    exact (Cert.FfnReferenceIdeal.Feed.u_arr _ _ _ _ _ _).trans (funext fun i => (final_u m c i).symm)

/-- The feed-forward reference runs to the end, its arguments unchanged and every semaphore at zero. -/
theorem frame_reference : @Cert.quiescent_FfnReferenceIdeal Cert.FfnReferenceIdeal.Gen.facts := by
  intro m g _
  exact (θ_run Cert.FfnReferenceIdeal.defs _ _).mono (fun r h => ⟨fun c => (h c).2.2,
      sem_eq_zero_of_no_sems (by decide) r.2⟩) (Cert.FfnReferenceIdeal.Value.run m g)

end Cert.Layer.Ffn
-- ==== Proof.RetKeep.lean ====
module

public import proofs.«01_k».proof.Defs
public import proofs.«01_k».proof.Proof.Gen.ReferenceIdeal.Run
public import Idealize.ShloMosaic.Adequacy
public import Idealize.ShloMosaic.Lib.Claim

@[expose] public section

noncomputable section

open Idealize.ShloMosaic Idealize.ShloMosaic.StableHlo Idealize.SL.Sem

namespace Cert.Layer.Ret

open Cert.ReferenceIdeal Cert.ReferenceIdeal.Gen Cert.ReferenceIdeal.Value

/-- The three stretches after the loop leave the first argument as it was. -/
theorem post_arg0 (X : Valuation τ sig (Elt Ideal)) : afterL postI X (Proc.devRef .tc main_arg0) = X (Proc.devRef .tc main_arg0) := by
  simp only [afterL_cons, afterL_nil]
  after_reads_simp

/-- The three stretches after the loop leave the second argument as it was. -/
theorem post_arg1 (X : Valuation τ sig (Elt Ideal)) : afterL postI X (Proc.devRef .tc main_arg1) = X (Proc.devRef .tc main_arg1) := by
  simp only [afterL_cons, afterL_nil]
  after_reads_simp

/-- A buffer that neither the condition nor a trip of the loop writes holds at every trip what it held at the loop's entry. -/
theorem atK_keep (m : (ℓ : Loc nD τ sig) → Buf (Elt Ideal) ℓ) (c : Dev nD) (r : Ref sig .tc)
    (h : r ∉ condOps_W) (h0 : r ∉ while0Ops0_W) (h1 : r ∉ while0Ops0_1_W) (h2 : r ∉ while0Ops0_2_W) (h3 : r ∉ while0Ops0_3_W)
    (h4 : r ∉ while0Ops0_4_W) (h5 : r ∉ while0Ops0_5_W) :
    ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub while0Ops0_5 _ while0Ops0_5_writes h5, after_of_writes_sub while0Ops0_4 _ while0Ops0_4_writes h4,
      after_of_writes_sub while0Ops0_3 _ while0Ops0_3_writes h3, after_of_writes_sub while0Ops0_2 _ while0Ops0_2_writes h2,
      after_of_writes_sub while0Ops0_1 _ while0Ops0_1_writes h1, after_of_writes_sub while0Ops0 _ while0Ops0_writes h0,
      after_of_writes_sub condOps _ condOps_writes h, atK_keep m c r h h0 h1 h2 h3 h4 h5 k]
    rfl

/-- A buffer that no stretch before the loop writes holds its launch contents at the loop's entry. -/
theorem entry_keep (m : (ℓ : Loc nD τ sig) → Buf (Elt Ideal) ℓ) (c : Dev nD) (r : Ref sig .tc)
    (h0 : r ∉ hostOps0_W) (h1 : r ∉ hostOps0_1_W) (h2 : r ∉ hostOps0_2_W) :
    entryContents preI m c (Proc.devRef .tc r) = m ((c.tc : Thread nD τ).loc r) := by
  simp only [entryContents, afterL_cons, afterL_nil]
  rw [after_of_writes_sub hostOps0_2 _ hostOps0_2_writes h2, after_of_writes_sub hostOps0_1 _ hostOps0_1_writes h1,
    after_of_writes_sub hostOps0 _ hostOps0_writes h0]

/-- The reference leaves its first argument as it was. -/
theorem final_arg0 (m : (ℓ : Loc nD τ sig) → Buf (Elt Ideal) ℓ) (c : Dev nD) :
    finalContents condOps preI bodyI postI 32 m c (Proc.devRef .tc main_arg0) = m ((c.tc : Thread nD τ).loc main_arg0) := by
  unfold finalContents
  rw [post_arg0, after_of_writes_sub condOps _ condOps_writes (by decide)]
  exact (atK_keep m c main_arg0 (by decide) (by decide) (by decide) (by decide) (by decide) (by decide) (by decide) 32).trans
    (entry_keep m c main_arg0 (by decide) (by decide) (by decide))

/-- The reference leaves its second argument as it was. -/
theorem final_arg1 (m : (ℓ : Loc nD τ sig) → Buf (Elt Ideal) ℓ) (c : Dev nD) :
    finalContents condOps preI bodyI postI 32 m c (Proc.devRef .tc main_arg1) = m ((c.tc : Thread nD τ).loc main_arg1) := by
  unfold finalContents
  rw [post_arg1, after_of_writes_sub condOps _ condOps_writes (by decide)]
  exact (atK_keep m c main_arg1 (by decide) (by decide) (by decide) (by decide) (by decide) (by decide) (by decide) 32).trans
    (entry_keep m c main_arg1 (by decide) (by decide) (by decide))

/-- The retention reference runs to the end, its arguments unchanged and every semaphore at zero. -/
theorem frame_reference : @Cert.quiescent_ReferenceIdeal Cert.ReferenceIdeal.Gen.facts := by
  intro m g _
  exact (θ_run Cert.ReferenceIdeal.defs _ _).mono (fun r h =>
    ⟨fun c => ⟨(h c main_arg0 rfl).trans (final_arg0 m c), (h c main_arg1 rfl).trans (final_arg1 m c)⟩,
      sem_eq_zero_of_no_sems (by decide) r.2⟩) (run_fold m g)

end Cert.Layer.Ret
-- ==== Proof.RetChunk.lean ====
module

public import Idealize.ShloMosaic.Lib.Pointwise

@[expose] public section

noncomputable section

open Idealize.ShloMosaic

namespace Cert.Layer.Ret

/-! The retention recurrence over one sequence and one head, walked in chunks of `c` positions, and the closed form that
the walk has when the entries are real numbers: it does not mention the chunk length. -/

/-- Rows of 128 features, one for each position of a sequence. -/
abbrev Rows : Type := ℕ → Fin 128 → EReal

/-- The factor between positions `i` and `j` of one chunk: nothing from later positions. -/
def within (E : ℕ → ℝ) (i j : ℕ) : EReal := if j ≤ i then ((E (i - j) : ℝ) : EReal) else 0

/-- The state after `m` chunks of `c` positions: the one before, decayed by a whole chunk, plus the chunk's own outer products. -/
def stateAt (E : ℕ → ℝ) (c : ℕ) (k v : Rows) : ℕ → Fin 128 → Fin 128 → EReal
  | 0, _, _ => 0
  | m + 1, d, e => stateAt E c k v m d e * (E c : EReal)
      + ∑ s : Fin c, k (c * m + s) d * (E (c - 1 - s) : EReal) * v (c * m + s) e

/-- Position `i` of chunk `m`: what the chunk's own positions give, plus what the state before the chunk gives. -/
def outAt (E : ℕ → ℝ) (c : ℕ) (q k v : Rows) (m i : ℕ) (e : Fin 128) : EReal :=
  (∑ s : Fin c, (∑ d, q (c * m + i) d * k (c * m + s) d) * within E i s * v (c * m + s) e)
    + ∑ d, q (c * m + i) d * (E (i + 1) : EReal) * stateAt E c k v m d e

/-- The state after the first `n` positions. -/
def stateReal (E : ℕ → ℝ) (k v : ℕ → Fin 128 → ℝ) (n : ℕ) (d e : Fin 128) : ℝ :=
  ∑ s ∈ Finset.range n, E (n - 1 - s) * k s d * v s e

/-- What position `t` reads. -/
def outReal (E : ℕ → ℝ) (q k v : ℕ → Fin 128 → ℝ) (t : ℕ) (e : Fin 128) : ℝ :=
  ∑ s ∈ Finset.range (t + 1), E (t - s) * (∑ d, q t d * k s d) * v s e

/-- A finite sum of real numbers, read as extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

variable {E : ℕ → ℝ} (hE : ∀ a b, E (a + b) = E a * E b)
include hE

/-- Over real entries the chunked state is the state after that many positions. -/
theorem stateAt_real {c : ℕ} (hc : 0 < c) (k v : ℕ → Fin 128 → ℝ) (m : ℕ) (d e : Fin 128) :
    stateAt E c (fun t d => (k t d : EReal)) (fun t e => (v t e : EReal)) m d e = (stateReal E k v (c * m) d e : EReal) := by
  induction m with
  | zero => simp [stateAt, stateReal]
  | succ m ih =>
    rw [stateAt, ih]
    simp only [← EReal.coe_mul, ← coe_sum, ← EReal.coe_add]
    congr 1
    unfold stateReal
    rw [Nat.mul_succ, Finset.sum_range_add, Finset.sum_mul, Fin.sum_univ_eq_sum_range
      (fun s => k (c * m + s) d * E (c - 1 - s) * v (c * m + s) e)]
    refine congrArg₂ (· + ·) (Finset.sum_congr rfl fun s hs => ?_) (Finset.sum_congr rfl fun s hs => ?_)
    · have := Finset.mem_range.mp hs
      rw [show c * m + c - 1 - s = (c * m - 1 - s) + c by omega, hE]
      ring
    · have := Finset.mem_range.mp hs
      rw [show c * m + c - 1 - (c * m + s) = c - 1 - s by omega]
      ring

/-- Over real entries what a position of a chunk reads is what its place in the sequence reads. -/
theorem outAt_real {c : ℕ} (q k v : ℕ → Fin 128 → ℝ) (m : ℕ) (i : Fin c) (e : Fin 128) :
    outAt E c (fun t d => (q t d : EReal)) (fun t d => (k t d : EReal)) (fun t e => (v t e : EReal)) m i e
      = (outReal E q k v (c * m + i) e : EReal) := by
  have hw : ∀ s : ℕ, within E i s = ((if s ≤ (i : ℕ) then E (i - s) else 0 : ℝ) : EReal) := fun s => by
    unfold within; split <;> simp
  unfold outAt
  simp only [stateAt_real hE (show 0 < c from i.pos), hw, ← EReal.coe_mul, ← coe_sum, ← EReal.coe_add]
  congr 1
  unfold outReal
  rw [add_assoc, Finset.sum_range_add, add_comm]
  refine congrArg₂ (· + ·) ?_ ?_
  · unfold stateReal
    simp only [Finset.mul_sum]
    rw [Finset.sum_comm]
    refine Finset.sum_congr rfl fun s hs => ?_
    have := Finset.mem_range.mp hs
    rw [show c * m + i - s = (i + 1) + (c * m - 1 - s) by omega, hE (i + 1), Finset.sum_mul]
    refine Finset.sum_congr rfl fun d _ => ?_
    ring
  · rw [Fin.sum_univ_eq_sum_range
      (fun s => (∑ d, q (c * m + i) d * k (c * m + s) d) * (if s ≤ (i : ℕ) then E (i - s) else 0) * v (c * m + s) e)]
    have hi := i.isLt
    refine (Finset.sum_subset (Finset.range_mono (show (i : ℕ) + 1 ≤ c by omega)) fun s _ hs => ?_).symm.trans ?_
    · rw [if_neg (fun h => hs (Finset.mem_range.mpr (by omega)))]
      ring
    refine Finset.sum_congr rfl fun s hs => ?_
    have := Finset.mem_range.mp hs
    rw [if_pos (by omega), show c * m + i - (c * m + s) = i - s by omega]
    ring

/-- Two chunk lengths that cover the same positions leave the same state. -/
theorem stateAt_regroup {c c' : ℕ} (hc : 0 < c) (hc' : 0 < c') (k v : ℕ → Fin 128 → ℝ) {m m' : ℕ} (h : c * m = c' * m')
    (d e : Fin 128) :
    stateAt E c (fun t d => (k t d : EReal)) (fun t e => (v t e : EReal)) m d e
      = stateAt E c' (fun t d => (k t d : EReal)) (fun t e => (v t e : EReal)) m' d e := by
  rw [stateAt_real hE hc, stateAt_real hE hc', h]

/-- Two chunk lengths read the same at the same place of the sequence. -/
theorem outAt_regroup {c c' : ℕ} (q k v : ℕ → Fin 128 → ℝ) {m m' : ℕ} (i : Fin c) (i' : Fin c')
    (h : c * m + (i : ℕ) = c' * m' + (i' : ℕ)) (e : Fin 128) :
    outAt E c (fun t d => (q t d : EReal)) (fun t d => (k t d : EReal)) (fun t e => (v t e : EReal)) m i e
      = outAt E c' (fun t d => (q t d : EReal)) (fun t d => (k t d : EReal)) (fun t e => (v t e : EReal)) m' i' e := by
  rw [outAt_real hE, outAt_real hE, h]

end Cert.Layer.Ret
-- ==== Proof.RetDecay.lean ====
module

public import proofs.«01_k».proof.Proof.RetChunk
public import Idealize.ShloMosaic.Lib.IdealHost

@[expose] public section

noncomputable section

open Idealize.ShloMosaic

namespace Cert.Layer.Ret

/-! The decay of each head, and the tables that both programs make of it. -/

/-- The logarithm of head `h`'s decay, as both programs compute it: `log (1 - exp (log 2 * (-5 - h)))`. -/
def decayLog (h : Fin 4) : EReal :=
  Ideal.log1p (-Ideal.exp (Ideal.ofBits .f32 1060205080#32 *
    (Ideal.ofBits .f32 3231711232#32 - FloatOps.sitofp (F := Ideal) .f32 (BitVec.ofNat 32 h.val))))

/-- Head `h`'s decay over `n` positions. -/
def decay (h : Fin 4) (n : ℕ) : ℝ := Real.exp ((decayLog h).toReal * n)

/-- Decays over stretches one after the other multiply. -/
theorem decay_add (h : Fin 4) (a b : ℕ) : decay h (a + b) = decay h a * decay h b := by
  unfold decay
  rw [← Real.exp_add]
  congr 1
  push_cast
  ring

/-- A small position read as a float is that number. -/
theorem position {n : ℕ} (hn : n < 1024) : FloatOps.sitofp (F := Ideal) .f32 (BitVec.ofNat 32 n) = ((n : ℝ) : EReal) := by
  show (((BitVec.ofNat 32 n).toInt : ℝ) : EReal) = _
  have : (BitVec.ofNat 32 n).toInt = (n : ℤ) := by
    rw [BitVec.toInt_eq_toNat_of_lt (by rw [BitVec.toNat_ofNat]; omega), BitVec.toNat_ofNat, Nat.mod_eq_of_lt (by omega)]
  rw [this]
  simp

/-- The literal for the logarithm of two is a positive number. -/
theorem lit_log2 : ∃ r : ℝ, 0 < r ∧ Ideal.ofBits .f32 1060205080#32 = (r : EReal) := by
  refine ⟨(11629080 : ℝ) * (2 ^ 24)⁻¹, by norm_num, ?_⟩
  simp [Ideal.ofBits, Ideal.ieee, -EReal.coe_mul]

/-- The literal for minus five. -/
theorem lit_neg5 : Ideal.ofBits .f32 3231711232#32 = ((-5 : ℝ) : EReal) := by
  simp [Ideal.ofBits, Ideal.ieee, -EReal.coe_mul, -EReal.coe_neg]
  norm_num

/-- The literal for 127. -/
theorem lit_127 : Ideal.ofBits .f32 1123942400#32 = ((127 : ℝ) : EReal) := by
  simp [Ideal.ofBits, Ideal.ieee, -EReal.coe_mul]
  norm_num

/-- The literal for 128. -/
theorem lit_128 : Ideal.ofBits .f32 1124073472#32 = ((128 : ℝ) : EReal) := by
  simp [Ideal.ofBits, Ideal.ieee, -EReal.coe_mul]
  norm_num

/-- The literal for 63. -/
theorem lit_63 : Ideal.ofBits .f32 1115422720#32 = ((63 : ℝ) : EReal) := by
  simp [Ideal.ofBits, Ideal.ieee, -EReal.coe_mul]
  norm_num

/-- The literal for 64. -/
theorem lit_64 : Ideal.ofBits .f32 1115684864#32 = ((64 : ℝ) : EReal) := by
  simp [Ideal.ofBits, Ideal.ieee, -EReal.coe_mul]
  norm_num

/-- The factor that the keys are multiplied by, as both programs hold it. -/
def keyScale : EReal := Ideal.ofBits .f32 1035273459#32

/-- The keys' factor is a number. -/
theorem keyScale_real : ∃ r : ℝ, keyScale = (r : EReal) := by
  refine ⟨(11863283 : ℝ) * (2 ^ 27)⁻¹, ?_⟩
  unfold keyScale
  simp [Ideal.ofBits, Ideal.ieee, -EReal.coe_mul]

/-- The logarithm of a decay is a number. -/
theorem decayLog_real (h : Fin 4) : decayLog h = ((decayLog h).toReal : EReal) := by
  obtain ⟨r, hr, hl⟩ := lit_log2
  have hx : (r * (-5 - (h.val : ℝ))) < 0 := by
    have : (0 : ℝ) ≤ h.val := Nat.cast_nonneg _
    nlinarith
  have h1 : 0 < 1 + -Real.exp (r * (-5 - (h.val : ℝ))) := by
    have : Real.exp (r * (-5 - (h.val : ℝ))) < 1 := by
      rw [← Real.exp_zero]
      exact Real.exp_lt_exp.mpr hx
    linarith
  have key : decayLog h = ((Real.log (1 + -Real.exp (r * (-5 - (h.val : ℝ)))) : ℝ) : EReal) := by
    unfold decayLog
    rw [position (by omega), hl, lit_neg5, ← EReal.coe_sub, ← EReal.coe_mul, Ideal.exp_coe, ← EReal.coe_neg]
    unfold Ideal.log1p
    rw [← EReal.coe_one, ← EReal.coe_add]
    show (if _ then (⊥ : EReal) else _) = _
    rw [if_neg (not_le.mpr h1)]
  rw [key, EReal.toReal_coe]

/-- The exponential of the decay's logarithm times a whole number is the decay over as many positions. -/
theorem exp_decayLog (h : Fin 4) (n : ℕ) : Ideal.exp (decayLog h * ((n : ℝ) : EReal)) = (decay h n : EReal) := by
  rw [decayLog_real, ← EReal.coe_mul, Ideal.exp_coe]
  rfl

/-- The query table's entry. -/
theorem table_query (h : Fin 4) {i : ℕ} (hi : i < 128) :
    Ideal.exp (decayLog h * (FloatOps.sitofp (F := Ideal) .f32 (BitVec.ofNat 32 i) + 1)) = (decay h (i + 1) : EReal) := by
  rw [position (by omega), ← exp_decayLog, ← EReal.coe_one, ← EReal.coe_add]
  push_cast
  rfl

/-- The key table's entry, over chunks of `c` positions. -/
theorem table_key (h : Fin 4) {c i : ℕ} (hc : c ≤ 128) (hi : i < c) {l : EReal} (hl : l = ((c - 1 : ℝ) : EReal)) :
    Ideal.exp (decayLog h * (l - FloatOps.sitofp (F := Ideal) .f32 (BitVec.ofNat 32 i))) = (decay h (c - 1 - i) : EReal) := by
  rw [position (by omega), ← exp_decayLog, hl, ← EReal.coe_sub, Nat.cast_sub (by omega), Nat.cast_sub (by omega)]
  push_cast
  rfl

/-- The entry of the table of factors inside a chunk. -/
theorem table_within (h : Fin 4) {i j : ℕ} (hi : i < 128) (hj : j < 128) :
    (if 0 ≤ FloatOps.sitofp (F := Ideal) .f32 (BitVec.ofNat 32 i) - FloatOps.sitofp (F := Ideal) .f32 (BitVec.ofNat 32 j) then
      Ideal.exp (decayLog h * max (FloatOps.sitofp (F := Ideal) .f32 (BitVec.ofNat 32 i)
        - FloatOps.sitofp (F := Ideal) .f32 (BitVec.ofNat 32 j)) 0) else (0 : EReal)) = within (decay h) i j := by
  rw [position (by omega), position (by omega), ← EReal.coe_sub, ← EReal.coe_zero]
  unfold within
  by_cases hij : j ≤ i
  · have h0 : (0 : ℝ) ≤ (i : ℝ) - (j : ℝ) := sub_nonneg.mpr (Nat.cast_le.mpr hij)
    rw [if_pos (EReal.coe_le_coe_iff.mpr h0), if_pos hij, max_eq_left (EReal.coe_le_coe_iff.mpr h0), ← exp_decayLog,
      Nat.cast_sub hij]
  · have h0 : ¬ (0 : ℝ) ≤ (i : ℝ) - (j : ℝ) := fun h => hij (Nat.cast_le.mp (sub_nonneg.mp h))
    rw [if_neg (fun h => h0 (EReal.coe_le_coe_iff.mp h)), if_neg hij, EReal.coe_zero]

end Cert.Layer.Ret
-- ==== Proof.RetSpec.lean ====
module

public import proofs.«01_k».proof.Proof.FfnSpec
public import proofs.«01_k».proof.Proof.RetDecay

@[expose] public section

noncomputable section

open Idealize.ShloMosaic

namespace Cert.Layer.Ret

/-! What the retention call computes, over chunks of any length, from the projected input and the gain. -/

/-- The mean square of a row of 128 entries, with the small constant added, under the reciprocal square root. -/
def scale128 (x : Fin 128 → EReal) : EReal :=
  Ideal.rsqrt (Ideal.div (∑ k, x k * x k) (Ideal.ofBits .f32 1124073472#32) + Ideal.ofBits .f32 897988541#32)

/-- A row of one head, normalised by its mean square, multiplied by a gain and by a gate. -/
def shaped (o : Fin 128 → EReal) (gain g : EReal) (e : Fin 128) : EReal :=
  o e * scale128 o * gain * (g * Ideal.div 1 (1 + Ideal.exp (-g)))

/-- Shaped rows of equal parts are equal. -/
theorem shaped_congr {o o' : Fin 128 → EReal} {a a' g g' : EReal} (ho : ∀ j, o j = o' j) (ha : a = a') (hg : g = g')
    (e : Fin 128) : shaped o a g e = shaped o' a' g' e := by
  rw [funext ho, ha, hg]

/-- The row of the projected input that holds position `n` of prompt `b`. -/
def rowAt (b : Fin 4) (n : ℕ) (hn : n < 2048) : Fin 8192 := ⟨2048 * b.val + n, by omega⟩

/-- The column of the projected input that holds entry `d` of head `h` of the `w`-th of query, key, value, gate. -/
def colAt (w h : Fin 4) (d : Fin 128) : Fin 10368 := ⟨512 * w.val + (128 * h.val + d.val), by omega⟩

/-- The queries, keys, values or gates of one prompt and one head. -/
def rows (A : Arr 8192 10368) (w b h : Fin 4) : Rows :=
  fun n d => if hn : n < 2048 then A (ix2 (rowAt b n hn) (colAt w h d)) else 0

/-- Inside the prompt these are entries of the projected input. -/
theorem rows_eq (A : Arr 8192 10368) (w b h : Fin 4) {n : ℕ} (hn : n < 2048) (d : Fin 128) :
    rows A w b h n d = A (ix2 (rowAt b n hn) (colAt w h d)) := dif_pos hn

/-- The scaled keys of one prompt and one head. -/
def keys (A : Arr 8192 10368) (b h : Fin 4) : Rows := fun n d => rows A 1 b h n d * keyScale

/-- One prompt's state of one head after `m` chunks of length `c`. -/
def stateOf (c : ℕ) (A : Arr 8192 10368) (b h : Fin 4) (m : ℕ) (d e : Fin 128) : EReal :=
  stateAt (decay h) c (keys A b h) (rows A 2 b h) m d e

/-- One prompt's output row of one head, at row `i` of chunk `m`, before it is normalised. -/
def rowOut (c : ℕ) (A : Arr 8192 10368) (b h : Fin 4) (m i : ℕ) (e : Fin 128) : EReal :=
  outAt (decay h) c (rows A 0 b h) (keys A b h) (rows A 2 b h) m i e

/-- The column of the gain that holds entry `e` of head `h`. -/
def headCol (h : Fin 4) (e : Fin 128) : Fin 512 := ⟨128 * h.val + e.val, by omega⟩

/-- The output at row `i` of chunk `m`. -/
def outOf (c : ℕ) (A : Arr 8192 10368) (G : Arr 1 512) (b h : Fin 4) (m i : ℕ) (e : Fin 128) : EReal :=
  shaped (rowOut c A b h m i) (G (ix2 0 (headCol h e))) (rows A 3 b h (c * m + i) e) e

end Cert.Layer.Ret
-- ==== Proof.RetReal.lean ====
module

public import proofs.«01_k».proof.Pre_finite_qkv
public import proofs.«01_k».proof.Proof.Gen.Pre_finite_qkv
public import proofs.«01_k».proof.Proof.RetSpec
public import Idealize.ShloMosaic.Lib.Pointwise
public import Idealize.ShloMosaic.Lib.ReduceAll

@[expose] public section

set_option maxRecDepth 16384

noncomputable section

open Idealize.ShloMosaic

namespace Cert.Layer.Ret

/-- The literal of positive infinity. -/
theorem lit_inf : Ideal.ofBits .f32 2139095040#32 = (⊤ : EReal) := by
  simp [Ideal.ofBits, Ideal.ieee]

/-- An extended real whose absolute value is below infinity is a real number. -/
theorem real_of_abs_lt {x : EReal} (h : max x (-x) < ⊤) : ∃ r : ℝ, x = (r : EReal) := by
  induction x using EReal.rec with
  | bot => simp at h
  | top => simp at h
  | coe r => exact ⟨r, rfl⟩

/-- A truth value that is written as the bit one is true. -/
theorem one_of_ofBool {b : Bool} (h : BitVec.ofBool b = 1#1) : b = true := by
  cases b
  · exact absurd h (by decide)
  · rfl

/-- Under the precondition the query, key and value columns of the input hold real numbers. -/
theorem real_of_finite (z : Arr 8192 10368) (g : Arr 1 512)
    (hp : Cert.Pre_finite_qkv.fn (F := Ideal) z g = fun _ => 1#1) (r : Fin 8192) (j : Fin 10368) (hj : j.val < 1536) :
    ∃ x : ℝ, z (ix2 r j) = (x : EReal) := by
  have e := congrFun hp ix0
  have e1 := Host.reduce_andi_all _ _ _ _ _ e (ix2 r ⟨j.val, hj⟩)
  revert e1
  pointwise
  intro h
  rw [lit_inf] at h
  refine real_of_abs_lt (lt_of_eq_of_lt ?_ (of_decide_eq_true (one_of_ofBool h)))
  rfl

end Cert.Layer.Ret
-- ==== Proof.RetPayloads.lean ====
module

public import proofs.«01_k».proof.Proof.RetSpec
public import Idealize.ShloMosaic.Lib.Pointwise
public import proofs.«01_k».proof.Proof.Gen.KernelIdeal.Value

@[expose] public section

set_option maxRecDepth 16384

noncomputable section

open Idealize.ShloMosaic Idealize.ShloMosaic.TcCoe Idealize.SL.Sem

namespace Cert.KernelIdeal.Feed

open Cert.KernelIdeal Cert.KernelIdeal.Gen Cert.Layer Cert.Layer.Ret

/-- A block of one chunk and one head. -/
abbrev Blk : Type := Vec Ideal S128x128 .f32
/-- One head's entries of a table. -/
abbrev Tab : Type := Vec Ideal S1x128x128 .f32

/-- One chunk's output of one head before it is normalised. -/
def chunkOut (q k v S : Blk) (dm qd : Tab) (i e : Fin 128) : EReal :=
  (∑ s : Fin 128, (∑ d : Fin 128, q (ix2 i d) * (k (ix2 s d) * keyScale)) * dm (ix3 0 i s) * v (ix2 s e))
    + ∑ d : Fin 128, q (ix2 i d) * qd (ix3 0 i d) * S (ix2 d e)

/-- One head's state after a chunk. -/
def chunkState (k v S : Blk) (cd : Vec Ideal S1x1x128 .f32) (kd : Tab) (d e : Fin 128) : EReal :=
  S (ix2 d e) * cd (ix3 0 0 e) + ∑ s : Fin 128, k (ix2 s d) * keyScale * kd (ix3 0 s d) * v (ix2 s e)

/-- The first head's output block at an element. -/
theorem pay_out0 (S q k v g : Blk) (dm qd : Tab) (gain : Vec Ideal S1x128 .f32) (i e : Fin 128) :
    k0_pay12 (F := Ideal) g (k0_pay11 S q k v dm qd) gain (ix2 i e)
      = shaped (chunkOut q k v S dm qd i) (gain (ix2 0 e)) (g (ix2 i e)) e := by
  unfold shaped scale128 chunkOut keyScale
  pointwise [k0_pay12, k0_pay11, k0_pay10]
  simp only [sub_eq_add_neg, zero_add]

/-- The first head's new state at an element. -/
theorem pay_state0 (S k v : Blk) (cd : Vec Ideal S1x1x128 .f32) (kd : Tab) (d e : Fin 128) :
    k0_pay13 (F := Ideal) S (k0_pay10 k) v cd kd (ix2 d e) = chunkState k v S cd kd d e := by
  unfold chunkState keyScale
  pointwise [k0_pay13, k0_pay10]

/-- The second head's output block at an element. -/
theorem pay_out1 (S q k v g : Blk) (dm qd : Tab) (gain : Vec Ideal S1x128 .f32) (i e : Fin 128) :
    k0_pay16 (F := Ideal) S q v (k0_pay15 q k dm) qd g gain (ix2 i e)
      = shaped (chunkOut q k v S dm qd i) (gain (ix2 0 e)) (g (ix2 i e)) e := by
  unfold shaped scale128 chunkOut keyScale
  pointwise [k0_pay16, k0_pay15, k0_pay14]
  simp only [sub_eq_add_neg, zero_add]

/-- The second head's new state at an element. -/
theorem pay_state1 (S k v : Blk) (cd : Vec Ideal S1x1x128 .f32) (kd : Tab) (d e : Fin 128) :
    k0_pay18 (F := Ideal) (k0_pay14 k) v (k0_pay17 S cd) kd (ix2 d e) = chunkState k v S cd kd d e := by
  unfold chunkState keyScale
  pointwise [k0_pay18, k0_pay17, k0_pay14]

/-- The third head's output block at an element. -/
theorem pay_out2 (S q k v g : Blk) (dm qd : Tab) (gain : Vec Ideal S1x128 .f32) (i e : Fin 128) :
    k0_pay22 (F := Ideal) (k0_pay20 S q k v dm qd) g (k0_pay21 S q k v dm qd) (Scalar.ofBits .f32 897988541#32) gain (ix2 i e)
      = shaped (chunkOut q k v S dm qd i) (gain (ix2 0 e)) (g (ix2 i e)) e := by
  unfold shaped scale128 chunkOut keyScale
  pointwise [k0_pay22, k0_pay21, k0_pay20, k0_pay19]
  simp only [sub_eq_add_neg, zero_add]

/-- The third head's new state at an element. -/
theorem pay_state2 (S k v : Blk) (cd : Vec Ideal S1x1x128 .f32) (kd : Tab) (d e : Fin 128) :
    k0_pay23 (F := Ideal) S (k0_pay19 k) v cd kd (ix2 d e) = chunkState k v S cd kd d e := by
  unfold chunkState keyScale
  pointwise [k0_pay23, k0_pay19]

/-- The fourth head's output block at an element. -/
theorem pay_out3 (S q k v g : Blk) (dm qd : Tab) (gain : Vec Ideal S1x128 .f32) (i e : Fin 128) :
    k0_pay27 (F := Ideal) S q v (k0_pay25 q) (k0_pay26 k) dm qd g gain (ix2 i e)
      = shaped (chunkOut q k v S dm qd i) (gain (ix2 0 e)) (g (ix2 i e)) e := by
  unfold shaped scale128 chunkOut keyScale
  pointwise [k0_pay27, k0_pay26, k0_pay25, k0_pay24]
  simp only [sub_eq_add_neg, zero_add]

/-- The fourth head's new state at an element. -/
theorem pay_state3 (S k v : Blk) (cd : Vec Ideal S1x1x128 .f32) (kd : Tab) (d e : Fin 128) :
    k0_pay5 (F := Ideal) S (k0_pay24 k) v cd kd (ix2 d e) = chunkState k v S cd kd d e := by
  unfold chunkState keyScale
  pointwise [k0_pay5, k0_pay24]

/-- The state every head starts from is zero. -/
theorem pay_zero (i : S128x128.Idx) : k0_pay1 (F := Ideal) i = 0 ∧ k0_pay2 (F := Ideal) i = 0 ∧ k0_pay3 (F := Ideal) i = 0
    ∧ k0_pay4 (F := Ideal) i = 0 := by
  refine ⟨?_, ?_, ?_, ?_⟩
  · pointwise [k0_pay1]
  · pointwise [k0_pay2]
  · pointwise [k0_pay3]
  · pointwise [k0_pay4]

/-- A head's last state as it is stored, with two axes of extent one before it. -/
theorem pay_last (x : FVec Ideal S128x128 .f32) (a b : Fin 1) (d e : Fin 128) : k0_pay6 (F := Ideal) x (ix4 a b d e) = x (ix2 d e)
    ∧ k0_pay7 (F := Ideal) x (ix4 a b d e) = x (ix2 d e) ∧ k0_pay8 (F := Ideal) x (ix4 a b d e) = x (ix2 d e)
    ∧ k0_pay9 (F := Ideal) x (ix4 a b d e) = x (ix2 d e) := by
  refine ⟨?_, ?_, ?_, ?_⟩
  · pointwise [k0_pay6]
  · pointwise [k0_pay7]
  · pointwise [k0_pay8]
  · pointwise [k0_pay9]

end Cert.KernelIdeal.Feed
-- ==== Proof.RetTrip.lean ====
module

public import proofs.«01_k».proof.Proof.RetPayloads
public import Idealize.ShloMosaic.Lib.WholeRead
public import Idealize.ShloMosaic.Lib.Pipeline.ValueKit

@[expose] public section

set_option maxRecDepth 16384

noncomputable section

open Idealize.ShloMosaic Idealize.ShloMosaic.TcCoe Idealize.SL.Sem Idealize.ShloMosaic.Tactic

namespace Cert.KernelIdeal.Feed

open Cert.KernelIdeal Cert.KernelIdeal.Gen Cert.Layer Cert.Layer.Ret

variable (m : (ℓ : Loc nD τ sig) → Buf (Elt Ideal) ℓ)

/-- The states of the four heads, as the loop carries them. -/
abbrev Carried : Type := Blk × Blk × Blk × Blk

/-- One head's state among the four. -/
def headOf (S : Carried) (h : Fin 4) : Blk := match h with
  | 0 => S.1
  | 1 => S.2.1
  | 2 => S.2.2.1
  | 3 => S.2.2.2

/-- The query block of a point, as an array over the extended reals. -/
abbrev Q (c : Dev nD) (t : Fin cfg0.N) : S2048x512.Idx → EReal := X0_0 m c t
/-- The key block of a point. -/
abbrev K (c : Dev nD) (t : Fin cfg0.N) : S2048x512.Idx → EReal := X0_1 m c t
/-- The value block of a point. -/
abbrev W (c : Dev nD) (t : Fin cfg0.N) : S2048x512.Idx → EReal := X0_2 m c t
/-- The gate block of a point. -/
abbrev Z (c : Dev nD) (t : Fin cfg0.N) : S2048x512.Idx → EReal := X0_3 m c t
/-- The table of factors inside a chunk. -/
abbrev T4 (c : Dev nD) (t : Fin cfg0.N) : S4x128x128.Idx → EReal := iblk m c 4 t
/-- The query table. -/
abbrev T5 (c : Dev nD) (t : Fin cfg0.N) : S4x128x128.Idx → EReal := iblk m c 5 t
/-- The key table. -/
abbrev T6 (c : Dev nD) (t : Fin cfg0.N) : S4x128x128.Idx → EReal := iblk m c 6 t
/-- The state table. -/
abbrev T7 (c : Dev nD) (t : Fin cfg0.N) : S4x8x128.Idx → EReal := iblk m c 7 t
/-- The gain. -/
abbrev T8 (c : Dev nD) (t : Fin cfg0.N) : S1x512.Idx → EReal := iblk m c 8 t

/-- One trip of the loop over chunks: the four states after chunk `k`. -/
abbrev trip (c : Dev nD) (t : Fin cfg0.N) (k : Fin k0_t1_loop.trips) (S : Carried) : Carried :=
  tripR_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hs0_0 t).unread (X0_0 m c t)) ((hs0_1 t).unread (X0_1 m c t)) ((hs0_2 t).unread (X0_2 m c t)) ((hs0_3 t).unread (X0_3 m c t)) ((hs0_4 t).unread (iblk m c 4 t)) ((hs0_5 t).unread (iblk m c 5 t)) ((hs0_6 t).unread (iblk m c 6 t)) ((hs0_7 t).unread (iblk m c 7 t)) ((hs0_8 t).unread (iblk m c 8 t)) k S

/-- What one trip of the loop stores. -/
abbrev stores (c : Dev nD) (t : Fin cfg0.N) (k : Fin k0_t1_loop.trips) (S : Carried) :=
  tripL_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hs0_0 t).unread (X0_0 m c t)) ((hs0_1 t).unread (X0_1 m c t)) ((hs0_2 t).unread (X0_2 m c t)) ((hs0_3 t).unread (X0_3 m c t)) ((hs0_4 t).unread (iblk m c 4 t)) ((hs0_5 t).unread (iblk m c 5 t)) ((hs0_6 t).unread (iblk m c 6 t)) ((hs0_7 t).unread (iblk m c 7 t)) ((hs0_8 t).unread (iblk m c 8 t)) k S

/-- The loop makes sixteen trips. -/
theorem trips_eq : k0_t1_loop.trips = 16 := by decide +kernel

/-- The row of a block that row `i` of chunk `k` is. -/
def rowIn (k : Fin k0_t1_loop.trips) (i : Fin 128) : Fin 2048 :=
  ⟨128 * k.val + i.val, by have := k.isLt; have := trips_eq; omega⟩

/-- The column of a block that column `d` of head `h` is. -/
def colIn (h : Fin 4) (d : Fin 128) : Fin 512 := ⟨128 * h.val + d.val, by omega⟩

/-- Where a chunk's block of one head lies. -/
theorem place_blk (off : Fin 2 → ℕ) (inb : ∀ a, off a + S128x128.size a ≤ S2048x512.size a) (k : Fin k0_t1_loop.trips) (h : Fin 4)
    (ho : off = ![128 * k.val, 128 * h.val]) (i d : Fin 128) :
    (Rect.unit (s := S2048x512) off S128x128.size inb).toLoadRect.idx (ix2 i d) = ix2 (rowIn k i) (colIn h d) := by
  subst ho
  funext a
  apply Fin.ext
  refine (Rect.idx_unit_val ..).trans ?_
  fin_cases a <;> rfl

/-- Where one head's entries of a table lie. -/
theorem place_tab (off : Fin 3 → ℕ) (inb : ∀ a, off a + S1x128x128.size a ≤ S4x128x128.size a) (h : Fin 4)
    (h0 : off 0 = h.val) (h1 : off 1 = 0) (h2 : off 2 = 0) (i d : Fin 128) :
    (Rect.unit (s := S4x128x128) off S1x128x128.size inb).toLoadRect.idx (ix3 0 i d) = ix3 h i d := by
  funext a
  apply Fin.ext
  refine (Rect.idx_unit_val ..).trans ?_
  fin_cases a
  · show off 0 + 0 = h.val
    omega
  · show off 1 + i.val = i.val
    omega
  · show off 2 + d.val = d.val
    omega

/-- Where one head's entries of the state table lie. -/
theorem place_cd (off : Fin 3 → ℕ) (inb : ∀ a, off a + S1x1x128.size a ≤ S4x8x128.size a) (e : Fin 128) (h : Fin 4)
    (h0 : off 0 = h.val) (h1 : off 1 = 0) (h2 : off 2 = 0) :
    (Rect.unit (s := S4x8x128) off S1x1x128.size inb).toLoadRect.idx (ix3 0 0 e) = ix3 h 0 e := by
  funext a
  apply Fin.ext
  refine (Rect.idx_unit_val ..).trans ?_
  fin_cases a
  · show off 0 + 0 = h.val
    omega
  · show off 1 + 0 = 0
    omega
  · show off 2 + e.val = e.val
    omega

/-- Where one head's entries of the gain lie. -/
theorem place_gain (off : Fin 2 → ℕ) (inb : ∀ a, off a + S1x128.size a ≤ S1x512.size a) (e : Fin 128) (h : Fin 4)
    (h0 : off 0 = 0) (h1 : off 1 = 128 * h.val) :
    (Rect.unit (s := S1x512) off S1x128.size inb).toLoadRect.idx (ix2 0 e) = ix2 0 (colIn h e) := by
  funext a
  apply Fin.ext
  refine (Rect.idx_unit_val ..).trans ?_
  fin_cases a
  · show off 0 + 0 = 0
    omega
  · show off 1 + e.val = 128 * h.val + e.val
    omega

/-- A load of a chunk's block of one head. -/
theorem read_blk {M : Memref sig .tc .vmem S2048x512 .f32} (hM : M.IsWhole) (x : S2048x512.Idx → EReal) (off : Fin 2 → ℕ)
    (inb : ∀ a, off a + S128x128.size a ≤ S2048x512.size a) (k : Fin k0_t1_loop.trips) (h : Fin 4)
    (ho : off = ![128 * k.val, 128 * h.val]) (i d : Fin 128) :
    View.readAt (Elt Ideal) M.view (Rect.unit (s := S2048x512) off S128x128.size inb).toLoadRect (hM.unread x) (ix2 i d)
      = x (ix2 (rowIn k i) (colIn h d)) :=
  (hM.readAt_unread (Val := Elt Ideal) x _ _).trans (congrArg x (place_blk off inb k h ho i d))

/-- A load of one head's entries of a table. -/
theorem read_tab {M : Memref sig .tc .vmem S4x128x128 .f32} (hM : M.IsWhole) (x : S4x128x128.Idx → EReal) (off : Fin 3 → ℕ)
    (inb : ∀ a, off a + S1x128x128.size a ≤ S4x128x128.size a) (h : Fin 4)
    (h0 : off 0 = h.val) (h1 : off 1 = 0) (h2 : off 2 = 0) (i d : Fin 128) :
    View.readAt (Elt Ideal) M.view (Rect.unit (s := S4x128x128) off S1x128x128.size inb).toLoadRect (hM.unread x) (ix3 0 i d)
      = x (ix3 h i d) :=
  (hM.readAt_unread (Val := Elt Ideal) x _ _).trans (congrArg x (place_tab off inb h h0 h1 h2 i d))

/-- A load of one head's entries of the state table. -/
theorem read_cd {M : Memref sig .tc .vmem S4x8x128 .f32} (hM : M.IsWhole) (x : S4x8x128.Idx → EReal) (off : Fin 3 → ℕ)
    (inb : ∀ a, off a + S1x1x128.size a ≤ S4x8x128.size a) (h : Fin 4)
    (h0 : off 0 = h.val) (h1 : off 1 = 0) (h2 : off 2 = 0) (e : Fin 128) :
    View.readAt (Elt Ideal) M.view (Rect.unit (s := S4x8x128) off S1x1x128.size inb).toLoadRect (hM.unread x) (ix3 0 0 e)
      = x (ix3 h 0 e) :=
  (hM.readAt_unread (Val := Elt Ideal) x _ _).trans (congrArg x (place_cd off inb e h h0 h1 h2))

/-- A load of one head's entries of the gain. -/
theorem read_gain {M : Memref sig .tc .vmem S1x512 .f32} (hM : M.IsWhole) (x : S1x512.Idx → EReal) (off : Fin 2 → ℕ)
    (inb : ∀ a, off a + S1x128.size a ≤ S1x512.size a) (h : Fin 4) (h0 : off 0 = 0) (h1 : off 1 = 128 * h.val) (e : Fin 128) :
    View.readAt (Elt Ideal) M.view (Rect.unit (s := S1x512) off S1x128.size inb).toLoadRect (hM.unread x) (ix2 0 e)
      = x (ix2 0 (colIn h e)) :=
  (hM.readAt_unread (Val := Elt Ideal) x _ _).trans (congrArg x (place_gain off inb e h h0 h1))

/-- One head's state after chunk `k`, from its state before. -/
def nextState (c : Dev nD) (t : Fin cfg0.N) (k : Fin k0_t1_loop.trips) (h : Fin 4) (S : Blk) (d e : Fin 128) : EReal :=
  S (ix2 d e) * T7 m c t (ix3 h 0 e)
    + ∑ s : Fin 128, K m c t (ix2 (rowIn k s) (colIn h d)) * keyScale * T6 m c t (ix3 h s d) * W m c t (ix2 (rowIn k s) (colIn h e))

/-- One head's output row of chunk `k` before it is normalised. -/
def outRow (c : Dev nD) (t : Fin cfg0.N) (k : Fin k0_t1_loop.trips) (h : Fin 4) (S : Blk) (i e : Fin 128) : EReal :=
  (∑ s : Fin 128, (∑ d : Fin 128, Q m c t (ix2 (rowIn k i) (colIn h d)) * (K m c t (ix2 (rowIn k s) (colIn h d)) * keyScale))
      * T4 m c t (ix3 h i s) * W m c t (ix2 (rowIn k s) (colIn h e)))
    + ∑ d : Fin 128, Q m c t (ix2 (rowIn k i) (colIn h d)) * T5 m c t (ix3 h i d) * S (ix2 d e)

/-- The first head's state after one more chunk. -/
theorem trip_state0 (c : Dev nD) (t : Fin cfg0.N) (k : Fin k0_t1_loop.trips) (S : Carried) (d e : Fin 128) :
    (trip m c t k S).1 (ix2 d e) = nextState m c t k 0 S.1 d e := by
  unfold trip tripR_k0_t1 trip_k0_t1
  dsimp only
  sl_unfold_run_names
  refine (pay_state0 ..).trans ?_
  exact congrArg₂ (· + ·) (congrArg (_ * ·) (read_cd (hs0_7 t) _ _ _ 0 rfl rfl rfl e))
    (Finset.sum_congr rfl fun s _ => congrArg₂ (· * ·) (congrArg₂ (· * ·)
      (congrArg (· * keyScale) (read_blk (hs0_1 t) _ _ _ k 0 (k0_off1_eq k) s d)) (read_tab (hs0_6 t) _ _ _ 0 rfl rfl rfl s d))
      (read_blk (hs0_2 t) _ _ _ k 0 (k0_off1_eq k) s e))

/-- The second head's state after one more chunk. -/
theorem trip_state1 (c : Dev nD) (t : Fin cfg0.N) (k : Fin k0_t1_loop.trips) (S : Carried) (d e : Fin 128) :
    (trip m c t k S).2.1 (ix2 d e) = nextState m c t k 1 S.2.1 d e := by
  unfold trip tripR_k0_t1 trip_k0_t1
  dsimp only
  sl_unfold_run_names
  refine (pay_state1 ..).trans ?_
  exact congrArg₂ (· + ·) (congrArg (_ * ·) (read_cd (hs0_7 t) _ _ _ 1 rfl rfl rfl e))
    (Finset.sum_congr rfl fun s _ => congrArg₂ (· * ·) (congrArg₂ (· * ·)
      (congrArg (· * keyScale) (read_blk (hs0_1 t) _ _ _ k 1 (k0_off2_eq k) s d)) (read_tab (hs0_6 t) _ _ _ 1 rfl rfl rfl s d))
      (read_blk (hs0_2 t) _ _ _ k 1 (k0_off2_eq k) s e))

/-- The third head's state after one more chunk. -/
theorem trip_state2 (c : Dev nD) (t : Fin cfg0.N) (k : Fin k0_t1_loop.trips) (S : Carried) (d e : Fin 128) :
    (trip m c t k S).2.2.1 (ix2 d e) = nextState m c t k 2 S.2.2.1 d e := by
  unfold trip tripR_k0_t1 trip_k0_t1
  dsimp only
  sl_unfold_run_names
  refine (pay_state2 ..).trans ?_
  exact congrArg₂ (· + ·) (congrArg (_ * ·) (read_cd (hs0_7 t) _ _ _ 2 rfl rfl rfl e))
    (Finset.sum_congr rfl fun s _ => congrArg₂ (· * ·) (congrArg₂ (· * ·)
      (congrArg (· * keyScale) (read_blk (hs0_1 t) _ _ _ k 2 (k0_off3_eq k) s d)) (read_tab (hs0_6 t) _ _ _ 2 rfl rfl rfl s d))
      (read_blk (hs0_2 t) _ _ _ k 2 (k0_off3_eq k) s e))

/-- The fourth head's state after one more chunk. -/
theorem trip_state3 (c : Dev nD) (t : Fin cfg0.N) (k : Fin k0_t1_loop.trips) (S : Carried) (d e : Fin 128) :
    (trip m c t k S).2.2.2 (ix2 d e) = nextState m c t k 3 S.2.2.2 d e := by
  unfold trip tripR_k0_t1 trip_k0_t1
  dsimp only
  sl_unfold_run_names
  refine (pay_state3 ..).trans ?_
  exact congrArg₂ (· + ·) (congrArg (_ * ·) (read_cd (hs0_7 t) _ _ _ 3 rfl rfl rfl e))
    (Finset.sum_congr rfl fun s _ => congrArg₂ (· * ·) (congrArg₂ (· * ·)
      (congrArg (· * keyScale) (read_blk (hs0_1 t) _ _ _ k 3 (k0_off4_eq k) s d)) (read_tab (hs0_6 t) _ _ _ 3 rfl rfl rfl s d))
      (read_blk (hs0_2 t) _ _ _ k 3 (k0_off4_eq k) s e))

/-- What a trip stores: in each head's columns of the chunk's rows, the head's shaped output row. -/
theorem stores_at (c : Dev nD) (t : Fin cfg0.N) (k : Fin k0_t1_loop.trips) (S : Carried) (G : S2048x512.Idx → EReal)
    (hG : ∀ (h : Fin 4) (i e : Fin 128), G (ix2 (rowIn k i) (colIn h e)) =
      shaped (outRow m c t k h (headOf S h) i) (T8 m c t (ix2 0 (colIn h e))) (Z m c t (ix2 (rowIn k i) (colIn h e))) e) :
    ∀ p ∈ stores m c t k S, ∀ x : p.1.shape.Idx, p.2 x = G (p.1.emb x) := by
  unfold stores tripL_k0_t1 trip_k0_t1
  dsimp only
  sl_unfold_run_names
  intro p hp
  simp only [List.mem_cons, List.not_mem_nil, or_false] at hp
  rcases hp with rfl | rfl | rfl | rfl
  · intro x
    obtain ⟨i, e, rfl⟩ : ∃ (i e : Fin 128), x = ix2 i e := ⟨x 0, x 1, eq_ix2 x⟩
    refine (pay_out3 ..).trans ?_
    refine Eq.trans ?_ ((hG 3 i e).symm.trans (congrArg G (place_blk _ (k0_off4_inb k) k 3 (k0_off4_eq k) i e).symm))
    refine shaped_congr (fun j => ?_) (read_gain (hs0_8 t) _ _ _ 3 rfl rfl e) (read_blk (hs0_3 t) _ _ _ k 3 (k0_off4_eq k) i e) e
    exact congrArg₂ (· + ·)
      (Finset.sum_congr rfl fun s _ => congrArg₂ (· * ·) (congrArg₂ (· * ·)
        (Finset.sum_congr rfl fun d _ => congrArg₂ (· * ·) (read_blk (hs0_0 t) _ _ _ k 3 (k0_off4_eq k) i d)
          (congrArg (· * keyScale) (read_blk (hs0_1 t) _ _ _ k 3 (k0_off4_eq k) s d)))
        (read_tab (hs0_4 t) _ _ _ 3 rfl rfl rfl i s)) (read_blk (hs0_2 t) _ _ _ k 3 (k0_off4_eq k) s j))
      (Finset.sum_congr rfl fun d _ => congrArg (· * _) (congrArg₂ (· * ·) (read_blk (hs0_0 t) _ _ _ k 3 (k0_off4_eq k) i d)
        (read_tab (hs0_5 t) _ _ _ 3 rfl rfl rfl i d)))
  · intro x
    obtain ⟨i, e, rfl⟩ : ∃ (i e : Fin 128), x = ix2 i e := ⟨x 0, x 1, eq_ix2 x⟩
    refine (pay_out2 ..).trans ?_
    refine Eq.trans ?_ ((hG 2 i e).symm.trans (congrArg G (place_blk _ (k0_off3_inb k) k 2 (k0_off3_eq k) i e).symm))
    refine shaped_congr (fun j => ?_) (read_gain (hs0_8 t) _ _ _ 2 rfl rfl e) (read_blk (hs0_3 t) _ _ _ k 2 (k0_off3_eq k) i e) e
    exact congrArg₂ (· + ·)
      (Finset.sum_congr rfl fun s _ => congrArg₂ (· * ·) (congrArg₂ (· * ·)
        (Finset.sum_congr rfl fun d _ => congrArg₂ (· * ·) (read_blk (hs0_0 t) _ _ _ k 2 (k0_off3_eq k) i d)
          (congrArg (· * keyScale) (read_blk (hs0_1 t) _ _ _ k 2 (k0_off3_eq k) s d)))
        (read_tab (hs0_4 t) _ _ _ 2 rfl rfl rfl i s)) (read_blk (hs0_2 t) _ _ _ k 2 (k0_off3_eq k) s j))
      (Finset.sum_congr rfl fun d _ => congrArg (· * _) (congrArg₂ (· * ·) (read_blk (hs0_0 t) _ _ _ k 2 (k0_off3_eq k) i d)
        (read_tab (hs0_5 t) _ _ _ 2 rfl rfl rfl i d)))
  · intro x
    obtain ⟨i, e, rfl⟩ : ∃ (i e : Fin 128), x = ix2 i e := ⟨x 0, x 1, eq_ix2 x⟩
    refine (pay_out1 ..).trans ?_
    refine Eq.trans ?_ ((hG 1 i e).symm.trans (congrArg G (place_blk _ (k0_off2_inb k) k 1 (k0_off2_eq k) i e).symm))
    refine shaped_congr (fun j => ?_) (read_gain (hs0_8 t) _ _ _ 1 rfl rfl e) (read_blk (hs0_3 t) _ _ _ k 1 (k0_off2_eq k) i e) e
    exact congrArg₂ (· + ·)
      (Finset.sum_congr rfl fun s _ => congrArg₂ (· * ·) (congrArg₂ (· * ·)
        (Finset.sum_congr rfl fun d _ => congrArg₂ (· * ·) (read_blk (hs0_0 t) _ _ _ k 1 (k0_off2_eq k) i d)
          (congrArg (· * keyScale) (read_blk (hs0_1 t) _ _ _ k 1 (k0_off2_eq k) s d)))
        (read_tab (hs0_4 t) _ _ _ 1 rfl rfl rfl i s)) (read_blk (hs0_2 t) _ _ _ k 1 (k0_off2_eq k) s j))
      (Finset.sum_congr rfl fun d _ => congrArg (· * _) (congrArg₂ (· * ·) (read_blk (hs0_0 t) _ _ _ k 1 (k0_off2_eq k) i d)
        (read_tab (hs0_5 t) _ _ _ 1 rfl rfl rfl i d)))
  · intro x
    obtain ⟨i, e, rfl⟩ : ∃ (i e : Fin 128), x = ix2 i e := ⟨x 0, x 1, eq_ix2 x⟩
    refine (pay_out0 ..).trans ?_
    refine Eq.trans ?_ ((hG 0 i e).symm.trans (congrArg G (place_blk _ (k0_off1_inb k) k 0 (k0_off1_eq k) i e).symm))
    refine shaped_congr (fun j => ?_) (read_gain (hs0_8 t) _ _ _ 0 rfl rfl e) (read_blk (hs0_3 t) _ _ _ k 0 (k0_off1_eq k) i e) e
    exact congrArg₂ (· + ·)
      (Finset.sum_congr rfl fun s _ => congrArg₂ (· * ·) (congrArg₂ (· * ·)
        (Finset.sum_congr rfl fun d _ => congrArg₂ (· * ·) (read_blk (hs0_0 t) _ _ _ k 0 (k0_off1_eq k) i d)
          (congrArg (· * keyScale) (read_blk (hs0_1 t) _ _ _ k 0 (k0_off1_eq k) s d)))
        (read_tab (hs0_4 t) _ _ _ 0 rfl rfl rfl i s)) (read_blk (hs0_2 t) _ _ _ k 0 (k0_off1_eq k) s j))
      (Finset.sum_congr rfl fun d _ => congrArg (· * _) (congrArg₂ (· * ·) (read_blk (hs0_0 t) _ _ _ k 0 (k0_off1_eq k) i d)
        (read_tab (hs0_5 t) _ _ _ 0 rfl rfl rfl i d)))

end Cert.KernelIdeal.Feed
-- ==== Proof.RetFeed.lean ====
module

public import proofs.«01_k».proof.Proof.RetTrip
public import Idealize.ShloMosaic.Lib.Pipeline.ValueKit.Point
public import Idealize.ShloMosaic.Lib.StableHlo.ReadAt

@[expose] public section

set_option maxRecDepth 16384

noncomputable section

open Idealize.ShloMosaic Idealize.ShloMosaic.TcCoe Idealize.SL.Sem

namespace Cert.KernelIdeal.Feed

open Cert.KernelIdeal Cert.KernelIdeal.Gen Cert.Layer Cert.Layer.Ret

variable (m : (ℓ : Loc nD τ sig) → Buf (Elt Ideal) ℓ)

/-- Which block of each operand a grid point works on: point `t` takes the `t`-th prompt, and the whole of every table. -/
theorem idx : ∀ t : Fin cfg0.N, win0_0.index t = ![t.val, 0] ∧ win0_1.index t = ![t.val, 1] ∧ win0_2.index t = ![t.val, 2]
    ∧ win0_3.index t = ![t.val, 3] ∧ win0_4.index t = ![0, 0, 0] ∧ win0_5.index t = ![0, 0, 0] ∧ win0_6.index t = ![0, 0, 0]
    ∧ win0_7.index t = ![0, 0, 0] ∧ win0_8.index t = ![0, 0] :=
  (by decide +kernel : ∀ t : Fin grid0.N, _)

/-- The projected input, as an array over the extended reals. -/
abbrev A0 (c : Dev nD) : S8192x10368.Idx → EReal := m ((c : Thread nD τ).loc main_arg0)
/-- The gain, as an array over the extended reals. -/
abbrev A1 (c : Dev nD) : S1x512.Idx → EReal := m ((c : Thread nD τ).loc main_arg1)

/-- The array row that row `r` of prompt `t` is. -/
def rowOf (t : Fin cfg0.N) (r : Fin 2048) : Fin 8192 :=
  ⟨2048 * t.val + r.val, by have h : cfg0.N = 4 := N_0; have := t.isLt; omega⟩

/-- The array column that column `j` of the `w`-th block of columns is. -/
def colOf (w : Fin 4) (j : Fin 512) : Fin 10368 := ⟨512 * w.val + j.val, by omega⟩

/-- The query block of a point, read from the projected input. -/
theorem blk_query (c : Dev nD) (t : Fin cfg0.N) (r : Fin 2048) (j : Fin 512) :
    Q m c t (ix2 r j) = A0 m c (ix2 (rowOf t r) (colOf 0 j)) := by
  unfold rowOf colOf Q X0_0
  rw [Pipeline.Window.fill, dif_pos (moved0_0 t _)]
  refine Eq.trans ?_ (congrFun (V_main_arg0 m c) _)
  blk_ext [iblk, idx t]

/-- The key block of a point, read from the projected input. -/
theorem blk_key (c : Dev nD) (t : Fin cfg0.N) (r : Fin 2048) (j : Fin 512) :
    K m c t (ix2 r j) = A0 m c (ix2 (rowOf t r) (colOf 1 j)) := by
  unfold rowOf colOf K X0_1
  rw [Pipeline.Window.fill, dif_pos (moved0_1 t _)]
  refine Eq.trans ?_ (congrFun (V_main_arg0 m c) _)
  blk_ext [iblk, idx t]

/-- The value block of a point, read from the projected input. -/
theorem blk_value (c : Dev nD) (t : Fin cfg0.N) (r : Fin 2048) (j : Fin 512) :
    W m c t (ix2 r j) = A0 m c (ix2 (rowOf t r) (colOf 2 j)) := by
  unfold rowOf colOf W X0_2
  rw [Pipeline.Window.fill, dif_pos (moved0_2 t _)]
  refine Eq.trans ?_ (congrFun (V_main_arg0 m c) _)
  blk_ext [iblk, idx t]

/-- The gate block of a point, read from the projected input. -/
theorem blk_gate (c : Dev nD) (t : Fin cfg0.N) (r : Fin 2048) (j : Fin 512) :
    Z m c t (ix2 r j) = A0 m c (ix2 (rowOf t r) (colOf 3 j)) := by
  unfold rowOf colOf Z X0_3
  rw [Pipeline.Window.fill, dif_pos (moved0_3 t _)]
  refine Eq.trans ?_ (congrFun (V_main_arg0 m c) _)
  blk_ext [iblk, idx t]

/-- The gain's block of a point is the gain. -/
theorem blk_gain (c : Dev nD) (t : Fin cfg0.N) (j : Fin 512) : T8 m c t (ix2 0 j) = A1 m c (ix2 0 j) := by
  refine Eq.trans ?_ (congrFun (V_main_arg1 m c) _)
  blk_ext [iblk, idx t]

/-- The array that window 4 reads. -/
abbrev H4 (c : Dev nD) : S4x128x128.Idx → EReal := V m c main_v24

/-- The array that window 5 reads. -/
abbrev H5 (c : Dev nD) : S4x128x128.Idx → EReal := V m c main_v37

/-- The array that window 6 reads. -/
abbrev H6 (c : Dev nD) : S4x128x128.Idx → EReal := V m c main_v50

/-- The array that window 7 reads. -/
abbrev H7 (c : Dev nD) : S4x8x128.Idx → EReal := V m c main_v58

/-- The table of factors inside a chunk holds, at row `i` and column `j`, the decay over `i - j` positions, and zero above the diagonal. -/
theorem tab_within (c : Dev nD) (t : Fin cfg0.N) (h : Fin 4) (i j : Fin 128) :
    T4 m c t (ix3 h i j) = within (decay h) i.val j.val := by
  have e : T4 m c t (ix3 h i j) = H4 m c (ix3 h i j) := by blk_ext [iblk, idx t]
  rw [e]
  unfold H4 V
  simp only [List.flatten_cons, List.flatten_nil, List.append_nil, StableHlo.after_append]
  after_reads_at
  have hz : (id (constant (F := Ideal) S_ .f32 0#32) ix0 : EReal) = 0 := by
    show Ideal.ofBits .f32 0#32 = 0
    simp [Ideal.ofBits, Ideal.ieee]
  rw [hz]
  exact table_within h i.isLt j.isLt

/-- The query table holds, at row `i`, the decay over `i + 1` positions. -/
theorem tab_query (c : Dev nD) (t : Fin cfg0.N) (h : Fin 4) (i d : Fin 128) :
    T5 m c t (ix3 h i d) = (decay h (i.val + 1) : EReal) := by
  have e : T5 m c t (ix3 h i d) = H5 m c (ix3 h i d) := by blk_ext [iblk, idx t]
  rw [e]
  unfold H5 V
  simp only [List.flatten_cons, List.flatten_nil, List.append_nil, StableHlo.after_append]
  after_reads_at
  exact table_query h i.isLt

/-- The key table holds, at row `i`, the decay over the positions left in the chunk. -/
theorem tab_key (c : Dev nD) (t : Fin cfg0.N) (h : Fin 4) (i d : Fin 128) :
    T6 m c t (ix3 h i d) = (decay h (128 - 1 - i.val) : EReal) := by
  have e : T6 m c t (ix3 h i d) = H6 m c (ix3 h i d) := by blk_ext [iblk, idx t]
  rw [e]
  unfold H6 V
  simp only [List.flatten_cons, List.flatten_nil, List.append_nil, StableHlo.after_append]
  after_reads_at
  exact table_key h le_rfl i.isLt (lit_127.trans (by norm_num))

/-- The state table holds the decay over a chunk. -/
theorem tab_state (c : Dev nD) (t : Fin cfg0.N) (h : Fin 4) (i : Fin 8) (d : Fin 128) :
    T7 m c t (ix3 h i d) = (decay h 128 : EReal) := by
  have e : T7 m c t (ix3 h i d) = H7 m c (ix3 h i d) := by blk_ext [iblk, idx t]
  rw [e]
  unfold H7 V
  simp only [List.flatten_cons, List.flatten_nil, List.append_nil, StableHlo.after_append]
  after_reads_at
  refine Eq.trans ?_ (exp_decayLog h 128)
  rw [lit_128]
  rfl

end Cert.KernelIdeal.Feed
-- ==== Proof.RetKernel.lean ====
module

public import proofs.«01_k».proof.Proof.RetFeed

@[expose] public section

set_option maxRecDepth 16384

noncomputable section

open Idealize.ShloMosaic Idealize.ShloMosaic.TcCoe Idealize.SL.Sem

namespace Cert.KernelIdeal.Feed

open Cert.KernelIdeal Cert.KernelIdeal.Gen Cert.KernelIdeal.Value Cert.Layer Cert.Layer.Ret

variable (m : (ℓ : Loc nD τ sig) → Buf (Elt Ideal) ℓ)

/-- The prompt that a grid point works on. -/
def prompt (t : Fin cfg0.N) : Fin 4 := ⟨t.val, by have h : cfg0.N = 4 := N_0; have := t.isLt; omega⟩

/-- A row of a chunk lies in the prompt. -/
theorem row_lt (k : Fin k0_t1_loop.trips) (i : Fin 128) : 128 * k.val + i.val < 2048 := (rowIn k i).isLt

/-- An entry of a point's queries. -/
theorem query_at (c : Dev nD) (t : Fin cfg0.N) (k : Fin k0_t1_loop.trips) (h : Fin 4) (i d : Fin 128) :
    Q m c t (ix2 (rowIn k i) (colIn h d)) = rows (A0 m c) 0 (prompt t) h (128 * k.val + i.val) d := by
  rw [blk_query, rows_eq _ _ _ _ (row_lt k i)]
  rfl

/-- An entry of a point's keys. -/
theorem key_at (c : Dev nD) (t : Fin cfg0.N) (k : Fin k0_t1_loop.trips) (h : Fin 4) (i d : Fin 128) :
    K m c t (ix2 (rowIn k i) (colIn h d)) = rows (A0 m c) 1 (prompt t) h (128 * k.val + i.val) d := by
  rw [blk_key, rows_eq _ _ _ _ (row_lt k i)]
  rfl

/-- An entry of a point's values. -/
theorem value_at (c : Dev nD) (t : Fin cfg0.N) (k : Fin k0_t1_loop.trips) (h : Fin 4) (i d : Fin 128) :
    W m c t (ix2 (rowIn k i) (colIn h d)) = rows (A0 m c) 2 (prompt t) h (128 * k.val + i.val) d := by
  rw [blk_value, rows_eq _ _ _ _ (row_lt k i)]
  rfl

/-- An entry of a point's gates. -/
theorem gate_at (c : Dev nD) (t : Fin cfg0.N) (k : Fin k0_t1_loop.trips) (h : Fin 4) (i d : Fin 128) :
    Z m c t (ix2 (rowIn k i) (colIn h d)) = rows (A0 m c) 3 (prompt t) h (128 * k.val + i.val) d := by
  rw [blk_gate, rows_eq _ _ _ _ (row_lt k i)]
  rfl

/-- One trip takes the state after `k` chunks to the state after one more. -/
theorem nextState_eq (c : Dev nD) (t : Fin cfg0.N) (k : Fin k0_t1_loop.trips) (h : Fin 4) (S : Blk)
    (hS : ∀ d e, S (ix2 d e) = stateOf 128 (A0 m c) (prompt t) h k.val d e) (d e : Fin 128) :
    nextState m c t k h S d e = stateOf 128 (A0 m c) (prompt t) h (k.val + 1) d e := by
  unfold nextState
  simp only [hS, tab_state, tab_key, key_at, value_at]
  rfl

/-- A chunk's output row before it is normalised. -/
theorem outRow_eq (c : Dev nD) (t : Fin cfg0.N) (k : Fin k0_t1_loop.trips) (h : Fin 4) (S : Blk)
    (hS : ∀ d e, S (ix2 d e) = stateOf 128 (A0 m c) (prompt t) h k.val d e) (i e : Fin 128) :
    outRow m c t k h S i e = rowOut 128 (A0 m c) (prompt t) h k.val i.val e := by
  unfold outRow
  simp only [hS, tab_within, tab_query, query_at, key_at, value_at]
  rfl

/-- What the loop has carried and stored after `k` trips. -/
abbrev st (c : Dev nD) (t : Fin cfg0.N) (k : ℕ) :=
  st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hs0_0 t).unread (X0_0 m c t)) ((hs0_1 t).unread (X0_1 m c t)) ((hs0_2 t).unread (X0_2 m c t)) ((hs0_3 t).unread (X0_3 m c t)) ((hs0_4 t).unread (iblk m c 4 t)) ((hs0_5 t).unread (iblk m c 5 t)) ((hs0_6 t).unread (iblk m c 6 t)) ((hs0_7 t).unread (iblk m c 7 t)) ((hs0_8 t).unread (iblk m c 8 t))
    (k0_pay1, k0_pay2, k0_pay3, k0_pay4) k

/-- After `k` trips each head carries its state after `k` chunks. -/
theorem states (c : Dev nD) (t : Fin cfg0.N) : ∀ (k : ℕ) (_ : k ≤ k0_t1_loop.trips) (h : Fin 4) (d e : Fin 128),
    headOf (st m c t k).1 h (ix2 d e) = stateOf 128 (A0 m c) (prompt t) h k d e := by
  intro k
  induction k with
  | zero =>
    intro _ h d e
    have hz := pay_zero (ix2 d e)
    fin_cases h
    · exact hz.1
    · exact hz.2.1
    · exact hz.2.2.1
    · exact hz.2.2.2
  | succ k ih =>
    intro hk h d e
    have hk' : k < k0_t1_loop.trips := hk
    have hs : (st m c t (k + 1)).1 = trip m c t ⟨k, hk'⟩ (st m c t k).1 := congrArg Prod.fst (st_k0_t1_succ _ _ _ _ _ _ _ _ _ _ _ _ _ _ _ _ _ _ _ _ _ _ _ _ _ _ _ _ _ _ _ _ _ _ _ _ ⟨k, hk'⟩)
    rw [hs]
    refine Eq.trans ?_ (nextState_eq m c t ⟨k, hk'⟩ h (headOf (st m c t k).1 h) (ih (le_of_lt hk') h) d e)
    fin_cases h
    · exact trip_state0 ..
    · exact trip_state1 ..
    · exact trip_state2 ..
    · exact trip_state3 ..

/-- The output block of a point, as an array: row `r` belongs to chunk `r / 128`. -/
def outBlk (c : Dev nD) (t : Fin cfg0.N) (j : S2048x512.Idx) : EReal :=
  outOf 128 (A0 m c) (A1 m c) (prompt t) ⟨(j 1).val / 128, by have : (j 1).val < 512 := (j 1).isLt; omega⟩
    ((j 0).val / 128) ((j 0).val % 128) ⟨(j 1).val % 128, by omega⟩

/-- That array at a row of a chunk and a column of a head. -/
theorem outBlk_at (c : Dev nD) (t : Fin cfg0.N) (k : Fin k0_t1_loop.trips) (h : Fin 4) (i e : Fin 128) :
    outBlk m c t (ix2 (rowIn k i) (colIn h e)) = outOf 128 (A0 m c) (A1 m c) (prompt t) h k.val i.val e := by
  have e1 : (128 * h.val + e.val) / 128 = h.val := by omega
  have e2 : (128 * k.val + i.val) / 128 = k.val := by omega
  have e3 : (128 * k.val + i.val) % 128 = i.val := by omega
  have e4 : (128 * h.val + e.val) % 128 = e.val := by omega
  show outOf 128 (A0 m c) (A1 m c) (prompt t) ⟨(128 * h.val + e.val) / 128, _⟩ ((128 * k.val + i.val) / 128)
    ((128 * k.val + i.val) % 128) ⟨(128 * h.val + e.val) % 128, _⟩ = _
  simp only [e1, e2, e3, e4]

/-- After `k` trips everything stored agrees with that array. -/
theorem stored (c : Dev nD) (t : Fin cfg0.N) : ∀ (k : ℕ) (_ : k ≤ k0_t1_loop.trips),
    ∀ p ∈ (st m c t k).2, ∀ x : p.1.shape.Idx, p.2 x = outBlk m c t (p.1.emb x) := by
  intro k
  induction k with
  | zero =>
    intro _ p hp
    exact absurd hp (List.not_mem_nil)
  | succ k ih =>
    intro hk p hp
    have hk' : k < k0_t1_loop.trips := hk
    have hs : (st m c t (k + 1)).2 = stores m c t ⟨k, hk'⟩ (st m c t k).1 ++ (st m c t k).2 := congrArg Prod.snd (st_k0_t1_succ _ _ _ _ _ _ _ _ _ _ _ _ _ _ _ _ _ _ _ _ _ _ _ _ _ _ _ _ _ _ _ _ _ _ _ _ ⟨k, hk'⟩)
    rw [hs] at hp
    rcases List.mem_append.mp hp with hp | hp
    · refine stores_at m c t ⟨k, hk'⟩ (st m c t k).1 (outBlk m c t) (fun h i e => ?_) p hp
      rw [outBlk_at]
      exact shaped_congr (fun j => (outRow_eq m c t ⟨k, hk'⟩ h _ (states m c t k (le_of_lt hk') h) i j).symm)
        (blk_gain m c t (colIn h e)).symm (gate_at m c t ⟨k, hk'⟩ h i e).symm e
    · exact ih (le_of_lt hk') p hp

/-- What a point leaves in the first output block. -/
theorem out_block (c : Dev nD) (t : Fin cfg0.N) (j : S2048x512.Idx) : (outsAt0 m c t).1 j = outBlk m c t j := by
  unfold outsAt0
  dsimp only
  unfold out0_A_9
  rw [View.read_writes_junk_eq_canon]
  refine View.canon_apply_of_pieces (Val := Elt Ideal) (outBlk m c t) _ (fun p hp => ?_) j (cover0_A_9 c _ _ _ _ _ _ _ _ _ _ _ _ _ _ _ _ _ _ _ _ _ _ _ _ _ _ _ _ _ _ _ _ j)
  unfold kernelRun0_A at hp
  dsimp only at hp
  exact stored m c t _ (by decide +kernel) p hp

/-- Where one head's last state is stored in the second output block. -/
theorem place_last (off : Fin 4 → ℕ) (inb : ∀ a, off a + S1x1x128x128.size a ≤ S1x4x128x128.size a) (h : Fin 4)
    (h1 : off 1 = h.val) (h2 : off 2 = 0) (h3 : off 3 = 0) (a b : Fin 1) (d e : Fin 128) :
    (Rect.unit (s := S1x4x128x128) off S1x1x128x128.size inb).idx (ix4 a b d e) = ix4 0 h d e := by
  funext y
  apply Fin.ext
  refine (Rect.idx_unit_val ..).trans ?_
  fin_cases y
  · have h0 := inb 0
    show off 0 + a.val = 0
    have : off 0 + 1 ≤ 1 := h0
    omega
  · show off 1 + b.val = h.val
    omega
  · show off 2 + d.val = d.val
    omega
  · show off 3 + e.val = e.val
    omega

/-- The four stores of the last states, from what the loop has carried. -/
theorem last_pieces (S : Carried) (G : S1x4x128x128.Idx → EReal) (hG : ∀ (h : Fin 4) (d e : Fin 128), headOf S h (ix2 d e) = G (ix4 0 h d e)) :
    ∀ p ∈ ([⟨Rect.unit ![0, 3, 0, 0] ![1, 1, 128, 128] inb_S1x4x128x128_S1x1x128x128_0_3_0_0, k0_pay9 (F := Ideal) S.2.2.2⟩,
        ⟨Rect.unit ![0, 2, 0, 0] ![1, 1, 128, 128] inb_S1x4x128x128_S1x1x128x128_0_2_0_0, k0_pay8 (F := Ideal) S.2.2.1⟩,
        ⟨Rect.unit ![0, 1, 0, 0] ![1, 1, 128, 128] inb_S1x4x128x128_S1x1x128x128_0_1_0_0, k0_pay7 (F := Ideal) S.2.1⟩,
        ⟨Rect.unit ![0, 0, 0, 0] ![1, 1, 128, 128] inb_S1x4x128x128_S1x1x128x128_0_0_0_0, k0_pay6 (F := Ideal) S.1⟩] :
        List (View.Piece (Elt Ideal) S1x4x128x128 .f32)), ∀ x : p.1.shape.Idx, p.2 x = G (p.1.emb x) := by
  intro p hp
  simp only [List.mem_cons, List.not_mem_nil, or_false] at hp
  rcases hp with rfl | rfl | rfl | rfl
  · intro x
    obtain ⟨a, b, d, e, rfl⟩ : ∃ (a b : Fin 1) (d e : Fin 128), x = ix4 a b d e := ⟨x 0, x 1, x 2, x 3, eq_ix4 x⟩
    refine ((pay_last _ a b d e).2.2.2.trans (hG 3 d e)).trans ?_
    exact congrArg G (place_last _ inb_S1x4x128x128_S1x1x128x128_0_3_0_0 3 rfl rfl rfl a b d e).symm
  · intro x
    obtain ⟨a, b, d, e, rfl⟩ : ∃ (a b : Fin 1) (d e : Fin 128), x = ix4 a b d e := ⟨x 0, x 1, x 2, x 3, eq_ix4 x⟩
    refine ((pay_last _ a b d e).2.2.1.trans (hG 2 d e)).trans ?_
    exact congrArg G (place_last _ inb_S1x4x128x128_S1x1x128x128_0_2_0_0 2 rfl rfl rfl a b d e).symm
  · intro x
    obtain ⟨a, b, d, e, rfl⟩ : ∃ (a b : Fin 1) (d e : Fin 128), x = ix4 a b d e := ⟨x 0, x 1, x 2, x 3, eq_ix4 x⟩
    refine ((pay_last _ a b d e).2.1.trans (hG 1 d e)).trans ?_
    exact congrArg G (place_last _ inb_S1x4x128x128_S1x1x128x128_0_1_0_0 1 rfl rfl rfl a b d e).symm
  · intro x
    obtain ⟨a, b, d, e, rfl⟩ : ∃ (a b : Fin 1) (d e : Fin 128), x = ix4 a b d e := ⟨x 0, x 1, x 2, x 3, eq_ix4 x⟩
    refine ((pay_last _ a b d e).1.trans (hG 0 d e)).trans ?_
    exact congrArg G (place_last _ inb_S1x4x128x128_S1x1x128x128_0_0_0_0 0 rfl rfl rfl a b d e).symm

/-- The second output block of a point, as an array. -/
def stateBlk (c : Dev nD) (t : Fin cfg0.N) (j : S1x4x128x128.Idx) : EReal :=
  stateOf 128 (A0 m c) (prompt t) (j 1) 16 (j 2) (j 3)

/-- What a point leaves in the second output block. -/
theorem state_block (c : Dev nD) (t : Fin cfg0.N) (j : S1x4x128x128.Idx) : (outsAt0 m c t).2 j = stateBlk m c t j := by
  unfold outsAt0
  dsimp only
  unfold out0_A_10
  rw [View.read_writes_junk_eq_canon]
  refine View.canon_apply_of_pieces (Val := Elt Ideal) (stateBlk m c t) _ (fun p hp => ?_) j (cover0_A_10 c _ _ _ _ _ _ _ _ _ _ _ _ _ _ _ _ _ _ _ _ _ _ _ _ _ _ _ _ _ _ _ _ j)
  unfold kernelRun0_A at hp
  dsimp only at hp
  refine last_pieces (st m c t (Scf.trips (0#32) (Scalar.addi 0#32 16#32) 1#32)).1 (stateBlk m c t) (fun h d e => ?_) p hp
  have h16 : Scf.trips (0#32) (Scalar.addi 0#32 16#32) 1#32 = 16 := by decide +kernel
  rw [h16]
  exact states m c t 16 (by decide +kernel) h d e

/-- Which block of each result a grid point writes. -/
theorem idx_out : ∀ t : Fin cfg0.N, win0_9.index t = ![t.val, 0] ∧ win0_10.index t = ![t.val, 0, 0, 0] :=
  (by decide +kernel : ∀ t : Fin grid0.N, _)

/-- Row `128 k + i` of a prompt in the first result array. -/
theorem final_out (c : Dev nD) (t : Fin cfg0.N) (r : Fin 2048) (j : Fin 512) :
    (dats m 0 c).arrAt 9 cfg0.N (ix2 (rowOf t r) j) = outBlk m c t (ix2 r j) := by
  have hb := congrFun (blocks9 m c t (flush0_9 t)) (ix2 r j)
  have he : View.read (Elt Ideal) ((cfg0.win 9).blk t).view ((dats m 0 c).arrAt 9 cfg0.N) (ix2 r j)
      = (dats m 0 c).arrAt 9 cfg0.N (ix2 (rowOf t r) j) := by
    unfold rowOf
    blk_ext [idx_out t]
  rw [he, flushed9] at hb
  refine hb.trans ((?_ : _ = (outsAt0 m c t).1 (ix2 r j)).trans (out_block m c t _))
  rfl

/-- The second result array. -/
theorem final_state (c : Dev nD) (t : Fin cfg0.N) (h : Fin 4) (d e : Fin 128) :
    (dats m 0 c).arrAt 10 cfg0.N (ix4 (prompt t) h d e) = stateOf 128 (A0 m c) (prompt t) h 16 d e := by
  have hb := congrFun (blocks10 m c t (flush0_10 t)) (ix4 0 h d e)
  have he : View.read (Elt Ideal) ((cfg0.win 10).blk t).view ((dats m 0 c).arrAt 10 cfg0.N) (ix4 0 h d e)
      = (dats m 0 c).arrAt 10 cfg0.N (ix4 (prompt t) h d e) := by
    unfold prompt
    blk_ext [idx_out t]
  rw [he, flushed10] at hb
  refine hb.trans ((?_ : _ = (outsAt0 m c t).2 (ix4 0 h d e)).trans (state_block m c t _))
  rfl

end Cert.KernelIdeal.Feed
-- ==== Proof.RetRefFeed.lean ====
module

public import proofs.«01_k».proof.Proof.RetKeep
public import proofs.«01_k».proof.Proof.RetSpec
public import Idealize.ShloMosaic.Lib.Pointwise
public import Idealize.ShloMosaic.Lib.StableHlo.ReadAt

@[expose] public section

set_option maxRecDepth 16384
set_option maxHeartbeats 1000000

noncomputable section

open Idealize.ShloMosaic Idealize.ShloMosaic.StableHlo Idealize.SL.Sem

namespace Cert.ReferenceIdeal.Loop

open Cert.ReferenceIdeal Cert.ReferenceIdeal.Gen Cert.ReferenceIdeal.Value Cert.Layer.Ret

variable (m : (ℓ : Loc nD τ sig) → Buf (Elt Ideal) ℓ)

/-- The first argument: the projected input. -/
abbrev A0 (c : Dev nD) : S8192x10368.Idx → EReal := m ((c.tc : Thread nD τ).loc main_arg0)

/-- The second argument: the gain. -/
abbrev A1 (c : Dev nD) : S1x512.Idx → EReal := m ((c.tc : Thread nD τ).loc main_arg1)

/-- The queries by chunk, as the loop finds them. -/
abbrev Qs (c : Dev nD) : S32x4x4x64x128.Idx → EReal := entryContents preI m c (Proc.devRef .tc main_v65_0)

/-- The scaled keys by chunk, as the loop finds them. -/
abbrev Ks (c : Dev nD) : S32x4x4x64x128.Idx → EReal := entryContents preI m c (Proc.devRef .tc main_v65_1)

/-- The values by chunk, as the loop finds them. -/
abbrev Vs (c : Dev nD) : S32x4x4x64x128.Idx → EReal := entryContents preI m c (Proc.devRef .tc main_v65_2)

/-- The factors inside a chunk. -/
abbrev Dw (c : Dev nD) : S4x64x64.Idx → EReal := entryContents preI m c (Proc.devRef .tc main_v65_3)

/-- The factors of the queries. -/
abbrev Dq (c : Dev nD) : S4x64x1.Idx → EReal := entryContents preI m c (Proc.devRef .tc main_v65_4)

/-- The factors of the state. -/
abbrev Ds (c : Dev nD) : S4x1x1.Idx → EReal := entryContents preI m c (Proc.devRef .tc main_v65_5)

/-- The factors of the keys. -/
abbrev Dk (c : Dev nD) : S4x64x1.Idx → EReal := entryContents preI m c (Proc.devRef .tc main_v65_6)

/-- The state at the loop's entry. -/
abbrev St (c : Dev nD) : S4x4x128x128.Idx → EReal := entryContents preI m c (Proc.devRef .tc main_v65_8)

/-- The input by prompt, position, block of columns, head and column. -/
abbrev Zs (c : Dev nD) : S4x2048x4x4x128.Idx → EReal := entryContents preI m c (Proc.devRef .tc main_v1)

/-- Where the loop's arrays find a chunk's row in the argument. -/
theorem row_of_chunk (A : Cert.Layer.Arr 8192 10368) (w b h : Fin 4) (n : Fin 32) (i : Fin 64) (d : Fin 128) {p : Fin 8192} {q : Fin 10368}
    (hp : p.val = b.val * 2048 + (n.val * 64 + i.val)) (hq : q.val = 512 * w.val + (128 * h.val + d.val)) :
    A (ix2 p q) = rows A w b h (64 * n.val + i.val) d := by
  rw [rows_eq A w b h (by omega) d]
  congr 2
  · exact Fin.ext (by simp only [rowAt]; omega)
  · exact Fin.ext (by simp only [colAt]; omega)

/-- The queries of prompt `b`, head `h` and chunk `n` are the first block of the input's columns. -/
theorem queries_eq (c : Dev nD) (n : Fin 32) (b h : Fin 4) (i : Fin 64) (d : Fin 128) :
    Qs m c (ix5 n b h i d) = rows (A0 m c) 0 b h (64 * n.val + i.val) d := by
  unfold Qs
  simp only [entryContents, afterL_cons, afterL_nil]
  after_reads_simp
  simp only [id_eq]
  pointwise
  refine row_of_chunk (A0 m c) 0 b h n i d ?_ ?_ <;> simp <;> omega

/-- The keys are the second block of the input's columns, scaled. -/
theorem keys_eq (c : Dev nD) (n : Fin 32) (b h : Fin 4) (i : Fin 64) (d : Fin 128) :
    Ks m c (ix5 n b h i d) = keys (A0 m c) b h (64 * n.val + i.val) d := by
  unfold Ks
  simp only [entryContents, afterL_cons, afterL_nil]
  after_reads_at
  simp only [id_eq]
  pointwise
  refine congrArg (· * keyScale) (row_of_chunk (A0 m c) 1 b h n i d ?_ ?_) <;> simp <;> omega

/-- The values are the third block of the input's columns. -/
theorem values_eq (c : Dev nD) (n : Fin 32) (b h : Fin 4) (i : Fin 64) (d : Fin 128) :
    Vs m c (ix5 n b h i d) = rows (A0 m c) 2 b h (64 * n.val + i.val) d := by
  unfold Vs
  simp only [entryContents, afterL_cons, afterL_nil]
  after_reads_simp
  simp only [id_eq]
  pointwise
  refine row_of_chunk (A0 m c) 2 b h n i d ?_ ?_ <;> simp <;> omega

/-- The whole input, by prompt, position, block, head and column. -/
theorem input_eq (c : Dev nD) (b : Fin 4) (p : Fin 2048) (w h : Fin 4) (d : Fin 128) :
    Zs m c (ix5 b p w h d) = rows (A0 m c) w b h p.val d := by
  unfold Zs
  simp only [entryContents, afterL_cons, afterL_nil]
  after_reads_at
  rw [rows_eq (A0 m c) w b h p.isLt d]
  show A0 m c _ = A0 m c _
  congr 2
  · exact Fin.ext (by simp only [rowAt]; omega)
  · exact Fin.ext (by simp only [colAt]; omega)

/-- The factors inside a chunk are the decay over the distance, and zero above the diagonal. -/
theorem within_eq (c : Dev nD) (h : Fin 4) (i j : Fin 64) : Dw m c (ix3 h i j) = within (decay h) i.val j.val := by
  unfold Dw
  simp only [entryContents, afterL_cons, afterL_nil]
  after_reads_at
  simp only [id_eq]
  pointwise
  exact table_within h (i.isLt.trans (by norm_num)) (j.isLt.trans (by norm_num))

/-- A query's factor is the decay since the chunk's beginning. -/
theorem query_eq (c : Dev nD) (h : Fin 4) (i : Fin 64) : Dq m c (ix3 h i 0) = (decay h (i.val + 1) : EReal) := by
  unfold Dq
  simp only [entryContents, afterL_cons, afterL_nil]
  after_reads_at
  simp only [id_eq]
  pointwise
  exact table_query h (i.isLt.trans (by norm_num))

/-- A key's factor is the decay over what is left of the chunk. -/
theorem key_eq (c : Dev nD) (h : Fin 4) (i : Fin 64) : Dk m c (ix3 h i 0) = (decay h (64 - 1 - i.val) : EReal) := by
  unfold Dk
  simp only [entryContents, afterL_cons, afterL_nil]
  after_reads_at
  simp only [id_eq]
  pointwise
  exact table_key h (by norm_num) i.isLt (lit_63.trans (by norm_num))

/-- The state's factor is the decay over a chunk. -/
theorem state_eq (c : Dev nD) (h : Fin 4) : Ds m c (ix3 h 0 0) = (decay h 64 : EReal) := by
  unfold Ds
  simp only [entryContents, afterL_cons, afterL_nil]
  after_reads_at
  simp only [id_eq]
  pointwise
  refine Eq.trans ?_ (exp_decayLog h 64)
  rw [show (((64 : ℕ) : ℝ) : EReal) = Ideal.ofBits .f32 1115684864#32 from by rw [lit_64]; norm_num]
  rfl

/-- The loop begins with a state of zeros. -/
theorem begin_eq (c : Dev nD) (b h : Fin 4) (d e : Fin 128) : St m c (ix4 b h d e) = 0 := by
  unfold St
  simp only [entryContents, afterL_cons, afterL_nil]
  after_reads_at
  simp only [id_eq]
  pointwise

end Cert.ReferenceIdeal.Loop
-- ==== Proof.RetRefLoop.lean ====
module

public import proofs.«01_k».proof.Proof.RetRefFeed
public import Idealize.ShloMosaic.Lib.Pointwise

@[expose] public section

set_option maxRecDepth 16384

noncomputable section

open Idealize.ShloMosaic Idealize.ShloMosaic.StableHlo Idealize.SL.Sem

namespace Cert.ReferenceIdeal.Loop

open Cert.ReferenceIdeal Cert.ReferenceIdeal.Gen Cert.ReferenceIdeal.Value Cert.Layer.Ret

/-- The start of the slice that a trip takes: the trip's number, then zeros. -/
abbrev startAt (w : S_.Idx → BitVec 32) : Fin 5 → Int :=
  fun k => (((![w, constantI S_ 32 0#32, constantI S_ 32 0#32, constantI S_ 32 0#32, constantI S_ 32 0#32] :
    Fin 5 → (⟨S_, .i32⟩ : BufTy).Contents (Elt Ideal))) k (Shape.Idx.first h_S_)).toInt

/-- Its first component is the trip's number. -/
theorem startAt_zero (k : Fin 32) (w : S_.Idx → BitVec 32) (hw : w = fun _ => Scf.iv 0#32 1#32 k.val) : startAt w 0 = (k.val : Int) := by
  subst hw
  show (Scf.iv 0#32 1#32 k.val).toInt = _
  rw [Scf.iv_eq_ofInt, BitVec.toInt_ofInt]
  have e : (0#32 : BitVec 32).toInt + (k.val : Int) * (1#32 : BitVec 32).toInt = (k.val : Int) := by
    rw [show (0#32 : BitVec 32).toInt = 0 from by decide, show (1#32 : BitVec 32).toInt = 1 from by decide]; omega
  rw [e]
  exact Int.bmod_eq_of_le (by omega) (by have := k.isLt; omega)

/-- The slice fits at the trip's number, so the start is not moved. -/
theorem clamped_zero (k : Fin 32) (w : S_.Idx → BitVec 32) (hw : w = fun _ => Scf.iv 0#32 1#32 k.val)
    (hr : S1x4x4x64x128.rank = S32x4x4x64x128.rank) :
    Host.clampedStart S32x4x4x64x128 S1x4x4x64x128 hr (startAt w) 0 = k.val :=
  Host.clampedStart_of_le hr _ 0 k.val (startAt_zero k w hw) (by have := k.isLt; show k.val + 1 ≤ 32; omega)

/-- The other components of the start are zero. -/
theorem clamped_rest (w : S_.Idx → BitVec 32) (hr : S1x4x4x64x128.rank = S32x4x4x64x128.rank) (a : Fin 5) (ha : a ≠ 0) :
    Host.clampedStart S32x4x4x64x128 S1x4x4x64x128 hr (startAt w) a = 0 := by
  refine Host.clampedStart_of_le hr _ a 0 ?_ ?_ <;> fin_cases a <;> first | exact absurd rfl ha | rfl | decide

/-- The slice that a trip takes is that trip's chunk. -/
theorem slice_apply (x : S32x4x4x64x128.Idx → EReal) (k : Fin 32) (w : S_.Idx → BitVec 32)
    (hw : w = fun _ => Scf.iv 0#32 1#32 k.val) (b h : Fin 4) (i : Fin 64) (d : Fin 128) :
    shapeCast S4x4x64x128 (Host.dynamicSlice S1x4x4x64x128 x (startAt w) sliceFits_S32x4x4x64x128_S1x4x4x64x128)
      shapeCasts_S1x4x4x64x128_S4x4x64x128 (ix4 b h i d) = x (ix5 k b h i d) := by
  pointwise
  refine congrArg x ?_
  congr 1 <;> refine Fin.ext ?_ <;> simp only [clamped_zero k w hw, clamped_rest w _ 1 (by decide), clamped_rest w _ 2 (by decide),
    clamped_rest w _ 3 (by decide), clamped_rest w _ 4 (by decide), Nat.zero_add]

/-- What the output array holds after a trip has written its chunk. -/
theorem update_apply (x : S32x4x4x64x128.Idx → EReal) (u : S4x4x64x128.Idx → EReal) (k n : Fin 32) (w : S_.Idx → BitVec 32)
    (hw : w = fun _ => Scf.iv 0#32 1#32 k.val) (b h : Fin 4) (i : Fin 64) (d : Fin 128) :
    Host.dynamicUpdateSlice x (broadcastInDim S1x4x4x64x128 ![1, 2, 3, 4] bcast_S4x4x64x128_S1x4x4x64x128_1_2_3_4 u) (startAt w)
      sliceFits_S32x4x4x64x128_S1x4x4x64x128 (ix5 n b h i d) = if n = k then u (ix4 b h i d) else x (ix5 n b h i d) := by
  pointwise
  simp only [clamped_zero k w hw, clamped_rest w _ 1 (by decide), clamped_rest w _ 2 (by decide),
    clamped_rest w _ 3 (by decide), clamped_rest w _ 4 (by decide), Nat.sub_zero, Nat.zero_le, and_true]
  by_cases hn : n = k
  · subst hn
    rw [if_pos rfl, dif_pos ⟨le_rfl, by omega⟩]
  · rw [if_neg hn, dif_neg (fun hh => hn (Fin.ext (by omega)))]

variable (q k v : S4x4x64x128.Idx → EReal) (s : S4x4x128x128.Idx → EReal) (tw : S4x64x64.Idx → EReal) (tq tk : S4x64x1.Idx → EReal)
  (ts : S4x1x1.Idx → EReal)

/-- A trip's new state at an index: the old one times its factor, plus the chunk's outer products. -/
theorem state_step (b h : Fin 4) (d e : Fin 128) :
    addf (F := Ideal) (φ := .f32) (mulf (F := Ideal) (φ := .f32) s (broadcastInDim S4x4x128x128 ![0, 1, 2, 3] bcast_S1x4x1x1_S4x4x128x128_0_1_2_3 (broadcastInDim S1x4x1x1 ![1, 2, 3] bcast_S4x1x1_S1x4x1x1_1_2_3 ts)))
      (Host.dotGeneral dot_S4x4x64x128_S4x4x64x128_S4x4x128x128_2_2_3_3_01_01 (φ₁ := .f32) (φ₂ := .f32) none (mulf (F := Ideal) (φ := .f32) k (broadcastInDim S4x4x64x128 ![0, 1, 2, 3] bcast_S1x4x64x1_S4x4x64x128_0_1_2_3 (broadcastInDim S1x4x64x1 ![1, 2, 3] bcast_S4x64x1_S1x4x64x1_1_2_3 tk))) v) (ix4 b h d e)
      = s (ix4 b h d e) * ts (ix3 h 0 0) + ∑ i : Fin 64, k (ix4 b h i d) * tk (ix3 h i 0) * v (ix4 b h i e) := by
  pointwise

/-- A trip's output rows at an index. -/
theorem out_step (b h : Fin 4) (i : Fin 64) (e : Fin 128) :
    addf (F := Ideal) (φ := .f32) (Host.dotGeneral dot_S4x4x64x64_S4x4x64x128_S4x4x64x128_3_2_2_3_01_01 (φ₁ := .f32) (φ₂ := .f32) none (mulf (F := Ideal) (φ := .f32) (Host.dotGeneral dot_S4x4x64x128_S4x4x64x128_S4x4x64x64_3_3_2_2_01_01 (φ₁ := .f32) (φ₂ := .f32) none q k) (broadcastInDim S4x4x64x64 ![0, 1, 2, 3] bcast_S1x4x64x64_S4x4x64x64_0_1_2_3 (broadcastInDim S1x4x64x64 ![1, 2, 3] bcast_S4x64x64_S1x4x64x64_1_2_3 tw))) v) (Host.dotGeneral dot_S4x4x64x128_S4x4x128x128_S4x4x64x128_3_2_2_3_01_01 (φ₁ := .f32) (φ₂ := .f32) none (mulf (F := Ideal) (φ := .f32) q (broadcastInDim S4x4x64x128 ![0, 1, 2, 3] bcast_S1x4x64x1_S4x4x64x128_0_1_2_3 (broadcastInDim S1x4x64x1 ![1, 2, 3] bcast_S4x64x1_S1x4x64x1_1_2_3 tq))) s) (ix4 b h i e)
      = (∑ j : Fin 64, (∑ d : Fin 128, q (ix4 b h i d) * k (ix4 b h j d)) * tw (ix3 h i j) * v (ix4 b h j e))
        + ∑ d : Fin 128, q (ix4 b h i d) * tq (ix3 h i 0) * s (ix4 b h d e) := by
  pointwise

variable (m : (ℓ : Loc nD τ sig) → Buf (Elt Ideal) ℓ)

/-- The state before trip `k`. -/
abbrev stateK (c : Dev nD) (k : ℕ) : S4x4x128x128.Idx → EReal := atK m k c (Proc.devRef .tc main_v65_8)

/-- The output rows before trip `k`. -/
abbrev outK (c : Dev nD) (k : ℕ) : S32x4x4x64x128.Idx → EReal := atK m k c (Proc.devRef .tc main_v65_9)

/-- A trip's queries. -/
theorem trip_queries (c : Dev nD) (k : Fin 32) (b h : Fin 4) (i : Fin 64) (d : Fin 128) :
    (res_main_while0b_v88 (atK m k.val c) : S4x4x64x128.Idx → EReal) (ix4 b h i d) = rows (A0 m c) 0 b h (64 * k.val + i.val) d := by
  rw [← queries_eq m c k b h i d]
  refine (slice_apply _ k _ (atK_ctr m c k.val) b h i d).trans ?_
  rw [atK_keep m c main_v65_0 (by decide) (by decide) (by decide) (by decide) (by decide) (by decide) (by decide) k.val]

/-- A trip's keys. -/
theorem trip_keys (c : Dev nD) (k : Fin 32) (b h : Fin 4) (i : Fin 64) (d : Fin 128) :
    (res_main_while0b_v89 (atK m k.val c) : S4x4x64x128.Idx → EReal) (ix4 b h i d) = keys (A0 m c) b h (64 * k.val + i.val) d := by
  rw [← keys_eq m c k b h i d]
  refine (slice_apply _ k _ (atK_ctr m c k.val) b h i d).trans ?_
  rw [atK_keep m c main_v65_1 (by decide) (by decide) (by decide) (by decide) (by decide) (by decide) (by decide) k.val]

/-- A trip's values. -/
theorem trip_values (c : Dev nD) (k : Fin 32) (b h : Fin 4) (i : Fin 64) (d : Fin 128) :
    (res_main_while0b_v90 (atK m k.val c) : S4x4x64x128.Idx → EReal) (ix4 b h i d) = rows (A0 m c) 2 b h (64 * k.val + i.val) d := by
  rw [← values_eq m c k b h i d]
  refine (slice_apply _ k _ (atK_ctr m c k.val) b h i d).trans ?_
  rw [atK_keep m c main_v65_2 (by decide) (by decide) (by decide) (by decide) (by decide) (by decide) (by decide) k.val]

/-- A trip reads the factors inside a chunk. -/
theorem trip_within (c : Dev nD) (k : ℕ) (h : Fin 4) (i j : Fin 64) :
    (atK m k c (Proc.devRef .tc main_v65_3) : S4x64x64.Idx → EReal) (ix3 h i j) = within (decay h) i.val j.val :=
  (congrFun (atK_keep m c main_v65_3 (by decide) (by decide) (by decide) (by decide) (by decide) (by decide) (by decide) k) _).trans
    (within_eq m c h i j)

/-- A trip reads the factors of the queries. -/
theorem trip_query (c : Dev nD) (k : ℕ) (h : Fin 4) (i : Fin 64) :
    (atK m k c (Proc.devRef .tc main_v65_4) : S4x64x1.Idx → EReal) (ix3 h i 0) = (decay h (i.val + 1) : EReal) :=
  (congrFun (atK_keep m c main_v65_4 (by decide) (by decide) (by decide) (by decide) (by decide) (by decide) (by decide) k) _).trans
    (query_eq m c h i)

/-- A trip reads the factors of the state. -/
theorem trip_state (c : Dev nD) (k : ℕ) (h : Fin 4) :
    (atK m k c (Proc.devRef .tc main_v65_5) : S4x1x1.Idx → EReal) (ix3 h 0 0) = (decay h 64 : EReal) :=
  (congrFun (atK_keep m c main_v65_5 (by decide) (by decide) (by decide) (by decide) (by decide) (by decide) (by decide) k) _).trans
    (state_eq m c h)

/-- A trip reads the factors of the keys. -/
theorem trip_key (c : Dev nD) (k : ℕ) (h : Fin 4) (i : Fin 64) :
    (atK m k c (Proc.devRef .tc main_v65_6) : S4x64x1.Idx → EReal) (ix3 h i 0) = (decay h (64 - 1 - i.val) : EReal) :=
  (congrFun (atK_keep m c main_v65_6 (by decide) (by decide) (by decide) (by decide) (by decide) (by decide) (by decide) k) _).trans
    (key_eq m c h i)

/-- The state before trip `k` is the state after `k` chunks of 64 positions. -/
theorem stateK_eq (c : Dev nD) (b h : Fin 4) : ∀ (k : ℕ), k ≤ 32 → ∀ d e : Fin 128,
    stateK m c k (ix4 b h d e) = stateOf 64 (A0 m c) b h k d e
  | 0, _, d, e => begin_eq m c b h d e
  | k + 1, hk, d, e => by
    have ih := stateK_eq c b h k (by omega)
    have hstep : stateK m c (k + 1) = step_main_v65_8 (atK m k c) := (trip_agree (atK m k c)) main_v65_8 (by decide)
    rw [hstep]
    refine (state_step _ _ _ _ _ b h d e).trans ?_
    show _ = stateOf 64 (A0 m c) b h k d e * (decay h 64 : EReal) + ∑ s : Fin 64, keys (A0 m c) b h (64 * k + s) d * (decay h (64 - 1 - s) : EReal) * rows (A0 m c) 2 b h (64 * k + s) e
    refine congrArg₂ (· + ·) (congrArg₂ (· * ·) (ih d e) (trip_state m c k h)) (Finset.sum_congr rfl fun s _ => ?_)
    exact congrArg₂ (· * ·) (congrArg₂ (· * ·) (trip_keys m c ⟨k, by omega⟩ b h s d) (trip_key m c k h s))
      (trip_values m c ⟨k, by omega⟩ b h s e)

/-- Before trip `k` the output array holds the rows of the chunks before `k`. -/
theorem outK_eq (c : Dev nD) (b h : Fin 4) : ∀ (k : ℕ), k ≤ 32 → ∀ (n : Fin 32), n.val < k → ∀ (i : Fin 64) (e : Fin 128),
    outK m c k (ix5 n b h i e) = rowOut 64 (A0 m c) b h n.val i.val e
  | 0, _, n, hn, _, _ => absurd hn (by omega)
  | k + 1, hk, n, hn, i, e => by
    have hstep : outK m c (k + 1) = step_main_v65_9 (atK m k c) := (trip_agree (atK m k c)) main_v65_9 (by decide)
    rw [hstep]
    refine (update_apply _ _ ⟨k, by omega⟩ n _ (atK_ctr m c k) b h i e).trans ?_
    by_cases h' : n = ⟨k, by omega⟩
    · rw [if_pos h']
      rw [show n.val = k from congrArg Fin.val h']
      refine (out_step _ _ _ _ _ _ b h i e).trans ?_
      refine congrArg₂ (· + ·) (Finset.sum_congr rfl fun s _ => ?_) (Finset.sum_congr rfl fun d _ => ?_)
      · exact congrArg₂ (· * ·) (congrArg₂ (· * ·) (Finset.sum_congr rfl fun d _ =>
          congrArg₂ (· * ·) (trip_queries m c ⟨k, by omega⟩ b h i d) (trip_keys m c ⟨k, by omega⟩ b h s d)) (trip_within m c k h i s))
          (trip_values m c ⟨k, by omega⟩ b h s e)
      · exact congrArg₂ (· * ·) (congrArg₂ (· * ·) (trip_queries m c ⟨k, by omega⟩ b h i d) (trip_query m c k h i))
          (stateK_eq m c b h k (by omega) d e)
    · rw [if_neg h']
      exact outK_eq c b h k (by omega) n (by have : n.val ≠ k := fun hh => h' (Fin.ext hh); omega) i e

end Cert.ReferenceIdeal.Loop
-- ==== Proof.RetRefOut.lean ====
module

public import proofs.«01_k».proof.Proof.RetRefLoop
public import Idealize.ShloMosaic.Lib.Pointwise
public import Idealize.ShloMosaic.Lib.StableHlo.ReadAt

@[expose] public section

set_option maxRecDepth 16384
set_option maxHeartbeats 1000000

noncomputable section

open Idealize.ShloMosaic Idealize.ShloMosaic.StableHlo Idealize.SL.Sem

namespace Cert.ReferenceIdeal.Loop

open Cert.ReferenceIdeal Cert.ReferenceIdeal.Gen Cert.ReferenceIdeal.Value Cert.Layer.Ret

/-- The first result, after the stretches that follow the loop. -/
abbrev outAfter (X : Valuation τ sig (Elt Ideal)) : S8192x512.Idx → EReal := afterL postI X (Proc.devRef .tc main_v87)

/-- The loop's output rows in contents `X`. -/
abbrev rowsIn (X : Valuation τ sig (Elt Ideal)) : S32x4x4x64x128.Idx → EReal := X (Proc.devRef .tc main_v65_9)

/-- The gain in contents `X`. -/
abbrev gainIn (X : Valuation τ sig (Elt Ideal)) : S1x512.Idx → EReal := X (Proc.devRef .tc main_arg1)

/-- The input by prompt, position, block, head and column in contents `X`. -/
abbrev inputIn (X : Valuation τ sig (Elt Ideal)) : S4x2048x4x4x128.Idx → EReal := X (Proc.devRef .tc main_v1)

/-- The prompt of a row of the first result. -/
def promptOf (r : Fin 8192) : Fin 4 := ⟨r.val / 2048, by omega⟩

/-- The head of a column of the first result. -/
def headOf (j : Fin 512) : Fin 4 := ⟨j.val / 128, by omega⟩

/-- The place inside the head of a column of the first result. -/
def laneOf (j : Fin 512) : Fin 128 := ⟨j.val % 128, by omega⟩

/-- The first result at an index: the loop's row, normalised, times the gain and the gate. -/
theorem post_out (X : Valuation τ sig (Elt Ideal)) (r : Fin 8192) (j : Fin 512) :
    outAfter X (ix2 r j) = shaped
      (fun e => rowsIn X (ix5 ⟨r.val % 2048 / 64, by omega⟩ (promptOf r) (headOf j) ⟨r.val % 2048 % 64, by omega⟩ e))
      (gainIn X (ix2 0 (headCol (headOf j) (laneOf j))))
      (inputIn X (ix5 (promptOf r) ⟨r.val % 2048, by omega⟩ 3 (headOf j) (laneOf j))) (laneOf j) := by
  have hc : headCol (headOf j) (laneOf j) = ⟨j.val / 128 * 128 + j.val % 128, by omega⟩ :=
    Fin.ext (by simp only [headCol, headOf, laneOf]; omega)
  rw [hc]
  unfold outAfter
  simp only [afterL_cons, afterL_nil]
  after_reads_at
  rfl

/-- The stretches after the loop leave the state as it was. -/
theorem post_state (X : Valuation τ sig (Elt Ideal)) : afterL postI X (Proc.devRef .tc main_v65_8) = X (Proc.devRef .tc main_v65_8) := by
  simp only [afterL_cons, afterL_nil]
  after_reads_simp

variable (m : (ℓ : Loc nD τ sig) → Buf (Elt Ideal) ℓ)

/-- What the reference's first result holds at the end. -/
abbrev outF (c : Dev nD) : S8192x512.Idx → EReal := finalContents condOps preI bodyI postI 32 m c (Proc.devRef .tc main_v87)

/-- What the reference's second result holds at the end. -/
abbrev stateF (c : Dev nD) : S4x4x128x128.Idx → EReal := finalContents condOps preI bodyI postI 32 m c (Proc.devRef .tc main_v65_8)

/-- The reference's first result, from its arguments. -/
theorem outF_eq (c : Dev nD) (r : Fin 8192) (j : Fin 512) :
    outF m c (ix2 r j) = outOf 64 (A0 m c) (A1 m c) (promptOf r) (headOf j) (r.val % 2048 / 64) (r.val % 2048 % 64) (laneOf j) := by
  refine (post_out _ r j).trans (shaped_congr (fun e => ?_) ?_ ?_ _)
  · refine Eq.trans ?_ (outK_eq m c (promptOf r) (headOf j) 32 le_rfl ⟨r.val % 2048 / 64, by omega⟩ (by show r.val % 2048 / 64 < 32; omega)
      ⟨r.val % 2048 % 64, by omega⟩ e)
    exact congrFun (after_of_writes_sub condOps _ condOps_writes (by decide)) _
  · refine congrFun ?_ _
    exact ((after_of_writes_sub condOps _ condOps_writes (by decide)).trans
      (atK_keep m c main_arg1 (by decide) (by decide) (by decide) (by decide) (by decide) (by decide) (by decide) 32)).trans
      (entry_keep m c main_arg1 (by decide) (by decide) (by decide))
  · refine Eq.trans (congrFun ((after_of_writes_sub condOps _ condOps_writes (by decide)).trans
      (atK_keep m c main_v1 (by decide) (by decide) (by decide) (by decide) (by decide) (by decide) (by decide) 32)) _) ?_
    refine (input_eq m c (promptOf r) ⟨r.val % 2048, by omega⟩ 3 (headOf j) (laneOf j)).trans ?_
    rw [show 64 * (r.val % 2048 / 64) + r.val % 2048 % 64 = r.val % 2048 from by omega]

/-- The reference's second result, from its arguments. -/
theorem stateF_eq (c : Dev nD) (b h : Fin 4) (d e : Fin 128) : stateF m c (ix4 b h d e) = stateOf 64 (A0 m c) b h 32 d e := by
  refine Eq.trans (congrFun ((post_state _).trans (after_of_writes_sub condOps _ condOps_writes (by decide))) _) ?_
  exact stateK_eq m c b h 32 le_rfl d e

end Cert.ReferenceIdeal.Loop
-- ==== Proof.RetClaim.lean ====
module

public import proofs.«01_k».proof.Proof.RetReal
public import proofs.«01_k».proof.Proof.RetKernel
public import proofs.«01_k».proof.Proof.RetRefOut

@[expose] public section

set_option maxRecDepth 16384

noncomputable section

open Idealize.ShloMosaic Idealize.SL.Sem

namespace Cert.Layer.Ret

/-! Chunks of 128 positions and chunks of 64 give the same arrays, when the queries, keys and values are real numbers. -/

/-- Rows whose columns lie below 1536 are rows of real numbers. -/
theorem rows_real (A : Arr 8192 10368) (hA : ∀ (r : Fin 8192) (j : Fin 10368), j.val < 1536 → ∃ x : ℝ, A (ix2 r j) = (x : EReal))
    (w b h : Fin 4) (hw : w.val < 3) : ∃ f : ℕ → Fin 128 → ℝ, rows A w b h = fun n d => (f n d : EReal) := by
  have hx : ∀ n d, ∃ x : ℝ, rows A w b h n d = (x : EReal) := by
    intro n d
    by_cases hn : n < 2048
    · rw [rows_eq A w b h hn d]
      exact hA _ _ (by show 512 * w.val + (128 * h.val + d.val) < 1536; omega)
    · exact ⟨0, by rw [EReal.coe_zero]; exact dif_neg hn⟩
  choose f hf using hx
  exact ⟨f, funext fun n => funext fun d => hf n d⟩

/-- The scaled keys are real numbers too. -/
theorem keys_real (A : Arr 8192 10368) (hA : ∀ (r : Fin 8192) (j : Fin 10368), j.val < 1536 → ∃ x : ℝ, A (ix2 r j) = (x : EReal))
    (b h : Fin 4) : ∃ f : ℕ → Fin 128 → ℝ, keys A b h = fun n d => (f n d : EReal) := by
  obtain ⟨f, hf⟩ := rows_real A hA 1 b h (by decide)
  obtain ⟨s, hs⟩ := keyScale_real
  refine ⟨fun n d => f n d * s, ?_⟩
  unfold keys
  rw [hf, hs]
  exact funext fun n => funext fun d => (EReal.coe_mul _ _).symm

variable (A : Arr 8192 10368) (hA : ∀ (r : Fin 8192) (j : Fin 10368), j.val < 1536 → ∃ x : ℝ, A (ix2 r j) = (x : EReal))
include hA

/-- The state at the prompt's end does not depend on the chunk length. -/
theorem stateOf_regroup (b h : Fin 4) (d e : Fin 128) : stateOf 64 A b h 32 d e = stateOf 128 A b h 16 d e := by
  obtain ⟨k, hk⟩ := keys_real A hA b h
  obtain ⟨v, hv⟩ := rows_real A hA 2 b h (by decide)
  unfold stateOf
  rw [hk, hv]
  exact stateAt_regroup (decay_add h) (by norm_num) (by norm_num) k v (by norm_num) d e

/-- A row of the output before it is normalised does not depend on the chunk length. -/
theorem rowOut_regroup (b h : Fin 4) {n i n' i' : ℕ} (hi : i < 64) (hi' : i' < 128) (hn : 64 * n + i = 128 * n' + i') (e : Fin 128) :
    rowOut 64 A b h n i e = rowOut 128 A b h n' i' e := by
  obtain ⟨q, hq⟩ := rows_real A hA 0 b h (by decide)
  obtain ⟨k, hk⟩ := keys_real A hA b h
  obtain ⟨v, hv⟩ := rows_real A hA 2 b h (by decide)
  unfold rowOut
  rw [hq, hk, hv]
  exact outAt_regroup (decay_add h) q k v (⟨i, hi⟩ : Fin 64) (⟨i', hi'⟩ : Fin 128) hn e

/-- The output does not depend on the chunk length. -/
theorem outOf_regroup (G : Arr 1 512) (b h : Fin 4) {n i n' i' : ℕ} (hi : i < 64) (hi' : i' < 128) (hn : 64 * n + i = 128 * n' + i')
    (e : Fin 128) : outOf 64 A G b h n i e = outOf 128 A G b h n' i' e :=
  shaped_congr (fun e => rowOut_regroup A hA b h hi hi' hn e) rfl (by rw [hn]) e

omit hA

/-- The kernel's first result, over chunks of 128 positions. -/
theorem kernel_out (m : (ℓ : Loc Cert.KernelIdeal.nD Cert.KernelIdeal.τ Cert.KernelIdeal.sig) → Buf (Elt Ideal) ℓ)
    (c : Dev Cert.KernelIdeal.nD) (r : Fin 8192) (j : Fin 512) :
    (Cert.KernelIdeal.Gen.dats m 0 c).arrAt 9 Cert.KernelIdeal.cfg0.N (ix2 r j)
      = outOf 128 (Cert.KernelIdeal.Feed.A0 m c) (Cert.KernelIdeal.Feed.A1 m c) (Cert.ReferenceIdeal.Loop.promptOf r)
        (Cert.ReferenceIdeal.Loop.headOf j) (r.val % 2048 / 128) (r.val % 2048 % 128) (Cert.ReferenceIdeal.Loop.laneOf j) := by
  have hN : Cert.KernelIdeal.cfg0.N = 4 := Cert.KernelIdeal.Gen.N_0
  have e := Cert.KernelIdeal.Feed.final_out m c ⟨r.val / 2048, by omega⟩ ⟨r.val % 2048, by omega⟩ j
  have hr : Cert.KernelIdeal.Feed.rowOf ⟨r.val / 2048, by omega⟩ ⟨r.val % 2048, by omega⟩ = r :=
    Fin.ext (by show 2048 * (r.val / 2048) + r.val % 2048 = r.val; omega)
  rw [hr] at e
  exact e

/-- The kernel's second result, over chunks of 128 positions. -/
theorem kernel_state (m : (ℓ : Loc Cert.KernelIdeal.nD Cert.KernelIdeal.τ Cert.KernelIdeal.sig) → Buf (Elt Ideal) ℓ)
    (c : Dev Cert.KernelIdeal.nD) (b h : Fin 4) (d e : Fin 128) :
    (Cert.KernelIdeal.Gen.dats m 0 c).arrAt 10 Cert.KernelIdeal.cfg0.N (ix4 b h d e)
      = stateOf 128 (Cert.KernelIdeal.Feed.A0 m c) b h 16 d e := by
  have hN : Cert.KernelIdeal.cfg0.N = 4 := Cert.KernelIdeal.Gen.N_0
  exact Cert.KernelIdeal.Feed.final_state m c ⟨b.val, by omega⟩ h d e

/-- The retention call and its reference leave the same output and the same states. -/
theorem algebraic : @Cert.algebraic_KernelIdeal_ReferenceIdeal_pre_finite_qkv Cert.KernelIdeal.Gen.facts Cert.ReferenceIdeal.Gen.facts
    Cert.Pre_finite_qkv.Gen.facts := by
  intro m g m' g' hpre hagree
  refine ⟨_, _, Cert.KernelIdeal.Value.run_blocks m g, ?_⟩
  refine (θ_run _ _ _).mono (fun r hr c => ?_) (Cert.ReferenceIdeal.Value.run_fold m' g')
  obtain ⟨a0, a1⟩ := hagree c
  have hA : ∀ (r : Fin 8192) (j : Fin 10368), j.val < 1536 → ∃ x : ℝ, Cert.KernelIdeal.Feed.A0 m c (ix2 r j) = (x : EReal) :=
    fun r j hj => real_of_finite _ _ (hpre c) r j hj
  refine ⟨(hr c Cert.ReferenceIdeal.main_v87 rfl).trans (funext fun i => ?_),
    (hr c Cert.ReferenceIdeal.main_v65_8 rfl).trans (funext fun i => ?_),
    (hr c Cert.ReferenceIdeal.main_arg0 rfl).trans (final_arg0 m' c), (hr c Cert.ReferenceIdeal.main_arg1 rfl).trans (final_arg1 m' c)⟩
  · rw [eq_ix2 i, kernel_out m c (i 0) (i 1)]
    refine (Cert.ReferenceIdeal.Loop.outF_eq m' c (i 0) (i 1)).trans ?_
    have h0 : (i 0).val < 8192 := (i 0).isLt
    rw [show Cert.ReferenceIdeal.Loop.A0 m' c = Cert.KernelIdeal.Feed.A0 m c from a0,
      show Cert.ReferenceIdeal.Loop.A1 m' c = Cert.KernelIdeal.Feed.A1 m c from a1]
    exact outOf_regroup _ hA _ _ _ (by omega) (by omega) (by omega) _
  · rw [eq_ix4 i, kernel_state m c (i 0) (i 1) (i 2) (i 3)]
    refine (Cert.ReferenceIdeal.Loop.stateF_eq m' c (i 0) (i 1) (i 2) (i 3)).trans ?_
    rw [show Cert.ReferenceIdeal.Loop.A0 m' c = Cert.KernelIdeal.Feed.A0 m c from a0]
    exact stateOf_regroup _ hA _ _ _ _

end Cert.Layer.Ret
-- ==== Proof.KvSpec.lean ====
module

public import proofs.«01_k».proof.Proof.RetSpec
public import Idealize.ShloMosaic.Lib.Pointwise

@[expose] public section

noncomputable section

open Idealize.ShloMosaic Idealize.ShloMosaic.TcCoe

namespace Cert.Layer.Rows

open Cert.Layer.Ret

/-! The projections of the keys and values and of the window keys and values of the first layer: products with a stretch of
the weights' rows, in slots of two heads of 128 columns; one slot's heads are normalised by their mean square and multiplied by
a gain. -/

/-- The weights, as an array over the extended reals. -/
abbrev Wts : Type := (⟨3, ![4, 12824, 2048]⟩ : Shape).Idx → EReal
/-- The gains, as an array over the extended reals. -/
abbrev Gains : Type := (⟨3, ![4, 4, 128]⟩ : Shape).Idx → EReal

/-- The weights' row for column `e` of head `s` of the keys and values. -/
def kvRow (s : Fin 8) (e : Fin 128) : Fin 12824 := ⟨1024 + (128 * s.val + e.val), by omega⟩

/-- The weights' row for column `e` of head `s` of the window keys and values. -/
def winRow (s : Fin 4) (e : Fin 128) : Fin 12824 := ⟨2048 + (128 * s.val + e.val), by omega⟩

/-- The product of a row of the input with a row of the weights. -/
def prodAt {M : ℕ} (u : Arr M 2048) (w : Wts) (r : Fin M) (x : Fin 12824) : EReal := ∑ k : Fin 2048, u (ix2 r k) * w (ix3 0 x k)

/-- The keys and values at a row and a column of a head: the heads of the third slot are normalised. -/
def kvAt {M : ℕ} (u : Arr M 2048) (w : Wts) (g : Gains) (r : Fin M) (s : Fin 8) (e : Fin 128) : EReal :=
  if s.val / 2 = 2 then prodAt u w r (kvRow s e) * scale128 (fun x => prodAt u w r (kvRow s x)) * g (ix3 0 1 e)
  else prodAt u w r (kvRow s e)

/-- The window keys and values at a row and a column of a head: the heads of the first slot are normalised. -/
def winAt {M : ℕ} (u : Arr M 2048) (w : Wts) (g : Gains) (r : Fin M) (s : Fin 4) (e : Fin 128) : EReal :=
  if s.val / 2 = 0 then prodAt u w r (winRow s e) * scale128 (fun x => prodAt u w r (winRow s x)) * g (ix3 0 2 e)
  else prodAt u w r (winRow s e)

/-- The window buffers of the samples, as an array over the extended reals. -/
abbrev Bufs : Type := (⟨6, ![4, 8, 512, 2, 2, 128]⟩ : Shape).Idx → EReal

/-- A sample's window buffer after its eight positions: the first layer's buffer moved up by eight positions, then the new ones. -/
def bufAt (u : Arr 64 2048) (w : Wts) (g : Gains) (b : Bufs) (n : Fin 8) (t : Fin 512) (j h : Fin 2) (e : Fin 128) : EReal :=
  if hb : t.val + 8 < 512 then b (ix6 0 n ⟨t.val + 8, hb⟩ j h e)
  else winAt u w g ⟨8 * n.val + (t.val - 504), by omega⟩ ⟨2 * j.val + h.val, by omega⟩ e

/-- A flag's threshold lies below one. -/
theorem half_lt_one : Ideal.ofBits .f32 1056964608#32 < 1 := by
  have e : Ideal.ofBits .f32 1056964608#32 = (((1 : ℝ) / 2 : ℝ) : EReal) := by
    simp [Ideal.ofBits, Ideal.ieee, -EReal.coe_mul]
    norm_num
  rw [e, ← EReal.coe_one]
  exact EReal.coe_lt_coe_iff.mpr (by norm_num)

/-- A flag's threshold does not lie below zero. -/
theorem half_not_lt_zero : ¬ Ideal.ofBits .f32 1056964608#32 < 0 := by
  have e : Ideal.ofBits .f32 1056964608#32 = (((1 : ℝ) / 2 : ℝ) : EReal) := by
    simp [Ideal.ofBits, Ideal.ieee, -EReal.coe_mul]
    norm_num
  rw [e, ← EReal.coe_zero]
  exact fun h => absurd (EReal.coe_lt_coe_iff.mp h) (by norm_num)

end Cert.Layer.Rows
-- ==== Proof.WinSampleIdealSteps.lean ====
module

public import proofs.«01_k».proof.Proof.Gen.WinSampleIdeal.Frame
public import proofs.«01_k».proof.Proof.Gen.WinSampleIdeal.Skeleton
public import Idealize.ShloMosaic.Lib.Claim

@[expose] public section

set_option maxRecDepth 16384

noncomputable section

namespace Cert.WinSampleIdeal.Rows

open Cert.WinSampleIdeal Cert.WinSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! The frame of the projection of the window keys and values of the sample batch. One step of the call stores 4 blocks of 128 columns side by
side in its first result block, and the same 4 blocks in its second one, block `k` in the rows `4 r + k`. -/

set_option maxHeartbeats 1000000 in
/-- The stores of one step into its two result blocks, found by running the body from blocks holding `u`, `w`, `g` and `f`; these
    are left as they were. -/
def step (c : Dev nD) (i : grid0.Coords) (a0 : Memref sig .tc .vmem S64x2048 .bf16) (h0 : a0.IsWhole) (a1 : Memref sig .tc .vmem S1x512x2048 .bf16) (h1 : a1.IsWhole) (a2 : Memref sig .tc .vmem S1x512 .f32) (h2 : a2.IsWhole) (a3 : Memref sig .tc .vmem S1x512 .f32) (h3 : a3.IsWhole) (a4 : Memref sig .tc .vmem S64x512 .f32) (h4 : a4.IsWhole) (a5 : Memref sig .tc .vmem S1x256x128 .f32) (h5 : a5.IsWhole)
    (u : Vec F S64x2048 .bf16) (w : Vec F S1x512x2048 .bf16) (g : Vec F S1x512 .f32) (f : Vec F S1x512 .f32) :
    { L : List (View.Piece (Elt F) S64x512 .f32) × List (View.Piece (Elt F) S1x256x128 .f32) //
      ∀ (E : Set ℕ) (K : PUnit → sProp 𝕄),
        iprop(owns (c : Thread nD τ) a0 fullShare u ∗ owns (c : Thread nD τ) a1 fullShare w ∗ owns (c : Thread nD τ) a2 fullShare g ∗ owns (c : Thread nD τ) a3 fullShare f
            ∗ (∃ d, owns (c : Thread nD τ) a4 fullShare d) ∗ (∃ d, owns (c : Thread nD τ) a5 fullShare d)
            ∗ (iprop(owns (c : Thread nD τ) a0 fullShare u ∗ owns (c : Thread nD τ) a1 fullShare w ∗ owns (c : Thread nD τ) a2 fullShare g ∗ owns (c : Thread nD τ) a3 fullShare f
                ∗ (∃ b, a4.view.loc (c : Thread nD τ) ↦[a4.view.set]{fullShare} a4.view.writes (Elt F) b L.1)
                ∗ (∃ b, a5.view.loc (c : Thread nD τ) ↦[a5.view.set]{fullShare} a5.view.writes (Elt F) b L.2)) -∗ K ⟨⟩))
          ⊢ wp frame (wpE (defs₀ (F := F)) Variants.none c none) E (cc0_proj_win i a0 h0 a1 h1 a2 h2 a3 h3 a4 h4 a5 h5) K } := by
  refine ⟨(?_, ?_), fun E K => ?body⟩
  case body =>
    simp only [cc0_proj_win_eq_skeleton]
    unfold cc0_proj_win_skel
    simp only [k0_part1_eq_skeleton, k0_part2_eq_skeleton]
    unfold owns
    iintro ⟨⟨%b0, %e0, H0⟩, ⟨%b1, %e1, H1⟩, ⟨%b2, %e2, H2⟩, ⟨%b3, %e3, H3⟩, ⟨%d4, %b4, -, H4⟩, ⟨%d5, %b5, -, H5⟩, Hk⟩
    obtain rfl := h0.eq_unread e0
    obtain rfl := h1.eq_unread e1
    obtain rfl := h2.eq_unread e2
    obtain rfl := h3.eq_unread e3
    sl_exec
    sl_step
    iapply Hk
    isplitl [H0]
    · iexists _
      isplitr
      · ipureintro; exact h0.read_unread _
      iexact H0
    isplitl [H1]
    · iexists _
      isplitr
      · ipureintro; exact h1.read_unread _
      iexact H1
    isplitl [H2]
    · iexists _
      isplitr
      · ipureintro; exact h2.read_unread _
      iexact H2
    isplitl [H3]
    · iexists _
      isplitr
      · ipureintro; exact h3.read_unread _
      iexact H3
    isplitl [H4]
    · iexists _
      iexact H4
    iexists _
    iexact H5

/-- Every element of the first result block is stored. -/
theorem covers (c : Dev nD) (i : grid0.Coords) (a0 : Memref sig .tc .vmem S64x2048 .bf16) (h0 : a0.IsWhole) (a1 : Memref sig .tc .vmem S1x512x2048 .bf16) (h1 : a1.IsWhole) (a2 : Memref sig .tc .vmem S1x512 .f32) (h2 : a2.IsWhole) (a3 : Memref sig .tc .vmem S1x512 .f32) (h3 : a3.IsWhole) (a4 : Memref sig .tc .vmem S64x512 .f32) (h4 : a4.IsWhole) (a5 : Memref sig .tc .vmem S1x256x128 .f32) (h5 : a5.IsWhole)
    (u : Vec F S64x2048 .bf16) (w : Vec F S1x512x2048 .bf16) (g : Vec F S1x512 .f32) (f : Vec F S1x512 .f32) (y : S64x512.Idx) :
    ∃ p ∈ (step c i a0 h0 a1 h1 a2 h2 a3 h3 a4 h4 a5 h5 u w g f).1.1, y ∈ p.1.set :=
  View.cover_of_tiledL (step c i a0 h0 a1 h1 a2 h2 a3 h3 a4 h4 a5 h5 u w g f).1.1 S64x128.size (by sl_kernel_rfl) y

/-- An element of the second result block lies in the rows that leave its row's remainder by 4. -/
theorem mem_rows (k : ℕ) (off : Fin 3 → ℕ) (h0 : off 0 = 0) (h1 : off 1 = k) (h2 : off 2 = 0)
    (inb : ∀ a, S1x64x128.size a = 0 ∨ off a + (![1, 4, 1] : Fin 3 → ℕ) a * (S1x64x128.size a - 1) < S1x256x128.size a)
    (pos : ∀ a, 0 < (![1, 4, 1] : Fin 3 → ℕ) a) (y : S1x256x128.Idx) (hy : (y 1).val % 4 = k) :
    y ∈ (⟨⟨off, S1x64x128.size, ![1, 4, 1], inb⟩, pos⟩ : Rect S1x256x128).set := by
  rw [LoadRect.mem_set]
  intro a
  match a with
  | ⟨0, _⟩ =>
    have l : (y 0).val < 1 := (y 0).isLt
    exact ⟨0, Nat.one_pos, show (y 0).val = off 0 + 1 * 0 by omega⟩
  | ⟨1, _⟩ =>
    have l : (y 1).val < 256 := (y 1).isLt
    exact ⟨(y 1).val / 4, show (y 1).val / 4 < 64 by omega, show (y 1).val = off 1 + 4 * ((y 1).val / 4) by omega⟩
  | ⟨2, _⟩ => exact ⟨(y 2).val, (y 2).isLt, show (y 2).val = off 2 + 1 * (y 2).val by omega⟩

/-- Every element of the second result block is stored. -/
theorem covers_rows (c : Dev nD) (i : grid0.Coords) (a0 : Memref sig .tc .vmem S64x2048 .bf16) (h0 : a0.IsWhole) (a1 : Memref sig .tc .vmem S1x512x2048 .bf16) (h1 : a1.IsWhole) (a2 : Memref sig .tc .vmem S1x512 .f32) (h2 : a2.IsWhole) (a3 : Memref sig .tc .vmem S1x512 .f32) (h3 : a3.IsWhole) (a4 : Memref sig .tc .vmem S64x512 .f32) (h4 : a4.IsWhole) (a5 : Memref sig .tc .vmem S1x256x128 .f32) (h5 : a5.IsWhole)
    (u : Vec F S64x2048 .bf16) (w : Vec F S1x512x2048 .bf16) (g : Vec F S1x512 .f32) (f : Vec F S1x512 .f32) (y : S1x256x128.Idx) :
    ∃ p ∈ (step c i a0 h0 a1 h1 a2 h2 a3 h3 a4 h4 a5 h5 u w g f).1.2, y ∈ p.1.set := by
  unfold step
  dsimp only
  sl_unfold_run_names
  have hk : (y 1).val % 4 = 0 ∨ (y 1).val % 4 = 1 ∨ (y 1).val % 4 = 2 ∨ (y 1).val % 4 = 3 := by omega
  rcases hk with hk | hk | hk | hk
  · exact ⟨_, (List.mem_cons_of_mem _ (List.mem_cons_of_mem _ (List.mem_cons_of_mem _ List.mem_cons_self))), mem_rows 0 _ rfl rfl rfl _ _ y hk⟩
  · exact ⟨_, (List.mem_cons_of_mem _ (List.mem_cons_of_mem _ List.mem_cons_self)), mem_rows 1 _ rfl rfl rfl _ _ y hk⟩
  · exact ⟨_, (List.mem_cons_of_mem _ List.mem_cons_self), mem_rows 2 _ rfl rfl rfl _ _ y hk⟩
  · exact ⟨_, List.mem_cons_self, mem_rows 3 _ rfl rfl rfl _ _ y hk⟩

/-- What a step leaves in the first result block. -/
def cols (c : Dev nD) (i : grid0.Coords) (a0 : Memref sig .tc .vmem S64x2048 .bf16) (h0 : a0.IsWhole) (a1 : Memref sig .tc .vmem S1x512x2048 .bf16) (h1 : a1.IsWhole) (a2 : Memref sig .tc .vmem S1x512 .f32) (h2 : a2.IsWhole) (a3 : Memref sig .tc .vmem S1x512 .f32) (h3 : a3.IsWhole) (a4 : Memref sig .tc .vmem S64x512 .f32) (h4 : a4.IsWhole) (a5 : Memref sig .tc .vmem S1x256x128 .f32) (h5 : a5.IsWhole)
    (u : Vec F S64x2048 .bf16) (w : Vec F S1x512x2048 .bf16) (g : Vec F S1x512 .f32) (f : Vec F S1x512 .f32) : Vec F S64x512 .f32 :=
  View.canon (step c i a0 h0 a1 h1 a2 h2 a3 h3 a4 h4 a5 h5 u w g f).1.1

/-- What a step leaves in the second result block. -/
def rows (c : Dev nD) (i : grid0.Coords) (a0 : Memref sig .tc .vmem S64x2048 .bf16) (h0 : a0.IsWhole) (a1 : Memref sig .tc .vmem S1x512x2048 .bf16) (h1 : a1.IsWhole) (a2 : Memref sig .tc .vmem S1x512 .f32) (h2 : a2.IsWhole) (a3 : Memref sig .tc .vmem S1x512 .f32) (h3 : a3.IsWhole) (a4 : Memref sig .tc .vmem S64x512 .f32) (h4 : a4.IsWhole) (a5 : Memref sig .tc .vmem S1x256x128 .f32) (h5 : a5.IsWhole)
    (u : Vec F S64x2048 .bf16) (w : Vec F S1x512x2048 .bf16) (g : Vec F S1x512 .f32) (f : Vec F S1x512 .f32) : Vec F S1x256x128 .f32 :=
  View.canon (step c i a0 h0 a1 h1 a2 h2 a3 h3 a4 h4 a5 h5 u w g f).1.2

variable (m : (ℓ : Loc nD τ sig) → Buf (Elt F) ℓ) (ρ : Dev nD → PrngReg)

/-- The buffer of window 0 at a point. -/
abbrev B0 (t : Fin cfg0.N) : Memref sig .tc .vmem S64x2048 .bf16 := win0_0.stage (cfg0.slots t 0)
/-- It is a whole buffer. -/
abbrev hB0 (t : Fin cfg0.N) : (B0 t).IsWhole := hstage0_0 ((cfg0.slots t 0).cast nbuf0_0)
/-- The buffer of window 1 at a point. -/
abbrev B1 (t : Fin cfg0.N) : Memref sig .tc .vmem S1x512x2048 .bf16 := win0_1.stage (cfg0.slots t 1)
/-- It is a whole buffer. -/
abbrev hB1 (t : Fin cfg0.N) : (B1 t).IsWhole := hstage0_1 ((cfg0.slots t 1).cast nbuf0_1)
/-- The buffer of window 2 at a point. -/
abbrev B2 (t : Fin cfg0.N) : Memref sig .tc .vmem S1x512 .f32 := win0_2.stage (cfg0.slots t 2)
/-- It is a whole buffer. -/
abbrev hB2 (t : Fin cfg0.N) : (B2 t).IsWhole := hstage0_2 ((cfg0.slots t 2).cast nbuf0_2)
/-- The buffer of window 3 at a point. -/
abbrev B3 (t : Fin cfg0.N) : Memref sig .tc .vmem S1x512 .f32 := win0_3.stage (cfg0.slots t 3)
/-- It is a whole buffer. -/
abbrev hB3 (t : Fin cfg0.N) : (B3 t).IsWhole := hstage0_3 ((cfg0.slots t 3).cast nbuf0_3)
/-- The buffer of window 4 at a point. -/
abbrev B4 (t : Fin cfg0.N) : Memref sig .tc .vmem S64x512 .f32 := win0_4.stage (cfg0.slots t 4)
/-- It is a whole buffer. -/
abbrev hB4 (t : Fin cfg0.N) : (B4 t).IsWhole := hstage0_4 ((cfg0.slots t 4).cast nbuf0_4)
/-- The buffer of window 5 at a point. -/
abbrev B5 (t : Fin cfg0.N) : Memref sig .tc .vmem S1x256x128 .f32 := win0_5.stage (cfg0.slots t 5)
/-- It is a whole buffer. -/
abbrev hB5 (t : Fin cfg0.N) : (B5 t).IsWhole := hstage0_5 ((cfg0.slots t 5).cast nbuf0_5)

/-- What point `t` leaves in the first result block. -/
def colsAt (c : Dev nD) (t : Fin cfg0.N) : Vec F S64x512 .f32 :=
  cols c (grid0.coords t) (B0 t) (hB0 t) (B1 t) (hB1 t) (B2 t) (hB2 t) (B3 t) (hB3 t) (B4 t) (hB4 t) (B5 t) (hB5 t)
    (iblk m c 0 t) (X0_1 m c t) (iblk m c 2 t) (iblk m c 3 t)

/-- What point `t` leaves in the second result block. -/
def rowsAt (c : Dev nD) (t : Fin cfg0.N) : Vec F S1x256x128 .f32 :=
  rows c (grid0.coords t) (B0 t) (hB0 t) (B1 t) (hB1 t) (B2 t) (hB2 t) (B3 t) (hB3 t) (B4 t) (hB4 t) (B5 t) (hB5 t)
    (iblk m c 0 t) (X0_1 m c t) (iblk m c 2 t) (iblk m c 3 t)

/-- The proof data: the arrays as the call finds them; after a point the operands' blocks as fetched, the result blocks as
    its stores leave them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => colsAt m c t
    | ⟨5, _⟩ => rowsAt m c t
  Φ _ := Pipeline.ΦA spec0 c
  q _ := fullShare
  owed _ := 0

/-- The arrays before the call. -/
theorem entry_eq (c : Dev nD) (w : Fin cfg0.W) : (dats m 0 c).A w = V m c (Pipeline.arrRef spec0 w) := by dsimp only [dats]
/-- Window 0's block after a point. -/
theorem left0 (c : Dev nD) (t : Fin cfg0.N) : (dats m 0 c).after 0 t = iblk m c 0 t := by dsimp only [dats]
/-- Window 1's block after a point. -/
theorem left1 (c : Dev nD) (t : Fin cfg0.N) : (dats m 0 c).after 1 t = X0_1 m c t := by dsimp only [dats]
/-- Window 2's block after a point. -/
theorem left2 (c : Dev nD) (t : Fin cfg0.N) : (dats m 0 c).after 2 t = iblk m c 2 t := by dsimp only [dats]
/-- Window 3's block after a point. -/
theorem left3 (c : Dev nD) (t : Fin cfg0.N) : (dats m 0 c).after 3 t = iblk m c 3 t := by dsimp only [dats]
/-- Window 4's block after a point. -/
theorem left4 (c : Dev nD) (t : Fin cfg0.N) : (dats m 0 c).after 4 t = colsAt m c t := by dsimp only [dats]
/-- Window 5's block after a point. -/
theorem left5 (c : Dev nD) (t : Fin cfg0.N) : (dats m 0 c).after 5 t = rowsAt m c t := by dsimp only [dats]
/-- Window 0's block before a point. -/
theorem held0 (c : Dev nD) (t : Fin cfg0.N) (d) : (dats m 0 c).before 0 t d = iblk m c 0 t :=
  before0_0_of m (dats m 0 c) (entry_eq m c 0) (left0 m c) t d
/-- Window 1's block before a point. -/
theorem held1 (c : Dev nD) (t : Fin cfg0.N) (d) : (dats m 0 c).before 1 t d = X0_1 m c t :=
  before0_1_of m (dats m 0 c) (entry_eq m c 1) (left1 m c) t d
/-- Window 2's block before a point. -/
theorem held2 (c : Dev nD) (t : Fin cfg0.N) (d) : (dats m 0 c).before 2 t d = iblk m c 2 t :=
  before0_2_of m (dats m 0 c) (entry_eq m c 2) (left2 m c) t d
/-- Window 3's block before a point. -/
theorem held3 (c : Dev nD) (t : Fin cfg0.N) (d) : (dats m 0 c).before 3 t d = iblk m c 3 t :=
  before0_3_of m (dats m 0 c) (entry_eq m c 3) (left3 m c) t d

/-- What a point's body starts from. -/
def given (c : Dev nD) (t : Fin cfg0.N) : sProp 𝕄 :=
  iprop((dats m 0 c).Φ t.castSucc ∗ (dats m 0 c).owesAt () t.castSucc
    ∗ (∃ d, owns (c : Thread nD τ) (B0 t) fullShare ((dats m 0 c).before 0 t d))
    ∗ (∃ d, owns (c : Thread nD τ) (B1 t) fullShare ((dats m 0 c).before 1 t d))
    ∗ (∃ d, owns (c : Thread nD τ) (B2 t) fullShare ((dats m 0 c).before 2 t d))
    ∗ (∃ d, owns (c : Thread nD τ) (B3 t) fullShare ((dats m 0 c).before 3 t d))
    ∗ (∃ d, owns (c : Thread nD τ) (B4 t) fullShare ((dats m 0 c).before 4 t d))
    ∗ (∃ d, owns (c : Thread nD τ) (B5 t) fullShare ((dats m 0 c).before 5 t d)))

/-- What it ends with. -/
def returned (c : Dev nD) (t : Fin cfg0.N) : sProp 𝕄 :=
  iprop((dats m 0 c).Φ t.succ ∗ (dats m 0 c).owesAt () t.succ
    ∗ owns (c : Thread nD τ) (B0 t) fullShare ((dats m 0 c).after 0 t)
    ∗ owns (c : Thread nD τ) (B1 t) fullShare ((dats m 0 c).after 1 t)
    ∗ owns (c : Thread nD τ) (B2 t) fullShare ((dats m 0 c).after 2 t)
    ∗ owns (c : Thread nD τ) (B3 t) fullShare ((dats m 0 c).after 3 t)
    ∗ owns (c : Thread nD τ) (B4 t) fullShare ((dats m 0 c).after 4 t)
    ∗ owns (c : Thread nD τ) (B5 t) fullShare ((dats m 0 c).after 5 t))

/-- A point's body runs from the one to the other. -/
theorem body_runs (c : Dev nD) (t : Fin cfg0.N) :
    given m c t ⊢ wp frame (wpE (defs₀ (F := F)) Variants.none c none) Set.univ (bodyAt0 t) (fun _ => returned m c t) := by
  unfold given returned bodyAt0
  simp only [held0, held1, held2, held3]
  rw [show (dats m 0 c).Φ t.succ = (dats m 0 c).Φ t.castSucc from rfl,
    show (dats m 0 c).owesAt () t.succ = (dats m 0 c).owesAt () t.castSucc from rfl, left0, left1, left2, left3, left4, left5]
  unfold colsAt rowsAt cols rows
  rw [← View.read_writes_junk_eq_canon (Memref.whole cc0_stg4_0 : Memref sig .tc .vmem S64x512 .f32).view,
    ← View.read_writes_junk_eq_canon (Memref.whole cc0_stg5_0 : Memref sig .tc .vmem S1x256x128 .f32).view]
  iintro ⟨HΦ, Ho, ⟨%d0, H0⟩, ⟨%d1, H1⟩, ⟨%d2, H2⟩, ⟨%d3, H3⟩, ⟨%d4, H4⟩, ⟨%d5, H5⟩⟩
  iapply ((step c (grid0.coords t) (B0 t) (hB0 t) (B1 t) (hB1 t) (B2 t) (hB2 t) (B3 t) (hB3 t) (B4 t) (hB4 t) (B5 t) (hB5 t)
    (iblk m c 0 t) (X0_1 m c t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, ⟨%f4, H4⟩, ⟨%f5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (covers c _ _ _ _ _ _ _ _ _ _ _ _ _ _ _ _ _)
  unfold owns; iexists _; isplitr
  swap; · iexact H5
  ipureintro; exact View.read_writes_of_cover _ _ _ _ _ (covers_rows c _ _ _ _ _ _ _ _ _ _ _ _ _ _ _ _ _)

/-- The call's body at a point is this body. -/
theorem body_row (t : Fin cfg0.N) : defs₀ (F := F) .tc cfg0.body (cfg0.bodyArgs t (cfg0.slots t)) = bodyAt0 t := by
  unfold defs₀; rw [Defs.onTc_tc]

/-- Every point's body does what the pipeline asks of it. -/
theorem obligation (c : Dev nD) : BodyObligation (dats (F := F) m 0 c) (defs₀ (F := F)) Variants.none () Set.univ := fun t => by
  rw [bigSep_W0, bigSep_W0, body_row]
  exact triple_restated (body_runs m c t) rfl .rfl fun _ => .rfl

set_option backward.isDefEq.respectTransparency.types false in
/-- The program ends, its arrays as the proof data say and the other buffers as the host's lines leave them, and the machine quiet. -/
theorem ends : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := entry_eq m) (hΦ := fun _ _ => rfl)

/-- The program leaves its arguments unchanged. -/
theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (entry_eq m) ((θ_run defs _ _).mono (fun _ h => h.1) (ends m ρ))

/-- And it ends with the machine quiet. -/
theorem whole : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (kept m ρ) ((θ_run defs _ _).mono (fun _ h => h.2) (ends m ρ))

end Cert.WinSampleIdeal.Rows

end
-- ==== Proof.WinSampleIdealPays.lean ====
module

public import proofs.«01_k».proof.Proof.KvSpec
public import proofs.«01_k».proof.Proof.WinSampleIdealSteps
public import Idealize.ShloMosaic.Lib.Pointwise

@[expose] public section

set_option maxRecDepth 16384

noncomputable section

open Idealize.ShloMosaic Idealize.ShloMosaic.TcCoe Idealize.ShloMosaic.Tactic

namespace Cert.WinSampleIdeal.Rows

open Cert.WinSampleIdeal Cert.WinSampleIdeal.Gen Cert.Layer.Ret Cert.Layer.Rows

/-- A block's product at a row and a column. -/
def part (a : Vec Ideal S64x2048 .bf16) (b : Vec Ideal S1x512x2048 .bf16) (r : Fin 64) (x : Fin 512) : EReal :=
  ∑ k : Fin 2048, a (ix2 r k) * b (ix3 0 x k)

/-- A column of a head, among the block's columns. -/
def col (s : Fin 4) (e : Fin 128) : Fin 512 := ⟨128 * s.val + e.val, by omega⟩

/-- What a point stores for head 0, at an element, the flag being one. -/
theorem pay0 (a : Vec Ideal S64x2048 .bf16) (b : Vec Ideal S1x512x2048 .bf16) (g f : Vec Ideal S1x128 .f32) (r : Fin 64) (e : Fin 128)
    (hf : f (ix2 0 e) = 1) : k0_pay6 (F := Ideal) a b g f (ix2 r e)
      = part a b r (col 0 e) * scale128 (fun x => part a b r (col 0 x)) * g (ix2 0 e) := by
  have hc : ∀ x, col 0 x = ⟨x.val, by omega⟩ := fun x => Fin.ext (by show 128 * 0 + x.val = x.val; omega)
  simp only [hc]
  unfold part scale128
  pointwise [k0_pay6, k0_pay5]
  rw [hf, if_pos half_lt_one]

/-- The same head's rows hold the same. -/
theorem pay_row0 (a : Vec Ideal S64x2048 .bf16) (b : Vec Ideal S1x512x2048 .bf16) (g f : Vec Ideal S1x128 .f32) (r : Fin 64) (e : Fin 128) :
    k0_pay7 (F := Ideal) a b g f (ix3 0 r e) = k0_pay6 (F := Ideal) a b g f (ix2 r e) := by
  pointwise [k0_pay7]

/-- What a point stores for head 1, at an element, the flag being one. -/
theorem pay1 (a : Vec Ideal S64x2048 .bf16) (b : Vec Ideal S1x512x2048 .bf16) (g f : Vec Ideal S1x128 .f32) (r : Fin 64) (e : Fin 128)
    (hf : f (ix2 0 e) = 1) : k0_pay11 (F := Ideal) (k0_pay8 a b) (k0_pay9 a b) k0_pay10 g f (ix2 r e)
      = part a b r (col 1 e) * scale128 (fun x => part a b r (col 1 x)) * g (ix2 0 e) := by
  have hc : ∀ x, col 1 x = ⟨128 + x.val, by omega⟩ := fun x => Fin.ext (by show 128 * 1 + x.val = 128 + x.val; omega)
  simp only [hc]
  unfold part scale128
  pointwise [k0_pay11, k0_pay8, k0_pay9, k0_pay10, k0_pay5]
  rw [hf, if_pos half_lt_one]

/-- The same head's rows hold the same. -/
theorem pay_row1 (a : Vec Ideal S64x2048 .bf16) (b : Vec Ideal S1x512x2048 .bf16) (g f : Vec Ideal S1x128 .f32) (r : Fin 64) (e : Fin 128) :
    k0_pay12 (F := Ideal) (k0_pay8 a b) (k0_pay9 a b) k0_pay10 g f (ix3 0 r e) = k0_pay11 (F := Ideal) (k0_pay8 a b) (k0_pay9 a b) k0_pay10 g f (ix2 r e) := by
  pointwise [k0_pay12]

/-- What a point stores for head 2, at an element, the flag being zero. -/
theorem pay2 (a : Vec Ideal S64x2048 .bf16) (b : Vec Ideal S1x512x2048 .bf16) (g f : Vec Ideal S1x128 .f32) (r : Fin 64) (e : Fin 128)
    (hf : f (ix2 0 e) = 0) : k0_pay1 (F := Ideal) (k0_pay13 (k0_pay5 a b)) (k0_pay14 (k0_pay5 a b) g) (k0_pay15 f) k0_pay16 (ix2 r e)
      = part a b r (col 2 e) := by
  have hc : ∀ x, col 2 x = ⟨256 + x.val, by omega⟩ := fun x => Fin.ext (by show 128 * 2 + x.val = 256 + x.val; omega)
  simp only [hc]
  unfold part
  pointwise [k0_pay1, k0_pay13, k0_pay5, k0_pay14, k0_pay15, k0_pay16]
  rw [hf, if_neg half_not_lt_zero]

/-- The same head's rows hold the same. -/
theorem pay_row2 (a : Vec Ideal S64x2048 .bf16) (b : Vec Ideal S1x512x2048 .bf16) (g f : Vec Ideal S1x128 .f32) (r : Fin 64) (e : Fin 128) :
    k0_pay2 (F := Ideal) (k0_pay13 (k0_pay5 a b)) (k0_pay14 (k0_pay5 a b) g) (k0_pay15 f) k0_pay16 (ix3 0 r e) = k0_pay1 (F := Ideal) (k0_pay13 (k0_pay5 a b)) (k0_pay14 (k0_pay5 a b) g) (k0_pay15 f) k0_pay16 (ix2 r e) := by
  pointwise [k0_pay2]

/-- What a point stores for head 3, at an element, the flag being zero. -/
theorem pay3 (a : Vec Ideal S64x2048 .bf16) (b : Vec Ideal S1x512x2048 .bf16) (g f : Vec Ideal S1x128 .f32) (r : Fin 64) (e : Fin 128)
    (hf : f (ix2 0 e) = 0) : k0_pay3 (F := Ideal) (k0_pay5 a b) g f (ix2 r e)
      = part a b r (col 3 e) := by
  have hc : ∀ x, col 3 x = ⟨384 + x.val, by omega⟩ := fun x => Fin.ext (by show 128 * 3 + x.val = 384 + x.val; omega)
  simp only [hc]
  unfold part
  pointwise [k0_pay3, k0_pay5]
  rw [hf, if_neg half_not_lt_zero]

/-- The same head's rows hold the same. -/
theorem pay_row3 (a : Vec Ideal S64x2048 .bf16) (b : Vec Ideal S1x512x2048 .bf16) (g f : Vec Ideal S1x128 .f32) (r : Fin 64) (e : Fin 128) :
    k0_pay4 (F := Ideal) (k0_pay5 a b) g f (ix3 0 r e) = k0_pay3 (F := Ideal) (k0_pay5 a b) g f (ix2 r e) := by
  pointwise [k0_pay4]

end Cert.WinSampleIdeal.Rows
-- ==== Proof.WinSampleRef.lean ====
module

public import proofs.«01_k».proof.Proof.KvSpec
public import proofs.«01_k».proof.Proof.Gen.WinSampleReferenceIdeal.Run
public import proofs.«01_k».proof.Proof.Gen.WinSampleReferenceIdeal.Read
public import Idealize.ShloMosaic.Lib.Pointwise

@[expose] public section

set_option maxRecDepth 16384

noncomputable section

open Idealize.ShloMosaic Idealize.ShloMosaic.TcCoe Idealize.ShloMosaic.Tactic

namespace Cert.WinSampleReferenceIdeal.Rows

open Cert.WinSampleReferenceIdeal Cert.WinSampleReferenceIdeal.Read Cert.Layer.Ret Cert.Layer.Rows

/-- A head of a slot, among all heads. -/
def headOf (j : Fin 2) (h : Fin 2) : Fin 4 := ⟨2 * j.val + h.val, by omega⟩

/-- The reference's product, by slot and head. -/
theorem prod_eq (u : Vec Ideal S64x2048 .bf16) (w : Vec Ideal S4x12824x2048 .bf16) (r : Fin 64) (j : Fin 2) (h : Fin 2) (e : Fin 128) :
    val_main_v6 (F := Ideal) u w (ix4 r j h e) = prodAt u w r (winRow (headOf j h) e) := by
  unfold prodAt winRow headOf
  pointwise [val_main_v0, val_main_v1, val_main_v2, val_main_v3, val_main_v4, val_main_v5, val_main_v6]
  have hi : 128 * (2 * j.val + h.val) + e.val = j.val * 256 + h.val * 128 + e.val := by omega
  simp only [hi]

/-- The reference's normalised heads. -/
theorem normed_eq (u : Vec Ideal S64x2048 .bf16) (w : Vec Ideal S4x12824x2048 .bf16) (g : Vec Ideal S4x4x128 .f32) (r : Fin 64) (h : Fin 2) (e : Fin 128) :
    val_main_v23 (F := Ideal) u w g (ix3 r h e) = prodAt u w r (winRow (headOf 0 h) e) * scale128 (fun x => prodAt u w r (winRow (headOf 0 h) x))
      * g (ix3 0 2 e) := by
  unfold scale128
  pointwise [val_main_v7, val_main_v8, val_main_v9, val_main_v10, val_main_v11, val_main_cst, val_main_v12, val_main_v13, val_main_cst_0,
    val_main_v14, val_main_v15, val_main_cst_1, val_main_v16, val_main_v17, val_main_v18, val_main_v19, val_main_v20, val_main_v21,
    val_main_v22, val_main_v23]
  simp only [prod_eq]

/-- The reference's heads of slot 1. -/
theorem plain1_eq (u : Vec Ideal S64x2048 .bf16) (w : Vec Ideal S4x12824x2048 .bf16) (r : Fin 64) (h : Fin 2) (e : Fin 128) :
    val_main_v25 (F := Ideal) u w (ix3 r h e) = prodAt u w r (winRow (headOf 1 h) e) := by
  rw [← prod_eq]
  pointwise [val_main_v24, val_main_v25]

/-- The reference's rows, by slot and head. -/
theorem heads_eq (u : Vec Ideal S64x2048 .bf16) (w : Vec Ideal S4x12824x2048 .bf16) (g : Vec Ideal S4x4x128 .f32) (r : Fin 64) (j : Fin 2) (h : Fin 2) (e : Fin 128) :
    val_main_v28 (F := Ideal) u w g (ix4 r j h e) = winAt u w g r (headOf j h) e := by
  have hs : (headOf j h).val / 2 = j.val := by show (2 * j.val + h.val) / 2 = j.val; omega
  unfold winAt
  simp only [hs]
  fin_cases j
  · refine Eq.trans ?_ (normed_eq u w g r h e)
    pointwise [val_main_v28, val_main_v26, val_main_v27]
  · refine Eq.trans ?_ (plain1_eq u w r h e)
    pointwise [val_main_v28, val_main_v26, val_main_v27]

/-- The reference's first result. -/
theorem cols_eq (u : Vec Ideal S64x2048 .bf16) (w : Vec Ideal S4x12824x2048 .bf16) (g : Vec Ideal S4x4x128 .f32) (r : Fin 64) (x : Fin 512) :
    val_main_v29 (F := Ideal) u w g (ix2 r x) = winAt u w g r ⟨x.val / 128, by omega⟩ ⟨x.val % 128, by omega⟩ := by
  have hh : (⟨x.val / 128, by omega⟩ : Fin 4) = headOf ⟨x.val / 256, by omega⟩ ⟨x.val / 128 % 2, by omega⟩ :=
    Fin.ext (by show x.val / 128 = 2 * (x.val / 256) + x.val / 128 % 2; omega)
  rw [hh, ← heads_eq]
  pointwise [val_main_v29]

/-- The reference's second result. -/
theorem rows_eq (u : Vec Ideal S64x2048 .bf16) (w : Vec Ideal S4x12824x2048 .bf16) (g : Vec Ideal S4x4x128 .f32) (y : Fin 256) (e : Fin 128) :
    val_main_v30 (F := Ideal) u w g (ix2 y e) = winAt u w g ⟨y.val / 4, by omega⟩ ⟨y.val % 4, by omega⟩ e := by
  have hh : (⟨y.val % 4, by omega⟩ : Fin 4) = headOf ⟨y.val / 2 % 2, by omega⟩ ⟨y.val % 2, by omega⟩ :=
    Fin.ext (by show y.val % 4 = 2 * (y.val / 2 % 2) + y.val % 2; omega)
  rw [hh, ← heads_eq]
  pointwise [val_main_v30]

/-- The reference's second result, the window buffer afterwards. -/
theorem buf_eq (u : Vec Ideal S64x2048 .bf16) (w : Vec Ideal S4x12824x2048 .bf16) (g : Vec Ideal S4x4x128 .f32) (b : Vec Ideal S4x8x512x2x2x128 .f32)
    (n : Fin 8) (t : Fin 512) (j h : Fin 2) (e : Fin 128) :
    val_main_v35 (F := Ideal) u w g b (ix5 n t j h e) = bufAt u w g b n t j h e := by
  unfold bufAt
  pointwise [val_main_v31, val_main_v32, val_main_v33, val_main_v34, val_main_v35]
  have e0 : 8 + t.val = t.val + 8 := by omega
  have e1 : (n.val * 32 + (t.val + 8 - 512) * 4 + j.val * 2 + h.val) / 4 = 8 * n.val + (t.val - 504) := by omega
  have e2 : (n.val * 32 + (t.val + 8 - 512) * 4 + j.val * 2 + h.val) % 4 = 2 * j.val + h.val := by omega
  simp only [rows_eq, e0, e1, e2]

end Cert.WinSampleReferenceIdeal.Rows
-- ==== Proof.WinSampleClaim.lean ====
module

public import proofs.«01_k».proof.Defs
public import Idealize.ShloMosaic.Adequacy
public import proofs.«01_k».proof.Proof.WinSampleIdealPays
public import proofs.«01_k».proof.Proof.WinSampleRef
public import Idealize.ShloMosaic.Lib.Claim
public import Idealize.ShloMosaic.Lib.WholeRead
public import Idealize.ShloMosaic.Lib.Pipeline.Value
public import Idealize.ShloMosaic.Lib.Pipeline.ValueKit
public import Idealize.ShloMosaic.Lib.Pipeline.ValueKit.Point
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem Idealize.ShloMosaic.Tactic

namespace Cert.WinSampleIdeal.Rows

open Cert.WinSampleIdeal Cert.WinSampleIdeal.Gen Cert.Layer.Ret Cert.Layer.Rows

/-! The projection of the window keys and values of the sample batch: its result blocks, its result arrays, and its agreement with the reference. -/

/-- Which block of each array a grid point works on. -/
theorem idx : ∀ t : Fin cfg0.N, win0_0.index t = ![t.val, 0] ∧ win0_1.index t = ![0, 4, 0] ∧ win0_2.index t = ![0, 0]
    ∧ win0_3.index t = ![0, 0] ∧ win0_4.index t = ![t.val, 0] ∧ win0_5.index t = ![0, t.val, 0] :=
  (by decide +kernel : ∀ t : Fin grid0.N, _)

/-- The array row that row `r` of a point's block is. -/
def rowOf (t : Fin cfg0.N) (r : Fin 64) : Fin 64 := ⟨64 * t.val + r.val, by have h : cfg0.N = 1 := N_0; have := t.isLt; omega⟩

/-- The row of the second result that row `y` of a point's block is. -/
def lineOf (t : Fin cfg0.N) (y : Fin 256) : Fin 256 := ⟨256 * t.val + y.val, by have h : cfg0.N = 1 := N_0; have := t.isLt; omega⟩

variable (m : (ℓ : Loc nD τ sig) → Buf (Elt Ideal) ℓ)

/-- The input, as an array over the extended reals. -/
abbrev A0 (c : Dev nD) : S64x2048.Idx → EReal := m ((c : Thread nD τ).loc main_arg0)
/-- The weights, as an array over the extended reals. -/
abbrev A1 (c : Dev nD) : S4x12824x2048.Idx → EReal := m ((c : Thread nD τ).loc main_arg1)
/-- The gains, as an array over the extended reals. -/
abbrev A2 (c : Dev nD) : S4x4x128.Idx → EReal := m ((c : Thread nD τ).loc main_arg2)
/-- The input's block of a point. -/
abbrev U (c : Dev nD) (t : Fin cfg0.N) : S64x2048.Idx → EReal := iblk m c 0 t
/-- The weights' block of a point. -/
abbrev W (c : Dev nD) (t : Fin cfg0.N) : S1x512x2048.Idx → EReal := X0_1 m c t
/-- The gain's block of a point. -/
abbrev Gn (c : Dev nD) (t : Fin cfg0.N) : S1x512.Idx → EReal := iblk m c 2 t
/-- The flag's block of a point. -/
abbrev Fl (c : Dev nD) (t : Fin cfg0.N) : S1x512.Idx → EReal := iblk m c 3 t
/-- The gain's row, as the kernel's call takes it. -/
abbrev H2 (c : Dev nD) : S1x512.Idx → EReal := V m c main_v7
/-- The flag's row, as the kernel's call takes it. -/
abbrev H3 (c : Dev nD) : S1x512.Idx → EReal := V m c main_v11

/-- The input's block of a point, read from the input. -/
theorem blk_u (c : Dev nD) (t : Fin cfg0.N) (r : Fin 64) (k : Fin 2048) : U m c t (ix2 r k) = A0 m c (ix2 (rowOf t r) k) := by
  unfold rowOf
  refine Eq.trans ?_ (congrFun (V_main_arg0 m c) _)
  blk_ext [iblk, idx t]

/-- The weights' block of a point at a row of it, read from the weights. -/
theorem blk_w_row (c : Dev nD) (t : Fin cfg0.N) (x : Fin 512) (k : Fin 2048) :
    W m c t (ix3 0 x k) = A1 m c (ix3 0 ⟨2048 + x.val, by omega⟩ k) := by
  unfold W X0_1
  rw [Pipeline.Window.fill, dif_pos (moved0_1 t _)]
  refine Eq.trans ?_ (congrFun (V_main_arg1 m c) _)
  blk_ext [iblk, idx t]

/-- The weights' block of a point, read from the weights. -/
theorem blk_w (c : Dev nD) (t : Fin cfg0.N) (s : Fin 4) (e : Fin 128) (k : Fin 2048) :
    W m c t (ix3 0 (col s e) k) = A1 m c (ix3 0 (winRow s e) k) :=
  blk_w_row m c t (col s e) k

/-- The gain's row at a normalised head's columns. -/
theorem row_gain (c : Dev nD) (x : Fin 512) (hx : x.val / 256 = 0) : H2 m c (ix2 0 x) = A2 m c (ix3 0 2 ⟨x.val % 128, by omega⟩) := by
  unfold H2 V
  after_reads_at
  have := x.isLt
  split_ifs <;> first
    | omega
    | skip
  after_reads_at
  all_goals
    refine congrArg (fun y => A2 m c (ix3 0 2 y)) (Fin.ext ?_)
    dsimp only
    omega

/-- The flag's row at a normalised head's columns. -/
theorem row_flag (c : Dev nD) (x : Fin 512) (hx : x.val / 256 = 0) : H3 m c (ix2 0 x) = 1 := by
  unfold H3 V
  after_reads_at
  all_goals
    have := x.isLt
    split_ifs <;> first
      | omega
      | after_reads_at
      | rfl

/-- The flag's row at the other columns. -/
theorem row_flag_off (c : Dev nD) (x : Fin 512) (hx : x.val / 256 ≠ 0) : H3 m c (ix2 0 x) = 0 := by
  unfold H3 V
  after_reads_at
  all_goals
    have := x.isLt
    split_ifs <;> first
      | omega
      | after_reads_at
      | rfl

/-- The gain's block of a point is the whole row. -/
theorem blk_g (c : Dev nD) (t : Fin cfg0.N) (x : Fin 512) : Gn m c t (ix2 0 x) = H2 m c (ix2 0 x) := by
  unfold H2 Gn iblk
  generalize V m c = X
  blk_ext [idx t]

/-- The flag's block of a point is the whole row. -/
theorem blk_f (c : Dev nD) (t : Fin cfg0.N) (x : Fin 512) : Fl m c t (ix2 0 x) = H3 m c (ix2 0 x) := by
  unfold H3 Fl iblk
  generalize V m c = X
  blk_ext [idx t]

/-- The slot of a column of a head. -/
theorem slot_eq (s : Fin 4) (e : Fin 128) : (col s e).val / 256 = s.val / 2 := by
  show (128 * s.val + e.val) / 256 = s.val / 2
  omega

/-- A load of the whole of the input's block. -/
theorem read_u {B : Memref sig .tc .vmem S64x2048 .bf16} (hB : B.IsWhole) (x : S64x2048.Idx → EReal) (r : Fin 64) (k : Fin 2048) :
    View.readAt (Elt Ideal) B.view (Rect.unit (s := S64x2048) ![0, 0] S64x2048.size inb_S64x2048_S64x2048_0_0).toLoadRect (hB.unread x) (ix2 r k)
      = x (ix2 r k) := by
  refine (hB.readAt_unread (Val := Elt Ideal) x _ _).trans (congrArg x ?_)
  funext a
  apply Fin.ext
  refine (Rect.idx_unit_val ..).trans ?_
  fin_cases a
  · show 0 + r.val = r.val
    omega
  · show 0 + k.val = k.val
    omega

/-- A load of the whole of the weights' block. -/
theorem read_w {B : Memref sig .tc .vmem S1x512x2048 .bf16} (hB : B.IsWhole) (x : S1x512x2048.Idx → EReal) (e : Fin 512) (k : Fin 2048) :
    View.readAt (Elt Ideal) B.view (Rect.unit (s := S1x512x2048) ![0, 0, 0] S1x512x2048.size inb_S1x512x2048_S1x512x2048_0_0_0).toLoadRect (hB.unread x)
      (ix3 0 e k) = x (ix3 0 e k) := by
  refine (hB.readAt_unread (Val := Elt Ideal) x _ _).trans (congrArg x ?_)
  funext a
  apply Fin.ext
  refine (Rect.idx_unit_val ..).trans ?_
  fin_cases a
  · rfl
  · show 0 + e.val = e.val
    omega
  · show 0 + k.val = k.val
    omega

/-- A load of one head's entries of a row. -/
theorem read_row {B : Memref sig .tc .vmem S1x512 .f32} (hB : B.IsWhole) (x : S1x512.Idx → EReal) (off : Fin 2 → ℕ)
    (inb : ∀ a, off a + S1x128.size a ≤ S1x512.size a) (s : Fin 4) (h0 : off 0 = 0) (h1 : off 1 = 128 * s.val) (e : Fin 128) :
    View.readAt (Elt Ideal) B.view (Rect.unit (s := S1x512) off S1x128.size inb).toLoadRect (hB.unread x) (ix2 0 e)
      = x (ix2 0 (col s e)) := by
  refine (hB.readAt_unread (Val := Elt Ideal) x _ _).trans (congrArg x ?_)
  funext a
  apply Fin.ext
  refine (Rect.idx_unit_val ..).trans ?_
  fin_cases a
  · show off 0 + 0 = 0
    omega
  · show off 1 + e.val = 128 * s.val + e.val
    omega

/-- Where one head's columns are stored in the first result block. -/
theorem place_out (off : Fin 2 → ℕ) (inb : ∀ a, off a + S64x128.size a ≤ S64x512.size a) (s : Fin 4)
    (h0 : off 0 = 0) (h1 : off 1 = 128 * s.val) (r : Fin 64) (e : Fin 128) :
    (Rect.unit (s := S64x512) off S64x128.size inb).idx (ix2 r e) = ix2 r (col s e) := by
  funext a
  apply Fin.ext
  refine (Rect.idx_unit_val ..).trans ?_
  fin_cases a
  · show off 0 + r.val = r.val
    omega
  · show off 1 + e.val = 128 * s.val + e.val
    omega

/-- The row of the second result block that holds head `s` of row `r`. -/
def line (r : Fin 64) (s : Fin 4) : Fin 256 := ⟨4 * r.val + s.val, by omega⟩

/-- Where one head's columns are stored in the second result block. -/
theorem place_rows (off : Fin 3 → ℕ)
    (inb : ∀ a, S1x64x128.size a = 0 ∨ off a + (![1, 4, 1] : Fin 3 → ℕ) a * (S1x64x128.size a - 1) < S1x256x128.size a)
    (pos : ∀ a, 0 < (![1, 4, 1] : Fin 3 → ℕ) a) (s : Fin 4) (h0 : off 0 = 0) (h1 : off 1 = s.val) (h2 : off 2 = 0) (r : Fin 64) (e : Fin 128) :
    (⟨⟨off, S1x64x128.size, ![1, 4, 1], inb⟩, pos⟩ : Rect S1x256x128).idx (ix3 0 r e) = ix3 0 (line r s) e := by
  funext a
  apply Fin.ext
  match a with
  | ⟨0, _⟩ => exact show off 0 + 1 * 0 = 0 by omega
  | ⟨1, _⟩ => exact show off 1 + 4 * r.val = 4 * r.val + s.val by omega
  | ⟨2, _⟩ => exact show off 2 + 1 * e.val = e.val by omega

/-- A block's product is the projection's product at the block's rows and heads. -/
theorem part_eq (c : Dev nD) (t : Fin cfg0.N) (s : Fin 4) (a : Vec Ideal S64x2048 .bf16) (b : Vec Ideal S1x512x2048 .bf16)
    (ha : ∀ r k, a (ix2 r k) = U m c t (ix2 r k)) (hb : ∀ e k, b (ix3 0 e k) = W m c t (ix3 0 e k)) (r : Fin 64) (e : Fin 128) :
    part a b r (col s e) = prodAt (A0 m c) (A1 m c) (rowOf t r) (winRow s e) := by
  unfold part prodAt
  exact Finset.sum_congr rfl fun k _ => congrArg₂ (· * ·) ((ha r k).trans (blk_u m c t r k)) ((hb _ k).trans (blk_w m c t s e k))

/-- A normalised head's element is the projection's. -/
theorem normed_eq (c : Dev nD) (t : Fin cfg0.N) (s : Fin 4) (hs : s.val / 2 = 0) (a : Vec Ideal S64x2048 .bf16) (b : Vec Ideal S1x512x2048 .bf16)
    (g : Vec Ideal S1x128 .f32) (ha : ∀ r k, a (ix2 r k) = U m c t (ix2 r k)) (hb : ∀ e k, b (ix3 0 e k) = W m c t (ix3 0 e k))
    (hg : ∀ e, g (ix2 0 e) = Gn m c t (ix2 0 (col s e))) (r : Fin 64) (e : Fin 128) :
    part a b r (col s e) * scale128 (fun x => part a b r (col s x)) * g (ix2 0 e) = winAt (A0 m c) (A1 m c) (A2 m c) (rowOf t r) s e := by
  unfold winAt
  have hd : (⟨(col s e).val % 128, by omega⟩ : Fin 128) = e := Fin.ext (by show (128 * s.val + e.val) % 128 = e.val; omega)
  rw [if_pos hs, funext (part_eq m c t s a b ha hb r), part_eq m c t s a b ha hb r e, hg, blk_g, row_gain m c _ ((slot_eq s e).trans hs), hd]

/-- Another head's element is the projection's. -/
theorem plain_eq (c : Dev nD) (t : Fin cfg0.N) (s : Fin 4) (hs : s.val / 2 ≠ 0) (a : Vec Ideal S64x2048 .bf16) (b : Vec Ideal S1x512x2048 .bf16)
    (ha : ∀ r k, a (ix2 r k) = U m c t (ix2 r k)) (hb : ∀ e k, b (ix3 0 e k) = W m c t (ix3 0 e k)) (r : Fin 64) (e : Fin 128) :
    part a b r (col s e) = winAt (A0 m c) (A1 m c) (A2 m c) (rowOf t r) s e := by
  unfold winAt
  rw [if_neg hs, part_eq m c t s a b ha hb r e]

/-- What a point stores for head 0. -/
theorem stored0 (c : Dev nD) (t : Fin cfg0.N) (a : Vec Ideal S64x2048 .bf16) (b : Vec Ideal S1x512x2048 .bf16) (g f : Vec Ideal S1x128 .f32)
    (ha : ∀ r k, a (ix2 r k) = U m c t (ix2 r k)) (hb : ∀ e k, b (ix3 0 e k) = W m c t (ix3 0 e k))
    (hg : ∀ e, g (ix2 0 e) = Gn m c t (ix2 0 (col 0 e))) (hf : ∀ e, f (ix2 0 e) = Fl m c t (ix2 0 (col 0 e))) (r : Fin 64) (e : Fin 128) :
    k0_pay6 (F := Ideal) a b g f (ix2 r e) = winAt (A0 m c) (A1 m c) (A2 m c) (rowOf t r) 0 e :=
  (pay0 a b g f r e ((hf e).trans ((blk_f m c t _).trans (row_flag m c _ (slot_eq 0 e))))).trans
    (normed_eq m c t 0 rfl a b g ha hb hg r e)

/-- What a point stores for head 1. -/
theorem stored1 (c : Dev nD) (t : Fin cfg0.N) (a : Vec Ideal S64x2048 .bf16) (b : Vec Ideal S1x512x2048 .bf16) (g f : Vec Ideal S1x128 .f32)
    (ha : ∀ r k, a (ix2 r k) = U m c t (ix2 r k)) (hb : ∀ e k, b (ix3 0 e k) = W m c t (ix3 0 e k))
    (hg : ∀ e, g (ix2 0 e) = Gn m c t (ix2 0 (col 1 e))) (hf : ∀ e, f (ix2 0 e) = Fl m c t (ix2 0 (col 1 e))) (r : Fin 64) (e : Fin 128) :
    k0_pay11 (F := Ideal) (k0_pay8 a b) (k0_pay9 a b) k0_pay10 g f (ix2 r e) = winAt (A0 m c) (A1 m c) (A2 m c) (rowOf t r) 1 e :=
  (pay1 a b g f r e ((hf e).trans ((blk_f m c t _).trans (row_flag m c _ (slot_eq 1 e))))).trans
    (normed_eq m c t 1 rfl a b g ha hb hg r e)

/-- What a point stores for head 2. -/
theorem stored2 (c : Dev nD) (t : Fin cfg0.N) (a : Vec Ideal S64x2048 .bf16) (b : Vec Ideal S1x512x2048 .bf16) (g f : Vec Ideal S1x128 .f32)
    (ha : ∀ r k, a (ix2 r k) = U m c t (ix2 r k)) (hb : ∀ e k, b (ix3 0 e k) = W m c t (ix3 0 e k))
    (_hg : ∀ e, g (ix2 0 e) = Gn m c t (ix2 0 (col 2 e))) (hf : ∀ e, f (ix2 0 e) = Fl m c t (ix2 0 (col 2 e))) (r : Fin 64) (e : Fin 128) :
    k0_pay1 (F := Ideal) (k0_pay13 (k0_pay5 a b)) (k0_pay14 (k0_pay5 a b) g) (k0_pay15 f) k0_pay16 (ix2 r e) = winAt (A0 m c) (A1 m c) (A2 m c) (rowOf t r) 2 e :=
  (pay2 a b g f r e ((hf e).trans ((blk_f m c t _).trans (row_flag_off m c _ (by rw [slot_eq]; decide))))).trans
    (plain_eq m c t 2 (by decide) a b ha hb r e)

/-- What a point stores for head 3. -/
theorem stored3 (c : Dev nD) (t : Fin cfg0.N) (a : Vec Ideal S64x2048 .bf16) (b : Vec Ideal S1x512x2048 .bf16) (g f : Vec Ideal S1x128 .f32)
    (ha : ∀ r k, a (ix2 r k) = U m c t (ix2 r k)) (hb : ∀ e k, b (ix3 0 e k) = W m c t (ix3 0 e k))
    (_hg : ∀ e, g (ix2 0 e) = Gn m c t (ix2 0 (col 3 e))) (hf : ∀ e, f (ix2 0 e) = Fl m c t (ix2 0 (col 3 e))) (r : Fin 64) (e : Fin 128) :
    k0_pay3 (F := Ideal) (k0_pay5 a b) g f (ix2 r e) = winAt (A0 m c) (A1 m c) (A2 m c) (rowOf t r) 3 e :=
  (pay3 a b g f r e ((hf e).trans ((blk_f m c t _).trans (row_flag_off m c _ (by rw [slot_eq]; decide))))).trans
    (plain_eq m c t 3 (by decide) a b ha hb r e)

/-- The first result block of a point, as an array. -/
def colsBlk (c : Dev nD) (t : Fin cfg0.N) (j : S64x512.Idx) : EReal :=
  winAt (A0 m c) (A1 m c) (A2 m c) (rowOf t (j 0)) ⟨(j 1).val / 128, by have : (j 1).val < 512 := (j 1).isLt; omega⟩ ⟨(j 1).val % 128, by omega⟩

/-- That array at a column of a head. -/
theorem colsBlk_at (c : Dev nD) (t : Fin cfg0.N) (s : Fin 4) (r : Fin 64) (e : Fin 128) :
    colsBlk m c t (ix2 r (col s e)) = winAt (A0 m c) (A1 m c) (A2 m c) (rowOf t r) s e := by
  have e1 : (128 * s.val + e.val) / 128 = s.val := by omega
  have e2 : (128 * s.val + e.val) % 128 = e.val := by omega
  show winAt (A0 m c) (A1 m c) (A2 m c) (rowOf t r) ⟨(128 * s.val + e.val) / 128, _⟩ ⟨(128 * s.val + e.val) % 128, _⟩ = _
  simp only [e1, e2]

/-- The second result block of a point, as an array. -/
def rowsBlk (c : Dev nD) (t : Fin cfg0.N) (j : S1x256x128.Idx) : EReal :=
  winAt (A0 m c) (A1 m c) (A2 m c) (rowOf t ⟨(j 1).val / 4, by have : (j 1).val < 256 := (j 1).isLt; omega⟩) ⟨(j 1).val % 4, by omega⟩ (j 2)

/-- That array at the row of a head. -/
theorem rowsBlk_at (c : Dev nD) (t : Fin cfg0.N) (s : Fin 4) (r : Fin 64) (e : Fin 128) :
    rowsBlk m c t (ix3 0 (line r s) e) = winAt (A0 m c) (A1 m c) (A2 m c) (rowOf t r) s e := by
  have e1 : (4 * r.val + s.val) / 4 = r.val := by omega
  have e2 : (4 * r.val + s.val) % 4 = s.val := by omega
  show winAt (A0 m c) (A1 m c) (A2 m c) (rowOf t ⟨(4 * r.val + s.val) / 4, _⟩) ⟨(4 * r.val + s.val) % 4, _⟩ e = _
  simp only [e1, e2]

set_option maxHeartbeats 1000000 in
/-- What a point leaves in the first result block. -/
theorem cols_block (c : Dev nD) (t : Fin cfg0.N) (j : S64x512.Idx) : colsAt m c t j = colsBlk m c t j := by
  unfold colsAt cols
  refine View.canon_apply_of_pieces (Val := Elt Ideal) (colsBlk m c t) _ (fun p hp => ?_) j (covers c _ _ _ _ _ _ _ _ _ _ _ _ _ _ _ _ _ j)
  unfold step at hp
  dsimp only at hp
  revert hp
  sl_unfold_run_names
  intro hp
  simp only [List.mem_cons, List.not_mem_nil, or_false] at hp
  rcases hp with rfl | rfl | rfl | rfl
  · intro x
    obtain ⟨r, e, rfl⟩ : ∃ (r : Fin 64) (e : Fin 128), x = ix2 r e := ⟨x 0, x 1, eq_ix2 x⟩
    refine Eq.trans ?_ ((colsBlk_at m c t 3 r e).symm.trans (congrArg (colsBlk m c t) (place_out _ inb_S64x512_S64x128_0_384 3 rfl rfl r e).symm))
    exact stored3 m c t _ _ _ _ (read_u (hB0 t) _) (read_w (hB1 t) _) (read_row (hB2 t) _ _ _ 3 rfl rfl) (read_row (hB3 t) _ _ _ 3 rfl rfl) r e
  · intro x
    obtain ⟨r, e, rfl⟩ : ∃ (r : Fin 64) (e : Fin 128), x = ix2 r e := ⟨x 0, x 1, eq_ix2 x⟩
    refine Eq.trans ?_ ((colsBlk_at m c t 2 r e).symm.trans (congrArg (colsBlk m c t) (place_out _ inb_S64x512_S64x128_0_256 2 rfl rfl r e).symm))
    exact stored2 m c t _ _ _ _ (read_u (hB0 t) _) (read_w (hB1 t) _) (read_row (hB2 t) _ _ _ 2 rfl rfl) (read_row (hB3 t) _ _ _ 2 rfl rfl) r e
  · intro x
    obtain ⟨r, e, rfl⟩ : ∃ (r : Fin 64) (e : Fin 128), x = ix2 r e := ⟨x 0, x 1, eq_ix2 x⟩
    refine Eq.trans ?_ ((colsBlk_at m c t 1 r e).symm.trans (congrArg (colsBlk m c t) (place_out _ inb_S64x512_S64x128_0_128 1 rfl rfl r e).symm))
    exact stored1 m c t _ _ _ _ (read_u (hB0 t) _) (read_w (hB1 t) _) (read_row (hB2 t) _ _ _ 1 rfl rfl) (read_row (hB3 t) _ _ _ 1 rfl rfl) r e
  · intro x
    obtain ⟨r, e, rfl⟩ : ∃ (r : Fin 64) (e : Fin 128), x = ix2 r e := ⟨x 0, x 1, eq_ix2 x⟩
    refine Eq.trans ?_ ((colsBlk_at m c t 0 r e).symm.trans (congrArg (colsBlk m c t) (place_out _ inb_S64x512_S64x128_0_0 0 rfl rfl r e).symm))
    exact stored0 m c t _ _ _ _ (read_u (hB0 t) _) (read_w (hB1 t) _) (read_row (hB2 t) _ _ _ 0 rfl rfl) (read_row (hB3 t) _ _ _ 0 rfl rfl) r e

set_option maxHeartbeats 1000000 in
/-- What a point leaves in the second result block. -/
theorem rows_block (c : Dev nD) (t : Fin cfg0.N) (j : S1x256x128.Idx) : rowsAt m c t j = rowsBlk m c t j := by
  unfold rowsAt rows
  refine View.canon_apply_of_pieces (Val := Elt Ideal) (rowsBlk m c t) _ (fun p hp => ?_) j (covers_rows c _ _ _ _ _ _ _ _ _ _ _ _ _ _ _ _ _ j)
  unfold step at hp
  dsimp only at hp
  revert hp
  sl_unfold_run_names
  intro hp
  simp only [List.mem_cons, List.not_mem_nil, or_false] at hp
  rcases hp with rfl | rfl | rfl | rfl
  · intro x
    obtain ⟨z, r, e, rfl⟩ : ∃ (z : Fin 1) (r : Fin 64) (e : Fin 128), x = ix3 z r e := ⟨x 0, x 1, x 2, eq_ix3 x⟩
    obtain rfl : z = 0 := Subsingleton.elim _ _
    refine (pay_row3 _ _ _ _ r e).trans ?_
    refine Eq.trans ?_ ((rowsBlk_at m c t 3 r e).symm.trans (congrArg (rowsBlk m c t) (place_rows _ _ _ 3 rfl rfl rfl r e).symm))
    exact stored3 m c t _ _ _ _ (read_u (hB0 t) _) (read_w (hB1 t) _) (read_row (hB2 t) _ _ _ 3 rfl rfl) (read_row (hB3 t) _ _ _ 3 rfl rfl) r e
  · intro x
    obtain ⟨z, r, e, rfl⟩ : ∃ (z : Fin 1) (r : Fin 64) (e : Fin 128), x = ix3 z r e := ⟨x 0, x 1, x 2, eq_ix3 x⟩
    obtain rfl : z = 0 := Subsingleton.elim _ _
    refine (pay_row2 _ _ _ _ r e).trans ?_
    refine Eq.trans ?_ ((rowsBlk_at m c t 2 r e).symm.trans (congrArg (rowsBlk m c t) (place_rows _ _ _ 2 rfl rfl rfl r e).symm))
    exact stored2 m c t _ _ _ _ (read_u (hB0 t) _) (read_w (hB1 t) _) (read_row (hB2 t) _ _ _ 2 rfl rfl) (read_row (hB3 t) _ _ _ 2 rfl rfl) r e
  · intro x
    obtain ⟨z, r, e, rfl⟩ : ∃ (z : Fin 1) (r : Fin 64) (e : Fin 128), x = ix3 z r e := ⟨x 0, x 1, x 2, eq_ix3 x⟩
    obtain rfl : z = 0 := Subsingleton.elim _ _
    refine (pay_row1 _ _ _ _ r e).trans ?_
    refine Eq.trans ?_ ((rowsBlk_at m c t 1 r e).symm.trans (congrArg (rowsBlk m c t) (place_rows _ _ _ 1 rfl rfl rfl r e).symm))
    exact stored1 m c t _ _ _ _ (read_u (hB0 t) _) (read_w (hB1 t) _) (read_row (hB2 t) _ _ _ 1 rfl rfl) (read_row (hB3 t) _ _ _ 1 rfl rfl) r e
  · intro x
    obtain ⟨z, r, e, rfl⟩ : ∃ (z : Fin 1) (r : Fin 64) (e : Fin 128), x = ix3 z r e := ⟨x 0, x 1, x 2, eq_ix3 x⟩
    obtain rfl : z = 0 := Subsingleton.elim _ _
    refine (pay_row0 _ _ _ _ r e).trans ?_
    refine Eq.trans ?_ ((rowsBlk_at m c t 0 r e).symm.trans (congrArg (rowsBlk m c t) (place_rows _ _ _ 0 rfl rfl rfl r e).symm))
    exact stored0 m c t _ _ _ _ (read_u (hB0 t) _) (read_w (hB1 t) _) (read_row (hB2 t) _ _ _ 0 rfl rfl) (read_row (hB3 t) _ _ _ 0 rfl rfl) r e

/-- What a point writes back to the first result. -/
theorem written4 (c : Dev nD) (t : Fin cfg0.N) : (dats m 0 c).flushed 4 t = (cfg0.win 4).cut (grid0.coords t) (colsAt m c t) := by
  show (cfg0.win 4).cut (grid0.coords t) ((dats m 0 c).after 4 t) = _
  rw [left4]

/-- Distinct points take distinct blocks of the first result. -/
theorem apart4 : ∀ t t' : Fin cfg0.N, win0_4.index t = win0_4.index t' → t = t' :=
  (by decide +kernel : ∀ t t' : Fin grid0.N, win0_4.index t = win0_4.index t' → t = t')

/-- A point's block of the first result is what it wrote back. -/
theorem lands4 (c : Dev nD) (t : Fin cfg0.N) :
    ((cfg0.win 4).blk t).view.read (Elt Ideal) ((dats m 0 c).arrAt 4 cfg0.N) = (dats m 0 c).flushed 4 t :=
  (dats m 0 c).read_blk_arrAt_eq_flushed 4 (fun t t' _ _ hne => (cfg0.win 4).disjoint_blk fun h => hne (apart4 t t' h)) cfg0.N t t.isLt (flush0_4 t)

/-- What a point writes back to the second result. -/
theorem written5 (c : Dev nD) (t : Fin cfg0.N) : (dats m 0 c).flushed 5 t = (cfg0.win 5).cut (grid0.coords t) (rowsAt m c t) := by
  show (cfg0.win 5).cut (grid0.coords t) ((dats m 0 c).after 5 t) = _
  rw [left5]

/-- Distinct points take distinct blocks of the second result. -/
theorem apart5 : ∀ t t' : Fin cfg0.N, win0_5.index t = win0_5.index t' → t = t' :=
  (by decide +kernel : ∀ t t' : Fin grid0.N, win0_5.index t = win0_5.index t' → t = t')

/-- A point's block of the second result is what it wrote back. -/
theorem lands5 (c : Dev nD) (t : Fin cfg0.N) :
    ((cfg0.win 5).blk t).view.read (Elt Ideal) ((dats m 0 c).arrAt 5 cfg0.N) = (dats m 0 c).flushed 5 t :=
  (dats m 0 c).read_blk_arrAt_eq_flushed 5 (fun t t' _ _ hne => (cfg0.win 5).disjoint_blk fun h => hne (apart5 t t' h)) cfg0.N t t.isLt (flush0_5 t)

/-- A point's block of the first result. -/
theorem cols_final (c : Dev nD) (t : Fin cfg0.N) (r : Fin 64) (x : Fin 512) :
    (dats m 0 c).arrAt 4 cfg0.N (ix2 (rowOf t r) x) = colsBlk m c t (ix2 r x) := by
  have hb := congrFun (lands4 m c t) (ix2 r x)
  have he : View.read (Elt Ideal) ((cfg0.win 4).blk t).view ((dats m 0 c).arrAt 4 cfg0.N) (ix2 r x)
      = (dats m 0 c).arrAt 4 cfg0.N (ix2 (rowOf t r) x) := by
    unfold rowOf
    blk_ext [idx t]
  rw [he, written4] at hb
  refine hb.trans ((?_ : _ = (colsAt m c t) (ix2 r x)).trans (cols_block m c t _))
  rfl

/-- A point's block of the second result. -/
theorem rows_final (c : Dev nD) (t : Fin cfg0.N) (y : Fin 256) (e : Fin 128) :
    (dats m 0 c).arrAt 5 cfg0.N (ix3 0 (lineOf t y) e) = rowsBlk m c t (ix3 0 y e) := by
  have hb := congrFun (lands5 m c t) (ix3 0 y e)
  have he : View.read (Elt Ideal) ((cfg0.win 5).blk t).view ((dats m 0 c).arrAt 5 cfg0.N) (ix3 0 y e)
      = (dats m 0 c).arrAt 5 cfg0.N (ix3 0 (lineOf t y) e) := by
    unfold lineOf
    blk_ext [idx t]
  rw [he, written5] at hb
  refine hb.trans ((?_ : _ = (rowsAt m c t) (ix3 0 y e)).trans (rows_block m c t _))
  rfl

/-- The first result array. -/
theorem cols_array (c : Dev nD) (r : Fin 64) (x : Fin 512) : (dats m 0 c).arrAt 4 cfg0.N (ix2 r x)
    = winAt (A0 m c) (A1 m c) (A2 m c) r ⟨x.val / 128, by omega⟩ ⟨x.val % 128, by omega⟩ := by
  have hN : cfg0.N = 1 := N_0
  obtain ⟨t, ht⟩ : ∃ t : Fin cfg0.N, t.val = r.val / 64 := ⟨⟨r.val / 64, by omega⟩, rfl⟩
  have e := cols_final m c t ⟨r.val % 64, by omega⟩ x
  have hr : rowOf t ⟨r.val % 64, by omega⟩ = r := Fin.ext (by show 64 * t.val + r.val % 64 = r.val; omega)
  rw [hr] at e
  refine e.trans ?_
  show winAt (A0 m c) (A1 m c) (A2 m c) (rowOf t ⟨r.val % 64, _⟩) ⟨x.val / 128, _⟩ ⟨x.val % 128, _⟩ = _
  rw [hr]

/-- The second result array, in the layer the call fills. -/
theorem rows_array (c : Dev nD) (y : Fin 256) (e : Fin 128) : (dats m 0 c).arrAt 5 cfg0.N (ix3 0 y e)
    = winAt (A0 m c) (A1 m c) (A2 m c) ⟨y.val / 4, by omega⟩ ⟨y.val % 4, by omega⟩ e := by
  have hN : cfg0.N = 1 := N_0
  obtain ⟨t, ht⟩ : ∃ t : Fin cfg0.N, t.val = y.val / 256 := ⟨⟨y.val / 256, by omega⟩, rfl⟩
  have e' := rows_final m c t ⟨y.val % 256, by omega⟩ e
  have hy : lineOf t ⟨y.val % 256, by omega⟩ = y := Fin.ext (by show 256 * t.val + y.val % 256 = y.val; omega)
  have hr : rowOf t ⟨y.val % 256 / 4, by omega⟩ = ⟨y.val / 4, by omega⟩ :=
    Fin.ext (by show 64 * t.val + y.val % 256 / 4 = y.val / 4; omega)
  have hs : (⟨y.val % 256 % 4, by omega⟩ : Fin 4) = ⟨y.val % 4, by omega⟩ := Fin.ext (by show y.val % 256 % 4 = y.val % 4; omega)
  rw [hy] at e'
  refine e'.trans ?_
  show winAt (A0 m c) (A1 m c) (A2 m c) (rowOf t ⟨y.val % 256 / 4, _⟩) ⟨y.val % 256 % 4, _⟩ e = _
  rw [hr, hs]

/-- The samples' window buffers, as an array over the extended reals. -/
abbrev A3 (c : Dev nD) : S4x8x512x2x2x128.Idx → EReal := m ((c : Thread nD τ).loc main_arg3)

/-- The host's last lines put the filled layer of the second result behind the first layer's window buffer, moved up. -/
theorem tail_eq (X : Valuation τ sig (Elt Ideal)) (n : Fin 8) (t : Fin 512) (j h : Fin 2) (e : Fin 128) :
    (StableHlo.after hostOps1 X (Proc.devRef .tc main_v19) : S8x512x2x2x128.Idx → EReal) (ix5 n t j h e)
      = if hb : t.val + 8 < 512 then (X (Proc.devRef .tc main_arg3) : S4x8x512x2x2x128.Idx → EReal) (ix6 0 n ⟨t.val + 8, hb⟩ j h e)
        else (X (Proc.devRef .tc main_v12_1) : S4x256x128.Idx → EReal) (ix3 0 ⟨32 * n.val + (t.val - 504) * 4 + 2 * j.val + h.val, by omega⟩ e) := by
  after_reads_at
  have e0 : 8 + t.val = t.val + 8 := by omega
  simp only [e0]
  split
  · after_reads_at
  · after_reads_at
    have e1 : n.val * 32 + (t.val + 8 - 512) * 4 + j.val * 2 + h.val = 32 * n.val + (t.val - 504) * 4 + 2 * j.val + h.val := by omega
    simp only [e1]

/-- The second result, as the host returns it. -/
theorem returned_buf (c : Dev nD) (n : Fin 8) (t : Fin 512) (j h : Fin 2) (e : Fin 128) :
    (Pipeline.afterTail₀ cfgs (dats m) 0 (V0 m) [hostOps1] c main_v19 : S8x512x2x2x128.Idx → EReal) (ix5 n t j h e)
      = bufAt (A0 m c) (A1 m c) (A2 m c) (A3 m c) n t j h e := by
  unfold Pipeline.afterTail₀ bufAt
  refine (tail_eq _ n t j h e).trans ?_
  split
  · refine congrFun (Eq.trans ?_ (V_main_arg3 m c)) _
    exact Pipeline.withArrays_of_ne _ c _ _ main_arg3 (by decide)
  · refine (congrFun (Pipeline.withArrays_arr _ launch0.win.arr_inj c _ _ 5) _).trans ((rows_array m c _ e).trans ?_)
    have e1 : (32 * n.val + (t.val - 504) * 4 + 2 * j.val + h.val) / 4 = 8 * n.val + (t.val - 504) := by omega
    have e2 : (32 * n.val + (t.val - 504) * 4 + 2 * j.val + h.val) % 4 = 2 * j.val + h.val := by omega
    simp only [e1, e2]

/-- The kernel and the reference give equal results. -/
theorem algebraic : @Cert.algebraic_WinSampleIdeal_WinSampleReferenceIdeal Cert.WinSampleIdeal.Gen.facts Cert.WinSampleReferenceIdeal.Gen.facts := by
  intro m g m' g' _ hagree
  refine ⟨fun c => (dats m 0 c).arrAt 4 cfg0.N, fun c => Pipeline.afterTail₀ cfgs (dats m) 0 (V0 m) [hostOps1] c main_v19,
    (θ_run defs _ _).mono (fun r h c => ⟨(h.1 c).1 4, (h.1 c).2 main_v19 (Pipeline.mem_restRefs_of main_v19 (by decide) (by decide)),
      ((h.1 c).1 0).trans (((dats m 0 c).arrAt_in 0 rfl _).trans ((entry_eq m c 0).trans (V_main_arg0 m c))),
      ((h.1 c).1 1).trans (((dats m 0 c).arrAt_in 1 rfl _).trans ((entry_eq m c 1).trans (V_main_arg1 m c))),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c)⟩) (ends m g), ?_⟩
  refine (θ_run _ _ _).mono (fun r h c => ?_) (Cert.WinSampleReferenceIdeal.Value.run m' g')
  obtain ⟨h1, h2, k⟩ := h c
  obtain ⟨a0, a1, a2, a3⟩ := hagree c
  refine ⟨h1.trans ?_, h2.trans ?_, k⟩
  · refine (Cert.WinSampleReferenceIdeal.Read.val_main_v29_eq _ _ _).trans ?_
    rw [a0, a1, a2]
    funext i
    rw [eq_ix2 i]
    exact (Cert.WinSampleReferenceIdeal.Rows.cols_eq _ _ _ (i 0) (i 1)).trans (cols_array m c (i 0) (i 1)).symm
  · refine (Cert.WinSampleReferenceIdeal.Read.val_main_v35_eq _ _ _ _).trans ?_
    rw [a0, a1, a2, a3]
    funext i
    rw [eq_ix5 i]
    exact (Cert.WinSampleReferenceIdeal.Rows.buf_eq _ _ _ _ (i 0) (i 1) (i 2) (i 3) (i 4)).trans
      (returned_buf m c (i 0) (i 1) (i 2) (i 3) (i 4)).symm

/-- The reference's run leaves the arguments unchanged and the machine quiet. -/
theorem frame_reference : @Cert.quiescent_WinSampleReferenceIdeal Cert.WinSampleReferenceIdeal.Gen.facts := by
  intro m g _
  exact (θ_run Cert.WinSampleReferenceIdeal.defs _ _).mono (fun r h => ⟨fun c => (h c).2.2, sem_eq_zero_of_no_sems (by decide) r.2⟩)
    (Cert.WinSampleReferenceIdeal.Value.run m g)

end Cert.WinSampleIdeal.Rows
-- ==== Proof.WinIdealSteps.lean ====
module

public import proofs.«01_k».proof.Proof.Gen.WinIdeal.Frame
public import proofs.«01_k».proof.Proof.Gen.WinIdeal.Skeleton
public import Idealize.ShloMosaic.Lib.Claim

@[expose] public section

set_option maxRecDepth 16384

noncomputable section

namespace Cert.WinIdeal.Rows

open Cert.WinIdeal Cert.WinIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! The frame of the projection of the window keys and values of the prompt batch. One step of the call stores 4 blocks of 128 columns side by
side in its first result block, and the same 4 blocks in its second one, block `k` in the rows `4 r + k`. -/

set_option maxHeartbeats 1000000 in
/-- The stores of one step into its two result blocks, found by running the body from blocks holding `u`, `w`, `g` and `f`; these
    are left as they were. -/
def step (c : Dev nD) (i : grid0.Coords) (a0 : Memref sig .tc .vmem S1024x2048 .bf16) (h0 : a0.IsWhole) (a1 : Memref sig .tc .vmem S1x512x2048 .bf16) (h1 : a1.IsWhole) (a2 : Memref sig .tc .vmem S1x512 .f32) (h2 : a2.IsWhole) (a3 : Memref sig .tc .vmem S1x512 .f32) (h3 : a3.IsWhole) (a4 : Memref sig .tc .vmem S1024x512 .f32) (h4 : a4.IsWhole) (a5 : Memref sig .tc .vmem S1x4096x128 .f32) (h5 : a5.IsWhole)
    (u : Vec F S1024x2048 .bf16) (w : Vec F S1x512x2048 .bf16) (g : Vec F S1x512 .f32) (f : Vec F S1x512 .f32) :
    { L : List (View.Piece (Elt F) S1024x512 .f32) × List (View.Piece (Elt F) S1x4096x128 .f32) //
      ∀ (E : Set ℕ) (K : PUnit → sProp 𝕄),
        iprop(owns (c : Thread nD τ) a0 fullShare u ∗ owns (c : Thread nD τ) a1 fullShare w ∗ owns (c : Thread nD τ) a2 fullShare g ∗ owns (c : Thread nD τ) a3 fullShare f
            ∗ (∃ d, owns (c : Thread nD τ) a4 fullShare d) ∗ (∃ d, owns (c : Thread nD τ) a5 fullShare d)
            ∗ (iprop(owns (c : Thread nD τ) a0 fullShare u ∗ owns (c : Thread nD τ) a1 fullShare w ∗ owns (c : Thread nD τ) a2 fullShare g ∗ owns (c : Thread nD τ) a3 fullShare f
                ∗ (∃ b, a4.view.loc (c : Thread nD τ) ↦[a4.view.set]{fullShare} a4.view.writes (Elt F) b L.1)
                ∗ (∃ b, a5.view.loc (c : Thread nD τ) ↦[a5.view.set]{fullShare} a5.view.writes (Elt F) b L.2)) -∗ K ⟨⟩))
          ⊢ wp frame (wpE (defs₀ (F := F)) Variants.none c none) E (cc0_proj_win i a0 h0 a1 h1 a2 h2 a3 h3 a4 h4 a5 h5) K } := by
  refine ⟨(?_, ?_), fun E K => ?body⟩
  case body =>
    simp only [cc0_proj_win_eq_skeleton]
    unfold cc0_proj_win_skel
    simp only [k0_part1_eq_skeleton, k0_part2_eq_skeleton]
    unfold owns
    iintro ⟨⟨%b0, %e0, H0⟩, ⟨%b1, %e1, H1⟩, ⟨%b2, %e2, H2⟩, ⟨%b3, %e3, H3⟩, ⟨%d4, %b4, -, H4⟩, ⟨%d5, %b5, -, H5⟩, Hk⟩
    obtain rfl := h0.eq_unread e0
    obtain rfl := h1.eq_unread e1
    obtain rfl := h2.eq_unread e2
    obtain rfl := h3.eq_unread e3
    sl_exec
    sl_step
    iapply Hk
    isplitl [H0]
    · iexists _
      isplitr
      · ipureintro; exact h0.read_unread _
      iexact H0
    isplitl [H1]
    · iexists _
      isplitr
      · ipureintro; exact h1.read_unread _
      iexact H1
    isplitl [H2]
    · iexists _
      isplitr
      · ipureintro; exact h2.read_unread _
      iexact H2
    isplitl [H3]
    · iexists _
      isplitr
      · ipureintro; exact h3.read_unread _
      iexact H3
    isplitl [H4]
    · iexists _
      iexact H4
    iexists _
    iexact H5

/-- Every element of the first result block is stored. -/
theorem covers (c : Dev nD) (i : grid0.Coords) (a0 : Memref sig .tc .vmem S1024x2048 .bf16) (h0 : a0.IsWhole) (a1 : Memref sig .tc .vmem S1x512x2048 .bf16) (h1 : a1.IsWhole) (a2 : Memref sig .tc .vmem S1x512 .f32) (h2 : a2.IsWhole) (a3 : Memref sig .tc .vmem S1x512 .f32) (h3 : a3.IsWhole) (a4 : Memref sig .tc .vmem S1024x512 .f32) (h4 : a4.IsWhole) (a5 : Memref sig .tc .vmem S1x4096x128 .f32) (h5 : a5.IsWhole)
    (u : Vec F S1024x2048 .bf16) (w : Vec F S1x512x2048 .bf16) (g : Vec F S1x512 .f32) (f : Vec F S1x512 .f32) (y : S1024x512.Idx) :
    ∃ p ∈ (step c i a0 h0 a1 h1 a2 h2 a3 h3 a4 h4 a5 h5 u w g f).1.1, y ∈ p.1.set :=
  View.cover_of_tiledL (step c i a0 h0 a1 h1 a2 h2 a3 h3 a4 h4 a5 h5 u w g f).1.1 S1024x128.size (by sl_kernel_rfl) y

/-- An element of the second result block lies in the rows that leave its row's remainder by 4. -/
theorem mem_rows (k : ℕ) (off : Fin 3 → ℕ) (h0 : off 0 = 0) (h1 : off 1 = k) (h2 : off 2 = 0)
    (inb : ∀ a, S1x1024x128.size a = 0 ∨ off a + (![1, 4, 1] : Fin 3 → ℕ) a * (S1x1024x128.size a - 1) < S1x4096x128.size a)
    (pos : ∀ a, 0 < (![1, 4, 1] : Fin 3 → ℕ) a) (y : S1x4096x128.Idx) (hy : (y 1).val % 4 = k) :
    y ∈ (⟨⟨off, S1x1024x128.size, ![1, 4, 1], inb⟩, pos⟩ : Rect S1x4096x128).set := by
  rw [LoadRect.mem_set]
  intro a
  match a with
  | ⟨0, _⟩ =>
    have l : (y 0).val < 1 := (y 0).isLt
    exact ⟨0, Nat.one_pos, show (y 0).val = off 0 + 1 * 0 by omega⟩
  | ⟨1, _⟩ =>
    have l : (y 1).val < 4096 := (y 1).isLt
    exact ⟨(y 1).val / 4, show (y 1).val / 4 < 1024 by omega, show (y 1).val = off 1 + 4 * ((y 1).val / 4) by omega⟩
  | ⟨2, _⟩ => exact ⟨(y 2).val, (y 2).isLt, show (y 2).val = off 2 + 1 * (y 2).val by omega⟩

/-- Every element of the second result block is stored. -/
theorem covers_rows (c : Dev nD) (i : grid0.Coords) (a0 : Memref sig .tc .vmem S1024x2048 .bf16) (h0 : a0.IsWhole) (a1 : Memref sig .tc .vmem S1x512x2048 .bf16) (h1 : a1.IsWhole) (a2 : Memref sig .tc .vmem S1x512 .f32) (h2 : a2.IsWhole) (a3 : Memref sig .tc .vmem S1x512 .f32) (h3 : a3.IsWhole) (a4 : Memref sig .tc .vmem S1024x512 .f32) (h4 : a4.IsWhole) (a5 : Memref sig .tc .vmem S1x4096x128 .f32) (h5 : a5.IsWhole)
    (u : Vec F S1024x2048 .bf16) (w : Vec F S1x512x2048 .bf16) (g : Vec F S1x512 .f32) (f : Vec F S1x512 .f32) (y : S1x4096x128.Idx) :
    ∃ p ∈ (step c i a0 h0 a1 h1 a2 h2 a3 h3 a4 h4 a5 h5 u w g f).1.2, y ∈ p.1.set := by
  unfold step
  dsimp only
  sl_unfold_run_names
  have hk : (y 1).val % 4 = 0 ∨ (y 1).val % 4 = 1 ∨ (y 1).val % 4 = 2 ∨ (y 1).val % 4 = 3 := by omega
  rcases hk with hk | hk | hk | hk
  · exact ⟨_, (List.mem_cons_of_mem _ (List.mem_cons_of_mem _ (List.mem_cons_of_mem _ List.mem_cons_self))), mem_rows 0 _ rfl rfl rfl _ _ y hk⟩
  · exact ⟨_, (List.mem_cons_of_mem _ (List.mem_cons_of_mem _ List.mem_cons_self)), mem_rows 1 _ rfl rfl rfl _ _ y hk⟩
  · exact ⟨_, (List.mem_cons_of_mem _ List.mem_cons_self), mem_rows 2 _ rfl rfl rfl _ _ y hk⟩
  · exact ⟨_, List.mem_cons_self, mem_rows 3 _ rfl rfl rfl _ _ y hk⟩

/-- What a step leaves in the first result block. -/
def cols (c : Dev nD) (i : grid0.Coords) (a0 : Memref sig .tc .vmem S1024x2048 .bf16) (h0 : a0.IsWhole) (a1 : Memref sig .tc .vmem S1x512x2048 .bf16) (h1 : a1.IsWhole) (a2 : Memref sig .tc .vmem S1x512 .f32) (h2 : a2.IsWhole) (a3 : Memref sig .tc .vmem S1x512 .f32) (h3 : a3.IsWhole) (a4 : Memref sig .tc .vmem S1024x512 .f32) (h4 : a4.IsWhole) (a5 : Memref sig .tc .vmem S1x4096x128 .f32) (h5 : a5.IsWhole)
    (u : Vec F S1024x2048 .bf16) (w : Vec F S1x512x2048 .bf16) (g : Vec F S1x512 .f32) (f : Vec F S1x512 .f32) : Vec F S1024x512 .f32 :=
  View.canon (step c i a0 h0 a1 h1 a2 h2 a3 h3 a4 h4 a5 h5 u w g f).1.1

/-- What a step leaves in the second result block. -/
def rows (c : Dev nD) (i : grid0.Coords) (a0 : Memref sig .tc .vmem S1024x2048 .bf16) (h0 : a0.IsWhole) (a1 : Memref sig .tc .vmem S1x512x2048 .bf16) (h1 : a1.IsWhole) (a2 : Memref sig .tc .vmem S1x512 .f32) (h2 : a2.IsWhole) (a3 : Memref sig .tc .vmem S1x512 .f32) (h3 : a3.IsWhole) (a4 : Memref sig .tc .vmem S1024x512 .f32) (h4 : a4.IsWhole) (a5 : Memref sig .tc .vmem S1x4096x128 .f32) (h5 : a5.IsWhole)
    (u : Vec F S1024x2048 .bf16) (w : Vec F S1x512x2048 .bf16) (g : Vec F S1x512 .f32) (f : Vec F S1x512 .f32) : Vec F S1x4096x128 .f32 :=
  View.canon (step c i a0 h0 a1 h1 a2 h2 a3 h3 a4 h4 a5 h5 u w g f).1.2

variable (m : (ℓ : Loc nD τ sig) → Buf (Elt F) ℓ) (ρ : Dev nD → PrngReg)

/-- The buffer of window 0 at a point. -/
abbrev B0 (t : Fin cfg0.N) : Memref sig .tc .vmem S1024x2048 .bf16 := win0_0.stage (cfg0.slots t 0)
/-- It is a whole buffer. -/
abbrev hB0 (t : Fin cfg0.N) : (B0 t).IsWhole := hstage0_0 ((cfg0.slots t 0).cast nbuf0_0)
/-- The buffer of window 1 at a point. -/
abbrev B1 (t : Fin cfg0.N) : Memref sig .tc .vmem S1x512x2048 .bf16 := win0_1.stage (cfg0.slots t 1)
/-- It is a whole buffer. -/
abbrev hB1 (t : Fin cfg0.N) : (B1 t).IsWhole := hstage0_1 ((cfg0.slots t 1).cast nbuf0_1)
/-- The buffer of window 2 at a point. -/
abbrev B2 (t : Fin cfg0.N) : Memref sig .tc .vmem S1x512 .f32 := win0_2.stage (cfg0.slots t 2)
/-- It is a whole buffer. -/
abbrev hB2 (t : Fin cfg0.N) : (B2 t).IsWhole := hstage0_2 ((cfg0.slots t 2).cast nbuf0_2)
/-- The buffer of window 3 at a point. -/
abbrev B3 (t : Fin cfg0.N) : Memref sig .tc .vmem S1x512 .f32 := win0_3.stage (cfg0.slots t 3)
/-- It is a whole buffer. -/
abbrev hB3 (t : Fin cfg0.N) : (B3 t).IsWhole := hstage0_3 ((cfg0.slots t 3).cast nbuf0_3)
/-- The buffer of window 4 at a point. -/
abbrev B4 (t : Fin cfg0.N) : Memref sig .tc .vmem S1024x512 .f32 := win0_4.stage (cfg0.slots t 4)
/-- It is a whole buffer. -/
abbrev hB4 (t : Fin cfg0.N) : (B4 t).IsWhole := hstage0_4 ((cfg0.slots t 4).cast nbuf0_4)
/-- The buffer of window 5 at a point. -/
abbrev B5 (t : Fin cfg0.N) : Memref sig .tc .vmem S1x4096x128 .f32 := win0_5.stage (cfg0.slots t 5)
/-- It is a whole buffer. -/
abbrev hB5 (t : Fin cfg0.N) : (B5 t).IsWhole := hstage0_5 ((cfg0.slots t 5).cast nbuf0_5)

/-- What point `t` leaves in the first result block. -/
def colsAt (c : Dev nD) (t : Fin cfg0.N) : Vec F S1024x512 .f32 :=
  cols c (grid0.coords t) (B0 t) (hB0 t) (B1 t) (hB1 t) (B2 t) (hB2 t) (B3 t) (hB3 t) (B4 t) (hB4 t) (B5 t) (hB5 t)
    (iblk m c 0 t) (X0_1 m c t) (iblk m c 2 t) (iblk m c 3 t)

/-- What point `t` leaves in the second result block. -/
def rowsAt (c : Dev nD) (t : Fin cfg0.N) : Vec F S1x4096x128 .f32 :=
  rows c (grid0.coords t) (B0 t) (hB0 t) (B1 t) (hB1 t) (B2 t) (hB2 t) (B3 t) (hB3 t) (B4 t) (hB4 t) (B5 t) (hB5 t)
    (iblk m c 0 t) (X0_1 m c t) (iblk m c 2 t) (iblk m c 3 t)

/-- The proof data: the arrays as the call finds them; after a point the operands' blocks as fetched, the result blocks as
    its stores leave them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => colsAt m c t
    | ⟨5, _⟩ => rowsAt m c t
  Φ _ := Pipeline.ΦA spec0 c
  q _ := fullShare
  owed _ := 0

/-- The arrays before the call. -/
theorem entry_eq (c : Dev nD) (w : Fin cfg0.W) : (dats m 0 c).A w = V m c (Pipeline.arrRef spec0 w) := by dsimp only [dats]
/-- Window 0's block after a point. -/
theorem left0 (c : Dev nD) (t : Fin cfg0.N) : (dats m 0 c).after 0 t = iblk m c 0 t := by dsimp only [dats]
/-- Window 1's block after a point. -/
theorem left1 (c : Dev nD) (t : Fin cfg0.N) : (dats m 0 c).after 1 t = X0_1 m c t := by dsimp only [dats]
/-- Window 2's block after a point. -/
theorem left2 (c : Dev nD) (t : Fin cfg0.N) : (dats m 0 c).after 2 t = iblk m c 2 t := by dsimp only [dats]
/-- Window 3's block after a point. -/
theorem left3 (c : Dev nD) (t : Fin cfg0.N) : (dats m 0 c).after 3 t = iblk m c 3 t := by dsimp only [dats]
/-- Window 4's block after a point. -/
theorem left4 (c : Dev nD) (t : Fin cfg0.N) : (dats m 0 c).after 4 t = colsAt m c t := by dsimp only [dats]
/-- Window 5's block after a point. -/
theorem left5 (c : Dev nD) (t : Fin cfg0.N) : (dats m 0 c).after 5 t = rowsAt m c t := by dsimp only [dats]
/-- Window 0's block before a point. -/
theorem held0 (c : Dev nD) (t : Fin cfg0.N) (d) : (dats m 0 c).before 0 t d = iblk m c 0 t :=
  before0_0_of m (dats m 0 c) (entry_eq m c 0) (left0 m c) t d
/-- Window 1's block before a point. -/
theorem held1 (c : Dev nD) (t : Fin cfg0.N) (d) : (dats m 0 c).before 1 t d = X0_1 m c t :=
  before0_1_of m (dats m 0 c) (entry_eq m c 1) (left1 m c) t d
/-- Window 2's block before a point. -/
theorem held2 (c : Dev nD) (t : Fin cfg0.N) (d) : (dats m 0 c).before 2 t d = iblk m c 2 t :=
  before0_2_of m (dats m 0 c) (entry_eq m c 2) (left2 m c) t d
/-- Window 3's block before a point. -/
theorem held3 (c : Dev nD) (t : Fin cfg0.N) (d) : (dats m 0 c).before 3 t d = iblk m c 3 t :=
  before0_3_of m (dats m 0 c) (entry_eq m c 3) (left3 m c) t d

/-- What a point's body starts from. -/
def given (c : Dev nD) (t : Fin cfg0.N) : sProp 𝕄 :=
  iprop((dats m 0 c).Φ t.castSucc ∗ (dats m 0 c).owesAt () t.castSucc
    ∗ (∃ d, owns (c : Thread nD τ) (B0 t) fullShare ((dats m 0 c).before 0 t d))
    ∗ (∃ d, owns (c : Thread nD τ) (B1 t) fullShare ((dats m 0 c).before 1 t d))
    ∗ (∃ d, owns (c : Thread nD τ) (B2 t) fullShare ((dats m 0 c).before 2 t d))
    ∗ (∃ d, owns (c : Thread nD τ) (B3 t) fullShare ((dats m 0 c).before 3 t d))
    ∗ (∃ d, owns (c : Thread nD τ) (B4 t) fullShare ((dats m 0 c).before 4 t d))
    ∗ (∃ d, owns (c : Thread nD τ) (B5 t) fullShare ((dats m 0 c).before 5 t d)))

/-- What it ends with. -/
def returned (c : Dev nD) (t : Fin cfg0.N) : sProp 𝕄 :=
  iprop((dats m 0 c).Φ t.succ ∗ (dats m 0 c).owesAt () t.succ
    ∗ owns (c : Thread nD τ) (B0 t) fullShare ((dats m 0 c).after 0 t)
    ∗ owns (c : Thread nD τ) (B1 t) fullShare ((dats m 0 c).after 1 t)
    ∗ owns (c : Thread nD τ) (B2 t) fullShare ((dats m 0 c).after 2 t)
    ∗ owns (c : Thread nD τ) (B3 t) fullShare ((dats m 0 c).after 3 t)
    ∗ owns (c : Thread nD τ) (B4 t) fullShare ((dats m 0 c).after 4 t)
    ∗ owns (c : Thread nD τ) (B5 t) fullShare ((dats m 0 c).after 5 t))

/-- A point's body runs from the one to the other. -/
theorem body_runs (c : Dev nD) (t : Fin cfg0.N) :
    given m c t ⊢ wp frame (wpE (defs₀ (F := F)) Variants.none c none) Set.univ (bodyAt0 t) (fun _ => returned m c t) := by
  unfold given returned bodyAt0
  simp only [held0, held1, held2, held3]
  rw [show (dats m 0 c).Φ t.succ = (dats m 0 c).Φ t.castSucc from rfl,
    show (dats m 0 c).owesAt () t.succ = (dats m 0 c).owesAt () t.castSucc from rfl, left0, left1, left2, left3, left4, left5]
  unfold colsAt rowsAt cols rows
  rw [← View.read_writes_junk_eq_canon (Memref.whole cc0_stg4_0 : Memref sig .tc .vmem S1024x512 .f32).view,
    ← View.read_writes_junk_eq_canon (Memref.whole cc0_stg5_0 : Memref sig .tc .vmem S1x4096x128 .f32).view]
  iintro ⟨HΦ, Ho, ⟨%d0, H0⟩, ⟨%d1, H1⟩, ⟨%d2, H2⟩, ⟨%d3, H3⟩, ⟨%d4, H4⟩, ⟨%d5, H5⟩⟩
  iapply ((step c (grid0.coords t) (B0 t) (hB0 t) (B1 t) (hB1 t) (B2 t) (hB2 t) (B3 t) (hB3 t) (B4 t) (hB4 t) (B5 t) (hB5 t)
    (iblk m c 0 t) (X0_1 m c t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, ⟨%f4, H4⟩, ⟨%f5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (covers c _ _ _ _ _ _ _ _ _ _ _ _ _ _ _ _ _)
  unfold owns; iexists _; isplitr
  swap; · iexact H5
  ipureintro; exact View.read_writes_of_cover _ _ _ _ _ (covers_rows c _ _ _ _ _ _ _ _ _ _ _ _ _ _ _ _ _)

/-- The call's body at a point is this body. -/
theorem body_row (t : Fin cfg0.N) : defs₀ (F := F) .tc cfg0.body (cfg0.bodyArgs t (cfg0.slots t)) = bodyAt0 t := by
  unfold defs₀; rw [Defs.onTc_tc]

/-- Every point's body does what the pipeline asks of it. -/
theorem obligation (c : Dev nD) : BodyObligation (dats (F := F) m 0 c) (defs₀ (F := F)) Variants.none () Set.univ := fun t => by
  rw [bigSep_W0, bigSep_W0, body_row]
  exact triple_restated (body_runs m c t) rfl .rfl fun _ => .rfl

set_option backward.isDefEq.respectTransparency.types false in
/-- The program ends, its arrays as the proof data say and the other buffers as the host's lines leave them, and the machine quiet. -/
theorem ends : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := entry_eq m) (hΦ := fun _ _ => rfl)

/-- The program leaves its arguments unchanged. -/
theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (entry_eq m) ((θ_run defs _ _).mono (fun _ h => h.1) (ends m ρ))

/-- And it ends with the machine quiet. -/
theorem whole : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (kept m ρ) ((θ_run defs _ _).mono (fun _ h => h.2) (ends m ρ))

end Cert.WinIdeal.Rows

end
-- ==== Proof.WinIdealPays.lean ====
module

public import proofs.«01_k».proof.Proof.KvSpec
public import proofs.«01_k».proof.Proof.WinIdealSteps
public import Idealize.ShloMosaic.Lib.Pointwise

@[expose] public section

set_option maxRecDepth 16384

noncomputable section

open Idealize.ShloMosaic Idealize.ShloMosaic.TcCoe Idealize.ShloMosaic.Tactic

namespace Cert.WinIdeal.Rows

open Cert.WinIdeal Cert.WinIdeal.Gen Cert.Layer.Ret Cert.Layer.Rows

/-- A block's product at a row and a column. -/
def part (a : Vec Ideal S1024x2048 .bf16) (b : Vec Ideal S1x512x2048 .bf16) (r : Fin 1024) (x : Fin 512) : EReal :=
  ∑ k : Fin 2048, a (ix2 r k) * b (ix3 0 x k)

/-- A column of a head, among the block's columns. -/
def col (s : Fin 4) (e : Fin 128) : Fin 512 := ⟨128 * s.val + e.val, by omega⟩

/-- What a point stores for head 0, at an element, the flag being one. -/
theorem pay0 (a : Vec Ideal S1024x2048 .bf16) (b : Vec Ideal S1x512x2048 .bf16) (g f : Vec Ideal S1x128 .f32) (r : Fin 1024) (e : Fin 128)
    (hf : f (ix2 0 e) = 1) : k0_pay6 (F := Ideal) a b g f (ix2 r e)
      = part a b r (col 0 e) * scale128 (fun x => part a b r (col 0 x)) * g (ix2 0 e) := by
  have hc : ∀ x, col 0 x = ⟨x.val, by omega⟩ := fun x => Fin.ext (by show 128 * 0 + x.val = x.val; omega)
  simp only [hc]
  unfold part scale128
  pointwise [k0_pay6, k0_pay5]
  rw [hf, if_pos half_lt_one]

/-- The same head's rows hold the same. -/
theorem pay_row0 (a : Vec Ideal S1024x2048 .bf16) (b : Vec Ideal S1x512x2048 .bf16) (g f : Vec Ideal S1x128 .f32) (r : Fin 1024) (e : Fin 128) :
    k0_pay7 (F := Ideal) a b g f (ix3 0 r e) = k0_pay6 (F := Ideal) a b g f (ix2 r e) := by
  pointwise [k0_pay7]

/-- What a point stores for head 1, at an element, the flag being one. -/
theorem pay1 (a : Vec Ideal S1024x2048 .bf16) (b : Vec Ideal S1x512x2048 .bf16) (g f : Vec Ideal S1x128 .f32) (r : Fin 1024) (e : Fin 128)
    (hf : f (ix2 0 e) = 1) : k0_pay11 (F := Ideal) (k0_pay8 a b) (k0_pay9 a b) k0_pay10 g f (ix2 r e)
      = part a b r (col 1 e) * scale128 (fun x => part a b r (col 1 x)) * g (ix2 0 e) := by
  have hc : ∀ x, col 1 x = ⟨128 + x.val, by omega⟩ := fun x => Fin.ext (by show 128 * 1 + x.val = 128 + x.val; omega)
  simp only [hc]
  unfold part scale128
  pointwise [k0_pay11, k0_pay8, k0_pay9, k0_pay10, k0_pay5]
  rw [hf, if_pos half_lt_one]

/-- The same head's rows hold the same. -/
theorem pay_row1 (a : Vec Ideal S1024x2048 .bf16) (b : Vec Ideal S1x512x2048 .bf16) (g f : Vec Ideal S1x128 .f32) (r : Fin 1024) (e : Fin 128) :
    k0_pay12 (F := Ideal) (k0_pay8 a b) (k0_pay9 a b) k0_pay10 g f (ix3 0 r e) = k0_pay11 (F := Ideal) (k0_pay8 a b) (k0_pay9 a b) k0_pay10 g f (ix2 r e) := by
  pointwise [k0_pay12]

/-- What a point stores for head 2, at an element, the flag being zero. -/
theorem pay2 (a : Vec Ideal S1024x2048 .bf16) (b : Vec Ideal S1x512x2048 .bf16) (g f : Vec Ideal S1x128 .f32) (r : Fin 1024) (e : Fin 128)
    (hf : f (ix2 0 e) = 0) : k0_pay1 (F := Ideal) (k0_pay13 (k0_pay5 a b)) (k0_pay14 (k0_pay5 a b) g) (k0_pay15 f) k0_pay16 (ix2 r e)
      = part a b r (col 2 e) := by
  have hc : ∀ x, col 2 x = ⟨256 + x.val, by omega⟩ := fun x => Fin.ext (by show 128 * 2 + x.val = 256 + x.val; omega)
  simp only [hc]
  unfold part
  pointwise [k0_pay1, k0_pay13, k0_pay5, k0_pay14, k0_pay15, k0_pay16]
  rw [hf, if_neg half_not_lt_zero]

/-- The same head's rows hold the same. -/
theorem pay_row2 (a : Vec Ideal S1024x2048 .bf16) (b : Vec Ideal S1x512x2048 .bf16) (g f : Vec Ideal S1x128 .f32) (r : Fin 1024) (e : Fin 128) :
    k0_pay2 (F := Ideal) (k0_pay13 (k0_pay5 a b)) (k0_pay14 (k0_pay5 a b) g) (k0_pay15 f) k0_pay16 (ix3 0 r e) = k0_pay1 (F := Ideal) (k0_pay13 (k0_pay5 a b)) (k0_pay14 (k0_pay5 a b) g) (k0_pay15 f) k0_pay16 (ix2 r e) := by
  pointwise [k0_pay2]

/-- What a point stores for head 3, at an element, the flag being zero. -/
theorem pay3 (a : Vec Ideal S1024x2048 .bf16) (b : Vec Ideal S1x512x2048 .bf16) (g f : Vec Ideal S1x128 .f32) (r : Fin 1024) (e : Fin 128)
    (hf : f (ix2 0 e) = 0) : k0_pay3 (F := Ideal) (k0_pay5 a b) g f (ix2 r e)
      = part a b r (col 3 e) := by
  have hc : ∀ x, col 3 x = ⟨384 + x.val, by omega⟩ := fun x => Fin.ext (by show 128 * 3 + x.val = 384 + x.val; omega)
  simp only [hc]
  unfold part
  pointwise [k0_pay3, k0_pay5]
  rw [hf, if_neg half_not_lt_zero]

/-- The same head's rows hold the same. -/
theorem pay_row3 (a : Vec Ideal S1024x2048 .bf16) (b : Vec Ideal S1x512x2048 .bf16) (g f : Vec Ideal S1x128 .f32) (r : Fin 1024) (e : Fin 128) :
    k0_pay4 (F := Ideal) (k0_pay5 a b) g f (ix3 0 r e) = k0_pay3 (F := Ideal) (k0_pay5 a b) g f (ix2 r e) := by
  pointwise [k0_pay4]

end Cert.WinIdeal.Rows
-- ==== Proof.WinRef.lean ====
module

public import proofs.«01_k».proof.Proof.KvSpec
public import proofs.«01_k».proof.Proof.Gen.WinReferenceIdeal.Run
public import proofs.«01_k».proof.Proof.Gen.WinReferenceIdeal.Read
public import Idealize.ShloMosaic.Lib.Pointwise

@[expose] public section

set_option maxRecDepth 16384

noncomputable section

open Idealize.ShloMosaic Idealize.ShloMosaic.TcCoe Idealize.ShloMosaic.Tactic

namespace Cert.WinReferenceIdeal.Rows

open Cert.WinReferenceIdeal Cert.WinReferenceIdeal.Read Cert.Layer.Ret Cert.Layer.Rows

/-- A head of a slot, among all heads. -/
def headOf (j : Fin 2) (h : Fin 2) : Fin 4 := ⟨2 * j.val + h.val, by omega⟩

/-- The reference's product, by slot and head. -/
theorem prod_eq (u : Vec Ideal S8192x2048 .bf16) (w : Vec Ideal S4x12824x2048 .bf16) (r : Fin 8192) (j : Fin 2) (h : Fin 2) (e : Fin 128) :
    val_main_v6 (F := Ideal) u w (ix4 r j h e) = prodAt u w r (winRow (headOf j h) e) := by
  unfold prodAt winRow headOf
  pointwise [val_main_v0, val_main_v1, val_main_v2, val_main_v3, val_main_v4, val_main_v5, val_main_v6]
  have hi : 128 * (2 * j.val + h.val) + e.val = j.val * 256 + h.val * 128 + e.val := by omega
  simp only [hi]

/-- The reference's normalised heads. -/
theorem normed_eq (u : Vec Ideal S8192x2048 .bf16) (w : Vec Ideal S4x12824x2048 .bf16) (g : Vec Ideal S4x4x128 .f32) (r : Fin 8192) (h : Fin 2) (e : Fin 128) :
    val_main_v23 (F := Ideal) u w g (ix3 r h e) = prodAt u w r (winRow (headOf 0 h) e) * scale128 (fun x => prodAt u w r (winRow (headOf 0 h) x))
      * g (ix3 0 2 e) := by
  unfold scale128
  pointwise [val_main_v7, val_main_v8, val_main_v9, val_main_v10, val_main_v11, val_main_cst, val_main_v12, val_main_v13, val_main_cst_0,
    val_main_v14, val_main_v15, val_main_cst_1, val_main_v16, val_main_v17, val_main_v18, val_main_v19, val_main_v20, val_main_v21,
    val_main_v22, val_main_v23]
  simp only [prod_eq]

/-- The reference's heads of slot 1. -/
theorem plain1_eq (u : Vec Ideal S8192x2048 .bf16) (w : Vec Ideal S4x12824x2048 .bf16) (r : Fin 8192) (h : Fin 2) (e : Fin 128) :
    val_main_v25 (F := Ideal) u w (ix3 r h e) = prodAt u w r (winRow (headOf 1 h) e) := by
  rw [← prod_eq]
  pointwise [val_main_v24, val_main_v25]

/-- The reference's rows, by slot and head. -/
theorem heads_eq (u : Vec Ideal S8192x2048 .bf16) (w : Vec Ideal S4x12824x2048 .bf16) (g : Vec Ideal S4x4x128 .f32) (r : Fin 8192) (j : Fin 2) (h : Fin 2) (e : Fin 128) :
    val_main_v28 (F := Ideal) u w g (ix4 r j h e) = winAt u w g r (headOf j h) e := by
  have hs : (headOf j h).val / 2 = j.val := by show (2 * j.val + h.val) / 2 = j.val; omega
  unfold winAt
  simp only [hs]
  fin_cases j
  · refine Eq.trans ?_ (normed_eq u w g r h e)
    pointwise [val_main_v28, val_main_v26, val_main_v27]
  · refine Eq.trans ?_ (plain1_eq u w r h e)
    pointwise [val_main_v28, val_main_v26, val_main_v27]

/-- The reference's first result. -/
theorem cols_eq (u : Vec Ideal S8192x2048 .bf16) (w : Vec Ideal S4x12824x2048 .bf16) (g : Vec Ideal S4x4x128 .f32) (r : Fin 8192) (x : Fin 512) :
    val_main_v29 (F := Ideal) u w g (ix2 r x) = winAt u w g r ⟨x.val / 128, by omega⟩ ⟨x.val % 128, by omega⟩ := by
  have hh : (⟨x.val / 128, by omega⟩ : Fin 4) = headOf ⟨x.val / 256, by omega⟩ ⟨x.val / 128 % 2, by omega⟩ :=
    Fin.ext (by show x.val / 128 = 2 * (x.val / 256) + x.val / 128 % 2; omega)
  rw [hh, ← heads_eq]
  pointwise [val_main_v29]

/-- The reference's second result. -/
theorem rows_eq (u : Vec Ideal S8192x2048 .bf16) (w : Vec Ideal S4x12824x2048 .bf16) (g : Vec Ideal S4x4x128 .f32) (y : Fin 32768) (e : Fin 128) :
    val_main_v30 (F := Ideal) u w g (ix2 y e) = winAt u w g ⟨y.val / 4, by omega⟩ ⟨y.val % 4, by omega⟩ e := by
  have hh : (⟨y.val % 4, by omega⟩ : Fin 4) = headOf ⟨y.val / 2 % 2, by omega⟩ ⟨y.val % 2, by omega⟩ :=
    Fin.ext (by show y.val % 4 = 2 * (y.val / 2 % 2) + y.val % 2; omega)
  rw [hh, ← heads_eq]
  pointwise [val_main_v30]

end Cert.WinReferenceIdeal.Rows
-- ==== Proof.WinClaim.lean ====
module

public import proofs.«01_k».proof.Defs
public import Idealize.ShloMosaic.Adequacy
public import proofs.«01_k».proof.Proof.WinIdealPays
public import proofs.«01_k».proof.Proof.WinRef
public import Idealize.ShloMosaic.Lib.Claim
public import Idealize.ShloMosaic.Lib.WholeRead
public import Idealize.ShloMosaic.Lib.Pipeline.Value
public import Idealize.ShloMosaic.Lib.Pipeline.ValueKit
public import Idealize.ShloMosaic.Lib.Pipeline.ValueKit.Point
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem Idealize.ShloMosaic.Tactic

namespace Cert.WinIdeal.Rows

open Cert.WinIdeal Cert.WinIdeal.Gen Cert.Layer.Ret Cert.Layer.Rows

/-! The projection of the window keys and values: its result blocks, its result arrays, and its agreement with the reference. -/

/-- Which block of each array a grid point works on. -/
theorem idx : ∀ t : Fin cfg0.N, win0_0.index t = ![t.val, 0] ∧ win0_1.index t = ![0, 4, 0] ∧ win0_2.index t = ![0, 0]
    ∧ win0_3.index t = ![0, 0] ∧ win0_4.index t = ![t.val, 0] ∧ win0_5.index t = ![0, t.val, 0] :=
  (by decide +kernel : ∀ t : Fin grid0.N, _)

/-- The array row that row `r` of a point's block is. -/
def rowOf (t : Fin cfg0.N) (r : Fin 1024) : Fin 8192 := ⟨1024 * t.val + r.val, by have h : cfg0.N = 8 := N_0; have := t.isLt; omega⟩

/-- The row of the second result that row `y` of a point's block is. -/
def lineOf (t : Fin cfg0.N) (y : Fin 4096) : Fin 32768 := ⟨4096 * t.val + y.val, by have h : cfg0.N = 8 := N_0; have := t.isLt; omega⟩

variable (m : (ℓ : Loc nD τ sig) → Buf (Elt Ideal) ℓ)

/-- The input, as an array over the extended reals. -/
abbrev A0 (c : Dev nD) : S8192x2048.Idx → EReal := m ((c : Thread nD τ).loc main_arg0)
/-- The weights, as an array over the extended reals. -/
abbrev A1 (c : Dev nD) : S4x12824x2048.Idx → EReal := m ((c : Thread nD τ).loc main_arg1)
/-- The gains, as an array over the extended reals. -/
abbrev A2 (c : Dev nD) : S4x4x128.Idx → EReal := m ((c : Thread nD τ).loc main_arg2)
/-- The input's block of a point. -/
abbrev U (c : Dev nD) (t : Fin cfg0.N) : S1024x2048.Idx → EReal := iblk m c 0 t
/-- The weights' block of a point. -/
abbrev W (c : Dev nD) (t : Fin cfg0.N) : S1x512x2048.Idx → EReal := X0_1 m c t
/-- The gain's block of a point. -/
abbrev Gn (c : Dev nD) (t : Fin cfg0.N) : S1x512.Idx → EReal := iblk m c 2 t
/-- The flag's block of a point. -/
abbrev Fl (c : Dev nD) (t : Fin cfg0.N) : S1x512.Idx → EReal := iblk m c 3 t
/-- The gain's row, as the kernel's call takes it. -/
abbrev H2 (c : Dev nD) : S1x512.Idx → EReal := V m c main_v7
/-- The flag's row, as the kernel's call takes it. -/
abbrev H3 (c : Dev nD) : S1x512.Idx → EReal := V m c main_v11

/-- The input's block of a point, read from the input. -/
theorem blk_u (c : Dev nD) (t : Fin cfg0.N) (r : Fin 1024) (k : Fin 2048) : U m c t (ix2 r k) = A0 m c (ix2 (rowOf t r) k) := by
  unfold rowOf
  refine Eq.trans ?_ (congrFun (V_main_arg0 m c) _)
  blk_ext [iblk, idx t]

/-- The weights' block of a point at a row of it, read from the weights. -/
theorem blk_w_row (c : Dev nD) (t : Fin cfg0.N) (x : Fin 512) (k : Fin 2048) :
    W m c t (ix3 0 x k) = A1 m c (ix3 0 ⟨2048 + x.val, by omega⟩ k) := by
  unfold W X0_1
  rw [Pipeline.Window.fill, dif_pos (moved0_1 t _)]
  refine Eq.trans ?_ (congrFun (V_main_arg1 m c) _)
  blk_ext [iblk, idx t]

/-- The weights' block of a point, read from the weights. -/
theorem blk_w (c : Dev nD) (t : Fin cfg0.N) (s : Fin 4) (e : Fin 128) (k : Fin 2048) :
    W m c t (ix3 0 (col s e) k) = A1 m c (ix3 0 (winRow s e) k) :=
  blk_w_row m c t (col s e) k

/-- The gain's row at a normalised head's columns. -/
theorem row_gain (c : Dev nD) (x : Fin 512) (hx : x.val / 256 = 0) : H2 m c (ix2 0 x) = A2 m c (ix3 0 2 ⟨x.val % 128, by omega⟩) := by
  unfold H2 V
  after_reads_at
  have := x.isLt
  split_ifs <;> first
    | omega
    | skip
  after_reads_at
  all_goals
    refine congrArg (fun y => A2 m c (ix3 0 2 y)) (Fin.ext ?_)
    dsimp only
    omega

/-- The flag's row at a normalised head's columns. -/
theorem row_flag (c : Dev nD) (x : Fin 512) (hx : x.val / 256 = 0) : H3 m c (ix2 0 x) = 1 := by
  unfold H3 V
  after_reads_at
  all_goals
    have := x.isLt
    split_ifs <;> first
      | omega
      | after_reads_at
      | rfl

/-- The flag's row at the other columns. -/
theorem row_flag_off (c : Dev nD) (x : Fin 512) (hx : x.val / 256 ≠ 0) : H3 m c (ix2 0 x) = 0 := by
  unfold H3 V
  after_reads_at
  all_goals
    have := x.isLt
    split_ifs <;> first
      | omega
      | after_reads_at
      | rfl

/-- The gain's block of a point is the whole row. -/
theorem blk_g (c : Dev nD) (t : Fin cfg0.N) (x : Fin 512) : Gn m c t (ix2 0 x) = H2 m c (ix2 0 x) := by
  unfold H2 Gn iblk
  generalize V m c = X
  blk_ext [idx t]

/-- The flag's block of a point is the whole row. -/
theorem blk_f (c : Dev nD) (t : Fin cfg0.N) (x : Fin 512) : Fl m c t (ix2 0 x) = H3 m c (ix2 0 x) := by
  unfold H3 Fl iblk
  generalize V m c = X
  blk_ext [idx t]

/-- The slot of a column of a head. -/
theorem slot_eq (s : Fin 4) (e : Fin 128) : (col s e).val / 256 = s.val / 2 := by
  show (128 * s.val + e.val) / 256 = s.val / 2
  omega

/-- A load of the whole of the input's block. -/
theorem read_u {B : Memref sig .tc .vmem S1024x2048 .bf16} (hB : B.IsWhole) (x : S1024x2048.Idx → EReal) (r : Fin 1024) (k : Fin 2048) :
    View.readAt (Elt Ideal) B.view (Rect.unit (s := S1024x2048) ![0, 0] S1024x2048.size inb_S1024x2048_S1024x2048_0_0).toLoadRect (hB.unread x) (ix2 r k)
      = x (ix2 r k) := by
  refine (hB.readAt_unread (Val := Elt Ideal) x _ _).trans (congrArg x ?_)
  funext a
  apply Fin.ext
  refine (Rect.idx_unit_val ..).trans ?_
  fin_cases a
  · show 0 + r.val = r.val
    omega
  · show 0 + k.val = k.val
    omega

/-- A load of the whole of the weights' block. -/
theorem read_w {B : Memref sig .tc .vmem S1x512x2048 .bf16} (hB : B.IsWhole) (x : S1x512x2048.Idx → EReal) (e : Fin 512) (k : Fin 2048) :
    View.readAt (Elt Ideal) B.view (Rect.unit (s := S1x512x2048) ![0, 0, 0] S1x512x2048.size inb_S1x512x2048_S1x512x2048_0_0_0).toLoadRect (hB.unread x)
      (ix3 0 e k) = x (ix3 0 e k) := by
  refine (hB.readAt_unread (Val := Elt Ideal) x _ _).trans (congrArg x ?_)
  funext a
  apply Fin.ext
  refine (Rect.idx_unit_val ..).trans ?_
  fin_cases a
  · rfl
  · show 0 + e.val = e.val
    omega
  · show 0 + k.val = k.val
    omega

/-- A load of one head's entries of a row. -/
theorem read_row {B : Memref sig .tc .vmem S1x512 .f32} (hB : B.IsWhole) (x : S1x512.Idx → EReal) (off : Fin 2 → ℕ)
    (inb : ∀ a, off a + S1x128.size a ≤ S1x512.size a) (s : Fin 4) (h0 : off 0 = 0) (h1 : off 1 = 128 * s.val) (e : Fin 128) :
    View.readAt (Elt Ideal) B.view (Rect.unit (s := S1x512) off S1x128.size inb).toLoadRect (hB.unread x) (ix2 0 e)
      = x (ix2 0 (col s e)) := by
  refine (hB.readAt_unread (Val := Elt Ideal) x _ _).trans (congrArg x ?_)
  funext a
  apply Fin.ext
  refine (Rect.idx_unit_val ..).trans ?_
  fin_cases a
  · show off 0 + 0 = 0
    omega
  · show off 1 + e.val = 128 * s.val + e.val
    omega

/-- Where one head's columns are stored in the first result block. -/
theorem place_out (off : Fin 2 → ℕ) (inb : ∀ a, off a + S1024x128.size a ≤ S1024x512.size a) (s : Fin 4)
    (h0 : off 0 = 0) (h1 : off 1 = 128 * s.val) (r : Fin 1024) (e : Fin 128) :
    (Rect.unit (s := S1024x512) off S1024x128.size inb).idx (ix2 r e) = ix2 r (col s e) := by
  funext a
  apply Fin.ext
  refine (Rect.idx_unit_val ..).trans ?_
  fin_cases a
  · show off 0 + r.val = r.val
    omega
  · show off 1 + e.val = 128 * s.val + e.val
    omega

/-- The row of the second result block that holds head `s` of row `r`. -/
def line (r : Fin 1024) (s : Fin 4) : Fin 4096 := ⟨4 * r.val + s.val, by omega⟩

/-- Where one head's columns are stored in the second result block. -/
theorem place_rows (off : Fin 3 → ℕ)
    (inb : ∀ a, S1x1024x128.size a = 0 ∨ off a + (![1, 4, 1] : Fin 3 → ℕ) a * (S1x1024x128.size a - 1) < S1x4096x128.size a)
    (pos : ∀ a, 0 < (![1, 4, 1] : Fin 3 → ℕ) a) (s : Fin 4) (h0 : off 0 = 0) (h1 : off 1 = s.val) (h2 : off 2 = 0) (r : Fin 1024) (e : Fin 128) :
    (⟨⟨off, S1x1024x128.size, ![1, 4, 1], inb⟩, pos⟩ : Rect S1x4096x128).idx (ix3 0 r e) = ix3 0 (line r s) e := by
  funext a
  apply Fin.ext
  match a with
  | ⟨0, _⟩ => exact show off 0 + 1 * 0 = 0 by omega
  | ⟨1, _⟩ => exact show off 1 + 4 * r.val = 4 * r.val + s.val by omega
  | ⟨2, _⟩ => exact show off 2 + 1 * e.val = e.val by omega

/-- A block's product is the projection's product at the block's rows and heads. -/
theorem part_eq (c : Dev nD) (t : Fin cfg0.N) (s : Fin 4) (a : Vec Ideal S1024x2048 .bf16) (b : Vec Ideal S1x512x2048 .bf16)
    (ha : ∀ r k, a (ix2 r k) = U m c t (ix2 r k)) (hb : ∀ e k, b (ix3 0 e k) = W m c t (ix3 0 e k)) (r : Fin 1024) (e : Fin 128) :
    part a b r (col s e) = prodAt (A0 m c) (A1 m c) (rowOf t r) (winRow s e) := by
  unfold part prodAt
  exact Finset.sum_congr rfl fun k _ => congrArg₂ (· * ·) ((ha r k).trans (blk_u m c t r k)) ((hb _ k).trans (blk_w m c t s e k))

/-- A normalised head's element is the projection's. -/
theorem normed_eq (c : Dev nD) (t : Fin cfg0.N) (s : Fin 4) (hs : s.val / 2 = 0) (a : Vec Ideal S1024x2048 .bf16) (b : Vec Ideal S1x512x2048 .bf16)
    (g : Vec Ideal S1x128 .f32) (ha : ∀ r k, a (ix2 r k) = U m c t (ix2 r k)) (hb : ∀ e k, b (ix3 0 e k) = W m c t (ix3 0 e k))
    (hg : ∀ e, g (ix2 0 e) = Gn m c t (ix2 0 (col s e))) (r : Fin 1024) (e : Fin 128) :
    part a b r (col s e) * scale128 (fun x => part a b r (col s x)) * g (ix2 0 e) = winAt (A0 m c) (A1 m c) (A2 m c) (rowOf t r) s e := by
  unfold winAt
  have hd : (⟨(col s e).val % 128, by omega⟩ : Fin 128) = e := Fin.ext (by show (128 * s.val + e.val) % 128 = e.val; omega)
  rw [if_pos hs, funext (part_eq m c t s a b ha hb r), part_eq m c t s a b ha hb r e, hg, blk_g, row_gain m c _ ((slot_eq s e).trans hs), hd]

/-- Another head's element is the projection's. -/
theorem plain_eq (c : Dev nD) (t : Fin cfg0.N) (s : Fin 4) (hs : s.val / 2 ≠ 0) (a : Vec Ideal S1024x2048 .bf16) (b : Vec Ideal S1x512x2048 .bf16)
    (ha : ∀ r k, a (ix2 r k) = U m c t (ix2 r k)) (hb : ∀ e k, b (ix3 0 e k) = W m c t (ix3 0 e k)) (r : Fin 1024) (e : Fin 128) :
    part a b r (col s e) = winAt (A0 m c) (A1 m c) (A2 m c) (rowOf t r) s e := by
  unfold winAt
  rw [if_neg hs, part_eq m c t s a b ha hb r e]

/-- What a point stores for head 0. -/
theorem stored0 (c : Dev nD) (t : Fin cfg0.N) (a : Vec Ideal S1024x2048 .bf16) (b : Vec Ideal S1x512x2048 .bf16) (g f : Vec Ideal S1x128 .f32)
    (ha : ∀ r k, a (ix2 r k) = U m c t (ix2 r k)) (hb : ∀ e k, b (ix3 0 e k) = W m c t (ix3 0 e k))
    (hg : ∀ e, g (ix2 0 e) = Gn m c t (ix2 0 (col 0 e))) (hf : ∀ e, f (ix2 0 e) = Fl m c t (ix2 0 (col 0 e))) (r : Fin 1024) (e : Fin 128) :
    k0_pay6 (F := Ideal) a b g f (ix2 r e) = winAt (A0 m c) (A1 m c) (A2 m c) (rowOf t r) 0 e :=
  (pay0 a b g f r e ((hf e).trans ((blk_f m c t _).trans (row_flag m c _ (slot_eq 0 e))))).trans
    (normed_eq m c t 0 rfl a b g ha hb hg r e)

/-- What a point stores for head 1. -/
theorem stored1 (c : Dev nD) (t : Fin cfg0.N) (a : Vec Ideal S1024x2048 .bf16) (b : Vec Ideal S1x512x2048 .bf16) (g f : Vec Ideal S1x128 .f32)
    (ha : ∀ r k, a (ix2 r k) = U m c t (ix2 r k)) (hb : ∀ e k, b (ix3 0 e k) = W m c t (ix3 0 e k))
    (hg : ∀ e, g (ix2 0 e) = Gn m c t (ix2 0 (col 1 e))) (hf : ∀ e, f (ix2 0 e) = Fl m c t (ix2 0 (col 1 e))) (r : Fin 1024) (e : Fin 128) :
    k0_pay11 (F := Ideal) (k0_pay8 a b) (k0_pay9 a b) k0_pay10 g f (ix2 r e) = winAt (A0 m c) (A1 m c) (A2 m c) (rowOf t r) 1 e :=
  (pay1 a b g f r e ((hf e).trans ((blk_f m c t _).trans (row_flag m c _ (slot_eq 1 e))))).trans
    (normed_eq m c t 1 rfl a b g ha hb hg r e)

/-- What a point stores for head 2. -/
theorem stored2 (c : Dev nD) (t : Fin cfg0.N) (a : Vec Ideal S1024x2048 .bf16) (b : Vec Ideal S1x512x2048 .bf16) (g f : Vec Ideal S1x128 .f32)
    (ha : ∀ r k, a (ix2 r k) = U m c t (ix2 r k)) (hb : ∀ e k, b (ix3 0 e k) = W m c t (ix3 0 e k))
    (_hg : ∀ e, g (ix2 0 e) = Gn m c t (ix2 0 (col 2 e))) (hf : ∀ e, f (ix2 0 e) = Fl m c t (ix2 0 (col 2 e))) (r : Fin 1024) (e : Fin 128) :
    k0_pay1 (F := Ideal) (k0_pay13 (k0_pay5 a b)) (k0_pay14 (k0_pay5 a b) g) (k0_pay15 f) k0_pay16 (ix2 r e) = winAt (A0 m c) (A1 m c) (A2 m c) (rowOf t r) 2 e :=
  (pay2 a b g f r e ((hf e).trans ((blk_f m c t _).trans (row_flag_off m c _ (by rw [slot_eq]; decide))))).trans
    (plain_eq m c t 2 (by decide) a b ha hb r e)

/-- What a point stores for head 3. -/
theorem stored3 (c : Dev nD) (t : Fin cfg0.N) (a : Vec Ideal S1024x2048 .bf16) (b : Vec Ideal S1x512x2048 .bf16) (g f : Vec Ideal S1x128 .f32)
    (ha : ∀ r k, a (ix2 r k) = U m c t (ix2 r k)) (hb : ∀ e k, b (ix3 0 e k) = W m c t (ix3 0 e k))
    (_hg : ∀ e, g (ix2 0 e) = Gn m c t (ix2 0 (col 3 e))) (hf : ∀ e, f (ix2 0 e) = Fl m c t (ix2 0 (col 3 e))) (r : Fin 1024) (e : Fin 128) :
    k0_pay3 (F := Ideal) (k0_pay5 a b) g f (ix2 r e) = winAt (A0 m c) (A1 m c) (A2 m c) (rowOf t r) 3 e :=
  (pay3 a b g f r e ((hf e).trans ((blk_f m c t _).trans (row_flag_off m c _ (by rw [slot_eq]; decide))))).trans
    (plain_eq m c t 3 (by decide) a b ha hb r e)

/-- The first result block of a point, as an array. -/
def colsBlk (c : Dev nD) (t : Fin cfg0.N) (j : S1024x512.Idx) : EReal :=
  winAt (A0 m c) (A1 m c) (A2 m c) (rowOf t (j 0)) ⟨(j 1).val / 128, by have : (j 1).val < 512 := (j 1).isLt; omega⟩ ⟨(j 1).val % 128, by omega⟩

/-- That array at a column of a head. -/
theorem colsBlk_at (c : Dev nD) (t : Fin cfg0.N) (s : Fin 4) (r : Fin 1024) (e : Fin 128) :
    colsBlk m c t (ix2 r (col s e)) = winAt (A0 m c) (A1 m c) (A2 m c) (rowOf t r) s e := by
  have e1 : (128 * s.val + e.val) / 128 = s.val := by omega
  have e2 : (128 * s.val + e.val) % 128 = e.val := by omega
  show winAt (A0 m c) (A1 m c) (A2 m c) (rowOf t r) ⟨(128 * s.val + e.val) / 128, _⟩ ⟨(128 * s.val + e.val) % 128, _⟩ = _
  simp only [e1, e2]

/-- The second result block of a point, as an array. -/
def rowsBlk (c : Dev nD) (t : Fin cfg0.N) (j : S1x4096x128.Idx) : EReal :=
  winAt (A0 m c) (A1 m c) (A2 m c) (rowOf t ⟨(j 1).val / 4, by have : (j 1).val < 4096 := (j 1).isLt; omega⟩) ⟨(j 1).val % 4, by omega⟩ (j 2)

/-- That array at the row of a head. -/
theorem rowsBlk_at (c : Dev nD) (t : Fin cfg0.N) (s : Fin 4) (r : Fin 1024) (e : Fin 128) :
    rowsBlk m c t (ix3 0 (line r s) e) = winAt (A0 m c) (A1 m c) (A2 m c) (rowOf t r) s e := by
  have e1 : (4 * r.val + s.val) / 4 = r.val := by omega
  have e2 : (4 * r.val + s.val) % 4 = s.val := by omega
  show winAt (A0 m c) (A1 m c) (A2 m c) (rowOf t ⟨(4 * r.val + s.val) / 4, _⟩) ⟨(4 * r.val + s.val) % 4, _⟩ e = _
  simp only [e1, e2]

set_option maxHeartbeats 1000000 in
/-- What a point leaves in the first result block. -/
theorem cols_block (c : Dev nD) (t : Fin cfg0.N) (j : S1024x512.Idx) : colsAt m c t j = colsBlk m c t j := by
  unfold colsAt cols
  refine View.canon_apply_of_pieces (Val := Elt Ideal) (colsBlk m c t) _ (fun p hp => ?_) j (covers c _ _ _ _ _ _ _ _ _ _ _ _ _ _ _ _ _ j)
  unfold step at hp
  dsimp only at hp
  revert hp
  sl_unfold_run_names
  intro hp
  simp only [List.mem_cons, List.not_mem_nil, or_false] at hp
  rcases hp with rfl | rfl | rfl | rfl
  · intro x
    obtain ⟨r, e, rfl⟩ : ∃ (r : Fin 1024) (e : Fin 128), x = ix2 r e := ⟨x 0, x 1, eq_ix2 x⟩
    refine Eq.trans ?_ ((colsBlk_at m c t 3 r e).symm.trans (congrArg (colsBlk m c t) (place_out _ inb_S1024x512_S1024x128_0_384 3 rfl rfl r e).symm))
    exact stored3 m c t _ _ _ _ (read_u (hB0 t) _) (read_w (hB1 t) _) (read_row (hB2 t) _ _ _ 3 rfl rfl) (read_row (hB3 t) _ _ _ 3 rfl rfl) r e
  · intro x
    obtain ⟨r, e, rfl⟩ : ∃ (r : Fin 1024) (e : Fin 128), x = ix2 r e := ⟨x 0, x 1, eq_ix2 x⟩
    refine Eq.trans ?_ ((colsBlk_at m c t 2 r e).symm.trans (congrArg (colsBlk m c t) (place_out _ inb_S1024x512_S1024x128_0_256 2 rfl rfl r e).symm))
    exact stored2 m c t _ _ _ _ (read_u (hB0 t) _) (read_w (hB1 t) _) (read_row (hB2 t) _ _ _ 2 rfl rfl) (read_row (hB3 t) _ _ _ 2 rfl rfl) r e
  · intro x
    obtain ⟨r, e, rfl⟩ : ∃ (r : Fin 1024) (e : Fin 128), x = ix2 r e := ⟨x 0, x 1, eq_ix2 x⟩
    refine Eq.trans ?_ ((colsBlk_at m c t 1 r e).symm.trans (congrArg (colsBlk m c t) (place_out _ inb_S1024x512_S1024x128_0_128 1 rfl rfl r e).symm))
    exact stored1 m c t _ _ _ _ (read_u (hB0 t) _) (read_w (hB1 t) _) (read_row (hB2 t) _ _ _ 1 rfl rfl) (read_row (hB3 t) _ _ _ 1 rfl rfl) r e
  · intro x
    obtain ⟨r, e, rfl⟩ : ∃ (r : Fin 1024) (e : Fin 128), x = ix2 r e := ⟨x 0, x 1, eq_ix2 x⟩
    refine Eq.trans ?_ ((colsBlk_at m c t 0 r e).symm.trans (congrArg (colsBlk m c t) (place_out _ inb_S1024x512_S1024x128_0_0 0 rfl rfl r e).symm))
    exact stored0 m c t _ _ _ _ (read_u (hB0 t) _) (read_w (hB1 t) _) (read_row (hB2 t) _ _ _ 0 rfl rfl) (read_row (hB3 t) _ _ _ 0 rfl rfl) r e

set_option maxHeartbeats 1000000 in
/-- What a point leaves in the second result block. -/
theorem rows_block (c : Dev nD) (t : Fin cfg0.N) (j : S1x4096x128.Idx) : rowsAt m c t j = rowsBlk m c t j := by
  unfold rowsAt rows
  refine View.canon_apply_of_pieces (Val := Elt Ideal) (rowsBlk m c t) _ (fun p hp => ?_) j (covers_rows c _ _ _ _ _ _ _ _ _ _ _ _ _ _ _ _ _ j)
  unfold step at hp
  dsimp only at hp
  revert hp
  sl_unfold_run_names
  intro hp
  simp only [List.mem_cons, List.not_mem_nil, or_false] at hp
  rcases hp with rfl | rfl | rfl | rfl
  · intro x
    obtain ⟨z, r, e, rfl⟩ : ∃ (z : Fin 1) (r : Fin 1024) (e : Fin 128), x = ix3 z r e := ⟨x 0, x 1, x 2, eq_ix3 x⟩
    obtain rfl : z = 0 := Subsingleton.elim _ _
    refine (pay_row3 _ _ _ _ r e).trans ?_
    refine Eq.trans ?_ ((rowsBlk_at m c t 3 r e).symm.trans (congrArg (rowsBlk m c t) (place_rows _ _ _ 3 rfl rfl rfl r e).symm))
    exact stored3 m c t _ _ _ _ (read_u (hB0 t) _) (read_w (hB1 t) _) (read_row (hB2 t) _ _ _ 3 rfl rfl) (read_row (hB3 t) _ _ _ 3 rfl rfl) r e
  · intro x
    obtain ⟨z, r, e, rfl⟩ : ∃ (z : Fin 1) (r : Fin 1024) (e : Fin 128), x = ix3 z r e := ⟨x 0, x 1, x 2, eq_ix3 x⟩
    obtain rfl : z = 0 := Subsingleton.elim _ _
    refine (pay_row2 _ _ _ _ r e).trans ?_
    refine Eq.trans ?_ ((rowsBlk_at m c t 2 r e).symm.trans (congrArg (rowsBlk m c t) (place_rows _ _ _ 2 rfl rfl rfl r e).symm))
    exact stored2 m c t _ _ _ _ (read_u (hB0 t) _) (read_w (hB1 t) _) (read_row (hB2 t) _ _ _ 2 rfl rfl) (read_row (hB3 t) _ _ _ 2 rfl rfl) r e
  · intro x
    obtain ⟨z, r, e, rfl⟩ : ∃ (z : Fin 1) (r : Fin 1024) (e : Fin 128), x = ix3 z r e := ⟨x 0, x 1, x 2, eq_ix3 x⟩
    obtain rfl : z = 0 := Subsingleton.elim _ _
    refine (pay_row1 _ _ _ _ r e).trans ?_
    refine Eq.trans ?_ ((rowsBlk_at m c t 1 r e).symm.trans (congrArg (rowsBlk m c t) (place_rows _ _ _ 1 rfl rfl rfl r e).symm))
    exact stored1 m c t _ _ _ _ (read_u (hB0 t) _) (read_w (hB1 t) _) (read_row (hB2 t) _ _ _ 1 rfl rfl) (read_row (hB3 t) _ _ _ 1 rfl rfl) r e
  · intro x
    obtain ⟨z, r, e, rfl⟩ : ∃ (z : Fin 1) (r : Fin 1024) (e : Fin 128), x = ix3 z r e := ⟨x 0, x 1, x 2, eq_ix3 x⟩
    obtain rfl : z = 0 := Subsingleton.elim _ _
    refine (pay_row0 _ _ _ _ r e).trans ?_
    refine Eq.trans ?_ ((rowsBlk_at m c t 0 r e).symm.trans (congrArg (rowsBlk m c t) (place_rows _ _ _ 0 rfl rfl rfl r e).symm))
    exact stored0 m c t _ _ _ _ (read_u (hB0 t) _) (read_w (hB1 t) _) (read_row (hB2 t) _ _ _ 0 rfl rfl) (read_row (hB3 t) _ _ _ 0 rfl rfl) r e

/-- What a point writes back to the first result. -/
theorem written4 (c : Dev nD) (t : Fin cfg0.N) : (dats m 0 c).flushed 4 t = (cfg0.win 4).cut (grid0.coords t) (colsAt m c t) := by
  show (cfg0.win 4).cut (grid0.coords t) ((dats m 0 c).after 4 t) = _
  rw [left4]

/-- Distinct points take distinct blocks of the first result. -/
theorem apart4 : ∀ t t' : Fin cfg0.N, win0_4.index t = win0_4.index t' → t = t' :=
  (by decide +kernel : ∀ t t' : Fin grid0.N, win0_4.index t = win0_4.index t' → t = t')

/-- A point's block of the first result is what it wrote back. -/
theorem lands4 (c : Dev nD) (t : Fin cfg0.N) :
    ((cfg0.win 4).blk t).view.read (Elt Ideal) ((dats m 0 c).arrAt 4 cfg0.N) = (dats m 0 c).flushed 4 t :=
  (dats m 0 c).read_blk_arrAt_eq_flushed 4 (fun t t' _ _ hne => (cfg0.win 4).disjoint_blk fun h => hne (apart4 t t' h)) cfg0.N t t.isLt (flush0_4 t)

/-- What a point writes back to the second result. -/
theorem written5 (c : Dev nD) (t : Fin cfg0.N) : (dats m 0 c).flushed 5 t = (cfg0.win 5).cut (grid0.coords t) (rowsAt m c t) := by
  show (cfg0.win 5).cut (grid0.coords t) ((dats m 0 c).after 5 t) = _
  rw [left5]

/-- Distinct points take distinct blocks of the second result. -/
theorem apart5 : ∀ t t' : Fin cfg0.N, win0_5.index t = win0_5.index t' → t = t' :=
  (by decide +kernel : ∀ t t' : Fin grid0.N, win0_5.index t = win0_5.index t' → t = t')

/-- A point's block of the second result is what it wrote back. -/
theorem lands5 (c : Dev nD) (t : Fin cfg0.N) :
    ((cfg0.win 5).blk t).view.read (Elt Ideal) ((dats m 0 c).arrAt 5 cfg0.N) = (dats m 0 c).flushed 5 t :=
  (dats m 0 c).read_blk_arrAt_eq_flushed 5 (fun t t' _ _ hne => (cfg0.win 5).disjoint_blk fun h => hne (apart5 t t' h)) cfg0.N t t.isLt (flush0_5 t)

/-- A point's block of the first result. -/
theorem cols_final (c : Dev nD) (t : Fin cfg0.N) (r : Fin 1024) (x : Fin 512) :
    (dats m 0 c).arrAt 4 cfg0.N (ix2 (rowOf t r) x) = colsBlk m c t (ix2 r x) := by
  have hb := congrFun (lands4 m c t) (ix2 r x)
  have he : View.read (Elt Ideal) ((cfg0.win 4).blk t).view ((dats m 0 c).arrAt 4 cfg0.N) (ix2 r x)
      = (dats m 0 c).arrAt 4 cfg0.N (ix2 (rowOf t r) x) := by
    unfold rowOf
    blk_ext [idx t]
  rw [he, written4] at hb
  refine hb.trans ((?_ : _ = (colsAt m c t) (ix2 r x)).trans (cols_block m c t _))
  rfl

/-- A point's block of the second result. -/
theorem rows_final (c : Dev nD) (t : Fin cfg0.N) (y : Fin 4096) (e : Fin 128) :
    (dats m 0 c).arrAt 5 cfg0.N (ix3 0 (lineOf t y) e) = rowsBlk m c t (ix3 0 y e) := by
  have hb := congrFun (lands5 m c t) (ix3 0 y e)
  have he : View.read (Elt Ideal) ((cfg0.win 5).blk t).view ((dats m 0 c).arrAt 5 cfg0.N) (ix3 0 y e)
      = (dats m 0 c).arrAt 5 cfg0.N (ix3 0 (lineOf t y) e) := by
    unfold lineOf
    blk_ext [idx t]
  rw [he, written5] at hb
  refine hb.trans ((?_ : _ = (rowsAt m c t) (ix3 0 y e)).trans (rows_block m c t _))
  rfl

/-- The first result array. -/
theorem cols_array (c : Dev nD) (r : Fin 8192) (x : Fin 512) : (dats m 0 c).arrAt 4 cfg0.N (ix2 r x)
    = winAt (A0 m c) (A1 m c) (A2 m c) r ⟨x.val / 128, by omega⟩ ⟨x.val % 128, by omega⟩ := by
  have hN : cfg0.N = 8 := N_0
  obtain ⟨t, ht⟩ : ∃ t : Fin cfg0.N, t.val = r.val / 1024 := ⟨⟨r.val / 1024, by omega⟩, rfl⟩
  have e := cols_final m c t ⟨r.val % 1024, by omega⟩ x
  have hr : rowOf t ⟨r.val % 1024, by omega⟩ = r := Fin.ext (by show 1024 * t.val + r.val % 1024 = r.val; omega)
  rw [hr] at e
  refine e.trans ?_
  show winAt (A0 m c) (A1 m c) (A2 m c) (rowOf t ⟨r.val % 1024, _⟩) ⟨x.val / 128, _⟩ ⟨x.val % 128, _⟩ = _
  rw [hr]

/-- The second result array, in the layer the call fills. -/
theorem rows_array (c : Dev nD) (y : Fin 32768) (e : Fin 128) : (dats m 0 c).arrAt 5 cfg0.N (ix3 0 y e)
    = winAt (A0 m c) (A1 m c) (A2 m c) ⟨y.val / 4, by omega⟩ ⟨y.val % 4, by omega⟩ e := by
  have hN : cfg0.N = 8 := N_0
  obtain ⟨t, ht⟩ : ∃ t : Fin cfg0.N, t.val = y.val / 4096 := ⟨⟨y.val / 4096, by omega⟩, rfl⟩
  have e' := rows_final m c t ⟨y.val % 4096, by omega⟩ e
  have hy : lineOf t ⟨y.val % 4096, by omega⟩ = y := Fin.ext (by show 4096 * t.val + y.val % 4096 = y.val; omega)
  have hr : rowOf t ⟨y.val % 4096 / 4, by omega⟩ = ⟨y.val / 4, by omega⟩ :=
    Fin.ext (by show 1024 * t.val + y.val % 4096 / 4 = y.val / 4; omega)
  have hs : (⟨y.val % 4096 % 4, by omega⟩ : Fin 4) = ⟨y.val % 4, by omega⟩ := Fin.ext (by show y.val % 4096 % 4 = y.val % 4; omega)
  rw [hy] at e'
  refine e'.trans ?_
  show winAt (A0 m c) (A1 m c) (A2 m c) (rowOf t ⟨y.val % 4096 / 4, _⟩) ⟨y.val % 4096 % 4, _⟩ e = _
  rw [hr, hs]

/-- The host's last lines take the filled layer of the second result. -/
theorem tail_eq (X : Valuation τ sig (Elt Ideal)) (y : Fin 32768) (e : Fin 128) :
    (StableHlo.after hostOps1 X (Proc.devRef .tc main_v14) : S32768x128.Idx → EReal) (ix2 y e) = (X (Proc.devRef .tc main_v12_1) : S4x32768x128.Idx → EReal) (ix3 0 y e) := by
  after_reads_at

/-- The second result, as the host returns it. -/
theorem returned_rows (c : Dev nD) (y : Fin 32768) (e : Fin 128) :
    (Pipeline.afterTail₀ cfgs (dats m) 0 (V0 m) [hostOps1] c main_v14 : S32768x128.Idx → EReal) (ix2 y e)
      = winAt (A0 m c) (A1 m c) (A2 m c) ⟨y.val / 4, by omega⟩ ⟨y.val % 4, by omega⟩ e := by
  refine Eq.trans ?_ (rows_array m c y e)
  unfold Pipeline.afterTail₀
  refine (tail_eq _ y e).trans ?_
  exact congrFun (Pipeline.withArrays_arr _ launch0.win.arr_inj c _ _ 5) _

/-- The kernel and the reference give equal results. -/
theorem algebraic : @Cert.algebraic_WinIdeal_WinReferenceIdeal Cert.WinIdeal.Gen.facts Cert.WinReferenceIdeal.Gen.facts := by
  intro m g m' g' _ hagree
  refine ⟨fun c => (dats m 0 c).arrAt 4 cfg0.N, fun c => Pipeline.afterTail₀ cfgs (dats m) 0 (V0 m) [hostOps1] c main_v14,
    (θ_run defs _ _).mono (fun r h c => ⟨(h.1 c).1 4, (h.1 c).2 main_v14 (Pipeline.mem_restRefs_of main_v14 (by decide) (by decide)),
      ((h.1 c).1 0).trans (((dats m 0 c).arrAt_in 0 rfl _).trans ((entry_eq m c 0).trans (V_main_arg0 m c))),
      ((h.1 c).1 1).trans (((dats m 0 c).arrAt_in 1 rfl _).trans ((entry_eq m c 1).trans (V_main_arg1 m c))),
      ((h.1 c).2 main_arg2 (Pipeline.mem_restRefs_of main_arg2 (by decide) (by decide))).trans (W_main_arg2 m (dats m) c)⟩) (ends m g), ?_⟩
  refine (θ_run _ _ _).mono (fun r h c => ?_) (Cert.WinReferenceIdeal.Value.run m' g')
  obtain ⟨h1, h2, k⟩ := h c
  obtain ⟨a0, a1, a2⟩ := hagree c
  refine ⟨h1.trans ?_, h2.trans ?_, k⟩
  · refine (Cert.WinReferenceIdeal.Read.val_main_v29_eq _ _ _).trans ?_
    rw [a0, a1, a2]
    funext i
    rw [eq_ix2 i]
    exact (Cert.WinReferenceIdeal.Rows.cols_eq _ _ _ (i 0) (i 1)).trans (cols_array m c (i 0) (i 1)).symm
  · refine (Cert.WinReferenceIdeal.Read.val_main_v30_eq _ _ _).trans ?_
    rw [a0, a1, a2]
    funext i
    rw [eq_ix2 i]
    exact (Cert.WinReferenceIdeal.Rows.rows_eq _ _ _ (i 0) (i 1)).trans (returned_rows m c (i 0) (i 1)).symm

/-- The reference's run leaves the arguments unchanged and the machine quiet. -/
theorem frame_reference : @Cert.quiescent_WinReferenceIdeal Cert.WinReferenceIdeal.Gen.facts := by
  intro m g _
  exact (θ_run Cert.WinReferenceIdeal.defs _ _).mono (fun r h => ⟨fun c => (h c).2.2, sem_eq_zero_of_no_sems (by decide) r.2⟩)
    (Cert.WinReferenceIdeal.Value.run m g)

end Cert.WinIdeal.Rows
-- ==== Proof.KvSampleIdealSteps.lean ====
module

public import proofs.«01_k».proof.Proof.Gen.KvSampleIdeal.Frame
public import proofs.«01_k».proof.Proof.Gen.KvSampleIdeal.Skeleton
public import Idealize.ShloMosaic.Lib.Claim

@[expose] public section

set_option maxRecDepth 16384

noncomputable section

namespace Cert.KvSampleIdeal.Rows

open Cert.KvSampleIdeal Cert.KvSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! The frame of the projection of the keys and values of the sample batch. One step of the call stores 8 blocks of 128 columns side by
side in its first result block, and the same 8 blocks in its second one, block `k` in the rows `8 r + k`. -/

set_option maxHeartbeats 1000000 in
/-- The stores of one step into its two result blocks, found by running the body from blocks holding `u`, `w`, `g` and `f`; these
    are left as they were. -/
def step (c : Dev nD) (i : grid0.Coords) (a0 : Memref sig .tc .vmem S64x2048 .bf16) (h0 : a0.IsWhole) (a1 : Memref sig .tc .vmem S1x1024x2048 .bf16) (h1 : a1.IsWhole) (a2 : Memref sig .tc .vmem S1x1024 .f32) (h2 : a2.IsWhole) (a3 : Memref sig .tc .vmem S1x1024 .f32) (h3 : a3.IsWhole) (a4 : Memref sig .tc .vmem S64x1024 .f32) (h4 : a4.IsWhole) (a5 : Memref sig .tc .vmem S1x512x128 .f32) (h5 : a5.IsWhole)
    (u : Vec F S64x2048 .bf16) (w : Vec F S1x1024x2048 .bf16) (g : Vec F S1x1024 .f32) (f : Vec F S1x1024 .f32) :
    { L : List (View.Piece (Elt F) S64x1024 .f32) × List (View.Piece (Elt F) S1x512x128 .f32) //
      ∀ (E : Set ℕ) (K : PUnit → sProp 𝕄),
        iprop(owns (c : Thread nD τ) a0 fullShare u ∗ owns (c : Thread nD τ) a1 fullShare w ∗ owns (c : Thread nD τ) a2 fullShare g ∗ owns (c : Thread nD τ) a3 fullShare f
            ∗ (∃ d, owns (c : Thread nD τ) a4 fullShare d) ∗ (∃ d, owns (c : Thread nD τ) a5 fullShare d)
            ∗ (iprop(owns (c : Thread nD τ) a0 fullShare u ∗ owns (c : Thread nD τ) a1 fullShare w ∗ owns (c : Thread nD τ) a2 fullShare g ∗ owns (c : Thread nD τ) a3 fullShare f
                ∗ (∃ b, a4.view.loc (c : Thread nD τ) ↦[a4.view.set]{fullShare} a4.view.writes (Elt F) b L.1)
                ∗ (∃ b, a5.view.loc (c : Thread nD τ) ↦[a5.view.set]{fullShare} a5.view.writes (Elt F) b L.2)) -∗ K ⟨⟩))
          ⊢ wp frame (wpE (defs₀ (F := F)) Variants.none c none) E (cc0_proj_kv i a0 h0 a1 h1 a2 h2 a3 h3 a4 h4 a5 h5) K } := by
  refine ⟨(?_, ?_), fun E K => ?body⟩
  case body =>
    simp only [cc0_proj_kv_eq_skeleton]
    unfold cc0_proj_kv_skel
    simp only [k0_part1_eq_skeleton, k0_part2_eq_skeleton, k0_part3_eq_skeleton, k0_part4_eq_skeleton, k0_part5_eq_skeleton]
    unfold owns
    iintro ⟨⟨%b0, %e0, H0⟩, ⟨%b1, %e1, H1⟩, ⟨%b2, %e2, H2⟩, ⟨%b3, %e3, H3⟩, ⟨%d4, %b4, -, H4⟩, ⟨%d5, %b5, -, H5⟩, Hk⟩
    obtain rfl := h0.eq_unread e0
    obtain rfl := h1.eq_unread e1
    obtain rfl := h2.eq_unread e2
    obtain rfl := h3.eq_unread e3
    sl_exec
    sl_step
    iapply Hk
    isplitl [H0]
    · iexists _
      isplitr
      · ipureintro; exact h0.read_unread _
      iexact H0
    isplitl [H1]
    · iexists _
      isplitr
      · ipureintro; exact h1.read_unread _
      iexact H1
    isplitl [H2]
    · iexists _
      isplitr
      · ipureintro; exact h2.read_unread _
      iexact H2
    isplitl [H3]
    · iexists _
      isplitr
      · ipureintro; exact h3.read_unread _
      iexact H3
    isplitl [H4]
    · iexists _
      iexact H4
    iexists _
    iexact H5

/-- Every element of the first result block is stored. -/
theorem covers (c : Dev nD) (i : grid0.Coords) (a0 : Memref sig .tc .vmem S64x2048 .bf16) (h0 : a0.IsWhole) (a1 : Memref sig .tc .vmem S1x1024x2048 .bf16) (h1 : a1.IsWhole) (a2 : Memref sig .tc .vmem S1x1024 .f32) (h2 : a2.IsWhole) (a3 : Memref sig .tc .vmem S1x1024 .f32) (h3 : a3.IsWhole) (a4 : Memref sig .tc .vmem S64x1024 .f32) (h4 : a4.IsWhole) (a5 : Memref sig .tc .vmem S1x512x128 .f32) (h5 : a5.IsWhole)
    (u : Vec F S64x2048 .bf16) (w : Vec F S1x1024x2048 .bf16) (g : Vec F S1x1024 .f32) (f : Vec F S1x1024 .f32) (y : S64x1024.Idx) :
    ∃ p ∈ (step c i a0 h0 a1 h1 a2 h2 a3 h3 a4 h4 a5 h5 u w g f).1.1, y ∈ p.1.set :=
  View.cover_of_tiledL (step c i a0 h0 a1 h1 a2 h2 a3 h3 a4 h4 a5 h5 u w g f).1.1 S64x128.size (by sl_kernel_rfl) y

/-- An element of the second result block lies in the rows that leave its row's remainder by 8. -/
theorem mem_rows (k : ℕ) (off : Fin 3 → ℕ) (h0 : off 0 = 0) (h1 : off 1 = k) (h2 : off 2 = 0)
    (inb : ∀ a, S1x64x128.size a = 0 ∨ off a + (![1, 8, 1] : Fin 3 → ℕ) a * (S1x64x128.size a - 1) < S1x512x128.size a)
    (pos : ∀ a, 0 < (![1, 8, 1] : Fin 3 → ℕ) a) (y : S1x512x128.Idx) (hy : (y 1).val % 8 = k) :
    y ∈ (⟨⟨off, S1x64x128.size, ![1, 8, 1], inb⟩, pos⟩ : Rect S1x512x128).set := by
  rw [LoadRect.mem_set]
  intro a
  match a with
  | ⟨0, _⟩ =>
    have l : (y 0).val < 1 := (y 0).isLt
    exact ⟨0, Nat.one_pos, show (y 0).val = off 0 + 1 * 0 by omega⟩
  | ⟨1, _⟩ =>
    have l : (y 1).val < 512 := (y 1).isLt
    exact ⟨(y 1).val / 8, show (y 1).val / 8 < 64 by omega, show (y 1).val = off 1 + 8 * ((y 1).val / 8) by omega⟩
  | ⟨2, _⟩ => exact ⟨(y 2).val, (y 2).isLt, show (y 2).val = off 2 + 1 * (y 2).val by omega⟩

/-- Every element of the second result block is stored. -/
theorem covers_rows (c : Dev nD) (i : grid0.Coords) (a0 : Memref sig .tc .vmem S64x2048 .bf16) (h0 : a0.IsWhole) (a1 : Memref sig .tc .vmem S1x1024x2048 .bf16) (h1 : a1.IsWhole) (a2 : Memref sig .tc .vmem S1x1024 .f32) (h2 : a2.IsWhole) (a3 : Memref sig .tc .vmem S1x1024 .f32) (h3 : a3.IsWhole) (a4 : Memref sig .tc .vmem S64x1024 .f32) (h4 : a4.IsWhole) (a5 : Memref sig .tc .vmem S1x512x128 .f32) (h5 : a5.IsWhole)
    (u : Vec F S64x2048 .bf16) (w : Vec F S1x1024x2048 .bf16) (g : Vec F S1x1024 .f32) (f : Vec F S1x1024 .f32) (y : S1x512x128.Idx) :
    ∃ p ∈ (step c i a0 h0 a1 h1 a2 h2 a3 h3 a4 h4 a5 h5 u w g f).1.2, y ∈ p.1.set := by
  unfold step
  dsimp only
  sl_unfold_run_names
  have hk : (y 1).val % 8 = 0 ∨ (y 1).val % 8 = 1 ∨ (y 1).val % 8 = 2 ∨ (y 1).val % 8 = 3 ∨ (y 1).val % 8 = 4 ∨ (y 1).val % 8 = 5 ∨ (y 1).val % 8 = 6 ∨ (y 1).val % 8 = 7 := by omega
  rcases hk with hk | hk | hk | hk | hk | hk | hk | hk
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_rows 0 _ rfl rfl rfl _ _ y hk⟩
  · exact ⟨_, (List.mem_cons_of_mem _ (List.mem_cons_of_mem _ (List.mem_cons_of_mem _ (List.mem_cons_of_mem _ (List.mem_cons_of_mem _ (List.mem_cons_of_mem _ List.mem_cons_self)))))), mem_rows 1 _ rfl rfl rfl _ _ y hk⟩
  · exact ⟨_, (List.mem_cons_of_mem _ (List.mem_cons_of_mem _ (List.mem_cons_of_mem _ (List.mem_cons_of_mem _ (List.mem_cons_of_mem _ List.mem_cons_self))))), mem_rows 2 _ rfl rfl rfl _ _ y hk⟩
  · exact ⟨_, (List.mem_cons_of_mem _ (List.mem_cons_of_mem _ (List.mem_cons_of_mem _ (List.mem_cons_of_mem _ List.mem_cons_self)))), mem_rows 3 _ rfl rfl rfl _ _ y hk⟩
  · exact ⟨_, (List.mem_cons_of_mem _ (List.mem_cons_of_mem _ (List.mem_cons_of_mem _ List.mem_cons_self))), mem_rows 4 _ rfl rfl rfl _ _ y hk⟩
  · exact ⟨_, (List.mem_cons_of_mem _ (List.mem_cons_of_mem _ List.mem_cons_self)), mem_rows 5 _ rfl rfl rfl _ _ y hk⟩
  · exact ⟨_, (List.mem_cons_of_mem _ List.mem_cons_self), mem_rows 6 _ rfl rfl rfl _ _ y hk⟩
  · exact ⟨_, List.mem_cons_self, mem_rows 7 _ rfl rfl rfl _ _ y hk⟩

/-- What a step leaves in the first result block. -/
def cols (c : Dev nD) (i : grid0.Coords) (a0 : Memref sig .tc .vmem S64x2048 .bf16) (h0 : a0.IsWhole) (a1 : Memref sig .tc .vmem S1x1024x2048 .bf16) (h1 : a1.IsWhole) (a2 : Memref sig .tc .vmem S1x1024 .f32) (h2 : a2.IsWhole) (a3 : Memref sig .tc .vmem S1x1024 .f32) (h3 : a3.IsWhole) (a4 : Memref sig .tc .vmem S64x1024 .f32) (h4 : a4.IsWhole) (a5 : Memref sig .tc .vmem S1x512x128 .f32) (h5 : a5.IsWhole)
    (u : Vec F S64x2048 .bf16) (w : Vec F S1x1024x2048 .bf16) (g : Vec F S1x1024 .f32) (f : Vec F S1x1024 .f32) : Vec F S64x1024 .f32 :=
  View.canon (step c i a0 h0 a1 h1 a2 h2 a3 h3 a4 h4 a5 h5 u w g f).1.1

/-- What a step leaves in the second result block. -/
def rows (c : Dev nD) (i : grid0.Coords) (a0 : Memref sig .tc .vmem S64x2048 .bf16) (h0 : a0.IsWhole) (a1 : Memref sig .tc .vmem S1x1024x2048 .bf16) (h1 : a1.IsWhole) (a2 : Memref sig .tc .vmem S1x1024 .f32) (h2 : a2.IsWhole) (a3 : Memref sig .tc .vmem S1x1024 .f32) (h3 : a3.IsWhole) (a4 : Memref sig .tc .vmem S64x1024 .f32) (h4 : a4.IsWhole) (a5 : Memref sig .tc .vmem S1x512x128 .f32) (h5 : a5.IsWhole)
    (u : Vec F S64x2048 .bf16) (w : Vec F S1x1024x2048 .bf16) (g : Vec F S1x1024 .f32) (f : Vec F S1x1024 .f32) : Vec F S1x512x128 .f32 :=
  View.canon (step c i a0 h0 a1 h1 a2 h2 a3 h3 a4 h4 a5 h5 u w g f).1.2

variable (m : (ℓ : Loc nD τ sig) → Buf (Elt F) ℓ) (ρ : Dev nD → PrngReg)

/-- The buffer of window 0 at a point. -/
abbrev B0 (t : Fin cfg0.N) : Memref sig .tc .vmem S64x2048 .bf16 := win0_0.stage (cfg0.slots t 0)
/-- It is a whole buffer. -/
abbrev hB0 (t : Fin cfg0.N) : (B0 t).IsWhole := hstage0_0 ((cfg0.slots t 0).cast nbuf0_0)
/-- The buffer of window 1 at a point. -/
abbrev B1 (t : Fin cfg0.N) : Memref sig .tc .vmem S1x1024x2048 .bf16 := win0_1.stage (cfg0.slots t 1)
/-- It is a whole buffer. -/
abbrev hB1 (t : Fin cfg0.N) : (B1 t).IsWhole := hstage0_1 ((cfg0.slots t 1).cast nbuf0_1)
/-- The buffer of window 2 at a point. -/
abbrev B2 (t : Fin cfg0.N) : Memref sig .tc .vmem S1x1024 .f32 := win0_2.stage (cfg0.slots t 2)
/-- It is a whole buffer. -/
abbrev hB2 (t : Fin cfg0.N) : (B2 t).IsWhole := hstage0_2 ((cfg0.slots t 2).cast nbuf0_2)
/-- The buffer of window 3 at a point. -/
abbrev B3 (t : Fin cfg0.N) : Memref sig .tc .vmem S1x1024 .f32 := win0_3.stage (cfg0.slots t 3)
/-- It is a whole buffer. -/
abbrev hB3 (t : Fin cfg0.N) : (B3 t).IsWhole := hstage0_3 ((cfg0.slots t 3).cast nbuf0_3)
/-- The buffer of window 4 at a point. -/
abbrev B4 (t : Fin cfg0.N) : Memref sig .tc .vmem S64x1024 .f32 := win0_4.stage (cfg0.slots t 4)
/-- It is a whole buffer. -/
abbrev hB4 (t : Fin cfg0.N) : (B4 t).IsWhole := hstage0_4 ((cfg0.slots t 4).cast nbuf0_4)
/-- The buffer of window 5 at a point. -/
abbrev B5 (t : Fin cfg0.N) : Memref sig .tc .vmem S1x512x128 .f32 := win0_5.stage (cfg0.slots t 5)
/-- It is a whole buffer. -/
abbrev hB5 (t : Fin cfg0.N) : (B5 t).IsWhole := hstage0_5 ((cfg0.slots t 5).cast nbuf0_5)

/-- What point `t` leaves in the first result block. -/
def colsAt (c : Dev nD) (t : Fin cfg0.N) : Vec F S64x1024 .f32 :=
  cols c (grid0.coords t) (B0 t) (hB0 t) (B1 t) (hB1 t) (B2 t) (hB2 t) (B3 t) (hB3 t) (B4 t) (hB4 t) (B5 t) (hB5 t)
    (iblk m c 0 t) (X0_1 m c t) (iblk m c 2 t) (iblk m c 3 t)

/-- What point `t` leaves in the second result block. -/
def rowsAt (c : Dev nD) (t : Fin cfg0.N) : Vec F S1x512x128 .f32 :=
  rows c (grid0.coords t) (B0 t) (hB0 t) (B1 t) (hB1 t) (B2 t) (hB2 t) (B3 t) (hB3 t) (B4 t) (hB4 t) (B5 t) (hB5 t)
    (iblk m c 0 t) (X0_1 m c t) (iblk m c 2 t) (iblk m c 3 t)

/-- The proof data: the arrays as the call finds them; after a point the operands' blocks as fetched, the result blocks as
    its stores leave them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => colsAt m c t
    | ⟨5, _⟩ => rowsAt m c t
  Φ _ := Pipeline.ΦA spec0 c
  q _ := fullShare
  owed _ := 0

/-- The arrays before the call. -/
theorem entry_eq (c : Dev nD) (w : Fin cfg0.W) : (dats m 0 c).A w = V m c (Pipeline.arrRef spec0 w) := by dsimp only [dats]
/-- Window 0's block after a point. -/
theorem left0 (c : Dev nD) (t : Fin cfg0.N) : (dats m 0 c).after 0 t = iblk m c 0 t := by dsimp only [dats]
/-- Window 1's block after a point. -/
theorem left1 (c : Dev nD) (t : Fin cfg0.N) : (dats m 0 c).after 1 t = X0_1 m c t := by dsimp only [dats]
/-- Window 2's block after a point. -/
theorem left2 (c : Dev nD) (t : Fin cfg0.N) : (dats m 0 c).after 2 t = iblk m c 2 t := by dsimp only [dats]
/-- Window 3's block after a point. -/
theorem left3 (c : Dev nD) (t : Fin cfg0.N) : (dats m 0 c).after 3 t = iblk m c 3 t := by dsimp only [dats]
/-- Window 4's block after a point. -/
theorem left4 (c : Dev nD) (t : Fin cfg0.N) : (dats m 0 c).after 4 t = colsAt m c t := by dsimp only [dats]
/-- Window 5's block after a point. -/
theorem left5 (c : Dev nD) (t : Fin cfg0.N) : (dats m 0 c).after 5 t = rowsAt m c t := by dsimp only [dats]
/-- Window 0's block before a point. -/
theorem held0 (c : Dev nD) (t : Fin cfg0.N) (d) : (dats m 0 c).before 0 t d = iblk m c 0 t :=
  before0_0_of m (dats m 0 c) (entry_eq m c 0) (left0 m c) t d
/-- Window 1's block before a point. -/
theorem held1 (c : Dev nD) (t : Fin cfg0.N) (d) : (dats m 0 c).before 1 t d = X0_1 m c t :=
  before0_1_of m (dats m 0 c) (entry_eq m c 1) (left1 m c) t d
/-- Window 2's block before a point. -/
theorem held2 (c : Dev nD) (t : Fin cfg0.N) (d) : (dats m 0 c).before 2 t d = iblk m c 2 t :=
  before0_2_of m (dats m 0 c) (entry_eq m c 2) (left2 m c) t d
/-- Window 3's block before a point. -/
theorem held3 (c : Dev nD) (t : Fin cfg0.N) (d) : (dats m 0 c).before 3 t d = iblk m c 3 t :=
  before0_3_of m (dats m 0 c) (entry_eq m c 3) (left3 m c) t d

/-- What a point's body starts from. -/
def given (c : Dev nD) (t : Fin cfg0.N) : sProp 𝕄 :=
  iprop((dats m 0 c).Φ t.castSucc ∗ (dats m 0 c).owesAt () t.castSucc
    ∗ (∃ d, owns (c : Thread nD τ) (B0 t) fullShare ((dats m 0 c).before 0 t d))
    ∗ (∃ d, owns (c : Thread nD τ) (B1 t) fullShare ((dats m 0 c).before 1 t d))
    ∗ (∃ d, owns (c : Thread nD τ) (B2 t) fullShare ((dats m 0 c).before 2 t d))
    ∗ (∃ d, owns (c : Thread nD τ) (B3 t) fullShare ((dats m 0 c).before 3 t d))
    ∗ (∃ d, owns (c : Thread nD τ) (B4 t) fullShare ((dats m 0 c).before 4 t d))
    ∗ (∃ d, owns (c : Thread nD τ) (B5 t) fullShare ((dats m 0 c).before 5 t d)))

/-- What it ends with. -/
def returned (c : Dev nD) (t : Fin cfg0.N) : sProp 𝕄 :=
  iprop((dats m 0 c).Φ t.succ ∗ (dats m 0 c).owesAt () t.succ
    ∗ owns (c : Thread nD τ) (B0 t) fullShare ((dats m 0 c).after 0 t)
    ∗ owns (c : Thread nD τ) (B1 t) fullShare ((dats m 0 c).after 1 t)
    ∗ owns (c : Thread nD τ) (B2 t) fullShare ((dats m 0 c).after 2 t)
    ∗ owns (c : Thread nD τ) (B3 t) fullShare ((dats m 0 c).after 3 t)
    ∗ owns (c : Thread nD τ) (B4 t) fullShare ((dats m 0 c).after 4 t)
    ∗ owns (c : Thread nD τ) (B5 t) fullShare ((dats m 0 c).after 5 t))

/-- A point's body runs from the one to the other. -/
theorem body_runs (c : Dev nD) (t : Fin cfg0.N) :
    given m c t ⊢ wp frame (wpE (defs₀ (F := F)) Variants.none c none) Set.univ (bodyAt0 t) (fun _ => returned m c t) := by
  unfold given returned bodyAt0
  simp only [held0, held1, held2, held3]
  rw [show (dats m 0 c).Φ t.succ = (dats m 0 c).Φ t.castSucc from rfl,
    show (dats m 0 c).owesAt () t.succ = (dats m 0 c).owesAt () t.castSucc from rfl, left0, left1, left2, left3, left4, left5]
  unfold colsAt rowsAt cols rows
  rw [← View.read_writes_junk_eq_canon (Memref.whole cc0_stg4_0 : Memref sig .tc .vmem S64x1024 .f32).view,
    ← View.read_writes_junk_eq_canon (Memref.whole cc0_stg5_0 : Memref sig .tc .vmem S1x512x128 .f32).view]
  iintro ⟨HΦ, Ho, ⟨%d0, H0⟩, ⟨%d1, H1⟩, ⟨%d2, H2⟩, ⟨%d3, H3⟩, ⟨%d4, H4⟩, ⟨%d5, H5⟩⟩
  iapply ((step c (grid0.coords t) (B0 t) (hB0 t) (B1 t) (hB1 t) (B2 t) (hB2 t) (B3 t) (hB3 t) (B4 t) (hB4 t) (B5 t) (hB5 t)
    (iblk m c 0 t) (X0_1 m c t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, ⟨%f4, H4⟩, ⟨%f5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (covers c _ _ _ _ _ _ _ _ _ _ _ _ _ _ _ _ _)
  unfold owns; iexists _; isplitr
  swap; · iexact H5
  ipureintro; exact View.read_writes_of_cover _ _ _ _ _ (covers_rows c _ _ _ _ _ _ _ _ _ _ _ _ _ _ _ _ _)

/-- The call's body at a point is this body. -/
theorem body_row (t : Fin cfg0.N) : defs₀ (F := F) .tc cfg0.body (cfg0.bodyArgs t (cfg0.slots t)) = bodyAt0 t := by
  unfold defs₀; rw [Defs.onTc_tc]

/-- Every point's body does what the pipeline asks of it. -/
theorem obligation (c : Dev nD) : BodyObligation (dats (F := F) m 0 c) (defs₀ (F := F)) Variants.none () Set.univ := fun t => by
  rw [bigSep_W0, bigSep_W0, body_row]
  exact triple_restated (body_runs m c t) rfl .rfl fun _ => .rfl

set_option backward.isDefEq.respectTransparency.types false in
/-- The program ends, its arrays as the proof data say and the other buffers as the host's lines leave them, and the machine quiet. -/
theorem ends : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := entry_eq m) (hΦ := fun _ _ => rfl)

/-- The program leaves its arguments unchanged. -/
theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (entry_eq m) ((θ_run defs _ _).mono (fun _ h => h.1) (ends m ρ))

/-- And it ends with the machine quiet. -/
theorem whole : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (kept m ρ) ((θ_run defs _ _).mono (fun _ h => h.2) (ends m ρ))

end Cert.KvSampleIdeal.Rows

end
-- ==== Proof.KvSampleIdealPays.lean ====
module

public import proofs.«01_k».proof.Proof.KvSpec
public import proofs.«01_k».proof.Proof.KvSampleIdealSteps
public import Idealize.ShloMosaic.Lib.Pointwise

@[expose] public section

set_option maxRecDepth 16384

noncomputable section

open Idealize.ShloMosaic Idealize.ShloMosaic.TcCoe Idealize.ShloMosaic.Tactic

namespace Cert.KvSampleIdeal.Rows

open Cert.KvSampleIdeal Cert.KvSampleIdeal.Gen Cert.Layer.Ret Cert.Layer.Rows

/-- A block's product at a row and a column. -/
def part (a : Vec Ideal S64x2048 .bf16) (b : Vec Ideal S1x1024x2048 .bf16) (r : Fin 64) (x : Fin 1024) : EReal :=
  ∑ k : Fin 2048, a (ix2 r k) * b (ix3 0 x k)

/-- A column of a head, among the block's columns. -/
def col (s : Fin 8) (e : Fin 128) : Fin 1024 := ⟨128 * s.val + e.val, by omega⟩

/-- What a point stores for head 0, at an element, the flag being zero. -/
theorem pay0 (a : Vec Ideal S64x2048 .bf16) (b : Vec Ideal S1x1024x2048 .bf16) (g f : Vec Ideal S1x128 .f32) (r : Fin 64) (e : Fin 128)
    (hf : f (ix2 0 e) = 0) : k0_pay4 (F := Ideal) a b g f (ix2 r e)
      = part a b r (col 0 e) := by
  have hc : ∀ x, col 0 x = ⟨x.val, by omega⟩ := fun x => Fin.ext (by show 128 * 0 + x.val = x.val; omega)
  simp only [hc]
  unfold part
  pointwise [k0_pay4, k0_pay3]
  rw [hf, if_neg half_not_lt_zero]

/-- The same head's rows hold the same. -/
theorem pay_row0 (a : Vec Ideal S64x2048 .bf16) (b : Vec Ideal S1x1024x2048 .bf16) (g f : Vec Ideal S1x128 .f32) (r : Fin 64) (e : Fin 128) :
    k0_pay5 (F := Ideal) a b g f (ix3 0 r e) = k0_pay4 (F := Ideal) a b g f (ix2 r e) := by
  pointwise [k0_pay5]

/-- What a point stores for head 1, at an element, the flag being zero. -/
theorem pay1 (a : Vec Ideal S64x2048 .bf16) (b : Vec Ideal S1x1024x2048 .bf16) (g f : Vec Ideal S1x128 .f32) (r : Fin 64) (e : Fin 128)
    (hf : f (ix2 0 e) = 0) : k0_pay9 (F := Ideal) (k0_pay6 a b) (k0_pay7 a b) k0_pay8 g f (ix2 r e)
      = part a b r (col 1 e) := by
  have hc : ∀ x, col 1 x = ⟨128 + x.val, by omega⟩ := fun x => Fin.ext (by show 128 * 1 + x.val = 128 + x.val; omega)
  simp only [hc]
  unfold part
  pointwise [k0_pay9, k0_pay6, k0_pay7, k0_pay8, k0_pay3]
  rw [hf, if_neg half_not_lt_zero]

/-- The same head's rows hold the same. -/
theorem pay_row1 (a : Vec Ideal S64x2048 .bf16) (b : Vec Ideal S1x1024x2048 .bf16) (g f : Vec Ideal S1x128 .f32) (r : Fin 64) (e : Fin 128) :
    k0_pay10 (F := Ideal) (k0_pay6 a b) (k0_pay7 a b) k0_pay8 g f (ix3 0 r e) = k0_pay9 (F := Ideal) (k0_pay6 a b) (k0_pay7 a b) k0_pay8 g f (ix2 r e) := by
  pointwise [k0_pay10]

/-- What a point stores for head 2, at an element, the flag being zero. -/
theorem pay2 (a : Vec Ideal S64x2048 .bf16) (b : Vec Ideal S1x1024x2048 .bf16) (g f : Vec Ideal S1x128 .f32) (r : Fin 64) (e : Fin 128)
    (hf : f (ix2 0 e) = 0) : k0_pay15 (F := Ideal) (k0_pay11 (k0_pay3 a b)) (k0_pay12 (k0_pay3 a b) g) (k0_pay13 f) k0_pay14 (ix2 r e)
      = part a b r (col 2 e) := by
  have hc : ∀ x, col 2 x = ⟨256 + x.val, by omega⟩ := fun x => Fin.ext (by show 128 * 2 + x.val = 256 + x.val; omega)
  simp only [hc]
  unfold part
  pointwise [k0_pay15, k0_pay11, k0_pay3, k0_pay12, k0_pay13, k0_pay14]
  rw [hf, if_neg half_not_lt_zero]

/-- The same head's rows hold the same. -/
theorem pay_row2 (a : Vec Ideal S64x2048 .bf16) (b : Vec Ideal S1x1024x2048 .bf16) (g f : Vec Ideal S1x128 .f32) (r : Fin 64) (e : Fin 128) :
    k0_pay16 (F := Ideal) (k0_pay11 (k0_pay3 a b)) (k0_pay12 (k0_pay3 a b) g) (k0_pay13 f) k0_pay14 (ix3 0 r e) = k0_pay15 (F := Ideal) (k0_pay11 (k0_pay3 a b)) (k0_pay12 (k0_pay3 a b) g) (k0_pay13 f) k0_pay14 (ix2 r e) := by
  pointwise [k0_pay16]

/-- What a point stores for head 3, at an element, the flag being zero. -/
theorem pay3 (a : Vec Ideal S64x2048 .bf16) (b : Vec Ideal S1x1024x2048 .bf16) (g f : Vec Ideal S1x128 .f32) (r : Fin 64) (e : Fin 128)
    (hf : f (ix2 0 e) = 0) : k0_pay17 (F := Ideal) (k0_pay3 a b) g f (ix2 r e)
      = part a b r (col 3 e) := by
  have hc : ∀ x, col 3 x = ⟨384 + x.val, by omega⟩ := fun x => Fin.ext (by show 128 * 3 + x.val = 384 + x.val; omega)
  simp only [hc]
  unfold part
  pointwise [k0_pay17, k0_pay3]
  rw [hf, if_neg half_not_lt_zero]

/-- The same head's rows hold the same. -/
theorem pay_row3 (a : Vec Ideal S64x2048 .bf16) (b : Vec Ideal S1x1024x2048 .bf16) (g f : Vec Ideal S1x128 .f32) (r : Fin 64) (e : Fin 128) :
    k0_pay18 (F := Ideal) (k0_pay3 a b) g f (ix3 0 r e) = k0_pay17 (F := Ideal) (k0_pay3 a b) g f (ix2 r e) := by
  pointwise [k0_pay18]

/-- What a point stores for head 4, at an element, the flag being one. -/
theorem pay4 (a : Vec Ideal S64x2048 .bf16) (b : Vec Ideal S1x1024x2048 .bf16) (g f : Vec Ideal S1x128 .f32) (r : Fin 64) (e : Fin 128)
    (hf : f (ix2 0 e) = 1) : k0_pay21 (F := Ideal) (k0_pay19 (k0_pay3 a b)) (k0_pay20 (k0_pay3 a b)) g f (ix2 r e)
      = part a b r (col 4 e) * scale128 (fun x => part a b r (col 4 x)) * g (ix2 0 e) := by
  have hc : ∀ x, col 4 x = ⟨512 + x.val, by omega⟩ := fun x => Fin.ext (by show 128 * 4 + x.val = 512 + x.val; omega)
  simp only [hc]
  unfold part scale128
  pointwise [k0_pay21, k0_pay19, k0_pay3, k0_pay20]
  rw [hf, if_pos half_lt_one]

/-- The same head's rows hold the same. -/
theorem pay_row4 (a : Vec Ideal S64x2048 .bf16) (b : Vec Ideal S1x1024x2048 .bf16) (g f : Vec Ideal S1x128 .f32) (r : Fin 64) (e : Fin 128) :
    k0_pay22 (F := Ideal) (k0_pay19 (k0_pay3 a b)) (k0_pay20 (k0_pay3 a b)) g f (ix3 0 r e) = k0_pay21 (F := Ideal) (k0_pay19 (k0_pay3 a b)) (k0_pay20 (k0_pay3 a b)) g f (ix2 r e) := by
  pointwise [k0_pay22]

/-- What a point stores for head 5, at an element, the flag being one. -/
theorem pay5 (a : Vec Ideal S64x2048 .bf16) (b : Vec Ideal S1x1024x2048 .bf16) (g f : Vec Ideal S1x128 .f32) (r : Fin 64) (e : Fin 128)
    (hf : f (ix2 0 e) = 1) : k0_pay25 (F := Ideal) (k0_pay23 (k0_pay3 a b)) (k0_pay24 (k0_pay3 a b) g) f (ix2 r e)
      = part a b r (col 5 e) * scale128 (fun x => part a b r (col 5 x)) * g (ix2 0 e) := by
  have hc : ∀ x, col 5 x = ⟨640 + x.val, by omega⟩ := fun x => Fin.ext (by show 128 * 5 + x.val = 640 + x.val; omega)
  simp only [hc]
  unfold part scale128
  pointwise [k0_pay25, k0_pay23, k0_pay3, k0_pay24]
  rw [hf, if_pos half_lt_one]

/-- The same head's rows hold the same. -/
theorem pay_row5 (a : Vec Ideal S64x2048 .bf16) (b : Vec Ideal S1x1024x2048 .bf16) (g f : Vec Ideal S1x128 .f32) (r : Fin 64) (e : Fin 128) :
    k0_pay26 (F := Ideal) (k0_pay23 (k0_pay3 a b)) (k0_pay24 (k0_pay3 a b) g) f (ix3 0 r e) = k0_pay25 (F := Ideal) (k0_pay23 (k0_pay3 a b)) (k0_pay24 (k0_pay3 a b) g) f (ix2 r e) := by
  pointwise [k0_pay26]

/-- What a point stores for head 6, at an element, the flag being zero. -/
theorem pay6 (a : Vec Ideal S64x2048 .bf16) (b : Vec Ideal S1x1024x2048 .bf16) (g f : Vec Ideal S1x128 .f32) (r : Fin 64) (e : Fin 128)
    (hf : f (ix2 0 e) = 0) : k0_pay27 (F := Ideal) (k0_pay3 a b) g f (ix2 r e)
      = part a b r (col 6 e) := by
  have hc : ∀ x, col 6 x = ⟨768 + x.val, by omega⟩ := fun x => Fin.ext (by show 128 * 6 + x.val = 768 + x.val; omega)
  simp only [hc]
  unfold part
  pointwise [k0_pay27, k0_pay3]
  rw [hf, if_neg half_not_lt_zero]

/-- The same head's rows hold the same. -/
theorem pay_row6 (a : Vec Ideal S64x2048 .bf16) (b : Vec Ideal S1x1024x2048 .bf16) (g f : Vec Ideal S1x128 .f32) (r : Fin 64) (e : Fin 128) :
    k0_pay28 (F := Ideal) (k0_pay3 a b) g f (ix3 0 r e) = k0_pay27 (F := Ideal) (k0_pay3 a b) g f (ix2 r e) := by
  pointwise [k0_pay28]

/-- What a point stores for head 7, at an element, the flag being zero. -/
theorem pay7 (a : Vec Ideal S64x2048 .bf16) (b : Vec Ideal S1x1024x2048 .bf16) (g f : Vec Ideal S1x128 .f32) (r : Fin 64) (e : Fin 128)
    (hf : f (ix2 0 e) = 0) : k0_pay1 (F := Ideal) (k0_pay29 (k0_pay3 a b)) g f (ix2 r e)
      = part a b r (col 7 e) := by
  have hc : ∀ x, col 7 x = ⟨896 + x.val, by omega⟩ := fun x => Fin.ext (by show 128 * 7 + x.val = 896 + x.val; omega)
  simp only [hc]
  unfold part
  pointwise [k0_pay1, k0_pay29, k0_pay3]
  rw [hf, if_neg half_not_lt_zero]

/-- The same head's rows hold the same. -/
theorem pay_row7 (a : Vec Ideal S64x2048 .bf16) (b : Vec Ideal S1x1024x2048 .bf16) (g f : Vec Ideal S1x128 .f32) (r : Fin 64) (e : Fin 128) :
    k0_pay2 (F := Ideal) (k0_pay29 (k0_pay3 a b)) g f (ix3 0 r e) = k0_pay1 (F := Ideal) (k0_pay29 (k0_pay3 a b)) g f (ix2 r e) := by
  pointwise [k0_pay2]

end Cert.KvSampleIdeal.Rows
-- ==== Proof.KvSampleRef.lean ====
module

public import proofs.«01_k».proof.Proof.KvSpec
public import proofs.«01_k».proof.Proof.Gen.KvSampleReferenceIdeal.Run
public import proofs.«01_k».proof.Proof.Gen.KvSampleReferenceIdeal.Read
public import Idealize.ShloMosaic.Lib.Pointwise

@[expose] public section

set_option maxRecDepth 16384

noncomputable section

open Idealize.ShloMosaic Idealize.ShloMosaic.TcCoe Idealize.ShloMosaic.Tactic

namespace Cert.KvSampleReferenceIdeal.Rows

open Cert.KvSampleReferenceIdeal Cert.KvSampleReferenceIdeal.Read Cert.Layer.Ret Cert.Layer.Rows

/-- A head of a slot, among all heads. -/
def headOf (j : Fin 4) (h : Fin 2) : Fin 8 := ⟨2 * j.val + h.val, by omega⟩

/-- The reference's product, by slot and head. -/
theorem prod_eq (u : Vec Ideal S64x2048 .bf16) (w : Vec Ideal S4x12824x2048 .bf16) (r : Fin 64) (j : Fin 4) (h : Fin 2) (e : Fin 128) :
    val_main_v6 (F := Ideal) u w (ix4 r j h e) = prodAt u w r (kvRow (headOf j h) e) := by
  unfold prodAt kvRow headOf
  pointwise [val_main_v0, val_main_v1, val_main_v2, val_main_v3, val_main_v4, val_main_v5, val_main_v6]
  have hi : 128 * (2 * j.val + h.val) + e.val = j.val * 256 + h.val * 128 + e.val := by omega
  simp only [hi]

/-- The reference's normalised heads. -/
theorem normed_eq (u : Vec Ideal S64x2048 .bf16) (w : Vec Ideal S4x12824x2048 .bf16) (g : Vec Ideal S4x4x128 .f32) (r : Fin 64) (h : Fin 2) (e : Fin 128) :
    val_main_v23 (F := Ideal) u w g (ix3 r h e) = prodAt u w r (kvRow (headOf 2 h) e) * scale128 (fun x => prodAt u w r (kvRow (headOf 2 h) x))
      * g (ix3 0 1 e) := by
  unfold scale128
  pointwise [val_main_v7, val_main_v8, val_main_v9, val_main_v10, val_main_v11, val_main_cst, val_main_v12, val_main_v13, val_main_cst_0,
    val_main_v14, val_main_v15, val_main_cst_1, val_main_v16, val_main_v17, val_main_v18, val_main_v19, val_main_v20, val_main_v21,
    val_main_v22, val_main_v23]
  simp only [prod_eq]

/-- The reference's heads of slot 0. -/
theorem plain0_eq (u : Vec Ideal S64x2048 .bf16) (w : Vec Ideal S4x12824x2048 .bf16) (r : Fin 64) (h : Fin 2) (e : Fin 128) :
    val_main_v25 (F := Ideal) u w (ix3 r h e) = prodAt u w r (kvRow (headOf 0 h) e) := by
  rw [← prod_eq]
  pointwise [val_main_v24, val_main_v25]

/-- The reference's heads of slot 1. -/
theorem plain1_eq (u : Vec Ideal S64x2048 .bf16) (w : Vec Ideal S4x12824x2048 .bf16) (r : Fin 64) (h : Fin 2) (e : Fin 128) :
    val_main_v27 (F := Ideal) u w (ix3 r h e) = prodAt u w r (kvRow (headOf 1 h) e) := by
  rw [← prod_eq]
  pointwise [val_main_v26, val_main_v27]

/-- The reference's heads of slot 3. -/
theorem plain3_eq (u : Vec Ideal S64x2048 .bf16) (w : Vec Ideal S4x12824x2048 .bf16) (r : Fin 64) (h : Fin 2) (e : Fin 128) :
    val_main_v29 (F := Ideal) u w (ix3 r h e) = prodAt u w r (kvRow (headOf 3 h) e) := by
  rw [← prod_eq]
  pointwise [val_main_v28, val_main_v29]

/-- The reference's rows, by slot and head. -/
theorem heads_eq (u : Vec Ideal S64x2048 .bf16) (w : Vec Ideal S4x12824x2048 .bf16) (g : Vec Ideal S4x4x128 .f32) (r : Fin 64) (j : Fin 4) (h : Fin 2) (e : Fin 128) :
    val_main_v34 (F := Ideal) u w g (ix4 r j h e) = kvAt u w g r (headOf j h) e := by
  have hs : (headOf j h).val / 2 = j.val := by show (2 * j.val + h.val) / 2 = j.val; omega
  unfold kvAt
  simp only [hs]
  fin_cases j
  · refine Eq.trans ?_ (plain0_eq u w r h e)
    pointwise [val_main_v34, val_main_v30, val_main_v31, val_main_v32, val_main_v33]
  · refine Eq.trans ?_ (plain1_eq u w r h e)
    pointwise [val_main_v34, val_main_v30, val_main_v31, val_main_v32, val_main_v33]
  · refine Eq.trans ?_ (normed_eq u w g r h e)
    pointwise [val_main_v34, val_main_v30, val_main_v31, val_main_v32, val_main_v33]
  · refine Eq.trans ?_ (plain3_eq u w r h e)
    pointwise [val_main_v34, val_main_v30, val_main_v31, val_main_v32, val_main_v33]

/-- The reference's first result. -/
theorem cols_eq (u : Vec Ideal S64x2048 .bf16) (w : Vec Ideal S4x12824x2048 .bf16) (g : Vec Ideal S4x4x128 .f32) (r : Fin 64) (x : Fin 1024) :
    val_main_v35 (F := Ideal) u w g (ix2 r x) = kvAt u w g r ⟨x.val / 128, by omega⟩ ⟨x.val % 128, by omega⟩ := by
  have hh : (⟨x.val / 128, by omega⟩ : Fin 8) = headOf ⟨x.val / 256, by omega⟩ ⟨x.val / 128 % 2, by omega⟩ :=
    Fin.ext (by show x.val / 128 = 2 * (x.val / 256) + x.val / 128 % 2; omega)
  rw [hh, ← heads_eq]
  pointwise [val_main_v35]

/-- The reference's second result. -/
theorem rows_eq (u : Vec Ideal S64x2048 .bf16) (w : Vec Ideal S4x12824x2048 .bf16) (g : Vec Ideal S4x4x128 .f32) (y : Fin 512) (e : Fin 128) :
    val_main_v36 (F := Ideal) u w g (ix2 y e) = kvAt u w g ⟨y.val / 8, by omega⟩ ⟨y.val % 8, by omega⟩ e := by
  have hh : (⟨y.val % 8, by omega⟩ : Fin 8) = headOf ⟨y.val / 2 % 4, by omega⟩ ⟨y.val % 2, by omega⟩ :=
    Fin.ext (by show y.val % 8 = 2 * (y.val / 2 % 4) + y.val % 2; omega)
  rw [hh, ← heads_eq]
  pointwise [val_main_v36]

end Cert.KvSampleReferenceIdeal.Rows
-- ==== Proof.KvSampleClaim.lean ====
module

public import proofs.«01_k».proof.Defs
public import Idealize.ShloMosaic.Adequacy
public import proofs.«01_k».proof.Proof.KvSampleIdealPays
public import proofs.«01_k».proof.Proof.KvSampleRef
public import Idealize.ShloMosaic.Lib.Claim
public import Idealize.ShloMosaic.Lib.WholeRead
public import Idealize.ShloMosaic.Lib.Pipeline.Value
public import Idealize.ShloMosaic.Lib.Pipeline.ValueKit
public import Idealize.ShloMosaic.Lib.Pipeline.ValueKit.Point
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem Idealize.ShloMosaic.Tactic

namespace Cert.KvSampleIdeal.Rows

open Cert.KvSampleIdeal Cert.KvSampleIdeal.Gen Cert.Layer.Ret Cert.Layer.Rows

/-! The projection of the keys and values of the sample batch: its result blocks, its result arrays, and its agreement with the reference. -/

/-- Which block of each array a grid point works on. -/
theorem idx : ∀ t : Fin cfg0.N, win0_0.index t = ![t.val, 0] ∧ win0_1.index t = ![0, 1, 0] ∧ win0_2.index t = ![0, 0]
    ∧ win0_3.index t = ![0, 0] ∧ win0_4.index t = ![t.val, 0] ∧ win0_5.index t = ![0, t.val, 0] :=
  (by decide +kernel : ∀ t : Fin grid0.N, _)

/-- The array row that row `r` of a point's block is. -/
def rowOf (t : Fin cfg0.N) (r : Fin 64) : Fin 64 := ⟨64 * t.val + r.val, by have h : cfg0.N = 1 := N_0; have := t.isLt; omega⟩

/-- The row of the second result that row `y` of a point's block is. -/
def lineOf (t : Fin cfg0.N) (y : Fin 512) : Fin 512 := ⟨512 * t.val + y.val, by have h : cfg0.N = 1 := N_0; have := t.isLt; omega⟩

variable (m : (ℓ : Loc nD τ sig) → Buf (Elt Ideal) ℓ)

/-- The input, as an array over the extended reals. -/
abbrev A0 (c : Dev nD) : S64x2048.Idx → EReal := m ((c : Thread nD τ).loc main_arg0)
/-- The weights, as an array over the extended reals. -/
abbrev A1 (c : Dev nD) : S4x12824x2048.Idx → EReal := m ((c : Thread nD τ).loc main_arg1)
/-- The gains, as an array over the extended reals. -/
abbrev A2 (c : Dev nD) : S4x4x128.Idx → EReal := m ((c : Thread nD τ).loc main_arg2)
/-- The input's block of a point. -/
abbrev U (c : Dev nD) (t : Fin cfg0.N) : S64x2048.Idx → EReal := iblk m c 0 t
/-- The weights' block of a point. -/
abbrev W (c : Dev nD) (t : Fin cfg0.N) : S1x1024x2048.Idx → EReal := X0_1 m c t
/-- The gain's block of a point. -/
abbrev Gn (c : Dev nD) (t : Fin cfg0.N) : S1x1024.Idx → EReal := iblk m c 2 t
/-- The flag's block of a point. -/
abbrev Fl (c : Dev nD) (t : Fin cfg0.N) : S1x1024.Idx → EReal := iblk m c 3 t
/-- The gain's row, as the kernel's call takes it. -/
abbrev H2 (c : Dev nD) : S1x1024.Idx → EReal := V m c main_v7
/-- The flag's row, as the kernel's call takes it. -/
abbrev H3 (c : Dev nD) : S1x1024.Idx → EReal := V m c main_v13

/-- The input's block of a point, read from the input. -/
theorem blk_u (c : Dev nD) (t : Fin cfg0.N) (r : Fin 64) (k : Fin 2048) : U m c t (ix2 r k) = A0 m c (ix2 (rowOf t r) k) := by
  unfold rowOf
  refine Eq.trans ?_ (congrFun (V_main_arg0 m c) _)
  blk_ext [iblk, idx t]

/-- The weights' block of a point at a row of it, read from the weights. -/
theorem blk_w_row (c : Dev nD) (t : Fin cfg0.N) (x : Fin 1024) (k : Fin 2048) :
    W m c t (ix3 0 x k) = A1 m c (ix3 0 ⟨1024 + x.val, by omega⟩ k) := by
  unfold W X0_1
  rw [Pipeline.Window.fill, dif_pos (moved0_1 t _)]
  refine Eq.trans ?_ (congrFun (V_main_arg1 m c) _)
  blk_ext [iblk, idx t]

/-- The weights' block of a point, read from the weights. -/
theorem blk_w (c : Dev nD) (t : Fin cfg0.N) (s : Fin 8) (e : Fin 128) (k : Fin 2048) :
    W m c t (ix3 0 (col s e) k) = A1 m c (ix3 0 (kvRow s e) k) :=
  blk_w_row m c t (col s e) k

/-- The gain's row at a normalised head's columns. -/
theorem row_gain (c : Dev nD) (x : Fin 1024) (hx : x.val / 256 = 2) : H2 m c (ix2 0 x) = A2 m c (ix3 0 1 ⟨x.val % 128, by omega⟩) := by
  unfold H2 V
  after_reads_at
  have := x.isLt
  split_ifs <;> first
    | omega
    | skip
  after_reads_at
  all_goals
    refine congrArg (fun y => A2 m c (ix3 0 1 y)) (Fin.ext ?_)
    dsimp only
    omega

/-- The flag's row at a normalised head's columns. -/
theorem row_flag (c : Dev nD) (x : Fin 1024) (hx : x.val / 256 = 2) : H3 m c (ix2 0 x) = 1 := by
  unfold H3 V
  after_reads_at
  all_goals
    have := x.isLt
    split_ifs <;> first
      | omega
      | after_reads_at
      | rfl

/-- The flag's row at the other columns. -/
theorem row_flag_off (c : Dev nD) (x : Fin 1024) (hx : x.val / 256 ≠ 2) : H3 m c (ix2 0 x) = 0 := by
  unfold H3 V
  after_reads_at
  all_goals
    have := x.isLt
    split_ifs <;> first
      | omega
      | after_reads_at
      | rfl

/-- The gain's block of a point is the whole row. -/
theorem blk_g (c : Dev nD) (t : Fin cfg0.N) (x : Fin 1024) : Gn m c t (ix2 0 x) = H2 m c (ix2 0 x) := by
  unfold H2 Gn iblk
  generalize V m c = X
  blk_ext [idx t]

/-- The flag's block of a point is the whole row. -/
theorem blk_f (c : Dev nD) (t : Fin cfg0.N) (x : Fin 1024) : Fl m c t (ix2 0 x) = H3 m c (ix2 0 x) := by
  unfold H3 Fl iblk
  generalize V m c = X
  blk_ext [idx t]

/-- The slot of a column of a head. -/
theorem slot_eq (s : Fin 8) (e : Fin 128) : (col s e).val / 256 = s.val / 2 := by
  show (128 * s.val + e.val) / 256 = s.val / 2
  omega

/-- A load of the whole of the input's block. -/
theorem read_u {B : Memref sig .tc .vmem S64x2048 .bf16} (hB : B.IsWhole) (x : S64x2048.Idx → EReal) (r : Fin 64) (k : Fin 2048) :
    View.readAt (Elt Ideal) B.view (Rect.unit (s := S64x2048) ![0, 0] S64x2048.size inb_S64x2048_S64x2048_0_0).toLoadRect (hB.unread x) (ix2 r k)
      = x (ix2 r k) := by
  refine (hB.readAt_unread (Val := Elt Ideal) x _ _).trans (congrArg x ?_)
  funext a
  apply Fin.ext
  refine (Rect.idx_unit_val ..).trans ?_
  fin_cases a
  · show 0 + r.val = r.val
    omega
  · show 0 + k.val = k.val
    omega

/-- A load of the whole of the weights' block. -/
theorem read_w {B : Memref sig .tc .vmem S1x1024x2048 .bf16} (hB : B.IsWhole) (x : S1x1024x2048.Idx → EReal) (e : Fin 1024) (k : Fin 2048) :
    View.readAt (Elt Ideal) B.view (Rect.unit (s := S1x1024x2048) ![0, 0, 0] S1x1024x2048.size inb_S1x1024x2048_S1x1024x2048_0_0_0).toLoadRect (hB.unread x)
      (ix3 0 e k) = x (ix3 0 e k) := by
  refine (hB.readAt_unread (Val := Elt Ideal) x _ _).trans (congrArg x ?_)
  funext a
  apply Fin.ext
  refine (Rect.idx_unit_val ..).trans ?_
  fin_cases a
  · rfl
  · show 0 + e.val = e.val
    omega
  · show 0 + k.val = k.val
    omega

/-- A load of one head's entries of a row. -/
theorem read_row {B : Memref sig .tc .vmem S1x1024 .f32} (hB : B.IsWhole) (x : S1x1024.Idx → EReal) (off : Fin 2 → ℕ)
    (inb : ∀ a, off a + S1x128.size a ≤ S1x1024.size a) (s : Fin 8) (h0 : off 0 = 0) (h1 : off 1 = 128 * s.val) (e : Fin 128) :
    View.readAt (Elt Ideal) B.view (Rect.unit (s := S1x1024) off S1x128.size inb).toLoadRect (hB.unread x) (ix2 0 e)
      = x (ix2 0 (col s e)) := by
  refine (hB.readAt_unread (Val := Elt Ideal) x _ _).trans (congrArg x ?_)
  funext a
  apply Fin.ext
  refine (Rect.idx_unit_val ..).trans ?_
  fin_cases a
  · show off 0 + 0 = 0
    omega
  · show off 1 + e.val = 128 * s.val + e.val
    omega

/-- Where one head's columns are stored in the first result block. -/
theorem place_out (off : Fin 2 → ℕ) (inb : ∀ a, off a + S64x128.size a ≤ S64x1024.size a) (s : Fin 8)
    (h0 : off 0 = 0) (h1 : off 1 = 128 * s.val) (r : Fin 64) (e : Fin 128) :
    (Rect.unit (s := S64x1024) off S64x128.size inb).idx (ix2 r e) = ix2 r (col s e) := by
  funext a
  apply Fin.ext
  refine (Rect.idx_unit_val ..).trans ?_
  fin_cases a
  · show off 0 + r.val = r.val
    omega
  · show off 1 + e.val = 128 * s.val + e.val
    omega

/-- The row of the second result block that holds head `s` of row `r`. -/
def line (r : Fin 64) (s : Fin 8) : Fin 512 := ⟨8 * r.val + s.val, by omega⟩

/-- Where one head's columns are stored in the second result block. -/
theorem place_rows (off : Fin 3 → ℕ)
    (inb : ∀ a, S1x64x128.size a = 0 ∨ off a + (![1, 8, 1] : Fin 3 → ℕ) a * (S1x64x128.size a - 1) < S1x512x128.size a)
    (pos : ∀ a, 0 < (![1, 8, 1] : Fin 3 → ℕ) a) (s : Fin 8) (h0 : off 0 = 0) (h1 : off 1 = s.val) (h2 : off 2 = 0) (r : Fin 64) (e : Fin 128) :
    (⟨⟨off, S1x64x128.size, ![1, 8, 1], inb⟩, pos⟩ : Rect S1x512x128).idx (ix3 0 r e) = ix3 0 (line r s) e := by
  funext a
  apply Fin.ext
  match a with
  | ⟨0, _⟩ => exact show off 0 + 1 * 0 = 0 by omega
  | ⟨1, _⟩ => exact show off 1 + 8 * r.val = 8 * r.val + s.val by omega
  | ⟨2, _⟩ => exact show off 2 + 1 * e.val = e.val by omega

/-- A block's product is the projection's product at the block's rows and heads. -/
theorem part_eq (c : Dev nD) (t : Fin cfg0.N) (s : Fin 8) (a : Vec Ideal S64x2048 .bf16) (b : Vec Ideal S1x1024x2048 .bf16)
    (ha : ∀ r k, a (ix2 r k) = U m c t (ix2 r k)) (hb : ∀ e k, b (ix3 0 e k) = W m c t (ix3 0 e k)) (r : Fin 64) (e : Fin 128) :
    part a b r (col s e) = prodAt (A0 m c) (A1 m c) (rowOf t r) (kvRow s e) := by
  unfold part prodAt
  exact Finset.sum_congr rfl fun k _ => congrArg₂ (· * ·) ((ha r k).trans (blk_u m c t r k)) ((hb _ k).trans (blk_w m c t s e k))

/-- A normalised head's element is the projection's. -/
theorem normed_eq (c : Dev nD) (t : Fin cfg0.N) (s : Fin 8) (hs : s.val / 2 = 2) (a : Vec Ideal S64x2048 .bf16) (b : Vec Ideal S1x1024x2048 .bf16)
    (g : Vec Ideal S1x128 .f32) (ha : ∀ r k, a (ix2 r k) = U m c t (ix2 r k)) (hb : ∀ e k, b (ix3 0 e k) = W m c t (ix3 0 e k))
    (hg : ∀ e, g (ix2 0 e) = Gn m c t (ix2 0 (col s e))) (r : Fin 64) (e : Fin 128) :
    part a b r (col s e) * scale128 (fun x => part a b r (col s x)) * g (ix2 0 e) = kvAt (A0 m c) (A1 m c) (A2 m c) (rowOf t r) s e := by
  unfold kvAt
  have hd : (⟨(col s e).val % 128, by omega⟩ : Fin 128) = e := Fin.ext (by show (128 * s.val + e.val) % 128 = e.val; omega)
  rw [if_pos hs, funext (part_eq m c t s a b ha hb r), part_eq m c t s a b ha hb r e, hg, blk_g, row_gain m c _ ((slot_eq s e).trans hs), hd]

/-- Another head's element is the projection's. -/
theorem plain_eq (c : Dev nD) (t : Fin cfg0.N) (s : Fin 8) (hs : s.val / 2 ≠ 2) (a : Vec Ideal S64x2048 .bf16) (b : Vec Ideal S1x1024x2048 .bf16)
    (ha : ∀ r k, a (ix2 r k) = U m c t (ix2 r k)) (hb : ∀ e k, b (ix3 0 e k) = W m c t (ix3 0 e k)) (r : Fin 64) (e : Fin 128) :
    part a b r (col s e) = kvAt (A0 m c) (A1 m c) (A2 m c) (rowOf t r) s e := by
  unfold kvAt
  rw [if_neg hs, part_eq m c t s a b ha hb r e]

/-- What a point stores for head 0. -/
theorem stored0 (c : Dev nD) (t : Fin cfg0.N) (a : Vec Ideal S64x2048 .bf16) (b : Vec Ideal S1x1024x2048 .bf16) (g f : Vec Ideal S1x128 .f32)
    (ha : ∀ r k, a (ix2 r k) = U m c t (ix2 r k)) (hb : ∀ e k, b (ix3 0 e k) = W m c t (ix3 0 e k))
    (_hg : ∀ e, g (ix2 0 e) = Gn m c t (ix2 0 (col 0 e))) (hf : ∀ e, f (ix2 0 e) = Fl m c t (ix2 0 (col 0 e))) (r : Fin 64) (e : Fin 128) :
    k0_pay4 (F := Ideal) a b g f (ix2 r e) = kvAt (A0 m c) (A1 m c) (A2 m c) (rowOf t r) 0 e :=
  (pay0 a b g f r e ((hf e).trans ((blk_f m c t _).trans (row_flag_off m c _ (by rw [slot_eq]; decide))))).trans
    (plain_eq m c t 0 (by decide) a b ha hb r e)

/-- What a point stores for head 1. -/
theorem stored1 (c : Dev nD) (t : Fin cfg0.N) (a : Vec Ideal S64x2048 .bf16) (b : Vec Ideal S1x1024x2048 .bf16) (g f : Vec Ideal S1x128 .f32)
    (ha : ∀ r k, a (ix2 r k) = U m c t (ix2 r k)) (hb : ∀ e k, b (ix3 0 e k) = W m c t (ix3 0 e k))
    (_hg : ∀ e, g (ix2 0 e) = Gn m c t (ix2 0 (col 1 e))) (hf : ∀ e, f (ix2 0 e) = Fl m c t (ix2 0 (col 1 e))) (r : Fin 64) (e : Fin 128) :
    k0_pay9 (F := Ideal) (k0_pay6 a b) (k0_pay7 a b) k0_pay8 g f (ix2 r e) = kvAt (A0 m c) (A1 m c) (A2 m c) (rowOf t r) 1 e :=
  (pay1 a b g f r e ((hf e).trans ((blk_f m c t _).trans (row_flag_off m c _ (by rw [slot_eq]; decide))))).trans
    (plain_eq m c t 1 (by decide) a b ha hb r e)

/-- What a point stores for head 2. -/
theorem stored2 (c : Dev nD) (t : Fin cfg0.N) (a : Vec Ideal S64x2048 .bf16) (b : Vec Ideal S1x1024x2048 .bf16) (g f : Vec Ideal S1x128 .f32)
    (ha : ∀ r k, a (ix2 r k) = U m c t (ix2 r k)) (hb : ∀ e k, b (ix3 0 e k) = W m c t (ix3 0 e k))
    (_hg : ∀ e, g (ix2 0 e) = Gn m c t (ix2 0 (col 2 e))) (hf : ∀ e, f (ix2 0 e) = Fl m c t (ix2 0 (col 2 e))) (r : Fin 64) (e : Fin 128) :
    k0_pay15 (F := Ideal) (k0_pay11 (k0_pay3 a b)) (k0_pay12 (k0_pay3 a b) g) (k0_pay13 f) k0_pay14 (ix2 r e) = kvAt (A0 m c) (A1 m c) (A2 m c) (rowOf t r) 2 e :=
  (pay2 a b g f r e ((hf e).trans ((blk_f m c t _).trans (row_flag_off m c _ (by rw [slot_eq]; decide))))).trans
    (plain_eq m c t 2 (by decide) a b ha hb r e)

/-- What a point stores for head 3. -/
theorem stored3 (c : Dev nD) (t : Fin cfg0.N) (a : Vec Ideal S64x2048 .bf16) (b : Vec Ideal S1x1024x2048 .bf16) (g f : Vec Ideal S1x128 .f32)
    (ha : ∀ r k, a (ix2 r k) = U m c t (ix2 r k)) (hb : ∀ e k, b (ix3 0 e k) = W m c t (ix3 0 e k))
    (_hg : ∀ e, g (ix2 0 e) = Gn m c t (ix2 0 (col 3 e))) (hf : ∀ e, f (ix2 0 e) = Fl m c t (ix2 0 (col 3 e))) (r : Fin 64) (e : Fin 128) :
    k0_pay17 (F := Ideal) (k0_pay3 a b) g f (ix2 r e) = kvAt (A0 m c) (A1 m c) (A2 m c) (rowOf t r) 3 e :=
  (pay3 a b g f r e ((hf e).trans ((blk_f m c t _).trans (row_flag_off m c _ (by rw [slot_eq]; decide))))).trans
    (plain_eq m c t 3 (by decide) a b ha hb r e)

/-- What a point stores for head 4. -/
theorem stored4 (c : Dev nD) (t : Fin cfg0.N) (a : Vec Ideal S64x2048 .bf16) (b : Vec Ideal S1x1024x2048 .bf16) (g f : Vec Ideal S1x128 .f32)
    (ha : ∀ r k, a (ix2 r k) = U m c t (ix2 r k)) (hb : ∀ e k, b (ix3 0 e k) = W m c t (ix3 0 e k))
    (hg : ∀ e, g (ix2 0 e) = Gn m c t (ix2 0 (col 4 e))) (hf : ∀ e, f (ix2 0 e) = Fl m c t (ix2 0 (col 4 e))) (r : Fin 64) (e : Fin 128) :
    k0_pay21 (F := Ideal) (k0_pay19 (k0_pay3 a b)) (k0_pay20 (k0_pay3 a b)) g f (ix2 r e) = kvAt (A0 m c) (A1 m c) (A2 m c) (rowOf t r) 4 e :=
  (pay4 a b g f r e ((hf e).trans ((blk_f m c t _).trans (row_flag m c _ (slot_eq 4 e))))).trans
    (normed_eq m c t 4 rfl a b g ha hb hg r e)

/-- What a point stores for head 5. -/
theorem stored5 (c : Dev nD) (t : Fin cfg0.N) (a : Vec Ideal S64x2048 .bf16) (b : Vec Ideal S1x1024x2048 .bf16) (g f : Vec Ideal S1x128 .f32)
    (ha : ∀ r k, a (ix2 r k) = U m c t (ix2 r k)) (hb : ∀ e k, b (ix3 0 e k) = W m c t (ix3 0 e k))
    (hg : ∀ e, g (ix2 0 e) = Gn m c t (ix2 0 (col 5 e))) (hf : ∀ e, f (ix2 0 e) = Fl m c t (ix2 0 (col 5 e))) (r : Fin 64) (e : Fin 128) :
    k0_pay25 (F := Ideal) (k0_pay23 (k0_pay3 a b)) (k0_pay24 (k0_pay3 a b) g) f (ix2 r e) = kvAt (A0 m c) (A1 m c) (A2 m c) (rowOf t r) 5 e :=
  (pay5 a b g f r e ((hf e).trans ((blk_f m c t _).trans (row_flag m c _ (slot_eq 5 e))))).trans
    (normed_eq m c t 5 rfl a b g ha hb hg r e)

/-- What a point stores for head 6. -/
theorem stored6 (c : Dev nD) (t : Fin cfg0.N) (a : Vec Ideal S64x2048 .bf16) (b : Vec Ideal S1x1024x2048 .bf16) (g f : Vec Ideal S1x128 .f32)
    (ha : ∀ r k, a (ix2 r k) = U m c t (ix2 r k)) (hb : ∀ e k, b (ix3 0 e k) = W m c t (ix3 0 e k))
    (_hg : ∀ e, g (ix2 0 e) = Gn m c t (ix2 0 (col 6 e))) (hf : ∀ e, f (ix2 0 e) = Fl m c t (ix2 0 (col 6 e))) (r : Fin 64) (e : Fin 128) :
    k0_pay27 (F := Ideal) (k0_pay3 a b) g f (ix2 r e) = kvAt (A0 m c) (A1 m c) (A2 m c) (rowOf t r) 6 e :=
  (pay6 a b g f r e ((hf e).trans ((blk_f m c t _).trans (row_flag_off m c _ (by rw [slot_eq]; decide))))).trans
    (plain_eq m c t 6 (by decide) a b ha hb r e)

/-- What a point stores for head 7. -/
theorem stored7 (c : Dev nD) (t : Fin cfg0.N) (a : Vec Ideal S64x2048 .bf16) (b : Vec Ideal S1x1024x2048 .bf16) (g f : Vec Ideal S1x128 .f32)
    (ha : ∀ r k, a (ix2 r k) = U m c t (ix2 r k)) (hb : ∀ e k, b (ix3 0 e k) = W m c t (ix3 0 e k))
    (_hg : ∀ e, g (ix2 0 e) = Gn m c t (ix2 0 (col 7 e))) (hf : ∀ e, f (ix2 0 e) = Fl m c t (ix2 0 (col 7 e))) (r : Fin 64) (e : Fin 128) :
    k0_pay1 (F := Ideal) (k0_pay29 (k0_pay3 a b)) g f (ix2 r e) = kvAt (A0 m c) (A1 m c) (A2 m c) (rowOf t r) 7 e :=
  (pay7 a b g f r e ((hf e).trans ((blk_f m c t _).trans (row_flag_off m c _ (by rw [slot_eq]; decide))))).trans
    (plain_eq m c t 7 (by decide) a b ha hb r e)

/-- The first result block of a point, as an array. -/
def colsBlk (c : Dev nD) (t : Fin cfg0.N) (j : S64x1024.Idx) : EReal :=
  kvAt (A0 m c) (A1 m c) (A2 m c) (rowOf t (j 0)) ⟨(j 1).val / 128, by have : (j 1).val < 1024 := (j 1).isLt; omega⟩ ⟨(j 1).val % 128, by omega⟩

/-- That array at a column of a head. -/
theorem colsBlk_at (c : Dev nD) (t : Fin cfg0.N) (s : Fin 8) (r : Fin 64) (e : Fin 128) :
    colsBlk m c t (ix2 r (col s e)) = kvAt (A0 m c) (A1 m c) (A2 m c) (rowOf t r) s e := by
  have e1 : (128 * s.val + e.val) / 128 = s.val := by omega
  have e2 : (128 * s.val + e.val) % 128 = e.val := by omega
  show kvAt (A0 m c) (A1 m c) (A2 m c) (rowOf t r) ⟨(128 * s.val + e.val) / 128, _⟩ ⟨(128 * s.val + e.val) % 128, _⟩ = _
  simp only [e1, e2]

/-- The second result block of a point, as an array. -/
def rowsBlk (c : Dev nD) (t : Fin cfg0.N) (j : S1x512x128.Idx) : EReal :=
  kvAt (A0 m c) (A1 m c) (A2 m c) (rowOf t ⟨(j 1).val / 8, by have : (j 1).val < 512 := (j 1).isLt; omega⟩) ⟨(j 1).val % 8, by omega⟩ (j 2)

/-- That array at the row of a head. -/
theorem rowsBlk_at (c : Dev nD) (t : Fin cfg0.N) (s : Fin 8) (r : Fin 64) (e : Fin 128) :
    rowsBlk m c t (ix3 0 (line r s) e) = kvAt (A0 m c) (A1 m c) (A2 m c) (rowOf t r) s e := by
  have e1 : (8 * r.val + s.val) / 8 = r.val := by omega
  have e2 : (8 * r.val + s.val) % 8 = s.val := by omega
  show kvAt (A0 m c) (A1 m c) (A2 m c) (rowOf t ⟨(8 * r.val + s.val) / 8, _⟩) ⟨(8 * r.val + s.val) % 8, _⟩ e = _
  simp only [e1, e2]

set_option maxHeartbeats 1000000 in
/-- What a point leaves in the first result block. -/
theorem cols_block (c : Dev nD) (t : Fin cfg0.N) (j : S64x1024.Idx) : colsAt m c t j = colsBlk m c t j := by
  unfold colsAt cols
  refine View.canon_apply_of_pieces (Val := Elt Ideal) (colsBlk m c t) _ (fun p hp => ?_) j (covers c _ _ _ _ _ _ _ _ _ _ _ _ _ _ _ _ _ j)
  unfold step at hp
  dsimp only at hp
  revert hp
  sl_unfold_run_names
  intro hp
  simp only [List.mem_cons, List.not_mem_nil, or_false] at hp
  rcases hp with rfl | rfl | rfl | rfl | rfl | rfl | rfl | rfl
  · intro x
    obtain ⟨r, e, rfl⟩ : ∃ (r : Fin 64) (e : Fin 128), x = ix2 r e := ⟨x 0, x 1, eq_ix2 x⟩
    refine Eq.trans ?_ ((colsBlk_at m c t 7 r e).symm.trans (congrArg (colsBlk m c t) (place_out _ inb_S64x1024_S64x128_0_896 7 rfl rfl r e).symm))
    exact stored7 m c t _ _ _ _ (read_u (hB0 t) _) (read_w (hB1 t) _) (read_row (hB2 t) _ _ _ 7 rfl rfl) (read_row (hB3 t) _ _ _ 7 rfl rfl) r e
  · intro x
    obtain ⟨r, e, rfl⟩ : ∃ (r : Fin 64) (e : Fin 128), x = ix2 r e := ⟨x 0, x 1, eq_ix2 x⟩
    refine Eq.trans ?_ ((colsBlk_at m c t 6 r e).symm.trans (congrArg (colsBlk m c t) (place_out _ inb_S64x1024_S64x128_0_768 6 rfl rfl r e).symm))
    exact stored6 m c t _ _ _ _ (read_u (hB0 t) _) (read_w (hB1 t) _) (read_row (hB2 t) _ _ _ 6 rfl rfl) (read_row (hB3 t) _ _ _ 6 rfl rfl) r e
  · intro x
    obtain ⟨r, e, rfl⟩ : ∃ (r : Fin 64) (e : Fin 128), x = ix2 r e := ⟨x 0, x 1, eq_ix2 x⟩
    refine Eq.trans ?_ ((colsBlk_at m c t 5 r e).symm.trans (congrArg (colsBlk m c t) (place_out _ inb_S64x1024_S64x128_0_640 5 rfl rfl r e).symm))
    exact stored5 m c t _ _ _ _ (read_u (hB0 t) _) (read_w (hB1 t) _) (read_row (hB2 t) _ _ _ 5 rfl rfl) (read_row (hB3 t) _ _ _ 5 rfl rfl) r e
  · intro x
    obtain ⟨r, e, rfl⟩ : ∃ (r : Fin 64) (e : Fin 128), x = ix2 r e := ⟨x 0, x 1, eq_ix2 x⟩
    refine Eq.trans ?_ ((colsBlk_at m c t 4 r e).symm.trans (congrArg (colsBlk m c t) (place_out _ inb_S64x1024_S64x128_0_512 4 rfl rfl r e).symm))
    exact stored4 m c t _ _ _ _ (read_u (hB0 t) _) (read_w (hB1 t) _) (read_row (hB2 t) _ _ _ 4 rfl rfl) (read_row (hB3 t) _ _ _ 4 rfl rfl) r e
  · intro x
    obtain ⟨r, e, rfl⟩ : ∃ (r : Fin 64) (e : Fin 128), x = ix2 r e := ⟨x 0, x 1, eq_ix2 x⟩
    refine Eq.trans ?_ ((colsBlk_at m c t 3 r e).symm.trans (congrArg (colsBlk m c t) (place_out _ inb_S64x1024_S64x128_0_384 3 rfl rfl r e).symm))
    exact stored3 m c t _ _ _ _ (read_u (hB0 t) _) (read_w (hB1 t) _) (read_row (hB2 t) _ _ _ 3 rfl rfl) (read_row (hB3 t) _ _ _ 3 rfl rfl) r e
  · intro x
    obtain ⟨r, e, rfl⟩ : ∃ (r : Fin 64) (e : Fin 128), x = ix2 r e := ⟨x 0, x 1, eq_ix2 x⟩
    refine Eq.trans ?_ ((colsBlk_at m c t 2 r e).symm.trans (congrArg (colsBlk m c t) (place_out _ inb_S64x1024_S64x128_0_256 2 rfl rfl r e).symm))
    exact stored2 m c t _ _ _ _ (read_u (hB0 t) _) (read_w (hB1 t) _) (read_row (hB2 t) _ _ _ 2 rfl rfl) (read_row (hB3 t) _ _ _ 2 rfl rfl) r e
  · intro x
    obtain ⟨r, e, rfl⟩ : ∃ (r : Fin 64) (e : Fin 128), x = ix2 r e := ⟨x 0, x 1, eq_ix2 x⟩
    refine Eq.trans ?_ ((colsBlk_at m c t 1 r e).symm.trans (congrArg (colsBlk m c t) (place_out _ inb_S64x1024_S64x128_0_128 1 rfl rfl r e).symm))
    exact stored1 m c t _ _ _ _ (read_u (hB0 t) _) (read_w (hB1 t) _) (read_row (hB2 t) _ _ _ 1 rfl rfl) (read_row (hB3 t) _ _ _ 1 rfl rfl) r e
  · intro x
    obtain ⟨r, e, rfl⟩ : ∃ (r : Fin 64) (e : Fin 128), x = ix2 r e := ⟨x 0, x 1, eq_ix2 x⟩
    refine Eq.trans ?_ ((colsBlk_at m c t 0 r e).symm.trans (congrArg (colsBlk m c t) (place_out _ inb_S64x1024_S64x128_0_0 0 rfl rfl r e).symm))
    exact stored0 m c t _ _ _ _ (read_u (hB0 t) _) (read_w (hB1 t) _) (read_row (hB2 t) _ _ _ 0 rfl rfl) (read_row (hB3 t) _ _ _ 0 rfl rfl) r e

set_option maxHeartbeats 1000000 in
/-- What a point leaves in the second result block. -/
theorem rows_block (c : Dev nD) (t : Fin cfg0.N) (j : S1x512x128.Idx) : rowsAt m c t j = rowsBlk m c t j := by
  unfold rowsAt rows
  refine View.canon_apply_of_pieces (Val := Elt Ideal) (rowsBlk m c t) _ (fun p hp => ?_) j (covers_rows c _ _ _ _ _ _ _ _ _ _ _ _ _ _ _ _ _ j)
  unfold step at hp
  dsimp only at hp
  revert hp
  sl_unfold_run_names
  intro hp
  simp only [List.mem_cons, List.not_mem_nil, or_false] at hp
  rcases hp with rfl | rfl | rfl | rfl | rfl | rfl | rfl | rfl
  · intro x
    obtain ⟨z, r, e, rfl⟩ : ∃ (z : Fin 1) (r : Fin 64) (e : Fin 128), x = ix3 z r e := ⟨x 0, x 1, x 2, eq_ix3 x⟩
    obtain rfl : z = 0 := Subsingleton.elim _ _
    refine (pay_row7 _ _ _ _ r e).trans ?_
    refine Eq.trans ?_ ((rowsBlk_at m c t 7 r e).symm.trans (congrArg (rowsBlk m c t) (place_rows _ _ _ 7 rfl rfl rfl r e).symm))
    exact stored7 m c t _ _ _ _ (read_u (hB0 t) _) (read_w (hB1 t) _) (read_row (hB2 t) _ _ _ 7 rfl rfl) (read_row (hB3 t) _ _ _ 7 rfl rfl) r e
  · intro x
    obtain ⟨z, r, e, rfl⟩ : ∃ (z : Fin 1) (r : Fin 64) (e : Fin 128), x = ix3 z r e := ⟨x 0, x 1, x 2, eq_ix3 x⟩
    obtain rfl : z = 0 := Subsingleton.elim _ _
    refine (pay_row6 _ _ _ _ r e).trans ?_
    refine Eq.trans ?_ ((rowsBlk_at m c t 6 r e).symm.trans (congrArg (rowsBlk m c t) (place_rows _ _ _ 6 rfl rfl rfl r e).symm))
    exact stored6 m c t _ _ _ _ (read_u (hB0 t) _) (read_w (hB1 t) _) (read_row (hB2 t) _ _ _ 6 rfl rfl) (read_row (hB3 t) _ _ _ 6 rfl rfl) r e
  · intro x
    obtain ⟨z, r, e, rfl⟩ : ∃ (z : Fin 1) (r : Fin 64) (e : Fin 128), x = ix3 z r e := ⟨x 0, x 1, x 2, eq_ix3 x⟩
    obtain rfl : z = 0 := Subsingleton.elim _ _
    refine (pay_row5 _ _ _ _ r e).trans ?_
    refine Eq.trans ?_ ((rowsBlk_at m c t 5 r e).symm.trans (congrArg (rowsBlk m c t) (place_rows _ _ _ 5 rfl rfl rfl r e).symm))
    exact stored5 m c t _ _ _ _ (read_u (hB0 t) _) (read_w (hB1 t) _) (read_row (hB2 t) _ _ _ 5 rfl rfl) (read_row (hB3 t) _ _ _ 5 rfl rfl) r e
  · intro x
    obtain ⟨z, r, e, rfl⟩ : ∃ (z : Fin 1) (r : Fin 64) (e : Fin 128), x = ix3 z r e := ⟨x 0, x 1, x 2, eq_ix3 x⟩
    obtain rfl : z = 0 := Subsingleton.elim _ _
    refine (pay_row4 _ _ _ _ r e).trans ?_
    refine Eq.trans ?_ ((rowsBlk_at m c t 4 r e).symm.trans (congrArg (rowsBlk m c t) (place_rows _ _ _ 4 rfl rfl rfl r e).symm))
    exact stored4 m c t _ _ _ _ (read_u (hB0 t) _) (read_w (hB1 t) _) (read_row (hB2 t) _ _ _ 4 rfl rfl) (read_row (hB3 t) _ _ _ 4 rfl rfl) r e
  · intro x
    obtain ⟨z, r, e, rfl⟩ : ∃ (z : Fin 1) (r : Fin 64) (e : Fin 128), x = ix3 z r e := ⟨x 0, x 1, x 2, eq_ix3 x⟩
    obtain rfl : z = 0 := Subsingleton.elim _ _
    refine (pay_row3 _ _ _ _ r e).trans ?_
    refine Eq.trans ?_ ((rowsBlk_at m c t 3 r e).symm.trans (congrArg (rowsBlk m c t) (place_rows _ _ _ 3 rfl rfl rfl r e).symm))
    exact stored3 m c t _ _ _ _ (read_u (hB0 t) _) (read_w (hB1 t) _) (read_row (hB2 t) _ _ _ 3 rfl rfl) (read_row (hB3 t) _ _ _ 3 rfl rfl) r e
  · intro x
    obtain ⟨z, r, e, rfl⟩ : ∃ (z : Fin 1) (r : Fin 64) (e : Fin 128), x = ix3 z r e := ⟨x 0, x 1, x 2, eq_ix3 x⟩
    obtain rfl : z = 0 := Subsingleton.elim _ _
    refine (pay_row2 _ _ _ _ r e).trans ?_
    refine Eq.trans ?_ ((rowsBlk_at m c t 2 r e).symm.trans (congrArg (rowsBlk m c t) (place_rows _ _ _ 2 rfl rfl rfl r e).symm))
    exact stored2 m c t _ _ _ _ (read_u (hB0 t) _) (read_w (hB1 t) _) (read_row (hB2 t) _ _ _ 2 rfl rfl) (read_row (hB3 t) _ _ _ 2 rfl rfl) r e
  · intro x
    obtain ⟨z, r, e, rfl⟩ : ∃ (z : Fin 1) (r : Fin 64) (e : Fin 128), x = ix3 z r e := ⟨x 0, x 1, x 2, eq_ix3 x⟩
    obtain rfl : z = 0 := Subsingleton.elim _ _
    refine (pay_row1 _ _ _ _ r e).trans ?_
    refine Eq.trans ?_ ((rowsBlk_at m c t 1 r e).symm.trans (congrArg (rowsBlk m c t) (place_rows _ _ _ 1 rfl rfl rfl r e).symm))
    exact stored1 m c t _ _ _ _ (read_u (hB0 t) _) (read_w (hB1 t) _) (read_row (hB2 t) _ _ _ 1 rfl rfl) (read_row (hB3 t) _ _ _ 1 rfl rfl) r e
  · intro x
    obtain ⟨z, r, e, rfl⟩ : ∃ (z : Fin 1) (r : Fin 64) (e : Fin 128), x = ix3 z r e := ⟨x 0, x 1, x 2, eq_ix3 x⟩
    obtain rfl : z = 0 := Subsingleton.elim _ _
    refine (pay_row0 _ _ _ _ r e).trans ?_
    refine Eq.trans ?_ ((rowsBlk_at m c t 0 r e).symm.trans (congrArg (rowsBlk m c t) (place_rows _ _ _ 0 rfl rfl rfl r e).symm))
    exact stored0 m c t _ _ _ _ (read_u (hB0 t) _) (read_w (hB1 t) _) (read_row (hB2 t) _ _ _ 0 rfl rfl) (read_row (hB3 t) _ _ _ 0 rfl rfl) r e

/-- What a point writes back to the first result. -/
theorem written4 (c : Dev nD) (t : Fin cfg0.N) : (dats m 0 c).flushed 4 t = (cfg0.win 4).cut (grid0.coords t) (colsAt m c t) := by
  show (cfg0.win 4).cut (grid0.coords t) ((dats m 0 c).after 4 t) = _
  rw [left4]

/-- Distinct points take distinct blocks of the first result. -/
theorem apart4 : ∀ t t' : Fin cfg0.N, win0_4.index t = win0_4.index t' → t = t' :=
  (by decide +kernel : ∀ t t' : Fin grid0.N, win0_4.index t = win0_4.index t' → t = t')

/-- A point's block of the first result is what it wrote back. -/
theorem lands4 (c : Dev nD) (t : Fin cfg0.N) :
    ((cfg0.win 4).blk t).view.read (Elt Ideal) ((dats m 0 c).arrAt 4 cfg0.N) = (dats m 0 c).flushed 4 t :=
  (dats m 0 c).read_blk_arrAt_eq_flushed 4 (fun t t' _ _ hne => (cfg0.win 4).disjoint_blk fun h => hne (apart4 t t' h)) cfg0.N t t.isLt (flush0_4 t)

/-- What a point writes back to the second result. -/
theorem written5 (c : Dev nD) (t : Fin cfg0.N) : (dats m 0 c).flushed 5 t = (cfg0.win 5).cut (grid0.coords t) (rowsAt m c t) := by
  show (cfg0.win 5).cut (grid0.coords t) ((dats m 0 c).after 5 t) = _
  rw [left5]

/-- Distinct points take distinct blocks of the second result. -/
theorem apart5 : ∀ t t' : Fin cfg0.N, win0_5.index t = win0_5.index t' → t = t' :=
  (by decide +kernel : ∀ t t' : Fin grid0.N, win0_5.index t = win0_5.index t' → t = t')

/-- A point's block of the second result is what it wrote back. -/
theorem lands5 (c : Dev nD) (t : Fin cfg0.N) :
    ((cfg0.win 5).blk t).view.read (Elt Ideal) ((dats m 0 c).arrAt 5 cfg0.N) = (dats m 0 c).flushed 5 t :=
  (dats m 0 c).read_blk_arrAt_eq_flushed 5 (fun t t' _ _ hne => (cfg0.win 5).disjoint_blk fun h => hne (apart5 t t' h)) cfg0.N t t.isLt (flush0_5 t)

/-- A point's block of the first result. -/
theorem cols_final (c : Dev nD) (t : Fin cfg0.N) (r : Fin 64) (x : Fin 1024) :
    (dats m 0 c).arrAt 4 cfg0.N (ix2 (rowOf t r) x) = colsBlk m c t (ix2 r x) := by
  have hb := congrFun (lands4 m c t) (ix2 r x)
  have he : View.read (Elt Ideal) ((cfg0.win 4).blk t).view ((dats m 0 c).arrAt 4 cfg0.N) (ix2 r x)
      = (dats m 0 c).arrAt 4 cfg0.N (ix2 (rowOf t r) x) := by
    unfold rowOf
    blk_ext [idx t]
  rw [he, written4] at hb
  refine hb.trans ((?_ : _ = (colsAt m c t) (ix2 r x)).trans (cols_block m c t _))
  rfl

/-- A point's block of the second result. -/
theorem rows_final (c : Dev nD) (t : Fin cfg0.N) (y : Fin 512) (e : Fin 128) :
    (dats m 0 c).arrAt 5 cfg0.N (ix3 0 (lineOf t y) e) = rowsBlk m c t (ix3 0 y e) := by
  have hb := congrFun (lands5 m c t) (ix3 0 y e)
  have he : View.read (Elt Ideal) ((cfg0.win 5).blk t).view ((dats m 0 c).arrAt 5 cfg0.N) (ix3 0 y e)
      = (dats m 0 c).arrAt 5 cfg0.N (ix3 0 (lineOf t y) e) := by
    unfold lineOf
    blk_ext [idx t]
  rw [he, written5] at hb
  refine hb.trans ((?_ : _ = (rowsAt m c t) (ix3 0 y e)).trans (rows_block m c t _))
  rfl

/-- The first result array. -/
theorem cols_array (c : Dev nD) (r : Fin 64) (x : Fin 1024) : (dats m 0 c).arrAt 4 cfg0.N (ix2 r x)
    = kvAt (A0 m c) (A1 m c) (A2 m c) r ⟨x.val / 128, by omega⟩ ⟨x.val % 128, by omega⟩ := by
  have hN : cfg0.N = 1 := N_0
  obtain ⟨t, ht⟩ : ∃ t : Fin cfg0.N, t.val = r.val / 64 := ⟨⟨r.val / 64, by omega⟩, rfl⟩
  have e := cols_final m c t ⟨r.val % 64, by omega⟩ x
  have hr : rowOf t ⟨r.val % 64, by omega⟩ = r := Fin.ext (by show 64 * t.val + r.val % 64 = r.val; omega)
  rw [hr] at e
  refine e.trans ?_
  show kvAt (A0 m c) (A1 m c) (A2 m c) (rowOf t ⟨r.val % 64, _⟩) ⟨x.val / 128, _⟩ ⟨x.val % 128, _⟩ = _
  rw [hr]

/-- The second result array, in the layer the call fills. -/
theorem rows_array (c : Dev nD) (y : Fin 512) (e : Fin 128) : (dats m 0 c).arrAt 5 cfg0.N (ix3 0 y e)
    = kvAt (A0 m c) (A1 m c) (A2 m c) ⟨y.val / 8, by omega⟩ ⟨y.val % 8, by omega⟩ e := by
  have hN : cfg0.N = 1 := N_0
  obtain ⟨t, ht⟩ : ∃ t : Fin cfg0.N, t.val = y.val / 512 := ⟨⟨y.val / 512, by omega⟩, rfl⟩
  have e' := rows_final m c t ⟨y.val % 512, by omega⟩ e
  have hy : lineOf t ⟨y.val % 512, by omega⟩ = y := Fin.ext (by show 512 * t.val + y.val % 512 = y.val; omega)
  have hr : rowOf t ⟨y.val % 512 / 8, by omega⟩ = ⟨y.val / 8, by omega⟩ :=
    Fin.ext (by show 64 * t.val + y.val % 512 / 8 = y.val / 8; omega)
  have hs : (⟨y.val % 512 % 8, by omega⟩ : Fin 8) = ⟨y.val % 8, by omega⟩ := Fin.ext (by show y.val % 512 % 8 = y.val % 8; omega)
  rw [hy] at e'
  refine e'.trans ?_
  show kvAt (A0 m c) (A1 m c) (A2 m c) (rowOf t ⟨y.val % 512 / 8, _⟩) ⟨y.val % 512 % 8, _⟩ e = _
  rw [hr, hs]

/-- The host's last lines take the filled layer of the second result. -/
theorem tail_eq (X : Valuation τ sig (Elt Ideal)) (y : Fin 512) (e : Fin 128) :
    (StableHlo.after hostOps1 X (Proc.devRef .tc main_v16) : S512x128.Idx → EReal) (ix2 y e) = (X (Proc.devRef .tc main_v14_1) : S4x512x128.Idx → EReal) (ix3 0 y e) := by
  after_reads_at

/-- The second result, as the host returns it. -/
theorem returned_rows (c : Dev nD) (y : Fin 512) (e : Fin 128) :
    (Pipeline.afterTail₀ cfgs (dats m) 0 (V0 m) [hostOps1] c main_v16 : S512x128.Idx → EReal) (ix2 y e)
      = kvAt (A0 m c) (A1 m c) (A2 m c) ⟨y.val / 8, by omega⟩ ⟨y.val % 8, by omega⟩ e := by
  refine Eq.trans ?_ (rows_array m c y e)
  unfold Pipeline.afterTail₀
  refine (tail_eq _ y e).trans ?_
  exact congrFun (Pipeline.withArrays_arr _ launch0.win.arr_inj c _ _ 5) _

/-- The kernel and the reference give equal results. -/
theorem algebraic : @Cert.algebraic_KvSampleIdeal_KvSampleReferenceIdeal Cert.KvSampleIdeal.Gen.facts Cert.KvSampleReferenceIdeal.Gen.facts := by
  intro m g m' g' _ hagree
  refine ⟨fun c => (dats m 0 c).arrAt 4 cfg0.N, fun c => Pipeline.afterTail₀ cfgs (dats m) 0 (V0 m) [hostOps1] c main_v16,
    (θ_run defs _ _).mono (fun r h c => ⟨(h.1 c).1 4, (h.1 c).2 main_v16 (Pipeline.mem_restRefs_of main_v16 (by decide) (by decide)),
      ((h.1 c).1 0).trans (((dats m 0 c).arrAt_in 0 rfl _).trans ((entry_eq m c 0).trans (V_main_arg0 m c))),
      ((h.1 c).1 1).trans (((dats m 0 c).arrAt_in 1 rfl _).trans ((entry_eq m c 1).trans (V_main_arg1 m c))),
      ((h.1 c).2 main_arg2 (Pipeline.mem_restRefs_of main_arg2 (by decide) (by decide))).trans (W_main_arg2 m (dats m) c)⟩) (ends m g), ?_⟩
  refine (θ_run _ _ _).mono (fun r h c => ?_) (Cert.KvSampleReferenceIdeal.Value.run m' g')
  obtain ⟨h1, h2, k⟩ := h c
  obtain ⟨a0, a1, a2⟩ := hagree c
  refine ⟨h1.trans ?_, h2.trans ?_, k⟩
  · refine (Cert.KvSampleReferenceIdeal.Read.val_main_v35_eq _ _).trans ?_
    rw [a0, a1, a2]
    funext i
    rw [eq_ix2 i]
    exact (Cert.KvSampleReferenceIdeal.Rows.cols_eq _ _ _ (i 0) (i 1)).trans (cols_array m c (i 0) (i 1)).symm
  · refine (Cert.KvSampleReferenceIdeal.Read.val_main_v36_eq _ _).trans ?_
    rw [a0, a1, a2]
    funext i
    rw [eq_ix2 i]
    exact (Cert.KvSampleReferenceIdeal.Rows.rows_eq _ _ _ (i 0) (i 1)).trans (returned_rows m c (i 0) (i 1)).symm

/-- The reference's run leaves the arguments unchanged and the machine quiet. -/
theorem frame_reference : @Cert.quiescent_KvSampleReferenceIdeal Cert.KvSampleReferenceIdeal.Gen.facts := by
  intro m g _
  exact (θ_run Cert.KvSampleReferenceIdeal.defs _ _).mono (fun r h => ⟨fun c => (h c).2.2, sem_eq_zero_of_no_sems (by decide) r.2⟩)
    (Cert.KvSampleReferenceIdeal.Value.run m g)

end Cert.KvSampleIdeal.Rows
-- ==== Proof.KvIdealSteps.lean ====
module

public import proofs.«01_k».proof.Proof.Gen.KvIdeal.Frame
public import proofs.«01_k».proof.Proof.Gen.KvIdeal.Skeleton
public import Idealize.ShloMosaic.Lib.Claim

@[expose] public section

set_option maxRecDepth 16384

noncomputable section

namespace Cert.KvIdeal.Rows

open Cert.KvIdeal Cert.KvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! The frame of the projection of the keys and values of the prompt batch. One step of the call stores 8 blocks of 128 columns side by
side in its first result block, and the same 8 blocks in its second one, block `k` in the rows `8 r + k`. -/

set_option maxHeartbeats 1000000 in
/-- The stores of one step into its two result blocks, found by running the body from blocks holding `u`, `w`, `g` and `f`; these
    are left as they were. -/
def step (c : Dev nD) (i : grid0.Coords) (a0 : Memref sig .tc .vmem S1024x2048 .bf16) (h0 : a0.IsWhole) (a1 : Memref sig .tc .vmem S1x1024x2048 .bf16) (h1 : a1.IsWhole) (a2 : Memref sig .tc .vmem S1x1024 .f32) (h2 : a2.IsWhole) (a3 : Memref sig .tc .vmem S1x1024 .f32) (h3 : a3.IsWhole) (a4 : Memref sig .tc .vmem S1024x1024 .f32) (h4 : a4.IsWhole) (a5 : Memref sig .tc .vmem S1x8192x128 .f32) (h5 : a5.IsWhole)
    (u : Vec F S1024x2048 .bf16) (w : Vec F S1x1024x2048 .bf16) (g : Vec F S1x1024 .f32) (f : Vec F S1x1024 .f32) :
    { L : List (View.Piece (Elt F) S1024x1024 .f32) × List (View.Piece (Elt F) S1x8192x128 .f32) //
      ∀ (E : Set ℕ) (K : PUnit → sProp 𝕄),
        iprop(owns (c : Thread nD τ) a0 fullShare u ∗ owns (c : Thread nD τ) a1 fullShare w ∗ owns (c : Thread nD τ) a2 fullShare g ∗ owns (c : Thread nD τ) a3 fullShare f
            ∗ (∃ d, owns (c : Thread nD τ) a4 fullShare d) ∗ (∃ d, owns (c : Thread nD τ) a5 fullShare d)
            ∗ (iprop(owns (c : Thread nD τ) a0 fullShare u ∗ owns (c : Thread nD τ) a1 fullShare w ∗ owns (c : Thread nD τ) a2 fullShare g ∗ owns (c : Thread nD τ) a3 fullShare f
                ∗ (∃ b, a4.view.loc (c : Thread nD τ) ↦[a4.view.set]{fullShare} a4.view.writes (Elt F) b L.1)
                ∗ (∃ b, a5.view.loc (c : Thread nD τ) ↦[a5.view.set]{fullShare} a5.view.writes (Elt F) b L.2)) -∗ K ⟨⟩))
          ⊢ wp frame (wpE (defs₀ (F := F)) Variants.none c none) E (cc0_proj_kv i a0 h0 a1 h1 a2 h2 a3 h3 a4 h4 a5 h5) K } := by
  refine ⟨(?_, ?_), fun E K => ?body⟩
  case body =>
    simp only [cc0_proj_kv_eq_skeleton]
    unfold cc0_proj_kv_skel
    simp only [k0_part1_eq_skeleton, k0_part2_eq_skeleton, k0_part3_eq_skeleton, k0_part4_eq_skeleton, k0_part5_eq_skeleton]
    unfold owns
    iintro ⟨⟨%b0, %e0, H0⟩, ⟨%b1, %e1, H1⟩, ⟨%b2, %e2, H2⟩, ⟨%b3, %e3, H3⟩, ⟨%d4, %b4, -, H4⟩, ⟨%d5, %b5, -, H5⟩, Hk⟩
    obtain rfl := h0.eq_unread e0
    obtain rfl := h1.eq_unread e1
    obtain rfl := h2.eq_unread e2
    obtain rfl := h3.eq_unread e3
    sl_exec
    sl_step
    iapply Hk
    isplitl [H0]
    · iexists _
      isplitr
      · ipureintro; exact h0.read_unread _
      iexact H0
    isplitl [H1]
    · iexists _
      isplitr
      · ipureintro; exact h1.read_unread _
      iexact H1
    isplitl [H2]
    · iexists _
      isplitr
      · ipureintro; exact h2.read_unread _
      iexact H2
    isplitl [H3]
    · iexists _
      isplitr
      · ipureintro; exact h3.read_unread _
      iexact H3
    isplitl [H4]
    · iexists _
      iexact H4
    iexists _
    iexact H5

/-- Every element of the first result block is stored. -/
theorem covers (c : Dev nD) (i : grid0.Coords) (a0 : Memref sig .tc .vmem S1024x2048 .bf16) (h0 : a0.IsWhole) (a1 : Memref sig .tc .vmem S1x1024x2048 .bf16) (h1 : a1.IsWhole) (a2 : Memref sig .tc .vmem S1x1024 .f32) (h2 : a2.IsWhole) (a3 : Memref sig .tc .vmem S1x1024 .f32) (h3 : a3.IsWhole) (a4 : Memref sig .tc .vmem S1024x1024 .f32) (h4 : a4.IsWhole) (a5 : Memref sig .tc .vmem S1x8192x128 .f32) (h5 : a5.IsWhole)
    (u : Vec F S1024x2048 .bf16) (w : Vec F S1x1024x2048 .bf16) (g : Vec F S1x1024 .f32) (f : Vec F S1x1024 .f32) (y : S1024x1024.Idx) :
    ∃ p ∈ (step c i a0 h0 a1 h1 a2 h2 a3 h3 a4 h4 a5 h5 u w g f).1.1, y ∈ p.1.set :=
  View.cover_of_tiledL (step c i a0 h0 a1 h1 a2 h2 a3 h3 a4 h4 a5 h5 u w g f).1.1 S1024x128.size (by sl_kernel_rfl) y

/-- An element of the second result block lies in the rows that leave its row's remainder by 8. -/
theorem mem_rows (k : ℕ) (off : Fin 3 → ℕ) (h0 : off 0 = 0) (h1 : off 1 = k) (h2 : off 2 = 0)
    (inb : ∀ a, S1x1024x128.size a = 0 ∨ off a + (![1, 8, 1] : Fin 3 → ℕ) a * (S1x1024x128.size a - 1) < S1x8192x128.size a)
    (pos : ∀ a, 0 < (![1, 8, 1] : Fin 3 → ℕ) a) (y : S1x8192x128.Idx) (hy : (y 1).val % 8 = k) :
    y ∈ (⟨⟨off, S1x1024x128.size, ![1, 8, 1], inb⟩, pos⟩ : Rect S1x8192x128).set := by
  rw [LoadRect.mem_set]
  intro a
  match a with
  | ⟨0, _⟩ =>
    have l : (y 0).val < 1 := (y 0).isLt
    exact ⟨0, Nat.one_pos, show (y 0).val = off 0 + 1 * 0 by omega⟩
  | ⟨1, _⟩ =>
    have l : (y 1).val < 8192 := (y 1).isLt
    exact ⟨(y 1).val / 8, show (y 1).val / 8 < 1024 by omega, show (y 1).val = off 1 + 8 * ((y 1).val / 8) by omega⟩
  | ⟨2, _⟩ => exact ⟨(y 2).val, (y 2).isLt, show (y 2).val = off 2 + 1 * (y 2).val by omega⟩

/-- Every element of the second result block is stored. -/
theorem covers_rows (c : Dev nD) (i : grid0.Coords) (a0 : Memref sig .tc .vmem S1024x2048 .bf16) (h0 : a0.IsWhole) (a1 : Memref sig .tc .vmem S1x1024x2048 .bf16) (h1 : a1.IsWhole) (a2 : Memref sig .tc .vmem S1x1024 .f32) (h2 : a2.IsWhole) (a3 : Memref sig .tc .vmem S1x1024 .f32) (h3 : a3.IsWhole) (a4 : Memref sig .tc .vmem S1024x1024 .f32) (h4 : a4.IsWhole) (a5 : Memref sig .tc .vmem S1x8192x128 .f32) (h5 : a5.IsWhole)
    (u : Vec F S1024x2048 .bf16) (w : Vec F S1x1024x2048 .bf16) (g : Vec F S1x1024 .f32) (f : Vec F S1x1024 .f32) (y : S1x8192x128.Idx) :
    ∃ p ∈ (step c i a0 h0 a1 h1 a2 h2 a3 h3 a4 h4 a5 h5 u w g f).1.2, y ∈ p.1.set := by
  unfold step
  dsimp only
  sl_unfold_run_names
  have hk : (y 1).val % 8 = 0 ∨ (y 1).val % 8 = 1 ∨ (y 1).val % 8 = 2 ∨ (y 1).val % 8 = 3 ∨ (y 1).val % 8 = 4 ∨ (y 1).val % 8 = 5 ∨ (y 1).val % 8 = 6 ∨ (y 1).val % 8 = 7 := by omega
  rcases hk with hk | hk | hk | hk | hk | hk | hk | hk
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_rows 0 _ rfl rfl rfl _ _ y hk⟩
  · exact ⟨_, (List.mem_cons_of_mem _ (List.mem_cons_of_mem _ (List.mem_cons_of_mem _ (List.mem_cons_of_mem _ (List.mem_cons_of_mem _ (List.mem_cons_of_mem _ List.mem_cons_self)))))), mem_rows 1 _ rfl rfl rfl _ _ y hk⟩
  · exact ⟨_, (List.mem_cons_of_mem _ (List.mem_cons_of_mem _ (List.mem_cons_of_mem _ (List.mem_cons_of_mem _ (List.mem_cons_of_mem _ List.mem_cons_self))))), mem_rows 2 _ rfl rfl rfl _ _ y hk⟩
  · exact ⟨_, (List.mem_cons_of_mem _ (List.mem_cons_of_mem _ (List.mem_cons_of_mem _ (List.mem_cons_of_mem _ List.mem_cons_self)))), mem_rows 3 _ rfl rfl rfl _ _ y hk⟩
  · exact ⟨_, (List.mem_cons_of_mem _ (List.mem_cons_of_mem _ (List.mem_cons_of_mem _ List.mem_cons_self))), mem_rows 4 _ rfl rfl rfl _ _ y hk⟩
  · exact ⟨_, (List.mem_cons_of_mem _ (List.mem_cons_of_mem _ List.mem_cons_self)), mem_rows 5 _ rfl rfl rfl _ _ y hk⟩
  · exact ⟨_, (List.mem_cons_of_mem _ List.mem_cons_self), mem_rows 6 _ rfl rfl rfl _ _ y hk⟩
  · exact ⟨_, List.mem_cons_self, mem_rows 7 _ rfl rfl rfl _ _ y hk⟩

/-- What a step leaves in the first result block. -/
def cols (c : Dev nD) (i : grid0.Coords) (a0 : Memref sig .tc .vmem S1024x2048 .bf16) (h0 : a0.IsWhole) (a1 : Memref sig .tc .vmem S1x1024x2048 .bf16) (h1 : a1.IsWhole) (a2 : Memref sig .tc .vmem S1x1024 .f32) (h2 : a2.IsWhole) (a3 : Memref sig .tc .vmem S1x1024 .f32) (h3 : a3.IsWhole) (a4 : Memref sig .tc .vmem S1024x1024 .f32) (h4 : a4.IsWhole) (a5 : Memref sig .tc .vmem S1x8192x128 .f32) (h5 : a5.IsWhole)
    (u : Vec F S1024x2048 .bf16) (w : Vec F S1x1024x2048 .bf16) (g : Vec F S1x1024 .f32) (f : Vec F S1x1024 .f32) : Vec F S1024x1024 .f32 :=
  View.canon (step c i a0 h0 a1 h1 a2 h2 a3 h3 a4 h4 a5 h5 u w g f).1.1

/-- What a step leaves in the second result block. -/
def rows (c : Dev nD) (i : grid0.Coords) (a0 : Memref sig .tc .vmem S1024x2048 .bf16) (h0 : a0.IsWhole) (a1 : Memref sig .tc .vmem S1x1024x2048 .bf16) (h1 : a1.IsWhole) (a2 : Memref sig .tc .vmem S1x1024 .f32) (h2 : a2.IsWhole) (a3 : Memref sig .tc .vmem S1x1024 .f32) (h3 : a3.IsWhole) (a4 : Memref sig .tc .vmem S1024x1024 .f32) (h4 : a4.IsWhole) (a5 : Memref sig .tc .vmem S1x8192x128 .f32) (h5 : a5.IsWhole)
    (u : Vec F S1024x2048 .bf16) (w : Vec F S1x1024x2048 .bf16) (g : Vec F S1x1024 .f32) (f : Vec F S1x1024 .f32) : Vec F S1x8192x128 .f32 :=
  View.canon (step c i a0 h0 a1 h1 a2 h2 a3 h3 a4 h4 a5 h5 u w g f).1.2

variable (m : (ℓ : Loc nD τ sig) → Buf (Elt F) ℓ) (ρ : Dev nD → PrngReg)

/-- The buffer of window 0 at a point. -/
abbrev B0 (t : Fin cfg0.N) : Memref sig .tc .vmem S1024x2048 .bf16 := win0_0.stage (cfg0.slots t 0)
/-- It is a whole buffer. -/
abbrev hB0 (t : Fin cfg0.N) : (B0 t).IsWhole := hstage0_0 ((cfg0.slots t 0).cast nbuf0_0)
/-- The buffer of window 1 at a point. -/
abbrev B1 (t : Fin cfg0.N) : Memref sig .tc .vmem S1x1024x2048 .bf16 := win0_1.stage (cfg0.slots t 1)
/-- It is a whole buffer. -/
abbrev hB1 (t : Fin cfg0.N) : (B1 t).IsWhole := hstage0_1 ((cfg0.slots t 1).cast nbuf0_1)
/-- The buffer of window 2 at a point. -/
abbrev B2 (t : Fin cfg0.N) : Memref sig .tc .vmem S1x1024 .f32 := win0_2.stage (cfg0.slots t 2)
/-- It is a whole buffer. -/
abbrev hB2 (t : Fin cfg0.N) : (B2 t).IsWhole := hstage0_2 ((cfg0.slots t 2).cast nbuf0_2)
/-- The buffer of window 3 at a point. -/
abbrev B3 (t : Fin cfg0.N) : Memref sig .tc .vmem S1x1024 .f32 := win0_3.stage (cfg0.slots t 3)
/-- It is a whole buffer. -/
abbrev hB3 (t : Fin cfg0.N) : (B3 t).IsWhole := hstage0_3 ((cfg0.slots t 3).cast nbuf0_3)
/-- The buffer of window 4 at a point. -/
abbrev B4 (t : Fin cfg0.N) : Memref sig .tc .vmem S1024x1024 .f32 := win0_4.stage (cfg0.slots t 4)
/-- It is a whole buffer. -/
abbrev hB4 (t : Fin cfg0.N) : (B4 t).IsWhole := hstage0_4 ((cfg0.slots t 4).cast nbuf0_4)
/-- The buffer of window 5 at a point. -/
abbrev B5 (t : Fin cfg0.N) : Memref sig .tc .vmem S1x8192x128 .f32 := win0_5.stage (cfg0.slots t 5)
/-- It is a whole buffer. -/
abbrev hB5 (t : Fin cfg0.N) : (B5 t).IsWhole := hstage0_5 ((cfg0.slots t 5).cast nbuf0_5)

/-- What point `t` leaves in the first result block. -/
def colsAt (c : Dev nD) (t : Fin cfg0.N) : Vec F S1024x1024 .f32 :=
  cols c (grid0.coords t) (B0 t) (hB0 t) (B1 t) (hB1 t) (B2 t) (hB2 t) (B3 t) (hB3 t) (B4 t) (hB4 t) (B5 t) (hB5 t)
    (iblk m c 0 t) (X0_1 m c t) (iblk m c 2 t) (iblk m c 3 t)

/-- What point `t` leaves in the second result block. -/
def rowsAt (c : Dev nD) (t : Fin cfg0.N) : Vec F S1x8192x128 .f32 :=
  rows c (grid0.coords t) (B0 t) (hB0 t) (B1 t) (hB1 t) (B2 t) (hB2 t) (B3 t) (hB3 t) (B4 t) (hB4 t) (B5 t) (hB5 t)
    (iblk m c 0 t) (X0_1 m c t) (iblk m c 2 t) (iblk m c 3 t)

/-- The proof data: the arrays as the call finds them; after a point the operands' blocks as fetched, the result blocks as
    its stores leave them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => colsAt m c t
    | ⟨5, _⟩ => rowsAt m c t
  Φ _ := Pipeline.ΦA spec0 c
  q _ := fullShare
  owed _ := 0

/-- The arrays before the call. -/
theorem entry_eq (c : Dev nD) (w : Fin cfg0.W) : (dats m 0 c).A w = V m c (Pipeline.arrRef spec0 w) := by dsimp only [dats]
/-- Window 0's block after a point. -/
theorem left0 (c : Dev nD) (t : Fin cfg0.N) : (dats m 0 c).after 0 t = iblk m c 0 t := by dsimp only [dats]
/-- Window 1's block after a point. -/
theorem left1 (c : Dev nD) (t : Fin cfg0.N) : (dats m 0 c).after 1 t = X0_1 m c t := by dsimp only [dats]
/-- Window 2's block after a point. -/
theorem left2 (c : Dev nD) (t : Fin cfg0.N) : (dats m 0 c).after 2 t = iblk m c 2 t := by dsimp only [dats]
/-- Window 3's block after a point. -/
theorem left3 (c : Dev nD) (t : Fin cfg0.N) : (dats m 0 c).after 3 t = iblk m c 3 t := by dsimp only [dats]
/-- Window 4's block after a point. -/
theorem left4 (c : Dev nD) (t : Fin cfg0.N) : (dats m 0 c).after 4 t = colsAt m c t := by dsimp only [dats]
/-- Window 5's block after a point. -/
theorem left5 (c : Dev nD) (t : Fin cfg0.N) : (dats m 0 c).after 5 t = rowsAt m c t := by dsimp only [dats]
/-- Window 0's block before a point. -/
theorem held0 (c : Dev nD) (t : Fin cfg0.N) (d) : (dats m 0 c).before 0 t d = iblk m c 0 t :=
  before0_0_of m (dats m 0 c) (entry_eq m c 0) (left0 m c) t d
/-- Window 1's block before a point. -/
theorem held1 (c : Dev nD) (t : Fin cfg0.N) (d) : (dats m 0 c).before 1 t d = X0_1 m c t :=
  before0_1_of m (dats m 0 c) (entry_eq m c 1) (left1 m c) t d
/-- Window 2's block before a point. -/
theorem held2 (c : Dev nD) (t : Fin cfg0.N) (d) : (dats m 0 c).before 2 t d = iblk m c 2 t :=
  before0_2_of m (dats m 0 c) (entry_eq m c 2) (left2 m c) t d
/-- Window 3's block before a point. -/
theorem held3 (c : Dev nD) (t : Fin cfg0.N) (d) : (dats m 0 c).before 3 t d = iblk m c 3 t :=
  before0_3_of m (dats m 0 c) (entry_eq m c 3) (left3 m c) t d

/-- What a point's body starts from. -/
def given (c : Dev nD) (t : Fin cfg0.N) : sProp 𝕄 :=
  iprop((dats m 0 c).Φ t.castSucc ∗ (dats m 0 c).owesAt () t.castSucc
    ∗ (∃ d, owns (c : Thread nD τ) (B0 t) fullShare ((dats m 0 c).before 0 t d))
    ∗ (∃ d, owns (c : Thread nD τ) (B1 t) fullShare ((dats m 0 c).before 1 t d))
    ∗ (∃ d, owns (c : Thread nD τ) (B2 t) fullShare ((dats m 0 c).before 2 t d))
    ∗ (∃ d, owns (c : Thread nD τ) (B3 t) fullShare ((dats m 0 c).before 3 t d))
    ∗ (∃ d, owns (c : Thread nD τ) (B4 t) fullShare ((dats m 0 c).before 4 t d))
    ∗ (∃ d, owns (c : Thread nD τ) (B5 t) fullShare ((dats m 0 c).before 5 t d)))

/-- What it ends with. -/
def returned (c : Dev nD) (t : Fin cfg0.N) : sProp 𝕄 :=
  iprop((dats m 0 c).Φ t.succ ∗ (dats m 0 c).owesAt () t.succ
    ∗ owns (c : Thread nD τ) (B0 t) fullShare ((dats m 0 c).after 0 t)
    ∗ owns (c : Thread nD τ) (B1 t) fullShare ((dats m 0 c).after 1 t)
    ∗ owns (c : Thread nD τ) (B2 t) fullShare ((dats m 0 c).after 2 t)
    ∗ owns (c : Thread nD τ) (B3 t) fullShare ((dats m 0 c).after 3 t)
    ∗ owns (c : Thread nD τ) (B4 t) fullShare ((dats m 0 c).after 4 t)
    ∗ owns (c : Thread nD τ) (B5 t) fullShare ((dats m 0 c).after 5 t))

/-- A point's body runs from the one to the other. -/
theorem body_runs (c : Dev nD) (t : Fin cfg0.N) :
    given m c t ⊢ wp frame (wpE (defs₀ (F := F)) Variants.none c none) Set.univ (bodyAt0 t) (fun _ => returned m c t) := by
  unfold given returned bodyAt0
  simp only [held0, held1, held2, held3]
  rw [show (dats m 0 c).Φ t.succ = (dats m 0 c).Φ t.castSucc from rfl,
    show (dats m 0 c).owesAt () t.succ = (dats m 0 c).owesAt () t.castSucc from rfl, left0, left1, left2, left3, left4, left5]
  unfold colsAt rowsAt cols rows
  rw [← View.read_writes_junk_eq_canon (Memref.whole cc0_stg4_0 : Memref sig .tc .vmem S1024x1024 .f32).view,
    ← View.read_writes_junk_eq_canon (Memref.whole cc0_stg5_0 : Memref sig .tc .vmem S1x8192x128 .f32).view]
  iintro ⟨HΦ, Ho, ⟨%d0, H0⟩, ⟨%d1, H1⟩, ⟨%d2, H2⟩, ⟨%d3, H3⟩, ⟨%d4, H4⟩, ⟨%d5, H5⟩⟩
  iapply ((step c (grid0.coords t) (B0 t) (hB0 t) (B1 t) (hB1 t) (B2 t) (hB2 t) (B3 t) (hB3 t) (B4 t) (hB4 t) (B5 t) (hB5 t)
    (iblk m c 0 t) (X0_1 m c t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, ⟨%f4, H4⟩, ⟨%f5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (covers c _ _ _ _ _ _ _ _ _ _ _ _ _ _ _ _ _)
  unfold owns; iexists _; isplitr
  swap; · iexact H5
  ipureintro; exact View.read_writes_of_cover _ _ _ _ _ (covers_rows c _ _ _ _ _ _ _ _ _ _ _ _ _ _ _ _ _)

/-- The call's body at a point is this body. -/
theorem body_row (t : Fin cfg0.N) : defs₀ (F := F) .tc cfg0.body (cfg0.bodyArgs t (cfg0.slots t)) = bodyAt0 t := by
  unfold defs₀; rw [Defs.onTc_tc]

/-- Every point's body does what the pipeline asks of it. -/
theorem obligation (c : Dev nD) : BodyObligation (dats (F := F) m 0 c) (defs₀ (F := F)) Variants.none () Set.univ := fun t => by
  rw [bigSep_W0, bigSep_W0, body_row]
  exact triple_restated (body_runs m c t) rfl .rfl fun _ => .rfl

set_option backward.isDefEq.respectTransparency.types false in
/-- The program ends, its arrays as the proof data say and the other buffers as the host's lines leave them, and the machine quiet. -/
theorem ends : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := entry_eq m) (hΦ := fun _ _ => rfl)

/-- The program leaves its arguments unchanged. -/
theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (entry_eq m) ((θ_run defs _ _).mono (fun _ h => h.1) (ends m ρ))

/-- And it ends with the machine quiet. -/
theorem whole : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (kept m ρ) ((θ_run defs _ _).mono (fun _ h => h.2) (ends m ρ))

end Cert.KvIdeal.Rows

end
-- ==== Proof.KvIdealPays.lean ====
module

public import proofs.«01_k».proof.Proof.KvSpec
public import proofs.«01_k».proof.Proof.KvIdealSteps
public import Idealize.ShloMosaic.Lib.Pointwise

@[expose] public section

set_option maxRecDepth 16384

noncomputable section

open Idealize.ShloMosaic Idealize.ShloMosaic.TcCoe Idealize.ShloMosaic.Tactic

namespace Cert.KvIdeal.Rows

open Cert.KvIdeal Cert.KvIdeal.Gen Cert.Layer.Ret Cert.Layer.Rows

/-- A block's product at a row and a column. -/
def part (a : Vec Ideal S1024x2048 .bf16) (b : Vec Ideal S1x1024x2048 .bf16) (r : Fin 1024) (x : Fin 1024) : EReal :=
  ∑ k : Fin 2048, a (ix2 r k) * b (ix3 0 x k)

/-- A column of a head, among the block's columns. -/
def col (s : Fin 8) (e : Fin 128) : Fin 1024 := ⟨128 * s.val + e.val, by omega⟩

/-- What a point stores for head 0, at an element, the flag being zero. -/
theorem pay0 (a : Vec Ideal S1024x2048 .bf16) (b : Vec Ideal S1x1024x2048 .bf16) (g f : Vec Ideal S1x128 .f32) (r : Fin 1024) (e : Fin 128)
    (hf : f (ix2 0 e) = 0) : k0_pay4 (F := Ideal) a b g f (ix2 r e)
      = part a b r (col 0 e) := by
  have hc : ∀ x, col 0 x = ⟨x.val, by omega⟩ := fun x => Fin.ext (by show 128 * 0 + x.val = x.val; omega)
  simp only [hc]
  unfold part
  pointwise [k0_pay4, k0_pay3]
  rw [hf, if_neg half_not_lt_zero]

/-- The same head's rows hold the same. -/
theorem pay_row0 (a : Vec Ideal S1024x2048 .bf16) (b : Vec Ideal S1x1024x2048 .bf16) (g f : Vec Ideal S1x128 .f32) (r : Fin 1024) (e : Fin 128) :
    k0_pay5 (F := Ideal) a b g f (ix3 0 r e) = k0_pay4 (F := Ideal) a b g f (ix2 r e) := by
  pointwise [k0_pay5]

/-- What a point stores for head 1, at an element, the flag being zero. -/
theorem pay1 (a : Vec Ideal S1024x2048 .bf16) (b : Vec Ideal S1x1024x2048 .bf16) (g f : Vec Ideal S1x128 .f32) (r : Fin 1024) (e : Fin 128)
    (hf : f (ix2 0 e) = 0) : k0_pay9 (F := Ideal) (k0_pay6 a b) (k0_pay7 a b) k0_pay8 g f (ix2 r e)
      = part a b r (col 1 e) := by
  have hc : ∀ x, col 1 x = ⟨128 + x.val, by omega⟩ := fun x => Fin.ext (by show 128 * 1 + x.val = 128 + x.val; omega)
  simp only [hc]
  unfold part
  pointwise [k0_pay9, k0_pay6, k0_pay7, k0_pay8, k0_pay3]
  rw [hf, if_neg half_not_lt_zero]

/-- The same head's rows hold the same. -/
theorem pay_row1 (a : Vec Ideal S1024x2048 .bf16) (b : Vec Ideal S1x1024x2048 .bf16) (g f : Vec Ideal S1x128 .f32) (r : Fin 1024) (e : Fin 128) :
    k0_pay10 (F := Ideal) (k0_pay6 a b) (k0_pay7 a b) k0_pay8 g f (ix3 0 r e) = k0_pay9 (F := Ideal) (k0_pay6 a b) (k0_pay7 a b) k0_pay8 g f (ix2 r e) := by
  pointwise [k0_pay10]

/-- What a point stores for head 2, at an element, the flag being zero. -/
theorem pay2 (a : Vec Ideal S1024x2048 .bf16) (b : Vec Ideal S1x1024x2048 .bf16) (g f : Vec Ideal S1x128 .f32) (r : Fin 1024) (e : Fin 128)
    (hf : f (ix2 0 e) = 0) : k0_pay15 (F := Ideal) (k0_pay11 (k0_pay3 a b)) (k0_pay12 (k0_pay3 a b) g) (k0_pay13 f) k0_pay14 (ix2 r e)
      = part a b r (col 2 e) := by
  have hc : ∀ x, col 2 x = ⟨256 + x.val, by omega⟩ := fun x => Fin.ext (by show 128 * 2 + x.val = 256 + x.val; omega)
  simp only [hc]
  unfold part
  pointwise [k0_pay15, k0_pay11, k0_pay3, k0_pay12, k0_pay13, k0_pay14]
  rw [hf, if_neg half_not_lt_zero]

/-- The same head's rows hold the same. -/
theorem pay_row2 (a : Vec Ideal S1024x2048 .bf16) (b : Vec Ideal S1x1024x2048 .bf16) (g f : Vec Ideal S1x128 .f32) (r : Fin 1024) (e : Fin 128) :
    k0_pay16 (F := Ideal) (k0_pay11 (k0_pay3 a b)) (k0_pay12 (k0_pay3 a b) g) (k0_pay13 f) k0_pay14 (ix3 0 r e) = k0_pay15 (F := Ideal) (k0_pay11 (k0_pay3 a b)) (k0_pay12 (k0_pay3 a b) g) (k0_pay13 f) k0_pay14 (ix2 r e) := by
  pointwise [k0_pay16]

/-- What a point stores for head 3, at an element, the flag being zero. -/
theorem pay3 (a : Vec Ideal S1024x2048 .bf16) (b : Vec Ideal S1x1024x2048 .bf16) (g f : Vec Ideal S1x128 .f32) (r : Fin 1024) (e : Fin 128)
    (hf : f (ix2 0 e) = 0) : k0_pay17 (F := Ideal) (k0_pay3 a b) g f (ix2 r e)
      = part a b r (col 3 e) := by
  have hc : ∀ x, col 3 x = ⟨384 + x.val, by omega⟩ := fun x => Fin.ext (by show 128 * 3 + x.val = 384 + x.val; omega)
  simp only [hc]
  unfold part
  pointwise [k0_pay17, k0_pay3]
  rw [hf, if_neg half_not_lt_zero]

/-- The same head's rows hold the same. -/
theorem pay_row3 (a : Vec Ideal S1024x2048 .bf16) (b : Vec Ideal S1x1024x2048 .bf16) (g f : Vec Ideal S1x128 .f32) (r : Fin 1024) (e : Fin 128) :
    k0_pay18 (F := Ideal) (k0_pay3 a b) g f (ix3 0 r e) = k0_pay17 (F := Ideal) (k0_pay3 a b) g f (ix2 r e) := by
  pointwise [k0_pay18]

/-- What a point stores for head 4, at an element, the flag being one. -/
theorem pay4 (a : Vec Ideal S1024x2048 .bf16) (b : Vec Ideal S1x1024x2048 .bf16) (g f : Vec Ideal S1x128 .f32) (r : Fin 1024) (e : Fin 128)
    (hf : f (ix2 0 e) = 1) : k0_pay21 (F := Ideal) (k0_pay19 (k0_pay3 a b)) (k0_pay20 (k0_pay3 a b)) g f (ix2 r e)
      = part a b r (col 4 e) * scale128 (fun x => part a b r (col 4 x)) * g (ix2 0 e) := by
  have hc : ∀ x, col 4 x = ⟨512 + x.val, by omega⟩ := fun x => Fin.ext (by show 128 * 4 + x.val = 512 + x.val; omega)
  simp only [hc]
  unfold part scale128
  pointwise [k0_pay21, k0_pay19, k0_pay3, k0_pay20]
  rw [hf, if_pos half_lt_one]

/-- The same head's rows hold the same. -/
theorem pay_row4 (a : Vec Ideal S1024x2048 .bf16) (b : Vec Ideal S1x1024x2048 .bf16) (g f : Vec Ideal S1x128 .f32) (r : Fin 1024) (e : Fin 128) :
    k0_pay22 (F := Ideal) (k0_pay19 (k0_pay3 a b)) (k0_pay20 (k0_pay3 a b)) g f (ix3 0 r e) = k0_pay21 (F := Ideal) (k0_pay19 (k0_pay3 a b)) (k0_pay20 (k0_pay3 a b)) g f (ix2 r e) := by
  pointwise [k0_pay22]

/-- What a point stores for head 5, at an element, the flag being one. -/
theorem pay5 (a : Vec Ideal S1024x2048 .bf16) (b : Vec Ideal S1x1024x2048 .bf16) (g f : Vec Ideal S1x128 .f32) (r : Fin 1024) (e : Fin 128)
    (hf : f (ix2 0 e) = 1) : k0_pay25 (F := Ideal) (k0_pay23 (k0_pay3 a b)) (k0_pay24 (k0_pay3 a b) g) f (ix2 r e)
      = part a b r (col 5 e) * scale128 (fun x => part a b r (col 5 x)) * g (ix2 0 e) := by
  have hc : ∀ x, col 5 x = ⟨640 + x.val, by omega⟩ := fun x => Fin.ext (by show 128 * 5 + x.val = 640 + x.val; omega)
  simp only [hc]
  unfold part scale128
  pointwise [k0_pay25, k0_pay23, k0_pay3, k0_pay24]
  rw [hf, if_pos half_lt_one]

/-- The same head's rows hold the same. -/
theorem pay_row5 (a : Vec Ideal S1024x2048 .bf16) (b : Vec Ideal S1x1024x2048 .bf16) (g f : Vec Ideal S1x128 .f32) (r : Fin 1024) (e : Fin 128) :
    k0_pay26 (F := Ideal) (k0_pay23 (k0_pay3 a b)) (k0_pay24 (k0_pay3 a b) g) f (ix3 0 r e) = k0_pay25 (F := Ideal) (k0_pay23 (k0_pay3 a b)) (k0_pay24 (k0_pay3 a b) g) f (ix2 r e) := by
  pointwise [k0_pay26]

/-- What a point stores for head 6, at an element, the flag being zero. -/
theorem pay6 (a : Vec Ideal S1024x2048 .bf16) (b : Vec Ideal S1x1024x2048 .bf16) (g f : Vec Ideal S1x128 .f32) (r : Fin 1024) (e : Fin 128)
    (hf : f (ix2 0 e) = 0) : k0_pay27 (F := Ideal) (k0_pay3 a b) g f (ix2 r e)
      = part a b r (col 6 e) := by
  have hc : ∀ x, col 6 x = ⟨768 + x.val, by omega⟩ := fun x => Fin.ext (by show 128 * 6 + x.val = 768 + x.val; omega)
  simp only [hc]
  unfold part
  pointwise [k0_pay27, k0_pay3]
  rw [hf, if_neg half_not_lt_zero]

/-- The same head's rows hold the same. -/
theorem pay_row6 (a : Vec Ideal S1024x2048 .bf16) (b : Vec Ideal S1x1024x2048 .bf16) (g f : Vec Ideal S1x128 .f32) (r : Fin 1024) (e : Fin 128) :
    k0_pay28 (F := Ideal) (k0_pay3 a b) g f (ix3 0 r e) = k0_pay27 (F := Ideal) (k0_pay3 a b) g f (ix2 r e) := by
  pointwise [k0_pay28]

/-- What a point stores for head 7, at an element, the flag being zero. -/
theorem pay7 (a : Vec Ideal S1024x2048 .bf16) (b : Vec Ideal S1x1024x2048 .bf16) (g f : Vec Ideal S1x128 .f32) (r : Fin 1024) (e : Fin 128)
    (hf : f (ix2 0 e) = 0) : k0_pay1 (F := Ideal) (k0_pay29 (k0_pay3 a b)) g f (ix2 r e)
      = part a b r (col 7 e) := by
  have hc : ∀ x, col 7 x = ⟨896 + x.val, by omega⟩ := fun x => Fin.ext (by show 128 * 7 + x.val = 896 + x.val; omega)
  simp only [hc]
  unfold part
  pointwise [k0_pay1, k0_pay29, k0_pay3]
  rw [hf, if_neg half_not_lt_zero]

/-- The same head's rows hold the same. -/
theorem pay_row7 (a : Vec Ideal S1024x2048 .bf16) (b : Vec Ideal S1x1024x2048 .bf16) (g f : Vec Ideal S1x128 .f32) (r : Fin 1024) (e : Fin 128) :
    k0_pay2 (F := Ideal) (k0_pay29 (k0_pay3 a b)) g f (ix3 0 r e) = k0_pay1 (F := Ideal) (k0_pay29 (k0_pay3 a b)) g f (ix2 r e) := by
  pointwise [k0_pay2]

end Cert.KvIdeal.Rows
-- ==== Proof.KvRef.lean ====
module

public import proofs.«01_k».proof.Proof.KvSpec
public import proofs.«01_k».proof.Proof.Gen.KvReferenceIdeal.Run
public import proofs.«01_k».proof.Proof.Gen.KvReferenceIdeal.Read
public import Idealize.ShloMosaic.Lib.Pointwise

@[expose] public section

set_option maxRecDepth 16384

noncomputable section

open Idealize.ShloMosaic Idealize.ShloMosaic.TcCoe Idealize.ShloMosaic.Tactic

namespace Cert.KvReferenceIdeal.Rows

open Cert.KvReferenceIdeal Cert.KvReferenceIdeal.Read Cert.Layer.Ret Cert.Layer.Rows

/-- A head of a slot, among all heads. -/
def headOf (j : Fin 4) (h : Fin 2) : Fin 8 := ⟨2 * j.val + h.val, by omega⟩

/-- The reference's product, by slot and head. -/
theorem prod_eq (u : Vec Ideal S8192x2048 .bf16) (w : Vec Ideal S4x12824x2048 .bf16) (r : Fin 8192) (j : Fin 4) (h : Fin 2) (e : Fin 128) :
    val_main_v6 (F := Ideal) u w (ix4 r j h e) = prodAt u w r (kvRow (headOf j h) e) := by
  unfold prodAt kvRow headOf
  pointwise [val_main_v0, val_main_v1, val_main_v2, val_main_v3, val_main_v4, val_main_v5, val_main_v6]
  have hi : 128 * (2 * j.val + h.val) + e.val = j.val * 256 + h.val * 128 + e.val := by omega
  simp only [hi]

/-- The reference's normalised heads. -/
theorem normed_eq (u : Vec Ideal S8192x2048 .bf16) (w : Vec Ideal S4x12824x2048 .bf16) (g : Vec Ideal S4x4x128 .f32) (r : Fin 8192) (h : Fin 2) (e : Fin 128) :
    val_main_v23 (F := Ideal) u w g (ix3 r h e) = prodAt u w r (kvRow (headOf 2 h) e) * scale128 (fun x => prodAt u w r (kvRow (headOf 2 h) x))
      * g (ix3 0 1 e) := by
  unfold scale128
  pointwise [val_main_v7, val_main_v8, val_main_v9, val_main_v10, val_main_v11, val_main_cst, val_main_v12, val_main_v13, val_main_cst_0,
    val_main_v14, val_main_v15, val_main_cst_1, val_main_v16, val_main_v17, val_main_v18, val_main_v19, val_main_v20, val_main_v21,
    val_main_v22, val_main_v23]
  simp only [prod_eq]

/-- The reference's heads of slot 0. -/
theorem plain0_eq (u : Vec Ideal S8192x2048 .bf16) (w : Vec Ideal S4x12824x2048 .bf16) (r : Fin 8192) (h : Fin 2) (e : Fin 128) :
    val_main_v25 (F := Ideal) u w (ix3 r h e) = prodAt u w r (kvRow (headOf 0 h) e) := by
  rw [← prod_eq]
  pointwise [val_main_v24, val_main_v25]

/-- The reference's heads of slot 1. -/
theorem plain1_eq (u : Vec Ideal S8192x2048 .bf16) (w : Vec Ideal S4x12824x2048 .bf16) (r : Fin 8192) (h : Fin 2) (e : Fin 128) :
    val_main_v27 (F := Ideal) u w (ix3 r h e) = prodAt u w r (kvRow (headOf 1 h) e) := by
  rw [← prod_eq]
  pointwise [val_main_v26, val_main_v27]

/-- The reference's heads of slot 3. -/
theorem plain3_eq (u : Vec Ideal S8192x2048 .bf16) (w : Vec Ideal S4x12824x2048 .bf16) (r : Fin 8192) (h : Fin 2) (e : Fin 128) :
    val_main_v29 (F := Ideal) u w (ix3 r h e) = prodAt u w r (kvRow (headOf 3 h) e) := by
  rw [← prod_eq]
  pointwise [val_main_v28, val_main_v29]

/-- The reference's rows, by slot and head. -/
theorem heads_eq (u : Vec Ideal S8192x2048 .bf16) (w : Vec Ideal S4x12824x2048 .bf16) (g : Vec Ideal S4x4x128 .f32) (r : Fin 8192) (j : Fin 4) (h : Fin 2) (e : Fin 128) :
    val_main_v34 (F := Ideal) u w g (ix4 r j h e) = kvAt u w g r (headOf j h) e := by
  have hs : (headOf j h).val / 2 = j.val := by show (2 * j.val + h.val) / 2 = j.val; omega
  unfold kvAt
  simp only [hs]
  fin_cases j
  · refine Eq.trans ?_ (plain0_eq u w r h e)
    pointwise [val_main_v34, val_main_v30, val_main_v31, val_main_v32, val_main_v33]
  · refine Eq.trans ?_ (plain1_eq u w r h e)
    pointwise [val_main_v34, val_main_v30, val_main_v31, val_main_v32, val_main_v33]
  · refine Eq.trans ?_ (normed_eq u w g r h e)
    pointwise [val_main_v34, val_main_v30, val_main_v31, val_main_v32, val_main_v33]
  · refine Eq.trans ?_ (plain3_eq u w r h e)
    pointwise [val_main_v34, val_main_v30, val_main_v31, val_main_v32, val_main_v33]

/-- The reference's first result. -/
theorem cols_eq (u : Vec Ideal S8192x2048 .bf16) (w : Vec Ideal S4x12824x2048 .bf16) (g : Vec Ideal S4x4x128 .f32) (r : Fin 8192) (x : Fin 1024) :
    val_main_v35 (F := Ideal) u w g (ix2 r x) = kvAt u w g r ⟨x.val / 128, by omega⟩ ⟨x.val % 128, by omega⟩ := by
  have hh : (⟨x.val / 128, by omega⟩ : Fin 8) = headOf ⟨x.val / 256, by omega⟩ ⟨x.val / 128 % 2, by omega⟩ :=
    Fin.ext (by show x.val / 128 = 2 * (x.val / 256) + x.val / 128 % 2; omega)
  rw [hh, ← heads_eq]
  pointwise [val_main_v35]

/-- The reference's second result. -/
theorem rows_eq (u : Vec Ideal S8192x2048 .bf16) (w : Vec Ideal S4x12824x2048 .bf16) (g : Vec Ideal S4x4x128 .f32) (y : Fin 65536) (e : Fin 128) :
    val_main_v36 (F := Ideal) u w g (ix2 y e) = kvAt u w g ⟨y.val / 8, by omega⟩ ⟨y.val % 8, by omega⟩ e := by
  have hh : (⟨y.val % 8, by omega⟩ : Fin 8) = headOf ⟨y.val / 2 % 4, by omega⟩ ⟨y.val % 2, by omega⟩ :=
    Fin.ext (by show y.val % 8 = 2 * (y.val / 2 % 4) + y.val % 2; omega)
  rw [hh, ← heads_eq]
  pointwise [val_main_v36]

end Cert.KvReferenceIdeal.Rows
-- ==== Proof.KvClaim.lean ====
module

public import proofs.«01_k».proof.Defs
public import Idealize.ShloMosaic.Adequacy
public import proofs.«01_k».proof.Proof.KvIdealPays
public import proofs.«01_k».proof.Proof.KvRef
public import Idealize.ShloMosaic.Lib.Claim
public import Idealize.ShloMosaic.Lib.WholeRead
public import Idealize.ShloMosaic.Lib.Pipeline.Value
public import Idealize.ShloMosaic.Lib.Pipeline.ValueKit
public import Idealize.ShloMosaic.Lib.Pipeline.ValueKit.Point
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem Idealize.ShloMosaic.Tactic

namespace Cert.KvIdeal.Rows

open Cert.KvIdeal Cert.KvIdeal.Gen Cert.Layer.Ret Cert.Layer.Rows

/-! The projection of the keys and values: its result blocks, its result arrays, and its agreement with the reference. -/

/-- Which block of each array a grid point works on. -/
theorem idx : ∀ t : Fin cfg0.N, win0_0.index t = ![t.val, 0] ∧ win0_1.index t = ![0, 1, 0] ∧ win0_2.index t = ![0, 0]
    ∧ win0_3.index t = ![0, 0] ∧ win0_4.index t = ![t.val, 0] ∧ win0_5.index t = ![0, t.val, 0] :=
  (by decide +kernel : ∀ t : Fin grid0.N, _)

/-- The array row that row `r` of a point's block is. -/
def rowOf (t : Fin cfg0.N) (r : Fin 1024) : Fin 8192 := ⟨1024 * t.val + r.val, by have h : cfg0.N = 8 := N_0; have := t.isLt; omega⟩

/-- The row of the second result that row `y` of a point's block is. -/
def lineOf (t : Fin cfg0.N) (y : Fin 8192) : Fin 65536 := ⟨8192 * t.val + y.val, by have h : cfg0.N = 8 := N_0; have := t.isLt; omega⟩

variable (m : (ℓ : Loc nD τ sig) → Buf (Elt Ideal) ℓ)

/-- The input, as an array over the extended reals. -/
abbrev A0 (c : Dev nD) : S8192x2048.Idx → EReal := m ((c : Thread nD τ).loc main_arg0)
/-- The weights, as an array over the extended reals. -/
abbrev A1 (c : Dev nD) : S4x12824x2048.Idx → EReal := m ((c : Thread nD τ).loc main_arg1)
/-- The gains, as an array over the extended reals. -/
abbrev A2 (c : Dev nD) : S4x4x128.Idx → EReal := m ((c : Thread nD τ).loc main_arg2)
/-- The input's block of a point. -/
abbrev U (c : Dev nD) (t : Fin cfg0.N) : S1024x2048.Idx → EReal := iblk m c 0 t
/-- The weights' block of a point. -/
abbrev W (c : Dev nD) (t : Fin cfg0.N) : S1x1024x2048.Idx → EReal := X0_1 m c t
/-- The gain's block of a point. -/
abbrev Gn (c : Dev nD) (t : Fin cfg0.N) : S1x1024.Idx → EReal := iblk m c 2 t
/-- The flag's block of a point. -/
abbrev Fl (c : Dev nD) (t : Fin cfg0.N) : S1x1024.Idx → EReal := iblk m c 3 t
/-- The gain's row, as the kernel's call takes it. -/
abbrev H2 (c : Dev nD) : S1x1024.Idx → EReal := V m c main_v7
/-- The flag's row, as the kernel's call takes it. -/
abbrev H3 (c : Dev nD) : S1x1024.Idx → EReal := V m c main_v13

/-- The input's block of a point, read from the input. -/
theorem blk_u (c : Dev nD) (t : Fin cfg0.N) (r : Fin 1024) (k : Fin 2048) : U m c t (ix2 r k) = A0 m c (ix2 (rowOf t r) k) := by
  unfold rowOf
  refine Eq.trans ?_ (congrFun (V_main_arg0 m c) _)
  blk_ext [iblk, idx t]

/-- The weights' block of a point at a row of it, read from the weights. -/
theorem blk_w_row (c : Dev nD) (t : Fin cfg0.N) (x : Fin 1024) (k : Fin 2048) :
    W m c t (ix3 0 x k) = A1 m c (ix3 0 ⟨1024 + x.val, by omega⟩ k) := by
  unfold W X0_1
  rw [Pipeline.Window.fill, dif_pos (moved0_1 t _)]
  refine Eq.trans ?_ (congrFun (V_main_arg1 m c) _)
  blk_ext [iblk, idx t]

/-- The weights' block of a point, read from the weights. -/
theorem blk_w (c : Dev nD) (t : Fin cfg0.N) (s : Fin 8) (e : Fin 128) (k : Fin 2048) :
    W m c t (ix3 0 (col s e) k) = A1 m c (ix3 0 (kvRow s e) k) :=
  blk_w_row m c t (col s e) k

/-- The gain's row at a normalised head's columns. -/
theorem row_gain (c : Dev nD) (x : Fin 1024) (hx : x.val / 256 = 2) : H2 m c (ix2 0 x) = A2 m c (ix3 0 1 ⟨x.val % 128, by omega⟩) := by
  unfold H2 V
  after_reads_at
  have := x.isLt
  split_ifs <;> first
    | omega
    | skip
  after_reads_at
  all_goals
    refine congrArg (fun y => A2 m c (ix3 0 1 y)) (Fin.ext ?_)
    dsimp only
    omega

/-- The flag's row at a normalised head's columns. -/
theorem row_flag (c : Dev nD) (x : Fin 1024) (hx : x.val / 256 = 2) : H3 m c (ix2 0 x) = 1 := by
  unfold H3 V
  after_reads_at
  all_goals
    have := x.isLt
    split_ifs <;> first
      | omega
      | after_reads_at
      | rfl

/-- The flag's row at the other columns. -/
theorem row_flag_off (c : Dev nD) (x : Fin 1024) (hx : x.val / 256 ≠ 2) : H3 m c (ix2 0 x) = 0 := by
  unfold H3 V
  after_reads_at
  all_goals
    have := x.isLt
    split_ifs <;> first
      | omega
      | after_reads_at
      | rfl

/-- The gain's block of a point is the whole row. -/
theorem blk_g (c : Dev nD) (t : Fin cfg0.N) (x : Fin 1024) : Gn m c t (ix2 0 x) = H2 m c (ix2 0 x) := by
  unfold H2 Gn iblk
  generalize V m c = X
  blk_ext [idx t]

/-- The flag's block of a point is the whole row. -/
theorem blk_f (c : Dev nD) (t : Fin cfg0.N) (x : Fin 1024) : Fl m c t (ix2 0 x) = H3 m c (ix2 0 x) := by
  unfold H3 Fl iblk
  generalize V m c = X
  blk_ext [idx t]

/-- The slot of a column of a head. -/
theorem slot_eq (s : Fin 8) (e : Fin 128) : (col s e).val / 256 = s.val / 2 := by
  show (128 * s.val + e.val) / 256 = s.val / 2
  omega

/-- A load of the whole of the input's block. -/
theorem read_u {B : Memref sig .tc .vmem S1024x2048 .bf16} (hB : B.IsWhole) (x : S1024x2048.Idx → EReal) (r : Fin 1024) (k : Fin 2048) :
    View.readAt (Elt Ideal) B.view (Rect.unit (s := S1024x2048) ![0, 0] S1024x2048.size inb_S1024x2048_S1024x2048_0_0).toLoadRect (hB.unread x) (ix2 r k)
      = x (ix2 r k) := by
  refine (hB.readAt_unread (Val := Elt Ideal) x _ _).trans (congrArg x ?_)
  funext a
  apply Fin.ext
  refine (Rect.idx_unit_val ..).trans ?_
  fin_cases a
  · show 0 + r.val = r.val
    omega
  · show 0 + k.val = k.val
    omega

/-- A load of the whole of the weights' block. -/
theorem read_w {B : Memref sig .tc .vmem S1x1024x2048 .bf16} (hB : B.IsWhole) (x : S1x1024x2048.Idx → EReal) (e : Fin 1024) (k : Fin 2048) :
    View.readAt (Elt Ideal) B.view (Rect.unit (s := S1x1024x2048) ![0, 0, 0] S1x1024x2048.size inb_S1x1024x2048_S1x1024x2048_0_0_0).toLoadRect (hB.unread x)
      (ix3 0 e k) = x (ix3 0 e k) := by
  refine (hB.readAt_unread (Val := Elt Ideal) x _ _).trans (congrArg x ?_)
  funext a
  apply Fin.ext
  refine (Rect.idx_unit_val ..).trans ?_
  fin_cases a
  · rfl
  · show 0 + e.val = e.val
    omega
  · show 0 + k.val = k.val
    omega

/-- A load of one head's entries of a row. -/
theorem read_row {B : Memref sig .tc .vmem S1x1024 .f32} (hB : B.IsWhole) (x : S1x1024.Idx → EReal) (off : Fin 2 → ℕ)
    (inb : ∀ a, off a + S1x128.size a ≤ S1x1024.size a) (s : Fin 8) (h0 : off 0 = 0) (h1 : off 1 = 128 * s.val) (e : Fin 128) :
    View.readAt (Elt Ideal) B.view (Rect.unit (s := S1x1024) off S1x128.size inb).toLoadRect (hB.unread x) (ix2 0 e)
      = x (ix2 0 (col s e)) := by
  refine (hB.readAt_unread (Val := Elt Ideal) x _ _).trans (congrArg x ?_)
  funext a
  apply Fin.ext
  refine (Rect.idx_unit_val ..).trans ?_
  fin_cases a
  · show off 0 + 0 = 0
    omega
  · show off 1 + e.val = 128 * s.val + e.val
    omega

/-- Where one head's columns are stored in the first result block. -/
theorem place_out (off : Fin 2 → ℕ) (inb : ∀ a, off a + S1024x128.size a ≤ S1024x1024.size a) (s : Fin 8)
    (h0 : off 0 = 0) (h1 : off 1 = 128 * s.val) (r : Fin 1024) (e : Fin 128) :
    (Rect.unit (s := S1024x1024) off S1024x128.size inb).idx (ix2 r e) = ix2 r (col s e) := by
  funext a
  apply Fin.ext
  refine (Rect.idx_unit_val ..).trans ?_
  fin_cases a
  · show off 0 + r.val = r.val
    omega
  · show off 1 + e.val = 128 * s.val + e.val
    omega

/-- The row of the second result block that holds head `s` of row `r`. -/
def line (r : Fin 1024) (s : Fin 8) : Fin 8192 := ⟨8 * r.val + s.val, by omega⟩

/-- Where one head's columns are stored in the second result block. -/
theorem place_rows (off : Fin 3 → ℕ)
    (inb : ∀ a, S1x1024x128.size a = 0 ∨ off a + (![1, 8, 1] : Fin 3 → ℕ) a * (S1x1024x128.size a - 1) < S1x8192x128.size a)
    (pos : ∀ a, 0 < (![1, 8, 1] : Fin 3 → ℕ) a) (s : Fin 8) (h0 : off 0 = 0) (h1 : off 1 = s.val) (h2 : off 2 = 0) (r : Fin 1024) (e : Fin 128) :
    (⟨⟨off, S1x1024x128.size, ![1, 8, 1], inb⟩, pos⟩ : Rect S1x8192x128).idx (ix3 0 r e) = ix3 0 (line r s) e := by
  funext a
  apply Fin.ext
  match a with
  | ⟨0, _⟩ => exact show off 0 + 1 * 0 = 0 by omega
  | ⟨1, _⟩ => exact show off 1 + 8 * r.val = 8 * r.val + s.val by omega
  | ⟨2, _⟩ => exact show off 2 + 1 * e.val = e.val by omega

/-- A block's product is the projection's product at the block's rows and heads. -/
theorem part_eq (c : Dev nD) (t : Fin cfg0.N) (s : Fin 8) (a : Vec Ideal S1024x2048 .bf16) (b : Vec Ideal S1x1024x2048 .bf16)
    (ha : ∀ r k, a (ix2 r k) = U m c t (ix2 r k)) (hb : ∀ e k, b (ix3 0 e k) = W m c t (ix3 0 e k)) (r : Fin 1024) (e : Fin 128) :
    part a b r (col s e) = prodAt (A0 m c) (A1 m c) (rowOf t r) (kvRow s e) := by
  unfold part prodAt
  exact Finset.sum_congr rfl fun k _ => congrArg₂ (· * ·) ((ha r k).trans (blk_u m c t r k)) ((hb _ k).trans (blk_w m c t s e k))

/-- A normalised head's element is the projection's. -/
theorem normed_eq (c : Dev nD) (t : Fin cfg0.N) (s : Fin 8) (hs : s.val / 2 = 2) (a : Vec Ideal S1024x2048 .bf16) (b : Vec Ideal S1x1024x2048 .bf16)
    (g : Vec Ideal S1x128 .f32) (ha : ∀ r k, a (ix2 r k) = U m c t (ix2 r k)) (hb : ∀ e k, b (ix3 0 e k) = W m c t (ix3 0 e k))
    (hg : ∀ e, g (ix2 0 e) = Gn m c t (ix2 0 (col s e))) (r : Fin 1024) (e : Fin 128) :
    part a b r (col s e) * scale128 (fun x => part a b r (col s x)) * g (ix2 0 e) = kvAt (A0 m c) (A1 m c) (A2 m c) (rowOf t r) s e := by
  unfold kvAt
  have hd : (⟨(col s e).val % 128, by omega⟩ : Fin 128) = e := Fin.ext (by show (128 * s.val + e.val) % 128 = e.val; omega)
  rw [if_pos hs, funext (part_eq m c t s a b ha hb r), part_eq m c t s a b ha hb r e, hg, blk_g, row_gain m c _ ((slot_eq s e).trans hs), hd]

/-- Another head's element is the projection's. -/
theorem plain_eq (c : Dev nD) (t : Fin cfg0.N) (s : Fin 8) (hs : s.val / 2 ≠ 2) (a : Vec Ideal S1024x2048 .bf16) (b : Vec Ideal S1x1024x2048 .bf16)
    (ha : ∀ r k, a (ix2 r k) = U m c t (ix2 r k)) (hb : ∀ e k, b (ix3 0 e k) = W m c t (ix3 0 e k)) (r : Fin 1024) (e : Fin 128) :
    part a b r (col s e) = kvAt (A0 m c) (A1 m c) (A2 m c) (rowOf t r) s e := by
  unfold kvAt
  rw [if_neg hs, part_eq m c t s a b ha hb r e]

/-- What a point stores for head 0. -/
theorem stored0 (c : Dev nD) (t : Fin cfg0.N) (a : Vec Ideal S1024x2048 .bf16) (b : Vec Ideal S1x1024x2048 .bf16) (g f : Vec Ideal S1x128 .f32)
    (ha : ∀ r k, a (ix2 r k) = U m c t (ix2 r k)) (hb : ∀ e k, b (ix3 0 e k) = W m c t (ix3 0 e k))
    (_hg : ∀ e, g (ix2 0 e) = Gn m c t (ix2 0 (col 0 e))) (hf : ∀ e, f (ix2 0 e) = Fl m c t (ix2 0 (col 0 e))) (r : Fin 1024) (e : Fin 128) :
    k0_pay4 (F := Ideal) a b g f (ix2 r e) = kvAt (A0 m c) (A1 m c) (A2 m c) (rowOf t r) 0 e :=
  (pay0 a b g f r e ((hf e).trans ((blk_f m c t _).trans (row_flag_off m c _ (by rw [slot_eq]; decide))))).trans
    (plain_eq m c t 0 (by decide) a b ha hb r e)

/-- What a point stores for head 1. -/
theorem stored1 (c : Dev nD) (t : Fin cfg0.N) (a : Vec Ideal S1024x2048 .bf16) (b : Vec Ideal S1x1024x2048 .bf16) (g f : Vec Ideal S1x128 .f32)
    (ha : ∀ r k, a (ix2 r k) = U m c t (ix2 r k)) (hb : ∀ e k, b (ix3 0 e k) = W m c t (ix3 0 e k))
    (_hg : ∀ e, g (ix2 0 e) = Gn m c t (ix2 0 (col 1 e))) (hf : ∀ e, f (ix2 0 e) = Fl m c t (ix2 0 (col 1 e))) (r : Fin 1024) (e : Fin 128) :
    k0_pay9 (F := Ideal) (k0_pay6 a b) (k0_pay7 a b) k0_pay8 g f (ix2 r e) = kvAt (A0 m c) (A1 m c) (A2 m c) (rowOf t r) 1 e :=
  (pay1 a b g f r e ((hf e).trans ((blk_f m c t _).trans (row_flag_off m c _ (by rw [slot_eq]; decide))))).trans
    (plain_eq m c t 1 (by decide) a b ha hb r e)

/-- What a point stores for head 2. -/
theorem stored2 (c : Dev nD) (t : Fin cfg0.N) (a : Vec Ideal S1024x2048 .bf16) (b : Vec Ideal S1x1024x2048 .bf16) (g f : Vec Ideal S1x128 .f32)
    (ha : ∀ r k, a (ix2 r k) = U m c t (ix2 r k)) (hb : ∀ e k, b (ix3 0 e k) = W m c t (ix3 0 e k))
    (_hg : ∀ e, g (ix2 0 e) = Gn m c t (ix2 0 (col 2 e))) (hf : ∀ e, f (ix2 0 e) = Fl m c t (ix2 0 (col 2 e))) (r : Fin 1024) (e : Fin 128) :
    k0_pay15 (F := Ideal) (k0_pay11 (k0_pay3 a b)) (k0_pay12 (k0_pay3 a b) g) (k0_pay13 f) k0_pay14 (ix2 r e) = kvAt (A0 m c) (A1 m c) (A2 m c) (rowOf t r) 2 e :=
  (pay2 a b g f r e ((hf e).trans ((blk_f m c t _).trans (row_flag_off m c _ (by rw [slot_eq]; decide))))).trans
    (plain_eq m c t 2 (by decide) a b ha hb r e)

/-- What a point stores for head 3. -/
theorem stored3 (c : Dev nD) (t : Fin cfg0.N) (a : Vec Ideal S1024x2048 .bf16) (b : Vec Ideal S1x1024x2048 .bf16) (g f : Vec Ideal S1x128 .f32)
    (ha : ∀ r k, a (ix2 r k) = U m c t (ix2 r k)) (hb : ∀ e k, b (ix3 0 e k) = W m c t (ix3 0 e k))
    (_hg : ∀ e, g (ix2 0 e) = Gn m c t (ix2 0 (col 3 e))) (hf : ∀ e, f (ix2 0 e) = Fl m c t (ix2 0 (col 3 e))) (r : Fin 1024) (e : Fin 128) :
    k0_pay17 (F := Ideal) (k0_pay3 a b) g f (ix2 r e) = kvAt (A0 m c) (A1 m c) (A2 m c) (rowOf t r) 3 e :=
  (pay3 a b g f r e ((hf e).trans ((blk_f m c t _).trans (row_flag_off m c _ (by rw [slot_eq]; decide))))).trans
    (plain_eq m c t 3 (by decide) a b ha hb r e)

/-- What a point stores for head 4. -/
theorem stored4 (c : Dev nD) (t : Fin cfg0.N) (a : Vec Ideal S1024x2048 .bf16) (b : Vec Ideal S1x1024x2048 .bf16) (g f : Vec Ideal S1x128 .f32)
    (ha : ∀ r k, a (ix2 r k) = U m c t (ix2 r k)) (hb : ∀ e k, b (ix3 0 e k) = W m c t (ix3 0 e k))
    (hg : ∀ e, g (ix2 0 e) = Gn m c t (ix2 0 (col 4 e))) (hf : ∀ e, f (ix2 0 e) = Fl m c t (ix2 0 (col 4 e))) (r : Fin 1024) (e : Fin 128) :
    k0_pay21 (F := Ideal) (k0_pay19 (k0_pay3 a b)) (k0_pay20 (k0_pay3 a b)) g f (ix2 r e) = kvAt (A0 m c) (A1 m c) (A2 m c) (rowOf t r) 4 e :=
  (pay4 a b g f r e ((hf e).trans ((blk_f m c t _).trans (row_flag m c _ (slot_eq 4 e))))).trans
    (normed_eq m c t 4 rfl a b g ha hb hg r e)

/-- What a point stores for head 5. -/
theorem stored5 (c : Dev nD) (t : Fin cfg0.N) (a : Vec Ideal S1024x2048 .bf16) (b : Vec Ideal S1x1024x2048 .bf16) (g f : Vec Ideal S1x128 .f32)
    (ha : ∀ r k, a (ix2 r k) = U m c t (ix2 r k)) (hb : ∀ e k, b (ix3 0 e k) = W m c t (ix3 0 e k))
    (hg : ∀ e, g (ix2 0 e) = Gn m c t (ix2 0 (col 5 e))) (hf : ∀ e, f (ix2 0 e) = Fl m c t (ix2 0 (col 5 e))) (r : Fin 1024) (e : Fin 128) :
    k0_pay25 (F := Ideal) (k0_pay23 (k0_pay3 a b)) (k0_pay24 (k0_pay3 a b) g) f (ix2 r e) = kvAt (A0 m c) (A1 m c) (A2 m c) (rowOf t r) 5 e :=
  (pay5 a b g f r e ((hf e).trans ((blk_f m c t _).trans (row_flag m c _ (slot_eq 5 e))))).trans
    (normed_eq m c t 5 rfl a b g ha hb hg r e)

/-- What a point stores for head 6. -/
theorem stored6 (c : Dev nD) (t : Fin cfg0.N) (a : Vec Ideal S1024x2048 .bf16) (b : Vec Ideal S1x1024x2048 .bf16) (g f : Vec Ideal S1x128 .f32)
    (ha : ∀ r k, a (ix2 r k) = U m c t (ix2 r k)) (hb : ∀ e k, b (ix3 0 e k) = W m c t (ix3 0 e k))
    (_hg : ∀ e, g (ix2 0 e) = Gn m c t (ix2 0 (col 6 e))) (hf : ∀ e, f (ix2 0 e) = Fl m c t (ix2 0 (col 6 e))) (r : Fin 1024) (e : Fin 128) :
    k0_pay27 (F := Ideal) (k0_pay3 a b) g f (ix2 r e) = kvAt (A0 m c) (A1 m c) (A2 m c) (rowOf t r) 6 e :=
  (pay6 a b g f r e ((hf e).trans ((blk_f m c t _).trans (row_flag_off m c _ (by rw [slot_eq]; decide))))).trans
    (plain_eq m c t 6 (by decide) a b ha hb r e)

/-- What a point stores for head 7. -/
theorem stored7 (c : Dev nD) (t : Fin cfg0.N) (a : Vec Ideal S1024x2048 .bf16) (b : Vec Ideal S1x1024x2048 .bf16) (g f : Vec Ideal S1x128 .f32)
    (ha : ∀ r k, a (ix2 r k) = U m c t (ix2 r k)) (hb : ∀ e k, b (ix3 0 e k) = W m c t (ix3 0 e k))
    (_hg : ∀ e, g (ix2 0 e) = Gn m c t (ix2 0 (col 7 e))) (hf : ∀ e, f (ix2 0 e) = Fl m c t (ix2 0 (col 7 e))) (r : Fin 1024) (e : Fin 128) :
    k0_pay1 (F := Ideal) (k0_pay29 (k0_pay3 a b)) g f (ix2 r e) = kvAt (A0 m c) (A1 m c) (A2 m c) (rowOf t r) 7 e :=
  (pay7 a b g f r e ((hf e).trans ((blk_f m c t _).trans (row_flag_off m c _ (by rw [slot_eq]; decide))))).trans
    (plain_eq m c t 7 (by decide) a b ha hb r e)

/-- The first result block of a point, as an array. -/
def colsBlk (c : Dev nD) (t : Fin cfg0.N) (j : S1024x1024.Idx) : EReal :=
  kvAt (A0 m c) (A1 m c) (A2 m c) (rowOf t (j 0)) ⟨(j 1).val / 128, by have : (j 1).val < 1024 := (j 1).isLt; omega⟩ ⟨(j 1).val % 128, by omega⟩

/-- That array at a column of a head. -/
theorem colsBlk_at (c : Dev nD) (t : Fin cfg0.N) (s : Fin 8) (r : Fin 1024) (e : Fin 128) :
    colsBlk m c t (ix2 r (col s e)) = kvAt (A0 m c) (A1 m c) (A2 m c) (rowOf t r) s e := by
  have e1 : (128 * s.val + e.val) / 128 = s.val := by omega
  have e2 : (128 * s.val + e.val) % 128 = e.val := by omega
  show kvAt (A0 m c) (A1 m c) (A2 m c) (rowOf t r) ⟨(128 * s.val + e.val) / 128, _⟩ ⟨(128 * s.val + e.val) % 128, _⟩ = _
  simp only [e1, e2]

/-- The second result block of a point, as an array. -/
def rowsBlk (c : Dev nD) (t : Fin cfg0.N) (j : S1x8192x128.Idx) : EReal :=
  kvAt (A0 m c) (A1 m c) (A2 m c) (rowOf t ⟨(j 1).val / 8, by have : (j 1).val < 8192 := (j 1).isLt; omega⟩) ⟨(j 1).val % 8, by omega⟩ (j 2)

/-- That array at the row of a head. -/
theorem rowsBlk_at (c : Dev nD) (t : Fin cfg0.N) (s : Fin 8) (r : Fin 1024) (e : Fin 128) :
    rowsBlk m c t (ix3 0 (line r s) e) = kvAt (A0 m c) (A1 m c) (A2 m c) (rowOf t r) s e := by
  have e1 : (8 * r.val + s.val) / 8 = r.val := by omega
  have e2 : (8 * r.val + s.val) % 8 = s.val := by omega
  show kvAt (A0 m c) (A1 m c) (A2 m c) (rowOf t ⟨(8 * r.val + s.val) / 8, _⟩) ⟨(8 * r.val + s.val) % 8, _⟩ e = _
  simp only [e1, e2]

set_option maxHeartbeats 1000000 in
/-- What a point leaves in the first result block. -/
theorem cols_block (c : Dev nD) (t : Fin cfg0.N) (j : S1024x1024.Idx) : colsAt m c t j = colsBlk m c t j := by
  unfold colsAt cols
  refine View.canon_apply_of_pieces (Val := Elt Ideal) (colsBlk m c t) _ (fun p hp => ?_) j (covers c _ _ _ _ _ _ _ _ _ _ _ _ _ _ _ _ _ j)
  unfold step at hp
  dsimp only at hp
  revert hp
  sl_unfold_run_names
  intro hp
  simp only [List.mem_cons, List.not_mem_nil, or_false] at hp
  rcases hp with rfl | rfl | rfl | rfl | rfl | rfl | rfl | rfl
  · intro x
    obtain ⟨r, e, rfl⟩ : ∃ (r : Fin 1024) (e : Fin 128), x = ix2 r e := ⟨x 0, x 1, eq_ix2 x⟩
    refine Eq.trans ?_ ((colsBlk_at m c t 7 r e).symm.trans (congrArg (colsBlk m c t) (place_out _ inb_S1024x1024_S1024x128_0_896 7 rfl rfl r e).symm))
    exact stored7 m c t _ _ _ _ (read_u (hB0 t) _) (read_w (hB1 t) _) (read_row (hB2 t) _ _ _ 7 rfl rfl) (read_row (hB3 t) _ _ _ 7 rfl rfl) r e
  · intro x
    obtain ⟨r, e, rfl⟩ : ∃ (r : Fin 1024) (e : Fin 128), x = ix2 r e := ⟨x 0, x 1, eq_ix2 x⟩
    refine Eq.trans ?_ ((colsBlk_at m c t 6 r e).symm.trans (congrArg (colsBlk m c t) (place_out _ inb_S1024x1024_S1024x128_0_768 6 rfl rfl r e).symm))
    exact stored6 m c t _ _ _ _ (read_u (hB0 t) _) (read_w (hB1 t) _) (read_row (hB2 t) _ _ _ 6 rfl rfl) (read_row (hB3 t) _ _ _ 6 rfl rfl) r e
  · intro x
    obtain ⟨r, e, rfl⟩ : ∃ (r : Fin 1024) (e : Fin 128), x = ix2 r e := ⟨x 0, x 1, eq_ix2 x⟩
    refine Eq.trans ?_ ((colsBlk_at m c t 5 r e).symm.trans (congrArg (colsBlk m c t) (place_out _ inb_S1024x1024_S1024x128_0_640 5 rfl rfl r e).symm))
    exact stored5 m c t _ _ _ _ (read_u (hB0 t) _) (read_w (hB1 t) _) (read_row (hB2 t) _ _ _ 5 rfl rfl) (read_row (hB3 t) _ _ _ 5 rfl rfl) r e
  · intro x
    obtain ⟨r, e, rfl⟩ : ∃ (r : Fin 1024) (e : Fin 128), x = ix2 r e := ⟨x 0, x 1, eq_ix2 x⟩
    refine Eq.trans ?_ ((colsBlk_at m c t 4 r e).symm.trans (congrArg (colsBlk m c t) (place_out _ inb_S1024x1024_S1024x128_0_512 4 rfl rfl r e).symm))
    exact stored4 m c t _ _ _ _ (read_u (hB0 t) _) (read_w (hB1 t) _) (read_row (hB2 t) _ _ _ 4 rfl rfl) (read_row (hB3 t) _ _ _ 4 rfl rfl) r e
  · intro x
    obtain ⟨r, e, rfl⟩ : ∃ (r : Fin 1024) (e : Fin 128), x = ix2 r e := ⟨x 0, x 1, eq_ix2 x⟩
    refine Eq.trans ?_ ((colsBlk_at m c t 3 r e).symm.trans (congrArg (colsBlk m c t) (place_out _ inb_S1024x1024_S1024x128_0_384 3 rfl rfl r e).symm))
    exact stored3 m c t _ _ _ _ (read_u (hB0 t) _) (read_w (hB1 t) _) (read_row (hB2 t) _ _ _ 3 rfl rfl) (read_row (hB3 t) _ _ _ 3 rfl rfl) r e
  · intro x
    obtain ⟨r, e, rfl⟩ : ∃ (r : Fin 1024) (e : Fin 128), x = ix2 r e := ⟨x 0, x 1, eq_ix2 x⟩
    refine Eq.trans ?_ ((colsBlk_at m c t 2 r e).symm.trans (congrArg (colsBlk m c t) (place_out _ inb_S1024x1024_S1024x128_0_256 2 rfl rfl r e).symm))
    exact stored2 m c t _ _ _ _ (read_u (hB0 t) _) (read_w (hB1 t) _) (read_row (hB2 t) _ _ _ 2 rfl rfl) (read_row (hB3 t) _ _ _ 2 rfl rfl) r e
  · intro x
    obtain ⟨r, e, rfl⟩ : ∃ (r : Fin 1024) (e : Fin 128), x = ix2 r e := ⟨x 0, x 1, eq_ix2 x⟩
    refine Eq.trans ?_ ((colsBlk_at m c t 1 r e).symm.trans (congrArg (colsBlk m c t) (place_out _ inb_S1024x1024_S1024x128_0_128 1 rfl rfl r e).symm))
    exact stored1 m c t _ _ _ _ (read_u (hB0 t) _) (read_w (hB1 t) _) (read_row (hB2 t) _ _ _ 1 rfl rfl) (read_row (hB3 t) _ _ _ 1 rfl rfl) r e
  · intro x
    obtain ⟨r, e, rfl⟩ : ∃ (r : Fin 1024) (e : Fin 128), x = ix2 r e := ⟨x 0, x 1, eq_ix2 x⟩
    refine Eq.trans ?_ ((colsBlk_at m c t 0 r e).symm.trans (congrArg (colsBlk m c t) (place_out _ inb_S1024x1024_S1024x128_0_0 0 rfl rfl r e).symm))
    exact stored0 m c t _ _ _ _ (read_u (hB0 t) _) (read_w (hB1 t) _) (read_row (hB2 t) _ _ _ 0 rfl rfl) (read_row (hB3 t) _ _ _ 0 rfl rfl) r e

set_option maxHeartbeats 1000000 in
/-- What a point leaves in the second result block. -/
theorem rows_block (c : Dev nD) (t : Fin cfg0.N) (j : S1x8192x128.Idx) : rowsAt m c t j = rowsBlk m c t j := by
  unfold rowsAt rows
  refine View.canon_apply_of_pieces (Val := Elt Ideal) (rowsBlk m c t) _ (fun p hp => ?_) j (covers_rows c _ _ _ _ _ _ _ _ _ _ _ _ _ _ _ _ _ j)
  unfold step at hp
  dsimp only at hp
  revert hp
  sl_unfold_run_names
  intro hp
  simp only [List.mem_cons, List.not_mem_nil, or_false] at hp
  rcases hp with rfl | rfl | rfl | rfl | rfl | rfl | rfl | rfl
  · intro x
    obtain ⟨z, r, e, rfl⟩ : ∃ (z : Fin 1) (r : Fin 1024) (e : Fin 128), x = ix3 z r e := ⟨x 0, x 1, x 2, eq_ix3 x⟩
    obtain rfl : z = 0 := Subsingleton.elim _ _
    refine (pay_row7 _ _ _ _ r e).trans ?_
    refine Eq.trans ?_ ((rowsBlk_at m c t 7 r e).symm.trans (congrArg (rowsBlk m c t) (place_rows _ _ _ 7 rfl rfl rfl r e).symm))
    exact stored7 m c t _ _ _ _ (read_u (hB0 t) _) (read_w (hB1 t) _) (read_row (hB2 t) _ _ _ 7 rfl rfl) (read_row (hB3 t) _ _ _ 7 rfl rfl) r e
  · intro x
    obtain ⟨z, r, e, rfl⟩ : ∃ (z : Fin 1) (r : Fin 1024) (e : Fin 128), x = ix3 z r e := ⟨x 0, x 1, x 2, eq_ix3 x⟩
    obtain rfl : z = 0 := Subsingleton.elim _ _
    refine (pay_row6 _ _ _ _ r e).trans ?_
    refine Eq.trans ?_ ((rowsBlk_at m c t 6 r e).symm.trans (congrArg (rowsBlk m c t) (place_rows _ _ _ 6 rfl rfl rfl r e).symm))
    exact stored6 m c t _ _ _ _ (read_u (hB0 t) _) (read_w (hB1 t) _) (read_row (hB2 t) _ _ _ 6 rfl rfl) (read_row (hB3 t) _ _ _ 6 rfl rfl) r e
  · intro x
    obtain ⟨z, r, e, rfl⟩ : ∃ (z : Fin 1) (r : Fin 1024) (e : Fin 128), x = ix3 z r e := ⟨x 0, x 1, x 2, eq_ix3 x⟩
    obtain rfl : z = 0 := Subsingleton.elim _ _
    refine (pay_row5 _ _ _ _ r e).trans ?_
    refine Eq.trans ?_ ((rowsBlk_at m c t 5 r e).symm.trans (congrArg (rowsBlk m c t) (place_rows _ _ _ 5 rfl rfl rfl r e).symm))
    exact stored5 m c t _ _ _ _ (read_u (hB0 t) _) (read_w (hB1 t) _) (read_row (hB2 t) _ _ _ 5 rfl rfl) (read_row (hB3 t) _ _ _ 5 rfl rfl) r e
  · intro x
    obtain ⟨z, r, e, rfl⟩ : ∃ (z : Fin 1) (r : Fin 1024) (e : Fin 128), x = ix3 z r e := ⟨x 0, x 1, x 2, eq_ix3 x⟩
    obtain rfl : z = 0 := Subsingleton.elim _ _
    refine (pay_row4 _ _ _ _ r e).trans ?_
    refine Eq.trans ?_ ((rowsBlk_at m c t 4 r e).symm.trans (congrArg (rowsBlk m c t) (place_rows _ _ _ 4 rfl rfl rfl r e).symm))
    exact stored4 m c t _ _ _ _ (read_u (hB0 t) _) (read_w (hB1 t) _) (read_row (hB2 t) _ _ _ 4 rfl rfl) (read_row (hB3 t) _ _ _ 4 rfl rfl) r e
  · intro x
    obtain ⟨z, r, e, rfl⟩ : ∃ (z : Fin 1) (r : Fin 1024) (e : Fin 128), x = ix3 z r e := ⟨x 0, x 1, x 2, eq_ix3 x⟩
    obtain rfl : z = 0 := Subsingleton.elim _ _
    refine (pay_row3 _ _ _ _ r e).trans ?_
    refine Eq.trans ?_ ((rowsBlk_at m c t 3 r e).symm.trans (congrArg (rowsBlk m c t) (place_rows _ _ _ 3 rfl rfl rfl r e).symm))
    exact stored3 m c t _ _ _ _ (read_u (hB0 t) _) (read_w (hB1 t) _) (read_row (hB2 t) _ _ _ 3 rfl rfl) (read_row (hB3 t) _ _ _ 3 rfl rfl) r e
  · intro x
    obtain ⟨z, r, e, rfl⟩ : ∃ (z : Fin 1) (r : Fin 1024) (e : Fin 128), x = ix3 z r e := ⟨x 0, x 1, x 2, eq_ix3 x⟩
    obtain rfl : z = 0 := Subsingleton.elim _ _
    refine (pay_row2 _ _ _ _ r e).trans ?_
    refine Eq.trans ?_ ((rowsBlk_at m c t 2 r e).symm.trans (congrArg (rowsBlk m c t) (place_rows _ _ _ 2 rfl rfl rfl r e).symm))
    exact stored2 m c t _ _ _ _ (read_u (hB0 t) _) (read_w (hB1 t) _) (read_row (hB2 t) _ _ _ 2 rfl rfl) (read_row (hB3 t) _ _ _ 2 rfl rfl) r e
  · intro x
    obtain ⟨z, r, e, rfl⟩ : ∃ (z : Fin 1) (r : Fin 1024) (e : Fin 128), x = ix3 z r e := ⟨x 0, x 1, x 2, eq_ix3 x⟩
    obtain rfl : z = 0 := Subsingleton.elim _ _
    refine (pay_row1 _ _ _ _ r e).trans ?_
    refine Eq.trans ?_ ((rowsBlk_at m c t 1 r e).symm.trans (congrArg (rowsBlk m c t) (place_rows _ _ _ 1 rfl rfl rfl r e).symm))
    exact stored1 m c t _ _ _ _ (read_u (hB0 t) _) (read_w (hB1 t) _) (read_row (hB2 t) _ _ _ 1 rfl rfl) (read_row (hB3 t) _ _ _ 1 rfl rfl) r e
  · intro x
    obtain ⟨z, r, e, rfl⟩ : ∃ (z : Fin 1) (r : Fin 1024) (e : Fin 128), x = ix3 z r e := ⟨x 0, x 1, x 2, eq_ix3 x⟩
    obtain rfl : z = 0 := Subsingleton.elim _ _
    refine (pay_row0 _ _ _ _ r e).trans ?_
    refine Eq.trans ?_ ((rowsBlk_at m c t 0 r e).symm.trans (congrArg (rowsBlk m c t) (place_rows _ _ _ 0 rfl rfl rfl r e).symm))
    exact stored0 m c t _ _ _ _ (read_u (hB0 t) _) (read_w (hB1 t) _) (read_row (hB2 t) _ _ _ 0 rfl rfl) (read_row (hB3 t) _ _ _ 0 rfl rfl) r e

/-- What a point writes back to the first result. -/
theorem written4 (c : Dev nD) (t : Fin cfg0.N) : (dats m 0 c).flushed 4 t = (cfg0.win 4).cut (grid0.coords t) (colsAt m c t) := by
  show (cfg0.win 4).cut (grid0.coords t) ((dats m 0 c).after 4 t) = _
  rw [left4]

/-- Distinct points take distinct blocks of the first result. -/
theorem apart4 : ∀ t t' : Fin cfg0.N, win0_4.index t = win0_4.index t' → t = t' :=
  (by decide +kernel : ∀ t t' : Fin grid0.N, win0_4.index t = win0_4.index t' → t = t')

/-- A point's block of the first result is what it wrote back. -/
theorem lands4 (c : Dev nD) (t : Fin cfg0.N) :
    ((cfg0.win 4).blk t).view.read (Elt Ideal) ((dats m 0 c).arrAt 4 cfg0.N) = (dats m 0 c).flushed 4 t :=
  (dats m 0 c).read_blk_arrAt_eq_flushed 4 (fun t t' _ _ hne => (cfg0.win 4).disjoint_blk fun h => hne (apart4 t t' h)) cfg0.N t t.isLt (flush0_4 t)

/-- What a point writes back to the second result. -/
theorem written5 (c : Dev nD) (t : Fin cfg0.N) : (dats m 0 c).flushed 5 t = (cfg0.win 5).cut (grid0.coords t) (rowsAt m c t) := by
  show (cfg0.win 5).cut (grid0.coords t) ((dats m 0 c).after 5 t) = _
  rw [left5]

/-- Distinct points take distinct blocks of the second result. -/
theorem apart5 : ∀ t t' : Fin cfg0.N, win0_5.index t = win0_5.index t' → t = t' :=
  (by decide +kernel : ∀ t t' : Fin grid0.N, win0_5.index t = win0_5.index t' → t = t')

/-- A point's block of the second result is what it wrote back. -/
theorem lands5 (c : Dev nD) (t : Fin cfg0.N) :
    ((cfg0.win 5).blk t).view.read (Elt Ideal) ((dats m 0 c).arrAt 5 cfg0.N) = (dats m 0 c).flushed 5 t :=
  (dats m 0 c).read_blk_arrAt_eq_flushed 5 (fun t t' _ _ hne => (cfg0.win 5).disjoint_blk fun h => hne (apart5 t t' h)) cfg0.N t t.isLt (flush0_5 t)

/-- A point's block of the first result. -/
theorem cols_final (c : Dev nD) (t : Fin cfg0.N) (r : Fin 1024) (x : Fin 1024) :
    (dats m 0 c).arrAt 4 cfg0.N (ix2 (rowOf t r) x) = colsBlk m c t (ix2 r x) := by
  have hb := congrFun (lands4 m c t) (ix2 r x)
  have he : View.read (Elt Ideal) ((cfg0.win 4).blk t).view ((dats m 0 c).arrAt 4 cfg0.N) (ix2 r x)
      = (dats m 0 c).arrAt 4 cfg0.N (ix2 (rowOf t r) x) := by
    unfold rowOf
    blk_ext [idx t]
  rw [he, written4] at hb
  refine hb.trans ((?_ : _ = (colsAt m c t) (ix2 r x)).trans (cols_block m c t _))
  rfl

/-- A point's block of the second result. -/
theorem rows_final (c : Dev nD) (t : Fin cfg0.N) (y : Fin 8192) (e : Fin 128) :
    (dats m 0 c).arrAt 5 cfg0.N (ix3 0 (lineOf t y) e) = rowsBlk m c t (ix3 0 y e) := by
  have hb := congrFun (lands5 m c t) (ix3 0 y e)
  have he : View.read (Elt Ideal) ((cfg0.win 5).blk t).view ((dats m 0 c).arrAt 5 cfg0.N) (ix3 0 y e)
      = (dats m 0 c).arrAt 5 cfg0.N (ix3 0 (lineOf t y) e) := by
    unfold lineOf
    blk_ext [idx t]
  rw [he, written5] at hb
  refine hb.trans ((?_ : _ = (rowsAt m c t) (ix3 0 y e)).trans (rows_block m c t _))
  rfl

/-- The first result array. -/
theorem cols_array (c : Dev nD) (r : Fin 8192) (x : Fin 1024) : (dats m 0 c).arrAt 4 cfg0.N (ix2 r x)
    = kvAt (A0 m c) (A1 m c) (A2 m c) r ⟨x.val / 128, by omega⟩ ⟨x.val % 128, by omega⟩ := by
  have hN : cfg0.N = 8 := N_0
  obtain ⟨t, ht⟩ : ∃ t : Fin cfg0.N, t.val = r.val / 1024 := ⟨⟨r.val / 1024, by omega⟩, rfl⟩
  have e := cols_final m c t ⟨r.val % 1024, by omega⟩ x
  have hr : rowOf t ⟨r.val % 1024, by omega⟩ = r := Fin.ext (by show 1024 * t.val + r.val % 1024 = r.val; omega)
  rw [hr] at e
  refine e.trans ?_
  show kvAt (A0 m c) (A1 m c) (A2 m c) (rowOf t ⟨r.val % 1024, _⟩) ⟨x.val / 128, _⟩ ⟨x.val % 128, _⟩ = _
  rw [hr]

/-- The second result array, in the layer the call fills. -/
theorem rows_array (c : Dev nD) (y : Fin 65536) (e : Fin 128) : (dats m 0 c).arrAt 5 cfg0.N (ix3 0 y e)
    = kvAt (A0 m c) (A1 m c) (A2 m c) ⟨y.val / 8, by omega⟩ ⟨y.val % 8, by omega⟩ e := by
  have hN : cfg0.N = 8 := N_0
  obtain ⟨t, ht⟩ : ∃ t : Fin cfg0.N, t.val = y.val / 8192 := ⟨⟨y.val / 8192, by omega⟩, rfl⟩
  have e' := rows_final m c t ⟨y.val % 8192, by omega⟩ e
  have hy : lineOf t ⟨y.val % 8192, by omega⟩ = y := Fin.ext (by show 8192 * t.val + y.val % 8192 = y.val; omega)
  have hr : rowOf t ⟨y.val % 8192 / 8, by omega⟩ = ⟨y.val / 8, by omega⟩ :=
    Fin.ext (by show 1024 * t.val + y.val % 8192 / 8 = y.val / 8; omega)
  have hs : (⟨y.val % 8192 % 8, by omega⟩ : Fin 8) = ⟨y.val % 8, by omega⟩ := Fin.ext (by show y.val % 8192 % 8 = y.val % 8; omega)
  rw [hy] at e'
  refine e'.trans ?_
  show kvAt (A0 m c) (A1 m c) (A2 m c) (rowOf t ⟨y.val % 8192 / 8, _⟩) ⟨y.val % 8192 % 8, _⟩ e = _
  rw [hr, hs]

/-- The host's last lines take the filled layer of the second result. -/
theorem tail_eq (X : Valuation τ sig (Elt Ideal)) (y : Fin 65536) (e : Fin 128) :
    (StableHlo.after hostOps1 X (Proc.devRef .tc main_v16) : S65536x128.Idx → EReal) (ix2 y e) = (X (Proc.devRef .tc main_v14_1) : S4x65536x128.Idx → EReal) (ix3 0 y e) := by
  after_reads_at

/-- The second result, as the host returns it. -/
theorem returned_rows (c : Dev nD) (y : Fin 65536) (e : Fin 128) :
    (Pipeline.afterTail₀ cfgs (dats m) 0 (V0 m) [hostOps1] c main_v16 : S65536x128.Idx → EReal) (ix2 y e)
      = kvAt (A0 m c) (A1 m c) (A2 m c) ⟨y.val / 8, by omega⟩ ⟨y.val % 8, by omega⟩ e := by
  refine Eq.trans ?_ (rows_array m c y e)
  unfold Pipeline.afterTail₀
  refine (tail_eq _ y e).trans ?_
  exact congrFun (Pipeline.withArrays_arr _ launch0.win.arr_inj c _ _ 5) _

/-- The kernel and the reference give equal results. -/
theorem algebraic : @Cert.algebraic_KvIdeal_KvReferenceIdeal Cert.KvIdeal.Gen.facts Cert.KvReferenceIdeal.Gen.facts := by
  intro m g m' g' _ hagree
  refine ⟨fun c => (dats m 0 c).arrAt 4 cfg0.N, fun c => Pipeline.afterTail₀ cfgs (dats m) 0 (V0 m) [hostOps1] c main_v16,
    (θ_run defs _ _).mono (fun r h c => ⟨(h.1 c).1 4, (h.1 c).2 main_v16 (Pipeline.mem_restRefs_of main_v16 (by decide) (by decide)),
      ((h.1 c).1 0).trans (((dats m 0 c).arrAt_in 0 rfl _).trans ((entry_eq m c 0).trans (V_main_arg0 m c))),
      ((h.1 c).1 1).trans (((dats m 0 c).arrAt_in 1 rfl _).trans ((entry_eq m c 1).trans (V_main_arg1 m c))),
      ((h.1 c).2 main_arg2 (Pipeline.mem_restRefs_of main_arg2 (by decide) (by decide))).trans (W_main_arg2 m (dats m) c)⟩) (ends m g), ?_⟩
  refine (θ_run _ _ _).mono (fun r h c => ?_) (Cert.KvReferenceIdeal.Value.run m' g')
  obtain ⟨h1, h2, k⟩ := h c
  obtain ⟨a0, a1, a2⟩ := hagree c
  refine ⟨h1.trans ?_, h2.trans ?_, k⟩
  · refine (Cert.KvReferenceIdeal.Read.val_main_v35_eq _ _).trans ?_
    rw [a0, a1, a2]
    funext i
    rw [eq_ix2 i]
    exact (Cert.KvReferenceIdeal.Rows.cols_eq _ _ _ (i 0) (i 1)).trans (cols_array m c (i 0) (i 1)).symm
  · refine (Cert.KvReferenceIdeal.Read.val_main_v36_eq _ _).trans ?_
    rw [a0, a1, a2]
    funext i
    rw [eq_ix2 i]
    exact (Cert.KvReferenceIdeal.Rows.rows_eq _ _ _ (i 0) (i 1)).trans (returned_rows m c (i 0) (i 1)).symm

/-- The reference's run leaves the arguments unchanged and the machine quiet. -/
theorem frame_reference : @Cert.quiescent_KvReferenceIdeal Cert.KvReferenceIdeal.Gen.facts := by
  intro m g _
  exact (θ_run Cert.KvReferenceIdeal.defs _ _).mono (fun r h => ⟨fun c => (h c).2.2, sem_eq_zero_of_no_sems (by decide) r.2⟩)
    (Cert.KvReferenceIdeal.Value.run m g)

end Cert.KvIdeal.Rows
-- ==== Proof.RetSampleSpec.lean ====
module

public import proofs.«01_k».proof.Proof.RetSpec

@[expose] public section

noncomputable section

open Idealize.ShloMosaic

namespace Cert.Layer.RetSample

open Cert.Layer.Ret

/-! What the retention call computes on the samples, each of eight positions, from the projected input, the gain and the
states that the layers hold. -/

/-- The row of the projected input that holds position `i` of sample `n`. -/
def rowAt (n i : Fin 8) : Fin 64 := ⟨8 * n.val + i.val, by omega⟩

/-- An entry of the states that the layers hold. -/
abbrev States : Type := (⟨5, ![4, 8, 4, 128, 128]⟩ : Shape).Idx → EReal

/-- One sample's output of one head, before it is normalised. -/
def rowOut (A : Arr 64 10368) (S : States) (n : Fin 8) (h : Fin 4) (i : Fin 8) (e : Fin 128) : EReal :=
  (∑ s : Fin 8, (∑ d : Fin 128, A (ix2 (rowAt n i) (colAt 0 h d)) * (A (ix2 (rowAt n s) (colAt 1 h d)) * keyScale))
      * within (decay h) i.val s.val * A (ix2 (rowAt n s) (colAt 2 h e)))
    + ∑ d : Fin 128, A (ix2 (rowAt n i) (colAt 0 h d)) * (decay h (i.val + 1) : EReal) * S (ix5 3 n h d e)

/-- One sample's output of one head. -/
def outOf (A : Arr 64 10368) (G : Arr 1 512) (S : States) (n : Fin 8) (h : Fin 4) (i : Fin 8) (e : Fin 128) : EReal :=
  shaped (rowOut A S n h i) (G (ix2 0 (headCol h e))) (A (ix2 (rowAt n i) (colAt 3 h e))) e

/-- One sample's state of one head after its eight positions. -/
def stateOf (A : Arr 64 10368) (S : States) (n : Fin 8) (h : Fin 4) (d e : Fin 128) : EReal :=
  S (ix5 3 n h d e) * (decay h 8 : EReal)
    + ∑ s : Fin 8, A (ix2 (rowAt n s) (colAt 1 h d)) * keyScale * (decay h (8 - 1 - s.val) : EReal) * A (ix2 (rowAt n s) (colAt 2 h e))

/-- The literal for 7. -/
theorem lit_7 : Ideal.ofBits .f32 1088421888#32 = ((7 : ℝ) : EReal) := by
  simp [Ideal.ofBits, Ideal.ieee, -EReal.coe_mul]
  norm_num

/-- The literal for 8. -/
theorem lit_8 : Ideal.ofBits .f32 1090519040#32 = ((8 : ℝ) : EReal) := by
  simp [Ideal.ofBits, Ideal.ieee, -EReal.coe_mul]
  norm_num

end Cert.Layer.RetSample
-- ==== Proof.RetSamplePayloads.lean ====
module

public import proofs.«01_k».proof.Proof.RetSpec
public import Idealize.ShloMosaic.Lib.Pointwise
public import proofs.«01_k».proof.Proof.Gen.RetSampleIdeal.Value

@[expose] public section

set_option maxRecDepth 16384

noncomputable section

open Idealize.ShloMosaic Idealize.ShloMosaic.TcCoe Idealize.SL.Sem

namespace Cert.Layer.RetSample

open Cert.RetSampleIdeal Cert.RetSampleIdeal.Gen Cert.Layer.Ret

/-! What the kernel's body computes from the blocks it loads, at an element. A sample holds eight positions. -/

/-- The eight positions of one sample and one head. -/
abbrev Blk : Type := Vec Ideal S8x128 .f32
/-- One head's state before the sample. -/
abbrev St : Type := Vec Ideal S1x1x1x128x128 .f32
/-- One head's row factors. -/
abbrev Tab : Type := Vec Ideal S1x8x128 .f32
/-- One head's factors between positions. -/
abbrev Mat : Type := Vec Ideal S1x8x8 .f32

/-- A sample's output of one head before it is normalised. -/
def sampleOut (q k v : Blk) (S : St) (dm : Mat) (qd : Tab) (i : Fin 8) (e : Fin 128) : EReal :=
  (∑ s : Fin 8, (∑ d : Fin 128, q (ix2 i d) * (k (ix2 s d) * keyScale)) * dm (ix3 0 i s) * v (ix2 s e))
    + ∑ d : Fin 128, q (ix2 i d) * qd (ix3 0 i d) * S (ix5 0 0 0 d e)

/-- One head's state after a sample. -/
def sampleState (k v : Blk) (S : St) (cd : Vec Ideal S1x1x128 .f32) (kd : Tab) (d e : Fin 128) : EReal :=
  S (ix5 0 0 0 d e) * cd (ix3 0 0 e) + ∑ s : Fin 8, k (ix2 s d) * keyScale * kd (ix3 0 s d) * v (ix2 s e)

/-- The first head's output block at an element. -/
theorem pay_out0 (q k v g : Blk) (S : St) (dm : Mat) (qd : Tab) (gain : Vec Ideal S1x128 .f32) (i : Fin 8) (e : Fin 128) :
    k0_pay11 (F := Ideal) (k0_pay5 S) q (k0_pay10 q k v dm) qd g gain (ix2 i e)
      = shaped (sampleOut q k v S dm qd i) (gain (ix2 0 e)) (g (ix2 i e)) e := by
  unfold shaped scale128 sampleOut keyScale
  pointwise [k0_pay11, k0_pay10, k0_pay9, k0_pay5]
  simp only [sub_eq_add_neg, zero_add]

/-- The second head's output block at an element. -/
theorem pay_out1 (q k v g : Blk) (S : St) (dm : Mat) (qd : Tab) (gain : Vec Ideal S1x128 .f32) (i : Fin 8) (e : Fin 128) :
    k0_pay18 (F := Ideal) (k0_pay16 (k0_pay6 S) q k v dm qd) g (k0_pay17 (k0_pay6 S) q k v dm qd) gain (ix2 i e)
      = shaped (sampleOut q k v S dm qd i) (gain (ix2 0 e)) (g (ix2 i e)) e := by
  unfold shaped scale128 sampleOut keyScale
  pointwise [k0_pay18, k0_pay17, k0_pay16, k0_pay15, k0_pay6]
  simp only [sub_eq_add_neg, zero_add]

/-- The third head's output block at an element. -/
theorem pay_out2 (q k v g : Blk) (S : St) (dm : Mat) (qd : Tab) (gain : Vec Ideal S1x128 .f32) (i : Fin 8) (e : Fin 128) :
    k0_pay24 (F := Ideal) g (k0_pay21 (k0_pay7 S) q k (Scalar.ofBits .f32 1035273459#32) v dm qd gain) (k0_pay22 g) k0_pay23 (ix2 i e)
      = shaped (sampleOut q k v S dm qd i) (gain (ix2 0 e)) (g (ix2 i e)) e := by
  unfold shaped scale128 sampleOut keyScale
  pointwise [k0_pay24, k0_pay23, k0_pay22, k0_pay21, k0_pay20, k0_pay7]
  simp only [sub_eq_add_neg, zero_add]

/-- The fourth head's output block at an element. -/
theorem pay_out3 (q k v g : Blk) (S : St) (dm : Mat) (qd : Tab) (gain : Vec Ideal S1x128 .f32) (i : Fin 8) (e : Fin 128) :
    k0_pay28 (F := Ideal) (k0_pay8 S) q (k0_pay27 q k v dm) qd g gain (ix2 i e)
      = shaped (sampleOut q k v S dm qd i) (gain (ix2 0 e)) (g (ix2 i e)) e := by
  unfold shaped scale128 sampleOut keyScale
  pointwise [k0_pay28, k0_pay27, k0_pay26, k0_pay8]
  simp only [sub_eq_add_neg, zero_add]

/-- The first head's new state at an element: the rows below the eighth, put there to fill the product's operands, are zero. -/
theorem pay_state0 (k v : Blk) (S : St) (cd : Vec Ideal S1x1x128 .f32) (kd : Tab) (a b : Fin 1) (d e : Fin 128) :
    k0_pay1 (F := Ideal) (k0_pay14 (k0_pay9 k) v (k0_pay12 (k0_pay5 S) cd) (k0_pay13 kd)) (ix4 a b d e) = sampleState k v S cd kd d e := by
  unfold sampleState keyScale
  pointwise [k0_pay1, k0_pay14, k0_pay13, k0_pay12, k0_pay9, k0_pay5]
  simp only [mul_zero, Finset.sum_const_zero, add_zero]

/-- The second head's new state at an element: the rows below the eighth, put there to fill the product's operands, are zero. -/
theorem pay_state1 (k v : Blk) (S : St) (cd : Vec Ideal S1x1x128 .f32) (kd : Tab) (a b : Fin 1) (d e : Fin 128) :
    k0_pay2 (F := Ideal) (k0_pay19 (k0_pay6 S) (k0_pay15 k) v cd kd) (ix4 a b d e) = sampleState k v S cd kd d e := by
  unfold sampleState keyScale
  pointwise [k0_pay2, k0_pay19, k0_pay15, k0_pay6]
  simp only [mul_zero, Finset.sum_const_zero, add_zero]

/-- The third head's new state at an element: the rows below the eighth, put there to fill the product's operands, are zero. -/
theorem pay_state2 (k v : Blk) (S : St) (cd : Vec Ideal S1x1x128 .f32) (kd : Tab) (a b : Fin 1) (d e : Fin 128) :
    k0_pay3 (F := Ideal) (k0_pay25 (k0_pay7 S) (k0_pay20 k (Scalar.ofBits .f32 1035273459#32)) v cd kd) (ix4 a b d e) = sampleState k v S cd kd d e := by
  unfold sampleState keyScale
  pointwise [k0_pay3, k0_pay25, k0_pay20, k0_pay7]
  simp only [mul_zero, Finset.sum_const_zero, add_zero]

/-- The fourth head's new state at an element: the rows below the eighth, put there to fill the product's operands, are zero. -/
theorem pay_state3 (k v : Blk) (S : St) (cd : Vec Ideal S1x1x128 .f32) (kd : Tab) (a b : Fin 1) (d e : Fin 128) :
    k0_pay4 (F := Ideal) (k0_pay26 k) v (k0_pay29 (k0_pay8 S) cd) (k0_pay30 kd) (ix4 a b d e) = sampleState k v S cd kd d e := by
  unfold sampleState keyScale
  pointwise [k0_pay4, k0_pay30, k0_pay29, k0_pay26, k0_pay8]
  simp only [mul_zero, Finset.sum_const_zero, add_zero]

end Cert.Layer.RetSample
-- ==== Proof.RetSampleFeed.lean ====
module

public import proofs.«01_k».proof.Proof.RetSampleSpec
public import proofs.«01_k».proof.Proof.RetSamplePayloads
public import Idealize.ShloMosaic.Lib.WholeRead
public import Idealize.ShloMosaic.Lib.Pipeline.ValueKit
public import Idealize.ShloMosaic.Lib.Pipeline.ValueKit.Point
public import Idealize.ShloMosaic.Lib.StableHlo.ReadAt

@[expose] public section

set_option maxRecDepth 16384

noncomputable section

open Idealize.ShloMosaic Idealize.ShloMosaic.TcCoe Idealize.SL.Sem

namespace Cert.Layer.RetSample

open Cert.RetSampleIdeal Cert.RetSampleIdeal.Gen Cert.Layer.Ret

/-! What the blocks that a grid point loads hold. -/

variable (m : (ℓ : Loc nD τ sig) → Buf (Elt Ideal) ℓ)

/-- The projected input, as an array over the extended reals. -/
abbrev A0 (c : Dev nD) : S64x10368.Idx → EReal := m ((c : Thread nD τ).loc main_arg0)
/-- The gain, as an array over the extended reals. -/
abbrev A1 (c : Dev nD) : S1x512.Idx → EReal := m ((c : Thread nD τ).loc main_arg1)
/-- The layers' states, as an array over the extended reals. -/
abbrev A2 (c : Dev nD) : S4x8x4x128x128.Idx → EReal := m ((c : Thread nD τ).loc main_arg2)

/-- The query block of a point. -/
abbrev Q (c : Dev nD) (t : Fin cfg0.N) : S8x512.Idx → EReal := X0_0 m c t
/-- The key block of a point. -/
abbrev K (c : Dev nD) (t : Fin cfg0.N) : S8x512.Idx → EReal := X0_1 m c t
/-- The value block of a point. -/
abbrev W (c : Dev nD) (t : Fin cfg0.N) : S8x512.Idx → EReal := X0_2 m c t
/-- The gate block of a point. -/
abbrev Z (c : Dev nD) (t : Fin cfg0.N) : S8x512.Idx → EReal := X0_3 m c t
/-- The table of factors between positions. -/
abbrev T4 (c : Dev nD) (t : Fin cfg0.N) : S4x8x8.Idx → EReal := iblk m c 4 t
/-- The query table. -/
abbrev T5 (c : Dev nD) (t : Fin cfg0.N) : S4x8x128.Idx → EReal := iblk m c 5 t
/-- The key table. -/
abbrev T6 (c : Dev nD) (t : Fin cfg0.N) : S4x8x128.Idx → EReal := iblk m c 6 t
/-- The state table. -/
abbrev T7 (c : Dev nD) (t : Fin cfg0.N) : S4x8x128.Idx → EReal := iblk m c 7 t
/-- The gain's block. -/
abbrev T8 (c : Dev nD) (t : Fin cfg0.N) : S1x512.Idx → EReal := iblk m c 8 t
/-- The states' block. -/
abbrev T9 (c : Dev nD) (t : Fin cfg0.N) : S1x1x4x128x128.Idx → EReal := iblk m c 9 t

/-- Which block of each operand a grid point works on: point `t` takes the `t`-th sample, the fourth layer's states of that sample,
and the whole of every table. -/
theorem idx : ∀ t : Fin cfg0.N, win0_0.index t = ![t.val, 0] ∧ win0_1.index t = ![t.val, 1] ∧ win0_2.index t = ![t.val, 2]
    ∧ win0_3.index t = ![t.val, 3] ∧ win0_4.index t = ![0, 0, 0] ∧ win0_5.index t = ![0, 0, 0] ∧ win0_6.index t = ![0, 0, 0]
    ∧ win0_7.index t = ![0, 0, 0] ∧ win0_8.index t = ![0, 0] ∧ win0_9.index t = ![3, t.val, 0, 0, 0] :=
  (by decide +kernel : ∀ t : Fin grid0.N, _)

/-- Which block of each result a grid point writes. -/
theorem idx_out : ∀ t : Fin cfg0.N, win0_10.index t = ![t.val, 0] ∧ win0_11.index t = ![t.val, 0, 0, 0] :=
  (by decide +kernel : ∀ t : Fin grid0.N, _)

/-- The sample that a grid point works on. -/
def sample (t : Fin cfg0.N) : Fin 8 := ⟨t.val, by have h : cfg0.N = 8 := N_0; have := t.isLt; omega⟩

/-- The query block of a point, read from the projected input. -/
theorem blk_query (c : Dev nD) (t : Fin cfg0.N) (i : Fin 8) (h : Fin 4) (d : Fin 128) :
    Q m c t (ix2 i (headCol h d)) = A0 m c (ix2 (rowAt (sample t) i) (colAt 0 h d)) := by
  unfold rowAt sample colAt headCol Q X0_0
  rw [Pipeline.Window.fill, dif_pos (moved0_0 t _)]
  refine Eq.trans ?_ (congrFun (V_main_arg0 m c) _)
  blk_ext [iblk, idx t]

/-- The key block of a point, read from the projected input. -/
theorem blk_key (c : Dev nD) (t : Fin cfg0.N) (i : Fin 8) (h : Fin 4) (d : Fin 128) :
    K m c t (ix2 i (headCol h d)) = A0 m c (ix2 (rowAt (sample t) i) (colAt 1 h d)) := by
  unfold rowAt sample colAt headCol K X0_1
  rw [Pipeline.Window.fill, dif_pos (moved0_1 t _)]
  refine Eq.trans ?_ (congrFun (V_main_arg0 m c) _)
  blk_ext [iblk, idx t]

/-- The value block of a point, read from the projected input. -/
theorem blk_value (c : Dev nD) (t : Fin cfg0.N) (i : Fin 8) (h : Fin 4) (d : Fin 128) :
    W m c t (ix2 i (headCol h d)) = A0 m c (ix2 (rowAt (sample t) i) (colAt 2 h d)) := by
  unfold rowAt sample colAt headCol W X0_2
  rw [Pipeline.Window.fill, dif_pos (moved0_2 t _)]
  refine Eq.trans ?_ (congrFun (V_main_arg0 m c) _)
  blk_ext [iblk, idx t]

/-- The gate block of a point, read from the projected input. -/
theorem blk_gate (c : Dev nD) (t : Fin cfg0.N) (i : Fin 8) (h : Fin 4) (d : Fin 128) :
    Z m c t (ix2 i (headCol h d)) = A0 m c (ix2 (rowAt (sample t) i) (colAt 3 h d)) := by
  unfold rowAt sample colAt headCol Z X0_3
  rw [Pipeline.Window.fill, dif_pos (moved0_3 t _)]
  refine Eq.trans ?_ (congrFun (V_main_arg0 m c) _)
  blk_ext [iblk, idx t]

/-- The gain's block of a point is the gain. -/
theorem blk_gain (c : Dev nD) (t : Fin cfg0.N) (j : Fin 512) : T8 m c t (ix2 0 j) = A1 m c (ix2 0 j) := by
  refine Eq.trans ?_ (congrFun (V_main_arg1 m c) _)
  blk_ext [iblk, idx t]

/-- The states' block of a point holds the fourth layer's states of its sample. -/
theorem blk_state (c : Dev nD) (t : Fin cfg0.N) (h : Fin 4) (d e : Fin 128) :
    T9 m c t (ix5 0 0 h d e) = A2 m c (ix5 3 (sample t) h d e) := by
  unfold sample
  refine Eq.trans ?_ (congrFun (V_main_arg2 m c) _)
  blk_ext [iblk, idx t]

/-- The array that window 4 reads. -/
abbrev H4 (c : Dev nD) : S4x8x8.Idx → EReal := V m c main_v24
/-- The array that window 5 reads. -/
abbrev H5 (c : Dev nD) : S4x8x128.Idx → EReal := V m c main_v37
/-- The array that window 6 reads. -/
abbrev H6 (c : Dev nD) : S4x8x128.Idx → EReal := V m c main_v50
/-- The array that window 7 reads. -/
abbrev H7 (c : Dev nD) : S4x8x128.Idx → EReal := V m c main_v58

/-- The table of factors between positions. -/
theorem tab_within (c : Dev nD) (t : Fin cfg0.N) (h : Fin 4) (i j : Fin 8) :
    T4 m c t (ix3 h i j) = within (decay h) i.val j.val := by
  have e : T4 m c t (ix3 h i j) = H4 m c (ix3 h i j) := by blk_ext [iblk, idx t]
  rw [e]
  unfold H4 V
  simp only [List.flatten_cons, List.flatten_nil, List.append_nil, StableHlo.after_append]
  after_reads_at
  have hz : (id (constant (F := Ideal) S_ .f32 0#32) ix0 : EReal) = 0 := by
    show Ideal.ofBits .f32 0#32 = 0
    simp [Ideal.ofBits, Ideal.ieee]
  rw [hz]
  exact table_within h (i := i.val) (j := j.val) (by omega) (by omega)

/-- The query table holds, at row `i`, the decay over `i + 1` positions. -/
theorem tab_query (c : Dev nD) (t : Fin cfg0.N) (h : Fin 4) (i : Fin 8) (d : Fin 128) :
    T5 m c t (ix3 h i d) = (decay h (i.val + 1) : EReal) := by
  have e : T5 m c t (ix3 h i d) = H5 m c (ix3 h i d) := by blk_ext [iblk, idx t]
  rw [e]
  unfold H5 V
  simp only [List.flatten_cons, List.flatten_nil, List.append_nil, StableHlo.after_append]
  after_reads_at
  exact table_query h (i := i.val) (by omega)

/-- The key table holds, at row `i`, the decay over the positions left in the sample. -/
theorem tab_key (c : Dev nD) (t : Fin cfg0.N) (h : Fin 4) (i : Fin 8) (d : Fin 128) :
    T6 m c t (ix3 h i d) = (decay h (8 - 1 - i.val) : EReal) := by
  have e : T6 m c t (ix3 h i d) = H6 m c (ix3 h i d) := by blk_ext [iblk, idx t]
  rw [e]
  unfold H6 V
  simp only [List.flatten_cons, List.flatten_nil, List.append_nil, StableHlo.after_append]
  after_reads_at
  exact table_key h (c := 8) (by norm_num) i.isLt (lit_7.trans (by norm_num))

/-- The state table holds the decay over a sample. -/
theorem tab_state (c : Dev nD) (t : Fin cfg0.N) (h : Fin 4) (i : Fin 8) (d : Fin 128) :
    T7 m c t (ix3 h i d) = (decay h 8 : EReal) := by
  have e : T7 m c t (ix3 h i d) = H7 m c (ix3 h i d) := by blk_ext [iblk, idx t]
  rw [e]
  unfold H7 V
  simp only [List.flatten_cons, List.flatten_nil, List.append_nil, StableHlo.after_append]
  after_reads_at
  refine Eq.trans ?_ (exp_decayLog h 8)
  rw [lit_8]
  rfl

end Cert.Layer.RetSample
-- ==== Proof.RetSampleKernel.lean ====
module

public import proofs.«01_k».proof.Proof.RetSampleFeed

@[expose] public section

set_option maxRecDepth 16384

noncomputable section

open Idealize.ShloMosaic Idealize.ShloMosaic.TcCoe Idealize.SL.Sem Idealize.ShloMosaic.Tactic

namespace Cert.Layer.RetSample

open Cert.RetSampleIdeal Cert.RetSampleIdeal.Gen Cert.RetSampleIdeal.Value Cert.Layer.Ret

/-! What a grid point leaves in the two output blocks, and the two result arrays. -/

/-- Where the first head's columns of a block begin. -/
theorem off1_eq : k0_off1 = ![0, 0] := by decide +kernel
/-- Where the second head's columns of a block begin. -/
theorem off2_eq : k0_off2 = ![0, 128] := by decide +kernel
/-- Where the third head's columns of a block begin. -/
theorem off3_eq : k0_off3 = ![0, 256] := by decide +kernel
/-- Where the fourth head's columns of a block begin. -/
theorem off4_eq : k0_off4 = ![0, 384] := by decide +kernel

/-- Where one head's columns of a block lie. -/
theorem place_blk (off : Fin 2 → ℕ) (inb : ∀ a, off a + S8x128.size a ≤ S8x512.size a) (h : Fin 4)
    (ho : off = ![0, 128 * h.val]) (i : Fin 8) (d : Fin 128) :
    (Rect.unit (s := S8x512) off S8x128.size inb).toLoadRect.idx (ix2 i d) = ix2 i (headCol h d) := by
  subst ho
  funext a
  apply Fin.ext
  refine (Rect.idx_unit_val ..).trans ?_
  fin_cases a
  · show 0 + i.val = i.val
    omega
  · rfl

/-- A load of one head's columns of a block. -/
theorem read_blk {M : Memref sig .tc .vmem S8x512 .f32} (hM : M.IsWhole) (x : S8x512.Idx → EReal) (off : Fin 2 → ℕ)
    (inb : ∀ a, off a + S8x128.size a ≤ S8x512.size a) (h : Fin 4) (ho : off = ![0, 128 * h.val]) (i : Fin 8) (d : Fin 128) :
    View.readAt (Elt Ideal) M.view (Rect.unit (s := S8x512) off S8x128.size inb).toLoadRect (hM.unread x) (ix2 i d)
      = x (ix2 i (headCol h d)) :=
  (hM.readAt_unread (Val := Elt Ideal) x _ _).trans (congrArg x (place_blk off inb h ho i d))

/-- Where one head's factors between positions lie. -/
theorem place_mat (off : Fin 3 → ℕ) (inb : ∀ a, off a + S1x8x8.size a ≤ S4x8x8.size a) (h : Fin 4)
    (h0 : off 0 = h.val) (h1 : off 1 = 0) (h2 : off 2 = 0) (i j : Fin 8) :
    (Rect.unit (s := S4x8x8) off S1x8x8.size inb).toLoadRect.idx (ix3 0 i j) = ix3 h i j := by
  funext a
  apply Fin.ext
  refine (Rect.idx_unit_val ..).trans ?_
  fin_cases a
  · show off 0 + 0 = h.val
    omega
  · show off 1 + i.val = i.val
    omega
  · show off 2 + j.val = j.val
    omega

/-- A load of one head's factors between positions. -/
theorem read_mat {M : Memref sig .tc .vmem S4x8x8 .f32} (hM : M.IsWhole) (x : S4x8x8.Idx → EReal) (off : Fin 3 → ℕ)
    (inb : ∀ a, off a + S1x8x8.size a ≤ S4x8x8.size a) (h : Fin 4)
    (h0 : off 0 = h.val) (h1 : off 1 = 0) (h2 : off 2 = 0) (i j : Fin 8) :
    View.readAt (Elt Ideal) M.view (Rect.unit (s := S4x8x8) off S1x8x8.size inb).toLoadRect (hM.unread x) (ix3 0 i j)
      = x (ix3 h i j) :=
  (hM.readAt_unread (Val := Elt Ideal) x _ _).trans (congrArg x (place_mat off inb h h0 h1 h2 i j))

/-- Where one head's entries of a table lie. -/
theorem place_tab (off : Fin 3 → ℕ) (inb : ∀ a, off a + S1x8x128.size a ≤ S4x8x128.size a) (h : Fin 4)
    (h0 : off 0 = h.val) (h1 : off 1 = 0) (h2 : off 2 = 0) (i : Fin 8) (d : Fin 128) :
    (Rect.unit (s := S4x8x128) off S1x8x128.size inb).toLoadRect.idx (ix3 0 i d) = ix3 h i d := by
  funext a
  apply Fin.ext
  refine (Rect.idx_unit_val ..).trans ?_
  fin_cases a
  · show off 0 + 0 = h.val
    omega
  · show off 1 + i.val = i.val
    omega
  · show off 2 + d.val = d.val
    omega

/-- A load of one head's entries of a table. -/
theorem read_tab {M : Memref sig .tc .vmem S4x8x128 .f32} (hM : M.IsWhole) (x : S4x8x128.Idx → EReal) (off : Fin 3 → ℕ)
    (inb : ∀ a, off a + S1x8x128.size a ≤ S4x8x128.size a) (h : Fin 4)
    (h0 : off 0 = h.val) (h1 : off 1 = 0) (h2 : off 2 = 0) (i : Fin 8) (d : Fin 128) :
    View.readAt (Elt Ideal) M.view (Rect.unit (s := S4x8x128) off S1x8x128.size inb).toLoadRect (hM.unread x) (ix3 0 i d)
      = x (ix3 h i d) :=
  (hM.readAt_unread (Val := Elt Ideal) x _ _).trans (congrArg x (place_tab off inb h h0 h1 h2 i d))

/-- Where one head's entries of the state table lie. -/
theorem place_cd (off : Fin 3 → ℕ) (inb : ∀ a, off a + S1x1x128.size a ≤ S4x8x128.size a) (h : Fin 4)
    (h0 : off 0 = h.val) (h1 : off 1 = 0) (h2 : off 2 = 0) (e : Fin 128) :
    (Rect.unit (s := S4x8x128) off S1x1x128.size inb).toLoadRect.idx (ix3 0 0 e) = ix3 h 0 e := by
  funext a
  apply Fin.ext
  refine (Rect.idx_unit_val ..).trans ?_
  fin_cases a
  · show off 0 + 0 = h.val
    omega
  · show off 1 + 0 = 0
    omega
  · show off 2 + e.val = e.val
    omega

/-- A load of one head's entries of the state table. -/
theorem read_cd {M : Memref sig .tc .vmem S4x8x128 .f32} (hM : M.IsWhole) (x : S4x8x128.Idx → EReal) (off : Fin 3 → ℕ)
    (inb : ∀ a, off a + S1x1x128.size a ≤ S4x8x128.size a) (h : Fin 4)
    (h0 : off 0 = h.val) (h1 : off 1 = 0) (h2 : off 2 = 0) (e : Fin 128) :
    View.readAt (Elt Ideal) M.view (Rect.unit (s := S4x8x128) off S1x1x128.size inb).toLoadRect (hM.unread x) (ix3 0 0 e)
      = x (ix3 h 0 e) :=
  (hM.readAt_unread (Val := Elt Ideal) x _ _).trans (congrArg x (place_cd off inb h h0 h1 h2 e))

/-- Where one head's entries of the gain lie. -/
theorem place_gain (off : Fin 2 → ℕ) (inb : ∀ a, off a + S1x128.size a ≤ S1x512.size a) (h : Fin 4)
    (h0 : off 0 = 0) (h1 : off 1 = 128 * h.val) (e : Fin 128) :
    (Rect.unit (s := S1x512) off S1x128.size inb).toLoadRect.idx (ix2 0 e) = ix2 0 (headCol h e) := by
  funext a
  apply Fin.ext
  refine (Rect.idx_unit_val ..).trans ?_
  fin_cases a
  · show off 0 + 0 = 0
    omega
  · show off 1 + e.val = 128 * h.val + e.val
    omega

/-- A load of one head's entries of the gain. -/
theorem read_gain {M : Memref sig .tc .vmem S1x512 .f32} (hM : M.IsWhole) (x : S1x512.Idx → EReal) (off : Fin 2 → ℕ)
    (inb : ∀ a, off a + S1x128.size a ≤ S1x512.size a) (h : Fin 4)
    (h0 : off 0 = 0) (h1 : off 1 = 128 * h.val) (e : Fin 128) :
    View.readAt (Elt Ideal) M.view (Rect.unit (s := S1x512) off S1x128.size inb).toLoadRect (hM.unread x) (ix2 0 e)
      = x (ix2 0 (headCol h e)) :=
  (hM.readAt_unread (Val := Elt Ideal) x _ _).trans (congrArg x (place_gain off inb h h0 h1 e))

/-- Where one head's state lie. -/
theorem place_state (off : Fin 5 → ℕ) (inb : ∀ a, off a + S1x1x1x128x128.size a ≤ S1x1x4x128x128.size a) (h : Fin 4)
    (h0 : off 0 = 0) (h1 : off 1 = 0) (h2 : off 2 = h.val) (h3 : off 3 = 0) (h4 : off 4 = 0) (d e : Fin 128) :
    (Rect.unit (s := S1x1x4x128x128) off S1x1x1x128x128.size inb).toLoadRect.idx (ix5 0 0 0 d e) = ix5 0 0 h d e := by
  funext a
  apply Fin.ext
  refine (Rect.idx_unit_val ..).trans ?_
  fin_cases a
  · show off 0 + 0 = 0
    omega
  · show off 1 + 0 = 0
    omega
  · show off 2 + 0 = h.val
    omega
  · show off 3 + d.val = d.val
    omega
  · show off 4 + e.val = e.val
    omega

/-- A load of one head's state. -/
theorem read_state {M : Memref sig .tc .vmem S1x1x4x128x128 .f32} (hM : M.IsWhole) (x : S1x1x4x128x128.Idx → EReal) (off : Fin 5 → ℕ)
    (inb : ∀ a, off a + S1x1x1x128x128.size a ≤ S1x1x4x128x128.size a) (h : Fin 4)
    (h0 : off 0 = 0) (h1 : off 1 = 0) (h2 : off 2 = h.val) (h3 : off 3 = 0) (h4 : off 4 = 0) (d e : Fin 128) :
    View.readAt (Elt Ideal) M.view (Rect.unit (s := S1x1x4x128x128) off S1x1x1x128x128.size inb).toLoadRect (hM.unread x) (ix5 0 0 0 d e)
      = x (ix5 0 0 h d e) :=
  (hM.readAt_unread (Val := Elt Ideal) x _ _).trans (congrArg x (place_state off inb h h0 h1 h2 h3 h4 d e))

/-- Where one head's new state is stored in the second output block. -/
theorem place_last (off : Fin 4 → ℕ) (inb : ∀ a, off a + S1x1x128x128.size a ≤ S1x4x128x128.size a) (h : Fin 4)
    (h0 : off 0 = 0) (h1 : off 1 = h.val) (h2 : off 2 = 0) (h3 : off 3 = 0) (a b : Fin 1) (d e : Fin 128) :
    (Rect.unit (s := S1x4x128x128) off S1x1x128x128.size inb).idx (ix4 a b d e) = ix4 0 h d e := by
  funext y
  apply Fin.ext
  refine (Rect.idx_unit_val ..).trans ?_
  fin_cases y
  · show off 0 + a.val = 0
    omega
  · show off 1 + b.val = h.val
    omega
  · show off 2 + d.val = d.val
    omega
  · show off 3 + e.val = e.val
    omega

variable (m : (ℓ : Loc nD τ sig) → Buf (Elt Ideal) ℓ)

/-- The output row of a point's loads is the sample's output row. -/
theorem sampleOut_eq (c : Dev nD) (t : Fin cfg0.N) (h : Fin 4) (q k v : Blk) (S : St) (dm : Mat) (qd : Tab)
    (hq : ∀ i d, q (ix2 i d) = Q m c t (ix2 i (headCol h d))) (hk : ∀ i d, k (ix2 i d) = K m c t (ix2 i (headCol h d)))
    (hv : ∀ i d, v (ix2 i d) = W m c t (ix2 i (headCol h d))) (hS : ∀ d e, S (ix5 0 0 0 d e) = T9 m c t (ix5 0 0 h d e))
    (hdm : ∀ i j, dm (ix3 0 i j) = T4 m c t (ix3 h i j)) (hqd : ∀ i d, qd (ix3 0 i d) = T5 m c t (ix3 h i d)) (i : Fin 8) (e : Fin 128) :
    sampleOut q k v S dm qd i e = rowOut (A0 m c) (A2 m c) (sample t) h i e := by
  unfold sampleOut rowOut
  simp only [hq, hk, hv, hS, hdm, hqd, blk_query, blk_key, blk_value, blk_state, tab_within, tab_query]

/-- The new state of a point's loads is the sample's state after its positions. -/
theorem sampleState_eq (c : Dev nD) (t : Fin cfg0.N) (h : Fin 4) (k v : Blk) (S : St) (cd : Vec Ideal S1x1x128 .f32) (kd : Tab)
    (hk : ∀ i d, k (ix2 i d) = K m c t (ix2 i (headCol h d))) (hv : ∀ i d, v (ix2 i d) = W m c t (ix2 i (headCol h d)))
    (hS : ∀ d e, S (ix5 0 0 0 d e) = T9 m c t (ix5 0 0 h d e)) (hcd : ∀ e, cd (ix3 0 0 e) = T7 m c t (ix3 h 0 e))
    (hkd : ∀ i d, kd (ix3 0 i d) = T6 m c t (ix3 h i d)) (d e : Fin 128) :
    sampleState k v S cd kd d e = stateOf (A0 m c) (A2 m c) (sample t) h d e := by
  unfold sampleState stateOf
  simp only [hk, hv, hS, hcd, hkd, blk_key, blk_value, blk_state, tab_key, tab_state]

/-- The first output block of a point, as an array. -/
def outBlk (c : Dev nD) (t : Fin cfg0.N) (j : S8x512.Idx) : EReal :=
  outOf (A0 m c) (A1 m c) (A2 m c) (sample t) ⟨(j 1).val / 128, by have : (j 1).val < 512 := (j 1).isLt; omega⟩ (j 0)
    ⟨(j 1).val % 128, by omega⟩

/-- That array at a column of a head. -/
theorem outBlk_at (c : Dev nD) (t : Fin cfg0.N) (h : Fin 4) (i : Fin 8) (e : Fin 128) :
    outBlk m c t (ix2 i (headCol h e)) = outOf (A0 m c) (A1 m c) (A2 m c) (sample t) h i e := by
  have e1 : (128 * h.val + e.val) / 128 = h.val := by omega
  have e4 : (128 * h.val + e.val) % 128 = e.val := by omega
  show outOf (A0 m c) (A1 m c) (A2 m c) (sample t) ⟨(128 * h.val + e.val) / 128, _⟩ i ⟨(128 * h.val + e.val) % 128, _⟩ = _
  simp only [e1, e4]

/-- What a point leaves in the first output block. -/
theorem out_block (c : Dev nD) (t : Fin cfg0.N) (j : S8x512.Idx) : (outsAt0 m c t).1 j = outBlk m c t j := by
  unfold outsAt0
  dsimp only
  unfold out0_A_10
  rw [View.read_writes_junk_eq_canon]
  refine View.canon_apply_of_pieces (Val := Elt Ideal) (outBlk m c t) _ (fun p hp => ?_) j (cover0_A_10 c _ _ _ _ _ _ _ _ _ _ _ _ _ _ _ _ _ _ _ _ _ _ _ _ _ _ _ _ _ _ _ _ _ _ _ j)
  unfold kernelRun0_A at hp
  dsimp only at hp
  revert hp
  sl_unfold_run_names
  intro hp
  simp only [List.mem_cons, List.not_mem_nil, or_false] at hp
  rcases hp with rfl | rfl | rfl | rfl
  · intro x
    obtain ⟨i, e, rfl⟩ : ∃ (i : Fin 8) (e : Fin 128), x = ix2 i e := ⟨x 0, x 1, eq_ix2 x⟩
    refine (pay_out3 ..).trans ?_
    refine Eq.trans ?_ ((outBlk_at m c t 3 i e).symm.trans (congrArg (outBlk m c t) (place_blk _ k0_off4_inb 3 off4_eq i e).symm))
    exact shaped_congr (fun j => sampleOut_eq m c t 3 _ _ _ _ _ _ (read_blk (hs0_0 t) _ _ _ 3 off4_eq) (read_blk (hs0_1 t) _ _ _ 3 off4_eq)
      (read_blk (hs0_2 t) _ _ _ 3 off4_eq) (read_state (hs0_9 t) _ _ _ 3 rfl rfl rfl rfl rfl) (read_mat (hs0_4 t) _ _ _ 3 rfl rfl rfl)
      (read_tab (hs0_5 t) _ _ _ 3 rfl rfl rfl) i j)
      ((read_gain (hs0_8 t) _ _ _ 3 rfl rfl e).trans (blk_gain m c t (headCol 3 e)))
      ((read_blk (hs0_3 t) _ _ _ 3 off4_eq i e).trans (blk_gate m c t i 3 e)) e
  · intro x
    obtain ⟨i, e, rfl⟩ : ∃ (i : Fin 8) (e : Fin 128), x = ix2 i e := ⟨x 0, x 1, eq_ix2 x⟩
    refine (pay_out2 ..).trans ?_
    refine Eq.trans ?_ ((outBlk_at m c t 2 i e).symm.trans (congrArg (outBlk m c t) (place_blk _ k0_off3_inb 2 off3_eq i e).symm))
    exact shaped_congr (fun j => sampleOut_eq m c t 2 _ _ _ _ _ _ (read_blk (hs0_0 t) _ _ _ 2 off3_eq) (read_blk (hs0_1 t) _ _ _ 2 off3_eq)
      (read_blk (hs0_2 t) _ _ _ 2 off3_eq) (read_state (hs0_9 t) _ _ _ 2 rfl rfl rfl rfl rfl) (read_mat (hs0_4 t) _ _ _ 2 rfl rfl rfl)
      (read_tab (hs0_5 t) _ _ _ 2 rfl rfl rfl) i j)
      ((read_gain (hs0_8 t) _ _ _ 2 rfl rfl e).trans (blk_gain m c t (headCol 2 e)))
      ((read_blk (hs0_3 t) _ _ _ 2 off3_eq i e).trans (blk_gate m c t i 2 e)) e
  · intro x
    obtain ⟨i, e, rfl⟩ : ∃ (i : Fin 8) (e : Fin 128), x = ix2 i e := ⟨x 0, x 1, eq_ix2 x⟩
    refine (pay_out1 ..).trans ?_
    refine Eq.trans ?_ ((outBlk_at m c t 1 i e).symm.trans (congrArg (outBlk m c t) (place_blk _ k0_off2_inb 1 off2_eq i e).symm))
    exact shaped_congr (fun j => sampleOut_eq m c t 1 _ _ _ _ _ _ (read_blk (hs0_0 t) _ _ _ 1 off2_eq) (read_blk (hs0_1 t) _ _ _ 1 off2_eq)
      (read_blk (hs0_2 t) _ _ _ 1 off2_eq) (read_state (hs0_9 t) _ _ _ 1 rfl rfl rfl rfl rfl) (read_mat (hs0_4 t) _ _ _ 1 rfl rfl rfl)
      (read_tab (hs0_5 t) _ _ _ 1 rfl rfl rfl) i j)
      ((read_gain (hs0_8 t) _ _ _ 1 rfl rfl e).trans (blk_gain m c t (headCol 1 e)))
      ((read_blk (hs0_3 t) _ _ _ 1 off2_eq i e).trans (blk_gate m c t i 1 e)) e
  · intro x
    obtain ⟨i, e, rfl⟩ : ∃ (i : Fin 8) (e : Fin 128), x = ix2 i e := ⟨x 0, x 1, eq_ix2 x⟩
    refine (pay_out0 ..).trans ?_
    refine Eq.trans ?_ ((outBlk_at m c t 0 i e).symm.trans (congrArg (outBlk m c t) (place_blk _ k0_off1_inb 0 off1_eq i e).symm))
    exact shaped_congr (fun j => sampleOut_eq m c t 0 _ _ _ _ _ _ (read_blk (hs0_0 t) _ _ _ 0 off1_eq) (read_blk (hs0_1 t) _ _ _ 0 off1_eq)
      (read_blk (hs0_2 t) _ _ _ 0 off1_eq) (read_state (hs0_9 t) _ _ _ 0 rfl rfl rfl rfl rfl) (read_mat (hs0_4 t) _ _ _ 0 rfl rfl rfl)
      (read_tab (hs0_5 t) _ _ _ 0 rfl rfl rfl) i j)
      ((read_gain (hs0_8 t) _ _ _ 0 rfl rfl e).trans (blk_gain m c t (headCol 0 e)))
      ((read_blk (hs0_3 t) _ _ _ 0 off1_eq i e).trans (blk_gate m c t i 0 e)) e

/-- The second output block of a point, as an array. -/
def stateBlk (c : Dev nD) (t : Fin cfg0.N) (j : S1x4x128x128.Idx) : EReal :=
  stateOf (A0 m c) (A2 m c) (sample t) (j 1) (j 2) (j 3)

/-- What a point leaves in the second output block. -/
theorem state_block (c : Dev nD) (t : Fin cfg0.N) (j : S1x4x128x128.Idx) : (outsAt0 m c t).2 j = stateBlk m c t j := by
  unfold outsAt0
  dsimp only
  unfold out0_A_11
  rw [View.read_writes_junk_eq_canon]
  refine View.canon_apply_of_pieces (Val := Elt Ideal) (stateBlk m c t) _ (fun p hp => ?_) j (cover0_A_11 c _ _ _ _ _ _ _ _ _ _ _ _ _ _ _ _ _ _ _ _ _ _ _ _ _ _ _ _ _ _ _ _ _ _ _ j)
  unfold kernelRun0_A at hp
  dsimp only at hp
  revert hp
  sl_unfold_run_names
  intro hp
  simp only [List.mem_cons, List.not_mem_nil, or_false] at hp
  rcases hp with rfl | rfl | rfl | rfl
  · intro x
    obtain ⟨a, b, d, e, rfl⟩ : ∃ (a b : Fin 1) (d e : Fin 128), x = ix4 a b d e := ⟨x 0, x 1, x 2, x 3, eq_ix4 x⟩
    refine (pay_state3 ..).trans ?_
    refine Eq.trans ?_ (congrArg (stateBlk m c t) (place_last _ inb_S1x4x128x128_S1x1x128x128_0_3_0_0 3 rfl rfl rfl rfl a b d e).symm)
    exact sampleState_eq m c t 3 _ _ _ _ _ (read_blk (hs0_1 t) _ _ _ 3 off4_eq) (read_blk (hs0_2 t) _ _ _ 3 off4_eq)
      (read_state (hs0_9 t) _ _ _ 3 rfl rfl rfl rfl rfl) (read_cd (hs0_7 t) _ _ _ 3 rfl rfl rfl) (read_tab (hs0_6 t) _ _ _ 3 rfl rfl rfl) d e
  · intro x
    obtain ⟨a, b, d, e, rfl⟩ : ∃ (a b : Fin 1) (d e : Fin 128), x = ix4 a b d e := ⟨x 0, x 1, x 2, x 3, eq_ix4 x⟩
    refine (pay_state2 ..).trans ?_
    refine Eq.trans ?_ (congrArg (stateBlk m c t) (place_last _ inb_S1x4x128x128_S1x1x128x128_0_2_0_0 2 rfl rfl rfl rfl a b d e).symm)
    exact sampleState_eq m c t 2 _ _ _ _ _ (read_blk (hs0_1 t) _ _ _ 2 off3_eq) (read_blk (hs0_2 t) _ _ _ 2 off3_eq)
      (read_state (hs0_9 t) _ _ _ 2 rfl rfl rfl rfl rfl) (read_cd (hs0_7 t) _ _ _ 2 rfl rfl rfl) (read_tab (hs0_6 t) _ _ _ 2 rfl rfl rfl) d e
  · intro x
    obtain ⟨a, b, d, e, rfl⟩ : ∃ (a b : Fin 1) (d e : Fin 128), x = ix4 a b d e := ⟨x 0, x 1, x 2, x 3, eq_ix4 x⟩
    refine (pay_state1 ..).trans ?_
    refine Eq.trans ?_ (congrArg (stateBlk m c t) (place_last _ inb_S1x4x128x128_S1x1x128x128_0_1_0_0 1 rfl rfl rfl rfl a b d e).symm)
    exact sampleState_eq m c t 1 _ _ _ _ _ (read_blk (hs0_1 t) _ _ _ 1 off2_eq) (read_blk (hs0_2 t) _ _ _ 1 off2_eq)
      (read_state (hs0_9 t) _ _ _ 1 rfl rfl rfl rfl rfl) (read_cd (hs0_7 t) _ _ _ 1 rfl rfl rfl) (read_tab (hs0_6 t) _ _ _ 1 rfl rfl rfl) d e
  · intro x
    obtain ⟨a, b, d, e, rfl⟩ : ∃ (a b : Fin 1) (d e : Fin 128), x = ix4 a b d e := ⟨x 0, x 1, x 2, x 3, eq_ix4 x⟩
    refine (pay_state0 ..).trans ?_
    refine Eq.trans ?_ (congrArg (stateBlk m c t) (place_last _ inb_S1x4x128x128_S1x1x128x128_0_0_0_0 0 rfl rfl rfl rfl a b d e).symm)
    exact sampleState_eq m c t 0 _ _ _ _ _ (read_blk (hs0_1 t) _ _ _ 0 off1_eq) (read_blk (hs0_2 t) _ _ _ 0 off1_eq)
      (read_state (hs0_9 t) _ _ _ 0 rfl rfl rfl rfl rfl) (read_cd (hs0_7 t) _ _ _ 0 rfl rfl rfl) (read_tab (hs0_6 t) _ _ _ 0 rfl rfl rfl) d e

/-- A sample's rows in the first result array. -/
theorem final_out (c : Dev nD) (t : Fin cfg0.N) (i : Fin 8) (j : Fin 512) :
    (dats m 0 c).arrAt 10 cfg0.N (ix2 (rowAt (sample t) i) j) = outBlk m c t (ix2 i j) := by
  have hb := congrFun (blocks10 m c t (flush0_10 t)) (ix2 i j)
  have he : View.read (Elt Ideal) ((cfg0.win 10).blk t).view ((dats m 0 c).arrAt 10 cfg0.N) (ix2 i j)
      = (dats m 0 c).arrAt 10 cfg0.N (ix2 (rowAt (sample t) i) j) := by
    unfold rowAt sample
    blk_ext [idx_out t]
  rw [he, flushed10] at hb
  refine hb.trans ((?_ : _ = (outsAt0 m c t).1 (ix2 i j)).trans (out_block m c t _))
  rfl

/-- A sample's states in the second result array. -/
theorem final_state (c : Dev nD) (t : Fin cfg0.N) (h : Fin 4) (d e : Fin 128) :
    (dats m 0 c).arrAt 11 cfg0.N (ix4 (sample t) h d e) = stateOf (A0 m c) (A2 m c) (sample t) h d e := by
  have hb := congrFun (blocks11 m c t (flush0_11 t)) (ix4 0 h d e)
  have he : View.read (Elt Ideal) ((cfg0.win 11).blk t).view ((dats m 0 c).arrAt 11 cfg0.N) (ix4 0 h d e)
      = (dats m 0 c).arrAt 11 cfg0.N (ix4 (sample t) h d e) := by
    unfold sample
    blk_ext [idx_out t]
  rw [he, flushed11] at hb
  refine hb.trans ((?_ : _ = (outsAt0 m c t).2 (ix4 0 h d e)).trans (state_block m c t _))
  rfl

end Cert.Layer.RetSample
-- ==== Proof.RetSampleRef.lean ====
module

public import proofs.«01_k».proof.Proof.RetSampleSpec
public import proofs.«01_k».proof.Proof.Gen.RetSampleReferenceIdeal.Read
public import Idealize.ShloMosaic.Lib.Pointwise

@[expose] public section

set_option maxRecDepth 16384

noncomputable section

open Idealize.ShloMosaic Idealize.SL.Sem

namespace Cert.Layer.RetSample

open Cert.RetSampleReferenceIdeal Cert.RetSampleReferenceIdeal.Read Cert.Layer.Ret

/-! The reference's two results, read at an element. -/

/-- The reference's queries. -/
theorem ref_query (A : Vec Ideal S64x10368 .f32) (n : Fin 8) (h : Fin 4) (i : Fin 8) (d : Fin 128) :
    val_main_v59 (F := Ideal) A (ix4 n h i d) = A (ix2 (rowAt n i) (colAt 0 h d)) := by
  unfold rowAt colAt
  pointwise [val_main_v0, val_main_v1, val_main_v2, val_main_v3, val_main_v59]
  simp only [Nat.mul_comm, Nat.add_assoc]

/-- The reference's scaled keys. -/
theorem ref_key (A : Vec Ideal S64x10368 .f32) (n : Fin 8) (h : Fin 4) (i : Fin 8) (d : Fin 128) :
    val_main_v60 (F := Ideal) A (ix4 n h i d) = A (ix2 (rowAt n i) (colAt 1 h d)) * keyScale := by
  unfold rowAt colAt keyScale
  pointwise [val_main_v0, val_main_v1, val_main_v4, val_main_v5, val_main_cst, val_main_v6, val_main_v7, val_main_v60]
  simp only [Nat.mul_comm, Nat.add_assoc]

/-- The reference's values. -/
theorem ref_value (A : Vec Ideal S64x10368 .f32) (n : Fin 8) (h : Fin 4) (i : Fin 8) (d : Fin 128) :
    val_main_v61 (F := Ideal) A (ix4 n h i d) = A (ix2 (rowAt n i) (colAt 2 h d)) := by
  unfold rowAt colAt
  pointwise [val_main_v0, val_main_v1, val_main_v8, val_main_v9, val_main_v61]
  simp only [Nat.mul_comm, Nat.add_assoc]

/-- The reference's gates. -/
theorem ref_gate (A : Vec Ideal S64x10368 .f32) (n i : Fin 8) (h : Fin 4) (d : Fin 128) :
    val_main_v96 (F := Ideal) A (ix4 n i h d) = A (ix2 (rowAt n i) (colAt 3 h d)) := by
  unfold rowAt colAt
  pointwise [val_main_v0, val_main_v1, val_main_v95, val_main_v96]
  simp only [Nat.mul_comm, Nat.add_assoc]

/-- The state that the reference starts from. -/
theorem ref_start (S : Vec Ideal S4x8x4x128x128 .f32) (n : Fin 8) (h : Fin 4) (d e : Fin 128) :
    val_main_v11 (F := Ideal) S (ix4 n h d e) = S (ix5 3 n h d e) := by
  pointwise [val_main_v10, val_main_v11]

/-- The logarithm of a head's decay. -/
theorem ref_log (h : Fin 4) : val_main_v19 (F := Ideal) (ix1 h) = decayLog h := by
  unfold decayLog
  pointwise [val_main_v12, val_main_cst_0, val_main_v13, val_main_v14, val_main_cst_1, val_main_v15, val_main_v16,
    val_main_v17, val_main_v18, val_main_v19]

/-- The reference's factors between positions. -/
theorem ref_within (h : Fin 4) (i j : Fin 8) : val_main_v36 (F := Ideal) (ix3 h i j) = within (decay h) i.val j.val := by
  refine Eq.trans ?_ (table_within h (i := i.val) (j := j.val) (by omega) (by omega))
  rw [← ref_log]
  pointwise [val_main_v20, val_main_v21, val_main_v22, val_main_v23, val_main_v24, val_main_v25, val_main_cst_2,
    val_main_v26, val_main_v27, val_main_v28, val_main_cst_3, val_main_v29, val_main_v30, val_main_v31,
    val_main_v32, val_main_v33, val_main_v34, val_main_v35, val_main_cst_4, val_main_call0_v0,
    val_main_call0_v1, val_main_call0_v2, val_main_v36]
  have hz : (id (constant (F := Ideal) S_ .f32 0#32) ix0 : EReal) = 0 := by
    show Ideal.ofBits .f32 0#32 = 0
    simp [Ideal.ofBits, Ideal.ieee]
  rw [hz]

/-- The reference's factors of the queries. -/
theorem ref_query_table (h : Fin 4) (i : Fin 8) : val_main_v45 (F := Ideal) (ix3 h i 0) = (decay h (i.val + 1) : EReal) := by
  refine Eq.trans ?_ (table_query h (i := i.val) (by omega))
  rw [← ref_log]
  pointwise [val_main_v20, val_main_v37, val_main_cst_5, val_main_v38, val_main_v39, val_main_v40, val_main_v41,
    val_main_v42, val_main_v43, val_main_v44, val_main_v45]

/-- The reference's factors of the keys. -/
theorem ref_key_table (h : Fin 4) (i : Fin 8) : val_main_v54 (F := Ideal) (ix3 h i 0) = (decay h (8 - 1 - i.val) : EReal) := by
  refine Eq.trans ?_ (table_key h (c := 8) (by norm_num) i.isLt (lit_7.trans (by norm_num)))
  rw [← ref_log]
  pointwise [val_main_v20, val_main_v46, val_main_cst_6, val_main_v47, val_main_v48, val_main_v49, val_main_v50,
    val_main_v51, val_main_v52, val_main_v53, val_main_v54]

/-- The reference's factor of the state. -/
theorem ref_state_table (h : Fin 4) : val_main_v58 (F := Ideal) (ix3 h 0 0) = (decay h 8 : EReal) := by
  refine Eq.trans ?_ (exp_decayLog h 8)
  rw [← ref_log, show (((8 : ℕ) : ℝ) : EReal) = Ideal.ofBits .f32 1090519040#32 from by rw [lit_8]; norm_num]
  pointwise [val_main_cst_7, val_main_v55, val_main_v56, val_main_v57, val_main_v58]

/-- The reference's output before it is normalised. -/
theorem ref_row (A : Vec Ideal S64x10368 .f32) (S : Vec Ideal S4x8x4x128x128 .f32) (n i : Fin 8) (h : Fin 4) (e : Fin 128) :
    val_main_v80 (F := Ideal) A S (ix4 n i h e) = rowOut A S n h i e := by
  pointwise [val_main_v62, val_main_v63, val_main_v64, val_main_v65, val_main_v66, val_main_v67, val_main_v68,
    val_main_v69, val_main_v70, val_main_v71, val_main_v80]
  simp only [ref_query, ref_key, ref_value, ref_within, ref_query_table, ref_start]
  rfl

/-- The reference's second result. -/
theorem ref_state (A : Vec Ideal S64x10368 .f32) (S : Vec Ideal S4x8x4x128x128 .f32) (n : Fin 8) (h : Fin 4) (d e : Fin 128) :
    val_main_v79 (F := Ideal) A S (ix4 n h d e) = stateOf A S n h d e := by
  pointwise [val_main_v72, val_main_v73, val_main_v74, val_main_v75, val_main_v76, val_main_v77, val_main_v78,
    val_main_v79]
  simp only [ref_key, ref_value, ref_key_table, ref_state_table, ref_start]
  rfl

/-- The reference's first result before its two middle axes are joined. -/
theorem ref_shaped (A : Vec Ideal S64x10368 .f32) (G : Vec Ideal S1x512 .f32) (S : Vec Ideal S4x8x4x128x128 .f32) (n i : Fin 8) (h : Fin 4) (e : Fin 128) :
    val_main_v98 (F := Ideal) A G S (ix4 n i h e) = outOf A G S n h i e := by
  unfold outOf shaped scale128 headCol
  simp only [← ref_row, ← ref_gate]
  pointwise [val_main_v81, val_main_v82, val_main_cst_8, val_main_v83, val_main_v84, val_main_cst_9, val_main_v85,
    val_main_v86, val_main_cst_10, val_main_v87, val_main_v88, val_main_v89, val_main_v90, val_main_v91,
    val_main_v92, val_main_v93, val_main_v94, val_main_call1_v0, val_main_call1_v1, val_main_call1_cst,
    val_main_call1_v2, val_main_call1_v3, val_main_call1_cst_0, val_main_call1_v4, val_main_call1_v5,
    val_main_v97, val_main_v98]
  simp only [Nat.mul_comm, Nat.add_assoc]

/-- The reference's first result. -/
theorem ref_out (A : Vec Ideal S64x10368 .f32) (G : Vec Ideal S1x512 .f32) (S : Vec Ideal S4x8x4x128x128 .f32) (r : Fin 64) (j : Fin 512) :
    val_main_v100 (F := Ideal) A G S (ix2 r j) =
      outOf A G S ⟨r.val / 8, by omega⟩ ⟨j.val / 128, by omega⟩ ⟨r.val % 8, by omega⟩ ⟨j.val % 128, by omega⟩ := by
  rw [← ref_shaped]
  pointwise [val_main_v99, val_main_v100]

end Cert.Layer.RetSample
-- ==== Proof.RetSampleClaim.lean ====
module

public import proofs.«01_k».proof.Defs
public import Idealize.ShloMosaic.Adequacy
public import Idealize.ShloMosaic.Lib.Claim
public import proofs.«01_k».proof.Proof.RetSampleKernel
public import proofs.«01_k».proof.Proof.RetSampleRef
public import proofs.«01_k».proof.Proof.Gen.RetSampleReferenceIdeal.Run

@[expose] public section

set_option maxRecDepth 16384

noncomputable section

open Idealize.ShloMosaic Idealize.ShloMosaic.TcCoe Idealize.SL.Sem

namespace Cert.Layer.RetSample

open Cert.RetSampleIdeal Cert.RetSampleIdeal.Gen

/-- The kernel's first result array. -/
theorem kernel_out (m : (ℓ : Loc nD τ sig) → Buf (Elt Ideal) ℓ) (c : Dev nD) (r : Fin 64) (j : Fin 512) :
    (dats m 0 c).arrAt 10 cfg0.N (ix2 r j) = outOf (A0 m c) (A1 m c) (A2 m c) ⟨r.val / 8, by omega⟩ ⟨j.val / 128, by omega⟩
      ⟨r.val % 8, by omega⟩ ⟨j.val % 128, by omega⟩ := by
  have hN : cfg0.N = 8 := N_0
  have e := final_out m c ⟨r.val / 8, by omega⟩ ⟨r.val % 8, by omega⟩ j
  have hr : rowAt (sample ⟨r.val / 8, by omega⟩) ⟨r.val % 8, by omega⟩ = r :=
    Fin.ext (by show 8 * (r.val / 8) + r.val % 8 = r.val; omega)
  rw [hr] at e
  exact e

/-- The kernel's second result array. -/
theorem kernel_state (m : (ℓ : Loc nD τ sig) → Buf (Elt Ideal) ℓ) (c : Dev nD) (n : Fin 8) (h : Fin 4) (d e : Fin 128) :
    (dats m 0 c).arrAt 11 cfg0.N (ix4 n h d e) = stateOf (A0 m c) (A2 m c) n h d e := by
  have hN : cfg0.N = 8 := N_0
  exact final_state m c ⟨n.val, by omega⟩ h d e

/-- The retention call on the samples and its reference leave the same output and the same states. -/
theorem algebraic : @Cert.algebraic_RetSampleIdeal_RetSampleReferenceIdeal Cert.RetSampleIdeal.Gen.facts Cert.RetSampleReferenceIdeal.Gen.facts := by
  intro m g m' g' _ hagree
  refine ⟨fun c => (dats m 0 c).arrAt 10 cfg0.N, fun c => (dats m 0 c).arrAt 11 cfg0.N, Cert.RetSampleIdeal.Value.run_blocks m g, ?_⟩
  refine (θ_run _ _ _).mono (fun r h c => ?_) (Cert.RetSampleReferenceIdeal.Value.run m' g')
  obtain ⟨h1, h2, k⟩ := h c
  obtain ⟨a0, a1, a2⟩ := hagree c
  refine ⟨h1.trans ?_, h2.trans ?_, k⟩
  · refine (Cert.RetSampleReferenceIdeal.Read.val_main_v100_eq m' c).trans ?_
    rw [a0, a1, a2]
    funext i
    rw [eq_ix2 i]
    exact (ref_out _ _ _ (i 0) (i 1)).trans (kernel_out m c (i 0) (i 1)).symm
  · refine (Cert.RetSampleReferenceIdeal.Read.val_main_v79_eq _ _).trans ?_
    rw [a0, a2]
    funext i
    rw [eq_ix4 i]
    exact (ref_state _ _ (i 0) (i 1) (i 2) (i 3)).trans (kernel_state m c (i 0) (i 1) (i 2) (i 3)).symm

/-- The reference's run leaves the arguments unchanged and the machine quiet. -/
theorem frame_reference : @Cert.quiescent_RetSampleReferenceIdeal Cert.RetSampleReferenceIdeal.Gen.facts := by
  intro m g _
  exact (θ_run Cert.RetSampleReferenceIdeal.defs _ _).mono (fun r h => ⟨fun c => (h c).2.2, sem_eq_zero_of_no_sems (by decide) r.2⟩)
    (Cert.RetSampleReferenceIdeal.Value.run m g)

end Cert.Layer.RetSample
-- ==== Proof.QueryClaim.lean ====
module

public import proofs.«01_k».proof.Defs
public import Idealize.ShloMosaic.Adequacy
public import proofs.«01_k».proof.Proof.RetSpec
public import proofs.«01_k».proof.Proof.Gen.QueryIdeal.Value
public import proofs.«01_k».proof.Proof.Gen.QueryReferenceIdeal.Run
public import proofs.«01_k».proof.Proof.Gen.QueryReferenceIdeal.Read
public import Idealize.ShloMosaic.Lib.Claim
public import Idealize.ShloMosaic.Lib.WholeRead
public import Idealize.ShloMosaic.Lib.Pipeline.ValueKit
public import Idealize.ShloMosaic.Lib.Pipeline.ValueKit.Point
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem Idealize.ShloMosaic.Tactic

namespace Cert.Layer.Query

open Cert.QueryIdeal Cert.QueryIdeal.Gen Cert.QueryIdeal.Value Cert.Layer.Ret

/-! The query projection of the first layer: the product with the weights' first 1024 rows, each head's 128 columns
normalised by their mean square and multiplied by the gain. -/

/-- The weights' row that column `e` of head `h` is a product with. -/
def wRow (h : Fin 8) (e : Fin 128) : Fin 12824 := ⟨128 * h.val + e.val, by omega⟩

/-- The product at a row and a column of a head. -/
def prod (u : Arr 8192 2048) (w : (⟨3, ![4, 12824, 2048]⟩ : Shape).Idx → EReal) (r : Fin 8192) (h : Fin 8) (e : Fin 128) : EReal :=
  ∑ k : Fin 2048, u (ix2 r k) * w (ix3 0 (wRow h e) k)

/-- The query at a row and a column of a head. -/
def queryAt (u : Arr 8192 2048) (w : (⟨3, ![4, 12824, 2048]⟩ : Shape).Idx → EReal) (g : (⟨3, ![4, 4, 128]⟩ : Shape).Idx → EReal)
    (r : Fin 8192) (h : Fin 8) (e : Fin 128) : EReal :=
  prod u w r h e * scale128 (prod u w r h) * g (ix3 0 0 e)

/-- A block's product at a row and a column. -/
def part (a : Vec Ideal S1024x2048 .bf16) (b : Vec Ideal S1x512x2048 .bf16) (r : Fin 1024) (x : Fin 512) : EReal :=
  ∑ k : Fin 2048, a (ix2 r k) * b (ix3 0 x k)

/-- The flag's threshold lies below one. -/
theorem half_lt_one : Ideal.ofBits .f32 1056964608#32 < 1 := by
  have e : Ideal.ofBits .f32 1056964608#32 = (((1 : ℝ) / 2 : ℝ) : EReal) := by
    simp [Ideal.ofBits, Ideal.ieee, -EReal.coe_mul]
    norm_num
  rw [e, ← EReal.coe_one]
  exact EReal.coe_lt_coe_iff.mpr (by norm_num)

/-- What a grid point stores in its block's first head, at an element, when the flag is one. -/
theorem pay0 (a : Vec Ideal S1024x2048 .bf16) (b : Vec Ideal S1x512x2048 .bf16) (g f : Vec Ideal S1x128 .f32) (r : Fin 1024) (e : Fin 128)
    (hf : f (ix2 0 e) = 1) : k0_pay3 (F := Ideal) a b g f (ix2 r e)
      = part a b r (headCol 0 e) * scale128 (fun x => part a b r (headCol 0 x)) * g (ix2 0 e) := by
  have hc : ∀ x, headCol 0 x = ⟨x.val, by omega⟩ := fun x => Fin.ext (by show 128 * 0 + x.val = x.val; omega)
  simp only [hc]
  unfold part scale128
  pointwise [k0_pay3, k0_pay2]
  rw [hf, if_pos half_lt_one]

/-- What a grid point stores in its block's second head, at an element, when the flag is one. -/
theorem pay1 (a : Vec Ideal S1024x2048 .bf16) (b : Vec Ideal S1x512x2048 .bf16) (g f : Vec Ideal S1x128 .f32) (r : Fin 1024) (e : Fin 128)
    (hf : f (ix2 0 e) = 1) : k0_pay6 (F := Ideal) (k0_pay4 a b) (k0_pay5 a b) g f (ix2 r e)
      = part a b r (headCol 1 e) * scale128 (fun x => part a b r (headCol 1 x)) * g (ix2 0 e) := by
  have hc : ∀ x, headCol 1 x = ⟨128 + x.val, by omega⟩ := fun x => Fin.ext (by show 128 * 1 + x.val = 128 + x.val; omega)
  simp only [hc]
  unfold part scale128
  pointwise [k0_pay6, k0_pay5, k0_pay4, k0_pay2]
  rw [hf, if_pos half_lt_one]

/-- What a grid point stores in its block's third head, at an element, when the flag is one. -/
theorem pay2 (a : Vec Ideal S1024x2048 .bf16) (b : Vec Ideal S1x512x2048 .bf16) (g f : Vec Ideal S1x128 .f32) (r : Fin 1024) (e : Fin 128)
    (hf : f (ix2 0 e) = 1) : k0_pay7 (F := Ideal) (k0_pay2 a b) g f (ix2 r e)
      = part a b r (headCol 2 e) * scale128 (fun x => part a b r (headCol 2 x)) * g (ix2 0 e) := by
  have hc : ∀ x, headCol 2 x = ⟨256 + x.val, by omega⟩ := fun x => Fin.ext (by show 128 * 2 + x.val = 256 + x.val; omega)
  simp only [hc]
  unfold part scale128
  pointwise [k0_pay7, k0_pay2]
  rw [hf, if_pos half_lt_one]

/-- What a grid point stores in its block's fourth head, at an element, when the flag is one. -/
theorem pay3 (a : Vec Ideal S1024x2048 .bf16) (b : Vec Ideal S1x512x2048 .bf16) (g f : Vec Ideal S1x128 .f32) (r : Fin 1024) (e : Fin 128)
    (hf : f (ix2 0 e) = 1) : k0_pay1 (F := Ideal) (k0_pay8 (k0_pay2 a b)) (k0_pay9 (k0_pay2 a b)) g f (ix2 r e)
      = part a b r (headCol 3 e) * scale128 (fun x => part a b r (headCol 3 x)) * g (ix2 0 e) := by
  have hc : ∀ x, headCol 3 x = ⟨384 + x.val, by omega⟩ := fun x => Fin.ext (by show 128 * 3 + x.val = 384 + x.val; omega)
  simp only [hc]
  unfold part scale128
  pointwise [k0_pay1, k0_pay8, k0_pay9, k0_pay2]
  rw [hf, if_pos half_lt_one]

/-- Which block of each operand a grid point works on: point `t` takes the `t / 2`-th block of 1024 rows and the `t % 2`-th block of four heads. -/
theorem idx : ∀ t : Fin cfg0.N, win0_0.index t = ![t.val / 2, 0] ∧ win0_1.index t = ![0, t.val % 2, 0] ∧ win0_2.index t = ![0, t.val % 2]
    ∧ win0_3.index t = ![0, t.val % 2] ∧ win0_4.index t = ![t.val / 2, t.val % 2] :=
  (by decide +kernel : ∀ t : Fin grid0.N, _)

/-- The array row that row `r` of a point's block is. -/
def rowOf (t : Fin cfg0.N) (r : Fin 1024) : Fin 8192 :=
  ⟨1024 * (t.val / 2) + r.val, by have h : cfg0.N = 16 := N_0; have := t.isLt; omega⟩

/-- The head that head `h` of a point's block is. -/
def headOf (t : Fin cfg0.N) (h : Fin 4) : Fin 8 := ⟨4 * (t.val % 2) + h.val, by omega⟩

/-- The array column that column `j` of a point's block is. -/
def colOf (t : Fin cfg0.N) (j : Fin 512) : Fin 1024 := ⟨512 * (t.val % 2) + j.val, by omega⟩

variable (m : (ℓ : Loc nD τ sig) → Buf (Elt Ideal) ℓ)

/-- The input, as an array over the extended reals. -/
abbrev A0 (c : Dev nD) : S8192x2048.Idx → EReal := m ((c : Thread nD τ).loc main_arg0)
/-- The weights, as an array over the extended reals. -/
abbrev A1 (c : Dev nD) : S4x12824x2048.Idx → EReal := m ((c : Thread nD τ).loc main_arg1)
/-- The gains, as an array over the extended reals. -/
abbrev A2 (c : Dev nD) : S4x4x128.Idx → EReal := m ((c : Thread nD τ).loc main_arg2)
/-- The input's block of a point. -/
abbrev U (c : Dev nD) (t : Fin cfg0.N) : S1024x2048.Idx → EReal := iblk m c 0 t
/-- The weights' block of a point. -/
abbrev W (c : Dev nD) (t : Fin cfg0.N) : S1x512x2048.Idx → EReal := X0_1 m c t
/-- The gain's block of a point. -/
abbrev Gn (c : Dev nD) (t : Fin cfg0.N) : S1x512.Idx → EReal := iblk m c 2 t
/-- The flag's block of a point. -/
abbrev Fl (c : Dev nD) (t : Fin cfg0.N) : S1x512.Idx → EReal := iblk m c 3 t
/-- The gain's row, as the kernel's call takes it. -/
abbrev H2 (c : Dev nD) : S1x1024.Idx → EReal := V m c main_v5
/-- The flag's row, as the kernel's call takes it. -/
abbrev H3 (c : Dev nD) : S1x1024.Idx → EReal := V m c main_v6

/-- The input's block of a point, read from the input. -/
theorem blk_u (c : Dev nD) (t : Fin cfg0.N) (r : Fin 1024) (k : Fin 2048) : U m c t (ix2 r k) = A0 m c (ix2 (rowOf t r) k) := by
  unfold rowOf
  refine Eq.trans ?_ (congrFun (V_main_arg0 m c) _)
  blk_ext [iblk, idx t]

/-- The weights' block of a point at a row of it, read from the weights. -/
theorem blk_w_row (c : Dev nD) (t : Fin cfg0.N) (x : Fin 512) (k : Fin 2048) :
    W m c t (ix3 0 x k) = A1 m c (ix3 0 ⟨512 * (t.val % 2) + x.val, by omega⟩ k) := by
  unfold W X0_1
  rw [Pipeline.Window.fill, dif_pos (moved0_1 t _)]
  refine Eq.trans ?_ (congrFun (V_main_arg1 m c) _)
  blk_ext [iblk, idx t]

/-- The weights' block of a point, read from the weights. -/
theorem blk_w (c : Dev nD) (t : Fin cfg0.N) (h : Fin 4) (e : Fin 128) (k : Fin 2048) :
    W m c t (ix3 0 (headCol h e) k) = A1 m c (ix3 0 (wRow (headOf t h) e) k) := by
  have hw : wRow (headOf t h) e = ⟨512 * (t.val % 2) + (headCol h e).val, by have := (headCol h e).isLt; omega⟩ :=
    Fin.ext (by show 128 * (4 * (t.val % 2) + h.val) + e.val = 512 * (t.val % 2) + (128 * h.val + e.val); omega)
  rw [hw]
  exact blk_w_row m c t (headCol h e) k

/-- The gain's row repeats the first layer's first gain. -/
theorem row_gain (c : Dev nD) (h : Fin 8) (e : Fin 128) : H2 m c (ix2 0 ⟨128 * h.val + e.val, by omega⟩) = A2 m c (ix3 0 0 e) := by
  unfold H2 V
  after_reads_at
  refine congrArg (fun y => A2 m c (ix3 0 0 y)) (Fin.ext ?_)
  show (128 * h.val + e.val) % 128 = e.val
  omega

/-- The flag's row holds ones. -/
theorem row_flag (c : Dev nD) (x : Fin 1024) : H3 m c (ix2 0 x) = 1 := by
  unfold H3 V
  after_reads_at

/-- The gain's block of a point. -/
theorem blk_g (c : Dev nD) (t : Fin cfg0.N) (h : Fin 4) (e : Fin 128) : Gn m c t (ix2 0 (headCol h e)) = A2 m c (ix3 0 0 e) := by
  refine Eq.trans ?_ (row_gain m c (headOf t h) e)
  have hc : (⟨128 * (headOf t h).val + e.val, by omega⟩ : Fin 1024) = colOf t (headCol h e) :=
    Fin.ext (by show 128 * (4 * (t.val % 2) + h.val) + e.val = 512 * (t.val % 2) + (128 * h.val + e.val); omega)
  rw [hc]
  unfold colOf H2 Gn iblk
  generalize V m c = X
  generalize headCol h e = x
  blk_ext [idx t]

/-- The flag's block of a point. -/
theorem blk_f (c : Dev nD) (t : Fin cfg0.N) (x : Fin 512) : Fl m c t (ix2 0 x) = 1 := by
  refine Eq.trans ?_ (row_flag m c (colOf t x))
  unfold colOf H3 Fl iblk
  generalize V m c = X
  blk_ext [idx t]

/-- A load of the whole of the input's block. -/
theorem read_u {M : Memref sig .tc .vmem S1024x2048 .bf16} (hM : M.IsWhole) (x : S1024x2048.Idx → EReal) (r : Fin 1024) (k : Fin 2048) :
    View.readAt (Elt Ideal) M.view (Rect.unit (s := S1024x2048) ![0, 0] S1024x2048.size inb_S1024x2048_S1024x2048_0_0).toLoadRect (hM.unread x) (ix2 r k)
      = x (ix2 r k) := by
  refine (hM.readAt_unread (Val := Elt Ideal) x _ _).trans (congrArg x ?_)
  funext a
  apply Fin.ext
  refine (Rect.idx_unit_val ..).trans ?_
  fin_cases a
  · show 0 + r.val = r.val
    omega
  · show 0 + k.val = k.val
    omega

/-- A load of the whole of the weights' block. -/
theorem read_w {M : Memref sig .tc .vmem S1x512x2048 .bf16} (hM : M.IsWhole) (x : S1x512x2048.Idx → EReal) (e : Fin 512) (k : Fin 2048) :
    View.readAt (Elt Ideal) M.view (Rect.unit (s := S1x512x2048) ![0, 0, 0] S1x512x2048.size inb_S1x512x2048_S1x512x2048_0_0_0).toLoadRect (hM.unread x)
      (ix3 0 e k) = x (ix3 0 e k) := by
  refine (hM.readAt_unread (Val := Elt Ideal) x _ _).trans (congrArg x ?_)
  funext a
  apply Fin.ext
  refine (Rect.idx_unit_val ..).trans ?_
  fin_cases a
  · rfl
  · show 0 + e.val = e.val
    omega
  · show 0 + k.val = k.val
    omega

/-- A load of one head's entries of a row. -/
theorem read_row {M : Memref sig .tc .vmem S1x512 .f32} (hM : M.IsWhole) (x : S1x512.Idx → EReal) (off : Fin 2 → ℕ)
    (inb : ∀ a, off a + S1x128.size a ≤ S1x512.size a) (h : Fin 4) (h0 : off 0 = 0) (h1 : off 1 = 128 * h.val) (e : Fin 128) :
    View.readAt (Elt Ideal) M.view (Rect.unit (s := S1x512) off S1x128.size inb).toLoadRect (hM.unread x) (ix2 0 e)
      = x (ix2 0 (headCol h e)) := by
  refine (hM.readAt_unread (Val := Elt Ideal) x _ _).trans (congrArg x ?_)
  funext a
  apply Fin.ext
  refine (Rect.idx_unit_val ..).trans ?_
  fin_cases a
  · show off 0 + 0 = 0
    omega
  · show off 1 + e.val = 128 * h.val + e.val
    omega

/-- Where one head's columns are stored in the output block. -/
theorem place_out (off : Fin 2 → ℕ) (inb : ∀ a, off a + S1024x128.size a ≤ S1024x512.size a) (h : Fin 4)
    (h0 : off 0 = 0) (h1 : off 1 = 128 * h.val) (r : Fin 1024) (e : Fin 128) :
    (Rect.unit (s := S1024x512) off S1024x128.size inb).idx (ix2 r e) = ix2 r (headCol h e) := by
  funext a
  apply Fin.ext
  refine (Rect.idx_unit_val ..).trans ?_
  fin_cases a
  · show off 0 + r.val = r.val
    omega
  · show off 1 + e.val = 128 * h.val + e.val
    omega

/-- A block's product is the projection's product at the block's rows and heads. -/
theorem part_eq (c : Dev nD) (t : Fin cfg0.N) (h : Fin 4) (a : Vec Ideal S1024x2048 .bf16) (b : Vec Ideal S1x512x2048 .bf16)
    (ha : ∀ r k, a (ix2 r k) = U m c t (ix2 r k)) (hb : ∀ e k, b (ix3 0 e k) = W m c t (ix3 0 e k)) (r : Fin 1024) (e : Fin 128) :
    part a b r (headCol h e) = prod (A0 m c) (A1 m c) (rowOf t r) (headOf t h) e := by
  unfold part prod
  exact Finset.sum_congr rfl fun k _ => congrArg₂ (· * ·) ((ha r k).trans (blk_u m c t r k)) ((hb _ k).trans (blk_w m c t h e k))

/-- What a point stores in one head is the query. -/
theorem stored_eq (c : Dev nD) (t : Fin cfg0.N) (h : Fin 4) (a : Vec Ideal S1024x2048 .bf16) (b : Vec Ideal S1x512x2048 .bf16)
    (g : Vec Ideal S1x128 .f32) (ha : ∀ r k, a (ix2 r k) = U m c t (ix2 r k)) (hb : ∀ e k, b (ix3 0 e k) = W m c t (ix3 0 e k))
    (hg : ∀ e, g (ix2 0 e) = Gn m c t (ix2 0 (headCol h e))) (r : Fin 1024) (e : Fin 128) :
    part a b r (headCol h e) * scale128 (fun x => part a b r (headCol h x)) * g (ix2 0 e)
      = queryAt (A0 m c) (A1 m c) (A2 m c) (rowOf t r) (headOf t h) e := by
  unfold queryAt
  rw [funext (part_eq m c t h a b ha hb r), part_eq m c t h a b ha hb r e, hg, blk_g]

/-- The output block of a point, as an array. -/
def outBlk (c : Dev nD) (t : Fin cfg0.N) (j : S1024x512.Idx) : EReal :=
  queryAt (A0 m c) (A1 m c) (A2 m c) (rowOf t (j 0)) (headOf t ⟨(j 1).val / 128, by have : (j 1).val < 512 := (j 1).isLt; omega⟩)
    ⟨(j 1).val % 128, by omega⟩

/-- That array at a column of a head. -/
theorem outBlk_at (c : Dev nD) (t : Fin cfg0.N) (h : Fin 4) (r : Fin 1024) (e : Fin 128) :
    outBlk m c t (ix2 r (headCol h e)) = queryAt (A0 m c) (A1 m c) (A2 m c) (rowOf t r) (headOf t h) e := by
  have e1 : (128 * h.val + e.val) / 128 = h.val := by omega
  have e4 : (128 * h.val + e.val) % 128 = e.val := by omega
  show queryAt (A0 m c) (A1 m c) (A2 m c) (rowOf t r) (headOf t ⟨(128 * h.val + e.val) / 128, _⟩) ⟨(128 * h.val + e.val) % 128, _⟩ = _
  simp only [e1, e4]

/-- What a point leaves in the output block. -/
theorem out_block (c : Dev nD) (t : Fin cfg0.N) (j : S1024x512.Idx) : outsAt0 m c t j = outBlk m c t j := by
  unfold outsAt0
  unfold out0_A_4
  rw [View.read_writes_junk_eq_canon]
  refine View.canon_apply_of_pieces (Val := Elt Ideal) (outBlk m c t) _ (fun p hp => ?_) j (cover0_A_4 c _ _ _ _ _ _ _ _ _ _ _ _ _ _ _ j)
  unfold kernelRun0_A at hp
  dsimp only at hp
  revert hp
  sl_unfold_run_names
  intro hp
  simp only [List.mem_cons, List.not_mem_nil, or_false] at hp
  rcases hp with rfl | rfl | rfl | rfl
  · intro x
    obtain ⟨r, e, rfl⟩ : ∃ (r : Fin 1024) (e : Fin 128), x = ix2 r e := ⟨x 0, x 1, eq_ix2 x⟩
    refine (pay3 _ _ _ _ r e ((read_row (hs0_3 t) _ _ _ 3 rfl rfl e).trans (blk_f m c t _))).trans ?_
    refine Eq.trans ?_ ((outBlk_at m c t 3 r e).symm.trans (congrArg (outBlk m c t) (place_out _ inb_S1024x512_S1024x128_0_384 3 rfl rfl r e).symm))
    exact stored_eq m c t 3 _ _ _ (read_u (hs0_0 t) _) (read_w (hs0_1 t) _) (read_row (hs0_2 t) _ _ _ 3 rfl rfl) r e
  · intro x
    obtain ⟨r, e, rfl⟩ : ∃ (r : Fin 1024) (e : Fin 128), x = ix2 r e := ⟨x 0, x 1, eq_ix2 x⟩
    refine (pay2 _ _ _ _ r e ((read_row (hs0_3 t) _ _ _ 2 rfl rfl e).trans (blk_f m c t _))).trans ?_
    refine Eq.trans ?_ ((outBlk_at m c t 2 r e).symm.trans (congrArg (outBlk m c t) (place_out _ inb_S1024x512_S1024x128_0_256 2 rfl rfl r e).symm))
    exact stored_eq m c t 2 _ _ _ (read_u (hs0_0 t) _) (read_w (hs0_1 t) _) (read_row (hs0_2 t) _ _ _ 2 rfl rfl) r e
  · intro x
    obtain ⟨r, e, rfl⟩ : ∃ (r : Fin 1024) (e : Fin 128), x = ix2 r e := ⟨x 0, x 1, eq_ix2 x⟩
    refine (pay1 _ _ _ _ r e ((read_row (hs0_3 t) _ _ _ 1 rfl rfl e).trans (blk_f m c t _))).trans ?_
    refine Eq.trans ?_ ((outBlk_at m c t 1 r e).symm.trans (congrArg (outBlk m c t) (place_out _ inb_S1024x512_S1024x128_0_128 1 rfl rfl r e).symm))
    exact stored_eq m c t 1 _ _ _ (read_u (hs0_0 t) _) (read_w (hs0_1 t) _) (read_row (hs0_2 t) _ _ _ 1 rfl rfl) r e
  · intro x
    obtain ⟨r, e, rfl⟩ : ∃ (r : Fin 1024) (e : Fin 128), x = ix2 r e := ⟨x 0, x 1, eq_ix2 x⟩
    refine (pay0 _ _ _ _ r e ((read_row (hs0_3 t) _ _ _ 0 rfl rfl e).trans (blk_f m c t _))).trans ?_
    refine Eq.trans ?_ ((outBlk_at m c t 0 r e).symm.trans (congrArg (outBlk m c t) (place_out _ inb_S1024x512_S1024x128_0_0 0 rfl rfl r e).symm))
    exact stored_eq m c t 0 _ _ _ (read_u (hs0_0 t) _) (read_w (hs0_1 t) _) (read_row (hs0_2 t) _ _ _ 0 rfl rfl) r e

/-- A point's block of the result array. -/
theorem final_block (c : Dev nD) (t : Fin cfg0.N) (r : Fin 1024) (j : Fin 512) :
    (dats m 0 c).arrAt 4 cfg0.N (ix2 (rowOf t r) (colOf t j)) = outBlk m c t (ix2 r j) := by
  have hb := congrFun (blocks4 m c t (flush0_4 t)) (ix2 r j)
  have he : View.read (Elt Ideal) ((cfg0.win 4).blk t).view ((dats m 0 c).arrAt 4 cfg0.N) (ix2 r j)
      = (dats m 0 c).arrAt 4 cfg0.N (ix2 (rowOf t r) (colOf t j)) := by
    unfold rowOf colOf
    blk_ext [idx t]
  rw [he, flushed4] at hb
  refine hb.trans ((?_ : _ = (outsAt0 m c t) (ix2 r j)).trans (out_block m c t _))
  rfl

/-- The kernel's result array. -/
theorem final (c : Dev nD) (r : Fin 8192) (j : Fin 1024) : (dats m 0 c).arrAt 4 cfg0.N (ix2 r j)
    = queryAt (A0 m c) (A1 m c) (A2 m c) r ⟨j.val / 128, by omega⟩ ⟨j.val % 128, by omega⟩ := by
  have hN : cfg0.N = 16 := N_0
  obtain ⟨t, ht⟩ : ∃ t : Fin cfg0.N, t.val = 2 * (r.val / 1024) + j.val / 512 := ⟨⟨2 * (r.val / 1024) + j.val / 512, by omega⟩, rfl⟩
  have e := final_block m c t ⟨r.val % 1024, by omega⟩ ⟨j.val % 512, by omega⟩
  have hr : rowOf t ⟨r.val % 1024, by omega⟩ = r := Fin.ext (by show 1024 * (t.val / 2) + r.val % 1024 = r.val; omega)
  have hj : colOf t ⟨j.val % 512, by omega⟩ = j := Fin.ext (by show 512 * (t.val % 2) + j.val % 512 = j.val; omega)
  have hh : headOf t ⟨j.val % 512 / 128, by omega⟩ = ⟨j.val / 128, by omega⟩ :=
    Fin.ext (by show 4 * (t.val % 2) + j.val % 512 / 128 = j.val / 128; omega)
  have hd : (⟨j.val % 512 % 128, by omega⟩ : Fin 128) = ⟨j.val % 128, by omega⟩ := Fin.ext (by show j.val % 512 % 128 = j.val % 128; omega)
  rw [hr, hj] at e
  refine e.trans ?_
  show queryAt (A0 m c) (A1 m c) (A2 m c) (rowOf t ⟨r.val % 1024, _⟩) (headOf t ⟨j.val % 512 / 128, _⟩) ⟨j.val % 512 % 128, _⟩ = _
  rw [hr, hh, hd]

open Cert.QueryReferenceIdeal.Read in
/-- The reference's product, by head. -/
theorem ref_prod (u : Vec Ideal Cert.QueryReferenceIdeal.S8192x2048 .bf16) (w : Vec Ideal Cert.QueryReferenceIdeal.S4x12824x2048 .bf16)
    (r : Fin 8192) (h : Fin 8) (e : Fin 128) : val_main_v6 (F := Ideal) u w (ix3 r h e) = prod u w r h e := by
  unfold prod wRow
  pointwise [val_main_v0, val_main_v1, val_main_v2, val_main_v3, val_main_v4, val_main_v5, val_main_v6]
  simp only [Nat.mul_comm]

open Cert.QueryReferenceIdeal.Read in
/-- The reference's result before its last two axes are joined. -/
theorem ref_head (u : Vec Ideal Cert.QueryReferenceIdeal.S8192x2048 .bf16) (w : Vec Ideal Cert.QueryReferenceIdeal.S4x12824x2048 .bf16)
    (g : Vec Ideal Cert.QueryReferenceIdeal.S4x4x128 .f32) (r : Fin 8192) (h : Fin 8) (e : Fin 128) :
    val_main_v21 (F := Ideal) u w g (ix3 r h e) = queryAt u w g r h e := by
  unfold queryAt scale128
  pointwise [val_main_v7, val_main_v8, val_main_v9, val_main_cst, val_main_v10, val_main_v11, val_main_cst_0, val_main_v12, val_main_v13,
    val_main_cst_1, val_main_v14, val_main_v15, val_main_v16, val_main_v17, val_main_v18, val_main_v19, val_main_v20, val_main_v21]
  simp only [ref_prod]

open Cert.QueryReferenceIdeal.Read in
/-- The reference's result. -/
theorem ref (u : Vec Ideal Cert.QueryReferenceIdeal.S8192x2048 .bf16) (w : Vec Ideal Cert.QueryReferenceIdeal.S4x12824x2048 .bf16)
    (g : Vec Ideal Cert.QueryReferenceIdeal.S4x4x128 .f32) (r : Fin 8192) (j : Fin 1024) :
    val_main_v23 (F := Ideal) u w g (ix2 r j) = queryAt u w g r ⟨j.val / 128, by omega⟩ ⟨j.val % 128, by omega⟩ := by
  rw [← ref_head]
  pointwise [val_main_v22, val_main_v23]

/-- The kernel and the reference give equal results. -/
theorem algebraic : @Cert.algebraic_QueryIdeal_QueryReferenceIdeal Cert.QueryIdeal.Gen.facts Cert.QueryReferenceIdeal.Gen.facts := by
  intro m g m' g' _ hagree
  refine ⟨fun c => (dats m 0 c).arrAt 4 cfg0.N, Cert.QueryIdeal.Value.run_blocks m g, ?_⟩
  refine (θ_run _ _ _).mono (fun r h c => ?_) (Cert.QueryReferenceIdeal.Value.run m' g')
  obtain ⟨h1, k⟩ := h c
  obtain ⟨a0, a1, a2⟩ := hagree c
  refine ⟨h1.trans ?_, k⟩
  refine (Cert.QueryReferenceIdeal.Read.val_main_v23_eq _ _ _).trans ?_
  rw [a0, a1, a2]
  funext i
  rw [eq_ix2 i]
  exact (ref _ _ _ (i 0) (i 1)).trans (final m c (i 0) (i 1)).symm

/-- The reference's run leaves the arguments unchanged and the machine quiet. -/
theorem frame_reference : @Cert.quiescent_QueryReferenceIdeal Cert.QueryReferenceIdeal.Gen.facts := by
  intro m g _
  exact (θ_run Cert.QueryReferenceIdeal.defs _ _).mono (fun r h => ⟨fun c => (h c).2, sem_eq_zero_of_no_sems (by decide) r.2⟩)
    (Cert.QueryReferenceIdeal.Value.run m g)

end Cert.Layer.Query
-- ==== Proof.PlainClaim.lean ====
module

public import proofs.«01_k».proof.Defs
public import Idealize.ShloMosaic.Adequacy
public import proofs.«01_k».proof.Proof.Gen.PlainIdeal.Value
public import proofs.«01_k».proof.Proof.Gen.PlainReferenceIdeal.Run
public import proofs.«01_k».proof.Proof.Gen.PlainReferenceIdeal.Read
public import Idealize.ShloMosaic.Lib.Claim
public import Idealize.ShloMosaic.Lib.Pipeline.ValueKit
public import Idealize.ShloMosaic.Lib.Pipeline.ValueKit.Point
public import Idealize.ShloMosaic.Lib.Pointwise

@[expose] public section

set_option maxRecDepth 16384

noncomputable section

open Idealize.ShloMosaic Idealize.ShloMosaic.TcCoe Idealize.SL.Sem

namespace Cert.Layer.Plain

open Cert.PlainIdeal Cert.PlainIdeal.Gen

/-- The product at an element: a row of the input against a row of the first layer's weights. -/
def zAt (u : (⟨2, ![64, 2048]⟩ : Shape).Idx → EReal) (w : (⟨3, ![4, 10368, 2048]⟩ : Shape).Idx → EReal)
    (r : Fin 64) (e : Fin 10368) : EReal :=
  ∑ k : Fin 2048, u (ix2 r k) * w (ix3 0 e k)

/-- Which block of each operand a grid point works on: all the rows, and the `t`-th tile of 1152 outputs. -/
theorem idx : ∀ t : Fin cfg0.N, win0_0.index t = ![0, 0] ∧ win0_1.index t = ![0, t.val, 0] ∧ win0_2.index t = ![0, t.val] :=
  (by decide +kernel : ∀ t : Fin grid0.N, _)

/-- What a grid point computes, at an element of its block. -/
theorem pay (a : Vec Ideal S64x2048 .bf16) (b : Vec Ideal S1x1152x2048 .bf16) (r : Fin 64) (e : Fin 1152) :
    k0_pay1 (F := Ideal) a b (ix2 r e) = ∑ k : Fin 2048, a (ix2 r k) * b (ix3 0 e k) := by
  pointwise [k0_pay1]

/-- The kernel's result array after the run, element by element. -/
theorem final (m : (ℓ : Loc nD τ sig) → Buf (Elt Ideal) ℓ) (c : Dev nD) : (dats m 0 c).arrAt 2 cfg0.N =
    fun i : (⟨2, ![64, 10368]⟩ : Shape).Idx =>
      zAt (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  frame_out
  refine (congrArg _ (eq_ix2 (n0 := 64) (n1 := 1152) y)).trans ?_
  refine (pay _ _ (y 0) (y 1)).trans ?_
  unfold zAt
  blk_point [iblk, V, idx t]

/-- The reference's result. -/
theorem ref (u : Vec Ideal Cert.PlainReferenceIdeal.S64x2048 .bf16) (w : Vec Ideal Cert.PlainReferenceIdeal.S4x10368x2048 .bf16) :
    Cert.PlainReferenceIdeal.Read.val_main_v5 (F := Ideal) u w =
      fun i : (⟨2, ![64, 10368]⟩ : Shape).Idx => zAt u w (i 0) (i 1) := by
  funext i
  rw [eq_ix2 i]
  unfold zAt
  pointwise [Cert.PlainReferenceIdeal.Read.val_main_v5, Cert.PlainReferenceIdeal.Read.val_main_v4, Cert.PlainReferenceIdeal.Read.val_main_v3,
    Cert.PlainReferenceIdeal.Read.val_main_v2, Cert.PlainReferenceIdeal.Read.val_main_v1, Cert.PlainReferenceIdeal.Read.val_main_v0]

/-- The kernel and the reference give equal results. -/
theorem algebraic : @Cert.algebraic_PlainIdeal_PlainReferenceIdeal Cert.PlainIdeal.Gen.facts Cert.PlainReferenceIdeal.Gen.facts := by
  intro m g m' g' _ hagree
  refine ⟨fun c => (dats m 0 c).arrAt 2 cfg0.N, Cert.PlainIdeal.Value.run_blocks m g, ?_⟩
  refine (θ_run _ _ _).mono (fun r h c => ?_) (Cert.PlainReferenceIdeal.Value.run m' g')
  obtain ⟨h1, k⟩ := h c
  obtain ⟨a0, a1⟩ := hagree c
  refine ⟨h1.trans ?_, k⟩
  refine (Cert.PlainReferenceIdeal.Read.val_main_v5_eq _ _).trans ?_
  rw [a0, a1]
  exact (ref _ _).trans (final m c).symm

/-- The reference's run leaves the arguments unchanged and the machine quiet. -/
theorem frame_reference : @Cert.quiescent_PlainReferenceIdeal Cert.PlainReferenceIdeal.Gen.facts := by
  intro m g _
  exact (θ_run Cert.PlainReferenceIdeal.defs _ _).mono (fun r h => ⟨fun c => (h c).2, sem_eq_zero_of_no_sems (by decide) r.2⟩)
    (Cert.PlainReferenceIdeal.Value.run m g)

end Cert.Layer.Plain
-- ==== Proof.Logistic.lean ====
module

public import Idealize.ShloMosaic.Lib.Pointwise

@[expose] public section

noncomputable section

open Idealize.ShloMosaic

namespace Cert.Layer

/-- The logistic function as both sides compute it: one over one plus the exponential of the negated argument. -/
def logistic (x : EReal) : EReal :=
  Ideal.div (FloatOps.ofBits (F := Ideal) .f32 0x3F800000#32)
    (FloatOps.ofBits (F := Ideal) .f32 0x3F800000#32 + Ideal.exp (-x))

end Cert.Layer
-- ==== Proof.MergeClaim.lean ====
module

public import proofs.«01_k».proof.Defs
public import Idealize.ShloMosaic.Adequacy
public import proofs.«01_k».proof.Proof.Logistic
public import proofs.«01_k».proof.Proof.Gen.MergeIdeal.Value
public import proofs.«01_k».proof.Proof.Gen.MergeReferenceIdeal.Run
public import proofs.«01_k».proof.Proof.Gen.MergeReferenceIdeal.Read
public import Idealize.ShloMosaic.Lib.Claim
public import Idealize.ShloMosaic.Lib.Pipeline.ValueKit
public import Idealize.ShloMosaic.Lib.Pipeline.ValueKit.Point
public import Idealize.ShloMosaic.Lib.Pointwise

@[expose] public section

set_option maxRecDepth 16384

noncomputable section

open Idealize.ShloMosaic Idealize.ShloMosaic.TcCoe Idealize.SL.Sem

namespace Cert.Layer.Merge

open Cert.MergeIdeal Cert.MergeIdeal.Gen

/-- The three branches of a row mixed: each branch's projection times the logistic of its gate, the gates being columns 4096 to 10239
    of the plain projection. -/
def mixAt (oa : (⟨2, ![8192, 1024]⟩ : Shape).Idx → EReal) (ob oc : (⟨2, ![8192, 512]⟩ : Shape).Idx → EReal)
    (z : (⟨2, ![8192, 10368]⟩ : Shape).Idx → EReal) (wb : (⟨3, ![4, 2048, 2048]⟩ : Shape).Idx → EReal)
    (r : Fin 8192) (e : Fin 2048) : EReal :=
  logistic (z (ix2 r ⟨4096 + e.val, by have := e.isLt; omega⟩)) *
      (∑ k : Fin 1024, oa (ix2 r k) * wb (ix3 0 ⟨k.val, by have := k.isLt; omega⟩ e)) +
    logistic (z (ix2 r ⟨6144 + e.val, by have := e.isLt; omega⟩)) *
      (∑ k : Fin 512, ob (ix2 r k) * wb (ix3 0 ⟨1024 + k.val, by have := k.isLt; omega⟩ e)) +
    logistic (z (ix2 r ⟨8192 + e.val, by have := e.isLt; omega⟩)) *
      (∑ k : Fin 512, oc (ix2 r k) * wb (ix3 0 ⟨1536 + k.val, by have := k.isLt; omega⟩ e))

/-- The result at an element: the input plus the output projection of the mixed row. -/
def outAt (oa : (⟨2, ![8192, 1024]⟩ : Shape).Idx → EReal) (ob oc : (⟨2, ![8192, 512]⟩ : Shape).Idx → EReal)
    (z : (⟨2, ![8192, 10368]⟩ : Shape).Idx → EReal) (h : (⟨2, ![8192, 2048]⟩ : Shape).Idx → EReal)
    (wb wo : (⟨3, ![4, 2048, 2048]⟩ : Shape).Idx → EReal) (r : Fin 8192) (e : Fin 2048) : EReal :=
  h (ix2 r e) + ∑ f : Fin 2048, mixAt oa ob oc z wb r f * wo (ix3 0 f e)

/-- Which block of each operand a grid point works on: the `t`-th tile of 256 rows, and the first layer's weights. -/
theorem idx : ∀ t : Fin cfg0.N, win0_0.index t = ![t.val, 0] ∧ win0_1.index t = ![t.val, 0] ∧ win0_2.index t = ![t.val, 0]
    ∧ win0_3.index t = ![t.val, 2] ∧ win0_4.index t = ![t.val, 3] ∧ win0_5.index t = ![t.val, 4]
    ∧ win0_6.index t = ![t.val, 0] ∧ win0_7.index t = ![0, 0, 0] ∧ win0_8.index t = ![0, 0, 0] ∧ win0_9.index t = ![t.val, 0] :=
  (by decide +kernel : ∀ t : Fin grid0.N, _)

/-- The array row that row `r` of point `t`'s row tile is. -/
def rowOf (t : Fin cfg0.N) (r : Fin 256) : Fin 8192 :=
  ⟨256 * t.val + r.val, by have h : cfg0.N = 32 := N_0; have := t.isLt; omega⟩

/-- What a grid point computes, at an element of its block. -/
theorem pay (a : Vec Ideal S256x1024 .bf16) (b d : Vec Ideal S256x512 .bf16) (g0 g1 g2 h : Vec Ideal S256x2048 .f32)
    (w wo : Vec Ideal S1x2048x2048 .bf16) (r : Fin 256) (e : Fin 2048) :
    k0_pay1 (F := Ideal)
      (k0_pay2 d (View.ld w (Rect.unit (s := S1x2048x2048) ![0, 1536, 0] ![1, 512, 2048] inb_S1x2048x2048_S1x512x2048_0_1536_0)))
      (k0_pay3 a (View.ld w (Rect.unit (s := S1x2048x2048) ![0, 0, 0] ![1, 1024, 2048] inb_S1x2048x2048_S1x1024x2048_0_0_0)) b
        (View.ld w (Rect.unit (s := S1x2048x2048) ![0, 1024, 0] ![1, 512, 2048] inb_S1x2048x2048_S1x512x2048_0_1024_0)) g0 g1)
      g2 h wo (ix2 r e) =
    h (ix2 r e) + ∑ f : Fin 2048,
      (logistic (g0 (ix2 r f)) * (∑ k : Fin 1024, a (ix2 r k) * w (ix3 0 ⟨k.val, by have := k.isLt; omega⟩ f)) +
        logistic (g1 (ix2 r f)) * (∑ k : Fin 512, b (ix2 r k) * w (ix3 0 ⟨1024 + k.val, by have := k.isLt; omega⟩ f)) +
        logistic (g2 (ix2 r f)) * (∑ k : Fin 512, d (ix2 r k) * w (ix3 0 ⟨1536 + k.val, by have := k.isLt; omega⟩ f))) *
      wo (ix3 0 f e) := by
  unfold logistic
  pointwise [k0_pay1, k0_pay2, k0_pay3]
  simp only [sub_eq_add_neg, zero_add]

section
variable (m : (ℓ : Loc nD τ sig) → Buf (Elt Ideal) ℓ) (c : Dev nD)

/-- A point's block of the first branch, read from it. -/
theorem blk0 (t : Fin cfg0.N) (r : Fin 256) (k : Fin 1024) :
    iblk m c 0 t (ix2 r k) = m ((c : Thread nD τ).loc main_arg0) (ix2 (rowOf t r) k) := by
  unfold rowOf
  blk_ext [iblk, V, idx t]

/-- A point's block of the second branch, read from it. -/
theorem blk1 (t : Fin cfg0.N) (r : Fin 256) (k : Fin 512) :
    iblk m c 1 t (ix2 r k) = m ((c : Thread nD τ).loc main_arg1) (ix2 (rowOf t r) k) := by
  unfold rowOf
  blk_ext [iblk, V, idx t]

/-- A point's block of the third branch, read from it. -/
theorem blk2 (t : Fin cfg0.N) (r : Fin 256) (k : Fin 512) :
    iblk m c 2 t (ix2 r k) = m ((c : Thread nD τ).loc main_arg2) (ix2 (rowOf t r) k) := by
  unfold rowOf
  blk_ext [iblk, V, idx t]

/-- A point's block of the first branch's gates, read from the plain projection. -/
theorem blk3 (t : Fin cfg0.N) (r : Fin 256) (k : Fin 2048) :
    X0_3 m c t (ix2 r k) = m ((c : Thread nD τ).loc main_arg3) (ix2 (rowOf t r) ⟨4096 + k.val, by have := k.isLt; omega⟩) := by
  unfold rowOf X0_3 Pipeline.Window.fill
  rw [dif_pos (moved0_3 t _)]
  blk_ext [iblk, V, idx t]

/-- A point's block of the second branch's gates, read from the plain projection. -/
theorem blk4 (t : Fin cfg0.N) (r : Fin 256) (k : Fin 2048) :
    X0_4 m c t (ix2 r k) = m ((c : Thread nD τ).loc main_arg3) (ix2 (rowOf t r) ⟨6144 + k.val, by have := k.isLt; omega⟩) := by
  unfold rowOf X0_4 Pipeline.Window.fill
  rw [dif_pos (moved0_4 t _)]
  blk_ext [iblk, V, idx t]

/-- A point's block of the third branch's gates, read from the plain projection. -/
theorem blk5 (t : Fin cfg0.N) (r : Fin 256) (k : Fin 2048) :
    X0_5 m c t (ix2 r k) = m ((c : Thread nD τ).loc main_arg3) (ix2 (rowOf t r) ⟨8192 + k.val, by have := k.isLt; omega⟩) := by
  unfold rowOf X0_5 Pipeline.Window.fill
  rw [dif_pos (moved0_5 t _)]
  blk_ext [iblk, V, idx t]

/-- A point's block of the input, read from the input. -/
theorem blk6 (t : Fin cfg0.N) (r : Fin 256) (k : Fin 2048) :
    iblk m c 6 t (ix2 r k) = m ((c : Thread nD τ).loc main_arg4) (ix2 (rowOf t r) k) := by
  unfold rowOf
  blk_ext [iblk, V, idx t]

/-- Every point's block of the branch weights is the first layer's. -/
theorem blk7 (t : Fin cfg0.N) (k e : Fin 2048) :
    iblk m c 7 t (ix3 0 k e) = m ((c : Thread nD τ).loc main_arg5) (ix3 0 k e) := by
  blk_ext [iblk, V, idx t]

/-- Every point's block of the output weights is the first layer's. -/
theorem blk8 (t : Fin cfg0.N) (k e : Fin 2048) :
    iblk m c 8 t (ix3 0 k e) = m ((c : Thread nD τ).loc main_arg6) (ix3 0 k e) := by
  blk_ext [iblk, V, idx t]

/-- The kernel's result array after the run, element by element. -/
theorem final : (dats m 0 c).arrAt 9 cfg0.N =
    fun i : (⟨2, ![8192, 2048]⟩ : Shape).Idx =>
      outAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (i 0) (i 1) := by
  refine (dats m 0 c).arrAt_eq_of_covers 9 _ (by decide +kernel) fun t hf y => ?_
  blk_simp
  rw [after0_9]
  unfold outsAt0
  frame_out
  refine (congrArg _ (eq_ix2 (n0 := 256) (n1 := 2048) y)).trans ?_
  refine (pay _ _ _ _ _ _ _ _ _ (y 0) (y 1)).trans ?_
  have e : ((View.whole main_v0).slice (win0_9.rect t)).emb y = ix2 (rowOf t (y 0)) (y 1) := by
    unfold rowOf
    blk_ext [idx t]
  rw [e]
  refine congrArg₂ (· + ·) (blk6 m c t (y 0) (y 1)) (Finset.sum_congr rfl fun f _ => congrArg₂ (· * ·) ?_ (blk8 m c t f (y 1)))
  exact congrArg₂ (· + ·)
    (congrArg₂ (· + ·)
      (congrArg₂ (· * ·) (congrArg logistic (blk3 m c t (y 0) f))
        (Finset.sum_congr rfl fun k _ => congrArg₂ (· * ·) (blk0 m c t (y 0) k) (blk7 m c t _ f)))
      (congrArg₂ (· * ·) (congrArg logistic (blk4 m c t (y 0) f))
        (Finset.sum_congr rfl fun k _ => congrArg₂ (· * ·) (blk1 m c t (y 0) k) (blk7 m c t _ f))))
    (congrArg₂ (· * ·) (congrArg logistic (blk5 m c t (y 0) f))
      (Finset.sum_congr rfl fun k _ => congrArg₂ (· * ·) (blk2 m c t (y 0) k) (blk7 m c t _ f)))

end

/-- The reference's mixed row. -/
theorem ref_mix (oa : Vec Ideal Cert.MergeReferenceIdeal.S8192x1024 .bf16) (ob oc : Vec Ideal Cert.MergeReferenceIdeal.S8192x512 .bf16)
    (z : Vec Ideal Cert.MergeReferenceIdeal.S8192x10368 .f32) (wb : Vec Ideal Cert.MergeReferenceIdeal.S4x2048x2048 .bf16)
    (r : Fin 8192) (e : Fin 2048) :
    Cert.MergeReferenceIdeal.Read.val_main_v30 (F := Ideal) oa ob oc z wb (ix2 r e) = mixAt oa ob oc z wb r e := by
  unfold mixAt logistic
  pointwise [Cert.MergeReferenceIdeal.Read.val_main_v30, Cert.MergeReferenceIdeal.Read.val_main_v29,
    Cert.MergeReferenceIdeal.Read.val_main_v28, Cert.MergeReferenceIdeal.Read.val_main_v27, Cert.MergeReferenceIdeal.Read.val_main_v26,
    Cert.MergeReferenceIdeal.Read.val_main_v25, Cert.MergeReferenceIdeal.Read.val_main_v24, Cert.MergeReferenceIdeal.Read.val_main_v23,
    Cert.MergeReferenceIdeal.Read.val_main_v22, Cert.MergeReferenceIdeal.Read.val_main_v21, Cert.MergeReferenceIdeal.Read.val_main_v20,
    Cert.MergeReferenceIdeal.Read.val_main_v19, Cert.MergeReferenceIdeal.Read.val_main_v18, Cert.MergeReferenceIdeal.Read.val_main_v17,
    Cert.MergeReferenceIdeal.Read.val_main_v16, Cert.MergeReferenceIdeal.Read.val_main_v15, Cert.MergeReferenceIdeal.Read.val_main_v14,
    Cert.MergeReferenceIdeal.Read.val_main_v13, Cert.MergeReferenceIdeal.Read.val_main_v12, Cert.MergeReferenceIdeal.Read.val_main_v11,
    Cert.MergeReferenceIdeal.Read.val_main_v10, Cert.MergeReferenceIdeal.Read.val_main_v9, Cert.MergeReferenceIdeal.Read.val_main_v8,
    Cert.MergeReferenceIdeal.Read.val_main_v7, Cert.MergeReferenceIdeal.Read.val_main_v6, Cert.MergeReferenceIdeal.Read.val_main_v5,
    Cert.MergeReferenceIdeal.Read.val_main_v4, Cert.MergeReferenceIdeal.Read.val_main_v3, Cert.MergeReferenceIdeal.Read.val_main_v2,
    Cert.MergeReferenceIdeal.Read.val_main_v1, Cert.MergeReferenceIdeal.Read.val_main_v0, Cert.MergeReferenceIdeal.Read.val_main_cst,
    Cert.MergeReferenceIdeal.Read.val_main_cst_0]
  simp only [← Nat.add_assoc, Nat.reduceAdd]

/-- The reference's result. -/
theorem ref (oa : Vec Ideal Cert.MergeReferenceIdeal.S8192x1024 .bf16) (ob oc : Vec Ideal Cert.MergeReferenceIdeal.S8192x512 .bf16)
    (z : Vec Ideal Cert.MergeReferenceIdeal.S8192x10368 .f32) (h : Vec Ideal Cert.MergeReferenceIdeal.S8192x2048 .f32)
    (wb wo : Vec Ideal Cert.MergeReferenceIdeal.S4x2048x2048 .bf16) :
    Cert.MergeReferenceIdeal.Read.val_main_v35 (F := Ideal) oa ob oc z h wb wo =
      fun i : (⟨2, ![8192, 2048]⟩ : Shape).Idx => outAt oa ob oc z h wb wo (i 0) (i 1) := by
  funext i
  obtain ⟨r, e, rfl⟩ : ∃ (r : Fin 8192) (e : Fin 2048), i = ix2 r e := ⟨i 0, i 1, eq_ix2 i⟩
  unfold outAt
  pointwise [Cert.MergeReferenceIdeal.Read.val_main_v35, Cert.MergeReferenceIdeal.Read.val_main_v34,
    Cert.MergeReferenceIdeal.Read.val_main_v33, Cert.MergeReferenceIdeal.Read.val_main_v32,
    Cert.MergeReferenceIdeal.Read.val_main_v31]
  simp only [ref_mix]

/-- The kernel and the reference give equal results. -/
theorem algebraic : @Cert.algebraic_MergeIdeal_MergeReferenceIdeal Cert.MergeIdeal.Gen.facts Cert.MergeReferenceIdeal.Gen.facts := by
  intro m g m' g' _ hagree
  refine ⟨fun c => (dats m 0 c).arrAt 9 cfg0.N, Cert.MergeIdeal.Value.run_blocks m g, ?_⟩
  refine (θ_run _ _ _).mono (fun r h c => ?_) (Cert.MergeReferenceIdeal.Value.run m' g')
  obtain ⟨h1, k⟩ := h c
  obtain ⟨a0, a1, a2, a3, a4, a5, a6⟩ := hagree c
  refine ⟨h1.trans ?_, k⟩
  refine (Cert.MergeReferenceIdeal.Read.val_main_v35_eq _ _ _ _ _ _ _).trans ?_
  rw [a0, a1, a2, a3, a4, a5, a6]
  exact (ref _ _ _ _ _ _ _).trans (final m c).symm

/-- The reference's run leaves the arguments unchanged and the machine quiet. -/
theorem frame_reference : @Cert.quiescent_MergeReferenceIdeal Cert.MergeReferenceIdeal.Gen.facts := by
  intro m g _
  exact (θ_run Cert.MergeReferenceIdeal.defs _ _).mono (fun r h => ⟨fun c => (h c).2, sem_eq_zero_of_no_sems (by decide) r.2⟩)
    (Cert.MergeReferenceIdeal.Value.run m g)

end Cert.Layer.Merge
-- ==== Proof.PleSampleClaim.lean ====
module

public import proofs.«01_k».proof.Defs
public import Idealize.ShloMosaic.Adequacy
public import proofs.«01_k».proof.Proof.Logistic
public import proofs.«01_k».proof.Proof.Gen.PleSampleIdeal.Value
public import proofs.«01_k».proof.Proof.Gen.PleSampleReferenceIdeal.Run
public import proofs.«01_k».proof.Proof.Gen.PleSampleReferenceIdeal.Read
public import Idealize.ShloMosaic.Lib.Claim
public import Idealize.ShloMosaic.Lib.Pipeline.ValueKit
public import Idealize.ShloMosaic.Lib.Pipeline.ValueKit.Point
public import Idealize.ShloMosaic.Lib.Pointwise

@[expose] public section

set_option maxRecDepth 16384

noncomputable section

open Idealize.ShloMosaic Idealize.ShloMosaic.TcCoe Idealize.SL.Sem

namespace Cert.Layer.PleSample

open Cert.PleSampleIdeal Cert.PleSampleIdeal.Gen

/-- The result at an element: the input plus the gated projection of the row's embedding, with the last layer's weights. The embeddings
    come as 8 sequences of 8 positions, row `r` of the input being position `r % 8` of sequence `r / 8`. -/
def outAt (h u : (⟨2, ![64, 2048]⟩ : Shape).Idx → EReal) (p : (⟨3, ![8, 8, 256]⟩ : Shape).Idx → EReal)
    (wg : (⟨3, ![4, 2048, 2048]⟩ : Shape).Idx → EReal) (wp : (⟨3, ![4, 256, 2048]⟩ : Shape).Idx → EReal)
    (r : Fin 64) (e : Fin 2048) : EReal :=
  h (ix2 r e) + logistic (∑ k : Fin 2048, u (ix2 r k) * wg (ix3 3 k e)) *
    ∑ k : Fin 256, p (ix3 ⟨r.val / 8, by have := r.isLt; omega⟩ ⟨r.val % 8, by omega⟩ k) * wp (ix3 3 k e)

/-- Which block of each operand a grid point works on: the `t`-th tile of 64 rows, and the last layer's weights. -/
theorem idx : ∀ t : Fin cfg0.N, win0_0.index t = ![t.val, 0] ∧ win0_1.index t = ![t.val, 0] ∧ win0_2.index t = ![t.val, 0]
    ∧ win0_3.index t = ![3, 0, 0] ∧ win0_4.index t = ![3, 0, 0] ∧ win0_5.index t = ![t.val, 0] :=
  (by decide +kernel : ∀ t : Fin grid0.N, _)

/-- What a grid point computes, at an element of its block. -/
theorem pay (u : Vec Ideal S64x2048 .bf16) (wg : Vec Ideal S1x2048x2048 .bf16) (p : Vec Ideal S64x256 .f32)
    (wp : Vec Ideal S1x256x2048 .bf16) (h : Vec Ideal S64x2048 .f32) (r : Fin 64) (e : Fin 2048) :
    k0_pay1 (F := Ideal) u wg p wp h (ix2 r e) =
      h (ix2 r e) + logistic (∑ k : Fin 2048, u (ix2 r k) * wg (ix3 0 k e)) * ∑ k : Fin 256, p (ix2 r k) * wp (ix3 0 k e) := by
  unfold logistic
  pointwise [k0_pay1]
  simp only [sub_eq_add_neg, zero_add]

set_option maxHeartbeats 2000000 in
/-- The kernel's result array after the run, element by element. -/
theorem final (m : (ℓ : Loc nD τ sig) → Buf (Elt Ideal) ℓ) (c : Dev nD) : (dats m 0 c).arrAt 5 cfg0.N =
    fun i : (⟨2, ![64, 2048]⟩ : Shape).Idx =>
      outAt (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) := by
  refine (dats m 0 c).arrAt_eq_of_covers 5 _ (by decide +kernel) fun t hf y => ?_
  blk_simp
  rw [after0_5]
  frame_out
  refine (congrArg _ (eq_ix2 (n0 := 64) (n1 := 2048) y)).trans ?_
  refine (pay _ _ _ _ _ (y 0) (y 1)).trans ?_
  unfold outAt
  blk_point [iblk, V, idx t]

/-- The reference's result. -/
theorem ref (h : Vec Ideal Cert.PleSampleReferenceIdeal.S64x2048 .f32) (u : Vec Ideal Cert.PleSampleReferenceIdeal.S64x2048 .bf16)
    (p : Vec Ideal Cert.PleSampleReferenceIdeal.S8x8x256 .f32) (wg : Vec Ideal Cert.PleSampleReferenceIdeal.S4x2048x2048 .bf16)
    (wp : Vec Ideal Cert.PleSampleReferenceIdeal.S4x256x2048 .bf16) :
    Cert.PleSampleReferenceIdeal.Read.val_main_v19 (F := Ideal) h u p wg wp =
      fun i : (⟨2, ![64, 2048]⟩ : Shape).Idx => outAt h u p wg wp (i 0) (i 1) := by
  funext i
  obtain ⟨r, e, rfl⟩ : ∃ (r : Fin 64) (e : Fin 2048), i = ix2 r e := ⟨i 0, i 1, eq_ix2 i⟩
  unfold outAt logistic
  pointwise [Cert.PleSampleReferenceIdeal.Read.val_main_v19, Cert.PleSampleReferenceIdeal.Read.val_main_v18,
    Cert.PleSampleReferenceIdeal.Read.val_main_v17, Cert.PleSampleReferenceIdeal.Read.val_main_v16,
    Cert.PleSampleReferenceIdeal.Read.val_main_v15, Cert.PleSampleReferenceIdeal.Read.val_main_v14,
    Cert.PleSampleReferenceIdeal.Read.val_main_v13, Cert.PleSampleReferenceIdeal.Read.val_main_v12,
    Cert.PleSampleReferenceIdeal.Read.val_main_v11, Cert.PleSampleReferenceIdeal.Read.val_main_cst_0,
    Cert.PleSampleReferenceIdeal.Read.val_main_v10, Cert.PleSampleReferenceIdeal.Read.val_main_v9,
    Cert.PleSampleReferenceIdeal.Read.val_main_cst, Cert.PleSampleReferenceIdeal.Read.val_main_v8,
    Cert.PleSampleReferenceIdeal.Read.val_main_v7, Cert.PleSampleReferenceIdeal.Read.val_main_v6,
    Cert.PleSampleReferenceIdeal.Read.val_main_v5, Cert.PleSampleReferenceIdeal.Read.val_main_v4,
    Cert.PleSampleReferenceIdeal.Read.val_main_v3, Cert.PleSampleReferenceIdeal.Read.val_main_v2,
    Cert.PleSampleReferenceIdeal.Read.val_main_v1, Cert.PleSampleReferenceIdeal.Read.val_main_v0]

/-- The kernel and the reference give equal results. -/
theorem algebraic : @Cert.algebraic_PleSampleIdeal_PleSampleReferenceIdeal Cert.PleSampleIdeal.Gen.facts Cert.PleSampleReferenceIdeal.Gen.facts := by
  intro m g m' g' _ hagree
  refine ⟨fun c => (dats m 0 c).arrAt 5 cfg0.N, Cert.PleSampleIdeal.Value.run_blocks m g, ?_⟩
  refine (θ_run _ _ _).mono (fun r h c => ?_) (Cert.PleSampleReferenceIdeal.Value.run m' g')
  obtain ⟨h1, k⟩ := h c
  obtain ⟨a0, a1, a2, a3, a4⟩ := hagree c
  refine ⟨h1.trans ?_, k⟩
  refine (Cert.PleSampleReferenceIdeal.Read.val_main_v19_eq _ _ _ _ _).trans ?_
  rw [a0, a1, a2, a3, a4]
  exact (ref _ _ _ _ _).trans (final m c).symm

/-- The reference's run leaves the arguments unchanged and the machine quiet. -/
theorem frame_reference : @Cert.quiescent_PleSampleReferenceIdeal Cert.PleSampleReferenceIdeal.Gen.facts := by
  intro m g _
  exact (θ_run Cert.PleSampleReferenceIdeal.defs _ _).mono (fun r h => ⟨fun c => (h c).2, sem_eq_zero_of_no_sems (by decide) r.2⟩)
    (Cert.PleSampleReferenceIdeal.Value.run m g)

end Cert.Layer.PleSample
-- ==== Proof.PleClaim.lean ====
module

public import proofs.«01_k».proof.Defs
public import Idealize.ShloMosaic.Adequacy
public import proofs.«01_k».proof.Proof.Logistic
public import proofs.«01_k».proof.Proof.Gen.PleIdeal.Value
public import proofs.«01_k».proof.Proof.Gen.PleReferenceIdeal.Run
public import proofs.«01_k».proof.Proof.Gen.PleReferenceIdeal.Read
public import Idealize.ShloMosaic.Lib.Claim
public import Idealize.ShloMosaic.Lib.Pipeline.ValueKit
public import Idealize.ShloMosaic.Lib.Pipeline.ValueKit.Point
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.Layer.Ple

open Cert.PleIdeal Cert.PleIdeal.Gen

/-- The result at an element: the input plus the gated projection of the row's embedding, with the last layer's weights. The embeddings
    come as 4 sequences of 2048 positions, row `r` of the input being position `r % 2048` of sequence `r / 2048`. -/
def outAt (h u : (⟨2, ![8192, 2048]⟩ : Shape).Idx → EReal) (p : (⟨3, ![4, 2048, 256]⟩ : Shape).Idx → EReal)
    (wg : (⟨3, ![4, 2048, 2048]⟩ : Shape).Idx → EReal) (wp : (⟨3, ![4, 256, 2048]⟩ : Shape).Idx → EReal)
    (r : Fin 8192) (e : Fin 2048) : EReal :=
  h (ix2 r e) + logistic (∑ k : Fin 2048, u (ix2 r k) * wg (ix3 3 k e)) *
    ∑ k : Fin 256, p (ix3 ⟨r.val / 2048, by have := r.isLt; omega⟩ ⟨r.val % 2048, by omega⟩ k) * wp (ix3 3 k e)

/-- Which block of each operand a grid point works on: the `t`-th tile of 512 rows, and the last layer's weights. -/
theorem idx : ∀ t : Fin cfg0.N, win0_0.index t = ![t.val, 0] ∧ win0_1.index t = ![t.val, 0] ∧ win0_2.index t = ![t.val, 0]
    ∧ win0_3.index t = ![3, 0, 0] ∧ win0_4.index t = ![3, 0, 0] ∧ win0_5.index t = ![t.val, 0] :=
  (by decide +kernel : ∀ t : Fin grid0.N, _)

/-- What a grid point computes, at an element of its block. -/
theorem pay (u : Vec Ideal S512x2048 .bf16) (wg : Vec Ideal S1x2048x2048 .bf16) (p : Vec Ideal S512x256 .f32)
    (wp : Vec Ideal S1x256x2048 .bf16) (h : Vec Ideal S512x2048 .f32) (r : Fin 512) (e : Fin 2048) :
    k0_pay1 (F := Ideal) u wg p wp h (ix2 r e) =
      h (ix2 r e) + logistic (∑ k : Fin 2048, u (ix2 r k) * wg (ix3 0 k e)) * ∑ k : Fin 256, p (ix2 r k) * wp (ix3 0 k e) := by
  unfold logistic
  pointwise [k0_pay1]
  simp only [sub_eq_add_neg, zero_add]

/-- The array row that row `r` of point `t`'s row tile is. -/
def rowOf (t : Fin cfg0.N) (r : Fin 512) : Fin 8192 :=
  ⟨512 * t.val + r.val, by have h : cfg0.N = 16 := N_0; have := t.isLt; omega⟩

section
variable (m : (ℓ : Loc nD τ sig) → Buf (Elt Ideal) ℓ) (c : Dev nD)

/-- The embeddings as the kernel is given them: row `r` is position `r % 2048` of sequence `r / 2048`. -/
theorem rows (r : Fin 8192) (k : Fin 256) :
    V m c main_v0 (ix2 r k) =
      m ((c : Thread nD τ).loc main_arg2) (ix3 ⟨r.val / 2048, by have := r.isLt; omega⟩ ⟨r.val % 2048, by omega⟩ k) := by
  unfold V
  after_reads_at

/-- A point's block of the input, read from the input. -/
theorem blk0 (t : Fin cfg0.N) (r : Fin 512) (k : Fin 2048) :
    iblk m c 0 t (ix2 r k) = m ((c : Thread nD τ).loc main_arg0) (ix2 (rowOf t r) k) := by
  unfold rowOf
  blk_ext [iblk, idx t]

/-- A point's block of the normalised rows, read from them. -/
theorem blk1 (t : Fin cfg0.N) (r : Fin 512) (k : Fin 2048) :
    iblk m c 1 t (ix2 r k) = m ((c : Thread nD τ).loc main_arg1) (ix2 (rowOf t r) k) := by
  unfold rowOf
  blk_ext [iblk, idx t]

/-- A point's block of the embeddings, read from the reshaped embeddings. -/
theorem blk2 (t : Fin cfg0.N) (r : Fin 512) (k : Fin 256) :
    iblk m c 2 t (ix2 r k) = V m c main_v0 (ix2 (rowOf t r) k) := by
  unfold rowOf iblk
  generalize V m c = W
  blk_ext [idx t]

/-- Every point's block of the gate weights is the last layer's. -/
theorem blk3 (t : Fin cfg0.N) (k e : Fin 2048) :
    iblk m c 3 t (ix3 0 k e) = m ((c : Thread nD τ).loc main_arg3) (ix3 3 k e) := by
  blk_ext [iblk, idx t]

/-- Every point's block of the projection weights is the last layer's. -/
theorem blk4 (t : Fin cfg0.N) (k : Fin 256) (e : Fin 2048) :
    iblk m c 4 t (ix3 0 k e) = m ((c : Thread nD τ).loc main_arg4) (ix3 3 k e) := by
  blk_ext [iblk, idx t]

/-- The kernel's result array after the run, element by element. -/
theorem final : (dats m 0 c).arrAt 5 cfg0.N =
    fun i : (⟨2, ![8192, 2048]⟩ : Shape).Idx =>
      outAt (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) := by
  refine (dats m 0 c).arrAt_eq_of_covers 5 _ (by decide +kernel) fun t hf y => ?_
  blk_simp
  rw [after0_5]
  frame_out
  refine (congrArg _ (eq_ix2 (n0 := 512) (n1 := 2048) y)).trans ?_
  refine (pay _ _ _ _ _ (y 0) (y 1)).trans ?_
  have e : ((View.whole main_v1).slice (win0_5.rect t)).emb y = ix2 (rowOf t (y 0)) (y 1) := by
    unfold rowOf
    blk_ext [idx t]
  rw [e]
  exact congrArg₂ (· + ·) (blk0 m c t (y 0) (y 1))
    (congrArg₂ (· * ·)
      (congrArg logistic (Finset.sum_congr rfl fun k _ => congrArg₂ (· * ·) (blk1 m c t (y 0) k) (blk3 m c t k (y 1))))
      (Finset.sum_congr rfl fun k _ =>
        congrArg₂ (· * ·) ((blk2 m c t (y 0) k).trans (rows m c (rowOf t (y 0)) k)) (blk4 m c t k (y 1))))

end

/-- The reference's result. -/
theorem ref (h : Vec Ideal Cert.PleReferenceIdeal.S8192x2048 .f32) (u : Vec Ideal Cert.PleReferenceIdeal.S8192x2048 .bf16)
    (p : Vec Ideal Cert.PleReferenceIdeal.S4x2048x256 .f32) (wg : Vec Ideal Cert.PleReferenceIdeal.S4x2048x2048 .bf16)
    (wp : Vec Ideal Cert.PleReferenceIdeal.S4x256x2048 .bf16) :
    Cert.PleReferenceIdeal.Read.val_main_v19 (F := Ideal) h u p wg wp =
      fun i : (⟨2, ![8192, 2048]⟩ : Shape).Idx => outAt h u p wg wp (i 0) (i 1) := by
  funext i
  obtain ⟨r, e, rfl⟩ : ∃ (r : Fin 8192) (e : Fin 2048), i = ix2 r e := ⟨i 0, i 1, eq_ix2 i⟩
  unfold outAt logistic
  pointwise [Cert.PleReferenceIdeal.Read.val_main_v19, Cert.PleReferenceIdeal.Read.val_main_v18,
    Cert.PleReferenceIdeal.Read.val_main_v17, Cert.PleReferenceIdeal.Read.val_main_v16,
    Cert.PleReferenceIdeal.Read.val_main_v15, Cert.PleReferenceIdeal.Read.val_main_v14,
    Cert.PleReferenceIdeal.Read.val_main_v13, Cert.PleReferenceIdeal.Read.val_main_v12,
    Cert.PleReferenceIdeal.Read.val_main_v11, Cert.PleReferenceIdeal.Read.val_main_cst_0,
    Cert.PleReferenceIdeal.Read.val_main_v10, Cert.PleReferenceIdeal.Read.val_main_v9,
    Cert.PleReferenceIdeal.Read.val_main_cst, Cert.PleReferenceIdeal.Read.val_main_v8,
    Cert.PleReferenceIdeal.Read.val_main_v7, Cert.PleReferenceIdeal.Read.val_main_v6,
    Cert.PleReferenceIdeal.Read.val_main_v5, Cert.PleReferenceIdeal.Read.val_main_v4,
    Cert.PleReferenceIdeal.Read.val_main_v3, Cert.PleReferenceIdeal.Read.val_main_v2,
    Cert.PleReferenceIdeal.Read.val_main_v1, Cert.PleReferenceIdeal.Read.val_main_v0]

/-- The kernel and the reference give equal results. -/
theorem algebraic : @Cert.algebraic_PleIdeal_PleReferenceIdeal Cert.PleIdeal.Gen.facts Cert.PleReferenceIdeal.Gen.facts := by
  intro m g m' g' _ hagree
  refine ⟨fun c => (dats m 0 c).arrAt 5 cfg0.N, Cert.PleIdeal.Value.run_blocks m g, ?_⟩
  refine (θ_run _ _ _).mono (fun r h c => ?_) (Cert.PleReferenceIdeal.Value.run m' g')
  obtain ⟨h1, k⟩ := h c
  obtain ⟨a0, a1, a2, a3, a4⟩ := hagree c
  refine ⟨h1.trans ?_, k⟩
  refine (Cert.PleReferenceIdeal.Read.val_main_v19_eq _ _ _ _ _).trans ?_
  rw [a0, a1, a2, a3, a4]
  exact (ref _ _ _ _ _).trans (final m c).symm

/-- The reference's run leaves the arguments unchanged and the machine quiet. -/
theorem frame_reference : @Cert.quiescent_PleReferenceIdeal Cert.PleReferenceIdeal.Gen.facts := by
  intro m g _
  exact (θ_run Cert.PleReferenceIdeal.defs _ _).mono (fun r h => ⟨fun c => (h c).2, sem_eq_zero_of_no_sems (by decide) r.2⟩)
    (Cert.PleReferenceIdeal.Value.run m g)

end Cert.Layer.Ple
-- ==== Proof.lean ====
/- For every call: the frames and the equation with its reference. -/
module

public import proofs.«01_k».proof.Defs
public import proofs.«01_k».proof.Proof.Gen.Pre_finite_qkv
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.KernelIdeal.Value
public import proofs.«01_k».proof.Proof.Gen.FfnIdeal.Value
public import proofs.«01_k».proof.Proof.Gen.ReferenceIdeal.Run
public import proofs.«01_k».proof.Proof.Gen.FfnReferenceIdeal.Run
public import proofs.«01_k».proof.Proof.Gen.FfnReferenceIdeal.Read
public import proofs.«01_k».proof.Proof.Gen.Ple.Frame
public import proofs.«01_k».proof.Proof.Gen.PleIdeal.Value
public import proofs.«01_k».proof.Proof.Gen.PleReferenceIdeal.Run
public import proofs.«01_k».proof.Proof.Gen.PleReferenceIdeal.Read
public import proofs.«01_k».proof.Proof.Gen.PleSample.Frame
public import proofs.«01_k».proof.Proof.Gen.PleSampleIdeal.Value
public import proofs.«01_k».proof.Proof.Gen.PleSampleReferenceIdeal.Run
public import proofs.«01_k».proof.Proof.Gen.PleSampleReferenceIdeal.Read
public import proofs.«01_k».proof.Proof.Gen.Merge.Frame
public import proofs.«01_k».proof.Proof.Gen.MergeIdeal.Value
public import proofs.«01_k».proof.Proof.Gen.MergeReferenceIdeal.Run
public import proofs.«01_k».proof.Proof.Gen.MergeReferenceIdeal.Read
public import proofs.«01_k».proof.Proof.Gen.Plain.Frame
public import proofs.«01_k».proof.Proof.Gen.Query.Frame
public import proofs.«01_k».proof.Proof.Gen.QueryIdeal.Value
public import proofs.«01_k».proof.Proof.Gen.QueryReferenceIdeal.Run
public import proofs.«01_k».proof.Proof.Gen.QueryReferenceIdeal.Read
public import proofs.«01_k».proof.Proof.Gen.Kv.Frame
public import proofs.«01_k».proof.Proof.Gen.Kv.Skeleton
public import proofs.«01_k».proof.Proof.Gen.KvIdeal.Frame
public import proofs.«01_k».proof.Proof.Gen.KvIdeal.Skeleton
public import proofs.«01_k».proof.Proof.Gen.KvReferenceIdeal.Run
public import proofs.«01_k».proof.Proof.Gen.KvReferenceIdeal.Read
public import proofs.«01_k».proof.Proof.Gen.KvSample.Frame
public import proofs.«01_k».proof.Proof.Gen.KvSample.Skeleton
public import proofs.«01_k».proof.Proof.Gen.KvSampleIdeal.Frame
public import proofs.«01_k».proof.Proof.Gen.KvSampleIdeal.Skeleton
public import proofs.«01_k».proof.Proof.Gen.KvSampleReferenceIdeal.Run
public import proofs.«01_k».proof.Proof.Gen.KvSampleReferenceIdeal.Read
public import proofs.«01_k».proof.Proof.Gen.Win.Frame
public import proofs.«01_k».proof.Proof.Gen.Win.Skeleton
public import proofs.«01_k».proof.Proof.Gen.WinIdeal.Frame
public import proofs.«01_k».proof.Proof.Gen.WinIdeal.Skeleton
public import proofs.«01_k».proof.Proof.Gen.WinReferenceIdeal.Run
public import proofs.«01_k».proof.Proof.Gen.WinReferenceIdeal.Read
public import proofs.«01_k».proof.Proof.Gen.WinSample.Frame
public import proofs.«01_k».proof.Proof.Gen.WinSample.Skeleton
public import proofs.«01_k».proof.Proof.Gen.WinSampleIdeal.Frame
public import proofs.«01_k».proof.Proof.Gen.WinSampleIdeal.Skeleton
public import proofs.«01_k».proof.Proof.Gen.WinSampleReferenceIdeal.Run
public import proofs.«01_k».proof.Proof.Gen.WinSampleReferenceIdeal.Read
public import proofs.«01_k».proof.Proof.Gen.RetSample.Frame
public import proofs.«01_k».proof.Proof.Gen.RetSampleIdeal.Value
public import proofs.«01_k».proof.Proof.Gen.RetSampleReferenceIdeal.Run
public import proofs.«01_k».proof.Proof.Gen.RetSampleReferenceIdeal.Read
public import proofs.«01_k».proof.Proof.Gen.PlainIdeal.Value
public import proofs.«01_k».proof.Proof.Gen.PlainReferenceIdeal.Run
public import proofs.«01_k».proof.Proof.Gen.PlainReferenceIdeal.Read
public import proofs.«01_k».proof.Proof.FfnClaim
public import proofs.«01_k».proof.Proof.RetKeep
public import proofs.«01_k».proof.Proof.RetClaim
public import proofs.«01_k».proof.Proof.WinSampleClaim
public import proofs.«01_k».proof.Proof.WinClaim
public import proofs.«01_k».proof.Proof.KvSampleClaim
public import proofs.«01_k».proof.Proof.KvClaim
public import proofs.«01_k».proof.Proof.WinSampleSteps
public import proofs.«01_k».proof.Proof.WinSteps
public import proofs.«01_k».proof.Proof.KvSampleSteps
public import proofs.«01_k».proof.Proof.KvSteps
public import proofs.«01_k».proof.Proof.RetSampleClaim
public import proofs.«01_k».proof.Proof.QueryClaim
public import proofs.«01_k».proof.Proof.PlainClaim
public import proofs.«01_k».proof.Proof.MergeClaim
public import proofs.«01_k».proof.Proof.PleSampleClaim
public import proofs.«01_k».proof.Proof.PleClaim
public import Idealize.ShloMosaic.Adequacy
public import Idealize.ShloMosaic.Init

@[expose] public section

noncomputable section

namespace Cert.Proof

open Idealize.ShloMosaic Idealize.SL.Sem Cert.Kernel

/-- Every claim of the file that states them. -/
theorem claim : Cert.Claim := ⟨Cert.Kernel.Gen.facts,
  Cert.KernelIdeal.Gen.facts,
  Cert.ReferenceIdeal.Gen.facts,
  Cert.Ffn.Gen.facts,
  Cert.FfnIdeal.Gen.facts,
  Cert.FfnReferenceIdeal.Gen.facts,
  Cert.Ple.Gen.facts,
  Cert.PleIdeal.Gen.facts,
  Cert.PleReferenceIdeal.Gen.facts,
  Cert.PleSample.Gen.facts,
  Cert.PleSampleIdeal.Gen.facts,
  Cert.PleSampleReferenceIdeal.Gen.facts,
  Cert.Merge.Gen.facts,
  Cert.MergeIdeal.Gen.facts,
  Cert.MergeReferenceIdeal.Gen.facts,
  Cert.Plain.Gen.facts,
  Cert.PlainIdeal.Gen.facts,
  Cert.PlainReferenceIdeal.Gen.facts,
  Cert.Kv.Gen.facts,
  Cert.KvIdeal.Gen.facts,
  Cert.KvReferenceIdeal.Gen.facts,
  Cert.KvSample.Gen.facts,
  Cert.KvSampleIdeal.Gen.facts,
  Cert.KvSampleReferenceIdeal.Gen.facts,
  Cert.Win.Gen.facts,
  Cert.WinIdeal.Gen.facts,
  Cert.WinReferenceIdeal.Gen.facts,
  Cert.WinSample.Gen.facts,
  Cert.WinSampleIdeal.Gen.facts,
  Cert.WinSampleReferenceIdeal.Gen.facts,
  Cert.Query.Gen.facts,
  Cert.QueryIdeal.Gen.facts,
  Cert.QueryReferenceIdeal.Gen.facts,
  Cert.RetSample.Gen.facts,
  Cert.RetSampleIdeal.Gen.facts,
  Cert.RetSampleReferenceIdeal.Gen.facts,
  Cert.Pre_finite_qkv.Gen.facts,
  fun m ρ _ => Cert.Kernel.Gen.frame m ρ,
  fun m ρ _ => Cert.KernelIdeal.Gen.frame m ρ,
  fun m ρ _ => Cert.KernelIdeal.Gen.frame m ρ,
  Cert.Layer.Ret.frame_reference,
  fun m ρ _ => Cert.Layer.Ret.frame_reference m ρ trivial,
  fun m ρ _ => Cert.Ffn.Gen.frame m ρ,
  fun m ρ _ => Cert.FfnIdeal.Gen.frame m ρ,
  Cert.Layer.Ffn.frame_reference,
  fun m ρ _ => Cert.Ple.Gen.frame m ρ,
  fun m ρ _ => Cert.PleIdeal.Gen.frame m ρ,
  Cert.Layer.Ple.frame_reference,
  fun m ρ _ => Cert.PleSample.Gen.frame m ρ,
  fun m ρ _ => Cert.PleSampleIdeal.Gen.frame m ρ,
  Cert.Layer.PleSample.frame_reference,
  fun m ρ _ => Cert.Merge.Gen.frame m ρ,
  fun m ρ _ => Cert.MergeIdeal.Gen.frame m ρ,
  Cert.Layer.Merge.frame_reference,
  fun m ρ _ => Cert.Plain.Gen.frame m ρ,
  fun m ρ _ => Cert.PlainIdeal.Gen.frame m ρ,
  Cert.Layer.Plain.frame_reference,
  fun m ρ _ => Cert.Kv.Rows.whole m ρ,
  fun m ρ _ => Cert.KvIdeal.Rows.whole m ρ,
  Cert.KvIdeal.Rows.frame_reference,
  fun m ρ _ => Cert.KvSample.Rows.whole m ρ,
  fun m ρ _ => Cert.KvSampleIdeal.Rows.whole m ρ,
  Cert.KvSampleIdeal.Rows.frame_reference,
  fun m ρ _ => Cert.Win.Rows.whole m ρ,
  fun m ρ _ => Cert.WinIdeal.Rows.whole m ρ,
  Cert.WinIdeal.Rows.frame_reference,
  fun m ρ _ => Cert.WinSample.Rows.whole m ρ,
  fun m ρ _ => Cert.WinSampleIdeal.Rows.whole m ρ,
  Cert.WinSampleIdeal.Rows.frame_reference,
  fun m ρ _ => Cert.Query.Gen.frame m ρ,
  fun m ρ _ => Cert.QueryIdeal.Gen.frame m ρ,
  Cert.Layer.Query.frame_reference,
  fun m ρ _ => Cert.RetSample.Gen.frame m ρ,
  fun m ρ _ => Cert.RetSampleIdeal.Gen.frame m ρ,
  Cert.Layer.RetSample.frame_reference,
  trivial,
  Cert.Layer.Ret.algebraic,
  trivial,
  Cert.Layer.Ffn.algebraic,
  trivial,
  Cert.Layer.Ple.algebraic,
  trivial,
  Cert.Layer.PleSample.algebraic,
  trivial,
  Cert.Layer.Merge.algebraic,
  trivial,
  Cert.Layer.Plain.algebraic,
  trivial,
  Cert.KvIdeal.Rows.algebraic,
  trivial,
  Cert.KvSampleIdeal.Rows.algebraic,
  trivial,
  Cert.WinIdeal.Rows.algebraic,
  trivial,
  Cert.WinSampleIdeal.Rows.algebraic,
  trivial,
  Cert.Layer.Query.algebraic,
  trivial,
  Cert.Layer.RetSample.algebraic⟩

end Cert.Proof

end
